-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)) (v2 : (c : Dev Cert.Kernel2Ideal.nD) → Buf (Elt Ideal) ((c.tc : Thread Cert.Kernel2Ideal.nD Cert.Kernel2Ideal.τ).loc Cert.Kernel2Ideal.main_v14_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_v14_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v39) = v1 c
          ∧ r.2.mem ((c.tc : Thread Cert.Reference2Ideal.nD Cert.Reference2Ideal.τ).loc Cert.Reference2Ideal.main_v21) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v53) = v0 c
          ∧ r.2.mem ((c.tc : Thread Cert.Reference6Ideal.nD Cert.Reference6Ideal.τ).loc Cert.Reference6Ideal.main_v52) = v1 c
          ∧ r.2.mem ((c.tc : Thread Cert.Reference6Ideal.nD Cert.Reference6Ideal.τ).loc Cert.Reference6Ideal.main_v54) = v2 c
          ∧ r.2.mem ((c.tc : Thread Cert.Reference6Ideal.nD Cert.Reference6Ideal.τ).loc Cert.Reference6Ideal.main_v36) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v39) = v0 c
          ∧ r.2.mem ((c.tc : Thread Cert.Reference7Ideal.nD Cert.Reference7Ideal.τ).loc Cert.Reference7Ideal.main_v40) = v1 c
          ∧ r.2.mem ((c.tc : Thread Cert.Reference7Ideal.nD Cert.Reference7Ideal.τ).loc Cert.Reference7Ideal.main_v22) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v74) = v0 c
          ∧ r.2.mem ((c.tc : Thread Cert.Reference8Ideal.nD Cert.Reference8Ideal.τ).loc Cert.Reference8Ideal.main_v55) = v1 c
          ∧ r.2.mem ((c.tc : Thread Cert.Reference8Ideal.nD Cert.Reference8Ideal.τ).loc Cert.Reference8Ideal.main_v58) = v2 c
          ∧ r.2.mem ((c.tc : Thread Cert.Reference8Ideal.nD Cert.Reference8Ideal.τ).loc Cert.Reference8Ideal.main_v39) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v25) = v0 c
          ∧ r.2.mem ((c.tc : Thread Cert.Reference12Ideal.nD Cert.Reference12Ideal.τ).loc Cert.Reference12Ideal.main_v29) = v1 c
          ∧ r.2.mem ((c.tc : Thread Cert.Reference12Ideal.nD Cert.Reference12Ideal.τ).loc Cert.Reference12Ideal.main_v42) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v16)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v16) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v97) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v16_0)) (v1 : (c : Dev Cert.Kernel14Ideal.nD) → Buf (Elt Ideal) ((c.tc : Thread Cert.Kernel14Ideal.nD Cert.Kernel14Ideal.τ).loc Cert.Kernel14Ideal.main_v16_1)) (v2 : (c : Dev Cert.Kernel14Ideal.nD) → Buf (Elt Ideal) ((c.tc : Thread Cert.Kernel14Ideal.nD Cert.Kernel14Ideal.τ).loc Cert.Kernel14Ideal.main_v16_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v16_0) = v0 c
          ∧ r.2.mem ((c.tc : Thread Cert.Kernel14Ideal.nD Cert.Kernel14Ideal.τ).loc Cert.Kernel14Ideal.main_v16_1) = v1 c
          ∧ r.2.mem ((c.tc : Thread Cert.Kernel14Ideal.nD Cert.Kernel14Ideal.τ).loc Cert.Kernel14Ideal.main_v16_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v12) = v0 c
          ∧ r.2.mem ((c.tc : Thread Cert.Reference14Ideal.nD Cert.Reference14Ideal.τ).loc Cert.Reference14Ideal.main_v60) = v1 c
          ∧ r.2.mem ((c.tc : Thread Cert.Reference14Ideal.nD Cert.Reference14Ideal.τ).loc Cert.Reference14Ideal.main_v56) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  IdealRules.named_const.Statement Cert.Kernel15Ideal.κ "mask" .f32 0xF149F2CA#32 ⊥

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v4_0)) (v1 : (c : Dev Cert.Kernel15Ideal.nD) → Buf (Elt Ideal) ((c.tc : Thread Cert.Kernel15Ideal.nD Cert.Kernel15Ideal.τ).loc Cert.Kernel15Ideal.main_v4_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4_0) = v0 c
          ∧ r.2.mem ((c.tc : Thread Cert.Kernel15Ideal.nD Cert.Kernel15Ideal.τ).loc Cert.Kernel15Ideal.main_v4_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v82) = v0 c
          ∧ r.2.mem ((c.tc : Thread Cert.Reference15Ideal.nD Cert.Reference15Ideal.τ).loc Cert.Reference15Ideal.main_v81) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_v11) = v1 c
          ∧ r.2.mem ((c.tc : Thread Cert.Reference16Ideal.nD Cert.Reference16Ideal.τ).loc Cert.Reference16Ideal.main_v18) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_all_finite.lean ====
abbrev S4096x5632 : Shape := ⟨2, ![4096, 5632]⟩
abbrev S4096x1024 : Shape := ⟨2, ![4096, 1024]⟩
abbrev S2816x1024 : Shape := ⟨2, ![2816, 1024]⟩
abbrev S3x5632 : Shape := ⟨2, ![3, 5632]⟩
abbrev S1x5632 : Shape := ⟨2, ![1, 5632]⟩
abbrev S_ : Shape := ⟨0, ![]⟩

class Facts : Prop where
  bcast_S_S4096x5632 : S_.BroadcastsInDim S4096x5632 (![] : Fin 0 → Fin S4096x5632.rank)
  reducesTo_S4096x5632_S_d0_1 : S4096x5632.ReducesTo [0, 1] S_
  h_S_ : 0 < S_.numel
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S3x5632 : S_.BroadcastsInDim S3x5632 (![] : Fin 0 → Fin S3x5632.rank)
  reducesTo_S3x5632_S_d0_1 : S3x5632.ReducesTo [0, 1] S_
  bcast_S_S1x5632 : S_.BroadcastsInDim S1x5632 (![] : Fin 0 → Fin S1x5632.rank)
  reducesTo_S1x5632_S_d0_1 : S1x5632.ReducesTo [0, 1] S_

variable [Facts]

def fn_part1 {F : FTy → Type} [FloatOps F] (main_arg4 : FVec F S1x5632 .f32) (main_v15 : IVec S_ 1) (main_v16 : FVec F S3x5632 .f32) (main_cst_4 : FVec F S_ .f32) : IVec S_ 1 :=
  let main_v17 : FVec F S3x5632 .f32 := broadcastInDim S3x5632 ![] bcast_S_S3x5632 main_cst_4
  let main_v18 : IVec S3x5632 1 := cmpf .olt main_v16 main_v17
  let main_c_5 : IVec S_ 1 := constantI S_ 1 1#1
  let main_v19 : IVec S_ 1 := (fun x v => Host.reduce IntOp.andi x v reducesTo_S3x5632_S_d0_1 h_S_) main_v18 main_c_5
  let main_v20 : IVec S_ 1 := andi main_v15 main_v19
  let main_v21 : FVec F S1x5632 .f32 := Host.absf main_arg4
  let main_cst_6 : FVec F S_ .f32 := constant S_ .f32 0x7F800000#32
  let main_v22 : FVec F S1x5632 .f32 := broadcastInDim S1x5632 ![] bcast_S_S1x5632 main_cst_6
  let main_v23 : IVec S1x5632 1 := cmpf .olt main_v21 main_v22
  let main_c_7 : IVec S_ 1 := constantI S_ 1 1#1
  let main_v24 : IVec S_ 1 := (fun x v => Host.reduce IntOp.andi x v reducesTo_S1x5632_S_d0_1 h_S_) main_v23 main_c_7
  let main_v25 : IVec S_ 1 := andi main_v20 main_v24
  main_v25

def fn {F : FTy → Type} [FloatOps F] (main_arg0 : FVec F S4096x5632 .f32) (main_arg1 : FVec F S4096x1024 .bf16) (main_arg2 : FVec F S2816x1024 .bf16) (main_arg3 : FVec F S3x5632 .f32) (main_arg4 : FVec F S1x5632 .f32) : IVec S_ 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_c : IVec S_ 1 := constantI S_ 1 1#1
  let main_v3 : IVec S_ 1 := (fun x v => Host.reduce IntOp.andi x v reducesTo_S4096x5632_S_d0_1 h_S_) main_v2 main_c
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v3 main_v8
  let main_v10 : FVec F S2816x1024 .f32 := (extf .f32 · bitsLt_bf16_f32) main_arg2
  let main_v11 : FVec F S2816x1024 .f32 := Host.absf main_v10
  let main_cst_2 : FVec F S_ .f32 := constant S_ .f32 0x7F800000#32
  let main_v12 : FVec F S2816x1024 .f32 := broadcastInDim S2816x1024 ![] bcast_S_S2816x1024 main_cst_2
  let main_v13 : IVec S2816x1024 1 := cmpf .olt main_v11 main_v12
  let main_c_3 : IVec S_ 1 := constantI S_ 1 1#1
  let main_v14 : IVec S_ 1 := (fun x v => Host.reduce IntOp.andi x v reducesTo_S2816x1024_S_d0_1 h_S_) main_v13 main_c_3
  let main_v15 : IVec S_ 1 := andi main_v9 main_v14
  let main_v16 : FVec F S3x5632 .f32 := Host.absf main_arg3
  let main_cst_4 : FVec F S_ .f32 := constant S_ .f32 0x7F800000#32
  fn_part1 (F := F) main_arg4 main_v15 main_v16 main_cst_4
-- ==== Kernel.lean ====
abbrev S4096x5632 : Shape := ⟨2, ![4096, 5632]⟩
abbrev S4096x1024 : Shape := ⟨2, ![4096, 1024]⟩
abbrev S2816x1024 : Shape := ⟨2, ![2816, 1024]⟩
abbrev S3x5632 : Shape := ⟨2, ![3, 5632]⟩
abbrev S1x5632 : Shape := ⟨2, ![1, 5632]⟩
abbrev S2x4096x2816 : Shape := ⟨3, ![2, 4096, 2816]⟩
abbrev S4x8x2816 : Shape := ⟨3, ![4, 8, 2816]⟩
abbrev S8x256 : Shape := ⟨2, ![8, 256]⟩
abbrev S1024x256 : Shape := ⟨2, ![1024, 256]⟩
abbrev S16x1024 : Shape := ⟨2, ![16, 1024]⟩
abbrev S1024x1024 : Shape := ⟨2, ![1024, 1024]⟩
abbrev S256x1024 : Shape := ⟨2, ![256, 1024]⟩
abbrev S3x256 : Shape := ⟨2, ![3, 256]⟩
abbrev S1x256 : Shape := ⟨2, ![1, 256]⟩
abbrev S2x1024x256 : Shape := ⟨3, ![2, 1024, 256]⟩
abbrev S1x8x256 : Shape := ⟨3, ![1, 8, 256]⟩
abbrev S1040x256 : Shape := ⟨2, ![1040, 256]⟩
abbrev S1056x1024 : Shape := ⟨2, ![1056, 1024]⟩
abbrev S1056x256 : Shape := ⟨2, ![1056, 256]⟩
abbrev S1x1024x256 : Shape := ⟨3, ![1, 1024, 256]⟩
abbrev S256 : Shape := ⟨1, ![256]⟩
abbrev S_ : Shape := ⟨0, ![]⟩
abbrev S8x2816 : Shape := ⟨2, ![8, 2816]⟩
abbrev S8x5632 : Shape := ⟨2, ![8, 5632]⟩

abbrev nBuf : Space → Nat
  | .hbm => 13
  | .vmem => 34
  | .smem => 0
  | _ => 0

abbrev bufTy : (tb : Table) → Fin (tcTables nBuf tb) → BufTy
  | .hbm, ⟨0, _⟩ => ⟨S4096x5632, .f32⟩
  | .hbm, ⟨1, _⟩ => ⟨S4096x1024, .bf16⟩
  | .hbm, ⟨2, _⟩ => ⟨S2816x1024, .bf16⟩
  | .hbm, ⟨3, _⟩ => ⟨S3x5632, .f32⟩
  | .hbm, ⟨4, _⟩ => ⟨S1x5632, .f32⟩
  | .hbm, ⟨5, _⟩ => ⟨S2x4096x2816, .bf16⟩
  | .hbm, ⟨6, _⟩ => ⟨S4x8x2816, .f32⟩
  | .hbm, ⟨7, _⟩ => ⟨S4x8x2816, .f32⟩
  | .hbm, ⟨8, _⟩ => ⟨S_, .f32⟩
  | .hbm, ⟨9, _⟩ => ⟨S8x2816, .f32⟩
  | .hbm, ⟨10, _⟩ => ⟨S_, .f32⟩
  | .hbm, ⟨11, _⟩ => ⟨S8x2816, .f32⟩
  | .hbm, ⟨12, _⟩ => ⟨S8x5632, .f32⟩
  | .local _ .vmem, ⟨0, _⟩ => ⟨S8x256, .f32⟩
  | .local _ .vmem, ⟨1, _⟩ => ⟨S8x256, .f32⟩
  | .local _ .vmem, ⟨2, _⟩ => ⟨S1024x256, .f32⟩
  | .local _ .vmem, ⟨3, _⟩ => ⟨S1024x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S1024x256, .f32⟩
  | .local _ .vmem, ⟨9, _⟩ => ⟨S1024x256, .f32⟩
  | .local _ .vmem, ⟨10, _⟩ => ⟨S8x256, .f32⟩
  | .local _ .vmem, ⟨11, _⟩ => ⟨S8x256, .f32⟩
  | .local _ .vmem, ⟨12, _⟩ => ⟨S16x1024, .bf16⟩
  | .local _ .vmem, ⟨13, _⟩ => ⟨S16x1024, .bf16⟩
  | .local _ .vmem, ⟨14, _⟩ => ⟨S1024x1024, .bf16⟩
  | .local _ .vmem, ⟨15, _⟩ => ⟨S1024x1024, .bf16⟩
  | .local _ .vmem, ⟨16, _⟩ => ⟨S16x1024, .bf16⟩
  | .local _ .vmem, ⟨17, _⟩ => ⟨S16x1024, .bf16⟩
  | .local _ .vmem, ⟨18, _⟩ => ⟨S256x1024, .bf16⟩
  | .local _ .vmem, ⟨19, _⟩ => ⟨S256x1024, .bf16⟩
  | .local _ .vmem, ⟨20, _⟩ => ⟨S3x256, .f32⟩
  | .local _ .vmem, ⟨21, _⟩ => ⟨S3x256, .f32⟩
  | .local _ .vmem, ⟨22, _⟩ => ⟨S1x256, .f32⟩
  | .local _ .vmem, ⟨23, _⟩ => ⟨S1x256, .f32⟩
  | .local _ .vmem, ⟨24, _⟩ => ⟨S3x256, .f32⟩
  | .local _ .vmem, ⟨25, _⟩ => ⟨S3x256, .f32⟩
  | .local _ .vmem, ⟨26, _⟩ => ⟨S1x256, .f32⟩
  | .local _ .vmem, ⟨27, _⟩ => ⟨S1x256, .f32⟩
  | .local _ .vmem, ⟨28, _⟩ => ⟨S2x1024x256, .bf16⟩
  | .local _ .vmem, ⟨29, _⟩ => ⟨S2x1024x256, .bf16⟩
  | .local _ .vmem, ⟨30, _⟩ => ⟨S1x8x256, .f32⟩
  | .local _ .vmem, ⟨31, _⟩ => ⟨S1x8x256, .f32⟩
  | .local _ .vmem, ⟨32, _⟩ => ⟨S1x8x256, .f32⟩
  | .local _ .vmem, ⟨33, _⟩ => ⟨S1x8x256, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg1 c0_i32_0
  let c0_i32_1 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  let v3 : BitVec 32 := Scalar.addi arg1 c0_i32
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi arg1 c11_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c128_i32 : BitVec 32 := 128#32
  let v1 : BitVec 32 := Scalar.muli v0 c128_i32
  let c511_i32 : BitVec 32 := 511#32
  let v2 : BitVec 32 := Scalar.minsi v1 c511_i32
  let c11_i32 : BitVec 32 := 11#32
  let v3 : BitVec 32 := Scalar.addi arg1 c11_i32
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_12 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S3x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S2x1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ReferenceIdeal.lean ====
abbrev S4096x5632 : Shape := ⟨2, ![4096, 5632]⟩
abbrev S4096x1024 : Shape := ⟨2, ![4096, 1024]⟩
abbrev S2816x1024 : Shape := ⟨2, ![2816, 1024]⟩
abbrev S3x5632 : Shape := ⟨2, ![3, 5632]⟩
abbrev S1x5632 : Shape := ⟨2, ![1, 5632]⟩
abbrev S_ : Shape := ⟨0, ![]⟩
abbrev S4095x5632 : Shape := ⟨2, ![4095, 5632]⟩
abbrev S4096x2816 : Shape := ⟨2, ![4096, 2816]⟩
abbrev S5632 : Shape := ⟨1, ![5632]⟩
abbrev S1x4096x2816 : Shape := ⟨3, ![1, 4096, 2816]⟩
abbrev S2x4096x2816 : Shape := ⟨3, ![2, 4096, 2816]⟩
abbrev S4x5632 : Shape := ⟨2, ![4, 5632]⟩
abbrev S8x5632 : Shape := ⟨2, ![8, 5632]⟩

abbrev nBuf : Space → Nat
  | .hbm => 107
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x1024, .bf16⟩
  | .hbm, ⟨2, _⟩ => ⟨S2816x1024, .bf16⟩
  | .hbm, ⟨3, _⟩ => ⟨S3x5632, .f32⟩
  | .hbm, ⟨4, _⟩ => ⟨S1x5632, .f32⟩
  | .hbm, ⟨5, _⟩ => ⟨S_, .f32⟩
  | .hbm, ⟨6, _⟩ => ⟨S1x5632, .f32⟩
  | .hbm, ⟨7, _⟩ => ⟨S4095x5632, .f32⟩
  | .hbm, ⟨8, _⟩ => ⟨S4096x5632, .f32⟩
  | .hbm, ⟨9, _⟩ => ⟨S_, .f32⟩
  | .hbm, ⟨10, _⟩ => ⟨S1x5632, .f32⟩
  | .hbm, ⟨11, _⟩ => ⟨S4095x5632, .f32⟩
  | .hbm, ⟨12, _⟩ => ⟨S4096x5632, .f32⟩
  | .hbm, ⟨13, _⟩ => ⟨S_, .f32⟩
  | .hbm, ⟨14, _⟩ => ⟨S1x5632, .f32⟩
  | .hbm, ⟨15, _⟩ => ⟨S1x5632, .f32⟩
  | .hbm, ⟨16, _⟩ => ⟨S4096x5632, .f32⟩
  | .hbm, ⟨17, _⟩ => ⟨S4096x5632, .f32⟩
  | .hbm, ⟨18, _⟩ => ⟨S1x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S1x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S2816x1024, .f32⟩
  | .hbm, ⟨45, _⟩ => ⟨S4096x1024, .f32⟩
  | .hbm, ⟨46, _⟩ => ⟨S4096x1024, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S_, .f32⟩
  | .hbm, ⟨55, _⟩ => ⟨S4096x5632, .f32⟩
  | .hbm, ⟨56, _⟩ => ⟨S_, .f32⟩
  | .hbm, ⟨57, _⟩ => ⟨S4096x5632, .f32⟩
  | .hbm, ⟨58, _⟩ => ⟨S4096x5632, .f32⟩
  | .hbm, ⟨59, _⟩ => ⟨S_, .f32⟩
  | .hbm, ⟨60, _⟩ => ⟨S5632, .f32⟩
  | .hbm, ⟨61, _⟩ => ⟨S1x5632, .f32⟩
  | .hbm, ⟨62, _⟩ => ⟨S4096x5632, .f32⟩
  | .hbm, ⟨63, _⟩ => ⟨S4096x5632, .f32⟩
  | .hbm, ⟨64, _⟩ => ⟨S4096x5632, .f32⟩
  | .hbm, ⟨65, _⟩ => ⟨S_, .f32⟩
  | .hbm, ⟨66, _⟩ => ⟨S5632, .f32⟩
  | .hbm, ⟨67, _⟩ => ⟨S1x5632, .f32⟩
  | .hbm, ⟨68, _⟩ => ⟨S_, .f32⟩
  | .hbm, ⟨69, _⟩ => ⟨S3x5632, .f32⟩
  | .hbm, ⟨70, _⟩ => ⟨S4096x5632, .f32⟩
  | .hbm, ⟨71, _⟩ => ⟨S4096x5632, .f32⟩
  | .hbm, ⟨72, _⟩ => ⟨S4096x5632, .f32⟩
  | .hbm, ⟨73, _⟩ => ⟨S_, .f32⟩
  | .hbm, ⟨74, _⟩ => ⟨S5632, .f32⟩
  | .hbm, ⟨75, _⟩ => ⟨S1x5632, .f32⟩
  | .hbm, ⟨76, _⟩ => ⟨S_, .f32⟩
  | .hbm, ⟨77, _⟩ => ⟨S3x5632, .f32⟩
  | .hbm, ⟨78, _⟩ => ⟨S3x5632, .f32⟩
  | .hbm, ⟨79, _⟩ => ⟨S4096x5632, .f32⟩
  | .hbm, ⟨80, _⟩ => ⟨S4096x5632, .f32⟩
  | .hbm, ⟨81, _⟩ => ⟨S4096x5632, .f32⟩
  | .hbm, ⟨82, _⟩ => ⟨S_, .f32⟩
  | .hbm, ⟨83, _⟩ => ⟨S5632, .f32⟩
  | .hbm, ⟨84, _⟩ => ⟨S1x5632, .f32⟩
  | .hbm, ⟨85, _⟩ => ⟨S_, .f32⟩
  | .hbm, ⟨86, _⟩ => ⟨S3x5632, .f32⟩
  | .hbm, ⟨87, _⟩ => ⟨S3x5632, .f32⟩
  | .hbm, ⟨88, _⟩ => ⟨S4095x5632, .f32⟩
  | .hbm, ⟨89, _⟩ => ⟨S1x5632, .f32⟩
  | .hbm, ⟨90, _⟩ => ⟨S_, .f32⟩
  | .hbm, ⟨91, _⟩ => ⟨S4096x5632, .f32⟩
  | .hbm, ⟨92, _⟩ => ⟨S4096x5632, .f32⟩
  | .hbm, ⟨93, _⟩ => ⟨S1x5632, .f32⟩
  | .hbm, ⟨94, _⟩ => ⟨S4095x5632, .f32⟩
  | .hbm, ⟨95, _⟩ => ⟨S_, .f32⟩
  | .hbm, ⟨96, _⟩ => ⟨S4096x5632, .f32⟩
  | .hbm, ⟨97, _⟩ => ⟨S4096x5632, .f32⟩
  | .hbm, ⟨98, _⟩ => ⟨S4096x2816, .f32⟩
  | .hbm, ⟨99, _⟩ => ⟨S4096x2816, .f32⟩
  | .hbm, ⟨100, _⟩ => ⟨S1x4096x2816, .f32⟩
  | .hbm, ⟨101, _⟩ => ⟨S1x4096x2816, .f32⟩
  | .hbm, ⟨102, _⟩ => ⟨S2x4096x2816, .f32⟩
  | .hbm, ⟨103, _⟩ => ⟨S2x4096x2816, .bf16⟩
  | .hbm, ⟨104, _⟩ => ⟨S_, .f32⟩
  | .hbm, ⟨105, _⟩ => ⟨S4x5632, .f32⟩
  | .hbm, ⟨106, _⟩ => ⟨S8x5632, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v22_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v22_1 : Ref sig .tc := ⟨.hbm, 41, rfl⟩
abbrev main_v22_0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v30 : Ref sig .tc := ⟨.hbm, 53, rfl⟩
abbrev main_cst_2 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_v33 : Ref sig .tc := ⟨.hbm, 58, rfl⟩
abbrev main_cst_4 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_5 : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_9 : Ref sig .tc := ⟨.hbm, 82, rfl⟩
abbrev main_v52 : Ref sig .tc := ⟨.hbm, 83, rfl⟩
abbrev main_v53 : Ref sig .tc := ⟨.hbm, 84, rfl⟩
abbrev main_cst_10 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_11 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_12 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_13 : Ref sig .tc := ⟨.hbm, 104, rfl⟩
abbrev main_v70 : Ref sig .tc := ⟨.hbm, 105, rfl⟩
abbrev main_v71 : Ref sig .tc := ⟨.hbm, 106, rfl⟩

abbrev nD : Nat := 1
abbrev τ : Topo := Topo.v7x

variable {F : FTy → Type} [FloatOps F]
-- ==== Kernel2.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S1024x1408 : Shape := ⟨2, ![1024, 1408]⟩
abbrev S1x1024x1408 : Shape := ⟨3, ![1, 1024, 1408]⟩
abbrev S4x1024x1408 : Shape := ⟨3, ![4, 1024, 1408]⟩
abbrev S2x512x2816 : Shape := ⟨3, ![2, 512, 2816]⟩
abbrev S512x1024 : Shape := ⟨2, ![512, 1024]⟩
abbrev S1x512x1408 : Shape := ⟨3, ![1, 512, 1408]⟩
abbrev S512x1408 : Shape := ⟨2, ![512, 1408]⟩
abbrev S512 : Shape := ⟨1, ![512]⟩
abbrev S512x1 : Shape := ⟨2, ![512, 1]⟩
abbrev S1024 : Shape := ⟨1, ![1024]⟩

abbrev nBuf : Space → Nat
  | .hbm => 22
  | .vmem => 13
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x2816, .bf16⟩
  | .hbm, ⟨6, _⟩ => ⟨S4096x2816, .bf16⟩
  | .hbm, ⟨7, _⟩ => ⟨S1x4096x2816, .bf16⟩
  | .hbm, ⟨8, _⟩ => ⟨S1x4096x2816, .bf16⟩
  | .hbm, ⟨9, _⟩ => ⟨S2x4096x2816, .bf16⟩
  | .hbm, ⟨10, _⟩ => ⟨S1024x1408, .bf16⟩
  | .hbm, ⟨11, _⟩ => ⟨S1024x1408, .bf16⟩
  | .hbm, ⟨12, _⟩ => ⟨S1024x1408, .bf16⟩
  | .hbm, ⟨13, _⟩ => ⟨S1024x1408, .bf16⟩
  | .hbm, ⟨14, _⟩ => ⟨S1x1024x1408, .bf16⟩
  | .hbm, ⟨15, _⟩ => ⟨S1x1024x1408, .bf16⟩
  | .hbm, ⟨16, _⟩ => ⟨S1x1024x1408, .bf16⟩
  | .hbm, ⟨17, _⟩ => ⟨S1x1024x1408, .bf16⟩
  | .hbm, ⟨18, _⟩ => ⟨S4x1024x1408, .bf16⟩
  | .hbm, ⟨19, _⟩ => ⟨S4096x1024, .f32⟩
  | .hbm, ⟨20, _⟩ => ⟨S4096x1024, .bf16⟩
  | .hbm, ⟨21, _⟩ => ⟨S1x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S4x1024x1408, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v14_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x5632, .f32⟩
  | .hbm, ⟨25, _⟩ => ⟨S4096x5632, .f32⟩
  | .hbm, ⟨26, _⟩ => ⟨S4096x5632, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel3.lean ====
abbrev S4096x1024 : Shape := ⟨2, ![4096, 1024]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S4x1024x1408 : Shape := ⟨3, ![4, 1024, 1408]⟩
abbrev S4096x512 : Shape := ⟨2, ![4096, 512]⟩
abbrev S1x4096x1408 : Shape := ⟨3, ![1, 4096, 1408]⟩
abbrev S1x512x1408 : Shape := ⟨3, ![1, 512, 1408]⟩
abbrev S4096x1408 : Shape := ⟨2, ![4096, 1408]⟩
abbrev S512x1408 : Shape := ⟨2, ![512, 1408]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x2816, .bf16⟩
  | .hbm, ⟨3, _⟩ => ⟨S4096x2816, .bf16⟩
  | .hbm, ⟨4, _⟩ => ⟨S1x4096x2816, .bf16⟩
  | .hbm, ⟨5, _⟩ => ⟨S1x4096x2816, .bf16⟩
  | .hbm, ⟨6, _⟩ => ⟨S2x4096x2816, .bf16⟩
  | .hbm, ⟨7, _⟩ => ⟨S4x1024x1408, .f32⟩
  | .local _ .vmem, ⟨0, _⟩ => ⟨S4096x512, .bf16⟩
  | .local _ .vmem, ⟨1, _⟩ => ⟨S4096x512, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x512x1408, .f32⟩
  | .local _ .vmem, ⟨5, _⟩ => ⟨S1x512x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x1408, .f32⟩
  | .hbm, ⟨10, _⟩ => ⟨S1024x1408, .f32⟩
  | .hbm, ⟨11, _⟩ => ⟨S1024x1408, .f32⟩
  | .hbm, ⟨12, _⟩ => ⟨S1024x1408, .f32⟩
  | .hbm, ⟨13, _⟩ => ⟨S1x1024x1408, .f32⟩
  | .hbm, ⟨14, _⟩ => ⟨S1x1024x1408, .f32⟩
  | .hbm, ⟨15, _⟩ => ⟨S1x1024x1408, .f32⟩
  | .hbm, ⟨16, _⟩ => ⟨S1x1024x1408, .f32⟩
  | .hbm, ⟨17, _⟩ => ⟨S4x1024x1408, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S2816x1024 : Shape := ⟨2, ![2816, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .f32⟩
  | .local _ .vmem, ⟨5, _⟩ => ⟨S1408x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x1024 : Shape := ⟨2, ![4096, 1024]⟩
abbrev S1024x5632 : Shape := ⟨2, ![1024, 5632]⟩
abbrev S1024x1408 : Shape := ⟨2, ![1024, 1408]⟩
abbrev S1x1024x1408 : Shape := ⟨3, ![1, 1024, 1408]⟩
abbrev S4x1024x1408 : Shape := ⟨3, ![4, 1024, 1408]⟩
abbrev S4096x5632 : Shape := ⟨2, ![4096, 5632]⟩
abbrev S1024x1024 : Shape := ⟨2, ![1024, 1024]⟩

abbrev nBuf : Space → Nat
  | .hbm => 12
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S1024x1408, .bf16⟩
  | .hbm, ⟨3, _⟩ => ⟨S1024x1408, .bf16⟩
  | .hbm, ⟨4, _⟩ => ⟨S1024x1408, .bf16⟩
  | .hbm, ⟨5, _⟩ => ⟨S1024x1408, .bf16⟩
  | .hbm, ⟨6, _⟩ => ⟨S1x1024x1408, .bf16⟩
  | .hbm, ⟨7, _⟩ => ⟨S1x1024x1408, .bf16⟩
  | .hbm, ⟨8, _⟩ => ⟨S1x1024x1408, .bf16⟩
  | .hbm, ⟨9, _⟩ => ⟨S1x1024x1408, .bf16⟩
  | .hbm, ⟨10, _⟩ => ⟨S4x1024x1408, .bf16⟩
  | .hbm, ⟨11, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x1 : Shape := ⟨2, ![1, 1]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S1x1, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference6Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x1 : Shape := ⟨2, ![1, 1]⟩

abbrev nBuf : Space → Nat
  | .hbm => 76
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S1x1, .f32⟩
  | .hbm, ⟨75, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Kernel7.lean ====
abbrev S4096x1280 : Shape := ⟨2, ![4096, 1280]⟩
abbrev S1280x1024 : Shape := ⟨2, ![1280, 1024]⟩
abbrev S4096x1024 : Shape := ⟨2, ![4096, 1024]⟩
abbrev S1x1024 : Shape := ⟨2, ![1, 1024]⟩
abbrev S512x1280 : Shape := ⟨2, ![512, 1280]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x1280, .bf16⟩
  | .hbm, ⟨1, _⟩ => ⟨S1280x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1280, .bf16⟩
  | .local _ .vmem, ⟨1, _⟩ => ⟨S512x1280, .bf16⟩
  | .local _ .vmem, ⟨2, _⟩ => ⟨S1280x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference7Ideal.lean ====
abbrev S4096x1280 : Shape := ⟨2, ![4096, 1280]⟩
abbrev S1280x1024 : Shape := ⟨2, ![1280, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x1280 : Shape := ⟨2, ![1024, 1280]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1280, .bf16⟩
  | .hbm, ⟨1, _⟩ => ⟨S1280x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1280x1024, .f32⟩
  | .hbm, ⟨25, _⟩ => ⟨S1024x1280, .f32⟩
  | .hbm, ⟨26, _⟩ => ⟨S4096x1280, .f32⟩
  | .hbm, ⟨27, _⟩ => ⟨S4096x1280, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | _, _ => ⟨S4096x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S4096x512 : Shape := ⟨2, ![4096, 512]⟩
abbrev S1x512 : Shape := ⟨2, ![1, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x512, .f32⟩
  | .hbm, ⟨3, _⟩ => ⟨S4096x512, .f32⟩
  | .hbm, ⟨4, _⟩ => ⟨S1x512, .f32⟩
  | .hbm, ⟨5, _⟩ => ⟨S1x512, .f32⟩
  | .hbm, ⟨6, _⟩ => ⟨S4096x512, .f32⟩
  | .hbm, ⟨7, _⟩ => ⟨S4096x512, .f32⟩
  | .hbm, ⟨8, _⟩ => ⟨S1x512, .f32⟩
  | .hbm, ⟨9, _⟩ => ⟨S1x512, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S1x512, .f32⟩
  | .local _ .vmem, ⟨14, _⟩ => ⟨S1x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference8Ideal.lean ====
abbrev S4096x1024 : Shape := ⟨2, ![4096, 1024]⟩
abbrev S1024x1024 : Shape := ⟨2, ![1024, 1024]⟩
abbrev S4096x512 : Shape := ⟨2, ![4096, 512]⟩
abbrev S1x512 : Shape := ⟨2, ![1, 512]⟩
abbrev S_ : Shape := ⟨0, ![]⟩
abbrev S4096 : Shape := ⟨1, ![4096]⟩
abbrev S4096x1 : Shape := ⟨2, ![4096, 1]⟩
abbrev S512 : Shape := ⟨1, ![512]⟩

abbrev nBuf : Space → Nat
  | .hbm => 97
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x512, .f32⟩
  | .hbm, ⟨3, _⟩ => ⟨S4096x512, .f32⟩
  | .hbm, ⟨4, _⟩ => ⟨S1x512, .f32⟩
  | .hbm, ⟨5, _⟩ => ⟨S1x512, .f32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x1024, .f32⟩
  | .hbm, ⟨45, _⟩ => ⟨S1024x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S_, .f32⟩
  | .hbm, ⟨53, _⟩ => ⟨S512, .f32⟩
  | .hbm, ⟨54, _⟩ => ⟨S1x512, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x512, .f32⟩
  | .hbm, ⟨62, _⟩ => ⟨S4096x512, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x512, .f32⟩
  | .hbm, ⟨70, _⟩ => ⟨S4096x512, .f32⟩
  | .hbm, ⟨71, _⟩ => ⟨S4096x512, .f32⟩
  | .hbm, ⟨72, _⟩ => ⟨S4096x512, .f32⟩
  | .hbm, ⟨73, _⟩ => ⟨S4096x512, .f32⟩
  | .hbm, ⟨74, _⟩ => ⟨S4096x512, .f32⟩
  | .hbm, ⟨75, _⟩ => ⟨S_, .f32⟩
  | .hbm, ⟨76, _⟩ => ⟨S512, .f32⟩
  | .hbm, ⟨77, _⟩ => ⟨S1x512, .f32⟩
  | .hbm, ⟨78, _⟩ => ⟨S4096x512, .f32⟩
  | .hbm, ⟨79, _⟩ => ⟨S4096x512, .f32⟩
  | .hbm, ⟨80, _⟩ => ⟨S4096x512, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S4096x512, .f32⟩
  | .hbm, ⟨85, _⟩ => ⟨S4096x512, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S_, .f32⟩
  | .hbm, ⟨91, _⟩ => ⟨S4096, .f32⟩
  | .hbm, ⟨92, _⟩ => ⟨S4096x512, .f32⟩
  | .hbm, ⟨93, _⟩ => ⟨S4096x512, .f32⟩
  | .hbm, ⟨94, _⟩ => ⟨S4096x512, .f32⟩
  | .hbm, ⟨95, _⟩ => ⟨S4096x512, .f32⟩
  | .hbm, ⟨96, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_13 : Ref sig .tc := ⟨.hbm, 87, rfl⟩
abbrev main_v67 : Ref sig .tc := ⟨.hbm, 88, rfl⟩
abbrev main_v68 : Ref sig .tc := ⟨.hbm, 89, rfl⟩
abbrev main_cst_14 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference9Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x1280 : Shape := ⟨2, ![4096, 1280]⟩
abbrev S4096x1024 : Shape := ⟨2, ![4096, 1024]⟩
abbrev S1280x1024 : Shape := ⟨2, ![1280, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1280, .bf16⟩
  | .hbm, ⟨1, _⟩ => ⟨S4096x1024, .bf16⟩
  | .hbm, ⟨2, _⟩ => ⟨S1280x1024, .f32⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | _, _ => ⟨S4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![5, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x1280 : Shape := ⟨2, ![4096, 1280]⟩
abbrev S4096x1024 : Shape := ⟨2, ![4096, 1024]⟩
abbrev S_ : Shape := ⟨0, ![]⟩
abbrev S1280x1024 : Shape := ⟨2, ![1280, 1024]⟩
abbrev S1024x1280 : Shape := ⟨2, ![1024, 1280]⟩

abbrev nBuf : Space → Nat
  | .hbm => 11
  | .vmem => 0
  | .smem => 0
  | _ => 0

abbrev bufTy : (tb : Table) → Fin (tcTables nBuf tb) → BufTy
  | .hbm, ⟨0, _⟩ => ⟨S4096x1280, .bf16⟩
  | .hbm, ⟨1, _⟩ => ⟨S4096x1024, .bf16⟩
  | .hbm, ⟨2, _⟩ => ⟨S_, .f32⟩
  | .hbm, ⟨3, _⟩ => ⟨S1280x1024, .f32⟩
  | .hbm, ⟨4, _⟩ => ⟨S4096x1024, .f32⟩
  | .hbm, ⟨5, _⟩ => ⟨S1024x1280, .f32⟩
  | .hbm, ⟨6, _⟩ => ⟨S4096x1280, .f32⟩
  | .hbm, ⟨7, _⟩ => ⟨S4096x1280, .f32⟩
  | .hbm, ⟨8, _⟩ => ⟨S1280x1024, .f32⟩
  | .hbm, ⟨9, _⟩ => ⟨S1024x1280, .f32⟩
  | .hbm, ⟨10, _⟩ => ⟨S1280x1024, .f32⟩
  | _, _ => ⟨S4096x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S4096x512 : Shape := ⟨2, ![4096, 512]⟩
abbrev S512x512 : Shape := ⟨2, ![512, 512]⟩

abbrev nBuf : Space → Nat
  | .hbm => 3
  | .vmem => 3
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S512x512, .f32⟩
  | .local _ .vmem, ⟨0, _⟩ => ⟨S4096x512, .bf16⟩
  | .local _ .vmem, ⟨1, _⟩ => ⟨S4096x512, .bf16⟩
  | .local _ .vmem, ⟨2, _⟩ => ⟨S512x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference11Ideal.lean ====
abbrev S4096x512 : Shape := ⟨2, ![4096, 512]⟩
abbrev S_ : Shape := ⟨0, ![]⟩
abbrev S512x512 : Shape := ⟨2, ![512, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S_, .f32⟩
  | .hbm, ⟨3, _⟩ => ⟨S512x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S512x512, .f32⟩
  | .hbm, ⟨8, _⟩ => ⟨S512x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4096x512 : Shape := ⟨2, ![4096, 512]⟩
abbrev S1x512 : Shape := ⟨2, ![1, 512]⟩
abbrev S1024x1024 : Shape := ⟨2, ![1024, 1024]⟩
abbrev S4096x1024 : Shape := ⟨2, ![4096, 1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S1x512, .f32⟩
  | .hbm, ⟨4, _⟩ => ⟨S1024x1024, .bf16⟩
  | .hbm, ⟨5, _⟩ => ⟨S4096x1024, .f32⟩
  | .hbm, ⟨6, _⟩ => ⟨S1x1024, .f32⟩
  | .hbm, ⟨7, _⟩ => ⟨S4096x1024, .bf16⟩
  | .hbm, ⟨8, _⟩ => ⟨S4096x1024, .f32⟩
  | .hbm, ⟨9, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference12Ideal.lean ====
abbrev S4096x512 : Shape := ⟨2, ![4096, 512]⟩
abbrev S1x512 : Shape := ⟨2, ![1, 512]⟩
abbrev S1024x1024 : Shape := ⟨2, ![1024, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S1x512, .f32⟩
  | .hbm, ⟨4, _⟩ => ⟨S1024x1024, .bf16⟩
  | .hbm, ⟨5, _⟩ => ⟨S4096x1024, .f32⟩
  | .hbm, ⟨6, _⟩ => ⟨S1x1024, .f32⟩
  | .hbm, ⟨7, _⟩ => ⟨S4096x512, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x1024, .f32⟩
  | .hbm, ⟨38, _⟩ => ⟨S4096x1024, .bf16⟩
  | .hbm, ⟨39, _⟩ => ⟨S4096x1024, .f32⟩
  | .hbm, ⟨40, _⟩ => ⟨S1024x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel13.lean ====
abbrev S4096x512 : Shape := ⟨2, ![4096, 512]⟩
abbrev S4096x256 : Shape := ⟨2, ![4096, 256]⟩
abbrev S1x512 : Shape := ⟨2, ![1, 512]⟩
abbrev S4096x8 : Shape := ⟨2, ![4096, 8]⟩
abbrev S_ : Shape := ⟨0, ![]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S4096x1280 : Shape := ⟨2, ![4096, 1280]⟩
abbrev S512x512 : Shape := ⟨2, ![512, 512]⟩
abbrev S512x256 : Shape := ⟨2, ![512, 256]⟩
abbrev S512x128 : Shape := ⟨2, ![512, 128]⟩
abbrev S512x1280 : Shape := ⟨2, ![512, 1280]⟩

abbrev nBuf : Space → Nat
  | .hbm => 27
  | .vmem => 17
  | .smem => 0
  | _ => 0

abbrev bufTy : (tb : Table) → Fin (tcTables nBuf tb) → BufTy
  | .hbm, ⟨0, _⟩ => ⟨S4096x512, .f32⟩
  | .hbm, ⟨1, _⟩ => ⟨S4096x256, .f32⟩
  | .hbm, ⟨2, _⟩ => ⟨S4096x512, .f32⟩
  | .hbm, ⟨3, _⟩ => ⟨S4096x512, .f32⟩
  | .hbm, ⟨4, _⟩ => ⟨S1x512, .f32⟩
  | .hbm, ⟨5, _⟩ => ⟨S4096x8, .f32⟩
  | .hbm, ⟨6, _⟩ => ⟨S4096x8, .f32⟩
  | .hbm, ⟨7, _⟩ => ⟨S_, .f32⟩
  | .hbm, ⟨8, _⟩ => ⟨S4096x48, .f32⟩
  | .hbm, ⟨9, _⟩ => ⟨S_, .f32⟩
  | .hbm, ⟨10, _⟩ => ⟨S4096x48, .f32⟩
  | .hbm, ⟨11, _⟩ => ⟨S_, .f32⟩
  | .hbm, ⟨12, _⟩ => ⟨S4096x8, .f32⟩
  | .hbm, ⟨13, _⟩ => ⟨S4096x64, .f32⟩
  | .hbm, ⟨14, _⟩ => ⟨S4096x8, .f32⟩
  | .hbm, ⟨15, _⟩ => ⟨S4096x64, .f32⟩
  | .hbm, ⟨16, _⟩ => ⟨S4096x64, .f32⟩
  | .hbm, ⟨17, _⟩ => ⟨S1x4096x1x64, .f32⟩
  | .hbm, ⟨18, _⟩ => ⟨S1x4096x2x64, .f32⟩
  | .hbm, ⟨19, _⟩ => ⟨S4096x128, .f32⟩
  | .hbm, ⟨20, _⟩ => ⟨S1x4096x1x64, .f32⟩
  | .hbm, ⟨21, _⟩ => ⟨S1x4096x2x64, .f32⟩
  | .hbm, ⟨22, _⟩ => ⟨S4096x128, .f32⟩
  | .hbm, ⟨23, _⟩ => ⟨S1x4096x1x64, .f32⟩
  | .hbm, ⟨24, _⟩ => ⟨S1x4096x2x64, .f32⟩
  | .hbm, ⟨25, _⟩ => ⟨S4096x128, .f32⟩
  | .hbm, ⟨26, _⟩ => ⟨S4096x1280, .bf16⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x1280, .bf16⟩
  | .local _ .vmem, ⟨16, _⟩ => ⟨S512x1280, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1280 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S4096x512 : Shape := ⟨2, ![4096, 512]⟩
abbrev S4096x256 : Shape := ⟨2, ![4096, 256]⟩
abbrev S1x512 : Shape := ⟨2, ![1, 512]⟩
abbrev S4096x8 : Shape := ⟨2, ![4096, 8]⟩
abbrev S4096x128 : Shape := ⟨2, ![4096, 128]⟩
abbrev S_ : Shape := ⟨0, ![]⟩
abbrev S4096x1280 : Shape := ⟨2, ![4096, 1280]⟩
abbrev S4096x8x64 : Shape := ⟨3, ![4096, 8, 64]⟩
abbrev S4096x1x8 : Shape := ⟨3, ![4096, 1, 8]⟩
abbrev S4096x8x8 : Shape := ⟨3, ![4096, 8, 8]⟩
abbrev S4096x8x48 : Shape := ⟨3, ![4096, 8, 48]⟩
abbrev S4096x2x64 : Shape := ⟨3, ![4096, 2, 64]⟩
abbrev S4096x2x8 : Shape := ⟨3, ![4096, 2, 8]⟩
abbrev S4096x2x48 : Shape := ⟨3, ![4096, 2, 48]⟩

abbrev nBuf : Space → Nat
  | .hbm => 116
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x256, .f32⟩
  | .hbm, ⟨2, _⟩ => ⟨S4096x512, .f32⟩
  | .hbm, ⟨3, _⟩ => ⟨S4096x512, .f32⟩
  | .hbm, ⟨4, _⟩ => ⟨S1x512, .f32⟩
  | .hbm, ⟨5, _⟩ => ⟨S4096x8, .f32⟩
  | .hbm, ⟨6, _⟩ => ⟨S4096x8, .f32⟩
  | .hbm, ⟨7, _⟩ => ⟨S4096x128, .f32⟩
  | .hbm, ⟨8, _⟩ => ⟨S4096x128, .f32⟩
  | .hbm, ⟨9, _⟩ => ⟨S_, .f32⟩
  | .hbm, ⟨10, _⟩ => ⟨S4096x1280, .f32⟩
  | .hbm, ⟨11, _⟩ => ⟨S4096x512, .f32⟩
  | .hbm, ⟨12, _⟩ => ⟨S4096x8x64, .f32⟩
  | .hbm, ⟨13, _⟩ => ⟨S4096x1x8, .f32⟩
  | .hbm, ⟨14, _⟩ => ⟨S4096x1x8, .f32⟩
  | .hbm, ⟨15, _⟩ => ⟨S4096x8x8, .f32⟩
  | .hbm, ⟨16, _⟩ => ⟨S4096x8x8, .f32⟩
  | .hbm, ⟨17, _⟩ => ⟨S4096x8x48, .f32⟩
  | .hbm, ⟨18, _⟩ => ⟨S4096x8x8, .f32⟩
  | .hbm, ⟨19, _⟩ => ⟨S4096x8x8, .f32⟩
  | .hbm, ⟨20, _⟩ => ⟨S4096x8x8, .f32⟩
  | .hbm, ⟨21, _⟩ => ⟨S4096x8x8, .f32⟩
  | .hbm, ⟨22, _⟩ => ⟨S4096x8x8, .f32⟩
  | .hbm, ⟨23, _⟩ => ⟨S4096x8x8, .f32⟩
  | .hbm, ⟨24, _⟩ => ⟨S4096x8x8, .f32⟩
  | .hbm, ⟨25, _⟩ => ⟨S4096x8x8, .f32⟩
  | .hbm, ⟨26, _⟩ => ⟨S4096x8x8, .f32⟩
  | .hbm, ⟨27, _⟩ => ⟨S4096x8x8, .f32⟩
  | .hbm, ⟨28, _⟩ => ⟨S4096x8x64, .f32⟩
  | .hbm, ⟨29, _⟩ => ⟨S4096x128, .f32⟩
  | .hbm, ⟨30, _⟩ => ⟨S4096x2x64, .f32⟩
  | .hbm, ⟨31, _⟩ => ⟨S4096x1x8, .f32⟩
  | .hbm, ⟨32, _⟩ => ⟨S4096x1x8, .f32⟩
  | .hbm, ⟨33, _⟩ => ⟨S4096x2x8, .f32⟩
  | .hbm, ⟨34, _⟩ => ⟨S4096x2x8, .f32⟩
  | .hbm, ⟨35, _⟩ => ⟨S4096x2x48, .f32⟩
  | .hbm, ⟨36, _⟩ => ⟨S4096x2x8, .f32⟩
  | .hbm, ⟨37, _⟩ => ⟨S4096x2x8, .f32⟩
  | .hbm, ⟨38, _⟩ => ⟨S4096x2x8, .f32⟩
  | .hbm, ⟨39, _⟩ => ⟨S4096x2x8, .f32⟩
  | .hbm, ⟨40, _⟩ => ⟨S4096x2x8, .f32⟩
  | .hbm, ⟨41, _⟩ => ⟨S4096x2x8, .f32⟩
  | .hbm, ⟨42, _⟩ => ⟨S4096x2x8, .f32⟩
  | .hbm, ⟨43, _⟩ => ⟨S4096x2x8, .f32⟩
  | .hbm, ⟨44, _⟩ => ⟨S4096x2x8, .f32⟩
  | .hbm, ⟨45, _⟩ => ⟨S4096x2x8, .f32⟩
  | .hbm, ⟨46, _⟩ => ⟨S4096x2x64, .f32⟩
  | .hbm, ⟨47, _⟩ => ⟨S4096x512, .f32⟩
  | .hbm, ⟨48, _⟩ => ⟨S4096x128, .f32⟩
  | .hbm, ⟨49, _⟩ => ⟨S4096x128, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S_, .f32⟩
  | .hbm, ⟨57, _⟩ => ⟨S4096x1280, .f32⟩
  | .hbm, ⟨58, _⟩ => ⟨S_, .f32⟩
  | .hbm, ⟨59, _⟩ => ⟨S4096x1280, .f32⟩
  | .hbm, ⟨60, _⟩ => ⟨S4096x1280, .f32⟩
  | .hbm, ⟨61, _⟩ => ⟨S4096x2x64, .f32⟩
  | .hbm, ⟨62, _⟩ => ⟨S4096x8x64, .f32⟩
  | .hbm, ⟨63, _⟩ => ⟨S4096x2x8, .f32⟩
  | .hbm, ⟨64, _⟩ => ⟨S4096x2x8, .f32⟩
  | .hbm, ⟨65, _⟩ => ⟨S4096x2x48, .f32⟩
  | .hbm, ⟨66, _⟩ => ⟨S4096x2x8, .f32⟩
  | .hbm, ⟨67, _⟩ => ⟨S4096x2x8, .f32⟩
  | .hbm, ⟨68, _⟩ => ⟨S4096x2x8, .f32⟩
  | .hbm, ⟨69, _⟩ => ⟨S4096x2x8, .f32⟩
  | .hbm, ⟨70, _⟩ => ⟨S4096x2x8, .f32⟩
  | .hbm, ⟨71, _⟩ => ⟨S4096x2x8, .f32⟩
  | .hbm, ⟨72, _⟩ => ⟨S4096x2x8, .f32⟩
  | .hbm, ⟨73, _⟩ => ⟨S4096x2x8, .f32⟩
  | .hbm, ⟨74, _⟩ => ⟨S4096x2x8, .f32⟩
  | .hbm, ⟨75, _⟩ => ⟨S4096x2x8, .f32⟩
  | .hbm, ⟨76, _⟩ => ⟨S4096x2x8, .f32⟩
  | .hbm, ⟨77, _⟩ => ⟨S_, .f32⟩
  | .hbm, ⟨78, _⟩ => ⟨S4096x2x64, .f32⟩
  | .hbm, ⟨79, _⟩ => ⟨S_, .f32⟩
  | .hbm, ⟨80, _⟩ => ⟨S4096x2x64, .f32⟩
  | .hbm, ⟨81, _⟩ => ⟨S4096x2x64, .f32⟩
  | .hbm, ⟨82, _⟩ => ⟨S_, .f32⟩
  | .hbm, ⟨83, _⟩ => ⟨S4096x2x64, .f32⟩
  | .hbm, ⟨84, _⟩ => ⟨S4096x2x64, .f32⟩
  | .hbm, ⟨85, _⟩ => ⟨S4096x128, .f32⟩
  | .hbm, ⟨86, _⟩ => ⟨S_, .f32⟩
  | .hbm, ⟨87, _⟩ => ⟨S4096x1280, .f32⟩
  | .hbm, ⟨88, _⟩ => ⟨S4096x1280, .f32⟩
  | .hbm, ⟨89, _⟩ => ⟨S4096x8x8, .f32⟩
  | .hbm, ⟨90, _⟩ => ⟨S4096x8x8, .f32⟩
  | .hbm, ⟨91, _⟩ => ⟨S4096x8x48, .f32⟩
  | .hbm, ⟨92, _⟩ => ⟨S4096x8x8, .f32⟩
  | .hbm, ⟨93, _⟩ => ⟨S4096x8x8, .f32⟩
  | .hbm, ⟨94, _⟩ => ⟨S4096x8x8, .f32⟩
  | .hbm, ⟨95, _⟩ => ⟨S4096x8x8, .f32⟩
  | .hbm, ⟨96, _⟩ => ⟨S4096x8x8, .f32⟩
  | .hbm, ⟨97, _⟩ => ⟨S4096x8x8, .f32⟩
  | .hbm, ⟨98, _⟩ => ⟨S4096x8x8, .f32⟩
  | .hbm, ⟨99, _⟩ => ⟨S4096x8x8, .f32⟩
  | .hbm, ⟨100, _⟩ => ⟨S4096x8x8, .f32⟩
  | .hbm, ⟨101, _⟩ => ⟨S4096x8x8, .f32⟩
  | .hbm, ⟨102, _⟩ => ⟨S4096x8x8, .f32⟩
  | .hbm, ⟨103, _⟩ => ⟨S_, .f32⟩
  | .hbm, ⟨104, _⟩ => ⟨S4096x8x64, .f32⟩
  | .hbm, ⟨105, _⟩ => ⟨S_, .f32⟩
  | .hbm, ⟨106, _⟩ => ⟨S4096x8x64, .f32⟩
  | .hbm, ⟨107, _⟩ => ⟨S4096x8x64, .f32⟩
  | .hbm, ⟨108, _⟩ => ⟨S_, .f32⟩
  | .hbm, ⟨109, _⟩ => ⟨S4096x8x64, .f32⟩
  | .hbm, ⟨110, _⟩ => ⟨S4096x8x64, .f32⟩
  | .hbm, ⟨111, _⟩ => ⟨S4096x512, .f32⟩
  | .hbm, ⟨112, _⟩ => ⟨S_, .f32⟩
  | .hbm, ⟨113, _⟩ => ⟨S4096x1280, .f32⟩
  | .hbm, ⟨114, _⟩ => ⟨S4096x1280, .f32⟩
  | .hbm, ⟨115, _⟩ => ⟨S4096x1280, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_0 : Ref sig .tc := ⟨.hbm, 56, rfl⟩
abbrev main_v48 : Ref sig .tc := ⟨.hbm, 57, rfl⟩
abbrev main_cst_1 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_cst_2 : Ref sig .tc := ⟨.hbm, 77, rfl⟩
abbrev main_v67 : Ref sig .tc := ⟨.hbm, 78, rfl⟩
abbrev main_cst_3 : Ref sig .tc := ⟨.hbm, 79, rfl⟩
abbrev main_v68 : Ref sig .tc := ⟨.hbm, 80, rfl⟩
abbrev main_v69 : Ref sig .tc := ⟨.hbm, 81, rfl⟩
abbrev main_cst_4 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_cst_5 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_cst_6 : Ref sig .tc := ⟨.hbm, 103, rfl⟩
abbrev main_v89 : Ref sig .tc := ⟨.hbm, 104, rfl⟩
abbrev main_cst_7 : Ref sig .tc := ⟨.hbm, 105, rfl⟩
abbrev main_v90 : Ref sig .tc := ⟨.hbm, 106, rfl⟩
abbrev main_v91 : Ref sig .tc := ⟨.hbm, 107, rfl⟩
abbrev main_cst_8 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_cst_9 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩

abbrev nD : Nat := 1
abbrev τ : Topo := Topo.v7x

variable {F : FTy → Type} [FloatOps F]
-- ==== Kernel14.lean ====
abbrev S4096x1024 : Shape := ⟨2, ![4096, 1024]⟩
abbrev S1x1024 : Shape := ⟨2, ![1, 1024]⟩
abbrev S1280x1024 : Shape := ⟨2, ![1280, 1024]⟩
abbrev S4096x8 : Shape := ⟨2, ![4096, 8]⟩
abbrev S_ : Shape := ⟨0, ![]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S4096x768 : Shape := ⟨2, ![4096, 768]⟩
abbrev S4096x512 : Shape := ⟨2, ![4096, 512]⟩
abbrev S512x1024 : Shape := ⟨2, ![512, 1024]⟩
abbrev S512x128 : Shape := ⟨2, ![512, 128]⟩
abbrev S512x768 : Shape := ⟨2, ![512, 768]⟩
abbrev S512x512 : Shape := ⟨2, ![512, 512]⟩
abbrev S512 : Shape := ⟨1, ![512]⟩
abbrev S512x1 : Shape := ⟨2, ![512, 1]⟩
abbrev S512x1280 : Shape := ⟨2, ![512, 1280]⟩

abbrev nBuf : Space → Nat
  | .hbm => 27
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1280x1024, .bf16⟩
  | .hbm, ⟨3, _⟩ => ⟨S4096x8, .f32⟩
  | .hbm, ⟨4, _⟩ => ⟨S4096x8, .f32⟩
  | .hbm, ⟨5, _⟩ => ⟨S_, .f32⟩
  | .hbm, ⟨6, _⟩ => ⟨S4096x48, .f32⟩
  | .hbm, ⟨7, _⟩ => ⟨S_, .f32⟩
  | .hbm, ⟨8, _⟩ => ⟨S4096x48, .f32⟩
  | .hbm, ⟨9, _⟩ => ⟨S_, .f32⟩
  | .hbm, ⟨10, _⟩ => ⟨S4096x8, .f32⟩
  | .hbm, ⟨11, _⟩ => ⟨S4096x64, .f32⟩
  | .hbm, ⟨12, _⟩ => ⟨S4096x8, .f32⟩
  | .hbm, ⟨13, _⟩ => ⟨S4096x64, .f32⟩
  | .hbm, ⟨14, _⟩ => ⟨S4096x64, .f32⟩
  | .hbm, ⟨15, _⟩ => ⟨S1x4096x1x64, .f32⟩
  | .hbm, ⟨16, _⟩ => ⟨S1x4096x2x64, .f32⟩
  | .hbm, ⟨17, _⟩ => ⟨S4096x128, .f32⟩
  | .hbm, ⟨18, _⟩ => ⟨S1x4096x1x64, .f32⟩
  | .hbm, ⟨19, _⟩ => ⟨S1x4096x2x64, .f32⟩
  | .hbm, ⟨20, _⟩ => ⟨S4096x128, .f32⟩
  | .hbm, ⟨21, _⟩ => ⟨S1x4096x1x64, .f32⟩
  | .hbm, ⟨22, _⟩ => ⟨S1x4096x2x64, .f32⟩
  | .hbm, ⟨23, _⟩ => ⟨S4096x128, .f32⟩
  | .hbm, ⟨24, _⟩ => ⟨S4096x1024, .bf16⟩
  | .hbm, ⟨25, _⟩ => ⟨S4096x768, .bf16⟩
  | .hbm, ⟨26, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1280x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S512x768, .bf16⟩
  | .local _ .vmem, ⟨13, _⟩ => ⟨S512x768, .bf16⟩
  | .local _ .vmem, ⟨14, _⟩ => ⟨S512x512, .f32⟩
  | .local _ .vmem, ⟨15, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S4096x1024 : Shape := ⟨2, ![4096, 1024]⟩
abbrev S1x1024 : Shape := ⟨2, ![1, 1024]⟩
abbrev S1280x1024 : Shape := ⟨2, ![1280, 1024]⟩
abbrev S4096x8 : Shape := ⟨2, ![4096, 8]⟩
abbrev S_ : Shape := ⟨0, ![]⟩
abbrev S4096 : Shape := ⟨1, ![4096]⟩
abbrev S4096x1 : Shape := ⟨2, ![4096, 1]⟩
abbrev S1024x1280 : Shape := ⟨2, ![1024, 1280]⟩
abbrev S4096x1280 : Shape := ⟨2, ![4096, 1280]⟩
abbrev S4096x512 : Shape := ⟨2, ![4096, 512]⟩
abbrev S4096x8x64 : Shape := ⟨3, ![4096, 8, 64]⟩
abbrev S4096x1x8 : Shape := ⟨3, ![4096, 1, 8]⟩
abbrev S4096x8x8 : Shape := ⟨3, ![4096, 8, 8]⟩
abbrev S4096x8x48 : Shape := ⟨3, ![4096, 8, 48]⟩
abbrev S4096x128 : Shape := ⟨2, ![4096, 128]⟩
abbrev S4096x2x64 : Shape := ⟨3, ![4096, 2, 64]⟩
abbrev S4096x2x8 : Shape := ⟨3, ![4096, 2, 8]⟩
abbrev S4096x2x48 : Shape := ⟨3, ![4096, 2, 48]⟩
abbrev S4096x768 : Shape := ⟨2, ![4096, 768]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1280x1024, .bf16⟩
  | .hbm, ⟨3, _⟩ => ⟨S4096x8, .f32⟩
  | .hbm, ⟨4, _⟩ => ⟨S4096x8, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x1024, .f32⟩
  | .hbm, ⟨22, _⟩ => ⟨S1280x1024, .f32⟩
  | .hbm, ⟨23, _⟩ => ⟨S1024x1280, .f32⟩
  | .hbm, ⟨24, _⟩ => ⟨S4096x1280, .f32⟩
  | .hbm, ⟨25, _⟩ => ⟨S4096x512, .f32⟩
  | .hbm, ⟨26, _⟩ => ⟨S4096x8x64, .f32⟩
  | .hbm, ⟨27, _⟩ => ⟨S4096x1x8, .f32⟩
  | .hbm, ⟨28, _⟩ => ⟨S4096x1x8, .f32⟩
  | .hbm, ⟨29, _⟩ => ⟨S4096x8x8, .f32⟩
  | .hbm, ⟨30, _⟩ => ⟨S4096x8x8, .f32⟩
  | .hbm, ⟨31, _⟩ => ⟨S4096x8x48, .f32⟩
  | .hbm, ⟨32, _⟩ => ⟨S4096x8x8, .f32⟩
  | .hbm, ⟨33, _⟩ => ⟨S4096x8x8, .f32⟩
  | .hbm, ⟨34, _⟩ => ⟨S4096x8x8, .f32⟩
  | .hbm, ⟨35, _⟩ => ⟨S4096x8x8, .f32⟩
  | .hbm, ⟨36, _⟩ => ⟨S4096x8x8, .f32⟩
  | .hbm, ⟨37, _⟩ => ⟨S4096x8x8, .f32⟩
  | .hbm, ⟨38, _⟩ => ⟨S4096x8x8, .f32⟩
  | .hbm, ⟨39, _⟩ => ⟨S4096x8x8, .f32⟩
  | .hbm, ⟨40, _⟩ => ⟨S4096x8x8, .f32⟩
  | .hbm, ⟨41, _⟩ => ⟨S4096x8x8, .f32⟩
  | .hbm, ⟨42, _⟩ => ⟨S4096x8x64, .f32⟩
  | .hbm, ⟨43, _⟩ => ⟨S4096x128, .f32⟩
  | .hbm, ⟨44, _⟩ => ⟨S4096x2x64, .f32⟩
  | .hbm, ⟨45, _⟩ => ⟨S4096x1x8, .f32⟩
  | .hbm, ⟨46, _⟩ => ⟨S4096x1x8, .f32⟩
  | .hbm, ⟨47, _⟩ => ⟨S4096x2x8, .f32⟩
  | .hbm, ⟨48, _⟩ => ⟨S4096x2x8, .f32⟩
  | .hbm, ⟨49, _⟩ => ⟨S4096x2x48, .f32⟩
  | .hbm, ⟨50, _⟩ => ⟨S4096x2x8, .f32⟩
  | .hbm, ⟨51, _⟩ => ⟨S4096x2x8, .f32⟩
  | .hbm, ⟨52, _⟩ => ⟨S4096x2x8, .f32⟩
  | .hbm, ⟨53, _⟩ => ⟨S4096x2x8, .f32⟩
  | .hbm, ⟨54, _⟩ => ⟨S4096x2x8, .f32⟩
  | .hbm, ⟨55, _⟩ => ⟨S4096x2x8, .f32⟩
  | .hbm, ⟨56, _⟩ => ⟨S4096x2x8, .f32⟩
  | .hbm, ⟨57, _⟩ => ⟨S4096x2x8, .f32⟩
  | .hbm, ⟨58, _⟩ => ⟨S4096x2x8, .f32⟩
  | .hbm, ⟨59, _⟩ => ⟨S4096x2x8, .f32⟩
  | .hbm, ⟨60, _⟩ => ⟨S4096x2x64, .f32⟩
  | .hbm, ⟨61, _⟩ => ⟨S4096x512, .f32⟩
  | .hbm, ⟨62, _⟩ => ⟨S4096x128, .f32⟩
  | .hbm, ⟨63, _⟩ => ⟨S4096x128, .f32⟩
  | .hbm, ⟨64, _⟩ => ⟨S4096x512, .f32⟩
  | .hbm, ⟨65, _⟩ => ⟨S_, .f32⟩
  | .hbm, ⟨66, _⟩ => ⟨S4096x512, .f32⟩
  | .hbm, ⟨67, _⟩ => ⟨S4096x512, .f32⟩
  | .hbm, ⟨68, _⟩ => ⟨S4096x768, .f32⟩
  | .hbm, ⟨69, _⟩ => ⟨S4096x768, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_cst_2 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩

abbrev nD : Nat := 1
abbrev τ : Topo := Topo.v7x

variable {F : FTy → Type} [FloatOps F]
-- ==== Kernel15.lean ====
abbrev S4096x512 : Shape := ⟨2, ![4096, 512]⟩
abbrev S4096x128 : Shape := ⟨2, ![4096, 128]⟩
abbrev S1x8 : Shape := ⟨2, ![1, 8]⟩
abbrev S_ : Shape := ⟨0, ![]⟩
abbrev S4096x768 : Shape := ⟨2, ![4096, 768]⟩
abbrev S4096x8 : Shape := ⟨2, ![4096, 8]⟩
abbrev S128x512 : Shape := ⟨2, ![128, 512]⟩
abbrev S128x128 : Shape := ⟨2, ![128, 128]⟩
abbrev S128x8 : Shape := ⟨2, ![128, 8]⟩
abbrev S384x128 : Shape := ⟨2, ![384, 128]⟩
abbrev S512x384 : Shape := ⟨2, ![512, 384]⟩
abbrev S128x64 : Shape := ⟨2, ![128, 64]⟩
abbrev S512x64 : Shape := ⟨2, ![512, 64]⟩
abbrev S384x64 : Shape := ⟨2, ![384, 64]⟩
abbrev S512x1 : Shape := ⟨2, ![512, 1]⟩
abbrev S1x1 : Shape := ⟨2, ![1, 1]⟩
abbrev S512 : Shape := ⟨1, ![512]⟩
abbrev S128x1 : Shape := ⟨2, ![128, 1]⟩

abbrev nBuf : Space → Nat
  | .hbm => 11
  | .vmem => 18
  | .smem => 1
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S1x8, .f32⟩
  | .hbm, ⟨4, _⟩ => ⟨S_, .f32⟩
  | .hbm, ⟨5, _⟩ => ⟨S4096x512, .f32⟩
  | .hbm, ⟨6, _⟩ => ⟨S4096x512, .f32⟩
  | .hbm, ⟨7, _⟩ => ⟨S4096x768, .f32⟩
  | .hbm, ⟨8, _⟩ => ⟨S4096x768, .bf16⟩
  | .hbm, ⟨9, _⟩ => ⟨S4096x512, .f32⟩
  | .hbm, ⟨10, _⟩ => ⟨S4096x8, .f32⟩
  | .local _ .vmem, ⟨0, _⟩ => ⟨S128x512, .bf16⟩
  | .local _ .vmem, ⟨1, _⟩ => ⟨S128x512, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x128, .bf16⟩
  | .local _ .vmem, ⟨14, _⟩ => ⟨S128x512, .f32⟩
  | .local _ .vmem, ⟨15, _⟩ => ⟨S128x512, .f32⟩
  | .local _ .vmem, ⟨16, _⟩ => ⟨S128x8, .f32⟩
  | .local _ .vmem, ⟨17, _⟩ => ⟨S128x8, .f32⟩
  | .local _ .smem, ⟨0, _⟩ => ⟨S1x8, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c4_i32 : BitVec 32 := 4#32
  let c0_i32 : BitVec 32 := 0#32
  ![v1.toNat, c4_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c5_i32 : BitVec 32 := 5#32
  let c0_i32 : BitVec 32 := 0#32
  ![v1.toNat, c5_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel15Ideal.lean ====
variable {F : FTy → Type} [FloatOps F] [Named F]
def κ : String → Option EReal := fun
  | "mask" => some ⊥
  | _ => none
-- ==== Reference15Ideal.lean ====
abbrev S4096x512 : Shape := ⟨2, ![4096, 512]⟩
abbrev S4096x128 : Shape := ⟨2, ![4096, 128]⟩
abbrev S1x8 : Shape := ⟨2, ![1, 8]⟩
abbrev S32x128x2x4x64 : Shape := ⟨5, ![32, 128, 2, 4, 64]⟩
abbrev S_ : Shape := ⟨0, ![]⟩
abbrev S128x128 : Shape := ⟨2, ![128, 128]⟩
abbrev S4352x128 : Shape := ⟨2, ![4352, 128]⟩
abbrev S34x128x2x64 : Shape := ⟨4, ![34, 128, 2, 64]⟩
abbrev S32x128x2x64 : Shape := ⟨4, ![32, 128, 2, 64]⟩
abbrev S32x384x2x64 : Shape := ⟨4, ![32, 384, 2, 64]⟩
abbrev S32x2x384x128x4 : Shape := ⟨5, ![32, 2, 384, 128, 4]⟩
abbrev S32x2x4x128x384 : Shape := ⟨5, ![32, 2, 4, 128, 384]⟩
abbrev S32 : Shape := ⟨1, ![32]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S384 : Shape := ⟨1, ![384]⟩
abbrev S1x384 : Shape := ⟨2, ![1, 384]⟩
abbrev S32x384 : Shape := ⟨2, ![32, 384]⟩
abbrev S32x1x384 : Shape := ⟨3, ![32, 1, 384]⟩
abbrev S32x128x1 : Shape := ⟨3, ![32, 128, 1]⟩
abbrev S32x128x384 : Shape := ⟨3, ![32, 128, 384]⟩
abbrev S32x1x1x128x384 : Shape := ⟨5, ![32, 1, 1, 128, 384]⟩
abbrev S2x4 : Shape := ⟨2, ![2, 4]⟩
abbrev S1x2x4x1x1 : Shape := ⟨5, ![1, 2, 4, 1, 1]⟩
abbrev S32x2x4x128 : Shape := ⟨4, ![32, 2, 4, 128]⟩
abbrev S32x2x4x128x1 : Shape := ⟨5, ![32, 2, 4, 128, 1]⟩
abbrev S32x2x64x4x128 : Shape := ⟨5, ![32, 2, 64, 4, 128]⟩
abbrev S32x128x2x4x1 : Shape := ⟨5, ![32, 128, 2, 4, 1]⟩
abbrev S4096x8 : Shape := ⟨2, ![4096, 8]⟩

abbrev nBuf : Space → Nat
  | .hbm => 102
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S1x8, .f32⟩
  | .hbm, ⟨4, _⟩ => ⟨S32x128x2x4x64, .f32⟩
  | .hbm, ⟨5, _⟩ => ⟨S_, .f32⟩
  | .hbm, ⟨6, _⟩ => ⟨S128x128, .f32⟩
  | .hbm, ⟨7, _⟩ => ⟨S4352x128, .f32⟩
  | .hbm, ⟨8, _⟩ => ⟨S34x128x2x64, .f32⟩
  | .hbm, ⟨9, _⟩ => ⟨S32x128x2x64, .f32⟩
  | .hbm, ⟨10, _⟩ => ⟨S32x128x2x64, .f32⟩
  | .hbm, ⟨11, _⟩ => ⟨S32x128x2x64, .f32⟩
  | .hbm, ⟨12, _⟩ => ⟨S32x384x2x64, .f32⟩
  | .hbm, ⟨13, _⟩ => ⟨S_, .f32⟩
  | .hbm, ⟨14, _⟩ => ⟨S128x128, .f32⟩
  | .hbm, ⟨15, _⟩ => ⟨S4352x128, .f32⟩
  | .hbm, ⟨16, _⟩ => ⟨S34x128x2x64, .f32⟩
  | .hbm, ⟨17, _⟩ => ⟨S32x128x2x64, .f32⟩
  | .hbm, ⟨18, _⟩ => ⟨S32x128x2x64, .f32⟩
  | .hbm, ⟨19, _⟩ => ⟨S32x128x2x64, .f32⟩
  | .hbm, ⟨20, _⟩ => ⟨S32x384x2x64, .f32⟩
  | .hbm, ⟨21, _⟩ => ⟨S32x2x384x128x4, .f32⟩
  | .hbm, ⟨22, _⟩ => ⟨S32x2x4x128x384, .f32⟩
  | .hbm, ⟨23, _⟩ => ⟨S_, .f32⟩
  | .hbm, ⟨24, _⟩ => ⟨S32x2x4x128x384, .f32⟩
  | .hbm, ⟨25, _⟩ => ⟨S32x2x4x128x384, .f32⟩
  | .hbm, ⟨26, _⟩ => ⟨S32, .i32⟩
  | .hbm, ⟨27, _⟩ => ⟨S32x1, .i32⟩
  | .hbm, ⟨28, _⟩ => ⟨S_, .i32⟩
  | .hbm, ⟨29, _⟩ => ⟨S32x1, .i32⟩
  | .hbm, ⟨30, _⟩ => ⟨S32x1, .i32⟩
  | .hbm, ⟨31, _⟩ => ⟨S128, .i32⟩
  | .hbm, ⟨32, _⟩ => ⟨S1x128, .i32⟩
  | .hbm, ⟨33, _⟩ => ⟨S32x128, .i32⟩
  | .hbm, ⟨34, _⟩ => ⟨S32x128, .i32⟩
  | .hbm, ⟨35, _⟩ => ⟨S32x128, .i32⟩
  | .hbm, ⟨36, _⟩ => ⟨S32, .i32⟩
  | .hbm, ⟨37, _⟩ => ⟨S32x1, .i32⟩
  | .hbm, ⟨38, _⟩ => ⟨S_, .i32⟩
  | .hbm, ⟨39, _⟩ => ⟨S32x1, .i32⟩
  | .hbm, ⟨40, _⟩ => ⟨S32x1, .i32⟩
  | .hbm, ⟨41, _⟩ => ⟨S_, .i32⟩
  | .hbm, ⟨42, _⟩ => ⟨S32x1, .i32⟩
  | .hbm, ⟨43, _⟩ => ⟨S32x1, .i32⟩
  | .hbm, ⟨44, _⟩ => ⟨S384, .i32⟩
  | .hbm, ⟨45, _⟩ => ⟨S1x384, .i32⟩
  | .hbm, ⟨46, _⟩ => ⟨S32x384, .i32⟩
  | .hbm, ⟨47, _⟩ => ⟨S32x384, .i32⟩
  | .hbm, ⟨48, _⟩ => ⟨S32x384, .i32⟩
  | .hbm, ⟨49, _⟩ => ⟨S32x1x384, .i32⟩
  | .hbm, ⟨50, _⟩ => ⟨S32x128x1, .i32⟩
  | .hbm, ⟨51, _⟩ => ⟨S32x128x384, .i32⟩
  | .hbm, ⟨52, _⟩ => ⟨S32x128x384, .i32⟩
  | .hbm, ⟨53, _⟩ => ⟨S32x128x384, .i32⟩
  | .hbm, ⟨54, _⟩ => ⟨S32x128x384, .i32⟩
  | .hbm, ⟨55, _⟩ => ⟨S_, .i32⟩
  | .hbm, ⟨56, _⟩ => ⟨S32x128x384, .i32⟩
  | .hbm, ⟨57, _⟩ => ⟨S32x128x384, .i1⟩
  | .hbm, ⟨58, _⟩ => ⟨S32x1x384, .i32⟩
  | .hbm, ⟨59, _⟩ => ⟨S_, .i32⟩
  | .hbm, ⟨60, _⟩ => ⟨S32x1x384, .i32⟩
  | .hbm, ⟨61, _⟩ => ⟨S32x1x384, .i1⟩
  | .hbm, ⟨62, _⟩ => ⟨S32x128x384, .i1⟩
  | .hbm, ⟨63, _⟩ => ⟨S32x128x384, .i1⟩
  | .hbm, ⟨64, _⟩ => ⟨S32x1x384, .i32⟩
  | .hbm, ⟨65, _⟩ => ⟨S_, .i32⟩
  | .hbm, ⟨66, _⟩ => ⟨S32x1x384, .i32⟩
  | .hbm, ⟨67, _⟩ => ⟨S32x1x384, .i1⟩
  | .hbm, ⟨68, _⟩ => ⟨S32x128x384, .i1⟩
  | .hbm, ⟨69, _⟩ => ⟨S32x128x384, .i1⟩
  | .hbm, ⟨70, _⟩ => ⟨S32x1x1x128x384, .i1⟩
  | .hbm, ⟨71, _⟩ => ⟨S_, .f32⟩
  | .hbm, ⟨72, _⟩ => ⟨S_, .f32⟩
  | .hbm, ⟨73, _⟩ => ⟨S32x2x4x128x384, .i1⟩
  | .hbm, ⟨74, _⟩ => ⟨S32x2x4x128x384, .f32⟩
  | .hbm, ⟨75, _⟩ => ⟨S32x2x4x128x384, .f32⟩
  | .hbm, ⟨76, _⟩ => ⟨S2x4, .f32⟩
  | .hbm, ⟨77, _⟩ => ⟨S1x2x4x1x1, .f32⟩
  | .hbm, ⟨78, _⟩ => ⟨S_, .f32⟩
  | .hbm, ⟨79, _⟩ => ⟨S32x2x4x128, .f32⟩
  | .hbm, ⟨80, _⟩ => ⟨S32x2x4x128x1, .f32⟩
  | .hbm, ⟨81, _⟩ => ⟨S32x2x4x128x1, .f32⟩
  | .hbm, ⟨82, _⟩ => ⟨S32x2x4x128x1, .f32⟩
  | .hbm, ⟨83, _⟩ => ⟨S32x2x4x128x384, .f32⟩
  | .hbm, ⟨84, _⟩ => ⟨S32x2x4x128x384, .f32⟩
  | .hbm, ⟨85, _⟩ => ⟨S32x2x4x128x384, .f32⟩
  | .hbm, ⟨86, _⟩ => ⟨S_, .f32⟩
  | .hbm, ⟨87, _⟩ => ⟨S32x2x4x128, .f32⟩
  | .hbm, ⟨88, _⟩ => ⟨S32x2x4x128x1, .f32⟩
  | .hbm, ⟨89, _⟩ => ⟨S32x2x4x128x1, .f32⟩
  | .hbm, ⟨90, _⟩ => ⟨S32x2x4x128x1, .f32⟩
  | .hbm, ⟨91, _⟩ => ⟨S32x2x4x128x1, .f32⟩
  | .hbm, ⟨92, _⟩ => ⟨S32x2x4x128x1, .f32⟩
  | .hbm, ⟨93, _⟩ => ⟨S32x2x4x128x384, .f32⟩
  | .hbm, ⟨94, _⟩ => ⟨S32x2x4x128x384, .f32⟩
  | .hbm, ⟨95, _⟩ => ⟨S32x2x64x4x128, .f32⟩
  | .hbm, ⟨96, _⟩ => ⟨S32x128x2x4x64, .f32⟩
  | .hbm, ⟨97, _⟩ => ⟨S32x2x4x128x1, .f32⟩
  | .hbm, ⟨98, _⟩ => ⟨S32x2x4x128x1, .f32⟩
  | .hbm, ⟨99, _⟩ => ⟨S32x128x2x4x1, .f32⟩
  | .hbm, ⟨100, _⟩ => ⟨S4096x8, .f32⟩
  | .hbm, ⟨101, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_2 : Ref sig .tc := ⟨.hbm, 38, rfl⟩
abbrev main_v30 : Ref sig .tc := ⟨.hbm, 39, rfl⟩
abbrev main_v31 : Ref sig .tc := ⟨.hbm, 40, rfl⟩
abbrev main_c_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_c_4 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_c_5 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_c_6 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_7 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_8 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_9 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩

abbrev nD : Nat := 1
abbrev τ : Topo := Topo.v7x

variable {F : FTy → Type} [FloatOps F]
-- ==== Kernel16.lean ====
abbrev S4096x512 : Shape := ⟨2, ![4096, 512]⟩
abbrev S1x512 : Shape := ⟨2, ![1, 512]⟩
abbrev S512x512 : Shape := ⟨2, ![512, 512]⟩

abbrev nBuf : Space → Nat
  | .hbm => 7
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S512x512, .bf16⟩
  | .hbm, ⟨4, _⟩ => ⟨S4096x512, .f32⟩
  | .hbm, ⟨5, _⟩ => ⟨S4096x512, .f32⟩
  | .hbm, ⟨6, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S4096x512 : Shape := ⟨2, ![4096, 512]⟩
abbrev S1x512 : Shape := ⟨2, ![1, 512]⟩
abbrev S512x512 : Shape := ⟨2, ![512, 512]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S512x512, .bf16⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S512x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S_, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096x512, .f32⟩
  | .hbm, ⟨25, _⟩ => ⟨S4096x512, .f32⟩
  | .hbm, ⟨26, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.Rows.lean ====
/- Matrices read at natural-number coordinates, zero outside; extended reals that are real numbers. -/
module

public import Idealize.ShloMosaic.Lib.Pointwise
public import Idealize.ShloMosaic.Lib.KernelVsHost
public import Idealize.ShloMosaic.Lib.IdealHost
public import Idealize.ShloMosaic.PureOps

@[expose] public section

noncomputable section

namespace Cert.Rows

open Idealize.ShloMosaic

variable {n0 n1 : Nat}

/-- Entry `(r, c)` of a matrix, zero outside its shape. -/
def rd (X : (⟨2, ![n0, n1]⟩ : Shape).Idx → EReal) (r c : Nat) : EReal :=
  if h : r < n0 ∧ c < n1 then X (ix2 ⟨r, h.1⟩ ⟨c, h.2⟩) else 0

theorem rd_of_lt (X : (⟨2, ![n0, n1]⟩ : Shape).Idx → EReal) {r c : Nat} (hr : r < n0) (hc : c < n1) :
    rd X r c = X (ix2 ⟨r, hr⟩ ⟨c, hc⟩) := dif_pos ⟨hr, hc⟩

theorem rd_of_ge (X : (⟨2, ![n0, n1]⟩ : Shape).Idx → EReal) {r c : Nat} (hr : n0 ≤ r) : rd X r c = 0 :=
  dif_neg fun h => absurd h.1 (Nat.not_lt.2 hr)

/-- An entry is the reading at its coordinates. -/
theorem eq_rd (X : (⟨2, ![n0, n1]⟩ : Shape).Idx → EReal) (a : Fin n0) (b : Fin n1) : X (ix2 a b) = rd X a.val b.val :=
  (rd_of_lt X a.isLt b.isLt).symm

theorem rd_of_emb (X : (⟨2, ![n0, n1]⟩ : Shape).Idx → EReal) (i : (⟨2, ![n0, n1]⟩ : Shape).Idx) {r c : Nat}
    (hr : (i 0).val = r) (hc : (i 1).val = c) : X i = rd X r c := by
  subst hr hc
  rw [← eq_rd X (i 0) (i 1)]
  exact congrArg X (eq_ix2 i)

/-- The matrix below eight rows of zeros (and above zeros): row `ρ` of the extension is row `ρ - 8` of the matrix. -/
def ext (X : (⟨2, ![n0, n1]⟩ : Shape).Idx → EReal) (ρ c : Nat) : EReal := if 8 ≤ ρ then rd X (ρ - 8) c else 0

theorem ext_add (X : (⟨2, ![n0, n1]⟩ : Shape).Idx → EReal) (r c : Nat) : ext X (r + 8) c = rd X r c := by
  unfold ext; rw [if_pos (by omega), Nat.add_sub_cancel]

/-- A matrix padded with zeros, without gaps: the reading behind the padding. -/
theorem pad_rd {m0 m1 : Nat} (l0 l1 : Nat) (hi : Fin 2 → Nat) (x : (⟨2, ![n0, n1]⟩ : Shape).Idx → EReal) {u : Shape} (v : u.Idx → EReal)
    (h : (⟨2, ![n0, n1]⟩ : Shape).Pads ![l0, l1] hi ![0, 0] ⟨2, ![m0, m1]⟩) (hu : 0 < u.numel) (hv : v (Shape.Idx.first hu) = 0)
    (r : Fin m0) (c : Fin m1) :
    pad ⟨2, ![m0, m1]⟩ ![l0, l1] hi ![0, 0] x v h hu (ix2 r c) = if l0 ≤ r.val ∧ l1 ≤ c.val then rd x (r.val - l0) (c.val - l1) else 0 := by
  by_cases hin : l0 ≤ r.val ∧ l1 ≤ c.val ∧ r.val - l0 < n0 ∧ c.val - l1 < n1
  · obtain ⟨h0, h1, h2, h3⟩ := hin
    rw [if_pos ⟨h0, h1⟩, rd_of_lt x h2 h3]
    refine pad_apply_of_inside _ _ _ x v h hu _ _ fun a => ?_
    fin_cases a
    · show r.val = l0 + (r.val - l0) * (0 + 1)
      omega
    · show c.val = l1 + (c.val - l1) * (0 + 1)
      omega
  · have hz : (if l0 ≤ r.val ∧ l1 ≤ c.val then rd x (r.val - l0) (c.val - l1) else 0) = 0 := by
      split
      · next hh => exact dif_neg fun h4 => hin ⟨hh.1, hh.2, h4.1, h4.2⟩
      · rfl
    rw [hz]
    by_cases hr : l0 ≤ r.val ∧ r.val - l0 < n0
    · refine (pad_apply_of_not_inside _ _ _ x v h hu _ (1 : Fin 2) fun hc => hin ?_).trans hv
      have h1 : l1 ≤ c.val := hc.1
      have h2 : (c.val - l1) / (0 + 1) < n1 := hc.2.2
      exact ⟨hr.1, h1, hr.2, by omega⟩
    · refine (pad_apply_of_not_inside _ _ _ x v h hu _ (0 : Fin 2) fun hc => hr ?_).trans hv
      have h1 : l0 ≤ r.val := hc.1
      have h2 : (r.val - l0) / (0 + 1) < n0 := hc.2.2
      exact ⟨h1, by omega⟩

/-! ## Real values -/

/-- The extended real is a real number. -/
def IsReal (x : EReal) : Prop := ∃ r : ℝ, x = (r : EReal)

theorem IsReal.zero : IsReal 0 := ⟨0, rfl⟩
theorem IsReal.one : IsReal 1 := ⟨1, rfl⟩
theorem IsReal.coe (r : ℝ) : IsReal (r : EReal) := ⟨r, rfl⟩

theorem IsReal.add {x y : EReal} : IsReal x → IsReal y → IsReal (x + y) := by
  rintro ⟨a, rfl⟩ ⟨b, rfl⟩; exact ⟨a + b, by push_cast; rfl⟩

theorem IsReal.mul {x y : EReal} : IsReal x → IsReal y → IsReal (x * y) := by
  rintro ⟨a, rfl⟩ ⟨b, rfl⟩; exact ⟨a * b, by push_cast; rfl⟩

theorem IsReal.neg {x : EReal} : IsReal x → IsReal (-x) := by
  rintro ⟨a, rfl⟩; exact ⟨-a, by push_cast; rfl⟩

theorem IsReal.sub {x y : EReal} : IsReal x → IsReal y → IsReal (x - y) := by
  rintro ⟨a, rfl⟩ ⟨b, rfl⟩; exact ⟨a - b, by push_cast; rfl⟩

theorem IsReal.sum {ι : Type*} (s : Finset ι) {f : ι → EReal} (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The logistic function of a real number is a real number. -/
theorem IsReal.logistic {x : EReal} : IsReal x → IsReal (Ideal.div 1 (1 + Ideal.exp (-x))) := by
  rintro ⟨a, rfl⟩
  exact ⟨_, Ideal.logistic_coe a⟩

theorem IsReal.rd {X : (⟨2, ![n0, n1]⟩ : Shape).Idx → EReal} (h : ∀ i, IsReal (X i)) (r c : Nat) : IsReal (rd X r c) := by
  unfold Rows.rd; split
  · exact h _
  · exact IsReal.zero

theorem IsReal.ext {X : (⟨2, ![n0, n1]⟩ : Shape).Idx → EReal} (h : ∀ i, IsReal (X i)) (r c : Nat) : IsReal (ext X r c) := by
  unfold Rows.ext; split
  · exact IsReal.rd h _ _
  · exact IsReal.zero

/-- `|x| < +∞` says that `x` is real. -/
theorem isReal_of_abs_lt {x : Ideal .f32}
    (h : FloatOps.cmpf .olt (FloatOps.hostAbsf x) (FloatOps.ofBits (F := Ideal) .f32 0x7F800000#32) = 1#1) : IsReal x := by
  rw [← Ideal.xori_weird_eq_hostAbsf_olt_inf] at h
  have hx : ¬ ((x : EReal) = ⊤ ∨ (x : EReal) = ⊥) := by
    intro hc
    rw [show FloatOps.weird x = 1#1 from congrArg BitVec.ofBool (decide_eq_true hc)] at h
    exact absurd h (by decide)
  push Not at hx
  exact ⟨EReal.toReal x, (EReal.coe_toReal hx.1 hx.2).symm⟩

/-! ## A conjunction over an array -/

private theorem foldl_andi {ι : Type} (g : ι → BitVec 1) : ∀ (l : List ι) (a : BitVec 1),
    l.foldl (fun r n => IntOp.andi r (g n)) a = 1#1 → a = 1#1 ∧ ∀ n ∈ l, g n = 1#1
  | [], _, h => ⟨h, by simp⟩
  | n :: l, a, h => by
    obtain ⟨h1, h2⟩ := foldl_andi g l _ h
    have : a = 1#1 ∧ g n = 1#1 := by
      revert h1; show IntOp.andi a (g n) = 1#1 → _; clear h h2 foldl_andi; generalize g n = b; revert a b; decide
    exact ⟨this.1, List.forall_mem_cons.2 ⟨this.2, h2⟩⟩

/-- A conjunction over a whole array that is true is true at every element. -/
theorem forall_of_reduce_andi {s : Shape} {axes : List (Fin s.rank)} {u : Shape} (x : IVec s 1) (init : IVec u 1)
    (h : s.ReducesTo axes (⟨0, ![]⟩ : Shape)) (hu : 0 < u.numel) (j : (⟨0, ![]⟩ : Shape).Idx)
    (hr : Host.reduce IntOp.andi x init h hu j = 1#1) (i : s.Idx) : x i = 1#1 := by
  have := (foldl_andi (fun n => x (s.rowMajor.symm n)) _ _ hr).2 (s.rowMajor i)
    (List.mem_filter.2 ⟨List.mem_finRange _, decide_eq_true (funext fun a => a.elim0)⟩)
  simpa using this

theorem andi_eq_one {a b : BitVec 1} : IntOp.andi a b = 1#1 → a = 1#1 ∧ b = 1#1 := by revert a b; decide

/-! ## Sums over blocks of rows -/

/-- A sum over `B` blocks of `T` rows is the sum over all rows. -/
theorem sum_blocks {M : Type*} [AddCommMonoid M] (B T : Nat) (f : Nat → M) :
    ∑ b : Fin B, ∑ r : Fin T, f (T * b.val + r.val) = ∑ r : Fin (B * T), f r.val := by
  rw [Fin.sum_univ_tiles B T rfl (fun r => f r.val)]
  refine Finset.sum_congr rfl fun b _ => Finset.sum_congr rfl fun r _ => ?_
  simp [Nat.mul_comm]

end Cert.Rows

end
-- ==== Proof.ConvBwd.Math.lean ====
/- The gradient of the gated convolution in closed form. Rows are counted from eight above the first: row `r` of an array is
   row `ρ = r + 8` here, and the rows outside the array are zero (`ext`). The columns `0 … 2815` are the gate's,
   `2816 … 5631` the value's. -/
module

public import proofs.«01_k».proof.Proof.Rows

@[expose] public section

noncomputable section

namespace Cert.ConvBwd

open Idealize.ShloMosaic Cert.Rows

/-- The logistic function, as both programs spell it. -/
def sgm (x : EReal) : EReal := Ideal.div 1 (1 + Ideal.exp (-x))

variable (U : (⟨2, ![4096, 5632]⟩ : Shape).Idx → EReal) (X : (⟨2, ![4096, 1024]⟩ : Shape).Idx → EReal)
  (W : (⟨2, ![2816, 1024]⟩ : Shape).Idx → EReal) (CW : (⟨2, ![3, 5632]⟩ : Shape).Idx → EReal) (CB : (⟨2, ![1, 5632]⟩ : Shape).Idx → EReal)

/-- The convolution along the rows: three taps and a bias. -/
def conv (ρ C : Nat) : EReal :=
  rd CW 0 C * ext U (ρ - 1) C + rd CW 1 C * ext U ρ C + rd CW 2 C * ext U (ρ + 1) C + rd CB 0 C

/-- The cotangent times the transposed down projection. -/
def de (ρ c : Nat) : EReal := ∑ k : Fin 1024, ext X ρ k.val * rd W c k.val

/-- The gradient of the gate. -/
def dgate (ρ c : Nat) : EReal :=
  de X W ρ c * conv U CW CB ρ (c + 2816) * (sgm (conv U CW CB ρ c) + conv U CW CB ρ c * sgm (conv U CW CB ρ c) * (1 - sgm (conv U CW CB ρ c)))

/-- The gradient of the value. -/
def dval (ρ c : Nat) : EReal := de X W ρ c * (conv U CW CB ρ c * sgm (conv U CW CB ρ c))

/-- The gradient of the convolution's output. -/
def dup (ρ C : Nat) : EReal := if C < 2816 then dgate U X W CW CB ρ C else dval U X W CW CB ρ (C - 2816)

/-- The gradient of the convolution's input. -/
def dpre (ρ C : Nat) : EReal :=
  rd CW 0 C * dup U X W CW CB (ρ + 1) C + rd CW 1 C * dup U X W CW CB ρ C + rd CW 2 C * dup U X W CW CB (ρ - 1) C

/-- What row `r` adds to line `k` of the gradients of the taps (`k = 0, 1, 2`) and the bias (`k = 3`). -/
def term (k r C : Nat) : EReal :=
  if k = 3 then dup U X W CW CB (r + 8) C
  else if k = 2 then dup U X W CW CB (r + 8) C * ext U (r + 8 + 1) C
  else if k = 1 then dup U X W CW CB (r + 8) C * ext U (r + 8) C
  else if k = 0 then dup U X W CW CB (r + 8) C * ext U (r + 8 - 1) C else 0

end Cert.ConvBwd

end
-- ==== Proof.ConvBwd.Payload.lean ====
/- What the body of the gated convolution's backward call computes on one block, row by row: each value of the body is a
   function of the row and the column on the rows where no shift has wrapped around. -/
module

public import proofs.«01_k».proof.Proof.Gen.KernelIdeal.Frame
public import proofs.«01_k».proof.Proof.ConvBwd.Math

@[expose] public section

noncomputable section

namespace Cert.ConvBwd

open Idealize.ShloMosaic Cert.KernelIdeal Cert.KernelIdeal.Gen Cert.Rows

/-- Rows `lo` to `hi` of a matrix are those of `f`. -/
def On {n k : Nat} (v : (⟨2, ![n, k]⟩ : Shape).Idx → EReal) (f : Nat → Nat → EReal) (lo hi : Nat) : Prop :=
  ∀ (e : Fin n) (q : Fin k), lo ≤ e.val → e.val < hi → v (ix2 e q) = f e.val q.val

/-- The one row of a `1 × k` matrix is `b`. -/
def Row {k : Nat} (v : (⟨2, ![1, k]⟩ : Shape).Idx → EReal) (b : Nat → EReal) : Prop := ∀ q : Fin k, v (ix2 0 q) = b q.val

/-! ## Shifts -/

theorem shiftDn {v : FVec Ideal S1040x256 .f32} {f : Nat → Nat → EReal} {lo hi : Nat} (h : On v f lo hi) :
    On (dynamicRotate 0 1#32 none v rotates_S1040x256_d0) (fun e q => f (e - 1) q) (lo + 1) (hi + 1) := by
  intro e q h0 h1
  have he := e.isLt
  rw [dynamicRotate_apply 0 1#32 v _ (ix2 e q) (ix2 ⟨e.val - 1, by omega⟩ q) (by
    intro b
    fin_cases b
    · show e.val - 1 = (e.val + 1040 - 1 % 1040) % 1040; omega
    · rfl)]
  exact h ⟨e.val - 1, by omega⟩ q (by show lo ≤ e.val - 1; omega) (by show e.val - 1 < hi; omega)

theorem shiftUp {v : FVec Ideal S1040x256 .f32} {f : Nat → Nat → EReal} {lo hi : Nat} (h : On v f (lo + 1) (hi + 1)) (hh : hi < 1040) :
    On (dynamicRotate 0 1039#32 none v rotates_S1040x256_d0) (fun e q => f (e + 1) q) lo hi := by
  intro e q h0 h1
  have he := e.isLt
  rw [dynamicRotate_apply 0 1039#32 v _ (ix2 e q) (ix2 ⟨e.val + 1, by omega⟩ q) (by
    intro b
    fin_cases b
    · show e.val + 1 = (e.val + 1040 - 1039 % 1040) % 1040; omega
    · rfl)]
  exact h ⟨e.val + 1, by omega⟩ q (by show lo + 1 ≤ e.val + 1; omega) (by show e.val + 1 < hi + 1; omega)

/-! ## The extended blocks -/

theorem first_eq (a : Nat) (ha : a < 4) : (Scalar.cmpi .eq (BitVec.ofNat 32 a) 0#32 : BitVec 1) = if a = 0 then 1#1 else 0#1 := by
  interval_cases a <;> rfl
theorem last_eq (a : Nat) (ha : a < 4) : (Scalar.cmpi .eq (BitVec.ofNat 32 a) 3#32 : BitVec 1) = if a = 3 then 1#1 else 0#1 := by
  interval_cases a <;> rfl

theorem select_if {α : Type} (p : Prop) [Decidable p] (x y : α) : Scalar.select (if p then 1#1 else 0#1) x y = if p then x else y := by
  split <;> rfl

variable (i : grid0.Coords) {f : Nat → Nat → EReal}

theorem pay3_on {p n : Vec Ideal S8x256 .f32} {x : Vec Ideal S1024x256 .f32}
    (hp : (i 0).val ≠ 0 → On p f 0 8) (hx : On x (fun e => f (e + 8)) 0 1024) (hn : (i 0).val ≠ 3 → On n (fun e => f (e + 1032)) 0 8)
    (hz : (i 0).val = 0 → ∀ e q, e < 8 → f e q = 0) (hl : (i 0).val = 3 → ∀ e q, 1032 ≤ e → f e q = 0) :
    On (k0_pay3 i p n x) f 0 1040 := by
  intro e q _ he
  have h4 : (i 0).val < 4 := (i 0).isLt
  unfold k0_pay3
  pointwise
  rw [first_eq _ h4, last_eq _ h4]
  simp only [select_if]
  by_cases h1 : e.val < 8
  · rw [dif_pos h1]
    by_cases h2 : (i 0).val = 0
    · rw [if_pos h2]; exact (hz h2 _ _ h1).symm
    · rw [if_neg h2]; exact hp h2 ⟨e.val, h1⟩ q (Nat.zero_le _) h1
  · rw [dif_neg h1]
    by_cases h3 : e.val - 8 < 1024
    · rw [dif_pos h3]
      refine (hx ⟨e.val - 8, h3⟩ q (Nat.zero_le _) h3).trans (congrArg (f · _) ?_)
      show e.val - 8 + 8 = e.val; omega
    · rw [dif_neg h3]
      by_cases h2 : (i 0).val = 3
      · rw [if_pos h2]; exact (hl h2 _ _ (by omega)).symm
      · rw [if_neg h2]
        refine (hn h2 ⟨e.val - 8 - 1024, by omega⟩ q (Nat.zero_le _) (by show e.val - 8 - 1024 < 8; omega)).trans (congrArg (f · _) ?_)
        show e.val - 8 - 1024 + 1032 = e.val; omega

theorem pay4_eq (p n : Vec Ideal S8x256 .f32) (x : Vec Ideal S1024x256 .f32) : k0_pay4 i p n x = k0_pay3 i p n x := rfl

/-- The product of the extended rows of the cotangent with the rows of the down projection. -/
theorem pay5_on {p n : Vec Ideal S16x1024 .bf16} {x : Vec Ideal S1024x1024 .bf16} {w : Vec Ideal S256x1024 .bf16} {g ω : Nat → Nat → EReal}
    (hp : (i 0).val ≠ 0 → On p g 0 16) (hx : On x (fun e => g (e + 16)) 0 1024) (hn : (i 0).val ≠ 3 → On n (fun e => g (e + 1040)) 0 16)
    (hz : (i 0).val = 0 → ∀ e q, e < 16 → g e q = 0) (hl : (i 0).val = 3 → ∀ e q, 1040 ≤ e → g e q = 0) (hw : On w ω 0 256) :
    On (k0_pay5 i p x n w) (fun e q => ∑ k : Fin 1024, g (e + 8) k.val * ω q k.val) 0 1040 := by
  intro e q _ he
  have h4 : (i 0).val < 4 := (i 0).isLt
  unfold k0_pay5
  pointwise
  rw [first_eq _ h4, last_eq _ h4]
  simp only [select_if]
  refine Finset.sum_congr rfl fun k _ => congrArg₂ (· * ·) ?_ (hw q k (Nat.zero_le _) q.isLt)
  by_cases h1 : 8 + e.val < 16
  · rw [dif_pos h1]
    by_cases h2 : (i 0).val = 0
    · rw [if_pos h2]; exact (hz h2 _ _ (by omega)).symm
    · rw [if_neg h2]; exact (hp h2 ⟨8 + e.val, h1⟩ k (Nat.zero_le _) h1).trans (congrArg (g · _) (Nat.add_comm _ _))
  · rw [dif_neg h1]
    by_cases h3 : 8 + e.val - 16 < 1024
    · rw [dif_pos h3]
      refine (hx ⟨8 + e.val - 16, h3⟩ k (Nat.zero_le _) h3).trans (congrArg (g · _) ?_)
      show 8 + e.val - 16 + 16 = e.val + 8; omega
    · rw [dif_neg h3]
      by_cases h2 : (i 0).val = 3
      · rw [if_pos h2]; exact (hl h2 _ _ (by omega)).symm
      · rw [if_neg h2]
        refine (hn h2 ⟨8 + e.val - 16 - 1024, by omega⟩ k (Nat.zero_le _) (by show 8 + e.val - 16 - 1024 < 16; omega)).trans (congrArg (g · _) ?_)
        show 8 + e.val - 16 - 1024 + 1040 = e.val + 8; omega

/-! ## The convolution and the gate -/

theorem pay10_on {v9 v28 : FVec Ideal S1040x256 .f32} {w0 w1 w2 b : Vec Ideal S1x256 .f32} {ω0 ω1 ω2 β : Nat → EReal}
    (h9 : On v9 f 0 1040) (h28 : On v28 (fun e => f (e - 1)) 1 1040) (hw0 : Row w0 ω0) (hw1 : Row w1 ω1) (hw2 : Row w2 ω2) (hb : Row b β) :
    On (k0_pay10 v9 v28 w0 w1 w2 b) (fun e q => ω0 q * f (e - 1) q + ω1 q * f e q + ω2 q * f (e + 1) q + β q) 1 1039 := by
  intro e q h0 h1
  unfold k0_pay10 k0_pay7
  have hu := shiftUp (lo := 0) (hi := 1039) (fun e q _ h => h9 e q (Nat.zero_le _) h) (by omega) e q (by omega) h1
  have hd := h28 e q h0 (by omega)
  have hm := h9 e q (by omega) (by omega)
  simp only [addf_apply, mulf_apply, Ideal.addf_def, Ideal.mulf_def, hu, hd, hm]
  pointwise
  rw [hw0, hw1, hw2, hb]

theorem pay11_eq (v : FVec Ideal S1040x256 .f32) (w0 w1 w2 b : Vec Ideal S1x256 .f32) :
    k0_pay11 v w0 w1 w2 b = k0_pay10 v (k0_pay8 v) w0 w1 w2 b := rfl

theorem pay12_on {v9 v28 : FVec Ideal S1040x256 .f32} {w0 w1 w2 b : Vec Ideal S1x256 .f32} {G : Nat → Nat → EReal} {lo hi : Nat}
    (h : On (k0_pay10 v9 v28 w0 w1 w2 b) G lo hi) : On (k0_pay12 v9 v28 w0 w1 w2 b) (fun e q => sgm (G e q)) lo hi := by
  intro e q h0 h1
  unfold k0_pay12
  have := h e q h0 h1
  revert this
  generalize k0_pay10 v9 v28 w0 w1 w2 b = g
  intro hg
  pointwise
  rw [hg, sub_eq_add_neg, zero_add]
  rfl

/-- The gradient of the gate. -/
theorem pay14_on {de g v s : FVec Ideal S1040x256 .f32} {D G V S : Nat → Nat → EReal} {lo hi : Nat}
    (hd : On de D lo hi) (hg : On g G lo hi) (hv : On v V lo hi) (hs : On s S lo hi) :
    On (k0_pay14 de g v s) (fun e q => D e q * V e q * (S e q + G e q * S e q * (1 - S e q))) lo hi := by
  intro e q h0 h1
  unfold k0_pay14 k0_pay13
  pointwise
  rw [hd e q h0 h1, hg e q h0 h1, hv e q h0 h1, hs e q h0 h1]

/-- The gradient of the value. -/
theorem pay15_on {de g s : FVec Ideal S1040x256 .f32} {D G S : Nat → Nat → EReal} {lo hi : Nat}
    (hd : On de D lo hi) (hg : On g G lo hi) (hs : On s S lo hi) :
    On (k0_pay15 de g s) (fun e q => D e q * (G e q * S e q)) lo hi := by
  intro e q h0 h1
  unfold k0_pay15 k0_pay13
  pointwise
  rw [hd e q h0 h1, hg e q h0 h1, hs e q h0 h1]

/-! ## What is stored -/

/-- The gradient of the convolution's input on the block's own rows. -/
theorem pay23_on {v : FVec Ideal S1040x256 .f32} {w0 w1 w2 : Vec Ideal S1x256 .f32} {ω0 ω1 ω2 : Nat → EReal}
    (h : On v f 1 1039) (hw0 : Row w0 ω0) (hw1 : Row w1 ω1) (hw2 : Row w2 ω2) :
    On (k0_pay23 v w0 w1 w2) (fun r q => ω0 q * f (r + 8 + 1) q + ω1 q * f (r + 8) q + ω2 q * f (r + 8 - 1) q) 0 1024 := by
  intro r q _ hr
  have hu := shiftUp (lo := 8) (hi := 1032) (fun e q h0 h1 => h e q (by omega) (by omega)) (by omega) ⟨8 + r.val, by omega⟩ q
    (by show 8 ≤ 8 + r.val; omega) (by show 8 + r.val < 1032; omega)
  have hd := shiftDn h ⟨8 + r.val, by omega⟩ q (by show 1 + 1 ≤ 8 + r.val; omega) (by show 8 + r.val < 1039 + 1; omega)
  have hm := h ⟨8 + r.val, by omega⟩ q (by show 1 ≤ 8 + r.val; omega) (by show 8 + r.val < 1039; omega)
  unfold k0_pay23
  revert hu hd
  generalize dynamicRotate 0 1039#32 none v rotates_S1040x256_d0 = vu
  generalize dynamicRotate 0 1#32 none v rotates_S1040x256_d0 = vd
  intro hu hd
  pointwise
  rw [hu, hd, hm, hw0, hw1, hw2]
  simp only [Nat.add_comm 8 r.val]

theorem pay16_eq (de g v s : FVec Ideal S1040x256 .f32) (w0 w1 w2 : Vec Ideal S1x256 .f32) :
    k0_pay16 de g v s w0 w1 w2 = k0_pay1 (k0_pay23 (k0_pay14 de g v s) w0 w1 w2) := rfl

theorem pay1_apply (x : FVec Ideal S1024x256 .bf16) (r : Fin 1024) (q : Fin 256) : k0_pay1 x (ix3 0 r q) = x (ix2 r q) := by
  unfold k0_pay1
  pointwise

/-- The block's own rows of an extended block. -/
def mid (v : FVec Ideal S1040x256 .f32) : FVec Ideal S1024x256 .f32 :=
  extractStridedSlice S1024x256 ![8, 0] v slices_S1040x256_o8_0_S1024x256

theorem mid_on {v : FVec Ideal S1040x256 .f32} (h : On v f 8 1032) : On (mid v) (fun r => f (r + 8)) 0 1024 := by
  intro r q _ hr
  unfold mid
  pointwise
  refine (h ⟨8 + r.val, by omega⟩ q (by show 8 ≤ 8 + r.val; omega) (by show 8 + r.val < 1032; omega)).trans ?_
  exact congrArg (f · _) (Nat.add_comm _ _)

/-- The sums of a block's columns, as one row. -/
def colSum (x : FVec Ideal S1024x256 .f32) : FVec Ideal S1x256 .f32 :=
  shapeCast S1x256 (multiReduction .add [0] S256 x 0x00000000#32 reduces_S1024x256_S256 (.inl rfl) rfl) shapeCasts_S256_S1x256

theorem colSum_row {x : FVec Ideal S1024x256 .f32} (h : On x f 0 1024) : Row (colSum x) (fun q => ∑ r : Fin 1024, f r.val q) := by
  intro q
  unfold colSum
  pointwise
  exact Finset.sum_congr rfl fun r _ => h r q (Nat.zero_le _) r.isLt

theorem mul_on {x y : FVec Ideal S1024x256 .f32} {g : Nat → Nat → EReal} {lo hi : Nat} (hx : On x f lo hi) (hy : On y g lo hi) :
    On (mulf x y) (fun e q => f e q * g e q) lo hi := by
  intro e q h0 h1
  pointwise
  rw [hx e q h0 h1, hy e q h0 h1]

theorem pay18_eq (de d g v s : FVec Ideal S1040x256 .f32) : k0_pay18 de d g v s = colSum (mulf (mid (k0_pay14 de g v s)) (mid d)) := rfl
theorem pay19_eq (d de g v s : FVec Ideal S1040x256 .f32) : k0_pay19 d de g v s = colSum (mulf (mid (k0_pay14 de g v s)) (mid d)) := rfl
theorem pay20_eq (de d g v s : FVec Ideal S1040x256 .f32) : k0_pay20 de d g v s = colSum (mulf (mid (k0_pay14 de g v s)) (mid d)) := rfl
theorem pay21_eq (de g v s : FVec Ideal S1040x256 .f32) : k0_pay21 de g v s = colSum (mid (k0_pay14 de g v s)) := rfl

/-- The rows of the table of partial sums. -/
theorem pay2_eq (v17 v30 v31 v74 : FVec Ideal S1040x256 .f32) (v75 : IVec S8x256 32) :
    k0_pay2 v17 v30 v31 v74 v75 = k0_pay22 v75 (colSum (mulf (mid v74) (mid v30))) (colSum (mulf (mid v74) (mid v17)))
      (colSum (mulf (mid v74) (mid v31))) (colSum (mid v74)) (Scalar.ofBits .f32 0x00000000#32) := rfl

theorem row_eq (a b : Nat) (ha : a < 8) (hb : b < 8) :
    (IntOp.cmpi .eq (BitVec.ofNat 32 a) (BitVec.ofNat 32 b) : BitVec 1) = if a = b then 1#1 else 0#1 := by
  interval_cases a <;> interval_cases b <;> rfl

theorem pay22_apply {s0 s1 s2 s3 : FVec Ideal S1x256 .f32} {b0 b1 b2 b3 : Nat → EReal}
    (h0 : Row s0 b0) (h1 : Row s1 b1) (h2 : Row s2 b2) (h3 : Row s3 b3) (k : Fin 8) (q : Fin 256) :
    k0_pay22 (iota .tc S8x256 32 [0] iota_S8x256_d0_w32) s0 s1 s2 s3 (Scalar.ofBits .f32 0x00000000#32) (ix3 0 k q)
      = if k.val = 3 then b3 q.val else if k.val = 2 then b2 q.val else if k.val = 1 then b1 q.val else if k.val = 0 then b0 q.val else 0 := by
  unfold k0_pay22
  pointwise
  rw [h0, h1, h2, h3]
  simp only [row_eq _ 0 k.isLt (by omega), row_eq _ 1 k.isLt (by omega), row_eq _ 2 k.isLt (by omega), row_eq _ 3 k.isLt (by omega), select_if]

end Cert.ConvBwd

end
-- ==== Proof.ConvBwd.Blocks.lean ====
/- The blocks the gated convolution's backward call reads at a grid point, as entries of its argument arrays. -/
module

public import proofs.«01_k».proof.Proof.Gen.KernelIdeal.Frame
public import proofs.«01_k».proof.Proof.Rows

@[expose] public section

noncomputable section

namespace Cert.ConvBwd

open Idealize.ShloMosaic Idealize.ShloMosaic.Pipeline Cert.KernelIdeal Cert.KernelIdeal.Gen Cert.Rows

variable (m : (ℓ : Loc nD τ sig) → Buf (Elt Ideal) ℓ) (c : Dev nD) (t : Fin cfg0.N)

/-! ## Where each window's block lies: its index along the rows and along the columns -/

theorem index_0 : ∀ t : Fin cfg0.N, (cfg0.win 0).index t 0 = 128 * (t.val / 11) - 1 ∧ (cfg0.win 0).index t 1 = t.val % 11 := by decide +kernel
theorem index_1 : ∀ t : Fin cfg0.N, (cfg0.win 1).index t 0 = t.val / 11 ∧ (cfg0.win 1).index t 1 = t.val % 11 := by decide +kernel
theorem index_2 : ∀ t : Fin cfg0.N, (cfg0.win 2).index t 0 = min (128 * (t.val / 11) + 128) 511 ∧ (cfg0.win 2).index t 1 = t.val % 11 := by decide +kernel
theorem index_3 : ∀ t : Fin cfg0.N, (cfg0.win 3).index t 0 = 128 * (t.val / 11) - 1 ∧ (cfg0.win 3).index t 1 = t.val % 11 + 11 := by decide +kernel
theorem index_4 : ∀ t : Fin cfg0.N, (cfg0.win 4).index t 0 = t.val / 11 ∧ (cfg0.win 4).index t 1 = t.val % 11 + 11 := by decide +kernel
theorem index_5 : ∀ t : Fin cfg0.N, (cfg0.win 5).index t 0 = min (128 * (t.val / 11) + 128) 511 ∧ (cfg0.win 5).index t 1 = t.val % 11 + 11 := by decide +kernel
theorem index_6 : ∀ t : Fin cfg0.N, (cfg0.win 6).index t 0 = 64 * (t.val / 11) - 1 ∧ (cfg0.win 6).index t 1 = 0 := by decide +kernel
theorem index_7 : ∀ t : Fin cfg0.N, (cfg0.win 7).index t 0 = t.val / 11 ∧ (cfg0.win 7).index t 1 = 0 := by decide +kernel
theorem index_8 : ∀ t : Fin cfg0.N, (cfg0.win 8).index t 0 = min (64 * (t.val / 11) + 64) 255 ∧ (cfg0.win 8).index t 1 = 0 := by decide +kernel
theorem index_9 : ∀ t : Fin cfg0.N, (cfg0.win 9).index t 0 = t.val % 11 ∧ (cfg0.win 9).index t 1 = 0 := by decide +kernel
theorem index_10 : ∀ t : Fin cfg0.N, (cfg0.win 10).index t 0 = 0 ∧ (cfg0.win 10).index t 1 = t.val % 11 := by decide +kernel
theorem index_11 : ∀ t : Fin cfg0.N, (cfg0.win 11).index t 0 = 0 ∧ (cfg0.win 11).index t 1 = t.val % 11 := by decide +kernel
theorem index_12 : ∀ t : Fin cfg0.N, (cfg0.win 12).index t 0 = 0 ∧ (cfg0.win 12).index t 1 = t.val % 11 + 11 := by decide +kernel
theorem index_13 : ∀ t : Fin cfg0.N, (cfg0.win 13).index t 0 = 0 ∧ (cfg0.win 13).index t 1 = t.val % 11 + 11 := by decide +kernel

/-! ## The blocks' entries -/

theorem iblk_0 (e : Fin 8) (k : Fin 256) :
    iblk m c 0 t (ix2 e k) = rd (V m c main_arg0) ((128 * (t.val / 11) - 1) * 8 + e.val) ((t.val % 11) * 256 + k.val) :=
  rd_of_emb (V m c main_arg0) (((cfg0.win 0).rect t).emb (ix2 e k)) (((cfg0.win 0).rect_emb_val t (ix2 e k) 0).trans (congrArg (· * 8 + e.val) (index_0 t).1))
    (((cfg0.win 0).rect_emb_val t (ix2 e k) 1).trans (congrArg (· * 256 + k.val) (index_0 t).2))

theorem iblk_1 (e : Fin 1024) (k : Fin 256) :
    iblk m c 1 t (ix2 e k) = rd (V m c main_arg0) ((t.val / 11) * 1024 + e.val) ((t.val % 11) * 256 + k.val) :=
  rd_of_emb (V m c main_arg0) (((cfg0.win 1).rect t).emb (ix2 e k)) (((cfg0.win 1).rect_emb_val t (ix2 e k) 0).trans (congrArg (· * 1024 + e.val) (index_1 t).1))
    (((cfg0.win 1).rect_emb_val t (ix2 e k) 1).trans (congrArg (· * 256 + k.val) (index_1 t).2))

theorem iblk_2 (e : Fin 8) (k : Fin 256) :
    iblk m c 2 t (ix2 e k) = rd (V m c main_arg0) ((min (128 * (t.val / 11) + 128) 511) * 8 + e.val) ((t.val % 11) * 256 + k.val) :=
  rd_of_emb (V m c main_arg0) (((cfg0.win 2).rect t).emb (ix2 e k)) (((cfg0.win 2).rect_emb_val t (ix2 e k) 0).trans (congrArg (· * 8 + e.val) (index_2 t).1))
    (((cfg0.win 2).rect_emb_val t (ix2 e k) 1).trans (congrArg (· * 256 + k.val) (index_2 t).2))

theorem iblk_3 (e : Fin 8) (k : Fin 256) :
    iblk m c 3 t (ix2 e k) = rd (V m c main_arg0) ((128 * (t.val / 11) - 1) * 8 + e.val) ((t.val % 11 + 11) * 256 + k.val) :=
  rd_of_emb (V m c main_arg0) (((cfg0.win 3).rect t).emb (ix2 e k)) (((cfg0.win 3).rect_emb_val t (ix2 e k) 0).trans (congrArg (· * 8 + e.val) (index_3 t).1))
    (((cfg0.win 3).rect_emb_val t (ix2 e k) 1).trans (congrArg (· * 256 + k.val) (index_3 t).2))

theorem iblk_4 (e : Fin 1024) (k : Fin 256) :
    iblk m c 4 t (ix2 e k) = rd (V m c main_arg0) ((t.val / 11) * 1024 + e.val) ((t.val % 11 + 11) * 256 + k.val) :=
  rd_of_emb (V m c main_arg0) (((cfg0.win 4).rect t).emb (ix2 e k)) (((cfg0.win 4).rect_emb_val t (ix2 e k) 0).trans (congrArg (· * 1024 + e.val) (index_4 t).1))
    (((cfg0.win 4).rect_emb_val t (ix2 e k) 1).trans (congrArg (· * 256 + k.val) (index_4 t).2))

theorem iblk_5 (e : Fin 8) (k : Fin 256) :
    iblk m c 5 t (ix2 e k) = rd (V m c main_arg0) ((min (128 * (t.val / 11) + 128) 511) * 8 + e.val) ((t.val % 11 + 11) * 256 + k.val) :=
  rd_of_emb (V m c main_arg0) (((cfg0.win 5).rect t).emb (ix2 e k)) (((cfg0.win 5).rect_emb_val t (ix2 e k) 0).trans (congrArg (· * 8 + e.val) (index_5 t).1))
    (((cfg0.win 5).rect_emb_val t (ix2 e k) 1).trans (congrArg (· * 256 + k.val) (index_5 t).2))

theorem iblk_6 (e : Fin 16) (k : Fin 1024) :
    iblk m c 6 t (ix2 e k) = rd (V m c main_arg1) ((64 * (t.val / 11) - 1) * 16 + e.val) ((0) * 1024 + k.val) :=
  rd_of_emb (V m c main_arg1) (((cfg0.win 6).rect t).emb (ix2 e k)) (((cfg0.win 6).rect_emb_val t (ix2 e k) 0).trans (congrArg (· * 16 + e.val) (index_6 t).1))
    (((cfg0.win 6).rect_emb_val t (ix2 e k) 1).trans (congrArg (· * 1024 + k.val) (index_6 t).2))

theorem iblk_7 (e : Fin 1024) (k : Fin 1024) :
    iblk m c 7 t (ix2 e k) = rd (V m c main_arg1) ((t.val / 11) * 1024 + e.val) ((0) * 1024 + k.val) :=
  rd_of_emb (V m c main_arg1) (((cfg0.win 7).rect t).emb (ix2 e k)) (((cfg0.win 7).rect_emb_val t (ix2 e k) 0).trans (congrArg (· * 1024 + e.val) (index_7 t).1))
    (((cfg0.win 7).rect_emb_val t (ix2 e k) 1).trans (congrArg (· * 1024 + k.val) (index_7 t).2))

theorem iblk_8 (e : Fin 16) (k : Fin 1024) :
    iblk m c 8 t (ix2 e k) = rd (V m c main_arg1) ((min (64 * (t.val / 11) + 64) 255) * 16 + e.val) ((0) * 1024 + k.val) :=
  rd_of_emb (V m c main_arg1) (((cfg0.win 8).rect t).emb (ix2 e k)) (((cfg0.win 8).rect_emb_val t (ix2 e k) 0).trans (congrArg (· * 16 + e.val) (index_8 t).1))
    (((cfg0.win 8).rect_emb_val t (ix2 e k) 1).trans (congrArg (· * 1024 + k.val) (index_8 t).2))

theorem iblk_9 (e : Fin 256) (k : Fin 1024) :
    iblk m c 9 t (ix2 e k) = rd (V m c main_arg2) ((t.val % 11) * 256 + e.val) ((0) * 1024 + k.val) :=
  rd_of_emb (V m c main_arg2) (((cfg0.win 9).rect t).emb (ix2 e k)) (((cfg0.win 9).rect_emb_val t (ix2 e k) 0).trans (congrArg (· * 256 + e.val) (index_9 t).1))
    (((cfg0.win 9).rect_emb_val t (ix2 e k) 1).trans (congrArg (· * 1024 + k.val) (index_9 t).2))

theorem iblk_10 (e : Fin 3) (k : Fin 256) :
    iblk m c 10 t (ix2 e k) = rd (V m c main_arg3) ((0) * 3 + e.val) ((t.val % 11) * 256 + k.val) :=
  rd_of_emb (V m c main_arg3) (((cfg0.win 10).rect t).emb (ix2 e k)) (((cfg0.win 10).rect_emb_val t (ix2 e k) 0).trans (congrArg (· * 3 + e.val) (index_10 t).1))
    (((cfg0.win 10).rect_emb_val t (ix2 e k) 1).trans (congrArg (· * 256 + k.val) (index_10 t).2))

theorem iblk_11 (e : Fin 1) (k : Fin 256) :
    iblk m c 11 t (ix2 e k) = rd (V m c main_arg4) ((0) * 1 + e.val) ((t.val % 11) * 256 + k.val) :=
  rd_of_emb (V m c main_arg4) (((cfg0.win 11).rect t).emb (ix2 e k)) (((cfg0.win 11).rect_emb_val t (ix2 e k) 0).trans (congrArg (· * 1 + e.val) (index_11 t).1))
    (((cfg0.win 11).rect_emb_val t (ix2 e k) 1).trans (congrArg (· * 256 + k.val) (index_11 t).2))

theorem iblk_12 (e : Fin 3) (k : Fin 256) :
    iblk m c 12 t (ix2 e k) = rd (V m c main_arg3) ((0) * 3 + e.val) ((t.val % 11 + 11) * 256 + k.val) :=
  rd_of_emb (V m c main_arg3) (((cfg0.win 12).rect t).emb (ix2 e k)) (((cfg0.win 12).rect_emb_val t (ix2 e k) 0).trans (congrArg (· * 3 + e.val) (index_12 t).1))
    (((cfg0.win 12).rect_emb_val t (ix2 e k) 1).trans (congrArg (· * 256 + k.val) (index_12 t).2))

theorem iblk_13 (e : Fin 1) (k : Fin 256) :
    iblk m c 13 t (ix2 e k) = rd (V m c main_arg4) ((0) * 1 + e.val) ((t.val % 11 + 11) * 256 + k.val) :=
  rd_of_emb (V m c main_arg4) (((cfg0.win 13).rect t).emb (ix2 e k)) (((cfg0.win 13).rect_emb_val t (ix2 e k) 0).trans (congrArg (· * 1 + e.val) (index_13 t).1))
    (((cfg0.win 13).rect_emb_val t (ix2 e k) 1).trans (congrArg (· * 256 + k.val) (index_13 t).2))

end Cert.ConvBwd

end
-- ==== Proof.ConvBwd.Block.lean ====
/- What the body of the gated convolution's backward call leaves in each output block, as entries of the closed form. -/
module

public import proofs.«01_k».proof.Proof.ConvBwd.Payload
public import proofs.«01_k».proof.Proof.ConvBwd.Blocks

@[expose] public section

noncomputable section

namespace Cert.ConvBwd

open Idealize.ShloMosaic Idealize.ShloMosaic.Pipeline Cert.KernelIdeal Cert.KernelIdeal.Gen Cert.Rows

variable (m : (ℓ : Loc nD τ sig) → Buf (Elt Ideal) ℓ) (c : Dev nD) (t : Fin cfg0.N)

abbrev aU : S4096x5632.Idx → EReal := V m c main_arg0
abbrev aX : S4096x1024.Idx → EReal := V m c main_arg1
abbrev aW : S2816x1024.Idx → EReal := V m c main_arg2
abbrev aC : S3x5632.Idx → EReal := V m c main_arg3
abbrev aB : S1x5632.Idx → EReal := V m c main_arg4

theorem coord_0 : ∀ t : Fin cfg0.N, (grid0.coords t 0).val = t.val / 11 := by decide +kernel

theorem row_lt (t : Fin cfg0.N) : t.val / 11 < 4 := by
  have : t.val < 44 := t.isLt
  omega

theorem col_lt (t : Fin cfg0.N) : t.val % 11 < 11 := Nat.mod_lt _ (by omega)

private theorem hz2 : (![0, 0] : Fin 2 → Nat) = fun _ => 0 := by decide

theorem ext_of {R C : Nat} (X : (⟨2, ![R, C]⟩ : Shape).Idx → EReal) {ρ r k k' : Nat} (h : ρ = r + 8) (hk : k = k') :
    rd X r k = ext X ρ k' := by
  rw [h, ext_add, hk]

theorem ext_lt {R C : Nat} (X : (⟨2, ![R, C]⟩ : Shape).Idx → EReal) {ρ k : Nat} (h : ρ < 8) : ext X ρ k = 0 := by
  unfold ext
  exact if_neg (by omega)

theorem ext_ge {R C : Nat} (X : (⟨2, ![R, C]⟩ : Shape).Idx → EReal) {ρ k : Nat} (h : R + 8 ≤ ρ) : ext X ρ k = 0 := by
  obtain ⟨r, rfl⟩ : ∃ r, ρ = r + 8 := ⟨ρ - 8, by omega⟩
  rw [ext_add]
  exact rd_of_ge _ (by omega)

theorem On.sub {n k : Nat} {v : (⟨2, ![n, k]⟩ : Shape).Idx → EReal} {f : Nat → Nat → EReal} {lo hi lo' hi' : Nat} (h : On v f lo hi)
    (h0 : lo ≤ lo') (h1 : hi' ≤ hi) : On v f lo' hi' := fun e q h2 h3 => h e q (h0.trans h2) (h3.trans_le h1)

/-- the gate's input, extended -/
abbrev ge : FVec Ideal S1040x256 .f32 := k0_pay24 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
/-- the value's input, extended -/
abbrev ve : FVec Ideal S1040x256 .f32 := k0_pay25 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
/-- the product of the cotangent's rows -/
abbrev deB : FVec Ideal S1040x256 .f32 := k0_pay26 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
/-- the gate's input, shifted -/
abbrev gs : FVec Ideal S1040x256 .f32 := k0_pay27 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
/-- the gate -/
abbrev gate : FVec Ideal S1040x256 .f32 := k0_pay28 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
/-- the value -/
abbrev val : FVec Ideal S1040x256 .f32 := k0_pay29 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
/-- the gate's logistic -/
abbrev sg : FVec Ideal S1040x256 .f32 := k0_pay30 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
/-- the gradient of the value -/
abbrev dv : FVec Ideal S1040x256 .f32 := k0_pay32 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The gradient of the gate on the extended block. -/
abbrev dg : FVec Ideal S1040x256 .f32 := k0_pay14 (deB m c t) (gate m c t) (val m c t) (sg m c t)

theorem ge_on : On (ge m c t) (fun e q => ext (aU m c) (1024 * (t.val / 11) + e) (256 * (t.val % 11) + q)) 0 1040 := by
  have hr := row_lt t
  have h0 := coord_0 t
  unfold ge k0_pay24
  rw [View.ld_unit_zero hz2, View.ld_unit_zero hz2, View.ld_unit_zero hz2]
  refine pay3_on _ ?_ ?_ ?_ ?_ ?_
  · intro h e q _ _
    rw [iblk_0]
    rw [h0] at h
    exact ext_of (aU m c) (by omega) (by omega)
  · intro e q _ _
    rw [iblk_1]
    exact ext_of (aU m c) (by omega) (by omega)
  · intro h e q _ _
    rw [iblk_2]
    rw [h0] at h
    exact ext_of (aU m c) (by omega) (by omega)
  · intro h e q he
    rw [h0] at h
    exact ext_lt _ (by omega)
  · intro h e q he
    rw [h0] at h
    exact ext_ge _ (by omega)

theorem ve_on : On (ve m c t) (fun e q => ext (aU m c) (1024 * (t.val / 11) + e) (256 * (t.val % 11) + q + 2816)) 0 1040 := by
  have hr := row_lt t
  have h0 := coord_0 t
  unfold ve k0_pay25
  rw [View.ld_unit_zero hz2, View.ld_unit_zero hz2, View.ld_unit_zero hz2, pay4_eq]
  refine pay3_on _ ?_ ?_ ?_ ?_ ?_
  · intro h e q _ _
    rw [iblk_3]
    rw [h0] at h
    exact ext_of (aU m c) (by omega) (by omega)
  · intro e q _ _
    rw [iblk_4]
    exact ext_of (aU m c) (by omega) (by omega)
  · intro h e q _ _
    rw [iblk_5]
    rw [h0] at h
    exact ext_of (aU m c) (by omega) (by omega)
  · intro h e q he
    rw [h0] at h
    exact ext_lt _ (by omega)
  · intro h e q he
    rw [h0] at h
    exact ext_ge _ (by omega)

theorem de_on : On (deB m c t) (fun e q => de (aX m c) (aW m c) (1024 * (t.val / 11) + e) (256 * (t.val % 11) + q)) 0 1040 := by
  have hr := row_lt t
  have h0 := coord_0 t
  unfold deB k0_pay26
  rw [View.ld_unit_zero hz2, View.ld_unit_zero hz2, View.ld_unit_zero hz2, View.ld_unit_zero hz2]
  have key := pay5_on (grid0.coords t) (p := iblk m c 6 t) (x := iblk m c 7 t) (n := iblk m c 8 t) (w := iblk m c 9 t)
    (g := fun d k => ext (aX m c) (1024 * (t.val / 11) + d - 8) k) (ω := fun q k => rd (aW m c) (256 * (t.val % 11) + q) k)
    ?_ ?_ ?_ ?_ ?_ ?_
  · intro e q h1 h2
    refine (key e q h1 h2).trans (Finset.sum_congr rfl fun k _ => ?_)
    exact congrArg (fun ρ => ext (aX m c) ρ k.val * rd (aW m c) (256 * (t.val % 11) + q.val) k.val)
      (show 1024 * (t.val / 11) + (e.val + 8) - 8 = 1024 * (t.val / 11) + e.val by omega)
  · intro h e q _ _
    rw [iblk_6]
    rw [h0] at h
    exact ext_of (aX m c) (by omega) (by omega)
  · intro e q _ _
    rw [iblk_7]
    exact ext_of (aX m c) (by omega) (by omega)
  · intro h e q _ _
    rw [iblk_8]
    rw [h0] at h
    exact ext_of (aX m c) (by omega) (by omega)
  · intro h e q he
    rw [h0] at h
    exact ext_lt _ (by omega)
  · intro h e q he
    rw [h0] at h
    exact ext_ge _ (by omega)
  · intro q k _ _
    rw [iblk_9]
    exact congrArg₂ (rd (aW m c)) (by omega) (by omega)

theorem gs_on : On (gs m c t) (fun e q => ext (aU m c) (1024 * (t.val / 11) + (e - 1)) (256 * (t.val % 11) + q)) 1 1040 := by
  intro e q h0 h1
  have := ge_on m c t
  unfold ge k0_pay24 at this
  unfold gs k0_pay27 k0_pay6
  exact shiftDn this e q h0 (by omega)

theorem vs_on : On (k0_pay8 (ve m c t)) (fun e q => ext (aU m c) (1024 * (t.val / 11) + (e - 1)) (256 * (t.val % 11) + q + 2816)) 1 1040 :=
  (shiftDn (ve_on m c t)).sub le_rfl (by omega)

/-! ## Rows of the taps and of the bias -/

theorem tap_g0 : Row (View.ld (iblk m c 10 t) r0_5) (fun q => rd (aC m c) 0 (256 * (t.val % 11) + q)) := by
  intro q
  pointwise
  rw [iblk_10]
  exact congrArg₂ (rd (aC m c)) (by simp) (by omega)

theorem tap_g1 : Row (View.ld (iblk m c 10 t) r0_6) (fun q => rd (aC m c) 1 (256 * (t.val % 11) + q)) := by
  intro q
  pointwise
  rw [iblk_10]
  exact congrArg₂ (rd (aC m c)) (by simp) (by omega)

theorem tap_g2 : Row (View.ld (iblk m c 10 t) r0_7) (fun q => rd (aC m c) 2 (256 * (t.val % 11) + q)) := by
  intro q
  pointwise
  rw [iblk_10]
  exact congrArg₂ (rd (aC m c)) (by simp) (by omega)

theorem bias_g : Row (View.ld (iblk m c 11 t) r0_8) (fun q => rd (aB m c) 0 (256 * (t.val % 11) + q)) := by
  intro q
  pointwise
  rw [iblk_11]
  exact congrArg₂ (rd (aB m c)) (by simp) (by omega)

theorem tap_v0 : Row (View.ld (iblk m c 12 t) r0_5) (fun q => rd (aC m c) 0 (256 * (t.val % 11) + q + 2816)) := by
  intro q
  pointwise
  rw [iblk_12]
  exact congrArg₂ (rd (aC m c)) (by simp) (by omega)

theorem tap_v1 : Row (View.ld (iblk m c 12 t) r0_6) (fun q => rd (aC m c) 1 (256 * (t.val % 11) + q + 2816)) := by
  intro q
  pointwise
  rw [iblk_12]
  exact congrArg₂ (rd (aC m c)) (by simp) (by omega)

theorem tap_v2 : Row (View.ld (iblk m c 12 t) r0_7) (fun q => rd (aC m c) 2 (256 * (t.val % 11) + q + 2816)) := by
  intro q
  pointwise
  rw [iblk_12]
  exact congrArg₂ (rd (aC m c)) (by simp) (by omega)

theorem bias_v : Row (View.ld (iblk m c 13 t) r0_8) (fun q => rd (aB m c) 0 (256 * (t.val % 11) + q + 2816)) := by
  intro q
  pointwise
  rw [iblk_13]
  exact congrArg₂ (rd (aB m c)) (by simp) (by omega)

/-! ## The gate, the value and their gradients -/

theorem gate_on : On (gate m c t) (fun e q => conv (aU m c) (aC m c) (aB m c) (1024 * (t.val / 11) + e) (256 * (t.val % 11) + q)) 1 1039 := by
  intro e q h0 h1
  refine (pay10_on (ge_on m c t) (gs_on m c t) (tap_g0 m c t) (tap_g1 m c t) (tap_g2 m c t) (bias_g m c t) e q h0 h1).trans ?_
  have h2 : 1024 * (t.val / 11) + e.val - 1 = 1024 * (t.val / 11) + (e.val - 1) := by omega
  simp only [conv, h2, Nat.add_assoc]

theorem val_on : On (val m c t) (fun e q => conv (aU m c) (aC m c) (aB m c) (1024 * (t.val / 11) + e) (256 * (t.val % 11) + q + 2816)) 1 1039 := by
  intro e q h0 h1
  refine (pay10_on (ve_on m c t) (vs_on m c t) (tap_v0 m c t) (tap_v1 m c t) (tap_v2 m c t) (bias_v m c t) e q h0 h1).trans ?_
  have h2 : 1024 * (t.val / 11) + e.val - 1 = 1024 * (t.val / 11) + (e.val - 1) := by omega
  simp only [conv, h2, Nat.add_assoc]

theorem sg_on : On (sg m c t) (fun e q => sgm (conv (aU m c) (aC m c) (aB m c) (1024 * (t.val / 11) + e) (256 * (t.val % 11) + q))) 1 1039 :=
  pay12_on (gate_on m c t)

theorem dg_on : On (dg m c t) (fun e q => dup (aU m c) (aX m c) (aW m c) (aC m c) (aB m c) (1024 * (t.val / 11) + e) (256 * (t.val % 11) + q)) 1 1039 := by
  intro e q h0 h1
  have hc := col_lt t
  refine (pay14_on ((de_on m c t).sub (by omega) (by omega)) (gate_on m c t) (val_on m c t) (sg_on m c t) e q h0 h1).trans ?_
  exact (if_pos (show 256 * (t.val % 11) + q.val < 2816 by omega)).symm

theorem dv_on : On (dv m c t) (fun e q => dup (aU m c) (aX m c) (aW m c) (aC m c) (aB m c) (1024 * (t.val / 11) + e) (256 * (t.val % 11) + q + 2816)) 1 1039 := by
  intro e q h0 h1
  refine (pay15_on ((de_on m c t).sub (by omega) (by omega)) (gate_on m c t) (sg_on m c t) e q h0 h1).trans ?_
  refine Eq.trans ?_ (if_neg (show ¬ 256 * (t.val % 11) + q.val + 2816 < 2816 by omega)).symm
  rw [Nat.add_sub_cancel]
  rfl

/-! ## The output blocks -/

/-- The block of the gradient of the convolution's input: the gate's half, then the value's. -/
def G14 (t : Fin cfg0.N) (h : Fin 2) (r : Fin 1024) (q : Fin 256) : EReal :=
  dpre (aU m c) (aX m c) (aW m c) (aC m c) (aB m c) (1024 * (t.val / 11) + (r.val + 8)) (256 * (t.val % 11) + q.val + 2816 * h.val)

theorem half0 (r : Fin 1024) (q : Fin 256) :
    k0_pay16 (deB m c t) (gate m c t) (val m c t) (sg m c t) (View.ld (iblk m c 10 t) r0_5) (View.ld (iblk m c 10 t) r0_6) (View.ld (iblk m c 10 t) r0_7) (ix3 0 r q)
      = G14 m c t 0 r q := by
  rw [pay16_eq, pay1_apply, pay23_on (dg_on m c t) (tap_g0 m c t) (tap_g1 m c t) (tap_g2 m c t) r q (Nat.zero_le _) r.isLt]
  rfl

theorem half1 (r : Fin 1024) (q : Fin 256) :
    k0_pay1 (k0_pay23 (dv m c t) (View.ld (iblk m c 12 t) r0_5) (View.ld (iblk m c 12 t) r0_6) (View.ld (iblk m c 12 t) r0_7)) (ix3 0 r q)
      = G14 m c t 1 r q := by
  rw [pay1_apply, pay23_on (dv_on m c t) (tap_v0 m c t) (tap_v1 m c t) (tap_v2 m c t) r q (Nat.zero_le _) r.isLt]
  rfl

/-- The block of the partial sums over the block's rows, for columns from `o` on. -/
def GP (o : Nat) (t : Fin cfg0.N) (k : Fin 8) (q : Fin 256) : EReal :=
  ∑ r : Fin 1024, term (aU m c) (aX m c) (aW m c) (aC m c) (aB m c) k.val (1024 * (t.val / 11) + r.val) (256 * (t.val % 11) + q.val + o)

theorem table {d e0 e1 e2 : FVec Ideal S1040x256 .f32} {o : Nat}
    (hd : On d (fun e q => dup (aU m c) (aX m c) (aW m c) (aC m c) (aB m c) (1024 * (t.val / 11) + e) (256 * (t.val % 11) + q + o)) 1 1039)
    (h0 : On e0 (fun e q => ext (aU m c) (1024 * (t.val / 11) + (e - 1)) (256 * (t.val % 11) + q + o)) 1 1040)
    (h1 : On e1 (fun e q => ext (aU m c) (1024 * (t.val / 11) + e) (256 * (t.val % 11) + q + o)) 0 1040)
    (h2 : On e2 (fun e q => ext (aU m c) (1024 * (t.val / 11) + (e + 1)) (256 * (t.val % 11) + q + o)) 0 1039) (k : Fin 8) (q : Fin 256) :
    k0_pay22 (iota .tc S8x256 32 [0] iota_S8x256_d0_w32) (colSum (mulf (mid d) (mid e0))) (colSum (mulf (mid d) (mid e1))) (colSum (mulf (mid d) (mid e2)))
      (colSum (mid d)) (Scalar.ofBits .f32 0x00000000#32) (ix3 0 k q) = GP m c o t k q := by
  have md := mid_on (hd.sub (by omega) (by omega))
  rw [pay22_apply (colSum_row (mul_on md (mid_on (h0.sub (by omega) (by omega))))) (colSum_row (mul_on md (mid_on (h1.sub (by omega) (by omega)))))
    (colSum_row (mul_on md (mid_on (h2.sub (by omega) (by omega))))) (colSum_row md)]
  unfold GP term
  by_cases h3 : k.val = 3
  · simp only [if_pos h3]
    exact Finset.sum_congr rfl fun r _ => by rw [Nat.add_assoc _ r.val 8]
  simp only [if_neg h3]
  by_cases h2 : k.val = 2
  · simp only [if_pos h2]
    exact Finset.sum_congr rfl fun r _ => by simp only [Nat.add_assoc]
  simp only [if_neg h2]
  by_cases h1 : k.val = 1
  · simp only [if_pos h1]
    exact Finset.sum_congr rfl fun r _ => by simp only [Nat.add_assoc]
  simp only [if_neg h1]
  by_cases h0 : k.val = 0
  · simp only [if_pos h0]
    exact Finset.sum_congr rfl fun r _ => by
      have h4 : 1024 * (t.val / 11) + (r.val + 8) - 1 = 1024 * (t.val / 11) + (r.val + 8 - 1) := by omega
      rw [Nat.add_assoc _ r.val 8, h4]
  simp only [if_neg h0, Finset.sum_const_zero]

theorem table_g (k : Fin 8) (q : Fin 256) :
    k0_pay22 (iota .tc S8x256 32 [0] iota_S8x256_d0_w32) (k0_pay18 (deB m c t) (gs m c t) (gate m c t) (val m c t) (sg m c t))
      (k0_pay19 (ge m c t) (deB m c t) (gate m c t) (val m c t) (sg m c t)) (k0_pay20 (deB m c t) (k0_pay7 (ge m c t)) (gate m c t) (val m c t) (sg m c t))
      (k0_pay21 (deB m c t) (gate m c t) (val m c t) (sg m c t)) (Scalar.ofBits .f32 0x00000000#32) (ix3 0 k q) = GP m c 0 t k q := by
  rw [pay18_eq, pay19_eq, pay20_eq, pay21_eq]
  exact table m c t (dg_on m c t) (gs_on m c t) (ge_on m c t) (shiftUp ((ge_on m c t).sub (by omega) (by omega)) (by omega)) k q

theorem table_v (k : Fin 8) (q : Fin 256) :
    k0_pay2 (ve m c t) (k0_pay8 (ve m c t)) (k0_pay9 (ve m c t)) (dv m c t) (iota .tc S8x256 32 [0] iota_S8x256_d0_w32) (ix3 0 k q) = GP m c 2816 t k q := by
  rw [pay2_eq]
  exact table m c t (dv_on m c t) (vs_on m c t) (ve_on m c t) (shiftUp ((ve_on m c t).sub (by omega) (by omega)) (by omega)) k q

end Cert.ConvBwd

end
-- ==== Proof.ConvBwd.Array.lean ====
/- What the gated convolution's backward call leaves in its two results. -/
module

public import proofs.«01_k».proof.Proof.ConvBwd.Block
public import Idealize.ShloMosaic.Lib.Pipeline.Value
public import Idealize.ShloMosaic.Lib.KernelVsHost

@[expose] public section

noncomputable section

namespace Cert.ConvBwd

open Idealize.ShloMosaic Idealize.ShloMosaic.TcCoe Idealize.ShloMosaic.Pipeline Idealize.SL.Sem
open Cert.KernelIdeal Cert.KernelIdeal.Gen Cert.Rows

variable (m : (ℓ : Loc nD τ sig) → Buf (Elt Ideal) ℓ) (c : Dev nD) (ρ : Dev nD → PrngReg)

private theorem hz3 : (![0, 0, 0] : Fin 3 → Nat) = fun _ => 0 := by decide

/-! ## What each point writes -/

theorem out14 (t : Fin cfg0.N) (h : Fin 2) (r : Fin 1024) (q : Fin 256) :
    (dats m 0 c).after 14 t (ix3 h r q) = G14 m c t h r q := by
  rw [after0_14]
  unfold out0_14
  refine View.canon_apply_of_pieces (Val := Elt Ideal) (S := S2x1024x256) (e := .bf16) (fun y => G14 m c t (y 0) (y 1) (y 2)) _ ?_ _ (cover0_14 _ _ _)
  intro p hp x
  rcases List.mem_cons.mp hp with rfl | hp
  · obtain ⟨a, b, d, rfl⟩ : ∃ (a : Fin 1) (b : Fin 1024) (d : Fin 256), x = ix3 a b d := ⟨x 0, x 1, x 2, ValueIdx.eq_ix3 x⟩
    obtain rfl : a = 0 := Subsingleton.elim _ _
    refine (half1 m c t b d).trans ?_
    exact congrArg₂ (dpre (aU m c) (aX m c) (aW m c) (aC m c) (aB m c))
      (show 1024 * (t.val / 11) + (b.val + 8) = 1024 * (t.val / 11) + (0 + 1 * b.val + 8) by omega)
      (show 256 * (t.val % 11) + d.val + 2816 * 1 = 256 * (t.val % 11) + (0 + 1 * d.val) + 2816 * (1 + 1 * 0) by omega)
  · obtain rfl := List.mem_singleton.mp hp
    obtain ⟨a, b, d, rfl⟩ : ∃ (a : Fin 1) (b : Fin 1024) (d : Fin 256), x = ix3 a b d := ⟨x 0, x 1, x 2, ValueIdx.eq_ix3 x⟩
    obtain rfl : a = 0 := Subsingleton.elim _ _
    refine (half0 m c t b d).trans ?_
    exact congrArg₂ (dpre (aU m c) (aX m c) (aW m c) (aC m c) (aB m c))
      (show 1024 * (t.val / 11) + (b.val + 8) = 1024 * (t.val / 11) + (0 + 1 * b.val + 8) by omega)
      (show 256 * (t.val % 11) + d.val + 2816 * 0 = 256 * (t.val % 11) + (0 + 1 * d.val) + 2816 * (0 + 1 * 0) by omega)

/-- The table of partial sums, over the windows' whole array. -/
def GT (o : Nat) (i : S4x8x2816.Idx) : EReal :=
  ∑ r : Fin 1024, term (aU m c) (aX m c) (aW m c) (aC m c) (aB m c) (i 1).val (1024 * (i 0).val + r.val) ((i 2).val + o)

/-- The first result's array: the gradient of the convolution's input, gate and value stacked. -/
def GD (i : S2x4096x2816.Idx) : EReal :=
  dpre (aU m c) (aX m c) (aW m c) (aC m c) (aB m c) ((i 1).val + 8) ((i 2).val + 2816 * (i 0).val)

theorem out15 (t : Fin cfg0.N) (k : Fin 8) (q : Fin 256) :
    (dats m 0 c).after 15 t (ix3 0 k q) = GP m c 0 t k q := by
  rw [after0_15]
  unfold out0_15
  rw [View.canon_unit_zero hz3]
  exact table_g m c t k q

theorem out16 (t : Fin cfg0.N) (k : Fin 8) (q : Fin 256) :
    (dats m 0 c).after 16 t (ix3 0 k q) = GP m c 2816 t k q := by
  rw [after0_16]
  unfold out0_16
  rw [View.canon_unit_zero hz3]
  exact table_v m c t k q

theorem index_14 : ∀ t : Fin cfg0.N, (cfg0.win 14).index t 0 = 0 ∧ (cfg0.win 14).index t 1 = t.val / 11 ∧ (cfg0.win 14).index t 2 = t.val % 11 := by
  decide +kernel

theorem index_15 : ∀ t : Fin cfg0.N, (cfg0.win 15).index t 0 = t.val / 11 ∧ (cfg0.win 15).index t 1 = 0 ∧ (cfg0.win 15).index t 2 = t.val % 11 := by
  decide +kernel

theorem index_16 : ∀ t : Fin cfg0.N, (cfg0.win 16).index t 0 = t.val / 11 ∧ (cfg0.win 16).index t 1 = 0 ∧ (cfg0.win 16).index t 2 = t.val % 11 := by
  decide +kernel

theorem flushed14 (t : Fin cfg0.N) : (dats m 0 c).flushed 14 t = (win0_14.blk t).view.read (Elt Ideal) (GD m c) := by
  funext y
  obtain ⟨h, r, q, rfl⟩ : ∃ (h : Fin 2) (r : Fin 1024) (q : Fin 256), y = ix3 h r q := ⟨y 0, y 1, y 2, ValueIdx.eq_ix3 y⟩
  refine (out14 m c t h r q).trans ?_
  show _ = GD m c ((win0_14.rect t).emb (ix3 h r q))
  obtain ⟨e0, e1, e2⟩ := index_14 t
  have i0 := (win0_14.rect_emb_val t (ix3 h r q) 0).trans (congrArg (· * 2 + h.val) e0)
  have i1 := (win0_14.rect_emb_val t (ix3 h r q) 1).trans (congrArg (· * 1024 + r.val) e1)
  have i2 := (win0_14.rect_emb_val t (ix3 h r q) 2).trans (congrArg (· * 256 + q.val) e2)
  refine congrArg₂ (dpre (aU m c) (aX m c) (aW m c) (aC m c) (aB m c)) ?_ ?_
  · rw [i1]; omega
  · rw [i0, i2]; omega

theorem table_congr {o k r0 q : Nat} {i : S4x8x2816.Idx} (h0 : (i 0).val = r0) (h1 : (i 1).val = k) (h2 : (i 2).val = q) :
    ∑ r : Fin 1024, term (aU m c) (aX m c) (aW m c) (aC m c) (aB m c) k (1024 * r0 + r.val) (q + o) = GT m c o i := by
  unfold GT
  rw [h0, h1, h2]

theorem flushed15 (t : Fin cfg0.N) : (dats m 0 c).flushed 15 t = (win0_15.blk t).view.read (Elt Ideal) (GT m c 0) := by
  funext y
  obtain ⟨a, k, q, rfl⟩ : ∃ (a : Fin 1) (k : Fin 8) (q : Fin 256), y = ix3 a k q := ⟨y 0, y 1, y 2, ValueIdx.eq_ix3 y⟩
  obtain rfl : a = 0 := Subsingleton.elim _ _
  refine (out15 m c t k q).trans ?_
  obtain ⟨e0, e1, e2⟩ := index_15 t
  have i0 := (win0_15.rect_emb_val t (ix3 (0 : Fin 1) k q) 0).trans (congrArg (· * 1 + 0) e0)
  have i1 := (win0_15.rect_emb_val t (ix3 (0 : Fin 1) k q) 1).trans (congrArg (· * 8 + k.val) e1)
  have i2 := (win0_15.rect_emb_val t (ix3 (0 : Fin 1) k q) 2).trans (congrArg (· * 256 + q.val) e2)
  exact table_congr m c (o := 0) (i := (win0_15.rect t).emb (ix3 (0 : Fin 1) k q)) (i0.trans (by omega)) (i1.trans (by omega)) (i2.trans (by omega))

theorem flushed16 (t : Fin cfg0.N) : (dats m 0 c).flushed 16 t = (win0_16.blk t).view.read (Elt Ideal) (GT m c 2816) := by
  funext y
  obtain ⟨a, k, q, rfl⟩ : ∃ (a : Fin 1) (k : Fin 8) (q : Fin 256), y = ix3 a k q := ⟨y 0, y 1, y 2, ValueIdx.eq_ix3 y⟩
  obtain rfl : a = 0 := Subsingleton.elim _ _
  refine (out16 m c t k q).trans ?_
  obtain ⟨e0, e1, e2⟩ := index_16 t
  have i0 := (win0_16.rect_emb_val t (ix3 (0 : Fin 1) k q) 0).trans (congrArg (· * 1 + 0) e0)
  have i1 := (win0_16.rect_emb_val t (ix3 (0 : Fin 1) k q) 1).trans (congrArg (· * 8 + k.val) e1)
  have i2 := (win0_16.rect_emb_val t (ix3 (0 : Fin 1) k q) 2).trans (congrArg (· * 256 + q.val) e2)
  exact table_congr m c (o := 2816) (i := (win0_16.rect t).emb (ix3 (0 : Fin 1) k q)) (i0.trans (by omega)) (i1.trans (by omega)) (i2.trans (by omega))

/-! ## The arrays after the run -/

/-- The grid point whose block holds row block `a` and column block `b`. -/
theorem point (a b : Nat) (ha : a < 4) (hb : b < 11) : ∃ t : Fin cfg0.N, t.val / 11 = a ∧ t.val % 11 = b := by
  have h : 11 * a + b < 44 := by omega
  exact ⟨⟨11 * a + b, h⟩, by show (11 * a + b) / 11 = a; omega, by show (11 * a + b) % 11 = b; omega⟩

theorem cover14 (i : S2x4096x2816.Idx) : ∃ t : Fin cfg0.N, (cfg0.win 14).flush t = true ∧ i ∈ ((cfg0.win 14).blk t).view.set := by
  have h0 : (i 0).val < 2 := (i 0).isLt
  have h1 : (i 1).val < 4096 := (i 1).isLt
  have h2 : (i 2).val < 2816 := (i 2).isLt
  obtain ⟨t, ha, hb⟩ := point ((i 1).val / 1024) ((i 2).val / 256) (by omega) (by omega)
  obtain ⟨e0, e1, e2⟩ := index_14 t
  refine ⟨t, flush0_14 t, ?_⟩
  show i ∈ ((View.whole main_v0_0).slice (win0_14.rect t)).set
  rw [View.set_slice_whole, Rect.mem_set_unit]
  intro a
  fin_cases a
  · show (cfg0.win 14).index t 0 * 2 ≤ (i 0).val ∧ (i 0).val < (cfg0.win 14).index t 0 * 2 + 2
    rw [e0]; omega
  · show (cfg0.win 14).index t 1 * 1024 ≤ (i 1).val ∧ (i 1).val < (cfg0.win 14).index t 1 * 1024 + 1024
    rw [e1]; omega
  · show (cfg0.win 14).index t 2 * 256 ≤ (i 2).val ∧ (i 2).val < (cfg0.win 14).index t 2 * 256 + 256
    rw [e2]; omega

theorem cover15 (i : S4x8x2816.Idx) : ∃ t : Fin cfg0.N, (cfg0.win 15).flush t = true ∧ i ∈ ((cfg0.win 15).blk t).view.set := by
  have h0 : (i 0).val < 4 := (i 0).isLt
  have h1 : (i 1).val < 8 := (i 1).isLt
  have h2 : (i 2).val < 2816 := (i 2).isLt
  obtain ⟨t, ha, hb⟩ := point (i 0).val ((i 2).val / 256) (by omega) (by omega)
  obtain ⟨e0, e1, e2⟩ := index_15 t
  refine ⟨t, flush0_15 t, ?_⟩
  show i ∈ ((View.whole main_v0_1).slice (win0_15.rect t)).set
  rw [View.set_slice_whole, Rect.mem_set_unit]
  intro a
  fin_cases a
  · show (cfg0.win 15).index t 0 * 1 ≤ (i 0).val ∧ (i 0).val < (cfg0.win 15).index t 0 * 1 + 1
    rw [e0]; omega
  · show (cfg0.win 15).index t 1 * 8 ≤ (i 1).val ∧ (i 1).val < (cfg0.win 15).index t 1 * 8 + 8
    rw [e1]; omega
  · show (cfg0.win 15).index t 2 * 256 ≤ (i 2).val ∧ (i 2).val < (cfg0.win 15).index t 2 * 256 + 256
    rw [e2]; omega

theorem cover16 (i : S4x8x2816.Idx) : ∃ t : Fin cfg0.N, (cfg0.win 16).flush t = true ∧ i ∈ ((cfg0.win 16).blk t).view.set := by
  have h0 : (i 0).val < 4 := (i 0).isLt
  have h1 : (i 1).val < 8 := (i 1).isLt
  have h2 : (i 2).val < 2816 := (i 2).isLt
  obtain ⟨t, ha, hb⟩ := point (i 0).val ((i 2).val / 256) (by omega) (by omega)
  obtain ⟨e0, e1, e2⟩ := index_16 t
  refine ⟨t, flush0_16 t, ?_⟩
  show i ∈ ((View.whole main_v0_2).slice (win0_16.rect t)).set
  rw [View.set_slice_whole, Rect.mem_set_unit]
  intro a
  fin_cases a
  · show (cfg0.win 16).index t 0 * 1 ≤ (i 0).val ∧ (i 0).val < (cfg0.win 16).index t 0 * 1 + 1
    rw [e0]; omega
  · show (cfg0.win 16).index t 1 * 8 ≤ (i 1).val ∧ (i 1).val < (cfg0.win 16).index t 1 * 8 + 8
    rw [e1]; omega
  · show (cfg0.win 16).index t 2 * 256 ≤ (i 2).val ∧ (i 2).val < (cfg0.win 16).index t 2 * 256 + 256
    rw [e2]; omega

/-- The gradient of the convolution's input, after the run. -/
theorem final14 : (dats m 0 c).arrAt 14 cfg0.N = GD m c :=
  (dats m 0 c).arrAt_eq_of_cover 14 (GD m c) (fun t _ => flushed14 m c t) cover14

/-- The partial sums of the gate's columns, after the run. -/
theorem final15 : (dats m 0 c).arrAt 15 cfg0.N = GT m c 0 :=
  (dats m 0 c).arrAt_eq_of_cover 15 (GT m c 0) (fun t _ => flushed15 m c t) cover15

/-- The partial sums of the value's columns, after the run. -/
theorem final16 : (dats m 0 c).arrAt 16 cfg0.N = GT m c 2816 :=
  (dats m 0 c).arrAt_eq_of_cover 16 (GT m c 2816) (fun t _ => flushed16 m c t) cover16

/-! ## The sums over the row blocks, and the run -/

/-- The second result: the gradients of the taps and of the bias, over all rows. -/
def GS (i : S8x5632.Idx) : EReal :=
  ∑ r : Fin 4096, term (aU m c) (aX m c) (aW m c) (aC m c) (aB m c) (i 0).val r.val (i 1).val

theorem sums (A B : FVec Ideal S4x8x2816 .f32) (hA : A = GT m c 0) (hB : B = GT m c 2816) :
    concatenate S8x5632 1 [⟨S8x2816, Host.reduceAdd A (constant S_ .f32 0x00000000#32) reducesTo_S4x8x2816_S8x2816_d0 h_S_⟩,
      ⟨S8x2816, Host.reduceAdd B (constant S_ .f32 0x00000000#32) reducesTo_S4x8x2816_S8x2816_d0 h_S_⟩] concatenates_S8x2816_S8x2816_S8x5632_d1
      = GS m c := by
  funext i
  obtain ⟨k, q, rfl⟩ : ∃ (k : Fin 8) (q : Fin 5632), i = ix2 k q := ⟨i 0, i 1, ValueIdx.eq_ix2 i⟩
  pointwise
  subst hA hB
  by_cases h : q.val < 2816
  · rw [dif_pos h]
    exact sum_blocks 4 1024 (fun r => term (aU m c) (aX m c) (aW m c) (aC m c) (aB m c) k.val r q.val)
  · rw [dif_neg h]
    have e : q.val - 2816 + 2816 = q.val := by omega
    refine (Finset.sum_congr rfl fun b _ => ?_).trans (sum_blocks 4 1024 (fun r => term (aU m c) (aX m c) (aW m c) (aC m c) (aB m c) k.val r q.val))
    exact Finset.sum_congr rfl fun r _ => congrArg (term (aU m c) (aX m c) (aW m c) (aC m c) (aB m c) k.val (1024 * b.val + r.val)) e

/-- The run: both results at the closed form, the arguments unchanged. -/
theorem run : θ_run defs (onTc (τ := τ) (main (F := Ideal))) ⟨m, fun _ => 0, ρ⟩ fun r => ∀ c : Dev nD,
      r.2.mem ((c : Thread nD τ).loc main_v0_0) = GD m c
      ∧ r.2.mem ((c : Thread nD τ).loc main_v3) = GS m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (run_main m ρ)
  have hv := (h c).2 main_v3 (by decide)
  refine ⟨((h c).1 14).trans (final14 m c), hv.trans ?_,
    ((h c).1 5).trans (((dats m 0 c).arrAt_in 5 rfl _).trans ((A_eq m c 5).trans (V_main_arg0 m c))),
    ((h c).1 8).trans (((dats m 0 c).arrAt_in 8 rfl _).trans ((A_eq m c 8).trans (V_main_arg1 m c))),
    ((h c).1 9).trans (((dats m 0 c).arrAt_in 9 rfl _).trans ((A_eq m c 9).trans (V_main_arg2 m c))),
    ((h c).1 12).trans (((dats m 0 c).arrAt_in 12 rfl _).trans ((A_eq m c 12).trans (V_main_arg3 m c))),
    ((h c).1 13).trans (((dats m 0 c).arrAt_in 13 rfl _).trans ((A_eq m c 13).trans (V_main_arg4 m c)))⟩
  unfold afterTail₀
  simp only [List.flatten_cons, List.flatten_nil, List.append_nil]
  after_region_results
  exact sums m c _ _ (((dats m 0 c).withArrays_arrAt sharedIn0 (V0 m c) (A_eq m c) 15).trans (final15 m c))
    (((dats m 0 c).withArrays_arrAt sharedIn0 (V0 m c) (A_eq m c) 16).trans (final16 m c))

end Cert.ConvBwd

end
-- ==== Proof.ConvBwd.RefRun.lean ====
/- The reference program as a list of its host operations in three parts, each operation's value as a term of the arguments, and
   the run of the program: every weakly fair execution ends with each result at its term and the arguments unchanged. -/
module

public import proofs.«01_k».proof.Proof.Gen.ReferenceIdeal
public import Idealize.ShloMosaic.Lib.StableHlo.Run
public import Idealize.ShloMosaic.Lib.StableHlo.RunRead

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def fn_main_v2 : (⟨S1x5632, .f32⟩ : BufTy).Contents (Elt F) → (⟨S4095x5632, .f32⟩ : BufTy).Contents (Elt F) → (⟨S4096x5632, .f32⟩ : BufTy).Contents (Elt F) :=
  (fun a b => concatenate S4096x5632 0 [⟨S1x5632, a⟩, ⟨S4095x5632, b⟩] concatenates_S1x5632_S4095x5632_S4096x5632_d0)

def fn_main_v5 : (⟨S4095x5632, .f32⟩ : BufTy).Contents (Elt F) → (⟨S1x5632, .f32⟩ : BufTy).Contents (Elt F) → (⟨S4096x5632, .f32⟩ : BufTy).Contents (Elt F) :=
  (fun a b => concatenate S4096x5632 0 [⟨S4095x5632, a⟩, ⟨S1x5632, b⟩] concatenates_S4095x5632_S1x5632_S4096x5632_d0)

def fn_main_v68 : (⟨S1x4096x2816, .f32⟩ : BufTy).Contents (Elt F) → (⟨S1x4096x2816, .f32⟩ : BufTy).Contents (Elt F) → (⟨S2x4096x2816, .f32⟩ : BufTy).Contents (Elt F) :=
  (fun a b => concatenate S2x4096x2816 0 [⟨S1x4096x2816, a⟩, ⟨S1x4096x2816, b⟩] concatenates_S1x4096x2816_S1x4096x2816_S2x4096x2816_d0)

def fn_main_v71 : (main_v55 : Ref sig .tc).ty.Contents (Elt F) → (main_v35 : Ref sig .tc).ty.Contents (Elt F) → (main_v70 : Ref sig .tc).ty.Contents (Elt F) → (main_v71 : Ref sig .tc).ty.Contents (Elt F) :=
  (fun u0 u1 u2 => (concatenate S8x5632 0 [⟨S3x5632, (u0 : (⟨S3x5632, .f32⟩ : BufTy).Contents (Elt F))⟩, ⟨S1x5632, (u1 : (⟨S1x5632, .f32⟩ : BufTy).Contents (Elt F))⟩, ⟨S4x5632, (u2 : (⟨S4x5632, .f32⟩ : BufTy).Contents (Elt F))⟩] concatenates_S3x5632_S1x5632_S4x5632_S8x5632_d0 : (⟨S8x5632, .f32⟩ : BufTy).Contents (Elt F)))

/-- The operations of the convolution. -/
abbrev opsA : List (HloOp τ sig (Elt F)) :=
  [ nullary main_cst (constant S_ .f32 0x00000000#32),
    unary main_cst main_v0 (broadcastInDim S1x5632 ![] bcast_S_S1x5632 : (⟨S_, .f32⟩ : BufTy).Contents (Elt F) → (⟨S1x5632, .f32⟩ : BufTy).Contents (Elt F)),
    unary main_arg0 main_v1 ((extractStridedSlice S4095x5632 ![0, 0] · slices_S4096x5632_S4095x5632_0_0) : (⟨S4096x5632, .f32⟩ : BufTy).Contents (Elt F) → (⟨S4095x5632, .f32⟩ : BufTy).Contents (Elt F)),
    binary main_v0 main_v1 main_v2 (fn_main_v2 (F := F)),
    nullary main_cst_0 (constant S_ .f32 0x00000000#32),
    unary main_cst_0 main_v3 (broadcastInDim S1x5632 ![] bcast_S_S1x5632 : (⟨S_, .f32⟩ : BufTy).Contents (Elt F) → (⟨S1x5632, .f32⟩ : BufTy).Contents (Elt F)),
    unary main_arg0 main_v4 ((extractStridedSlice S4095x5632 ![1, 0] · slices_S4096x5632_S4095x5632_1_0) : (⟨S4096x5632, .f32⟩ : BufTy).Contents (Elt F) → (⟨S4095x5632, .f32⟩ : BufTy).Contents (Elt F)),
    binary main_v4 main_v0 main_v5 (fn_main_v5 (F := F)),
    nullary main_cst_1 (constant S_ .f32 0x00000000#32),
    unary main_cst_1 main_v6 (broadcastInDim S1x5632 ![] bcast_S_S1x5632 : (⟨S_, .f32⟩ : BufTy).Contents (Elt F) → (⟨S1x5632, .f32⟩ : BufTy).Contents (Elt F)),
    unary main_arg3 main_v7 ((extractStridedSlice S1x5632 ![0, 0] · slices_S3x5632_S1x5632_0_0) : (⟨S3x5632, .f32⟩ : BufTy).Contents (Elt F) → (⟨S1x5632, .f32⟩ : BufTy).Contents (Elt F)),
    unary main_v7 main_v8 (broadcastInDim S4096x5632 ![0, 1] bcast_S1x5632_S4096x5632_0_1 : (⟨S1x5632, .f32⟩ : BufTy).Contents (Elt F) → (⟨S4096x5632, .f32⟩ : BufTy).Contents (Elt F)),
    binary main_v8 main_v2 main_v9 (mulf : (⟨S4096x5632, .f32⟩ : BufTy).Contents (Elt F) → (⟨S4096x5632, .f32⟩ : BufTy).Contents (Elt F) → (⟨S4096x5632, .f32⟩ : BufTy).Contents (Elt F)),
    unary main_arg3 main_v10 ((extractStridedSlice S1x5632 ![1, 0] · slices_S3x5632_S1x5632_1_0) : (⟨S3x5632, .f32⟩ : BufTy).Contents (Elt F) → (⟨S1x5632, .f32⟩ : BufTy).Contents (Elt F)),
    unary main_v10 main_v11 (broadcastInDim S4096x5632 ![0, 1] bcast_S1x5632_S4096x5632_0_1 : (⟨S1x5632, .f32⟩ : BufTy).Contents (Elt F) → (⟨S4096x5632, .f32⟩ : BufTy).Contents (Elt F)),
    binary main_v11 main_arg0 main_v12 (mulf : (⟨S4096x5632, .f32⟩ : BufTy).Contents (Elt F) → (⟨S4096x5632, .f32⟩ : BufTy).Contents (Elt F) → (⟨S4096x5632, .f32⟩ : BufTy).Contents (Elt F)),
    binary main_v9 main_v12 main_v13 (addf : (⟨S4096x5632, .f32⟩ : BufTy).Contents (Elt F) → (⟨S4096x5632, .f32⟩ : BufTy).Contents (Elt F) → (⟨S4096x5632, .f32⟩ : BufTy).Contents (Elt F)),
    unary main_arg3 main_v14 ((extractStridedSlice S1x5632 ![2, 0] · slices_S3x5632_S1x5632_2_0) : (⟨S3x5632, .f32⟩ : BufTy).Contents (Elt F) → (⟨S1x5632, .f32⟩ : BufTy).Contents (Elt F)),
    unary main_v14 main_v15 (broadcastInDim S4096x5632 ![0, 1] bcast_S1x5632_S4096x5632_0_1 : (⟨S1x5632, .f32⟩ : BufTy).Contents (Elt F) → (⟨S4096x5632, .f32⟩ : BufTy).Contents (Elt F)),
    binary main_v15 main_v5 main_v16 (mulf : (⟨S4096x5632, .f32⟩ : BufTy).Contents (Elt F) → (⟨S4096x5632, .f32⟩ : BufTy).Contents (Elt F) → (⟨S4096x5632, .f32⟩ : BufTy).Contents (Elt F)),
    binary main_v13 main_v16 main_v17 (addf : (⟨S4096x5632, .f32⟩ : BufTy).Contents (Elt F) → (⟨S4096x5632, .f32⟩ : BufTy).Contents (Elt F) → (⟨S4096x5632, .f32⟩ : BufTy).Contents (Elt F)),
    unary main_arg4 main_v18 (broadcastInDim S4096x5632 ![0, 1] bcast_S1x5632_S4096x5632_0_1 : (⟨S1x5632, .f32⟩ : BufTy).Contents (Elt F) → (⟨S4096x5632, .f32⟩ : BufTy).Contents (Elt F)),
    binary main_v17 main_v18 main_v19 (addf : (⟨S4096x5632, .f32⟩ : BufTy).Contents (Elt F) → (⟨S4096x5632, .f32⟩ : BufTy).Contents (Elt F) → (⟨S4096x5632, .f32⟩ : BufTy).Contents (Elt F)),
    unary main_v19 main_v20 ((extractStridedSlice S4096x2816 ![0, 0] · slices_S4096x5632_S4096x2816_0_0) : (⟨S4096x5632, .f32⟩ : BufTy).Contents (Elt F) → (⟨S4096x2816, .f32⟩ : BufTy).Contents (Elt F)),
    unary main_v19 main_v21 ((extractStridedSlice S4096x2816 ![0, 2816] · slices_S4096x5632_S4096x2816_0_2816) : (⟨S4096x5632, .f32⟩ : BufTy).Contents (Elt F) → (⟨S4096x2816, .f32⟩ : BufTy).Contents (Elt F)) ]

/-- The operations to the gradient of the convolution's result. -/
abbrev opsB : List (HloOp τ sig (Elt F)) :=
  [ TRef.unary (TRef.of (T := ⟨S4096x2816, .f32⟩) main_v20) (TRef.of (T := ⟨S4096x2816, .f32⟩) main_call0_v0) Host.negf,
    TRef.unary (TRef.of (T := ⟨S4096x2816, .f32⟩) main_call0_v0) (TRef.of (T := ⟨S4096x2816, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S4096x2816, .f32⟩) main_call0_v2) (broadcastInDim S4096x2816 ![] bcast_S_S4096x2816),
    TRef.binary (TRef.of (T := ⟨S4096x2816, .f32⟩) main_call0_v2) (TRef.of (T := ⟨S4096x2816, .f32⟩) main_call0_v1) (TRef.of (T := ⟨S4096x2816, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S4096x2816, .f32⟩) main_call0_v4) (broadcastInDim S4096x2816 ![] bcast_S_S4096x2816),
    TRef.binary (TRef.of (T := ⟨S4096x2816, .f32⟩) main_call0_v4) (TRef.of (T := ⟨S4096x2816, .f32⟩) main_call0_v3) (TRef.of (T := ⟨S4096x2816, .f32⟩) main_v22_2) Host.divf,
    TRef.nullary (TRef.of (T := ⟨S_, .f32⟩) main_call0_cst_1) (constant S_ .f32 0x3F800000#32),
    TRef.unary (TRef.of (T := ⟨S_, .f32⟩) main_call0_cst_1) (TRef.of (T := ⟨S4096x2816, .f32⟩) main_call0_v6) (broadcastInDim S4096x2816 ![] bcast_S_S4096x2816),
    TRef.binary (TRef.of (T := ⟨S4096x2816, .f32⟩) main_call0_v6) (TRef.of (T := ⟨S4096x2816, .f32⟩) main_v22_2) (TRef.of (T := ⟨S4096x2816, .f32⟩) main_call0_v7) subf,
    TRef.binary (TRef.of (T := ⟨S4096x2816, .f32⟩) main_v22_2) (TRef.of (T := ⟨S4096x2816, .f32⟩) main_call0_v7) (TRef.of (T := ⟨S4096x2816, .f32⟩) main_v22_1) mulf,
    TRef.binary (TRef.of (T := ⟨S4096x2816, .f32⟩) main_v20) (TRef.of (T := ⟨S4096x2816, .f32⟩) main_v22_2) (TRef.of (T := ⟨S4096x2816, .f32⟩) main_v22_0) mulf,
    binary main_v22_0 main_v21 main_v23 (mulf : (⟨S4096x2816, .f32⟩ : BufTy).Contents (Elt F) → (⟨S4096x2816, .f32⟩ : BufTy).Contents (Elt F) → (⟨S4096x2816, .f32⟩ : BufTy).Contents (Elt F)),
    unary main_arg2 main_v24 ((extf .f32 · bitsLt_bf16_f32) : (⟨S2816x1024, .bf16⟩ : BufTy).Contents (Elt F) → (⟨S2816x1024, .f32⟩ : BufTy).Contents (Elt F)),
    binary main_v23 main_v24 main_v25 ((fun l r => Host.dotGeneral dot_S4096x2816_S2816x1024_S4096x1024_1_0_0_1_n_n none l r) : (⟨S4096x2816, .f32⟩ : BufTy).Contents (Elt F) → (⟨S2816x1024, .f32⟩ : BufTy).Contents (Elt F) → (⟨S4096x1024, .f32⟩ : BufTy).Contents (Elt F)),
    unary main_arg1 main_v26 ((extf .f32 · bitsLt_bf16_f32) : (⟨S4096x1024, .bf16⟩ : BufTy).Contents (Elt F) → (⟨S4096x1024, .f32⟩ : BufTy).Contents (Elt F)),
    binary main_v26 main_v24 main_v27 ((fun l r => Host.dotGeneral dot_S4096x1024_S2816x1024_S4096x2816_1_1_0_0_n_n none l r) : (⟨S4096x1024, .f32⟩ : BufTy).Contents (Elt F) → (⟨S2816x1024, .f32⟩ : BufTy).Contents (Elt F) → (⟨S4096x2816, .f32⟩ : BufTy).Contents (Elt F)),
    binary main_v22_0 main_v27 main_v28 (mulf : (⟨S4096x2816, .f32⟩ : BufTy).Contents (Elt F) → (⟨S4096x2816, .f32⟩ : BufTy).Contents (Elt F) → (⟨S4096x2816, .f32⟩ : BufTy).Contents (Elt F)),
    binary main_v27 main_v21 main_v29 (mulf : (⟨S4096x2816, .f32⟩ : BufTy).Contents (Elt F) → (⟨S4096x2816, .f32⟩ : BufTy).Contents (Elt F) → (⟨S4096x2816, .f32⟩ : BufTy).Contents (Elt F)),
    TRef.binary (TRef.of (T := ⟨S4096x2816, .f32⟩) main_v20) (TRef.of (T := ⟨S4096x2816, .f32⟩) main_v29) (TRef.of (T := ⟨S4096x2816, .f32⟩) main_call1_v0) mulf,
    TRef.binary (TRef.of (T := ⟨S4096x2816, .f32⟩) main_v29) (TRef.of (T := ⟨S4096x2816, .f32⟩) main_v22_2) (TRef.of (T := ⟨S4096x2816, .f32⟩) main_call1_v1) mulf,
    TRef.binary (TRef.of (T := ⟨S4096x2816, .f32⟩) main_call1_v0) (TRef.of (T := ⟨S4096x2816, .f32⟩) main_v22_1) (TRef.of (T := ⟨S4096x2816, .f32⟩) main_call1_v2) mulf,
    TRef.binary (TRef.of (T := ⟨S4096x2816, .f32⟩) main_call1_v1) (TRef.of (T := ⟨S4096x2816, .f32⟩) main_call1_v2) (TRef.of (T := ⟨S4096x2816, .f32⟩) main_v30) addf,
    nullary main_cst_2 (constant S_ .f32 0x00000000#32),
    binary main_v28 main_cst_2 main_v31 ((fun x v => pad S4096x5632 ![0, 2816] ![0, 0] ![0, 0] x v pads_S4096x2816_S4096x5632_000_281600 h_S_) : (⟨S4096x2816, .f32⟩ : BufTy).Contents (Elt F) → (⟨S_, .f32⟩ : BufTy).Contents (Elt F) → (⟨S4096x5632, .f32⟩ : BufTy).Contents (Elt F)),
    nullary main_cst_3 (constant S_ .f32 0x00000000#32),
    binary main_v30 main_cst_3 main_v32 ((fun x v => pad S4096x5632 ![0, 0] ![0, 2816] ![0, 0] x v pads_S4096x2816_S4096x5632_000_028160 h_S_) : (⟨S4096x2816, .f32⟩ : BufTy).Contents (Elt F) → (⟨S_, .f32⟩ : BufTy).Contents (Elt F) → (⟨S4096x5632, .f32⟩ : BufTy).Contents (Elt F)),
    binary main_v31 main_v32 main_v33 (addf : (⟨S4096x5632, .f32⟩ : BufTy).Contents (Elt F) → (⟨S4096x5632, .f32⟩ : BufTy).Contents (Elt F) → (⟨S4096x5632, .f32⟩ : BufTy).Contents (Elt F)) ]

/-- The operations of the convolution's own gradients. -/
abbrev opsC : List (HloOp τ sig (Elt F)) :=
  [ nullary main_cst_4 (constant S_ .f32 0x00000000#32),
    binary main_v33 main_cst_4 main_v34 ((fun x v => Host.reduceAdd x v reducesTo_S4096x5632_S5632_d0 h_S_) : (⟨S4096x5632, .f32⟩ : BufTy).Contents (Elt F) → (⟨S_, .f32⟩ : BufTy).Contents (Elt F) → (⟨S5632, .f32⟩ : BufTy).Contents (Elt F)),
    reshape main_v34 main_v35 (rfl : (.f32 : EltTy) = .f32) shapeCasts_S5632_S1x5632,
    unary main_v14 main_v36 (broadcastInDim S4096x5632 ![0, 1] bcast_S1x5632_S4096x5632_0_1 : (⟨S1x5632, .f32⟩ : BufTy).Contents (Elt F) → (⟨S4096x5632, .f32⟩ : BufTy).Contents (Elt F)),
    binary main_v36 main_v33 main_v37 (mulf : (⟨S4096x5632, .f32⟩ : BufTy).Contents (Elt F) → (⟨S4096x5632, .f32⟩ : BufTy).Contents (Elt F) → (⟨S4096x5632, .f32⟩ : BufTy).Contents (Elt F)),
    binary main_v33 main_v5 main_v38 (mulf : (⟨S4096x5632, .f32⟩ : BufTy).Contents (Elt F) → (⟨S4096x5632, .f32⟩ : BufTy).Contents (Elt F) → (⟨S4096x5632, .f32⟩ : BufTy).Contents (Elt F)),
    nullary main_cst_5 (constant S_ .f32 0x00000000#32),
    binary main_v38 main_cst_5 main_v39 ((fun x v => Host.reduceAdd x v reducesTo_S4096x5632_S5632_d0 h_S_) : (⟨S4096x5632, .f32⟩ : BufTy).Contents (Elt F) → (⟨S_, .f32⟩ : BufTy).Contents (Elt F) → (⟨S5632, .f32⟩ : BufTy).Contents (Elt F)),
    reshape main_v39 main_v40 (rfl : (.f32 : EltTy) = .f32) shapeCasts_S5632_S1x5632,
    nullary main_cst_6 (constant S_ .f32 0x00000000#32),
    binary main_v40 main_cst_6 main_v41 ((fun x v => pad S3x5632 ![2, 0] ![0, 0] ![0, 0] x v pads_S1x5632_S3x5632_200_000 h_S_) : (⟨S1x5632, .f32⟩ : BufTy).Contents (Elt F) → (⟨S_, .f32⟩ : BufTy).Contents (Elt F) → (⟨S3x5632, .f32⟩ : BufTy).Contents (Elt F)),
    unary main_v10 main_v42 (broadcastInDim S4096x5632 ![0, 1] bcast_S1x5632_S4096x5632_0_1 : (⟨S1x5632, .f32⟩ : BufTy).Contents (Elt F) → (⟨S4096x5632, .f32⟩ : BufTy).Contents (Elt F)),
    binary main_v42 main_v33 main_v43 (mulf : (⟨S4096x5632, .f32⟩ : BufTy).Contents (Elt F) → (⟨S4096x5632, .f32⟩ : BufTy).Contents (Elt F) → (⟨S4096x5632, .f32⟩ : BufTy).Contents (Elt F)),
    binary main_v33 main_arg0 main_v44 (mulf : (⟨S4096x5632, .f32⟩ : BufTy).Contents (Elt F) → (⟨S4096x5632, .f32⟩ : BufTy).Contents (Elt F) → (⟨S4096x5632, .f32⟩ : BufTy).Contents (Elt F)),
    nullary main_cst_7 (constant S_ .f32 0x00000000#32),
    binary main_v44 main_cst_7 main_v45 ((fun x v => Host.reduceAdd x v reducesTo_S4096x5632_S5632_d0 h_S_) : (⟨S4096x5632, .f32⟩ : BufTy).Contents (Elt F) → (⟨S_, .f32⟩ : BufTy).Contents (Elt F) → (⟨S5632, .f32⟩ : BufTy).Contents (Elt F)),
    reshape main_v45 main_v46 (rfl : (.f32 : EltTy) = .f32) shapeCasts_S5632_S1x5632,
    nullary main_cst_8 (constant S_ .f32 0x00000000#32),
    binary main_v46 main_cst_8 main_v47 ((fun x v => pad S3x5632 ![1, 0] ![1, 0] ![0, 0] x v pads_S1x5632_S3x5632_110_000 h_S_) : (⟨S1x5632, .f32⟩ : BufTy).Contents (Elt F) → (⟨S_, .f32⟩ : BufTy).Contents (Elt F) → (⟨S3x5632, .f32⟩ : BufTy).Contents (Elt F)),
    binary main_v41 main_v47 main_v48 (addf : (⟨S3x5632, .f32⟩ : BufTy).Contents (Elt F) → (⟨S3x5632, .f32⟩ : BufTy).Contents (Elt F) → (⟨S3x5632, .f32⟩ : BufTy).Contents (Elt F)),
    unary main_v7 main_v49 (broadcastInDim S4096x5632 ![0, 1] bcast_S1x5632_S4096x5632_0_1 : (⟨S1x5632, .f32⟩ : BufTy).Contents (Elt F) → (⟨S4096x5632, .f32⟩ : BufTy).Contents (Elt F)),
    binary main_v49 main_v33 main_v50 (mulf : (⟨S4096x5632, .f32⟩ : BufTy).Contents (Elt F) → (⟨S4096x5632, .f32⟩ : BufTy).Contents (Elt F) → (⟨S4096x5632, .f32⟩ : BufTy).Contents (Elt F)),
    binary main_v33 main_v2 main_v51 (mulf : (⟨S4096x5632, .f32⟩ : BufTy).Contents (Elt F) → (⟨S4096x5632, .f32⟩ : BufTy).Contents (Elt F) → (⟨S4096x5632, .f32⟩ : BufTy).Contents (Elt F)),
    nullary main_cst_9 (constant S_ .f32 0x00000000#32),
    binary main_v51 main_cst_9 main_v52 ((fun x v => Host.reduceAdd x v reducesTo_S4096x5632_S5632_d0 h_S_) : (⟨S4096x5632, .f32⟩ : BufTy).Contents (Elt F) → (⟨S_, .f32⟩ : BufTy).Contents (Elt F) → (⟨S5632, .f32⟩ : BufTy).Contents (Elt F)),
    reshape main_v52 main_v53 (rfl : (.f32 : EltTy) = .f32) shapeCasts_S5632_S1x5632,
    nullary main_cst_10 (constant S_ .f32 0x00000000#32),
    binary main_v53 main_cst_10 main_v54 ((fun x v => pad S3x5632 ![0, 0] ![2, 0] ![0, 0] x v pads_S1x5632_S3x5632_020_000 h_S_) : (⟨S1x5632, .f32⟩ : BufTy).Contents (Elt F) → (⟨S_, .f32⟩ : BufTy).Contents (Elt F) → (⟨S3x5632, .f32⟩ : BufTy).Contents (Elt F)),
    binary main_v48 main_v54 main_v55 (addf : (⟨S3x5632, .f32⟩ : BufTy).Contents (Elt F) → (⟨S3x5632, .f32⟩ : BufTy).Contents (Elt F) → (⟨S3x5632, .f32⟩ : BufTy).Contents (Elt F)),
    unary main_v37 main_v56 ((extractStridedSlice S4095x5632 ![0, 0] · slices_S4096x5632_S4095x5632_0_0) : (⟨S4096x5632, .f32⟩ : BufTy).Contents (Elt F) → (⟨S4095x5632, .f32⟩ : BufTy).Contents (Elt F)),
    unary main_v37 main_v57 ((extractStridedSlice S1x5632 ![4095, 0] · slices_S4096x5632_S1x5632_4095_0) : (⟨S4096x5632, .f32⟩ : BufTy).Contents (Elt F) → (⟨S1x5632, .f32⟩ : BufTy).Contents (Elt F)),
    nullary main_cst_11 (constant S_ .f32 0x00000000#32),
    binary main_v56 main_cst_11 main_v58 ((fun x v => pad S4096x5632 ![1, 0] ![0, 0] ![0, 0] x v pads_S4095x5632_S4096x5632_100_000 h_S_) : (⟨S4095x5632, .f32⟩ : BufTy).Contents (Elt F) → (⟨S_, .f32⟩ : BufTy).Contents (Elt F) → (⟨S4096x5632, .f32⟩ : BufTy).Contents (Elt F)),
    binary main_v43 main_v58 main_v59 (addf : (⟨S4096x5632, .f32⟩ : BufTy).Contents (Elt F) → (⟨S4096x5632, .f32⟩ : BufTy).Contents (Elt F) → (⟨S4096x5632, .f32⟩ : BufTy).Contents (Elt F)),
    unary main_v50 main_v60 ((extractStridedSlice S1x5632 ![0, 0] · slices_S4096x5632_S1x5632_0_0) : (⟨S4096x5632, .f32⟩ : BufTy).Contents (Elt F) → (⟨S1x5632, .f32⟩ : BufTy).Contents (Elt F)),
    unary main_v50 main_v61 ((extractStridedSlice S4095x5632 ![1, 0] · slices_S4096x5632_S4095x5632_1_0) : (⟨S4096x5632, .f32⟩ : BufTy).Contents (Elt F) → (⟨S4095x5632, .f32⟩ : BufTy).Contents (Elt F)),
    nullary main_cst_12 (constant S_ .f32 0x00000000#32),
    binary main_v61 main_cst_12 main_v62 ((fun x v => pad S4096x5632 ![0, 0] ![1, 0] ![0, 0] x v pads_S4095x5632_S4096x5632_010_000 h_S_) : (⟨S4095x5632, .f32⟩ : BufTy).Contents (Elt F) → (⟨S_, .f32⟩ : BufTy).Contents (Elt F) → (⟨S4096x5632, .f32⟩ : BufTy).Contents (Elt F)),
    binary main_v59 main_v62 main_v63 (addf : (⟨S4096x5632, .f32⟩ : BufTy).Contents (Elt F) → (⟨S4096x5632, .f32⟩ : BufTy).Contents (Elt F) → (⟨S4096x5632, .f32⟩ : BufTy).Contents (Elt F)),
    unary main_v63 main_v64 ((extractStridedSlice S4096x2816 ![0, 0] · slices_S4096x5632_S4096x2816_0_0) : (⟨S4096x5632, .f32⟩ : BufTy).Contents (Elt F) → (⟨S4096x2816, .f32⟩ : BufTy).Contents (Elt F)),
    unary main_v63 main_v65 ((extractStridedSlice S4096x2816 ![0, 2816] · slices_S4096x5632_S4096x2816_0_2816) : (⟨S4096x5632, .f32⟩ : BufTy).Contents (Elt F) → (⟨S4096x2816, .f32⟩ : BufTy).Contents (Elt F)),
    unary main_v64 main_v66 (broadcastInDim S1x4096x2816 ![1, 2] bcast_S4096x2816_S1x4096x2816_1_2 : (⟨S4096x2816, .f32⟩ : BufTy).Contents (Elt F) → (⟨S1x4096x2816, .f32⟩ : BufTy).Contents (Elt F)),
    unary main_v65 main_v67 (broadcastInDim S1x4096x2816 ![1, 2] bcast_S4096x2816_S1x4096x2816_1_2 : (⟨S4096x2816, .f32⟩ : BufTy).Contents (Elt F) → (⟨S1x4096x2816, .f32⟩ : BufTy).Contents (Elt F)),
    binary main_v66 main_v67 main_v68 (fn_main_v68 (F := F)),
    unary main_v68 main_v69 ((truncf .bf16 · bitsLt_bf16_f32) : (⟨S2x4096x2816, .f32⟩ : BufTy).Contents (Elt F) → (⟨S2x4096x2816, .bf16⟩ : BufTy).Contents (Elt F)),
    nullary main_cst_13 (constant S_ .f32 0x00000000#32),
    unary main_cst_13 main_v70 (broadcastInDim S4x5632 ![] bcast_S_S4x5632 : (⟨S_, .f32⟩ : BufTy).Contents (Elt F) → (⟨S4x5632, .f32⟩ : BufTy).Contents (Elt F)),
    nary ![main_v55, main_v35, main_v70] main_v71 (fun u => fn_main_v71 (F := F) (u 0) (u 1) (u 2)) ]

/-- The whole program. -/
abbrev ops : List (HloOp τ sig (Elt F)) := opsA ++ (opsB ++ opsC)

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨nullary_bufs_sub .., unary_bufs_sub .., unary_bufs_sub .., binary_bufs_sub .., nullary_bufs_sub .., unary_bufs_sub .., unary_bufs_sub .., binary_bufs_sub .., nullary_bufs_sub .., unary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., binary_bufs_sub .., unary_bufs_sub .., unary_bufs_sub ..⟩

set_option maxRecDepth 8192 in
theorem opsB_sub : (opsB : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., binary_bufs_sub .., unary_bufs_sub .., binary_bufs_sub .., unary_bufs_sub .., binary_bufs_sub .., binary_bufs_sub .., binary_bufs_sub .., binary_bufs_sub .., binary_bufs_sub .., binary_bufs_sub .., binary_bufs_sub .., nullary_bufs_sub .., binary_bufs_sub .., nullary_bufs_sub .., binary_bufs_sub .., binary_bufs_sub ..⟩

set_option maxRecDepth 8192 in
theorem opsC_sub : (opsC : List (HloOp τ sig (Elt F))).Forall fun op => op.bufs ⊆ tcRefs τ sig :=
  ⟨nullary_bufs_sub .., binary_bufs_sub .., reshape_bufs_sub .., unary_bufs_sub .., binary_bufs_sub .., binary_bufs_sub .., nullary_bufs_sub .., binary_bufs_sub .., reshape_bufs_sub .., nullary_bufs_sub .., binary_bufs_sub .., unary_bufs_sub .., binary_bufs_sub .., binary_bufs_sub .., nullary_bufs_sub .., binary_bufs_sub .., reshape_bufs_sub .., nullary_bufs_sub .., binary_bufs_sub .., binary_bufs_sub .., unary_bufs_sub .., binary_bufs_sub .., binary_bufs_sub .., nullary_bufs_sub .., binary_bufs_sub .., reshape_bufs_sub .., nullary_bufs_sub .., binary_bufs_sub .., binary_bufs_sub .., unary_bufs_sub .., unary_bufs_sub .., nullary_bufs_sub .., binary_bufs_sub .., binary_bufs_sub .., unary_bufs_sub .., unary_bufs_sub .., nullary_bufs_sub .., binary_bufs_sub .., binary_bufs_sub .., unary_bufs_sub .., unary_bufs_sub .., unary_bufs_sub .., unary_bufs_sub .., binary_bufs_sub .., unary_bufs_sub .., nullary_bufs_sub .., unary_bufs_sub .., nary_bufs_sub ..⟩

theorem ops_sub : (ops : List (HloOp τ sig (Elt F))).Forall fun op => op.bufs ⊆ tcRefs τ sig :=
  List.forall_append.mpr ⟨opsA_sub, List.forall_append.mpr ⟨opsB_sub, opsC_sub⟩⟩

def val_main_cst : (⟨S_, .f32⟩ : BufTy).Contents (Elt F) :=
  constant S_ .f32 0x00000000#32

def val_main_v0 : (⟨S1x5632, .f32⟩ : BufTy).Contents (Elt F) :=
  broadcastInDim S1x5632 ![] bcast_S_S1x5632 (val_main_cst (F := F))

def val_main_v1 (x0 : (⟨S4096x5632, .f32⟩ : BufTy).Contents (Elt F)) : (⟨S4095x5632, .f32⟩ : BufTy).Contents (Elt F) :=
  extractStridedSlice S4095x5632 ![0, 0] (x0) slices_S4096x5632_S4095x5632_0_0
set_option backward.proofsInPublic true in

def val_main_v2 (x0 : (⟨S4096x5632, .f32⟩ : BufTy).Contents (Elt F)) : (⟨S4096x5632, .f32⟩ : BufTy).Contents (Elt F) :=
  concatenate S4096x5632 0 [⟨S1x5632, (val_main_v0 (F := F))⟩, ⟨S4095x5632, (val_main_v1 (F := F) x0)⟩] concatenates_S1x5632_S4095x5632_S4096x5632_d0

def val_main_cst_0 : (⟨S_, .f32⟩ : BufTy).Contents (Elt F) :=
  constant S_ .f32 0x00000000#32

def val_main_v3 : (⟨S1x5632, .f32⟩ : BufTy).Contents (Elt F) :=
  broadcastInDim S1x5632 ![] bcast_S_S1x5632 (val_main_cst_0 (F := F))

def val_main_v4 (x0 : (⟨S4096x5632, .f32⟩ : BufTy).Contents (Elt F)) : (⟨S4095x5632, .f32⟩ : BufTy).Contents (Elt F) :=
  extractStridedSlice S4095x5632 ![1, 0] (x0) slices_S4096x5632_S4095x5632_1_0
set_option backward.proofsInPublic true in

def val_main_v5 (x0 : (⟨S4096x5632, .f32⟩ : BufTy).Contents (Elt F)) : (⟨S4096x5632, .f32⟩ : BufTy).Contents (Elt F) :=
  concatenate S4096x5632 0 [⟨S4095x5632, (val_main_v4 (F := F) x0)⟩, ⟨S1x5632, (val_main_v0 (F := F))⟩] concatenates_S4095x5632_S1x5632_S4096x5632_d0

def val_main_cst_1 : (⟨S_, .f32⟩ : BufTy).Contents (Elt F) :=
  constant S_ .f32 0x00000000#32

def val_main_v6 : (⟨S1x5632, .f32⟩ : BufTy).Contents (Elt F) :=
  broadcastInDim S1x5632 ![] bcast_S_S1x5632 (val_main_cst_1 (F := F))

def val_main_v7 (x3 : (⟨S3x5632, .f32⟩ : BufTy).Contents (Elt F)) : (⟨S1x5632, .f32⟩ : BufTy).Contents (Elt F) :=
  extractStridedSlice S1x5632 ![0, 0] (x3) slices_S3x5632_S1x5632_0_0
set_option backward.proofsInPublic true in

def val_main_v8 (x3 : (⟨S3x5632, .f32⟩ : BufTy).Contents (Elt F)) : (⟨S4096x5632, .f32⟩ : BufTy).Contents (Elt F) :=
  broadcastInDim S4096x5632 ![0, 1] bcast_S1x5632_S4096x5632_0_1 (val_main_v7 (F := F) x3)

def val_main_v9 (x0 : (⟨S4096x5632, .f32⟩ : BufTy).Contents (Elt F)) (x3 : (⟨S3x5632, .f32⟩ : BufTy).Contents (Elt F)) : (⟨S4096x5632, .f32⟩ : BufTy).Contents (Elt F) :=
  mulf (val_main_v8 (F := F) x3) (val_main_v2 (F := F) x0)

def val_main_v10 (x3 : (⟨S3x5632, .f32⟩ : BufTy).Contents (Elt F)) : (⟨S1x5632, .f32⟩ : BufTy).Contents (Elt F) :=
  extractStridedSlice S1x5632 ![1, 0] (x3) slices_S3x5632_S1x5632_1_0
set_option backward.proofsInPublic true in

def val_main_v11 (x3 : (⟨S3x5632, .f32⟩ : BufTy).Contents (Elt F)) : (⟨S4096x5632, .f32⟩ : BufTy).Contents (Elt F) :=
  broadcastInDim S4096x5632 ![0, 1] bcast_S1x5632_S4096x5632_0_1 (val_main_v10 (F := F) x3)

def val_main_v12 (x0 : (⟨S4096x5632, .f32⟩ : BufTy).Contents (Elt F)) (x3 : (⟨S3x5632, .f32⟩ : BufTy).Contents (Elt F)) : (⟨S4096x5632, .f32⟩ : BufTy).Contents (Elt F) :=
  mulf (val_main_v11 (F := F) x3) (x0)

def val_main_v13 (x0 : (⟨S4096x5632, .f32⟩ : BufTy).Contents (Elt F)) (x3 : (⟨S3x5632, .f32⟩ : BufTy).Contents (Elt F)) : (⟨S4096x5632, .f32⟩ : BufTy).Contents (Elt F) :=
  addf (val_main_v9 (F := F) x0 x3) (val_main_v12 (F := F) x0 x3)

def val_main_v14 (x3 : (⟨S3x5632, .f32⟩ : BufTy).Contents (Elt F)) : (⟨S1x5632, .f32⟩ : BufTy).Contents (Elt F) :=
  extractStridedSlice S1x5632 ![2, 0] (x3) slices_S3x5632_S1x5632_2_0
set_option backward.proofsInPublic true in

def val_main_v15 (x3 : (⟨S3x5632, .f32⟩ : BufTy).Contents (Elt F)) : (⟨S4096x5632, .f32⟩ : BufTy).Contents (Elt F) :=
  broadcastInDim S4096x5632 ![0, 1] bcast_S1x5632_S4096x5632_0_1 (val_main_v14 (F := F) x3)

def val_main_v16 (x0 : (⟨S4096x5632, .f32⟩ : BufTy).Contents (Elt F)) (x3 : (⟨S3x5632, .f32⟩ : BufTy).Contents (Elt F)) : (⟨S4096x5632, .f32⟩ : BufTy).Contents (Elt F) :=
  mulf (val_main_v15 (F := F) x3) (val_main_v5 (F := F) x0)

def val_main_v17 (x0 : (⟨S4096x5632, .f32⟩ : BufTy).Contents (Elt F)) (x3 : (⟨S3x5632, .f32⟩ : BufTy).Contents (Elt F)) : (⟨S4096x5632, .f32⟩ : BufTy).Contents (Elt F) :=
  addf (val_main_v13 (F := F) x0 x3) (val_main_v16 (F := F) x0 x3)

def val_main_v18 (x4 : (⟨S1x5632, .f32⟩ : BufTy).Contents (Elt F)) : (⟨S4096x5632, .f32⟩ : BufTy).Contents (Elt F) :=
  broadcastInDim S4096x5632 ![0, 1] bcast_S1x5632_S4096x5632_0_1 (x4)

def val_main_v19 (x0 : (⟨S4096x5632, .f32⟩ : BufTy).Contents (Elt F)) (x3 : (⟨S3x5632, .f32⟩ : BufTy).Contents (Elt F)) (x4 : (⟨S1x5632, .f32⟩ : BufTy).Contents (Elt F)) : (⟨S4096x5632, .f32⟩ : BufTy).Contents (Elt F) :=
  addf (val_main_v17 (F := F) x0 x3) (val_main_v18 (F := F) x4)

def val_main_v20 (x0 : (⟨S4096x5632, .f32⟩ : BufTy).Contents (Elt F)) (x3 : (⟨S3x5632, .f32⟩ : BufTy).Contents (Elt F)) (x4 : (⟨S1x5632, .f32⟩ : BufTy).Contents (Elt F)) : (⟨S4096x2816, .f32⟩ : BufTy).Contents (Elt F) :=
  extractStridedSlice S4096x2816 ![0, 0] (val_main_v19 (F := F) x0 x3 x4) slices_S4096x5632_S4096x2816_0_0
set_option backward.proofsInPublic true in

def val_main_v21 (x0 : (⟨S4096x5632, .f32⟩ : BufTy).Contents (Elt F)) (x3 : (⟨S3x5632, .f32⟩ : BufTy).Contents (Elt F)) (x4 : (⟨S1x5632, .f32⟩ : BufTy).Contents (Elt F)) : (⟨S4096x2816, .f32⟩ : BufTy).Contents (Elt F) :=
  extractStridedSlice S4096x2816 ![0, 2816] (val_main_v19 (F := F) x0 x3 x4) slices_S4096x5632_S4096x2816_0_2816
set_option backward.proofsInPublic true in

def val_main_call0_v0 (x0 : (⟨S4096x5632, .f32⟩ : BufTy).Contents (Elt F)) (x3 : (⟨S3x5632, .f32⟩ : BufTy).Contents (Elt F)) (x4 : (⟨S1x5632, .f32⟩ : BufTy).Contents (Elt F)) : (⟨S4096x2816, .f32⟩ : BufTy).Contents (Elt F) :=
  Host.negf (val_main_v20 (F := F) x0 x3 x4)

def val_main_call0_v1 (x0 : (⟨S4096x5632, .f32⟩ : BufTy).Contents (Elt F)) (x3 : (⟨S3x5632, .f32⟩ : BufTy).Contents (Elt F)) (x4 : (⟨S1x5632, .f32⟩ : BufTy).Contents (Elt F)) : (⟨S4096x2816, .f32⟩ : BufTy).Contents (Elt F) :=
  Host.exp (val_main_call0_v0 (F := F) x0 x3 x4)

def val_main_call0_cst : (⟨S_, .f32⟩ : BufTy).Contents (Elt F) :=
  constant S_ .f32 0x3F800000#32

def val_main_call0_v2 : (⟨S4096x2816, .f32⟩ : BufTy).Contents (Elt F) :=
  broadcastInDim S4096x2816 ![] bcast_S_S4096x2816 (val_main_call0_cst (F := F))

def val_main_call0_v3 (x0 : (⟨S4096x5632, .f32⟩ : BufTy).Contents (Elt F)) (x3 : (⟨S3x5632, .f32⟩ : BufTy).Contents (Elt F)) (x4 : (⟨S1x5632, .f32⟩ : BufTy).Contents (Elt F)) : (⟨S4096x2816, .f32⟩ : BufTy).Contents (Elt F) :=
  addf (val_main_call0_v2 (F := F)) (val_main_call0_v1 (F := F) x0 x3 x4)

def val_main_call0_cst_0 : (⟨S_, .f32⟩ : BufTy).Contents (Elt F) :=
  constant S_ .f32 0x3F800000#32

def val_main_call0_v4 : (⟨S4096x2816, .f32⟩ : BufTy).Contents (Elt F) :=
  broadcastInDim S4096x2816 ![] bcast_S_S4096x2816 (val_main_call0_cst_0 (F := F))

def val_main_v22_2 (x0 : (⟨S4096x5632, .f32⟩ : BufTy).Contents (Elt F)) (x3 : (⟨S3x5632, .f32⟩ : BufTy).Contents (Elt F)) (x4 : (⟨S1x5632, .f32⟩ : BufTy).Contents (Elt F)) : (⟨S4096x2816, .f32⟩ : BufTy).Contents (Elt F) :=
  Host.divf (val_main_call0_v4 (F := F)) (val_main_call0_v3 (F := F) x0 x3 x4)

def val_main_call0_cst_1 : (⟨S_, .f32⟩ : BufTy).Contents (Elt F) :=
  constant S_ .f32 0x3F800000#32

def val_main_call0_v6 : (⟨S4096x2816, .f32⟩ : BufTy).Contents (Elt F) :=
  broadcastInDim S4096x2816 ![] bcast_S_S4096x2816 (val_main_call0_cst_1 (F := F))

def val_main_call0_v7 (x0 : (⟨S4096x5632, .f32⟩ : BufTy).Contents (Elt F)) (x3 : (⟨S3x5632, .f32⟩ : BufTy).Contents (Elt F)) (x4 : (⟨S1x5632, .f32⟩ : BufTy).Contents (Elt F)) : (⟨S4096x2816, .f32⟩ : BufTy).Contents (Elt F) :=
  subf (val_main_call0_v6 (F := F)) (val_main_v22_2 (F := F) x0 x3 x4)

def val_main_v22_1 (x0 : (⟨S4096x5632, .f32⟩ : BufTy).Contents (Elt F)) (x3 : (⟨S3x5632, .f32⟩ : BufTy).Contents (Elt F)) (x4 : (⟨S1x5632, .f32⟩ : BufTy).Contents (Elt F)) : (⟨S4096x2816, .f32⟩ : BufTy).Contents (Elt F) :=
  mulf (val_main_v22_2 (F := F) x0 x3 x4) (val_main_call0_v7 (F := F) x0 x3 x4)

def val_main_v22_0 (x0 : (⟨S4096x5632, .f32⟩ : BufTy).Contents (Elt F)) (x3 : (⟨S3x5632, .f32⟩ : BufTy).Contents (Elt F)) (x4 : (⟨S1x5632, .f32⟩ : BufTy).Contents (Elt F)) : (⟨S4096x2816, .f32⟩ : BufTy).Contents (Elt F) :=
  mulf (val_main_v20 (F := F) x0 x3 x4) (val_main_v22_2 (F := F) x0 x3 x4)

def val_main_v23 (x0 : (⟨S4096x5632, .f32⟩ : BufTy).Contents (Elt F)) (x3 : (⟨S3x5632, .f32⟩ : BufTy).Contents (Elt F)) (x4 : (⟨S1x5632, .f32⟩ : BufTy).Contents (Elt F)) : (⟨S4096x2816, .f32⟩ : BufTy).Contents (Elt F) :=
  mulf (val_main_v22_0 (F := F) x0 x3 x4) (val_main_v21 (F := F) x0 x3 x4)

def val_main_v24 (x2 : (⟨S2816x1024, .bf16⟩ : BufTy).Contents (Elt F)) : (⟨S2816x1024, .f32⟩ : BufTy).Contents (Elt F) :=
  extf .f32 (x2) bitsLt_bf16_f32

def val_main_v25 (x0 : (⟨S4096x5632, .f32⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S4096x1024, .f32⟩ : BufTy).Contents (Elt F) :=
  Host.dotGeneral dot_S4096x2816_S2816x1024_S4096x1024_1_0_0_1_n_n none (val_main_v23 (F := F) x0 x3 x4) (val_main_v24 (F := F) x2)

def val_main_v26 (x1 : (⟨S4096x1024, .bf16⟩ : BufTy).Contents (Elt F)) : (⟨S4096x1024, .f32⟩ : BufTy).Contents (Elt F) :=
  extf .f32 (x1) bitsLt_bf16_f32

def val_main_v27 (x1 : (⟨S4096x1024, .bf16⟩ : BufTy).Contents (Elt F)) (x2 : (⟨S2816x1024, .bf16⟩ : BufTy).Contents (Elt F)) : (⟨S4096x2816, .f32⟩ : BufTy).Contents (Elt F) :=
  Host.dotGeneral dot_S4096x1024_S2816x1024_S4096x2816_1_1_0_0_n_n none (val_main_v26 (F := F) x1) (val_main_v24 (F := F) x2)

def val_main_v28 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S4096x2816, .f32⟩ : BufTy).Contents (Elt F) :=
  mulf (val_main_v22_0 (F := F) x0 x3 x4) (val_main_v27 (F := F) x1 x2)

def val_main_v29 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S4096x2816, .f32⟩ : BufTy).Contents (Elt F) :=
  mulf (val_main_v27 (F := F) x1 x2) (val_main_v21 (F := F) x0 x3 x4)

def val_main_call1_v0 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S4096x2816, .f32⟩ : BufTy).Contents (Elt F) :=
  mulf (val_main_v20 (F := F) x0 x3 x4) (val_main_v29 (F := F) x0 x1 x2 x3 x4)

def val_main_call1_v1 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S4096x2816, .f32⟩ : BufTy).Contents (Elt F) :=
  mulf (val_main_v29 (F := F) x0 x1 x2 x3 x4) (val_main_v22_2 (F := F) x0 x3 x4)

def val_main_call1_v2 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S4096x2816, .f32⟩ : BufTy).Contents (Elt F) :=
  mulf (val_main_call1_v0 (F := F) x0 x1 x2 x3 x4) (val_main_v22_1 (F := F) x0 x3 x4)

def val_main_v30 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S4096x2816, .f32⟩ : BufTy).Contents (Elt F) :=
  addf (val_main_call1_v1 (F := F) x0 x1 x2 x3 x4) (val_main_call1_v2 (F := F) x0 x1 x2 x3 x4)

def val_main_cst_2 : (⟨S_, .f32⟩ : BufTy).Contents (Elt F) :=
  constant S_ .f32 0x00000000#32

def val_main_v31 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S4096x5632, .f32⟩ : BufTy).Contents (Elt F) :=
  pad S4096x5632 ![0, 2816] ![0, 0] ![0, 0] (val_main_v28 (F := F) x0 x1 x2 x3 x4) (val_main_cst_2 (F := F)) pads_S4096x2816_S4096x5632_000_281600 h_S_

def val_main_cst_3 : (⟨S_, .f32⟩ : BufTy).Contents (Elt F) :=
  constant S_ .f32 0x00000000#32

def val_main_v32 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S4096x5632, .f32⟩ : BufTy).Contents (Elt F) :=
  pad S4096x5632 ![0, 0] ![0, 2816] ![0, 0] (val_main_v30 (F := F) x0 x1 x2 x3 x4) (val_main_cst_3 (F := F)) pads_S4096x2816_S4096x5632_000_028160 h_S_

def val_main_v33 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S4096x5632, .f32⟩ : BufTy).Contents (Elt F) :=
  addf (val_main_v31 (F := F) x0 x1 x2 x3 x4) (val_main_v32 (F := F) x0 x1 x2 x3 x4)

def val_main_cst_4 : (⟨S_, .f32⟩ : BufTy).Contents (Elt F) :=
  constant S_ .f32 0x00000000#32

def val_main_v34 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S5632, .f32⟩ : BufTy).Contents (Elt F) :=
  Host.reduceAdd (val_main_v33 (F := F) x0 x1 x2 x3 x4) (val_main_cst_4 (F := F)) reducesTo_S4096x5632_S5632_d0 h_S_

def val_main_v35 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S1x5632, .f32⟩ : BufTy).Contents (Elt F) :=
  shapeCast _ (val_main_v34 (F := F) x0 x1 x2 x3 x4) shapeCasts_S5632_S1x5632
set_option backward.proofsInPublic true in

def val_main_v36 (x3 : (⟨S3x5632, .f32⟩ : BufTy).Contents (Elt F)) : (⟨S4096x5632, .f32⟩ : BufTy).Contents (Elt F) :=
  broadcastInDim S4096x5632 ![0, 1] bcast_S1x5632_S4096x5632_0_1 (val_main_v14 (F := F) x3)

def val_main_v37 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S4096x5632, .f32⟩ : BufTy).Contents (Elt F) :=
  mulf (val_main_v36 (F := F) x3) (val_main_v33 (F := F) x0 x1 x2 x3 x4)

def val_main_v38 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S4096x5632, .f32⟩ : BufTy).Contents (Elt F) :=
  mulf (val_main_v33 (F := F) x0 x1 x2 x3 x4) (val_main_v5 (F := F) x0)

def val_main_cst_5 : (⟨S_, .f32⟩ : BufTy).Contents (Elt F) :=
  constant S_ .f32 0x00000000#32

def val_main_v39 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S5632, .f32⟩ : BufTy).Contents (Elt F) :=
  Host.reduceAdd (val_main_v38 (F := F) x0 x1 x2 x3 x4) (val_main_cst_5 (F := F)) reducesTo_S4096x5632_S5632_d0 h_S_

def val_main_v40 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S1x5632, .f32⟩ : BufTy).Contents (Elt F) :=
  shapeCast _ (val_main_v39 (F := F) x0 x1 x2 x3 x4) shapeCasts_S5632_S1x5632
set_option backward.proofsInPublic true in

def val_main_cst_6 : (⟨S_, .f32⟩ : BufTy).Contents (Elt F) :=
  constant S_ .f32 0x00000000#32

def val_main_v41 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S3x5632, .f32⟩ : BufTy).Contents (Elt F) :=
  pad S3x5632 ![2, 0] ![0, 0] ![0, 0] (val_main_v40 (F := F) x0 x1 x2 x3 x4) (val_main_cst_6 (F := F)) pads_S1x5632_S3x5632_200_000 h_S_

def val_main_v42 (x3 : (⟨S3x5632, .f32⟩ : BufTy).Contents (Elt F)) : (⟨S4096x5632, .f32⟩ : BufTy).Contents (Elt F) :=
  broadcastInDim S4096x5632 ![0, 1] bcast_S1x5632_S4096x5632_0_1 (val_main_v10 (F := F) x3)

def val_main_v43 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S4096x5632, .f32⟩ : BufTy).Contents (Elt F) :=
  mulf (val_main_v42 (F := F) x3) (val_main_v33 (F := F) x0 x1 x2 x3 x4)

def val_main_v44 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S4096x5632, .f32⟩ : BufTy).Contents (Elt F) :=
  mulf (val_main_v33 (F := F) x0 x1 x2 x3 x4) (x0)

def val_main_cst_7 : (⟨S_, .f32⟩ : BufTy).Contents (Elt F) :=
  constant S_ .f32 0x00000000#32

def val_main_v45 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S5632, .f32⟩ : BufTy).Contents (Elt F) :=
  Host.reduceAdd (val_main_v44 (F := F) x0 x1 x2 x3 x4) (val_main_cst_7 (F := F)) reducesTo_S4096x5632_S5632_d0 h_S_

def val_main_v46 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S1x5632, .f32⟩ : BufTy).Contents (Elt F) :=
  shapeCast _ (val_main_v45 (F := F) x0 x1 x2 x3 x4) shapeCasts_S5632_S1x5632
set_option backward.proofsInPublic true in

def val_main_cst_8 : (⟨S_, .f32⟩ : BufTy).Contents (Elt F) :=
  constant S_ .f32 0x00000000#32

def val_main_v47 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S3x5632, .f32⟩ : BufTy).Contents (Elt F) :=
  pad S3x5632 ![1, 0] ![1, 0] ![0, 0] (val_main_v46 (F := F) x0 x1 x2 x3 x4) (val_main_cst_8 (F := F)) pads_S1x5632_S3x5632_110_000 h_S_

def val_main_v48 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S3x5632, .f32⟩ : BufTy).Contents (Elt F) :=
  addf (val_main_v41 (F := F) x0 x1 x2 x3 x4) (val_main_v47 (F := F) x0 x1 x2 x3 x4)

def val_main_v49 (x3 : (⟨S3x5632, .f32⟩ : BufTy).Contents (Elt F)) : (⟨S4096x5632, .f32⟩ : BufTy).Contents (Elt F) :=
  broadcastInDim S4096x5632 ![0, 1] bcast_S1x5632_S4096x5632_0_1 (val_main_v7 (F := F) x3)

def val_main_v50 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S4096x5632, .f32⟩ : BufTy).Contents (Elt F) :=
  mulf (val_main_v49 (F := F) x3) (val_main_v33 (F := F) x0 x1 x2 x3 x4)

def val_main_v51 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S4096x5632, .f32⟩ : BufTy).Contents (Elt F) :=
  mulf (val_main_v33 (F := F) x0 x1 x2 x3 x4) (val_main_v2 (F := F) x0)

def val_main_cst_9 : (⟨S_, .f32⟩ : BufTy).Contents (Elt F) :=
  constant S_ .f32 0x00000000#32

def val_main_v52 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S5632, .f32⟩ : BufTy).Contents (Elt F) :=
  Host.reduceAdd (val_main_v51 (F := F) x0 x1 x2 x3 x4) (val_main_cst_9 (F := F)) reducesTo_S4096x5632_S5632_d0 h_S_

def val_main_v53 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S1x5632, .f32⟩ : BufTy).Contents (Elt F) :=
  shapeCast _ (val_main_v52 (F := F) x0 x1 x2 x3 x4) shapeCasts_S5632_S1x5632
set_option backward.proofsInPublic true in

def val_main_cst_10 : (⟨S_, .f32⟩ : BufTy).Contents (Elt F) :=
  constant S_ .f32 0x00000000#32

def val_main_v54 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S3x5632, .f32⟩ : BufTy).Contents (Elt F) :=
  pad S3x5632 ![0, 0] ![2, 0] ![0, 0] (val_main_v53 (F := F) x0 x1 x2 x3 x4) (val_main_cst_10 (F := F)) pads_S1x5632_S3x5632_020_000 h_S_

def val_main_v55 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S3x5632, .f32⟩ : BufTy).Contents (Elt F) :=
  addf (val_main_v48 (F := F) x0 x1 x2 x3 x4) (val_main_v54 (F := F) x0 x1 x2 x3 x4)

def val_main_v56 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S4095x5632, .f32⟩ : BufTy).Contents (Elt F) :=
  extractStridedSlice S4095x5632 ![0, 0] (val_main_v37 (F := F) x0 x1 x2 x3 x4) slices_S4096x5632_S4095x5632_0_0
set_option backward.proofsInPublic true in

def val_main_v57 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S1x5632, .f32⟩ : BufTy).Contents (Elt F) :=
  extractStridedSlice S1x5632 ![4095, 0] (val_main_v37 (F := F) x0 x1 x2 x3 x4) slices_S4096x5632_S1x5632_4095_0
set_option backward.proofsInPublic true in

def val_main_cst_11 : (⟨S_, .f32⟩ : BufTy).Contents (Elt F) :=
  constant S_ .f32 0x00000000#32

def val_main_v58 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S4096x5632, .f32⟩ : BufTy).Contents (Elt F) :=
  pad S4096x5632 ![1, 0] ![0, 0] ![0, 0] (val_main_v56 (F := F) x0 x1 x2 x3 x4) (val_main_cst_11 (F := F)) pads_S4095x5632_S4096x5632_100_000 h_S_

def val_main_v59 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S4096x5632, .f32⟩ : BufTy).Contents (Elt F) :=
  addf (val_main_v43 (F := F) x0 x1 x2 x3 x4) (val_main_v58 (F := F) x0 x1 x2 x3 x4)

def val_main_v60 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S1x5632, .f32⟩ : BufTy).Contents (Elt F) :=
  extractStridedSlice S1x5632 ![0, 0] (val_main_v50 (F := F) x0 x1 x2 x3 x4) slices_S4096x5632_S1x5632_0_0
set_option backward.proofsInPublic true in

def val_main_v61 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S4095x5632, .f32⟩ : BufTy).Contents (Elt F) :=
  extractStridedSlice S4095x5632 ![1, 0] (val_main_v50 (F := F) x0 x1 x2 x3 x4) slices_S4096x5632_S4095x5632_1_0
set_option backward.proofsInPublic true in

def val_main_cst_12 : (⟨S_, .f32⟩ : BufTy).Contents (Elt F) :=
  constant S_ .f32 0x00000000#32

def val_main_v62 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S4096x5632, .f32⟩ : BufTy).Contents (Elt F) :=
  pad S4096x5632 ![0, 0] ![1, 0] ![0, 0] (val_main_v61 (F := F) x0 x1 x2 x3 x4) (val_main_cst_12 (F := F)) pads_S4095x5632_S4096x5632_010_000 h_S_

def val_main_v63 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S4096x5632, .f32⟩ : BufTy).Contents (Elt F) :=
  addf (val_main_v59 (F := F) x0 x1 x2 x3 x4) (val_main_v62 (F := F) x0 x1 x2 x3 x4)

def val_main_v64 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S4096x2816, .f32⟩ : BufTy).Contents (Elt F) :=
  extractStridedSlice S4096x2816 ![0, 0] (val_main_v63 (F := F) x0 x1 x2 x3 x4) slices_S4096x5632_S4096x2816_0_0
set_option backward.proofsInPublic true in

def val_main_v65 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S4096x2816, .f32⟩ : BufTy).Contents (Elt F) :=
  extractStridedSlice S4096x2816 ![0, 2816] (val_main_v63 (F := F) x0 x1 x2 x3 x4) slices_S4096x5632_S4096x2816_0_2816
set_option backward.proofsInPublic true in

def val_main_v66 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S1x4096x2816, .f32⟩ : BufTy).Contents (Elt F) :=
  broadcastInDim S1x4096x2816 ![1, 2] bcast_S4096x2816_S1x4096x2816_1_2 (val_main_v64 (F := F) x0 x1 x2 x3 x4)

def val_main_v67 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S1x4096x2816, .f32⟩ : BufTy).Contents (Elt F) :=
  broadcastInDim S1x4096x2816 ![1, 2] bcast_S4096x2816_S1x4096x2816_1_2 (val_main_v65 (F := F) x0 x1 x2 x3 x4)

def val_main_v68 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S2x4096x2816, .f32⟩ : BufTy).Contents (Elt F) :=
  concatenate S2x4096x2816 0 [⟨S1x4096x2816, (val_main_v66 (F := F) x0 x1 x2 x3 x4)⟩, ⟨S1x4096x2816, (val_main_v67 (F := F) x0 x1 x2 x3 x4)⟩] concatenates_S1x4096x2816_S1x4096x2816_S2x4096x2816_d0

def val_main_v69 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S2x4096x2816, .bf16⟩ : BufTy).Contents (Elt F) :=
  truncf .bf16 (val_main_v68 (F := F) x0 x1 x2 x3 x4) bitsLt_bf16_f32

def val_main_cst_13 : (⟨S_, .f32⟩ : BufTy).Contents (Elt F) :=
  constant S_ .f32 0x00000000#32

def val_main_v70 : (⟨S4x5632, .f32⟩ : BufTy).Contents (Elt F) :=
  broadcastInDim S4x5632 ![] bcast_S_S4x5632 (val_main_cst_13 (F := F))

def val_main_v71 (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F)) : (⟨S8x5632, .f32⟩ : BufTy).Contents (Elt F) :=
  (concatenate S8x5632 0 [⟨S3x5632, ((val_main_v55 (F := F) x0 x1 x2 x3 x4) : (⟨S3x5632, .f32⟩ : BufTy).Contents (Elt F))⟩, ⟨S1x5632, ((val_main_v35 (F := F) x0 x1 x2 x3 x4) : (⟨S1x5632, .f32⟩ : BufTy).Contents (Elt F))⟩, ⟨S4x5632, ((val_main_v70 (F := F)) : (⟨S4x5632, .f32⟩ : BufTy).Contents (Elt F))⟩] concatenates_S3x5632_S1x5632_S4x5632_S8x5632_d0 : (⟨S8x5632, .f32⟩ : BufTy).Contents (Elt F))

/-- A line of operations followed by another leaves what the second leaves of what the first leaves. -/
theorem after_two : ∀ (l₁ l₂ : List (HloOp τ sig (Elt F))) (V : Valuation τ sig (Elt F)), after (l₁ ++ l₂) V = after l₂ (after l₁ V)
  | [], _, _ => rfl
  | op :: l₁, l₂, V => by
    rw [List.cons_append, after_cons, after_cons]
    exact after_two l₁ l₂ _

theorem afterA_main_v2 (V : Valuation τ sig (Elt F)) (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F))
    (h_main_arg0 : V (Proc.devRef (τ := τ) .tc main_arg0) = x0) (h_main_arg1 : V (Proc.devRef (τ := τ) .tc main_arg1) = x1) (h_main_arg2 : V (Proc.devRef (τ := τ) .tc main_arg2) = x2) (h_main_arg3 : V (Proc.devRef (τ := τ) .tc main_arg3) = x3) (h_main_arg4 : V (Proc.devRef (τ := τ) .tc main_arg4) = x4) :
    after opsA V (Proc.devRef (τ := τ) .tc main_v2) = (val_main_v2 (F := F) x0) := by
  after_results_simp
  simp only [h_main_arg0, h_main_arg1, h_main_arg2, h_main_arg3, h_main_arg4]
  rfl

theorem afterA_main_v5 (V : Valuation τ sig (Elt F)) (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F))
    (h_main_arg0 : V (Proc.devRef (τ := τ) .tc main_arg0) = x0) (h_main_arg1 : V (Proc.devRef (τ := τ) .tc main_arg1) = x1) (h_main_arg2 : V (Proc.devRef (τ := τ) .tc main_arg2) = x2) (h_main_arg3 : V (Proc.devRef (τ := τ) .tc main_arg3) = x3) (h_main_arg4 : V (Proc.devRef (τ := τ) .tc main_arg4) = x4) :
    after opsA V (Proc.devRef (τ := τ) .tc main_v5) = (val_main_v5 (F := F) x0) := by
  after_results_simp
  simp only [h_main_arg0, h_main_arg1, h_main_arg2, h_main_arg3, h_main_arg4]
  rfl

theorem afterA_main_v7 (V : Valuation τ sig (Elt F)) (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F))
    (h_main_arg0 : V (Proc.devRef (τ := τ) .tc main_arg0) = x0) (h_main_arg1 : V (Proc.devRef (τ := τ) .tc main_arg1) = x1) (h_main_arg2 : V (Proc.devRef (τ := τ) .tc main_arg2) = x2) (h_main_arg3 : V (Proc.devRef (τ := τ) .tc main_arg3) = x3) (h_main_arg4 : V (Proc.devRef (τ := τ) .tc main_arg4) = x4) :
    after opsA V (Proc.devRef (τ := τ) .tc main_v7) = (val_main_v7 (F := F) x3) := by
  after_results_simp
  simp only [h_main_arg0, h_main_arg1, h_main_arg2, h_main_arg3, h_main_arg4]
  rfl

theorem afterA_main_v10 (V : Valuation τ sig (Elt F)) (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F))
    (h_main_arg0 : V (Proc.devRef (τ := τ) .tc main_arg0) = x0) (h_main_arg1 : V (Proc.devRef (τ := τ) .tc main_arg1) = x1) (h_main_arg2 : V (Proc.devRef (τ := τ) .tc main_arg2) = x2) (h_main_arg3 : V (Proc.devRef (τ := τ) .tc main_arg3) = x3) (h_main_arg4 : V (Proc.devRef (τ := τ) .tc main_arg4) = x4) :
    after opsA V (Proc.devRef (τ := τ) .tc main_v10) = (val_main_v10 (F := F) x3) := by
  after_results_simp
  simp only [h_main_arg0, h_main_arg1, h_main_arg2, h_main_arg3, h_main_arg4]
  rfl

theorem afterA_main_v14 (V : Valuation τ sig (Elt F)) (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F))
    (h_main_arg0 : V (Proc.devRef (τ := τ) .tc main_arg0) = x0) (h_main_arg1 : V (Proc.devRef (τ := τ) .tc main_arg1) = x1) (h_main_arg2 : V (Proc.devRef (τ := τ) .tc main_arg2) = x2) (h_main_arg3 : V (Proc.devRef (τ := τ) .tc main_arg3) = x3) (h_main_arg4 : V (Proc.devRef (τ := τ) .tc main_arg4) = x4) :
    after opsA V (Proc.devRef (τ := τ) .tc main_v14) = (val_main_v14 (F := F) x3) := by
  after_results_simp
  simp only [h_main_arg0, h_main_arg1, h_main_arg2, h_main_arg3, h_main_arg4]
  rfl

theorem afterA_main_v20 (V : Valuation τ sig (Elt F)) (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F))
    (h_main_arg0 : V (Proc.devRef (τ := τ) .tc main_arg0) = x0) (h_main_arg1 : V (Proc.devRef (τ := τ) .tc main_arg1) = x1) (h_main_arg2 : V (Proc.devRef (τ := τ) .tc main_arg2) = x2) (h_main_arg3 : V (Proc.devRef (τ := τ) .tc main_arg3) = x3) (h_main_arg4 : V (Proc.devRef (τ := τ) .tc main_arg4) = x4) :
    after opsA V (Proc.devRef (τ := τ) .tc main_v20) = (val_main_v20 (F := F) x0 x3 x4) := by
  after_results_simp
  simp only [h_main_arg0, h_main_arg1, h_main_arg2, h_main_arg3, h_main_arg4]
  rfl

theorem afterA_main_v21 (V : Valuation τ sig (Elt F)) (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F))
    (h_main_arg0 : V (Proc.devRef (τ := τ) .tc main_arg0) = x0) (h_main_arg1 : V (Proc.devRef (τ := τ) .tc main_arg1) = x1) (h_main_arg2 : V (Proc.devRef (τ := τ) .tc main_arg2) = x2) (h_main_arg3 : V (Proc.devRef (τ := τ) .tc main_arg3) = x3) (h_main_arg4 : V (Proc.devRef (τ := τ) .tc main_arg4) = x4) :
    after opsA V (Proc.devRef (τ := τ) .tc main_v21) = (val_main_v21 (F := F) x0 x3 x4) := by
  after_results_simp
  simp only [h_main_arg0, h_main_arg1, h_main_arg2, h_main_arg3, h_main_arg4]
  rfl

theorem afterA_main_arg0 (V : Valuation τ sig (Elt F)) : after opsA V (Proc.devRef (τ := τ) .tc main_arg0) = V (Proc.devRef (τ := τ) .tc main_arg0) := by
  after_results_simp

theorem afterA_main_arg1 (V : Valuation τ sig (Elt F)) : after opsA V (Proc.devRef (τ := τ) .tc main_arg1) = V (Proc.devRef (τ := τ) .tc main_arg1) := by
  after_results_simp

theorem afterA_main_arg2 (V : Valuation τ sig (Elt F)) : after opsA V (Proc.devRef (τ := τ) .tc main_arg2) = V (Proc.devRef (τ := τ) .tc main_arg2) := by
  after_results_simp

theorem afterA_main_arg3 (V : Valuation τ sig (Elt F)) : after opsA V (Proc.devRef (τ := τ) .tc main_arg3) = V (Proc.devRef (τ := τ) .tc main_arg3) := by
  after_results_simp

theorem afterA_main_arg4 (V : Valuation τ sig (Elt F)) : after opsA V (Proc.devRef (τ := τ) .tc main_arg4) = V (Proc.devRef (τ := τ) .tc main_arg4) := by
  after_results_simp

theorem afterB_main_v33 (V : Valuation τ sig (Elt F)) (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F))
    (h_main_arg0 : V (Proc.devRef (τ := τ) .tc main_arg0) = x0) (h_main_arg1 : V (Proc.devRef (τ := τ) .tc main_arg1) = x1) (h_main_arg2 : V (Proc.devRef (τ := τ) .tc main_arg2) = x2) (h_main_arg3 : V (Proc.devRef (τ := τ) .tc main_arg3) = x3) (h_main_arg4 : V (Proc.devRef (τ := τ) .tc main_arg4) = x4) (h_main_v2 : V (Proc.devRef (τ := τ) .tc main_v2) = (val_main_v2 (F := F) x0)) (h_main_v5 : V (Proc.devRef (τ := τ) .tc main_v5) = (val_main_v5 (F := F) x0)) (h_main_v7 : V (Proc.devRef (τ := τ) .tc main_v7) = (val_main_v7 (F := F) x3)) (h_main_v10 : V (Proc.devRef (τ := τ) .tc main_v10) = (val_main_v10 (F := F) x3)) (h_main_v14 : V (Proc.devRef (τ := τ) .tc main_v14) = (val_main_v14 (F := F) x3)) (h_main_v20 : V (Proc.devRef (τ := τ) .tc main_v20) = (val_main_v20 (F := F) x0 x3 x4)) (h_main_v21 : V (Proc.devRef (τ := τ) .tc main_v21) = (val_main_v21 (F := F) x0 x3 x4)) :
    after opsB V (Proc.devRef (τ := τ) .tc main_v33) = (val_main_v33 (F := F) x0 x1 x2 x3 x4) := by
  after_results_simp
  simp only [h_main_arg0, h_main_arg1, h_main_arg2, h_main_arg3, h_main_arg4, h_main_v2, h_main_v5, h_main_v7, h_main_v10, h_main_v14, h_main_v20, h_main_v21]
  rfl

theorem afterB_main_v2 (V : Valuation τ sig (Elt F)) : after opsB V (Proc.devRef (τ := τ) .tc main_v2) = V (Proc.devRef (τ := τ) .tc main_v2) := by
  after_results_simp

theorem afterB_main_v5 (V : Valuation τ sig (Elt F)) : after opsB V (Proc.devRef (τ := τ) .tc main_v5) = V (Proc.devRef (τ := τ) .tc main_v5) := by
  after_results_simp

theorem afterB_main_v7 (V : Valuation τ sig (Elt F)) : after opsB V (Proc.devRef (τ := τ) .tc main_v7) = V (Proc.devRef (τ := τ) .tc main_v7) := by
  after_results_simp

theorem afterB_main_v10 (V : Valuation τ sig (Elt F)) : after opsB V (Proc.devRef (τ := τ) .tc main_v10) = V (Proc.devRef (τ := τ) .tc main_v10) := by
  after_results_simp

theorem afterB_main_v14 (V : Valuation τ sig (Elt F)) : after opsB V (Proc.devRef (τ := τ) .tc main_v14) = V (Proc.devRef (τ := τ) .tc main_v14) := by
  after_results_simp

theorem afterB_main_arg0 (V : Valuation τ sig (Elt F)) : after opsB V (Proc.devRef (τ := τ) .tc main_arg0) = V (Proc.devRef (τ := τ) .tc main_arg0) := by
  after_results_simp

theorem afterB_main_arg1 (V : Valuation τ sig (Elt F)) : after opsB V (Proc.devRef (τ := τ) .tc main_arg1) = V (Proc.devRef (τ := τ) .tc main_arg1) := by
  after_results_simp

theorem afterB_main_arg2 (V : Valuation τ sig (Elt F)) : after opsB V (Proc.devRef (τ := τ) .tc main_arg2) = V (Proc.devRef (τ := τ) .tc main_arg2) := by
  after_results_simp

theorem afterB_main_arg3 (V : Valuation τ sig (Elt F)) : after opsB V (Proc.devRef (τ := τ) .tc main_arg3) = V (Proc.devRef (τ := τ) .tc main_arg3) := by
  after_results_simp

theorem afterB_main_arg4 (V : Valuation τ sig (Elt F)) : after opsB V (Proc.devRef (τ := τ) .tc main_arg4) = V (Proc.devRef (τ := τ) .tc main_arg4) := by
  after_results_simp

theorem afterC_main_v69 (V : Valuation τ sig (Elt F)) (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F))
    (h_main_arg0 : V (Proc.devRef (τ := τ) .tc main_arg0) = x0) (h_main_arg1 : V (Proc.devRef (τ := τ) .tc main_arg1) = x1) (h_main_arg2 : V (Proc.devRef (τ := τ) .tc main_arg2) = x2) (h_main_arg3 : V (Proc.devRef (τ := τ) .tc main_arg3) = x3) (h_main_arg4 : V (Proc.devRef (τ := τ) .tc main_arg4) = x4) (h_main_v2 : V (Proc.devRef (τ := τ) .tc main_v2) = (val_main_v2 (F := F) x0)) (h_main_v5 : V (Proc.devRef (τ := τ) .tc main_v5) = (val_main_v5 (F := F) x0)) (h_main_v7 : V (Proc.devRef (τ := τ) .tc main_v7) = (val_main_v7 (F := F) x3)) (h_main_v10 : V (Proc.devRef (τ := τ) .tc main_v10) = (val_main_v10 (F := F) x3)) (h_main_v14 : V (Proc.devRef (τ := τ) .tc main_v14) = (val_main_v14 (F := F) x3)) (h_main_v33 : V (Proc.devRef (τ := τ) .tc main_v33) = (val_main_v33 (F := F) x0 x1 x2 x3 x4)) :
    after opsC V (Proc.devRef (τ := τ) .tc main_v69) = (val_main_v69 (F := F) x0 x1 x2 x3 x4) := by
  after_results_simp
  simp only [h_main_arg0, h_main_arg1, h_main_arg2, h_main_arg3, h_main_arg4, h_main_v2, h_main_v5, h_main_v7, h_main_v10, h_main_v14, h_main_v33]
  rfl

theorem afterC_main_v71 (V : Valuation τ sig (Elt F)) (x0 : (⟨S4096x5632, .f32⟩ : BufTy).Contents (Elt F)) (x1 : (⟨S4096x1024, .bf16⟩ : BufTy).Contents (Elt F)) (x2 : (⟨S2816x1024, .bf16⟩ : BufTy).Contents (Elt F)) (x3 : (⟨S3x5632, .f32⟩ : BufTy).Contents (Elt F)) (x4 : (⟨S1x5632, .f32⟩ : BufTy).Contents (Elt F))
    (h_main_arg0 : V (Proc.devRef (τ := τ) .tc main_arg0) = x0) (h_main_arg1 : V (Proc.devRef (τ := τ) .tc main_arg1) = x1) (h_main_arg2 : V (Proc.devRef (τ := τ) .tc main_arg2) = x2) (h_main_arg3 : V (Proc.devRef (τ := τ) .tc main_arg3) = x3) (h_main_arg4 : V (Proc.devRef (τ := τ) .tc main_arg4) = x4) (h_main_v2 : V (Proc.devRef (τ := τ) .tc main_v2) = (val_main_v2 (F := F) x0)) (h_main_v5 : V (Proc.devRef (τ := τ) .tc main_v5) = (val_main_v5 (F := F) x0)) (h_main_v7 : V (Proc.devRef (τ := τ) .tc main_v7) = (val_main_v7 (F := F) x3)) (h_main_v10 : V (Proc.devRef (τ := τ) .tc main_v10) = (val_main_v10 (F := F) x3)) (h_main_v14 : V (Proc.devRef (τ := τ) .tc main_v14) = (val_main_v14 (F := F) x3)) (h_main_v33 : V (Proc.devRef (τ := τ) .tc main_v33) = (val_main_v33 (F := F) x0 x1 x2 x3 x4)) :
    after opsC V (Proc.devRef (τ := τ) .tc main_v71) = (val_main_v71 (F := F) x0 x1 x2 x3 x4) := by
  after_results_simp
  dsimp only [Matrix.cons_val]
  after_results_simp
  simp only [h_main_arg0, h_main_arg1, h_main_arg2, h_main_arg3, h_main_arg4, h_main_v2, h_main_v5, h_main_v7, h_main_v10, h_main_v14, h_main_v33]
  rfl

theorem afterC_main_arg0 (V : Valuation τ sig (Elt F)) : after opsC V (Proc.devRef (τ := τ) .tc main_arg0) = V (Proc.devRef (τ := τ) .tc main_arg0) := by
  after_results_simp

theorem afterC_main_arg1 (V : Valuation τ sig (Elt F)) : after opsC V (Proc.devRef (τ := τ) .tc main_arg1) = V (Proc.devRef (τ := τ) .tc main_arg1) := by
  after_results_simp

theorem afterC_main_arg2 (V : Valuation τ sig (Elt F)) : after opsC V (Proc.devRef (τ := τ) .tc main_arg2) = V (Proc.devRef (τ := τ) .tc main_arg2) := by
  after_results_simp

theorem afterC_main_arg3 (V : Valuation τ sig (Elt F)) : after opsC V (Proc.devRef (τ := τ) .tc main_arg3) = V (Proc.devRef (τ := τ) .tc main_arg3) := by
  after_results_simp

theorem afterC_main_arg4 (V : Valuation τ sig (Elt F)) : after opsC V (Proc.devRef (τ := τ) .tc main_arg4) = V (Proc.devRef (τ := τ) .tc main_arg4) := by
  after_results_simp

/-- Every weakly fair execution of the reference program ends with each result at its operation's value and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69) = val_main_v69 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v71) = val_main_v71 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    set V0 : Valuation τ sig (Elt F) := fun b => m (c, b) with hV0
    have hsplit : after (ops (F := F)) V0 = after opsC (after opsB (after opsA V0)) := by
      exact (after_two opsA (opsB ++ opsC) V0).trans (after_two opsB opsC _)
    have a_main_v2 := afterA_main_v2 V0 _ _ _ _ _ rfl rfl rfl rfl rfl
    have a_main_v5 := afterA_main_v5 V0 _ _ _ _ _ rfl rfl rfl rfl rfl
    have a_main_v7 := afterA_main_v7 V0 _ _ _ _ _ rfl rfl rfl rfl rfl
    have a_main_v10 := afterA_main_v10 V0 _ _ _ _ _ rfl rfl rfl rfl rfl
    have a_main_v14 := afterA_main_v14 V0 _ _ _ _ _ rfl rfl rfl rfl rfl
    have a_main_v20 := afterA_main_v20 V0 _ _ _ _ _ rfl rfl rfl rfl rfl
    have a_main_v21 := afterA_main_v21 V0 _ _ _ _ _ rfl rfl rfl rfl rfl
    have a_main_arg0 := afterA_main_arg0 V0
    have a_main_arg1 := afterA_main_arg1 V0
    have a_main_arg2 := afterA_main_arg2 V0
    have a_main_arg3 := afterA_main_arg3 V0
    have a_main_arg4 := afterA_main_arg4 V0
    have b_main_v33 := afterB_main_v33 (after opsA V0) _ _ _ _ _ a_main_arg0 a_main_arg1 a_main_arg2 a_main_arg3 a_main_arg4 a_main_v2 a_main_v5 a_main_v7 a_main_v10 a_main_v14 a_main_v20 a_main_v21
    have b_main_arg0 := (afterB_main_arg0 (after opsA V0)).trans a_main_arg0
    have b_main_arg1 := (afterB_main_arg1 (after opsA V0)).trans a_main_arg1
    have b_main_arg2 := (afterB_main_arg2 (after opsA V0)).trans a_main_arg2
    have b_main_arg3 := (afterB_main_arg3 (after opsA V0)).trans a_main_arg3
    have b_main_arg4 := (afterB_main_arg4 (after opsA V0)).trans a_main_arg4
    have b_main_v2 := (afterB_main_v2 (after opsA V0)).trans a_main_v2
    have b_main_v5 := (afterB_main_v5 (after opsA V0)).trans a_main_v5
    have b_main_v7 := (afterB_main_v7 (after opsA V0)).trans a_main_v7
    have b_main_v10 := (afterB_main_v10 (after opsA V0)).trans a_main_v10
    have b_main_v14 := (afterB_main_v14 (after opsA V0)).trans a_main_v14
    refine ⟨(h c main_v69).trans ((congrFun hsplit _).trans (afterC_main_v69 (after opsB (after opsA V0)) _ _ _ _ _ b_main_arg0 b_main_arg1 b_main_arg2 b_main_arg3 b_main_arg4 b_main_v2 b_main_v5 b_main_v7 b_main_v10 b_main_v14 b_main_v33)),
      (h c main_v71).trans ((congrFun hsplit _).trans (afterC_main_v71 (after opsB (after opsA V0)) _ _ _ _ _ b_main_arg0 b_main_arg1 b_main_arg2 b_main_arg3 b_main_arg4 b_main_v2 b_main_v5 b_main_v7 b_main_v10 b_main_v14 b_main_v33)),
      (h c main_arg0).trans ((congrFun hsplit _).trans ((afterC_main_arg0 (after opsB (after opsA V0))).trans b_main_arg0)),
      (h c main_arg1).trans ((congrFun hsplit _).trans ((afterC_main_arg1 (after opsB (after opsA V0))).trans b_main_arg1)),
      (h c main_arg2).trans ((congrFun hsplit _).trans ((afterC_main_arg2 (after opsB (after opsA V0))).trans b_main_arg2)),
      (h c main_arg3).trans ((congrFun hsplit _).trans ((afterC_main_arg3 (after opsB (after opsA V0))).trans b_main_arg3)),
      (h c main_arg4).trans ((congrFun hsplit _).trans ((afterC_main_arg4 (after opsB (after opsA V0))).trans b_main_arg4))⟩)
    (run_seq scopedRefs_eq scopedSems_eq defs main (fun _ => ops) main_eq (fun _ => ops_sub) m ρ)

end Cert.ReferenceIdeal.Read

end
-- ==== Proof.ConvBwd.Reference.lean ====
/- The derivative of the gated convolution, as the reference computes it, read at an index: the closed form. -/
module

public import proofs.«01_k».proof.Proof.ConvBwd.Math
public import proofs.«01_k».proof.Proof.ConvBwd.RefRun
public import Idealize.ShloMosaic.Lib.Pointwise
public import Idealize.ShloMosaic.Lib.KernelVsHost

@[expose] public section

noncomputable section

namespace Cert.ConvBwd.Ref

open Idealize.ShloMosaic Cert.ReferenceIdeal Cert.ReferenceIdeal.Gen Cert.ReferenceIdeal.Read Cert.Rows

variable (U : S4096x5632.Idx → EReal) (X : S4096x1024.Idx → EReal) (W : S2816x1024.Idx → EReal) (CW : S3x5632.Idx → EReal)
  (CB : S1x5632.Idx → EReal)

/-- The input one row earlier. -/
theorem before (r : Fin 4096) (C : Fin 5632) : val_main_v2 (F := Ideal) U (ix2 r C) = ext U (r.val + 7) C.val := by
  unfold val_main_v2 val_main_v1 val_main_v0 val_main_cst
  pointwise
  by_cases h : r.val < 1
  · rw [dif_pos h]
    unfold ext
    rw [if_neg (by omega)]
  · rw [dif_neg h, eq_rd U]
    refine Eq.trans ?_ (if_pos (show 8 ≤ r.val + 7 by omega)).symm
    exact congrArg₂ (rd U) (by show r.val - 1 = r.val + 7 - 8; omega) rfl

/-- The input one row later. -/
theorem later (r : Fin 4096) (C : Fin 5632) : val_main_v5 (F := Ideal) U (ix2 r C) = ext U (r.val + 9) C.val := by
  unfold val_main_v5 val_main_v4 val_main_v0 val_main_cst
  pointwise
  rw [show r.val + 9 = r.val + 1 + 8 from rfl, ext_add]
  by_cases h : r.val < 4095
  · rw [dif_pos h, eq_rd U]
    exact congrArg₂ (rd U) (Nat.add_comm 1 r.val) rfl
  · rw [dif_neg h, rd_of_ge U (by omega)]

theorem conv_eq (r : Fin 4096) (C : Fin 5632) : val_main_v19 (F := Ideal) U CW CB (ix2 r C) = conv U CW CB (r.val + 8) C.val := by
  unfold val_main_v19 val_main_v17 val_main_v13 val_main_v9 val_main_v12 val_main_v16 val_main_v8 val_main_v11 val_main_v15 val_main_v18
    val_main_v7 val_main_v10 val_main_v14
  pointwise
  rw [before, later, eq_rd U, eq_rd CB, eq_rd CW, eq_rd CW, eq_rd CW]
  unfold conv
  rw [ext_add]
  rfl

theorem gate_eq (r : Fin 4096) (c : Fin 2816) : val_main_v20 (F := Ideal) U CW CB (ix2 r c) = conv U CW CB (r.val + 8) c.val := by
  unfold val_main_v20
  pointwise
  exact conv_eq U CW CB r _

theorem val_eq (r : Fin 4096) (c : Fin 2816) : val_main_v21 (F := Ideal) U CW CB (ix2 r c) = conv U CW CB (r.val + 8) (c.val + 2816) := by
  unfold val_main_v21
  pointwise
  rw [conv_eq]
  exact congrArg (conv U CW CB (r.val + 8)) (Nat.add_comm 2816 c.val)

theorem sgm_eq (r : Fin 4096) (c : Fin 2816) : val_main_v22_2 (F := Ideal) U CW CB (ix2 r c) = sgm (conv U CW CB (r.val + 8) c.val) := by
  unfold val_main_v22_2 val_main_call0_v4 val_main_call0_v3 val_main_call0_v2 val_main_call0_v1 val_main_call0_v0
  pointwise [val_main_call0_cst, val_main_call0_cst_0]
  rw [gate_eq]
  rfl

theorem de_eq (r : Fin 4096) (c : Fin 2816) : val_main_v27 (F := Ideal) X W (ix2 r c) = de X W (r.val + 8) c.val := by
  unfold val_main_v27 val_main_v26 val_main_v24
  pointwise
  unfold de
  refine Finset.sum_congr rfl fun k _ => ?_
  rw [ext_add, eq_rd X, eq_rd W]

theorem dval_eq (r : Fin 4096) (c : Fin 2816) :
    val_main_v28 (F := Ideal) U X W CW CB (ix2 r c) = dval U X W CW CB (r.val + 8) c.val := by
  unfold val_main_v28 val_main_v22_0
  pointwise
  rw [gate_eq, sgm_eq, de_eq]
  exact mul_comm _ _

theorem conv_real (hU : ∀ i, IsReal (U i)) (hCW : ∀ i, IsReal (CW i)) (hCB : ∀ i, IsReal (CB i)) (ρ C : Nat) : IsReal (conv U CW CB ρ C) :=
  ((((IsReal.rd hCW _ _).mul (IsReal.ext hU _ _)).add ((IsReal.rd hCW _ _).mul (IsReal.ext hU _ _))).add
    ((IsReal.rd hCW _ _).mul (IsReal.ext hU _ _))).add (IsReal.rd hCB _ _)

theorem de_real (hX : ∀ i, IsReal (X i)) (hW : ∀ i, IsReal (W i)) (ρ c : Nat) : IsReal (de X W ρ c) :=
  IsReal.sum _ fun _ _ => (IsReal.ext hX _ _).mul (IsReal.rd hW _ _)

/-- Outside the rows of the arrays the gradient is zero, since the cotangent is. -/
theorem dup_zero {ρ C : Nat} (h : ρ < 8 ∨ 4096 + 8 ≤ ρ) : dup U X W CW CB ρ C = 0 := by
  have hX : ∀ k, ext X ρ k = 0 := fun k => by
    unfold ext
    split
    · exact rd_of_ge X (by omega)
    · rfl
  have hde : ∀ c, de X W ρ c = 0 := fun c => Finset.sum_eq_zero fun k _ => by rw [hX, zero_mul]
  unfold dup dgate dval
  rw [hde, hde, zero_mul, zero_mul, zero_mul, ite_self]

/-- The padding's value. -/
theorem zero_bits : FloatOps.ofBits (F := Ideal) .f32 0x00000000#32 = (0 : EReal) := by
  pointwise

/-- A row of sums put at a row of three, zero elsewhere. -/
theorem row3 (l0 : Nat) (hi : Fin 2 → Nat) (x : S1x5632.Idx → EReal) (v : S_.Idx → EReal) (h) (hv : v (Shape.Idx.first h_S_) = 0)
    (k : Fin 3) (C : Fin 5632) :
    pad S3x5632 ![l0, 0] hi ![0, 0] x v h h_S_ (ix2 k C) = if k.val = l0 then x (ix2 0 C) else 0 := by
  refine (pad_rd l0 0 hi x v h h_S_ hv k C).trans ?_
  by_cases hk : k.val = l0
  · rw [if_pos ⟨by omega, Nat.zero_le _⟩, if_pos hk, rd_of_lt x (show k.val - l0 < 1 by omega) (show C.val - 0 < 5632 by omega)]
    exact congrArg x (congrArg (fun a => ix2 a C) (Fin.ext (by show k.val - l0 = 0; omega)))
  · rw [if_neg hk]
    split
    · exact rd_of_ge x (by omega)
    · rfl

variable (hU : ∀ i, IsReal (U i)) (hX : ∀ i, IsReal (X i)) (hW : ∀ i, IsReal (W i)) (hCW : ∀ i, IsReal (CW i)) (hCB : ∀ i, IsReal (CB i))

include hU hX hW hCW hCB

theorem dgate_eq (r : Fin 4096) (c : Fin 2816) :
    val_main_v30 (F := Ideal) U X W CW CB (ix2 r c) = dgate U X W CW CB (r.val + 8) c.val := by
  unfold val_main_v30 val_main_call1_v1 val_main_call1_v2 val_main_call1_v0 val_main_v29 val_main_v22_1 val_main_call0_v7 val_main_call0_v6
  pointwise [val_main_call0_cst_1]
  rw [gate_eq, val_eq, sgm_eq, de_eq]
  unfold dgate
  obtain ⟨d, hd⟩ := de_real X W hX hW (r.val + 8) c.val
  obtain ⟨v, hv⟩ := conv_real U CW CB hU hCW hCB (r.val + 8) (c.val + 2816)
  obtain ⟨g, hg⟩ := conv_real U CW CB hU hCW hCB (r.val + 8) c.val
  obtain ⟨s, hs⟩ : IsReal (sgm (conv U CW CB (r.val + 8) c.val)) := (conv_real U CW CB hU hCW hCB _ _).logistic
  rw [hd, hv, hs, hg]
  rw [show (1 : EReal) = ((1 : ℝ) : EReal) from rfl]
  simp only [← EReal.coe_mul, ← EReal.coe_add, ← EReal.coe_sub]
  exact congrArg _ (by ring)

/-- The gradient of the convolution's result. -/
theorem dup_eq (r : Fin 4096) (C : Fin 5632) :
    val_main_v33 (F := Ideal) U X W CW CB (ix2 r C) = dup U X W CW CB (r.val + 8) C.val := by
  have h31 : val_main_v31 (F := Ideal) U X W CW CB (ix2 r C)
      = if 0 ≤ r.val ∧ 2816 ≤ C.val then rd (val_main_v28 (F := Ideal) U X W CW CB) (r.val - 0) (C.val - 2816) else 0 :=
    pad_rd 0 2816 _ _ _ _ _ zero_bits r C
  have h32 : val_main_v32 (F := Ideal) U X W CW CB (ix2 r C)
      = if 0 ≤ r.val ∧ 0 ≤ C.val then rd (val_main_v30 (F := Ideal) U X W CW CB) (r.val - 0) (C.val - 0) else 0 :=
    pad_rd 0 0 _ _ _ _ _ zero_bits r C
  show val_main_v31 (F := Ideal) U X W CW CB (ix2 r C) + val_main_v32 (F := Ideal) U X W CW CB (ix2 r C) = _
  rw [h31, h32, if_pos (⟨Nat.zero_le _, Nat.zero_le _⟩ : 0 ≤ r.val ∧ 0 ≤ C.val), Nat.sub_zero, Nat.sub_zero]
  unfold dup
  by_cases h : C.val < 2816
  · rw [if_neg (by omega), if_pos h, zero_add, rd_of_lt _ r.isLt h, dgate_eq U X W CW CB hU hX hW hCW hCB]
  · rw [if_pos (by omega), if_neg h, rd_of_lt _ r.isLt (show C.val - 2816 < 2816 by omega), dval_eq,
      show rd (val_main_v30 (F := Ideal) U X W CW CB) r.val C.val = 0 from dif_neg fun hc => h hc.2, add_zero]

/-- The gradient of the convolution's input. -/
theorem dpre_eq (r : Fin 4096) (C : Fin 5632) :
    val_main_v63 (F := Ideal) U X W CW CB (ix2 r C) = dpre U X W CW CB (r.val + 8) C.val := by
  have h37 : ∀ (r : Fin 4096), val_main_v37 (F := Ideal) U X W CW CB (ix2 r C) = rd CW 2 C.val * dup U X W CW CB (r.val + 8) C.val := fun r => by
    unfold val_main_v37 val_main_v36 val_main_v14
    pointwise
    rw [dup_eq U X W CW CB hU hX hW hCW hCB, eq_rd CW]
    rfl
  have h50 : ∀ (r : Fin 4096), val_main_v50 (F := Ideal) U X W CW CB (ix2 r C) = rd CW 0 C.val * dup U X W CW CB (r.val + 8) C.val := fun r => by
    unfold val_main_v50 val_main_v49 val_main_v7
    pointwise
    rw [dup_eq U X W CW CB hU hX hW hCW hCB, eq_rd CW]
    rfl
  have h43 : val_main_v43 (F := Ideal) U X W CW CB (ix2 r C) = rd CW 1 C.val * dup U X W CW CB (r.val + 8) C.val := by
    unfold val_main_v43 val_main_v42 val_main_v10
    pointwise
    rw [dup_eq U X W CW CB hU hX hW hCW hCB, eq_rd CW]
    rfl
  have h58 : val_main_v58 (F := Ideal) U X W CW CB (ix2 r C)
      = if 1 ≤ r.val ∧ 0 ≤ C.val then rd (val_main_v56 (F := Ideal) U X W CW CB) (r.val - 1) (C.val - 0) else 0 :=
    pad_rd 1 0 _ _ _ _ _ zero_bits r C
  have h62 : val_main_v62 (F := Ideal) U X W CW CB (ix2 r C)
      = if 0 ≤ r.val ∧ 0 ≤ C.val then rd (val_main_v61 (F := Ideal) U X W CW CB) (r.val - 0) (C.val - 0) else 0 :=
    pad_rd 0 0 _ _ _ _ _ zero_bits r C
  have e58 : val_main_v58 (F := Ideal) U X W CW CB (ix2 r C) = rd CW 2 C.val * dup U X W CW CB (r.val + 8 - 1) C.val := by
    rw [h58]
    by_cases h : 1 ≤ r.val
    · rw [if_pos ⟨h, Nat.zero_le _⟩, rd_of_lt _ (show r.val - 1 < 4095 by omega) (show C.val - 0 < 5632 by omega)]
      unfold val_main_v56
      pointwise
      refine (congrArg (val_main_v37 (F := Ideal) U X W CW CB) ?_).trans ((h37 ⟨r.val - 1, by omega⟩).trans ?_)
      · rfl
      · exact congrArg (fun n => rd CW 2 C.val * dup U X W CW CB n C.val) (by show r.val - 1 + 8 = r.val + 8 - 1; omega)
    · rw [if_neg fun hc => h hc.1, dup_zero U X W CW CB (Or.inl (by omega)), mul_zero]
  have e62 : val_main_v62 (F := Ideal) U X W CW CB (ix2 r C) = rd CW 0 C.val * dup U X W CW CB (r.val + 8 + 1) C.val := by
    rw [h62, if_pos (⟨Nat.zero_le _, Nat.zero_le _⟩ : 0 ≤ r.val ∧ 0 ≤ C.val), Nat.sub_zero, Nat.sub_zero]
    by_cases h : r.val < 4095
    · rw [rd_of_lt _ h C.isLt]
      unfold val_main_v61
      pointwise
      refine (congrArg (val_main_v50 (F := Ideal) U X W CW CB) ?_).trans ((h50 ⟨r.val + 1, by omega⟩).trans ?_)
      · exact congrArg (fun a => ix2 a C) (Fin.ext (Nat.add_comm 1 r.val))
      · exact congrArg (fun n => rd CW 0 C.val * dup U X W CW CB n C.val) (by show r.val + 1 + 8 = r.val + 8 + 1; omega)
    · rw [rd_of_ge _ (show 4095 ≤ r.val by omega), dup_zero U X W CW CB (Or.inr (by omega)), mul_zero]
  show val_main_v43 (F := Ideal) U X W CW CB (ix2 r C) + val_main_v58 (F := Ideal) U X W CW CB (ix2 r C)
    + val_main_v62 (F := Ideal) U X W CW CB (ix2 r C) = _
  rw [h43, e58, e62]
  unfold dpre
  rw [add_comm, ← add_assoc]

/-- The first result. -/
theorem result0 (h : Fin 2) (r : Fin 4096) (c : Fin 2816) :
    val_main_v69 (F := Ideal) U X W CW CB (ix3 h r c) = dpre U X W CW CB (r.val + 8) (c.val + 2816 * h.val) := by
  unfold val_main_v69 val_main_v68 val_main_v67 val_main_v66 val_main_v65 val_main_v64
  pointwise
  by_cases hh : h.val < 1
  · rw [dif_pos hh, dpre_eq U X W CW CB hU hX hW hCW hCB]
    exact congrArg (dpre U X W CW CB (r.val + 8)) (by show c.val = c.val + 2816 * h.val; omega)
  · rw [dif_neg hh, dpre_eq U X W CW CB hU hX hW hCW hCB]
    exact congrArg (dpre U X W CW CB (r.val + 8)) (by show 2816 + c.val = c.val + 2816 * h.val; omega)

/-- The second result. -/
theorem result1 (k : Fin 8) (C : Fin 5632) :
    val_main_v71 (F := Ideal) U X W CW CB (ix2 k C) = ∑ r : Fin 4096, term U X W CW CB k.val r.val C.val := by
  have hdb : val_main_v35 (F := Ideal) U X W CW CB (ix2 0 C) = ∑ r : Fin 4096, term U X W CW CB 3 r.val C.val := by
    unfold val_main_v35 val_main_v34
    pointwise [val_main_cst_4]
    exact Finset.sum_congr rfl fun r _ => dup_eq U X W CW CB hU hX hW hCW hCB r C
  have h40 : val_main_v40 (F := Ideal) U X W CW CB (ix2 0 C) = ∑ r : Fin 4096, term U X W CW CB 2 r.val C.val := by
    unfold val_main_v40 val_main_v39 val_main_v38
    pointwise [val_main_cst_5]
    refine Finset.sum_congr rfl fun r _ => ?_
    rw [dup_eq U X W CW CB hU hX hW hCW hCB, later]
    rfl
  have h46 : val_main_v46 (F := Ideal) U X W CW CB (ix2 0 C) = ∑ r : Fin 4096, term U X W CW CB 1 r.val C.val := by
    unfold val_main_v46 val_main_v45 val_main_v44
    pointwise [val_main_cst_7]
    refine Finset.sum_congr rfl fun r _ => ?_
    rw [dup_eq U X W CW CB hU hX hW hCW hCB, eq_rd U, ← ext_add]
    rfl
  have h53 : val_main_v53 (F := Ideal) U X W CW CB (ix2 0 C) = ∑ r : Fin 4096, term U X W CW CB 0 r.val C.val := by
    unfold val_main_v53 val_main_v52 val_main_v51
    pointwise [val_main_cst_9]
    refine Finset.sum_congr rfl fun r _ => ?_
    rw [dup_eq U X W CW CB hU hX hW hCW hCB, before]
    rfl
  have h55 : ∀ k : Fin 3, val_main_v55 (F := Ideal) U X W CW CB (ix2 k C) = ∑ r : Fin 4096, term U X W CW CB k.val r.val C.val := fun k => by
    show val_main_v41 (F := Ideal) U X W CW CB (ix2 k C) + val_main_v47 (F := Ideal) U X W CW CB (ix2 k C)
      + val_main_v54 (F := Ideal) U X W CW CB (ix2 k C) = _
    unfold val_main_v41 val_main_v47 val_main_v54
    rw [row3 2 _ _ _ _ zero_bits, row3 1 _ _ _ _ zero_bits, row3 0 _ _ _ _ zero_bits, h40, h46, h53]
    obtain ⟨n, hn⟩ := k
    have : n = 0 ∨ n = 1 ∨ n = 2 := by omega
    rcases this with rfl | rfl | rfl <;> simp
  unfold val_main_v71 val_main_v70
  pointwise [val_main_cst_13]
  by_cases h3 : k.val < 3
  · rw [dif_pos h3, h55]
  · rw [dif_neg h3]
    by_cases h4 : k.val - 3 < 1
    · rw [dif_pos h4, show (⟨k.val - 3, h4⟩ : Fin 1) = 0 from Subsingleton.elim _ _, hdb, show k.val = 3 by omega]
    · rw [dif_neg h4]
      refine (Finset.sum_eq_zero fun r _ => ?_).symm
      unfold term
      rw [if_neg (by omega), if_neg (by omega), if_neg (by omega), if_neg (by omega)]

end Cert.ConvBwd.Ref

end
-- ==== Proof.ConvBwd.Pre.lean ====
/- The precondition says that every entry of the five arguments is a real number. -/
module

public import proofs.«01_k».proof.Proof.Rows
public import proofs.«01_k».proof.Proof.Gen.Pre_all_finite
public import proofs.«01_k».proof.Pre_all_finite

@[expose] public section

noncomputable section

namespace Cert.ConvBwd

open Idealize.ShloMosaic Cert.Rows Cert.Pre_all_finite Cert.Pre_all_finite.Gen

/-- What the predicate tests of one array: every entry's absolute value is below infinity. -/
theorem reals_of_reduce {s : Shape} {axes : List (Fin s.rank)} (x : s.Idx → Ideal .f32) (b : FVec Ideal s .f32)
    (hb : ∀ i, b i = FloatOps.ofBits (F := Ideal) .f32 0x7F800000#32) (init : IVec S_ 1) (h : s.ReducesTo axes S_) (hu : 0 < S_.numel)
    (j : S_.Idx) (hr : Host.reduce IntOp.andi (cmpf .olt (Host.absf x) b) init h hu j = 1#1) (i : s.Idx) : IsReal (x i) := by
  have hi := forall_of_reduce_andi _ init h hu j hr i
  refine isReal_of_abs_lt ?_
  rw [← hb i]
  exact hi

theorem real_of_pre (x0 : FVec Ideal S4096x5632 .f32) (x1 : FVec Ideal S4096x1024 .bf16) (x2 : FVec Ideal S2816x1024 .bf16)
    (x3 : FVec Ideal S3x5632 .f32) (x4 : FVec Ideal S1x5632 .f32) (h : fn (F := Ideal) x0 x1 x2 x3 x4 = fun _ => 1#1) :
    (∀ i, IsReal (x0 i)) ∧ (∀ i, IsReal (x1 i)) ∧ (∀ i, IsReal (x2 i)) ∧ (∀ i, IsReal (x3 i)) ∧ ∀ i, IsReal (x4 i) := by
  have h1 := congrFun h ix0
  obtain ⟨h2, r4⟩ := andi_eq_one h1
  obtain ⟨h3, r3⟩ := andi_eq_one h2
  obtain ⟨h4, r2⟩ := andi_eq_one h3
  obtain ⟨r0, r1⟩ := andi_eq_one h4
  exact ⟨reals_of_reduce x0 _ (fun _ => rfl) _ _ _ _ r0, reals_of_reduce (fun i => x1 i) _ (fun _ => rfl) _ _ _ _ r1,
    reals_of_reduce (fun i => x2 i) _ (fun _ => rfl) _ _ _ _ r2, reals_of_reduce x3 _ (fun _ => rfl) _ _ _ _ r3,
    reals_of_reduce x4 _ (fun _ => rfl) _ _ _ _ r4⟩

end Cert.ConvBwd

end
-- ==== Proof.NormBwd.Math.lean ====
/- The gradient of a root-mean-square norm, row by row, in the kernel's form and in the derivative's form. -/
module

public import proofs.«01_k».proof.Proof.Rows
public import Mathlib.Tactic.FieldSimp

@[expose] public section

noncomputable section

namespace Cert.NormBwd

open Idealize.ShloMosaic Cert.Rows

variable {n : Nat}

/-- The mean of a row's squares plus the small constant. -/
def ms (N e : EReal) (x : Fin n → EReal) : EReal := Ideal.div (∑ k, x k * x k) N + e

/-- The reciprocal root. -/
def ri (N e : EReal) (x : Fin n → EReal) : EReal := Ideal.rsqrt (ms N e x)

/-- The gradient of the norm's input as the kernel computes it: `u` is the cotangent times the gain. -/
def dxK (N e : EReal) (x u : Fin n → EReal) (k : Fin n) : EReal :=
  ri N e x * (u k - x k * ri N e x * Ideal.div (∑ j, u j * (x j * ri N e x)) N)

/-- The factor of the derivative that the mean hands back. -/
def back (N e h : EReal) (x u : Fin n → EReal) : EReal :=
  Ideal.div ((∑ j, x j * u j) * (h * Ideal.div (ri N e x) (ms N e x))) N

/-- The gradient of the norm's input as the derivative computes it. -/
def dxR (N e h : EReal) (x u : Fin n → EReal) (k : Fin n) : EReal :=
  u k * ri N e x + x k * back N e h x u + back N e h x u * x k

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe (a : ℝ) {b : ℝ} (hb : b ≠ 0) : Ideal.div (a : EReal) (b : EReal) = ((a / b : ℝ) : EReal) := by
  rw [div_eq_mul_inv, EReal.coe_mul, EReal.coe_inv]
  simp [Ideal.div, hb]

theorem rsqrt_pos {v : ℝ} (hv : 0 < v) : Ideal.rsqrt (v : EReal) = (((Real.sqrt v)⁻¹ : ℝ) : EReal) := by
  rw [Ideal.rsqrt_coe, if_neg (not_lt.2 hv.le), if_neg hv.ne']

/-- Division by a positive real number is the product with its inverse. -/
theorem div_pos_real (a : EReal) {b : ℝ} (hb : 0 < b) : Ideal.div a (b : EReal) = a * ((b⁻¹ : ℝ) : EReal) := by
  rw [EReal.coe_inv]
  simp [Ideal.div, hb.ne']

/-- A sum times a real number that is not negative. -/
theorem sum_mul_real {ι : Type*} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih, EReal.right_distrib_of_nonneg_of_ne_top (EReal.coe_nonneg.2 hc) (EReal.coe_ne_top c)]

/-- Twice the same summand. -/
theorem add_self (y : EReal) : y + y = y * ((2 : ℝ) : EReal) := by
  have h := EReal.left_distrib_of_nonneg (a := (1 : EReal)) (b := 1) (c := y) zero_le_one zero_le_one
  rw [mul_one] at h
  rw [← h]
  exact congrArg (y * ·) (by rw [← EReal.coe_one, ← EReal.coe_add]; norm_num)

theorem sq_nonneg_ereal (y : EReal) : 0 ≤ y * y := by
  rcases le_total 0 y with h | h
  · exact EReal.mul_nonneg_iff.2 (Or.inl ⟨h, h⟩)
  · exact EReal.mul_nonneg_iff.2 (Or.inr ⟨h, h⟩)

/-- A row with an infinite entry has the reciprocal root zero. -/
theorem ms_top {N e : EReal} {Nr er : ℝ} (hN : N = (Nr : EReal)) (he : e = (er : EReal)) (hNp : 0 < Nr) (x : Fin n → EReal)
    {j : Fin n} (hj : ¬ IsReal (x j)) : ms N e x = ⊤ := by
  subst hN he
  have hx : x j * x j = ⊤ := by
    generalize x j = y at hj
    induction y with
    | bot => exact EReal.bot_mul_bot
    | top => exact EReal.top_mul_top
    | coe r => exact absurd ⟨r, rfl⟩ hj
  have hs : (∑ k, x k * x k) = ⊤ := top_le_iff.1 (hx ▸ Finset.single_le_sum (fun k _ => sq_nonneg_ereal (x k)) (Finset.mem_univ j))
  unfold ms
  rw [hs, div_pos_real _ hNp, EReal.top_mul_coe_of_pos (inv_pos.2 hNp), EReal.top_add_coe]

/-- The two forms agree, on all extended real numbers. -/
theorem dx_eq {N e h : EReal} {Nr er : ℝ} (hN : N = (Nr : EReal)) (he : e = (er : EReal)) (hh : h = ((-(1 / 2) : ℝ) : EReal))
    (hNp : 0 < Nr) (hep : 0 < er) (x u : Fin n → EReal) (k : Fin n) :
    dxK N e x u k = dxR N e h x u k := by
  by_cases hx : ∀ k, IsReal (x k)
  swap
  · obtain ⟨j, hj⟩ := not_forall.1 hx
    unfold dxK dxR back ri
    rw [ms_top hN he hNp x hj]
    subst hN
    simp [div_pos_real _ hNp, Ideal.div, hNp.ne']
  choose x' hx' using hx
  obtain rfl : x = fun k => ((x' k : ℝ) : EReal) := funext hx'
  subst hN he hh
  have hms : ms (Nr : EReal) (er : EReal) (fun k => ((x' k : ℝ) : EReal)) = (((∑ k, x' k * x' k) / Nr + er : ℝ) : EReal) := by
    unfold ms
    simp only [← EReal.coe_mul, coe_sum]
    rw [div_coe _ hNp.ne', ← EReal.coe_add]
  have hvpos : 0 < (∑ k, x' k * x' k) / Nr + er :=
    add_pos_of_nonneg_of_pos (div_nonneg (Finset.sum_nonneg fun k _ => mul_self_nonneg _) hNp.le) hep
  generalize hv : (∑ k, x' k * x' k) / Nr + er = v at hms hvpos
  have hs : 0 < Real.sqrt v := Real.sqrt_pos.2 hvpos
  have hss : Real.sqrt v * Real.sqrt v = v := Real.mul_self_sqrt hvpos.le
  unfold dxK dxR back ri
  rw [hms, rsqrt_pos hvpos, div_coe _ hvpos.ne']
  have h1 : ∑ j, u j * ((x' j : EReal) * (((Real.sqrt v)⁻¹ : ℝ) : EReal)) = (∑ j, (x' j : EReal) * u j) * (((Real.sqrt v)⁻¹ : ℝ) : EReal) := by
    rw [sum_mul_real _ _ (inv_nonneg.2 hs.le)]
    exact Finset.sum_congr rfl fun j _ => by rw [← mul_assoc, mul_comm (u j)]
  rw [h1, div_pos_real _ hNp, div_pos_real _ hNp]
  generalize (∑ j, (x' j : EReal) * u j) = S
  generalize Real.sqrt v = s at hs hss
  subst hss
  rw [sub_eq_add_neg, EReal.left_distrib_of_nonneg_of_ne_top (EReal.coe_nonneg.2 (inv_nonneg.2 hs.le)) (EReal.coe_ne_top _), add_assoc,
    mul_comm (S * _ * _) ((x' k : ℝ) : EReal), add_self, mul_comm (u k)]
  refine congrArg (fun q : EReal => ((s⁻¹ : ℝ) : EReal) * u k + q) ?_
  have hl : ((s⁻¹ : ℝ) : EReal) * -((x' k : EReal) * ((s⁻¹ : ℝ) : EReal) * (S * ((s⁻¹ : ℝ) : EReal) * ((Nr⁻¹ : ℝ) : EReal)))
      = S * ((s⁻¹ * -(x' k * s⁻¹ * (s⁻¹ * Nr⁻¹)) : ℝ) : EReal) := by
    push_cast
    simp only [mul_neg, neg_mul]
    ac_rfl
  have hr : (x' k : EReal) * (S * (((-(1 / 2) : ℝ) : EReal) * ((s⁻¹ / (s * s) : ℝ) : EReal)) * ((Nr⁻¹ : ℝ) : EReal)) * ((2 : ℝ) : EReal)
      = S * ((x' k * ((-(1 / 2)) * (s⁻¹ / (s * s)) * Nr⁻¹) * 2 : ℝ) : EReal) := by
    simp only [EReal.coe_mul]
    ac_rfl
  refine hl.trans (Eq.trans ?_ hr.symm)
  refine congrArg (fun q : ℝ => S * (q : EReal)) ?_
  field_simp

/-! ## The constants -/

theorem bits_1024 : Ideal.ofBits .f32 0x44800000#32 = ((1024 : ℝ) : EReal) := by
  simp [Ideal.ofBits, Ideal.ieee, -EReal.coe_mul]; norm_num

theorem bits_half : Ideal.ofBits .f32 0xBF000000#32 = ((-(1 / 2) : ℝ) : EReal) := by
  simp [Ideal.ofBits, Ideal.ieee, -EReal.coe_mul, -EReal.coe_neg]; norm_num

theorem bits_eps : ∃ e : ℝ, 0 < e ∧ Ideal.ofBits .f32 0x358637BD#32 = (e : EReal) := by
  refine ⟨8796093 / 2 ^ 43, by positivity, ?_⟩
  simp [Ideal.ofBits, Ideal.ieee, -EReal.coe_mul]; norm_num

end Cert.NormBwd

end
-- ==== Proof.NormBwd.Payload.lean ====
/- What one block of the fused product and norm gradient computes, read at an index. -/
module

public import proofs.«01_k».proof.Proof.NormBwd.Math
public import proofs.«01_k».proof.Proof.Gen.Kernel2Ideal.Value

@[expose] public section

noncomputable section

namespace Cert.NormBwd

open Idealize.ShloMosaic Cert.Kernel2Ideal Cert.Kernel2Ideal.Gen Cert.Rows

/-- The row length, the small constant. -/
abbrev cN : EReal := Ideal.ofBits .f32 0x44800000#32
abbrev cE : EReal := Ideal.ofBits .f32 0x358637BD#32

variable (x : S512x1024.Idx → EReal) (g : S1x1024.Idx → EReal) (y z : S512x1024.Idx → EReal)

theorem pay3_eq (r : Fin 512) (k : Fin 1024) :
    k0_pay3 (F := Ideal) x g y (k0_pay8 (F := Ideal) x) z (ix2 r k)
      = dxK cN cE (fun j => x (ix2 r j)) (fun j => y (ix2 r j) * g (ix2 0 j)) k + z (ix2 r k) := by
  unfold k0_pay3 k0_pay2 k0_pay1 k0_pay8
  pointwise
  rfl

theorem pay6_eq (a : S1x1024.Idx → EReal) (r : Fin 1) (k : Fin 1024) :
    k0_pay6 (F := Ideal) x y (k0_pay8 (F := Ideal) x) a (ix2 r k)
      = a (ix2 r k) + ∑ i : Fin 512, y (ix2 i k) * (x (ix2 i k) * ri cN cE (fun j => x (ix2 i j))) := by
  unfold k0_pay6 k0_pay2 k0_pay1 k0_pay8
  pointwise
  rfl

theorem pay7_eq (a0 : S1x512x1408.Idx → EReal) (b0 : S1x1024x1408.Idx → EReal) (a1 : S1x512x1408.Idx → EReal) (b1 : S1x1024x1408.Idx → EReal)
    (a2 : S1x512x1408.Idx → EReal) (b2 : S1x1024x1408.Idx → EReal) (a3 : S1x512x1408.Idx → EReal) (b3 : S1x1024x1408.Idx → EReal)
    (r : Fin 512) (k : Fin 1024) :
    k0_pay7 (F := Ideal) a0 b0 a1 b1 a2 b2 a3 b3 (ix2 r k)
      = ∑ q, a0 (ix3 0 r q) * b0 (ix3 0 k q) + ∑ q, a1 (ix3 0 r q) * b1 (ix3 0 k q) + ∑ q, a2 (ix3 0 r q) * b2 (ix3 0 k q)
        + ∑ q, a3 (ix3 0 r q) * b3 (ix3 0 k q) := by
  unfold k0_pay7
  pointwise

end Cert.NormBwd

end
-- ==== Proof.Columns.lean ====
/- The stacked columns: a matrix cut along its columns into equal parts, one above the other. -/
module

public import proofs.«01_k».proof.Proof.Rows

@[expose] public section

noncomputable section

namespace Cert.Rows

open Idealize.ShloMosaic

/-! The shapes: the matrix, one part of its columns, that part as a stack of one. -/

abbrev M0 : Shape := ⟨2, ![4096, 5632]⟩
abbrev P0 : Shape := ⟨2, ![4096, 2816]⟩
abbrev Q0 : Shape := ⟨3, ![1, 4096, 2816]⟩
abbrev M1 : Shape := ⟨2, ![1024, 5632]⟩
abbrev P1 : Shape := ⟨2, ![1024, 1408]⟩
abbrev Q1 : Shape := ⟨3, ![1, 1024, 1408]⟩

/-- Two halves of the columns of a matrix of 4096 rows. -/
theorem stack2 (X : M0.Idx → EReal) (b : P0.BroadcastsInDim Q0 ![1, 2]) (s0 : M0.Slices ![0, 0] P0) (s1 : M0.Slices ![0, 2816] P0)
    (cc : Shape.Concatenates [Q0, Q0] ⟨3, ![2, 4096, 2816]⟩ 0) (h : Fin 2) (r : Fin 4096) (q : Fin 2816) :
    concatenate (⟨3, ![2, 4096, 2816]⟩ : Shape) 0
      [⟨Q0, broadcastInDim Q0 ![1, 2] b (extractStridedSlice P0 ![0, 0] X s0)⟩,
       ⟨Q0, broadcastInDim Q0 ![1, 2] b (extractStridedSlice P0 ![0, 2816] X s1)⟩] cc (ix3 h r q)
      = rd X r.val (q.val + 2816 * h.val) := by
  pointwise
  by_cases h0 : h.val < 1
  · rw [dif_pos h0]
    exact (eq_rd X r _).trans (congrArg (rd X r.val) (show q.val = q.val + 2816 * h.val by omega))
  · rw [dif_neg h0]
    exact (eq_rd X r _).trans (congrArg (rd X r.val) (show 2816 + q.val = q.val + 2816 * h.val by omega))

/-- Four quarters of the columns of a matrix of 1024 rows. -/
theorem stack4 (X : M1.Idx → EReal) (b : P1.BroadcastsInDim Q1 ![1, 2]) (s0 : M1.Slices ![0, 0] P1) (s1 : M1.Slices ![0, 1408] P1)
    (s2 : M1.Slices ![0, 2816] P1) (s3 : M1.Slices ![0, 4224] P1)
    (cc : Shape.Concatenates [Q1, Q1, Q1, Q1] ⟨3, ![4, 1024, 1408]⟩ 0) (j : Fin 4) (k : Fin 1024) (q : Fin 1408) :
    concatenate (⟨3, ![4, 1024, 1408]⟩ : Shape) 0
      [⟨Q1, broadcastInDim Q1 ![1, 2] b (extractStridedSlice P1 ![0, 0] X s0)⟩,
       ⟨Q1, broadcastInDim Q1 ![1, 2] b (extractStridedSlice P1 ![0, 1408] X s1)⟩,
       ⟨Q1, broadcastInDim Q1 ![1, 2] b (extractStridedSlice P1 ![0, 2816] X s2)⟩,
       ⟨Q1, broadcastInDim Q1 ![1, 2] b (extractStridedSlice P1 ![0, 4224] X s3)⟩] cc (ix3 j k q)
      = rd X k.val (q.val + 1408 * j.val) := by
  pointwise
  by_cases h0 : j.val < 1
  · rw [dif_pos h0]
    exact (eq_rd X k _).trans (congrArg (rd X k.val) (show q.val = q.val + 1408 * j.val by omega))
  by_cases h1 : j.val - 1 < 1
  · rw [dif_neg h0, dif_pos h1]
    exact (eq_rd X k _).trans (congrArg (rd X k.val) (show 1408 + q.val = q.val + 1408 * j.val by omega))
  by_cases h2 : j.val - 1 - 1 < 1
  · rw [dif_neg h0, dif_neg h1, dif_pos h2]
    exact (eq_rd X k _).trans (congrArg (rd X k.val) (show 2816 + q.val = q.val + 1408 * j.val by omega))
  · rw [dif_neg h0, dif_neg h1, dif_neg h2]
    exact (eq_rd X k _).trans (congrArg (rd X k.val) (show 4224 + q.val = q.val + 1408 * j.val by omega))

end Cert.Rows

end
-- ==== Proof.NormBwd.Block.lean ====
/- What each grid point of the fused product and norm gradient leaves in its output blocks. -/
module

public import proofs.«01_k».proof.Proof.NormBwd.Payload
public import proofs.«01_k».proof.Proof.Columns

@[expose] public section

noncomputable section

namespace Cert.NormBwd

open Idealize.ShloMosaic Idealize.ShloMosaic.TcCoe Idealize.ShloMosaic.Pipeline Idealize.ShloMosaic.StableHlo
open Cert.Kernel2Ideal Cert.Kernel2Ideal.Gen Cert.Rows

variable (m : (ℓ : Loc nD τ sig) → Buf (Elt Ideal) ℓ) (c : Dev nD)

abbrev aD : S4096x5632.Idx → EReal := m ((c : Thread nD τ).loc main_arg0)
abbrev aW : S1024x5632.Idx → EReal := m ((c : Thread nD τ).loc main_arg1)
abbrev aX : S4096x1024.Idx → EReal := m ((c : Thread nD τ).loc main_arg2)
abbrev aG : S1x1024.Idx → EReal := m ((c : Thread nD τ).loc main_arg3)
abbrev aZ : S4096x1024.Idx → EReal := m ((c : Thread nD τ).loc main_arg4)

/-! ## The stacked columns the host hands the region -/

theorem stacked_D (h : Fin 2) (r : Fin 4096) (q : Fin 2816) : V m c main_v4 (ix3 h r q) = rd (aD m c) r.val (q.val + 2816 * h.val) := by
  have e : (V m c main_v4 : S2x4096x2816.Idx → EReal) = concatenate S2x4096x2816 0
      [⟨S1x4096x2816, broadcastInDim S1x4096x2816 ![1, 2] bcast_S4096x2816_S1x4096x2816_1_2 (extractStridedSlice S4096x2816 ![0, 0] (aD m c) slices_S4096x5632_S4096x2816_0_0)⟩,
       ⟨S1x4096x2816, broadcastInDim S1x4096x2816 ![1, 2] bcast_S4096x2816_S1x4096x2816_1_2 (extractStridedSlice S4096x2816 ![0, 2816] (aD m c) slices_S4096x5632_S4096x2816_0_2816)⟩]
      concatenates_S1x4096x2816_S1x4096x2816_S2x4096x2816_d0 := by
    unfold V
    after_results <;> rfl
  rw [e]
  exact stack2 (aD m c) _ _ _ _ h r q

theorem stacked_W (j : Fin 4) (k : Fin 1024) (q : Fin 1408) : V m c main_v13 (ix3 j k q) = rd (aW m c) k.val (q.val + 1408 * j.val) := by
  have e : (V m c main_v13 : S4x1024x1408.Idx → EReal) = concatenate S4x1024x1408 0
      [⟨S1x1024x1408, broadcastInDim S1x1024x1408 ![1, 2] bcast_S1024x1408_S1x1024x1408_1_2 (extractStridedSlice S1024x1408 ![0, 0] (aW m c) slices_S1024x5632_S1024x1408_0_0)⟩,
       ⟨S1x1024x1408, broadcastInDim S1x1024x1408 ![1, 2] bcast_S1024x1408_S1x1024x1408_1_2 (extractStridedSlice S1024x1408 ![0, 1408] (aW m c) slices_S1024x5632_S1024x1408_0_1408)⟩,
       ⟨S1x1024x1408, broadcastInDim S1x1024x1408 ![1, 2] bcast_S1024x1408_S1x1024x1408_1_2 (extractStridedSlice S1024x1408 ![0, 2816] (aW m c) slices_S1024x5632_S1024x1408_0_2816)⟩,
       ⟨S1x1024x1408, broadcastInDim S1x1024x1408 ![1, 2] bcast_S1024x1408_S1x1024x1408_1_2 (extractStridedSlice S1024x1408 ![0, 4224] (aW m c) slices_S1024x5632_S1024x1408_0_4224)⟩]
      concatenates_S1x1024x1408_S1x1024x1408_S1x1024x1408_S1x1024x1408_S4x1024x1408_d0 := by
    unfold V
    after_results <;> rfl
  rw [e]
  exact stack4 (aW m c) _ _ _ _ _ _ j k q

theorem at_D (i : S2x4096x2816.Idx) : V m c main_v4 i = rd (aD m c) (i 1).val ((i 2).val + 2816 * (i 0).val) :=
  (congrArg (V m c main_v4) (ValueIdx.eq_ix3 i)).trans (stacked_D m c (i 0) (i 1) (i 2))

theorem at_W (i : S4x1024x1408.Idx) : V m c main_v13 i = rd (aW m c) (i 1).val ((i 2).val + 1408 * (i 0).val) :=
  (congrArg (V m c main_v13) (ValueIdx.eq_ix3 i)).trans (stacked_W m c (i 0) (i 1) (i 2))

/-! ## The blocks' entries -/

variable (t : Fin cfg0.N)

theorem index_0 : ∀ t : Fin cfg0.N, (cfg0.win 0).index t 0 = 0 ∧ (cfg0.win 0).index t 1 = t.val ∧ (cfg0.win 0).index t 2 = 0 := by decide +kernel
theorem index_1 : ∀ t : Fin cfg0.N, (cfg0.win 1).index t 0 = 0 ∧ (cfg0.win 1).index t 1 = 0 ∧ (cfg0.win 1).index t 2 = 0 := by decide +kernel
theorem index_2 : ∀ t : Fin cfg0.N, (cfg0.win 2).index t 0 = t.val ∧ (cfg0.win 2).index t 1 = 0 := by decide +kernel
theorem index_3 : ∀ t : Fin cfg0.N, (cfg0.win 3).index t 0 = 0 ∧ (cfg0.win 3).index t 1 = 0 := by decide +kernel
theorem index_4 : ∀ t : Fin cfg0.N, (cfg0.win 4).index t 0 = t.val ∧ (cfg0.win 4).index t 1 = 0 := by decide +kernel
theorem index_5 : ∀ t : Fin cfg0.N, (cfg0.win 5).index t 0 = t.val ∧ (cfg0.win 5).index t 1 = 0 := by decide +kernel
theorem index_6 : ∀ t : Fin cfg0.N, (cfg0.win 6).index t 0 = t.val ∧ (cfg0.win 6).index t 1 = 0 := by decide +kernel
theorem index_7 : ∀ t : Fin cfg0.N, (cfg0.win 7).index t 0 = 0 ∧ (cfg0.win 7).index t 1 = 0 := by decide +kernel

theorem iblk_0 (y : S2x512x2816.Idx) : iblk m c 0 t y = rd (aD m c) (512 * t.val + (y 1).val) ((y 2).val + 2816 * (y 0).val) := by
  refine (at_D m c (((cfg0.win 0).rect t).emb y)).trans ?_
  obtain ⟨e0, e1, e2⟩ := index_0 t
  have i0 := ((cfg0.win 0).rect_emb_val t y 0).trans (congrArg (· * 2 + (y 0).val) e0)
  have i1 := ((cfg0.win 0).rect_emb_val t y 1).trans (congrArg (· * 512 + (y 1).val) e1)
  have i2 := ((cfg0.win 0).rect_emb_val t y 2).trans (congrArg (· * 2816 + (y 2).val) e2)
  refine congrArg₂ (rd (aD m c)) ?_ ?_
  · rw [i1]; omega
  · rw [i0, i2]; omega

theorem iblk_1 (y : S4x1024x1408.Idx) : iblk m c 1 t y = rd (aW m c) (y 1).val ((y 2).val + 1408 * (y 0).val) := by
  refine (at_W m c (((cfg0.win 1).rect t).emb y)).trans ?_
  obtain ⟨e0, e1, e2⟩ := index_1 t
  have i0 := ((cfg0.win 1).rect_emb_val t y 0).trans (congrArg (· * 4 + (y 0).val) e0)
  have i1 := ((cfg0.win 1).rect_emb_val t y 1).trans (congrArg (· * 1024 + (y 1).val) e1)
  have i2 := ((cfg0.win 1).rect_emb_val t y 2).trans (congrArg (· * 1408 + (y 2).val) e2)
  refine congrArg₂ (rd (aW m c)) ?_ ?_
  · rw [i1]; omega
  · rw [i0, i2]; omega

theorem iblk_2 (r : Fin 512) (k : Fin 1024) : iblk m c 2 t (ix2 r k) = rd (aX m c) (512 * t.val + r.val) k.val :=
  (rd_of_emb (V m c main_arg2) (((cfg0.win 2).rect t).emb (ix2 r k))
    (((cfg0.win 2).rect_emb_val t (ix2 r k) 0).trans ((congrArg (· * 512 + r.val) (index_2 t).1).trans (show t.val * 512 + r.val = 512 * t.val + r.val by omega)))
    (((cfg0.win 2).rect_emb_val t (ix2 r k) 1).trans ((congrArg (· * 1024 + k.val) (index_2 t).2).trans (show 0 * 1024 + k.val = k.val by omega)))).trans
    (congrArg (fun X : S4096x1024.Idx → EReal => rd X _ _) (V_main_arg2 m c))

theorem iblk_3 (r : Fin 1) (k : Fin 1024) : iblk m c 3 t (ix2 r k) = rd (aG m c) r.val k.val :=
  (rd_of_emb (V m c main_arg3) (((cfg0.win 3).rect t).emb (ix2 r k))
    (((cfg0.win 3).rect_emb_val t (ix2 r k) 0).trans ((congrArg (· * 1 + r.val) (index_3 t).1).trans (show 0 * 1 + r.val = r.val by omega)))
    (((cfg0.win 3).rect_emb_val t (ix2 r k) 1).trans ((congrArg (· * 1024 + k.val) (index_3 t).2).trans (show 0 * 1024 + k.val = k.val by omega)))).trans
    (congrArg (fun X : S1x1024.Idx → EReal => rd X _ _) (V_main_arg3 m c))

theorem iblk_4 (r : Fin 512) (k : Fin 1024) : iblk m c 4 t (ix2 r k) = rd (aZ m c) (512 * t.val + r.val) k.val :=
  (rd_of_emb (V m c main_arg4) (((cfg0.win 4).rect t).emb (ix2 r k))
    (((cfg0.win 4).rect_emb_val t (ix2 r k) 0).trans ((congrArg (· * 512 + r.val) (index_4 t).1).trans (show t.val * 512 + r.val = 512 * t.val + r.val by omega)))
    (((cfg0.win 4).rect_emb_val t (ix2 r k) 1).trans ((congrArg (· * 1024 + k.val) (index_4 t).2).trans (show 0 * 1024 + k.val = k.val by omega)))).trans
    (congrArg (fun X : S4096x1024.Idx → EReal => rd X _ _) (V_main_arg4 m c))

/-! ## The product -/

/-- Entry `(r, k)` of the cotangent of the norm's output. -/
def dyv (r k : Nat) : EReal := ∑ q : Fin 5632, rd (aD m c) r q.val * rd (aW m c) k q.val

/-- The product's block, from four pairs of column blocks. -/
def dyB : FVec Ideal S512x1024 .f32 :=
  k0_pay7 (View.ld (iblk m c 0 t) (Rect.unit ![0, 0, 0] ![1, 512, 1408] inb_S2x512x2816_S1x512x1408_0_0_0))
        (View.ld (iblk m c 1 t) (Rect.unit ![0, 0, 0] ![1, 1024, 1408] inb_S4x1024x1408_S1x1024x1408_0_0_0))
        (View.ld (iblk m c 0 t) (Rect.unit ![0, 0, 1408] ![1, 512, 1408] inb_S2x512x2816_S1x512x1408_0_0_1408))
        (View.ld (iblk m c 1 t) (Rect.unit ![1, 0, 0] ![1, 1024, 1408] inb_S4x1024x1408_S1x1024x1408_1_0_0))
        (View.ld (iblk m c 0 t) (Rect.unit ![1, 0, 0] ![1, 512, 1408] inb_S2x512x2816_S1x512x1408_1_0_0))
        (View.ld (iblk m c 1 t) (Rect.unit ![2, 0, 0] ![1, 1024, 1408] inb_S4x1024x1408_S1x1024x1408_2_0_0))
        (View.ld (iblk m c 0 t) (Rect.unit ![1, 0, 1408] ![1, 512, 1408] inb_S2x512x2816_S1x512x1408_1_0_1408))
        (View.ld (iblk m c 1 t) (Rect.unit ![3, 0, 0] ![1, 1024, 1408] inb_S4x1024x1408_S1x1024x1408_3_0_0))

theorem ld_0 (X : FVec Ideal S2x512x2816 .bf16) (n : Nat) (hX : ∀ y : S2x512x2816.Idx, X y = rd (aD m c) (n + (y 1).val) ((y 2).val + 2816 * (y 0).val))
    (h o : Nat) (hin : ∀ a, (![h, 0, o] : Fin 3 → Nat) a + (![1, 512, 1408] : Fin 3 → Nat) a ≤ S2x512x2816.size a) (r : Fin 512) (q : Fin 1408) :
    View.ld (Val := Elt Ideal) (S := S2x512x2816) (e' := .bf16) X (Rect.unit ![h, 0, o] ![1, 512, 1408] hin) (ix3 (0 : Fin 1) r q)
      = rd (aD m c) (n + r.val) (q.val + (o + 2816 * h)) := by
  refine (hX _).trans ?_
  refine congrArg₂ (rd (aD m c)) ?_ ?_
  · show n + (0 + 1 * r.val) = _; omega
  · show o + 1 * q.val + 2816 * (h + 1 * 0) = _; omega

theorem ld_1 (X : FVec Ideal S4x1024x1408 .bf16) (hX : ∀ y : S4x1024x1408.Idx, X y = rd (aW m c) (y 1).val ((y 2).val + 1408 * (y 0).val))
    (j : Nat) (hin : ∀ a, (![j, 0, 0] : Fin 3 → Nat) a + (![1, 1024, 1408] : Fin 3 → Nat) a ≤ S4x1024x1408.size a) (k : Fin 1024) (q : Fin 1408) :
    View.ld (Val := Elt Ideal) (S := S4x1024x1408) (e' := .bf16) X (Rect.unit ![j, 0, 0] ![1, 1024, 1408] hin) (ix3 (0 : Fin 1) k q)
      = rd (aW m c) k.val (q.val + 1408 * j) := by
  refine (hX _).trans ?_
  refine congrArg₂ (rd (aW m c)) ?_ ?_
  · show 0 + 1 * k.val = _; omega
  · show 0 + 1 * q.val + 1408 * (j + 1 * 0) = _; omega

theorem dyB_eq (r : Fin 512) (k : Fin 1024) : dyB m c t (ix2 r k) = dyv m c (512 * t.val + r.val) k.val := by
  unfold dyB
  rw [pay7_eq]
  simp only [ld_0 m c _ _ (iblk_0 m c t), ld_1 m c _ (iblk_1 m c t)]
  refine Eq.trans ?_ (sum_blocks 4 1408 (fun q => rd (aD m c) (512 * t.val + r.val) q * rd (aW m c) k.val q))
  rw [Fin.sum_univ_four]
  refine congrArg₂ (· + ·) (congrArg₂ (· + ·) (congrArg₂ (· + ·) ?_ ?_) ?_) ?_ <;>
  · refine Finset.sum_congr rfl fun q _ => ?_
    refine congrArg₂ (· * ·) (congrArg (rd (aD m c) _) ?_) (congrArg (rd (aW m c) _) ?_) <;>
    · simp only [Fin.val_zero, Fin.val_one, Fin.val_two, show (3 : Fin 4).val = 3 from rfl]
      omega

/-! ## What a point leaves in its windows -/

private theorem hz2 : (![0, 0] : Fin 2 → Nat) = fun _ => 0 := by decide

theorem left5 : (outsAt0 m c t.val t.isLt).1 = k0_pay3 (iblk m c 2 t) (iblk m c 3 t) (dyB m c t) (k0_pay8 (iblk m c 2 t)) (iblk m c 4 t) := by
  by_cases h0 : t.val % 8 = 0
  · rw [outsAt0_A m c t h0]
    dsimp only
    unfold out0_A_5
    rw [View.read_writes_eq_canon _ _ _ (cover0_A_5 c _ _ _ _ _ _ _ _ _ _ _ _ _ _ _ _ _ _ _ _ _ _ _)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, View.ld_unit_zero (S := S512x1024) hz2, View.ld_unit_zero (S := S1x1024) hz2]
    rfl
  · rw [outsAt0_B m c t h0]
    dsimp only
    unfold out0_B_5
    rw [View.read_writes_eq_canon _ _ _ (cover0_B_5 c _ _ _ _ _ _ _ _ _ _ _ _ _ _ _ _ _ _ _ _ _ _ _ _)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, View.ld_unit_zero (S := S512x1024) hz2, View.ld_unit_zero (S := S1x1024) hz2]
    rfl

theorem left6 : (outsAt0 m c t.val t.isLt).2.1 = k0_pay4 (iblk m c 2 t) (iblk m c 3 t) (dyB m c t) (k0_pay8 (iblk m c 2 t)) (iblk m c 4 t) := by
  by_cases h0 : t.val % 8 = 0
  · rw [outsAt0_A m c t h0]
    dsimp only
    unfold out0_A_6
    rw [View.read_writes_eq_canon _ _ _ (cover0_A_6 c _ _ _ _ _ _ _ _ _ _ _ _ _ _ _ _ _ _ _ _ _ _ _)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, View.ld_unit_zero (S := S512x1024) hz2, View.ld_unit_zero (S := S1x1024) hz2]
    rfl
  · rw [outsAt0_B m c t h0]
    dsimp only
    unfold out0_B_6
    rw [View.read_writes_eq_canon _ _ _ (cover0_B_6 c _ _ _ _ _ _ _ _ _ _ _ _ _ _ _ _ _ _ _ _ _ _ _ _)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, View.ld_unit_zero (S := S512x1024) hz2, View.ld_unit_zero (S := S1x1024) hz2]
    rfl

theorem left7_first (h0 : t.val % 8 = 0) : (outsAt0 m c t.val t.isLt).2.2 = k0_pay6 (iblk m c 2 t) (dyB m c t) (k0_pay8 (iblk m c 2 t)) (k0_pay5 (F := Ideal)) := by
  rw [outsAt0_A m c t h0]
  dsimp only
  unfold out0_A_7
  rw [View.read_writes_eq_canon _ _ _ (cover0_A_7 c _ _ _ _ _ _ _ _ _ _ _ _ _ _ _ _ _ _ _ _ _ _ _)]
  unfold kernelRun0_A
  dsimp only
  sl_unfold_words
  rw [View.canon_cons_unit_zero (S := S1x1024) hz2]
  simp only [View.readAt_eq_ld, (hs0_0 t).read_unread, (hs0_1 t).read_unread, (hs0_2 t).read_unread, (hs0_3 t).read_unread, (hs0_4 t).read_unread, View.ld_unit_zero (S := S512x1024) hz2, View.ld_unit_zero (S := S1x1024) hz2, View.readCov_unit_zero (S := S1x1024) _ hz2]
  rfl

theorem left7_next (h0 : ¬ t.val % 8 = 0) : (outsAt0 m c t.val t.isLt).2.2
    = k0_pay6 (iblk m c 2 t) (dyB m c t) (k0_pay8 (iblk m c 2 t)) (outsAt0 m c (t.val - 1) (Nat.lt_of_le_of_lt (Nat.sub_le _ _) t.isLt)).2.2 := by
  rw [outsAt0_B m c t h0]
  dsimp only
  unfold out0_B_7
  rw [View.read_writes_eq_canon _ _ _ (cover0_B_7 c _ _ _ _ _ _ _ _ _ _ _ _ _ _ _ _ _ _ _ _ _ _ _ _)]
  unfold kernelRun0_B
  dsimp only
  sl_unfold_words
  rw [View.canon_unit_zero (S := S1x1024) hz2]
  simp only [View.readAt_eq_ld, (hs0_0 t).read_unread, (hs0_1 t).read_unread, (hs0_2 t).read_unread, (hs0_3 t).read_unread, (hs0_4 t).read_unread, (hs0_7 t).read_unread, View.ld_unit_zero (S := S512x1024) hz2, View.ld_unit_zero (S := S1x1024) hz2]
  rfl

/-! ## Those values, in the argument arrays -/

/-- Entry `(r, k)` of the gradient of the norm's input, with the residual gradient added. -/
def gx (r k : Nat) : EReal :=
  dxK cN cE (fun j : Fin 1024 => rd (aX m c) r j.val) (fun j : Fin 1024 => dyv m c r j.val * rd (aG m c) 0 j.val) ⟨k % 1024, Nat.mod_lt _ (by decide)⟩
    + rd (aZ m c) r k

/-- The term row `r` adds to entry `k` of the gain's gradient. -/
def gterm (k r : Nat) : EReal :=
  dyv m c r k * (rd (aX m c) r k * ri cN cE (fun j : Fin 1024 => rd (aX m c) r j.val))

theorem out5 (r : Fin 512) (k : Fin 1024) : (outsAt0 m c t.val t.isLt).1 (ix2 r k) = gx m c (512 * t.val + r.val) k.val := by
  rw [left5, pay3_eq]
  simp only [iblk_2, iblk_3, iblk_4, dyB_eq]
  unfold gx
  have e : (⟨k.val % 1024, Nat.mod_lt _ (by decide)⟩ : Fin 1024) = k := Fin.ext (Nat.mod_eq_of_lt k.isLt)
  rw [e]
  rfl

theorem out6 (r : Fin 512) (k : Fin 1024) : (outsAt0 m c t.val t.isLt).2.1 (ix2 r k) = gx m c (512 * t.val + r.val) k.val := by
  rw [left6, ← out5 m c t r k, left5]
  rfl

/-- After point `n` the gain's gradient holds the terms of the rows below `512 * (n + 1)`. -/
theorem out7 : ∀ (n : Nat) (hn : n < cfg0.N) (k : Fin 1024),
    (outsAt0 m c n hn).2.2 (ix2 (0 : Fin 1) k) = ∑ b : Fin (n + 1), ∑ r : Fin 512, gterm m c k.val (512 * b.val + r.val) := by
  intro n
  induction n with
  | zero =>
    intro hn k
    refine (congrFun (left7_first m c ⟨0, hn⟩ rfl) _).trans ?_
    rw [pay6_eq]
    simp only [iblk_2, dyB_eq]
    rw [Fin.sum_univ_one]
    refine (congrArg₂ (· + ·) (show k0_pay5 (F := Ideal) (ix2 (0 : Fin 1) k) = 0 from ?_) rfl).trans (zero_add _)
    unfold k0_pay5
    pointwise
  | succ n ih =>
    intro hn k
    have hN : cfg0.N = 8 := N_0
    refine (congrFun (left7_next m c ⟨n + 1, hn⟩ (show ¬ (n + 1) % 8 = 0 by omega)) _).trans ?_
    rw [pay6_eq]
    simp only [iblk_2, dyB_eq]
    rw [Fin.sum_univ_castSucc (n := n + 1)]
    exact congrArg₂ (· + ·) (ih (Nat.lt_of_succ_lt hn) k) rfl

end Cert.NormBwd

end
-- ==== Proof.NormBwd.Array.lean ====
/- What the fused product and norm gradient leaves in its three results. -/
module

public import proofs.«01_k».proof.Proof.NormBwd.Block
public import Idealize.ShloMosaic.Lib.Pipeline.Value

@[expose] public section

noncomputable section

namespace Cert.NormBwd

open Idealize.ShloMosaic Idealize.ShloMosaic.TcCoe Idealize.ShloMosaic.Pipeline Idealize.SL.Sem
open Cert.Kernel2Ideal Cert.Kernel2Ideal.Gen Cert.Rows

variable (m : (ℓ : Loc nD τ sig) → Buf (Elt Ideal) ℓ) (c : Dev nD) (ρ : Dev nD → PrngReg)

/-- The gradient of the norm's input with the residual gradient added. -/
def GX (i : S4096x1024.Idx) : EReal := gx m c (i 0).val (i 1).val

/-- The gradient of the norm's gain. -/
def GG (i : S1x1024.Idx) : EReal := ∑ r : Fin 4096, gterm m c (i 1).val r.val

theorem flushed5 (t : Fin cfg0.N) : (dats m 0 c).flushed 5 t = (win0_5.blk t).view.read (Elt Ideal) (GX m c) := by
  funext y
  obtain ⟨r, k, rfl⟩ : ∃ (r : Fin 512) (k : Fin 1024), y = ix2 r k := ⟨y 0, y 1, ValueIdx.eq_ix2 y⟩
  refine ((congrFun (after0_5 m c t) (ix2 r k)).trans (out5 m c t r k)).trans ?_
  show _ = GX m c ((win0_5.rect t).emb (ix2 r k))
  obtain ⟨e0, e1⟩ := index_5 t
  have i0 := (win0_5.rect_emb_val t (ix2 r k) 0).trans (congrArg (· * 512 + r.val) e0)
  have i1 := (win0_5.rect_emb_val t (ix2 r k) 1).trans (congrArg (· * 1024 + k.val) e1)
  refine congrArg₂ (gx m c) ?_ ?_
  · rw [i0]; omega
  · rw [i1]; omega

theorem flushed6 (t : Fin cfg0.N) : (dats m 0 c).flushed 6 t = (win0_6.blk t).view.read (Elt Ideal) (GX m c) := by
  funext y
  obtain ⟨r, k, rfl⟩ : ∃ (r : Fin 512) (k : Fin 1024), y = ix2 r k := ⟨y 0, y 1, ValueIdx.eq_ix2 y⟩
  refine ((congrFun (after0_6 m c t) (ix2 r k)).trans (out6 m c t r k)).trans ?_
  show _ = GX m c ((win0_6.rect t).emb (ix2 r k))
  obtain ⟨e0, e1⟩ := index_6 t
  have i0 := (win0_6.rect_emb_val t (ix2 r k) 0).trans (congrArg (· * 512 + r.val) e0)
  have i1 := (win0_6.rect_emb_val t (ix2 r k) 1).trans (congrArg (· * 1024 + k.val) e1)
  refine congrArg₂ (gx m c) ?_ ?_
  · rw [i0]; omega
  · rw [i1]; omega

theorem gain_congr {k : Nat} {i : S1x1024.Idx} (h : (i 1).val = k) : ∑ r : Fin 4096, gterm m c k r.val = GG m c i := by
  unfold GG
  rw [h]

theorem flushed7 (t : Fin cfg0.N) (hf : (cfg0.win 7).flush t = true) : (dats m 0 c).flushed 7 t = (win0_7.blk t).view.read (Elt Ideal) (GG m c) := by
  have h7 : t.val + 1 = 8 := by
    have h := (flush0_7 t).mp hf
    have hN : t.val < 8 := lt_of_lt_of_eq t.isLt N_0
    omega
  funext y
  obtain ⟨r, k, rfl⟩ : ∃ (r : Fin 1) (k : Fin 1024), y = ix2 r k := ⟨y 0, y 1, ValueIdx.eq_ix2 y⟩
  obtain rfl : r = 0 := Subsingleton.elim _ _
  refine ((congrFun (after0_7 m c t) (ix2 (0 : Fin 1) k)).trans (out7 m c t.val t.isLt k)).trans ?_
  rw [h7]
  refine (sum_blocks 8 512 (gterm m c k.val)).trans ?_
  obtain ⟨-, e1⟩ := index_7 t
  have i1 := (win0_7.rect_emb_val t (ix2 (0 : Fin 1) k) 1).trans (congrArg (· * 1024 + k.val) e1)
  exact gain_congr m c (i := (win0_7.rect t).emb (ix2 (0 : Fin 1) k)) (i1.trans (by omega))

/-! ## The arrays after the run -/

theorem point (a : Nat) (ha : a < 8) : ∃ t : Fin cfg0.N, t.val = a := ⟨⟨a, by rw [show cfg0.N = 8 from N_0]; exact ha⟩, rfl⟩

theorem cover5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  obtain ⟨t, ha⟩ := point ((i 0).val / 512) (by omega)
  obtain ⟨e0, e1⟩ := index_5 t
  refine ⟨t, flush0_5 t, ?_⟩
  show i ∈ ((View.whole main_v14_0).slice (win0_5.rect t)).set
  rw [View.set_slice_whole, Rect.mem_set_unit]
  intro a
  fin_cases a
  · show (cfg0.win 5).index t 0 * 512 ≤ (i 0).val ∧ (i 0).val < (cfg0.win 5).index t 0 * 512 + 512
    rw [e0]; omega
  · show (cfg0.win 5).index t 1 * 1024 ≤ (i 1).val ∧ (i 1).val < (cfg0.win 5).index t 1 * 1024 + 1024
    rw [e1]; omega

theorem cover6 (i : S4096x1024.Idx) : ∃ t : Fin cfg0.N, (cfg0.win 6).flush t = true ∧ i ∈ ((cfg0.win 6).blk t).view.set := by
  have h0 : (i 0).val < 4096 := (i 0).isLt
  have h1 : (i 1).val < 1024 := (i 1).isLt
  obtain ⟨t, ha⟩ := point ((i 0).val / 512) (by omega)
  obtain ⟨e0, e1⟩ := index_6 t
  refine ⟨t, flush0_6 t, ?_⟩
  show i ∈ ((View.whole main_v14_1).slice (win0_6.rect t)).set
  rw [View.set_slice_whole, Rect.mem_set_unit]
  intro a
  fin_cases a
  · show (cfg0.win 6).index t 0 * 512 ≤ (i 0).val ∧ (i 0).val < (cfg0.win 6).index t 0 * 512 + 512
    rw [e0]; omega
  · show (cfg0.win 6).index t 1 * 1024 ≤ (i 1).val ∧ (i 1).val < (cfg0.win 6).index t 1 * 1024 + 1024
    rw [e1]; omega

theorem cover7 (i : S1x1024.Idx) : ∃ t : Fin cfg0.N, (cfg0.win 7).flush t = true ∧ i ∈ ((cfg0.win 7).blk t).view.set := by
  have h0 : (i 0).val < 1 := (i 0).isLt
  have h1 : (i 1).val < 1024 := (i 1).isLt
  obtain ⟨t, ha⟩ := point 7 (by omega)
  obtain ⟨e0, e1⟩ := index_7 t
  refine ⟨t, (flush0_7 t).mpr (by omega), ?_⟩
  show i ∈ ((View.whole main_v14_2).slice (win0_7.rect t)).set
  rw [View.set_slice_whole, Rect.mem_set_unit]
  intro a
  fin_cases a
  · show (cfg0.win 7).index t 0 * 1 ≤ (i 0).val ∧ (i 0).val < (cfg0.win 7).index t 0 * 1 + 1
    rw [e0]; omega
  · show (cfg0.win 7).index t 1 * 1024 ≤ (i 1).val ∧ (i 1).val < (cfg0.win 7).index t 1 * 1024 + 1024
    rw [e1]; omega

/-- The gradient of the norm's input, after the run. -/
theorem final5 : (dats m 0 c).arrAt 5 cfg0.N = GX m c :=
  (dats m 0 c).arrAt_eq_of_cover 5 (GX m c) (fun t _ => flushed5 m c t) cover5

/-- Its rounded copy, after the run. -/
theorem final6 : (dats m 0 c).arrAt 6 cfg0.N = GX m c :=
  (dats m 0 c).arrAt_eq_of_cover 6 (GX m c) (fun t _ => flushed6 m c t) cover6

/-- The gradient of the gain, after the run. -/
theorem final7 : (dats m 0 c).arrAt 7 cfg0.N = GG m c :=
  (dats m 0 c).arrAt_eq_of_cover 7 (GG m c) (fun t hf => flushed7 m c t hf) cover7

/-- The run: the three results at the closed form, the arguments unchanged. -/
theorem run : θ_run defs (onTc (τ := τ) (main (F := Ideal))) ⟨m, fun _ => 0, ρ⟩ fun r => ∀ c : Dev nD,
      r.2.mem ((c : Thread nD τ).loc main_v14_0) = GX m c
      ∧ r.2.mem ((c : Thread nD τ).loc main_v14_1) = GX m c
      ∧ r.2.mem ((c : Thread nD τ).loc main_v14_2) = GG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2.1.trans (final7 m c), (h c).2.2.2⟩)
    (Cert.Kernel2Ideal.Value.run_blocks m ρ)

end Cert.NormBwd

end
-- ==== Proof.NormBwd.Reference.lean ====
/- The derivative of the norm before the up projection, as the reference computes it, read at an index. -/
module

public import proofs.«01_k».proof.Proof.NormBwd.Math
public import proofs.«01_k».proof.Proof.Gen.Reference2Ideal.Read

@[expose] public section

noncomputable section

namespace Cert.NormBwd.Ref

open Idealize.ShloMosaic Cert.Reference2Ideal Cert.Reference2Ideal.Gen Cert.Reference2Ideal.Read Cert.Rows

variable (D : S4096x5632.Idx → EReal) (W : S1024x5632.Idx → EReal) (X : S4096x1024.Idx → EReal) (G : S1x1024.Idx → EReal)
  (Z : S4096x1024.Idx → EReal)

abbrev cN : EReal := Ideal.ofBits .f32 0x44800000#32
abbrev cE : EReal := Ideal.ofBits .f32 0x358637BD#32
abbrev cH : EReal := Ideal.ofBits .f32 0xBF000000#32

/-- The cotangent of the norm's output. -/
def dy (r : Fin 4096) (j : Fin 1024) : EReal := ∑ q : Fin 5632, D (ix2 r q) * W (ix2 j q)

theorem ms_eq (r : Fin 4096) (c : Fin 1) : val_main_v6 (F := Ideal) X (ix2 r c) = ms cN cE (fun j => X (ix2 r j)) := by
  unfold val_main_v6 val_main_v5 val_main_v4 val_main_v3 val_main_v2 val_main_v1 val_main_v0 val_main_cst val_main_cst_0 val_main_cst_1
  pointwise
  rfl

theorem dy_eq (r : Fin 4096) (c : Fin 1024) : val_main_v18 (F := Ideal) D W (ix2 r c) = dy D W r c := by
  unfold val_main_v18 val_main_v17 val_main_v15
  pointwise
  rfl

theorem back_eq (r : Fin 4096) (c : Fin 1024) :
    val_main_v33 (F := Ideal) D W X G (ix2 r c) = back cN cE cH (fun j => X (ix2 r j)) (fun j => dy D W r j * G (ix2 0 j)) := by
  unfold val_main_v33 val_main_v32 val_main_v31 val_main_v30 val_main_v29 val_main_v26 val_main_v25 val_main_v24 val_main_v23 val_main_v22 val_main_v10 val_main_v9 val_main_v8 val_main_v7 val_main_cst_2 val_main_cst_4 val_main_cst_5 val_main_cst_6
  pointwise
  simp only [ms_eq, dy_eq]
  exact Fin.sum_univ_one _

theorem dx_eq (r : Fin 4096) (c : Fin 1024) :
    val_main_v38 (F := Ideal) D W X G Z (ix2 r c)
      = dxR cN cE cH (fun j => X (ix2 r j)) (fun j => dy D W r j * G (ix2 0 j)) c + Z (ix2 r c) := by
  unfold val_main_v38 val_main_v37 val_main_v36 val_main_v35 val_main_v34 val_main_v28 val_main_v27 val_main_v23 val_main_v22 val_main_v7
  pointwise
  simp only [ms_eq, dy_eq, back_eq]
  rfl

theorem dg_eq (r : Fin 1) (c : Fin 1024) :
    val_main_v21 (F := Ideal) D W X (ix2 r c) = ∑ i : Fin 4096, X (ix2 i c) * ri cN cE (fun j => X (ix2 i j)) * dy D W i c := by
  unfold val_main_v21 val_main_v20 val_main_v19 val_main_v12 val_main_v11 val_main_v7 val_main_cst_3
  pointwise
  simp only [ms_eq, dy_eq]
  rfl

end Cert.NormBwd.Ref

end
-- ==== Proof.NormBwd.Equal.lean ====
/- The fused product and norm gradient against the derivative of the norm and the product: the same three arrays. -/
module

public import proofs.«01_k».proof.Proof.NormBwd.Array
public import proofs.«01_k».proof.Proof.NormBwd.Reference

@[expose] public section

noncomputable section

namespace Cert.NormBwd

open Idealize.ShloMosaic Idealize.ShloMosaic.TcCoe Cert.Rows

open Cert.Kernel2Ideal

variable (m : (ℓ : Loc nD τ sig) → Buf (Elt Ideal) ℓ) (c : Dev nD)

theorem dyv_eq (r : Fin 4096) (k : Fin 1024) : dyv m c r.val k.val = Ref.dy (aD m c) (aW m c) r k := by
  unfold dyv Ref.dy
  simp only [← eq_rd]

/-- The first result. -/
theorem GX_eq (r : Fin 4096) (k : Fin 1024) :
    GX m c (ix2 r k) = dxR Ref.cN Ref.cE Ref.cH (fun j => aX m c (ix2 r j)) (fun j => Ref.dy (aD m c) (aW m c) r j * aG m c (ix2 0 j)) k + aZ m c (ix2 r k) := by
  obtain ⟨e, he, hE⟩ := bits_eps
  have hx : (fun j : Fin 1024 => rd (aX m c) r.val j.val) = fun j => aX m c (ix2 r j) := funext fun j => (eq_rd _ r j).symm
  have hu : (fun j : Fin 1024 => dyv m c r.val j.val * rd (aG m c) 0 j.val) = fun j => Ref.dy (aD m c) (aW m c) r j * aG m c (ix2 0 j) :=
    funext fun j => congrArg₂ (· * ·) (dyv_eq m c r j) (eq_rd (aG m c) 0 j).symm
  have hk : (⟨k.val % 1024, Nat.mod_lt _ (by decide)⟩ : Fin 1024) = k := Fin.ext (Nat.mod_eq_of_lt k.isLt)
  refine congrArg₂ (· + ·) ?_ (eq_rd (aZ m c) r k).symm
  show dxK cN cE (fun j : Fin 1024 => rd (aX m c) r.val j.val) (fun j : Fin 1024 => dyv m c r.val j.val * rd (aG m c) 0 j.val) ⟨k.val % 1024, Nat.mod_lt _ (by decide)⟩ = _
  rw [hx, hu, hk]
  exact dx_eq bits_1024 hE bits_half (by norm_num) he _ _ k

/-- The third result. -/
theorem GG_eq (r : Fin 1) (k : Fin 1024) :
    GG m c (ix2 r k) = ∑ i : Fin 4096, aX m c (ix2 i k) * ri Ref.cN Ref.cE (fun j => aX m c (ix2 i j)) * Ref.dy (aD m c) (aW m c) i k := by
  refine Finset.sum_congr rfl fun i _ => ?_
  show dyv m c i.val k.val * (rd (aX m c) i.val k.val * ri cN cE (fun j : Fin 1024 => rd (aX m c) i.val j.val)) = _
  rw [dyv_eq, ← eq_rd]
  simp only [← eq_rd]
  exact mul_comm _ _

end Cert.NormBwd

end
-- ==== Proof.Products.Up.lean ====
/- The feed-forward's first product, forward: what the call leaves, against the product. -/
module

public import proofs.«01_k».proof.Proof.Columns
public import proofs.«01_k».proof.Proof.Gen.Kernel5Ideal.Value
public import proofs.«01_k».proof.Proof.Gen.Reference5Ideal.Run
public import Idealize.ShloMosaic.Lib.Pipeline.Value

@[expose] public section

noncomputable section

namespace Cert.Products.Up

open Idealize.ShloMosaic Idealize.ShloMosaic.TcCoe Idealize.ShloMosaic.Pipeline Idealize.ShloMosaic.StableHlo Idealize.SL.Sem
open Cert.Kernel5Ideal Cert.Kernel5Ideal.Gen Cert.Rows

variable (m : (ℓ : Loc nD τ sig) → Buf (Elt Ideal) ℓ) (c : Dev nD) (ρ : Dev nD → PrngReg) (t : Fin cfg0.N)

abbrev aH : S4096x1024.Idx → EReal := m ((c : Thread nD τ).loc main_arg0)
abbrev aW : S1024x5632.Idx → EReal := m ((c : Thread nD τ).loc main_arg1)

theorem stacked_W (j : Fin 4) (k : Fin 1024) (q : Fin 1408) : V m c main_v8 (ix3 j k q) = rd (aW m c) k.val (q.val + 1408 * j.val) := by
  have e : (V m c main_v8 : S4x1024x1408.Idx → EReal) = concatenate S4x1024x1408 0
      [⟨S1x1024x1408, broadcastInDim S1x1024x1408 ![1, 2] bcast_S1024x1408_S1x1024x1408_1_2 (extractStridedSlice S1024x1408 ![0, 0] (aW m c) slices_S1024x5632_S1024x1408_0_0)⟩,
       ⟨S1x1024x1408, broadcastInDim S1x1024x1408 ![1, 2] bcast_S1024x1408_S1x1024x1408_1_2 (extractStridedSlice S1024x1408 ![0, 1408] (aW m c) slices_S1024x5632_S1024x1408_0_1408)⟩,
       ⟨S1x1024x1408, broadcastInDim S1x1024x1408 ![1, 2] bcast_S1024x1408_S1x1024x1408_1_2 (extractStridedSlice S1024x1408 ![0, 2816] (aW m c) slices_S1024x5632_S1024x1408_0_2816)⟩,
       ⟨S1x1024x1408, broadcastInDim S1x1024x1408 ![1, 2] bcast_S1024x1408_S1x1024x1408_1_2 (extractStridedSlice S1024x1408 ![0, 4224] (aW m c) slices_S1024x5632_S1024x1408_0_4224)⟩]
      concatenates_S1x1024x1408_S1x1024x1408_S1x1024x1408_S1x1024x1408_S4x1024x1408_d0 := by
    unfold V
    after_results <;> rfl
  rw [e]
  exact stack4 (aW m c) _ _ _ _ _ _ j k q

theorem index_0 : ∀ t : Fin cfg0.N, (cfg0.win 0).index t 0 = t.val / 4 ∧ (cfg0.win 0).index t 1 = 0 := by decide +kernel
theorem index_1 : ∀ t : Fin cfg0.N, (cfg0.win 1).index t 0 = t.val % 4 ∧ (cfg0.win 1).index t 1 = 0 ∧ (cfg0.win 1).index t 2 = 0 := by decide +kernel
theorem index_2 : ∀ t : Fin cfg0.N, (cfg0.win 2).index t 0 = t.val / 4 ∧ (cfg0.win 2).index t 1 = t.val % 4 := by decide +kernel

theorem iblk_0 (r : Fin 1024) (k : Fin 1024) : iblk m c 0 t (ix2 r k) = rd (aH m c) (1024 * (t.val / 4) + r.val) k.val :=
  (rd_of_emb (V m c main_arg0) (((cfg0.win 0).rect t).emb (ix2 r k))
    (((cfg0.win 0).rect_emb_val t (ix2 r k) 0).trans ((congrArg (· * 1024 + r.val) (index_0 t).1).trans (show t.val / 4 * 1024 + r.val = 1024 * (t.val / 4) + r.val by omega)))
    (((cfg0.win 0).rect_emb_val t (ix2 r k) 1).trans ((congrArg (· * 1024 + k.val) (index_0 t).2).trans (show 0 * 1024 + k.val = k.val by omega)))).trans
    (congrArg (fun X : S4096x1024.Idx → EReal => rd X _ _) (V_main_arg0 m c))

theorem iblk_1 (k : Fin 1024) (q : Fin 1408) : iblk m c 1 t (ix3 (0 : Fin 1) k q) = rd (aW m c) k.val (q.val + 1408 * (t.val % 4)) := by
  obtain ⟨e0, e1, e2⟩ := index_1 t
  have i0 := ((cfg0.win 1).rect_emb_val t (ix3 (0 : Fin 1) k q) 0).trans (congrArg (· * 1 + 0) e0)
  have i1 := ((cfg0.win 1).rect_emb_val t (ix3 (0 : Fin 1) k q) 1).trans (congrArg (· * 1024 + k.val) e1)
  have i2 := ((cfg0.win 1).rect_emb_val t (ix3 (0 : Fin 1) k q) 2).trans (congrArg (· * 1408 + q.val) e2)
  have at_W : ∀ i : S4x1024x1408.Idx, V m c main_v8 i = rd (aW m c) (i 1).val ((i 2).val + 1408 * (i 0).val) := fun i =>
    (congrArg (V m c main_v8) (ValueIdx.eq_ix3 i)).trans (stacked_W m c (i 0) (i 1) (i 2))
  refine (at_W (((cfg0.win 1).rect t).emb (ix3 (0 : Fin 1) k q))).trans (congrArg₂ (rd (aW m c)) ?_ ?_)
  · rw [i1]; omega
  · rw [i2, i0]; omega

/-- Entry `(r, q)` of the product. -/
def prod (r q : Nat) : EReal := ∑ k : Fin 1024, rd (aH m c) r k.val * rd (aW m c) k.val q

/-- The result's array. -/
def G (i : S4096x5632.Idx) : EReal := prod m c (i 0).val (i 1).val

private theorem hz2 : (![0, 0] : Fin 2 → Nat) = fun _ => 0 := by decide
private theorem hz3 : (![0, 0, 0] : Fin 3 → Nat) = fun _ => 0 := by decide

theorem out (r : Fin 1024) (q : Fin 1408) :
    (dats m 0 c).after 2 t (ix2 r q) = prod m c (1024 * (t.val / 4) + r.val) (q.val + 1408 * (t.val % 4)) := by
  rw [after0_2]
  unfold out0_2
  rw [View.canon_unit_zero hz2, View.ld_unit_zero (S := S1024x1024) hz2, View.ld_unit_zero (S := S1x1024x1408) hz3]
  unfold k0_pay1
  pointwise
  simp only [iblk_0, iblk_1]
  rfl

theorem flushed (t : Fin cfg0.N) : (dats m 0 c).flushed 2 t = (win0_2.blk t).view.read (Elt Ideal) (G m c) := by
  funext y
  obtain ⟨r, q, rfl⟩ : ∃ (r : Fin 1024) (q : Fin 1408), y = ix2 r q := ⟨y 0, y 1, ValueIdx.eq_ix2 y⟩
  refine (out m c t r q).trans ?_
  show _ = G m c ((win0_2.rect t).emb (ix2 r q))
  obtain ⟨e0, e1⟩ := index_2 t
  have i0 := (win0_2.rect_emb_val t (ix2 r q) 0).trans (congrArg (· * 1024 + r.val) e0)
  have i1 := (win0_2.rect_emb_val t (ix2 r q) 1).trans (congrArg (· * 1408 + q.val) e1)
  refine congrArg₂ (prod m c) ?_ ?_
  · rw [i0]; omega
  · rw [i1]; omega

theorem cover (i : S4096x5632.Idx) : ∃ t : Fin cfg0.N, (cfg0.win 2).flush t = true ∧ i ∈ ((cfg0.win 2).blk t).view.set := by
  have h0 : (i 0).val < 4096 := (i 0).isLt
  have h1 : (i 1).val < 5632 := (i 1).isLt
  have ht : 4 * ((i 0).val / 1024) + (i 1).val / 1408 < 16 := by omega
  let t : Fin cfg0.N := ⟨4 * ((i 0).val / 1024) + (i 1).val / 1408, by rw [show cfg0.N = 16 from N_0]; exact ht⟩
  obtain ⟨e0, e1⟩ := index_2 t
  have tv : t.val = 4 * ((i 0).val / 1024) + (i 1).val / 1408 := rfl
  refine ⟨t, flush0_2 t, ?_⟩
  show i ∈ ((View.whole main_v9).slice (win0_2.rect t)).set
  rw [View.set_slice_whole, Rect.mem_set_unit]
  intro a
  fin_cases a
  · show (cfg0.win 2).index t 0 * 1024 ≤ (i 0).val ∧ (i 0).val < (cfg0.win 2).index t 0 * 1024 + 1024
    rw [e0, tv]; omega
  · show (cfg0.win 2).index t 1 * 1408 ≤ (i 1).val ∧ (i 1).val < (cfg0.win 2).index t 1 * 1408 + 1408
    rw [e1, tv]; omega

/-- The product, after the run. -/
theorem final : (dats m 0 c).arrAt 2 cfg0.N = G m c :=
  (dats m 0 c).arrAt_eq_of_cover 2 (G m c) (fun t _ => flushed m c t) cover

/-- The run: the result at the closed form, the arguments unchanged. -/
theorem run : θ_run defs (onTc (τ := τ) (main (F := Ideal))) ⟨m, fun _ => 0, ρ⟩ fun r => ∀ c : Dev nD,
      r.2.mem ((c : Thread nD τ).loc main_v9) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.Kernel5Ideal.Value.run_blocks m ρ)

open Cert.Reference5Ideal.Gen in
/-- The host's product is the same array. -/
theorem reference (H : S4096x1024.Idx → EReal) (W : S1024x5632.Idx → EReal) (r : Fin 4096) (q : Fin 5632) :
    Host.dotGeneral (F := Ideal) Cert.Reference5Ideal.dot_S4096x1024_S1024x5632_S4096x5632_1_0_0_1_n_n none
      (extf (F := Ideal) (s := S4096x1024) .f32 H bitsLt_bf16_f32) (extf (F := Ideal) (s := S1024x5632) .f32 W bitsLt_bf16_f32) (ix2 r q)
      = ∑ k : Fin 1024, H (ix2 r k) * W (ix2 k q) := by
  pointwise

open Cert.Reference5Ideal.Gen in
/-- The call's result is the product. -/
theorem result (r : Fin 4096) (q : Fin 5632) :
    Host.dotGeneral (F := Ideal) Cert.Reference5Ideal.dot_S4096x1024_S1024x5632_S4096x5632_1_0_0_1_n_n none
      (extf (F := Ideal) (s := S4096x1024) .f32 (aH m c) bitsLt_bf16_f32) (extf (F := Ideal) (s := S1024x5632) .f32 (aW m c) bitsLt_bf16_f32) (ix2 r q)
      = G m c (ix2 r q) :=
  (reference (aH m c) (aW m c) r q).trans (Finset.sum_congr rfl fun k _ => congrArg₂ (· * ·) (eq_rd (aH m c) r k) (eq_rd (aW m c) k q))

end Cert.Products.Up

end
-- ==== Proof.Products.UpDw.lean ====
/- The gradient of the feed-forward's first weights: what the call leaves, against the derivative of the product. -/
module

public import proofs.«01_k».proof.Proof.Columns
public import proofs.«01_k».proof.Proof.Gen.Kernel3Ideal.Value
public import proofs.«01_k».proof.Proof.Gen.Reference3Ideal.Run
public import Idealize.ShloMosaic.Lib.Pipeline.Value

@[expose] public section

noncomputable section

namespace Cert.Products.UpDw

open Idealize.ShloMosaic Idealize.ShloMosaic.TcCoe Idealize.ShloMosaic.Pipeline Idealize.ShloMosaic.StableHlo Idealize.SL.Sem
open Cert.Kernel3Ideal Cert.Kernel3Ideal.Gen Cert.Rows

variable (m : (ℓ : Loc nD τ sig) → Buf (Elt Ideal) ℓ) (c : Dev nD) (ρ : Dev nD → PrngReg) (t : Fin cfg0.N)

abbrev aH : S4096x1024.Idx → EReal := m ((c : Thread nD τ).loc main_arg0)
abbrev aD : S4096x5632.Idx → EReal := m ((c : Thread nD τ).loc main_arg1)

theorem stacked_D (h : Fin 2) (r : Fin 4096) (q : Fin 2816) : V m c main_v4 (ix3 h r q) = rd (aD m c) r.val (q.val + 2816 * h.val) := by
  have e : (V m c main_v4 : S2x4096x2816.Idx → EReal) = concatenate S2x4096x2816 0
      [⟨S1x4096x2816, broadcastInDim S1x4096x2816 ![1, 2] bcast_S4096x2816_S1x4096x2816_1_2 (extractStridedSlice S4096x2816 ![0, 0] (aD m c) slices_S4096x5632_S4096x2816_0_0)⟩,
       ⟨S1x4096x2816, broadcastInDim S1x4096x2816 ![1, 2] bcast_S4096x2816_S1x4096x2816_1_2 (extractStridedSlice S4096x2816 ![0, 2816] (aD m c) slices_S4096x5632_S4096x2816_0_2816)⟩]
      concatenates_S1x4096x2816_S1x4096x2816_S2x4096x2816_d0 := by
    unfold V
    after_results <;> rfl
  rw [e]
  exact stack2 (aD m c) _ _ _ _ h r q

theorem index_0 : ∀ t : Fin cfg0.N, (cfg0.win 0).index t 0 = 0 ∧ (cfg0.win 0).index t 1 = t.val % 2 := by decide +kernel
theorem index_1 : ∀ t : Fin cfg0.N, (cfg0.win 1).index t 0 = t.val / 4 ∧ (cfg0.win 1).index t 1 = 0 ∧ (cfg0.win 1).index t 2 = t.val / 2 % 2 := by decide +kernel
theorem index_2 : ∀ t : Fin cfg0.N, (cfg0.win 2).index t 0 = t.val / 2 ∧ (cfg0.win 2).index t 1 = t.val % 2 ∧ (cfg0.win 2).index t 2 = 0 := by decide +kernel

theorem iblk_0 (r : Fin 4096) (k : Fin 512) : iblk m c 0 t (ix2 r k) = rd (aH m c) r.val (k.val + 512 * (t.val % 2)) :=
  (rd_of_emb (V m c main_arg0) (((cfg0.win 0).rect t).emb (ix2 r k))
    (((cfg0.win 0).rect_emb_val t (ix2 r k) 0).trans ((congrArg (· * 4096 + r.val) (index_0 t).1).trans (show 0 * 4096 + r.val = r.val by omega)))
    (((cfg0.win 0).rect_emb_val t (ix2 r k) 1).trans ((congrArg (· * 512 + k.val) (index_0 t).2).trans (show t.val % 2 * 512 + k.val = k.val + 512 * (t.val % 2) by omega)))).trans
    (congrArg (fun X : S4096x1024.Idx → EReal => rd X _ _) (V_main_arg0 m c))

theorem iblk_1 (r : Fin 4096) (q : Fin 1408) : iblk m c 1 t (ix3 (0 : Fin 1) r q) = rd (aD m c) r.val (q.val + 1408 * (t.val / 2)) := by
  obtain ⟨e0, e1, e2⟩ := index_1 t
  have i0 := ((cfg0.win 1).rect_emb_val t (ix3 (0 : Fin 1) r q) 0).trans (congrArg (· * 1 + 0) e0)
  have i1 := ((cfg0.win 1).rect_emb_val t (ix3 (0 : Fin 1) r q) 1).trans (congrArg (· * 4096 + r.val) e1)
  have i2 := ((cfg0.win 1).rect_emb_val t (ix3 (0 : Fin 1) r q) 2).trans (congrArg (· * 1408 + q.val) e2)
  have at_D : ∀ i : S2x4096x2816.Idx, V m c main_v4 i = rd (aD m c) (i 1).val ((i 2).val + 2816 * (i 0).val) := fun i =>
    (congrArg (V m c main_v4) (ValueIdx.eq_ix3 i)).trans (stacked_D m c (i 0) (i 1) (i 2))
  refine (at_D (((cfg0.win 1).rect t).emb (ix3 (0 : Fin 1) r q))).trans (congrArg₂ (rd (aD m c)) ?_ ?_)
  · rw [i1]; omega
  · rw [i2, i0]; omega

/-- Entry `(k, q)` of the gradient. -/
def grad (k q : Nat) : EReal := ∑ r : Fin 4096, rd (aH m c) r.val k * rd (aD m c) r.val q

/-- The result's array: the gradient's columns, stacked. -/
def G (i : S4x1024x1408.Idx) : EReal := grad m c (i 1).val ((i 2).val + 1408 * (i 0).val)

private theorem hz2 : (![0, 0] : Fin 2 → Nat) = fun _ => 0 := by decide
private theorem hz3 : (![0, 0, 0] : Fin 3 → Nat) = fun _ => 0 := by decide

theorem out (k : Fin 512) (q : Fin 1408) :
    (dats m 0 c).after 2 t (ix3 (0 : Fin 1) k q) = grad m c (k.val + 512 * (t.val % 2)) (q.val + 1408 * (t.val / 2)) := by
  rw [after0_2]
  unfold out0_2
  rw [View.canon_unit_zero hz3, View.ld_unit_zero (S := S4096x512) hz2, View.ld_unit_zero (S := S1x4096x1408) hz3]
  unfold k0_pay1
  pointwise
  simp only [iblk_0, iblk_1]
  rfl

theorem flushed (t : Fin cfg0.N) : (dats m 0 c).flushed 2 t = (win0_2.blk t).view.read (Elt Ideal) (G m c) := by
  funext y
  obtain ⟨a, k, q, rfl⟩ : ∃ (a : Fin 1) (k : Fin 512) (q : Fin 1408), y = ix3 a k q := ⟨y 0, y 1, y 2, ValueIdx.eq_ix3 y⟩
  obtain rfl : a = 0 := Subsingleton.elim _ _
  refine (out m c t k q).trans ?_
  show _ = G m c ((win0_2.rect t).emb (ix3 (0 : Fin 1) k q))
  obtain ⟨e0, e1, e2⟩ := index_2 t
  have i0 := (win0_2.rect_emb_val t (ix3 (0 : Fin 1) k q) 0).trans (congrArg (· * 1 + 0) e0)
  have i1 := (win0_2.rect_emb_val t (ix3 (0 : Fin 1) k q) 1).trans (congrArg (· * 512 + k.val) e1)
  have i2 := (win0_2.rect_emb_val t (ix3 (0 : Fin 1) k q) 2).trans (congrArg (· * 1408 + q.val) e2)
  refine congrArg₂ (grad m c) ?_ ?_
  · rw [i1]; omega
  · rw [i2, i0]; omega

theorem cover (i : S4x1024x1408.Idx) : ∃ t : Fin cfg0.N, (cfg0.win 2).flush t = true ∧ i ∈ ((cfg0.win 2).blk t).view.set := by
  have h0 : (i 0).val < 4 := (i 0).isLt
  have h1 : (i 1).val < 1024 := (i 1).isLt
  have h2 : (i 2).val < 1408 := (i 2).isLt
  have ht : 2 * (i 0).val + (i 1).val / 512 < 8 := by omega
  let t : Fin cfg0.N := ⟨2 * (i 0).val + (i 1).val / 512, by rw [show cfg0.N = 8 from N_0]; exact ht⟩
  obtain ⟨e0, e1, e2⟩ := index_2 t
  have tv : t.val = 2 * (i 0).val + (i 1).val / 512 := rfl
  refine ⟨t, flush0_2 t, ?_⟩
  show i ∈ ((View.whole main_v5).slice (win0_2.rect t)).set
  rw [View.set_slice_whole, Rect.mem_set_unit]
  intro a
  fin_cases a
  · show (cfg0.win 2).index t 0 * 1 ≤ (i 0).val ∧ (i 0).val < (cfg0.win 2).index t 0 * 1 + 1
    rw [e0, tv]; omega
  · show (cfg0.win 2).index t 1 * 512 ≤ (i 1).val ∧ (i 1).val < (cfg0.win 2).index t 1 * 512 + 512
    rw [e1, tv]; omega
  · show (cfg0.win 2).index t 2 * 1408 ≤ (i 2).val ∧ (i 2).val < (cfg0.win 2).index t 2 * 1408 + 1408
    rw [e2]; omega

/-- The gradient, after the run. -/
theorem final : (dats m 0 c).arrAt 2 cfg0.N = G m c :=
  (dats m 0 c).arrAt_eq_of_cover 2 (G m c) (fun t _ => flushed m c t) cover

/-- The run: the result at the closed form, the arguments unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.Kernel3Ideal.Value.run_blocks m ρ)

open Cert.Reference3Ideal.Gen in
/-- The derivative of the product, before its columns are stacked. -/
theorem reference (H : S4096x1024.Idx → EReal) (D : S4096x5632.Idx → EReal) (k : Fin 1024) (q : Fin 5632) :
    transpose Cert.Reference3Ideal.S1024x5632 [1, 0] (Host.dotGeneral (F := Ideal) Cert.Reference3Ideal.dot_S4096x5632_S4096x1024_S5632x1024_0_0_1_1_n_n none
      (extf (F := Ideal) (s := S4096x5632) .f32 D bitsLt_bf16_f32) (extf (F := Ideal) (s := S4096x1024) .f32 H bitsLt_bf16_f32)) transposes_S5632x1024_S1024x5632_1_0 (ix2 k q)
      = ∑ r : Fin 4096, D (ix2 r q) * H (ix2 r k) := by
  pointwise

open Cert.Reference3Ideal.Gen in
/-- The call's result is the derivative, its columns stacked. -/
theorem result (j : Fin 4) (k : Fin 1024) (q : Fin 1408) :
    concatenate Cert.Reference3Ideal.S4x1024x1408 0
      [⟨Q1, broadcastInDim Q1 ![1, 2] bcast_S1024x1408_S1x1024x1408_1_2 (extractStridedSlice P1 ![0, 0] (transpose M1 [1, 0] (Host.dotGeneral (F := Ideal) Cert.Reference3Ideal.dot_S4096x5632_S4096x1024_S5632x1024_0_0_1_1_n_n none
        (extf (F := Ideal) (s := S4096x5632) .f32 (aD m c) bitsLt_bf16_f32) (extf (F := Ideal) (s := S4096x1024) .f32 (aH m c) bitsLt_bf16_f32)) transposes_S5632x1024_S1024x5632_1_0) slices_S1024x5632_S1024x1408_0_0)⟩,
       ⟨Q1, broadcastInDim Q1 ![1, 2] bcast_S1024x1408_S1x1024x1408_1_2 (extractStridedSlice P1 ![0, 1408] (transpose M1 [1, 0] (Host.dotGeneral (F := Ideal) Cert.Reference3Ideal.dot_S4096x5632_S4096x1024_S5632x1024_0_0_1_1_n_n none
        (extf (F := Ideal) (s := S4096x5632) .f32 (aD m c) bitsLt_bf16_f32) (extf (F := Ideal) (s := S4096x1024) .f32 (aH m c) bitsLt_bf16_f32)) transposes_S5632x1024_S1024x5632_1_0) slices_S1024x5632_S1024x1408_0_1408)⟩,
       ⟨Q1, broadcastInDim Q1 ![1, 2] bcast_S1024x1408_S1x1024x1408_1_2 (extractStridedSlice P1 ![0, 2816] (transpose M1 [1, 0] (Host.dotGeneral (F := Ideal) Cert.Reference3Ideal.dot_S4096x5632_S4096x1024_S5632x1024_0_0_1_1_n_n none
        (extf (F := Ideal) (s := S4096x5632) .f32 (aD m c) bitsLt_bf16_f32) (extf (F := Ideal) (s := S4096x1024) .f32 (aH m c) bitsLt_bf16_f32)) transposes_S5632x1024_S1024x5632_1_0) slices_S1024x5632_S1024x1408_0_2816)⟩,
       ⟨Q1, broadcastInDim Q1 ![1, 2] bcast_S1024x1408_S1x1024x1408_1_2 (extractStridedSlice P1 ![0, 4224] (transpose M1 [1, 0] (Host.dotGeneral (F := Ideal) Cert.Reference3Ideal.dot_S4096x5632_S4096x1024_S5632x1024_0_0_1_1_n_n none
        (extf (F := Ideal) (s := S4096x5632) .f32 (aD m c) bitsLt_bf16_f32) (extf (F := Ideal) (s := S4096x1024) .f32 (aH m c) bitsLt_bf16_f32)) transposes_S5632x1024_S1024x5632_1_0) slices_S1024x5632_S1024x1408_0_4224)⟩]
      concatenates_S1x1024x1408_S1x1024x1408_S1x1024x1408_S1x1024x1408_S4x1024x1408_d0 (ix3 j k q)
      = G m c (ix3 j k q) := by
  have hq : q.val + 1408 * j.val < 5632 := by omega
  refine (stack4 _ _ _ _ _ _ _ j k q).trans ?_
  refine (eq_rd (n0 := 1024) (n1 := 5632) _ k ⟨q.val + 1408 * j.val, hq⟩).symm.trans ((reference (aH m c) (aD m c) k ⟨q.val + 1408 * j.val, hq⟩).trans ?_)
  exact Finset.sum_congr rfl fun r _ => (mul_comm _ _).trans (congrArg₂ (· * ·) (eq_rd (aH m c) r k) (eq_rd (aD m c) r ⟨q.val + 1408 * j.val, hq⟩))

end Cert.Products.UpDw

end
-- ==== Proof.Products.DownDw.lean ====
/- The gradient of the feed-forward's second weights: what the call leaves, against the derivative of the product. -/
module

public import proofs.«01_k».proof.Proof.Rows
public import proofs.«01_k».proof.Proof.Gen.Kernel4Ideal.Value
public import proofs.«01_k».proof.Proof.Gen.Reference4Ideal.Run
public import Idealize.ShloMosaic.Lib.Pipeline.Value

@[expose] public section

noncomputable section

namespace Cert.Products.DownDw

open Idealize.ShloMosaic Idealize.ShloMosaic.TcCoe Idealize.ShloMosaic.Pipeline Idealize.SL.Sem
open Cert.Kernel4Ideal Cert.Kernel4Ideal.Gen Cert.Rows

variable (m : (ℓ : Loc nD τ sig) → Buf (Elt Ideal) ℓ) (c : Dev nD) (ρ : Dev nD → PrngReg) (t : Fin cfg0.N)

abbrev aA : S4096x2816.Idx → EReal := m ((c : Thread nD τ).loc main_arg0)
abbrev aD : S4096x1024.Idx → EReal := m ((c : Thread nD τ).loc main_arg1)

theorem index_0 : ∀ t : Fin cfg0.N, (cfg0.win 0).index t 0 = 0 ∧ (cfg0.win 0).index t 1 = t.val / 2 := by decide +kernel
theorem index_1 : ∀ t : Fin cfg0.N, (cfg0.win 1).index t 0 = 0 ∧ (cfg0.win 1).index t 1 = t.val % 2 := by decide +kernel
theorem index_2 : ∀ t : Fin cfg0.N, (cfg0.win 2).index t 0 = t.val / 2 ∧ (cfg0.win 2).index t 1 = t.val % 2 := by decide +kernel

theorem iblk_0 (r : Fin 4096) (k : Fin 1408) : iblk m c 0 t (ix2 r k) = rd (aA m c) r.val (k.val + 1408 * (t.val / 2)) :=
  (rd_of_emb (V m c main_arg0) (((cfg0.win 0).rect t).emb (ix2 r k))
    (((cfg0.win 0).rect_emb_val t (ix2 r k) 0).trans ((congrArg (· * 4096 + r.val) (index_0 t).1).trans (show 0 * 4096 + r.val = r.val by omega)))
    (((cfg0.win 0).rect_emb_val t (ix2 r k) 1).trans ((congrArg (· * 1408 + k.val) (index_0 t).2).trans (show t.val / 2 * 1408 + k.val = k.val + 1408 * (t.val / 2) by omega)))).trans
    (congrArg (fun X : S4096x2816.Idx → EReal => rd X _ _) (V_main_arg0 m c))

theorem iblk_1 (r : Fin 4096) (k : Fin 512) : iblk m c 1 t (ix2 r k) = rd (aD m c) r.val (k.val + 512 * (t.val % 2)) :=
  (rd_of_emb (V m c main_arg1) (((cfg0.win 1).rect t).emb (ix2 r k))
    (((cfg0.win 1).rect_emb_val t (ix2 r k) 0).trans ((congrArg (· * 4096 + r.val) (index_1 t).1).trans (show 0 * 4096 + r.val = r.val by omega)))
    (((cfg0.win 1).rect_emb_val t (ix2 r k) 1).trans ((congrArg (· * 512 + k.val) (index_1 t).2).trans (show t.val % 2 * 512 + k.val = k.val + 512 * (t.val % 2) by omega)))).trans
    (congrArg (fun X : S4096x1024.Idx → EReal => rd X _ _) (V_main_arg1 m c))

/-- Entry `(k, q)` of the gradient. -/
def grad (k q : Nat) : EReal := ∑ r : Fin 4096, rd (aA m c) r.val k * rd (aD m c) r.val q

/-- The result's array. -/
def G (i : S2816x1024.Idx) : EReal := grad m c (i 0).val (i 1).val

private theorem hz2 : (![0, 0] : Fin 2 → Nat) = fun _ => 0 := by decide

theorem out (k : Fin 1408) (q : Fin 512) :
    (dats m 0 c).after 2 t (ix2 k q) = grad m c (k.val + 1408 * (t.val / 2)) (q.val + 512 * (t.val % 2)) := by
  rw [after0_2]
  unfold out0_2
  rw [View.canon_unit_zero hz2, View.ld_unit_zero (S := S4096x1408) hz2, View.ld_unit_zero (S := S4096x512) hz2]
  unfold k0_pay1
  pointwise
  simp only [iblk_0, iblk_1]
  rfl

theorem flushed (t : Fin cfg0.N) : (dats m 0 c).flushed 2 t = (win0_2.blk t).view.read (Elt Ideal) (G m c) := by
  funext y
  obtain ⟨k, q, rfl⟩ : ∃ (k : Fin 1408) (q : Fin 512), y = ix2 k q := ⟨y 0, y 1, ValueIdx.eq_ix2 y⟩
  refine (out m c t k q).trans ?_
  show _ = G m c ((win0_2.rect t).emb (ix2 k q))
  obtain ⟨e0, e1⟩ := index_2 t
  have i0 := (win0_2.rect_emb_val t (ix2 k q) 0).trans (congrArg (· * 1408 + k.val) e0)
  have i1 := (win0_2.rect_emb_val t (ix2 k q) 1).trans (congrArg (· * 512 + q.val) e1)
  refine congrArg₂ (grad m c) ?_ ?_
  · rw [i0]; omega
  · rw [i1]; omega

theorem cover (i : S2816x1024.Idx) : ∃ t : Fin cfg0.N, (cfg0.win 2).flush t = true ∧ i ∈ ((cfg0.win 2).blk t).view.set := by
  have h0 : (i 0).val < 2816 := (i 0).isLt
  have h1 : (i 1).val < 1024 := (i 1).isLt
  have ht : 2 * ((i 0).val / 1408) + (i 1).val / 512 < 4 := by omega
  let t : Fin cfg0.N := ⟨2 * ((i 0).val / 1408) + (i 1).val / 512, by rw [show cfg0.N = 4 from N_0]; exact ht⟩
  obtain ⟨e0, e1⟩ := index_2 t
  have tv : t.val = 2 * ((i 0).val / 1408) + (i 1).val / 512 := rfl
  refine ⟨t, flush0_2 t, ?_⟩
  show i ∈ ((View.whole main_v0).slice (win0_2.rect t)).set
  rw [View.set_slice_whole, Rect.mem_set_unit]
  intro a
  fin_cases a
  · show (cfg0.win 2).index t 0 * 1408 ≤ (i 0).val ∧ (i 0).val < (cfg0.win 2).index t 0 * 1408 + 1408
    rw [e0, tv]; omega
  · show (cfg0.win 2).index t 1 * 512 ≤ (i 1).val ∧ (i 1).val < (cfg0.win 2).index t 1 * 512 + 512
    rw [e1, tv]; omega

/-- The gradient, after the run. -/
theorem final : (dats m 0 c).arrAt 2 cfg0.N = G m c :=
  (dats m 0 c).arrAt_eq_of_cover 2 (G m c) (fun t _ => flushed m c t) cover

/-- The run: the result at the closed form, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.Kernel4Ideal.Value.run_blocks m ρ)

open Cert.Reference4Ideal.Gen in
/-- The derivative of the product. -/
theorem reference (A : S4096x2816.Idx → EReal) (D : S4096x1024.Idx → EReal) (k : Fin 2816) (q : Fin 1024) :
    transpose Cert.Reference4Ideal.S2816x1024 [1, 0] (Host.dotGeneral (F := Ideal) Cert.Reference4Ideal.dot_S4096x1024_S4096x2816_S1024x2816_0_0_1_1_n_n none
      (extf (F := Ideal) (s := S4096x1024) .f32 D bitsLt_bf16_f32) (extf (F := Ideal) (s := S4096x2816) .f32 A bitsLt_bf16_f32)) transposes_S1024x2816_S2816x1024_1_0 (ix2 k q)
      = ∑ r : Fin 4096, D (ix2 r q) * A (ix2 r k) := by
  pointwise

open Cert.Reference4Ideal.Gen in
/-- The call's result is the derivative. -/
theorem result (k : Fin 2816) (q : Fin 1024) :
    transpose Cert.Reference4Ideal.S2816x1024 [1, 0] (Host.dotGeneral (F := Ideal) Cert.Reference4Ideal.dot_S4096x1024_S4096x2816_S1024x2816_0_0_1_1_n_n none
      (extf (F := Ideal) (s := S4096x1024) .f32 (aD m c) bitsLt_bf16_f32) (extf (F := Ideal) (s := S4096x2816) .f32 (aA m c) bitsLt_bf16_f32)) transposes_S1024x2816_S2816x1024_1_0 (ix2 k q)
      = G m c (ix2 k q) :=
  (reference (aA m c) (aD m c) k q).trans (Finset.sum_congr rfl fun r _ => (mul_comm _ _).trans (congrArg₂ (· * ·) (eq_rd (aA m c) r k) (eq_rd (aD m c) r q)))

end Cert.Products.DownDw

end
-- ==== Proof.LossHead.Block.lean ====
/- What each grid point of the loss head: the down projection, the last norm, the loss and its gradients leaves in its output blocks. -/
module

public import proofs.«01_k».proof.Proof.NormBwd.Math
public import proofs.«01_k».proof.Proof.Gen.Kernel6Ideal.Value

@[expose] public section

noncomputable section

namespace Cert.LossHead

open Idealize.ShloMosaic Idealize.ShloMosaic.TcCoe Idealize.ShloMosaic.Pipeline
open Cert.Kernel6Ideal Cert.Kernel6Ideal.Gen Cert.Rows Cert.NormBwd

/-- The row length, the small constant. -/
abbrev cN : EReal := Ideal.ofBits .f32 0x44800000#32
abbrev cE : EReal := Ideal.ofBits .f32 0x358637BD#32
/-- The reciprocals of the row length and of twice the row length. -/
abbrev cI : EReal := Ideal.ofBits .f32 0x3A800000#32
abbrev cL : EReal := Ideal.ofBits .f32 0x3A000000#32

/-! ## The payloads, read at an index -/

section

variable (x : S256x1024.Idx → EReal) (a : S256x2816.Idx → EReal) (w : S2816x1024.Idx → EReal) (g : S1x1024.Idx → EReal) (y : S256x1024.Idx → EReal)

/-- Row `r` of the stream after the down projection. -/
def xb (r : Fin 256) (k : Fin 1024) : EReal := x (ix2 r k) + ∑ q : Fin 2816, a (ix2 r q) * w (ix2 q k)

/-- Row `r` of the error. -/
def eb (r : Fin 256) (k : Fin 1024) : EReal := xb x a w r k * ri cN cE (xb x a w r) * g (ix2 0 k) - y (ix2 r k)

theorem pay7_eq (r : Fin 256) (k : Fin 1024) : k0_pay7 (F := Ideal) x a w (ix2 r k) = xb x a w r k := by
  unfold k0_pay7
  pointwise
  rfl

theorem pay8_eq (r : Fin 256) (j : Fin 1) : k0_pay8 (F := Ideal) x a w (ix2 r j) = ri cN cE (xb x a w r) := by
  unfold k0_pay8
  pointwise
  simp only [pay7_eq]
  rfl

theorem pay9_eq (r : Fin 256) (k : Fin 1024) : k0_pay9 (F := Ideal) x a w (ix2 r k) = xb x a w r k * ri cN cE (xb x a w r) := by
  unfold k0_pay9
  pointwise
  simp only [pay7_eq, pay8_eq]

theorem pay10_eq (r : Fin 256) (k : Fin 1024) : k0_pay10 (F := Ideal) x a w g y (ix2 r k) = eb x a w g y r k := by
  unfold k0_pay10
  pointwise
  simp only [pay9_eq]
  rfl

theorem pay11_eq (i j : Fin 1) : k0_pay11 (F := Ideal) x a w g y (ix2 i j) = (∑ r : Fin 256, ∑ k : Fin 1024, eb x a w g y r k * eb x a w g y r k) * cL := by
  unfold k0_pay11
  pointwise
  simp only [pay10_eq]

theorem pay12_eq (r : Fin 256) (k : Fin 1024) : k0_pay12 (F := Ideal) x a w g y (ix2 r k) = eb x a w g y r k * cI := by
  unfold k0_pay12
  pointwise
  simp only [pay10_eq]

theorem pay13_eq (r : Fin 256) (k : Fin 1024) :
    k0_pay1 (F := Ideal) (k0_pay8 (F := Ideal) x a w) (k0_pay13 (F := Ideal) x a w g y) (ix2 r k)
      = dxK cN cE (xb x a w r) (fun j => eb x a w g y r j * cI * g (ix2 0 j)) k := by
  unfold k0_pay1 k0_pay13
  pointwise
  simp only [pay8_eq, pay9_eq, pay12_eq]
  rfl

theorem pay5_eq (b : S1x1024.Idx → EReal) (r : Fin 1) (k : Fin 1024) :
    k0_pay5 (F := Ideal) (k0_pay9 (F := Ideal) x a w) (k0_pay12 (F := Ideal) x a w g y) b (ix2 r k)
      = b (ix2 r k) + ∑ i : Fin 256, eb x a w g y i k * cI * (xb x a w i k * ri cN cE (xb x a w i)) := by
  unfold k0_pay5
  pointwise
  simp only [pay9_eq, pay12_eq]

theorem pay6_eq (b : S1x1.Idx → EReal) (i j : Fin 1) :
    k0_pay6 (F := Ideal) (k0_pay11 (F := Ideal) x a w g y) b (ix2 i j)
      = b (ix2 i j) + (∑ r : Fin 256, ∑ k : Fin 1024, eb x a w g y r k * eb x a w g y r k) * cL := by
  unfold k0_pay6
  pointwise
  simp only [pay11_eq]

end

/-! ## The blocks' entries -/

variable (m : (ℓ : Loc nD τ sig) → Buf (Elt Ideal) ℓ) (c : Dev nD) (t : Fin cfg0.N)

abbrev aA : S4096x2816.Idx → EReal := m ((c : Thread nD τ).loc main_arg0)
abbrev aW : S2816x1024.Idx → EReal := m ((c : Thread nD τ).loc main_arg1)
abbrev aX : S4096x1024.Idx → EReal := m ((c : Thread nD τ).loc main_arg2)
abbrev aG : S1x1024.Idx → EReal := m ((c : Thread nD τ).loc main_arg3)
abbrev aY : S4096x1024.Idx → EReal := m ((c : Thread nD τ).loc main_arg4)

theorem index_0 : ∀ t : Fin cfg0.N, (cfg0.win 0).index t 0 = t.val ∧ (cfg0.win 0).index t 1 = 0 := by decide +kernel
theorem index_1 : ∀ t : Fin cfg0.N, (cfg0.win 1).index t 0 = 0 ∧ (cfg0.win 1).index t 1 = 0 := by decide +kernel
theorem index_2 : ∀ t : Fin cfg0.N, (cfg0.win 2).index t 0 = t.val ∧ (cfg0.win 2).index t 1 = 0 := by decide +kernel
theorem index_3 : ∀ t : Fin cfg0.N, (cfg0.win 3).index t 0 = 0 ∧ (cfg0.win 3).index t 1 = 0 := by decide +kernel
theorem index_4 : ∀ t : Fin cfg0.N, (cfg0.win 4).index t 0 = t.val ∧ (cfg0.win 4).index t 1 = 0 := by decide +kernel
theorem index_5 : ∀ t : Fin cfg0.N, (cfg0.win 5).index t 0 = 0 ∧ (cfg0.win 5).index t 1 = 0 := by decide +kernel
theorem index_6 : ∀ t : Fin cfg0.N, (cfg0.win 6).index t 0 = t.val ∧ (cfg0.win 6).index t 1 = 0 := by decide +kernel
theorem index_7 : ∀ t : Fin cfg0.N, (cfg0.win 7).index t 0 = t.val ∧ (cfg0.win 7).index t 1 = 0 := by decide +kernel
theorem index_8 : ∀ t : Fin cfg0.N, (cfg0.win 8).index t 0 = 0 ∧ (cfg0.win 8).index t 1 = 0 := by decide +kernel

theorem iblk_0 (r : Fin 256) (k : Fin 2816) : iblk m c 0 t (ix2 r k) = rd (aA m c) (256 * t.val + r.val) k.val :=
  (rd_of_emb (V m c main_arg0) (((cfg0.win 0).rect t).emb (ix2 r k))
    (((cfg0.win 0).rect_emb_val t (ix2 r k) 0).trans ((congrArg (· * 256 + r.val) (index_0 t).1).trans (show t.val * 256 + r.val = 256 * t.val + r.val by omega)))
    (((cfg0.win 0).rect_emb_val t (ix2 r k) 1).trans ((congrArg (· * 2816 + k.val) (index_0 t).2).trans (show 0 * 2816 + k.val = k.val by omega)))).trans
    (congrArg (fun X : S4096x2816.Idx → EReal => rd X _ _) (V_main_arg0 m c))

theorem iblk_1 (r : Fin 2816) (k : Fin 1024) : iblk m c 1 t (ix2 r k) = rd (aW m c) r.val k.val :=
  (rd_of_emb (V m c main_arg1) (((cfg0.win 1).rect t).emb (ix2 r k))
    (((cfg0.win 1).rect_emb_val t (ix2 r k) 0).trans ((congrArg (· * 2816 + r.val) (index_1 t).1).trans (show 0 * 2816 + r.val = r.val by omega)))
    (((cfg0.win 1).rect_emb_val t (ix2 r k) 1).trans ((congrArg (· * 1024 + k.val) (index_1 t).2).trans (show 0 * 1024 + k.val = k.val by omega)))).trans
    (congrArg (fun X : S2816x1024.Idx → EReal => rd X _ _) (V_main_arg1 m c))

theorem iblk_2 (r : Fin 256) (k : Fin 1024) : iblk m c 2 t (ix2 r k) = rd (aX m c) (256 * t.val + r.val) k.val :=
  (rd_of_emb (V m c main_arg2) (((cfg0.win 2).rect t).emb (ix2 r k))
    (((cfg0.win 2).rect_emb_val t (ix2 r k) 0).trans ((congrArg (· * 256 + r.val) (index_2 t).1).trans (show t.val * 256 + r.val = 256 * t.val + r.val by omega)))
    (((cfg0.win 2).rect_emb_val t (ix2 r k) 1).trans ((congrArg (· * 1024 + k.val) (index_2 t).2).trans (show 0 * 1024 + k.val = k.val by omega)))).trans
    (congrArg (fun X : S4096x1024.Idx → EReal => rd X _ _) (V_main_arg2 m c))

theorem iblk_3 (r : Fin 1) (k : Fin 1024) : iblk m c 3 t (ix2 r k) = rd (aG m c) r.val k.val :=
  (rd_of_emb (V m c main_arg3) (((cfg0.win 3).rect t).emb (ix2 r k))
    (((cfg0.win 3).rect_emb_val t (ix2 r k) 0).trans ((congrArg (· * 1 + r.val) (index_3 t).1).trans (show 0 * 1 + r.val = r.val by omega)))
    (((cfg0.win 3).rect_emb_val t (ix2 r k) 1).trans ((congrArg (· * 1024 + k.val) (index_3 t).2).trans (show 0 * 1024 + k.val = k.val by omega)))).trans
    (congrArg (fun X : S1x1024.Idx → EReal => rd X _ _) (V_main_arg3 m c))

theorem iblk_4 (r : Fin 256) (k : Fin 1024) : iblk m c 4 t (ix2 r k) = rd (aY m c) (256 * t.val + r.val) k.val :=
  (rd_of_emb (V m c main_arg4) (((cfg0.win 4).rect t).emb (ix2 r k))
    (((cfg0.win 4).rect_emb_val t (ix2 r k) 0).trans ((congrArg (· * 256 + r.val) (index_4 t).1).trans (show t.val * 256 + r.val = 256 * t.val + r.val by omega)))
    (((cfg0.win 4).rect_emb_val t (ix2 r k) 1).trans ((congrArg (· * 1024 + k.val) (index_4 t).2).trans (show 0 * 1024 + k.val = k.val by omega)))).trans
    (congrArg (fun X : S4096x1024.Idx → EReal => rd X _ _) (V_main_arg4 m c))

/-! ## What a point leaves in its windows -/

private theorem hz2 : (![0, 0] : Fin 2 → Nat) = fun _ => 0 := by decide

theorem left6 : (outsAt0 m c t.val t.isLt).2.1 = k0_pay1 (k0_pay8 (iblk m c 2 t) (iblk m c 0 t) (iblk m c 1 t)) (k0_pay13 (iblk m c 2 t) (iblk m c 0 t) (iblk m c 1 t) (iblk m c 3 t) (iblk m c 4 t)) := by
  by_cases h0 : t.val % 16 = 0
  · rw [outsAt0_A m c t h0]
    dsimp only
    unfold out0_A_6
    rw [View.read_writes_eq_canon _ _ _ (cover0_A_6 c _ _ _ _ _ _ _ _ _ _ _ _ _ _ _ _ _ _ _ _ _ _ _ _ _)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, View.ld_unit_zero (S := S256x1024) hz2, View.ld_unit_zero (S := S1x1024) hz2, View.ld_unit_zero (S := S256x2816) hz2, View.ld_unit_zero (S := S2816x1024) hz2]
  · rw [outsAt0_B m c t h0]
    dsimp only
    unfold out0_B_6
    rw [View.read_writes_eq_canon _ _ _ (cover0_B_6 c _ _ _ _ _ _ _ _ _ _ _ _ _ _ _ _ _ _ _ _ _ _ _ _ _ _ _)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, View.ld_unit_zero (S := S256x1024) hz2, View.ld_unit_zero (S := S1x1024) hz2, View.ld_unit_zero (S := S256x2816) hz2, View.ld_unit_zero (S := S2816x1024) hz2]

theorem left7 : (outsAt0 m c t.val t.isLt).2.2.1 = k0_pay2 (k0_pay8 (iblk m c 2 t) (iblk m c 0 t) (iblk m c 1 t)) (k0_pay13 (iblk m c 2 t) (iblk m c 0 t) (iblk m c 1 t) (iblk m c 3 t) (iblk m c 4 t)) := by
  by_cases h0 : t.val % 16 = 0
  · rw [outsAt0_A m c t h0]
    dsimp only
    unfold out0_A_7
    rw [View.read_writes_eq_canon _ _ _ (cover0_A_7 c _ _ _ _ _ _ _ _ _ _ _ _ _ _ _ _ _ _ _ _ _ _ _ _ _)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, View.ld_unit_zero (S := S256x1024) hz2, View.ld_unit_zero (S := S1x1024) hz2, View.ld_unit_zero (S := S256x2816) hz2, View.ld_unit_zero (S := S2816x1024) hz2]
  · rw [outsAt0_B m c t h0]
    dsimp only
    unfold out0_B_7
    rw [View.read_writes_eq_canon _ _ _ (cover0_B_7 c _ _ _ _ _ _ _ _ _ _ _ _ _ _ _ _ _ _ _ _ _ _ _ _ _ _ _)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, View.ld_unit_zero (S := S256x1024) hz2, View.ld_unit_zero (S := S1x1024) hz2, View.ld_unit_zero (S := S256x2816) hz2, View.ld_unit_zero (S := S2816x1024) hz2]

theorem left5_first (h0 : t.val % 16 = 0) : (outsAt0 m c t.val t.isLt).1
    = k0_pay6 (k0_pay11 (iblk m c 2 t) (iblk m c 0 t) (iblk m c 1 t) (iblk m c 3 t) (iblk m c 4 t)) (k0_pay4 (F := Ideal)) := by
  rw [outsAt0_A m c t h0]
  dsimp only
  unfold out0_A_5
  rw [View.read_writes_eq_canon _ _ _ (cover0_A_5 c _ _ _ _ _ _ _ _ _ _ _ _ _ _ _ _ _ _ _ _ _ _ _ _ _)]
  unfold kernelRun0_A
  dsimp only
  sl_unfold_words
  rw [View.canon_cons_unit_zero hz2]
  simp only [View.readAt_eq_ld, (hs0_0 t).read_unread, (hs0_1 t).read_unread, (hs0_2 t).read_unread, (hs0_3 t).read_unread, (hs0_4 t).read_unread, View.ld_unit_zero (S := S256x1024) hz2, View.ld_unit_zero (S := S1x1024) hz2, View.ld_unit_zero (S := S256x2816) hz2, View.ld_unit_zero (S := S2816x1024) hz2, View.readCov_unit_zero (S := S1x1) _ hz2]

theorem left5_next (h0 : ¬ t.val % 16 = 0) : (outsAt0 m c t.val t.isLt).1
    = k0_pay6 (k0_pay11 (iblk m c 2 t) (iblk m c 0 t) (iblk m c 1 t) (iblk m c 3 t) (iblk m c 4 t)) (outsAt0 m c (t.val - 1) (Nat.lt_of_le_of_lt (Nat.sub_le _ _) t.isLt)).1 := by
  rw [outsAt0_B m c t h0]
  dsimp only
  unfold out0_B_5
  rw [View.read_writes_eq_canon _ _ _ (cover0_B_5 c _ _ _ _ _ _ _ _ _ _ _ _ _ _ _ _ _ _ _ _ _ _ _ _ _ _ _)]
  unfold kernelRun0_B
  dsimp only
  sl_unfold_words
  rw [View.canon_unit_zero hz2]
  simp only [View.readAt_eq_ld, (hs0_0 t).read_unread, (hs0_1 t).read_unread, (hs0_2 t).read_unread, (hs0_3 t).read_unread, (hs0_4 t).read_unread, View.ld_unit_zero (S := S256x1024) hz2, View.ld_unit_zero (S := S1x1024) hz2, View.ld_unit_zero (S := S256x2816) hz2, View.ld_unit_zero (S := S2816x1024) hz2, (hs0_5 t).read_unread, View.ld_unit_zero (S := S1x1) hz2]

theorem left8_first (h0 : t.val % 16 = 0) : (outsAt0 m c t.val t.isLt).2.2.2
    = k0_pay5 (k0_pay9 (iblk m c 2 t) (iblk m c 0 t) (iblk m c 1 t)) (k0_pay12 (iblk m c 2 t) (iblk m c 0 t) (iblk m c 1 t) (iblk m c 3 t) (iblk m c 4 t)) (k0_pay3 (F := Ideal)) := by
  rw [outsAt0_A m c t h0]
  dsimp only
  unfold out0_A_8
  rw [View.read_writes_eq_canon _ _ _ (cover0_A_8 c _ _ _ _ _ _ _ _ _ _ _ _ _ _ _ _ _ _ _ _ _ _ _ _ _)]
  unfold kernelRun0_A
  dsimp only
  sl_unfold_words
  rw [View.canon_cons_unit_zero hz2]
  simp only [View.readAt_eq_ld, (hs0_0 t).read_unread, (hs0_1 t).read_unread, (hs0_2 t).read_unread, (hs0_3 t).read_unread, (hs0_4 t).read_unread, View.ld_unit_zero (S := S256x1024) hz2, View.ld_unit_zero (S := S1x1024) hz2, View.ld_unit_zero (S := S256x2816) hz2, View.ld_unit_zero (S := S2816x1024) hz2, View.readCov_unit_zero (S := S1x1024) _ hz2]

theorem left8_next (h0 : ¬ t.val % 16 = 0) : (outsAt0 m c t.val t.isLt).2.2.2
    = k0_pay5 (k0_pay9 (iblk m c 2 t) (iblk m c 0 t) (iblk m c 1 t)) (k0_pay12 (iblk m c 2 t) (iblk m c 0 t) (iblk m c 1 t) (iblk m c 3 t) (iblk m c 4 t)) (outsAt0 m c (t.val - 1) (Nat.lt_of_le_of_lt (Nat.sub_le _ _) t.isLt)).2.2.2 := by
  rw [outsAt0_B m c t h0]
  dsimp only
  unfold out0_B_8
  rw [View.read_writes_eq_canon _ _ _ (cover0_B_8 c _ _ _ _ _ _ _ _ _ _ _ _ _ _ _ _ _ _ _ _ _ _ _ _ _ _ _)]
  unfold kernelRun0_B
  dsimp only
  sl_unfold_words
  rw [View.canon_unit_zero hz2]
  simp only [View.readAt_eq_ld, (hs0_0 t).read_unread, (hs0_1 t).read_unread, (hs0_2 t).read_unread, (hs0_3 t).read_unread, (hs0_4 t).read_unread, View.ld_unit_zero (S := S256x1024) hz2, View.ld_unit_zero (S := S1x1024) hz2, View.ld_unit_zero (S := S256x2816) hz2, View.ld_unit_zero (S := S2816x1024) hz2, (hs0_8 t).read_unread, View.ld_unit_zero (S := S1x1) hz2]

/-! ## Those values, in the argument arrays -/

/-- Entry `(r, k)` of the stream after the down projection. -/
def xv (r k : Nat) : EReal := rd (aX m c) r k + ∑ q : Fin 2816, rd (aA m c) r q.val * rd (aW m c) q.val k

/-- The reciprocal root of row `r`. -/
def rv (r : Nat) : EReal := ri cN cE (fun j : Fin 1024 => xv m c r j.val)

/-- Entry `(r, k)` of the error. -/
def ev (r k : Nat) : EReal := xv m c r k * rv m c r * rd (aG m c) 0 k - rd (aY m c) r k

/-- Entry `(r, k)` of the gradient of the stream. -/
def gx (r k : Nat) : EReal :=
  dxK cN cE (fun j : Fin 1024 => xv m c r j.val) (fun j : Fin 1024 => ev m c r j.val * cI * rd (aG m c) 0 j.val) ⟨k % 1024, Nat.mod_lt _ (by decide)⟩

/-- The term row `r` adds to entry `k` of the gain's gradient. -/
def gterm (k r : Nat) : EReal := ev m c r k * cI * (xv m c r k * rv m c r)

/-- The squared error of row `r`. -/
def sq (r : Nat) : EReal := ∑ k : Fin 1024, ev m c r k.val * ev m c r k.val

theorem xb_eq (r : Fin 256) (k : Fin 1024) : xb (iblk m c 2 t) (iblk m c 0 t) (iblk m c 1 t) r k = xv m c (256 * t.val + r.val) k.val := by
  unfold xb
  simp only [iblk_0, iblk_1, iblk_2]
  rfl

theorem row_eq (r : Fin 256) : xb (iblk m c 2 t) (iblk m c 0 t) (iblk m c 1 t) r = fun j : Fin 1024 => xv m c (256 * t.val + r.val) j.val :=
  funext (xb_eq m c t r)

theorem eb_eq (r : Fin 256) (k : Fin 1024) :
    eb (iblk m c 2 t) (iblk m c 0 t) (iblk m c 1 t) (iblk m c 3 t) (iblk m c 4 t) r k = ev m c (256 * t.val + r.val) k.val := by
  unfold eb
  simp only [row_eq, iblk_3, iblk_4]
  rfl

theorem out6 (r : Fin 256) (k : Fin 1024) : (outsAt0 m c t.val t.isLt).2.1 (ix2 r k) = gx m c (256 * t.val + r.val) k.val := by
  rw [left6, pay13_eq]
  simp only [row_eq, eb_eq, iblk_3]
  unfold gx
  have e : (⟨k.val % 1024, Nat.mod_lt _ (by decide)⟩ : Fin 1024) = k := Fin.ext (Nat.mod_eq_of_lt k.isLt)
  rw [e]
  rfl

theorem out7 (r : Fin 256) (k : Fin 1024) : (outsAt0 m c t.val t.isLt).2.2.1 (ix2 r k) = gx m c (256 * t.val + r.val) k.val := by
  rw [left7, ← out6 m c t r k, left6]
  rfl

/-- After point `n` the gain's gradient holds the terms of the rows below `256 * (n + 1)`. -/
theorem out8 : ∀ (n : Nat) (hn : n < cfg0.N) (k : Fin 1024),
    (outsAt0 m c n hn).2.2.2 (ix2 (0 : Fin 1) k) = ∑ b : Fin (n + 1), ∑ r : Fin 256, gterm m c k.val (256 * b.val + r.val) := by
  intro n
  induction n with
  | zero =>
    intro hn k
    refine (congrFun (left8_first m c ⟨0, hn⟩ rfl) _).trans ?_
    rw [pay5_eq]
    simp only [row_eq, eb_eq]
    rw [Fin.sum_univ_one]
    refine (congrArg₂ (· + ·) (show k0_pay3 (F := Ideal) (ix2 (0 : Fin 1) k) = 0 from ?_) rfl).trans (zero_add _)
    unfold k0_pay3
    pointwise
  | succ n ih =>
    intro hn k
    have hN : cfg0.N = 16 := N_0
    refine (congrFun (left8_next m c ⟨n + 1, hn⟩ (show ¬ (n + 1) % 16 = 0 by omega)) _).trans ?_
    rw [pay5_eq]
    simp only [row_eq, eb_eq]
    rw [Fin.sum_univ_castSucc (n := n + 1)]
    exact congrArg₂ (· + ·) (ih (Nat.lt_of_succ_lt hn) k) rfl

/-- After point `n` the loss holds the scaled squared errors of the rows below `256 * (n + 1)`. -/
theorem out5 : ∀ (n : Nat) (hn : n < cfg0.N),
    (outsAt0 m c n hn).1 (ix2 (0 : Fin 1) (0 : Fin 1)) = ∑ b : Fin (n + 1), (∑ r : Fin 256, sq m c (256 * b.val + r.val)) * cL := by
  intro n
  induction n with
  | zero =>
    intro hn
    refine (congrFun (left5_first m c ⟨0, hn⟩ rfl) _).trans ?_
    rw [pay6_eq]
    simp only [eb_eq]
    rw [Fin.sum_univ_one]
    refine (congrArg₂ (· + ·) (show k0_pay4 (F := Ideal) (ix2 (0 : Fin 1) (0 : Fin 1)) = 0 from ?_) rfl).trans (zero_add _)
    unfold k0_pay4
    pointwise
  | succ n ih =>
    intro hn
    have hN : cfg0.N = 16 := N_0
    refine (congrFun (left5_next m c ⟨n + 1, hn⟩ (show ¬ (n + 1) % 16 = 0 by omega)) _).trans ?_
    rw [pay6_eq]
    simp only [eb_eq]
    rw [Fin.sum_univ_castSucc (n := n + 1)]
    exact congrArg₂ (· + ·) (ih (Nat.lt_of_succ_lt hn)) rfl

end Cert.LossHead

end
-- ==== Proof.LossHead.Array.lean ====
/- What the loss head leaves in its four results. -/
module

public import proofs.«01_k».proof.Proof.LossHead.Block
public import Idealize.ShloMosaic.Lib.Pipeline.Value

@[expose] public section

noncomputable section

namespace Cert.LossHead

open Idealize.ShloMosaic Idealize.ShloMosaic.TcCoe Idealize.ShloMosaic.Pipeline Idealize.SL.Sem
open Cert.Kernel6Ideal Cert.Kernel6Ideal.Gen Cert.Rows

variable (m : (ℓ : Loc nD τ sig) → Buf (Elt Ideal) ℓ) (c : Dev nD) (ρ : Dev nD → PrngReg)

/-- The gradient of the norm's input . -/
def GX (i : S4096x1024.Idx) : EReal := gx m c (i 0).val (i 1).val

/-- The gradient of the norm's gain. -/
def GG (i : S1x1024.Idx) : EReal := ∑ r : Fin 4096, gterm m c (i 1).val r.val

theorem flushed6 (t : Fin cfg0.N) : (dats m 0 c).flushed 6 t = (win0_6.blk t).view.read (Elt Ideal) (GX m c) := by
  funext y
  obtain ⟨r, k, rfl⟩ : ∃ (r : Fin 256) (k : Fin 1024), y = ix2 r k := ⟨y 0, y 1, ValueIdx.eq_ix2 y⟩
  refine ((congrFun (after0_6 m c t) (ix2 r k)).trans (out6 m c t r k)).trans ?_
  show _ = GX m c ((win0_6.rect t).emb (ix2 r k))
  obtain ⟨e0, e1⟩ := index_6 t
  have i0 := (win0_6.rect_emb_val t (ix2 r k) 0).trans (congrArg (· * 256 + r.val) e0)
  have i1 := (win0_6.rect_emb_val t (ix2 r k) 1).trans (congrArg (· * 1024 + k.val) e1)
  refine congrArg₂ (gx m c) ?_ ?_
  · rw [i0]; omega
  · rw [i1]; omega

theorem flushed7 (t : Fin cfg0.N) : (dats m 0 c).flushed 7 t = (win0_7.blk t).view.read (Elt Ideal) (GX m c) := by
  funext y
  obtain ⟨r, k, rfl⟩ : ∃ (r : Fin 256) (k : Fin 1024), y = ix2 r k := ⟨y 0, y 1, ValueIdx.eq_ix2 y⟩
  refine ((congrFun (after0_7 m c t) (ix2 r k)).trans (out7 m c t r k)).trans ?_
  show _ = GX m c ((win0_7.rect t).emb (ix2 r k))
  obtain ⟨e0, e1⟩ := index_7 t
  have i0 := (win0_7.rect_emb_val t (ix2 r k) 0).trans (congrArg (· * 256 + r.val) e0)
  have i1 := (win0_7.rect_emb_val t (ix2 r k) 1).trans (congrArg (· * 1024 + k.val) e1)
  refine congrArg₂ (gx m c) ?_ ?_
  · rw [i0]; omega
  · rw [i1]; omega

theorem gain_congr {k : Nat} {i : S1x1024.Idx} (h : (i 1).val = k) : ∑ r : Fin 4096, gterm m c k r.val = GG m c i := by
  unfold GG
  rw [h]

theorem flushed8 (t : Fin cfg0.N) (hf : (cfg0.win 8).flush t = true) : (dats m 0 c).flushed 8 t = (win0_8.blk t).view.read (Elt Ideal) (GG m c) := by
  have h16 : t.val + 1 = 16 := by
    have h := (flush0_8 t).mp hf
    have hN : t.val < 16 := lt_of_lt_of_eq t.isLt N_0
    omega
  funext y
  obtain ⟨r, k, rfl⟩ : ∃ (r : Fin 1) (k : Fin 1024), y = ix2 r k := ⟨y 0, y 1, ValueIdx.eq_ix2 y⟩
  obtain rfl : r = 0 := Subsingleton.elim _ _
  refine ((congrFun (after0_8 m c t) (ix2 (0 : Fin 1) k)).trans (out8 m c t.val t.isLt k)).trans ?_
  rw [h16]
  refine (sum_blocks 16 256 (gterm m c k.val)).trans ?_
  obtain ⟨-, e1⟩ := index_8 t
  have i1 := (win0_8.rect_emb_val t (ix2 (0 : Fin 1) k) 1).trans (congrArg (· * 1024 + k.val) e1)
  exact gain_congr m c (i := (win0_8.rect t).emb (ix2 (0 : Fin 1) k)) (i1.trans (by omega))

/-- The loss. -/
def Loss (_ : S1x1.Idx) : EReal := (∑ r : Fin 4096, sq m c r.val) * cL

theorem cL_eq : cL = ((1 / 2048 : ℝ) : EReal) := by
  simp [Ideal.ofBits, Ideal.ieee, -EReal.coe_mul]; norm_num

theorem flushed5 (t : Fin cfg0.N) (hf : (cfg0.win 5).flush t = true) : (dats m 0 c).flushed 5 t = (win0_5.blk t).view.read (Elt Ideal) (Loss m c) := by
  have h16 : t.val + 1 = 16 := by
    have h := (flush0_5 t).mp hf
    have hN : t.val < 16 := lt_of_lt_of_eq t.isLt N_0
    omega
  funext y
  obtain ⟨r, k, rfl⟩ : ∃ (r : Fin 1) (k : Fin 1), y = ix2 r k := ⟨y 0, y 1, ValueIdx.eq_ix2 y⟩
  obtain rfl : r = 0 := Subsingleton.elim _ _
  obtain rfl : k = 0 := Subsingleton.elim _ _
  refine ((congrFun (after0_5 m c t) (ix2 (0 : Fin 1) (0 : Fin 1))).trans (out5 m c t.val t.isLt)).trans ?_
  rw [h16]
  show _ = (∑ r : Fin 4096, sq m c r.val) * cL
  rw [← sum_blocks 16 256 (sq m c), cL_eq, Cert.NormBwd.sum_mul_real _ _ (by norm_num)]

/-! ## The arrays after the run -/

theorem point (a : Nat) (ha : a < 16) : ∃ t : Fin cfg0.N, t.val = a := ⟨⟨a, by rw [show cfg0.N = 16 from N_0]; exact ha⟩, rfl⟩

theorem cover5 (i : S1x1.Idx) : ∃ t : Fin cfg0.N, (cfg0.win 5).flush t = true ∧ i ∈ ((cfg0.win 5).blk t).view.set := by
  have h0 : (i 0).val < 1 := (i 0).isLt
  have h1 : (i 1).val < 1 := (i 1).isLt
  obtain ⟨t, ha⟩ := point 15 (by omega)
  obtain ⟨e0, e1⟩ := index_5 t
  refine ⟨t, (flush0_5 t).mpr (by omega), ?_⟩
  show i ∈ ((View.whole main_v0_0).slice (win0_5.rect t)).set
  rw [View.set_slice_whole, Rect.mem_set_unit]
  intro a
  fin_cases a
  · show (cfg0.win 5).index t 0 * 1 ≤ (i 0).val ∧ (i 0).val < (cfg0.win 5).index t 0 * 1 + 1
    rw [e0]; omega
  · show (cfg0.win 5).index t 1 * 1 ≤ (i 1).val ∧ (i 1).val < (cfg0.win 5).index t 1 * 1 + 1
    rw [e1]; omega

theorem cover6 (i : S4096x1024.Idx) : ∃ t : Fin cfg0.N, (cfg0.win 6).flush t = true ∧ i ∈ ((cfg0.win 6).blk t).view.set := by
  have h0 : (i 0).val < 4096 := (i 0).isLt
  have h1 : (i 1).val < 1024 := (i 1).isLt
  obtain ⟨t, ha⟩ := point ((i 0).val / 256) (by omega)
  obtain ⟨e0, e1⟩ := index_6 t
  refine ⟨t, flush0_6 t, ?_⟩
  show i ∈ ((View.whole main_v0_1).slice (win0_6.rect t)).set
  rw [View.set_slice_whole, Rect.mem_set_unit]
  intro a
  fin_cases a
  · show (cfg0.win 6).index t 0 * 256 ≤ (i 0).val ∧ (i 0).val < (cfg0.win 6).index t 0 * 256 + 256
    rw [e0]; omega
  · show (cfg0.win 6).index t 1 * 1024 ≤ (i 1).val ∧ (i 1).val < (cfg0.win 6).index t 1 * 1024 + 1024
    rw [e1]; omega

theorem cover7 (i : S4096x1024.Idx) : ∃ t : Fin cfg0.N, (cfg0.win 7).flush t = true ∧ i ∈ ((cfg0.win 7).blk t).view.set := by
  have h0 : (i 0).val < 4096 := (i 0).isLt
  have h1 : (i 1).val < 1024 := (i 1).isLt
  obtain ⟨t, ha⟩ := point ((i 0).val / 256) (by omega)
  obtain ⟨e0, e1⟩ := index_7 t
  refine ⟨t, flush0_7 t, ?_⟩
  show i ∈ ((View.whole main_v0_2).slice (win0_7.rect t)).set
  rw [View.set_slice_whole, Rect.mem_set_unit]
  intro a
  fin_cases a
  · show (cfg0.win 7).index t 0 * 256 ≤ (i 0).val ∧ (i 0).val < (cfg0.win 7).index t 0 * 256 + 256
    rw [e0]; omega
  · show (cfg0.win 7).index t 1 * 1024 ≤ (i 1).val ∧ (i 1).val < (cfg0.win 7).index t 1 * 1024 + 1024
    rw [e1]; omega

theorem cover8 (i : S1x1024.Idx) : ∃ t : Fin cfg0.N, (cfg0.win 8).flush t = true ∧ i ∈ ((cfg0.win 8).blk t).view.set := by
  have h0 : (i 0).val < 1 := (i 0).isLt
  have h1 : (i 1).val < 1024 := (i 1).isLt
  obtain ⟨t, ha⟩ := point 15 (by omega)
  obtain ⟨e0, e1⟩ := index_8 t
  refine ⟨t, (flush0_8 t).mpr (by omega), ?_⟩
  show i ∈ ((View.whole main_v0_3).slice (win0_8.rect t)).set
  rw [View.set_slice_whole, Rect.mem_set_unit]
  intro a
  fin_cases a
  · show (cfg0.win 8).index t 0 * 1 ≤ (i 0).val ∧ (i 0).val < (cfg0.win 8).index t 0 * 1 + 1
    rw [e0]; omega
  · show (cfg0.win 8).index t 1 * 1024 ≤ (i 1).val ∧ (i 1).val < (cfg0.win 8).index t 1 * 1024 + 1024
    rw [e1]; omega

/-- The loss, after the run. -/
theorem final5 : (dats m 0 c).arrAt 5 cfg0.N = Loss m c :=
  (dats m 0 c).arrAt_eq_of_cover 5 (Loss m c) (fun t hf => flushed5 m c t hf) cover5

/-- The gradient of the norm's input, after the run. -/
theorem final6 : (dats m 0 c).arrAt 6 cfg0.N = GX m c :=
  (dats m 0 c).arrAt_eq_of_cover 6 (GX m c) (fun t _ => flushed6 m c t) cover6

/-- Its rounded copy, after the run. -/
theorem final7 : (dats m 0 c).arrAt 7 cfg0.N = GX m c :=
  (dats m 0 c).arrAt_eq_of_cover 7 (GX m c) (fun t _ => flushed7 m c t) cover7

/-- The gradient of the gain, after the run. -/
theorem final8 : (dats m 0 c).arrAt 8 cfg0.N = GG m c :=
  (dats m 0 c).arrAt_eq_of_cover 8 (GG m c) (fun t hf => flushed8 m c t hf) cover8

/-- The run: the four results at the closed form, the arguments unchanged. -/
theorem run : θ_run defs (onTc (τ := τ) (main (F := Ideal))) ⟨m, fun _ => 0, ρ⟩ fun r => ∀ c : Dev nD,
      r.2.mem ((c : Thread nD τ).loc main_v0_0) = Loss m c
      ∧ r.2.mem ((c : Thread nD τ).loc main_v0_1) = GX m c
      ∧ r.2.mem ((c : Thread nD τ).loc main_v0_2) = GX m c
      ∧ r.2.mem ((c : Thread nD τ).loc main_v0_3) = GG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2.1.trans (final7 m c), (h c).2.2.2.1.trans (final8 m c), (h c).2.2.2.2⟩)
    (Cert.Kernel6Ideal.Value.run_blocks m ρ)

end Cert.LossHead

end
-- ==== Proof.LossHead.Reference.lean ====
/- The loss and its gradients, as the reference computes them, read at an index. -/
module

public import proofs.«01_k».proof.Proof.NormBwd.Math
public import proofs.«01_k».proof.Proof.Gen.Reference6Ideal.Read

@[expose] public section

noncomputable section

namespace Cert.LossHead.Ref

open Idealize.ShloMosaic Cert.Reference6Ideal Cert.Reference6Ideal.Gen Cert.Reference6Ideal.Read Cert.Rows Cert.NormBwd

variable (A : S4096x2816.Idx → EReal) (W : S2816x1024.Idx → EReal) (X : S4096x1024.Idx → EReal) (G : S1x1024.Idx → EReal)
  (Y : S4096x1024.Idx → EReal)

abbrev cN : EReal := Ideal.ofBits .f32 0x44800000#32
abbrev cE : EReal := Ideal.ofBits .f32 0x358637BD#32
abbrev cH : EReal := Ideal.ofBits .f32 0xBF000000#32
abbrev cHalf : EReal := Ideal.ofBits .f32 0x3F000000#32
abbrev cTwo : EReal := Ideal.ofBits .f32 0x40000000#32

/-- The stream after the down projection. -/
def xr (r : Fin 4096) (j : Fin 1024) : EReal := X (ix2 r j) + ∑ q : Fin 2816, A (ix2 r q) * W (ix2 q j)

/-- The error of the normalised stream. -/
def er (r : Fin 4096) (j : Fin 1024) : EReal := xr A W X r j * ri cN cE (xr A W X r) * G (ix2 0 j) - Y (ix2 r j)

/-- The cotangent of the norm's output. -/
def dy (r : Fin 4096) (j : Fin 1024) : EReal := Ideal.div cHalf cN * (cTwo * er A W X G Y r j)

theorem x_eq (r : Fin 4096) (j : Fin 1024) : val_main_v3 (F := Ideal) A W X (ix2 r j) = xr A W X r j := by
  unfold val_main_v3 val_main_v2 val_main_v1 val_main_v0
  pointwise
  rfl

theorem ms_eq (r : Fin 4096) (c : Fin 1) : val_main_v10 (F := Ideal) A W X (ix2 r c) = ms cN cE (xr A W X r) := by
  unfold val_main_v10 val_main_v9 val_main_v8 val_main_v7 val_main_v6 val_main_v5 val_main_v4 val_main_cst val_main_cst_0 val_main_cst_1
  pointwise
  simp only [x_eq]
  rfl

theorem er_eq (r : Fin 4096) (j : Fin 1024) : val_main_v19 (F := Ideal) A W X G Y (ix2 r j) = er A W X G Y r j := by
  unfold val_main_v19 val_main_v18 val_main_v17 val_main_v16 val_main_v15 val_main_v11
  pointwise
  simp only [x_eq, ms_eq]
  rfl

theorem dy_eq (r : Fin 4096) (j : Fin 1024) : val_main_v33 (F := Ideal) A W X G Y (ix2 r j) = dy A W X G Y r j := by
  unfold val_main_v33 val_main_v32 val_main_v31 val_main_v30 val_main_v29 val_main_v28 val_main_v22 val_main_v21 val_main_cst_3 val_main_cst_8 val_main_cst_9 val_main_cst_10
  pointwise
  simp only [er_eq]
  rfl

theorem back_eq (r : Fin 4096) (c : Fin 1024) :
    val_main_v48 (F := Ideal) A W X G Y (ix2 r c) = back cN cE cH (xr A W X r) (fun j => dy A W X G Y r j * G (ix2 0 j)) := by
  unfold val_main_v48 val_main_v47 val_main_v46 val_main_v45 val_main_v44 val_main_v41 val_main_v40 val_main_v39 val_main_v38 val_main_v37 val_main_v14 val_main_v13 val_main_v12 val_main_v11 val_main_cst_2 val_main_cst_12 val_main_cst_13 val_main_cst_14
  pointwise
  simp only [x_eq, ms_eq, dy_eq]
  exact Fin.sum_univ_one _

theorem dx_eq (r : Fin 4096) (c : Fin 1024) :
    val_main_v52 (F := Ideal) A W X G Y (ix2 r c)
      = dxR cN cE cH (xr A W X r) (fun j => dy A W X G Y r j * G (ix2 0 j)) c := by
  unfold val_main_v52 val_main_v51 val_main_v50 val_main_v49 val_main_v43 val_main_v42 val_main_v38 val_main_v37 val_main_v11
  pointwise
  simp only [x_eq, ms_eq, dy_eq, back_eq]
  rfl

theorem dg_eq (r : Fin 1) (c : Fin 1024) :
    val_main_v36 (F := Ideal) A W X G Y (ix2 r c) = ∑ i : Fin 4096, xr A W X i c * ri cN cE (xr A W X i) * dy A W X G Y i c := by
  unfold val_main_v36 val_main_v35 val_main_v34 val_main_v16 val_main_v15 val_main_v11 val_main_cst_11
  pointwise
  simp only [x_eq, ms_eq, dy_eq]
  rfl

theorem row_eq (r : Fin 4096) : val_main_v25 (F := Ideal) A W X G Y (ValueIdx.ix1 r) = Ideal.div (∑ k : Fin 1024, er A W X G Y r k * er A W X G Y r k) cN := by
  unfold val_main_v25 val_main_v24 val_main_v23 val_main_v20 val_main_cst_4 val_main_cst_5
  pointwise
  simp only [er_eq]

/-- An index of one axis is its coordinate. -/
def e1 : Fin 4096 ≃ S4096.Idx := ⟨fun r => ValueIdx.ix1 r, fun i => i 0, fun _ => rfl, fun i => (ValueIdx.eq_ix1 i).symm⟩

theorem loss_eq (i j : Fin 1) : val_main_v53 (F := Ideal) A W X G Y (ix2 i j)
    = cHalf * ∑ r : Fin 4096, Ideal.div (∑ k : Fin 1024, er A W X G Y r k * er A W X G Y r k) cN := by
  show val_main_v27 (F := Ideal) A W X G Y _ = _
  rw [val_main_v27_apply, val_main_v26_apply]
  refine congrArg (cHalf * ·) ?_
  refine (congrArg₂ (· + ·) (show val_main_cst_6 (F := Ideal) (Shape.Idx.first h_S_) = (0 : EReal) from Ideal.ofBits_zero_f32) rfl).trans ((zero_add _).trans ?_)
  rw [← Equiv.sum_comp e1]
  exact Finset.sum_congr rfl fun r _ => row_eq A W X G Y r

end Cert.LossHead.Ref

end
-- ==== Proof.LossHead.Equal.lean ====
/- The loss head against the loss and its derivative: the same four arrays. -/
module

public import proofs.«01_k».proof.Proof.LossHead.Array
public import proofs.«01_k».proof.Proof.LossHead.Reference

@[expose] public section

noncomputable section

namespace Cert.LossHead

open Idealize.ShloMosaic Idealize.ShloMosaic.TcCoe Cert.Rows Cert.NormBwd

open Cert.Kernel6Ideal

variable (m : (ℓ : Loc nD τ sig) → Buf (Elt Ideal) ℓ) (c : Dev nD)

theorem cI_eq : cI = ((1 / 1024 : ℝ) : EReal) := by
  simp [Ideal.ofBits, Ideal.ieee, -EReal.coe_mul]; norm_num

theorem half_eq : Ref.cHalf = ((1 / 2 : ℝ) : EReal) := by
  simp [Ideal.ofBits, Ideal.ieee, -EReal.coe_mul]; norm_num

theorem two_eq : Ref.cTwo = ((2 : ℝ) : EReal) := by
  simp [Ideal.ofBits, Ideal.ieee, -EReal.coe_mul]; norm_num

/-- The derivative of half the mean of a square, on all extended real numbers. -/
theorem scale_eq (e : EReal) : Ideal.div Ref.cHalf Ref.cN * (Ref.cTwo * e) = e * cI := by
  rw [half_eq, two_eq, cI_eq, show Ref.cN = ((1024 : ℝ) : EReal) from bits_1024, div_coe _ (by norm_num), ← mul_assoc, ← EReal.coe_mul, mul_comm]
  refine congrArg (fun q : ℝ => e * (q : EReal)) ?_
  norm_num

theorem xv_eq (r : Fin 4096) (k : Fin 1024) : xv m c r.val k.val = Ref.xr (aA m c) (aW m c) (aX m c) r k := by
  unfold xv Ref.xr
  simp only [← eq_rd]

theorem row_xv (r : Fin 4096) : (fun j : Fin 1024 => xv m c r.val j.val) = Ref.xr (aA m c) (aW m c) (aX m c) r :=
  funext (xv_eq m c r)

theorem rv_eq (r : Fin 4096) : rv m c r.val = ri cN cE (Ref.xr (aA m c) (aW m c) (aX m c) r) := by
  unfold rv
  rw [row_xv]

theorem ev_eq (r : Fin 4096) (k : Fin 1024) : ev m c r.val k.val = Ref.er (aA m c) (aW m c) (aX m c) (aG m c) (aY m c) r k := by
  unfold ev Ref.er
  rw [xv_eq, rv_eq]
  exact congrArg₂ (fun g y => Ref.xr (aA m c) (aW m c) (aX m c) r k * ri cN cE (Ref.xr (aA m c) (aW m c) (aX m c) r) * g - y) (eq_rd (aG m c) 0 k).symm (eq_rd (aY m c) r k).symm

/-- The loss. -/
theorem Loss_eq (i : S1x1.Idx) : Loss m c i
    = Ref.cHalf * ∑ r : Fin 4096, Ideal.div (∑ k : Fin 1024, Ref.er (aA m c) (aW m c) (aX m c) (aG m c) (aY m c) r k * Ref.er (aA m c) (aW m c) (aX m c) (aG m c) (aY m c) r k) Ref.cN := by
  have h : ∀ r : Fin 4096, sq m c r.val = ∑ k : Fin 1024, Ref.er (aA m c) (aW m c) (aX m c) (aG m c) (aY m c) r k * Ref.er (aA m c) (aW m c) (aX m c) (aG m c) (aY m c) r k := by
    intro r
    unfold sq
    simp only [ev_eq]
  unfold Loss
  simp only [h]
  rw [half_eq, show Ref.cN = ((1024 : ℝ) : EReal) from bits_1024, cL_eq]
  simp only [div_pos_real _ (show (0 : ℝ) < 1024 by norm_num)]
  rw [← sum_mul_real _ _ (by norm_num), mul_comm ((1 / 2 : ℝ) : EReal), mul_assoc, ← EReal.coe_mul]
  refine congrArg (fun q : ℝ => _ * (q : EReal)) ?_
  norm_num

/-- The gradient of the stream. -/
theorem GX_eq (r : Fin 4096) (k : Fin 1024) :
    GX m c (ix2 r k) = dxR Ref.cN Ref.cE Ref.cH (Ref.xr (aA m c) (aW m c) (aX m c) r) (fun j => Ref.dy (aA m c) (aW m c) (aX m c) (aG m c) (aY m c) r j * aG m c (ix2 0 j)) k := by
  obtain ⟨e, he, hE⟩ := bits_eps
  have hu : (fun j : Fin 1024 => ev m c r.val j.val * cI * rd (aG m c) 0 j.val) = fun j => Ref.dy (aA m c) (aW m c) (aX m c) (aG m c) (aY m c) r j * aG m c (ix2 0 j) :=
    funext fun j => congrArg₂ (· * ·) ((congrArg (· * cI) (ev_eq m c r j)).trans (scale_eq _).symm) (eq_rd (aG m c) 0 j).symm
  have hk : (⟨k.val % 1024, Nat.mod_lt _ (by decide)⟩ : Fin 1024) = k := Fin.ext (Nat.mod_eq_of_lt k.isLt)
  show dxK cN cE (fun j : Fin 1024 => xv m c r.val j.val) (fun j : Fin 1024 => ev m c r.val j.val * cI * rd (aG m c) 0 j.val) ⟨k.val % 1024, Nat.mod_lt _ (by decide)⟩ = _
  rw [row_xv, hu, hk]
  exact dx_eq bits_1024 hE bits_half (by norm_num) he _ _ k

/-- The gradient of the gain. -/
theorem GG_eq (r : Fin 1) (k : Fin 1024) :
    GG m c (ix2 r k) = ∑ i : Fin 4096, Ref.xr (aA m c) (aW m c) (aX m c) i k * ri Ref.cN Ref.cE (Ref.xr (aA m c) (aW m c) (aX m c) i) * Ref.dy (aA m c) (aW m c) (aX m c) (aG m c) (aY m c) i k := by
  refine Finset.sum_congr rfl fun i _ => ?_
  show ev m c i.val k.val * cI * (xv m c i.val k.val * rv m c i.val) = _
  rw [ev_eq, xv_eq, rv_eq, mul_comm]
  exact congrArg _ (scale_eq _).symm

end Cert.LossHead

end
-- ==== Proof.InBwd.Block.lean ====
/- What each grid point of the gradient through the input projection and the norm before it leaves in its output blocks. -/
module

public import proofs.«01_k».proof.Proof.NormBwd.Math
public import proofs.«01_k».proof.Proof.Gen.Kernel7Ideal.Value

@[expose] public section

noncomputable section

namespace Cert.InBwd

open Idealize.ShloMosaic Idealize.ShloMosaic.TcCoe Idealize.ShloMosaic.Pipeline
open Cert.Kernel7Ideal Cert.Kernel7Ideal.Gen Cert.Rows Cert.NormBwd

/-- The row length, the small constant. -/
abbrev cN : EReal := Ideal.ofBits .f32 0x44800000#32
abbrev cE : EReal := Ideal.ofBits .f32 0x358637BD#32

/-! ## The payloads, read at an index -/

section

variable (x : S512x1024.Idx → EReal) (g : S1x1024.Idx → EReal) (d : S512x1280.Idx → EReal) (w : S1280x1024.Idx → EReal) (z : S512x1024.Idx → EReal)

theorem pay7_eq (r : Fin 512) (k : Fin 1024) :
    k0_pay7 (F := Ideal) x g d w z (ix2 r k)
      = dxK cN cE (fun j => x (ix2 r j)) (fun j => (∑ q : Fin 1280, d (ix2 r q) * w (ix2 q j)) * g (ix2 0 j)) k + z (ix2 r k) := by
  unfold k0_pay7 k0_pay5 k0_pay4 k0_pay3
  pointwise
  rfl

theorem pay2_eq (a : S1x1024.Idx → EReal) (r : Fin 1) (k : Fin 1024) :
    k0_pay2 (F := Ideal) (k0_pay6 (F := Ideal) x d w) a (ix2 r k)
      = a (ix2 r k) + ∑ i : Fin 512, (∑ q : Fin 1280, d (ix2 i q) * w (ix2 q k)) * (x (ix2 i k) * ri cN cE (fun j => x (ix2 i j))) := by
  unfold k0_pay2 k0_pay6 k0_pay5 k0_pay4 k0_pay3
  pointwise
  rfl

end

/-! ## The blocks' entries -/

variable (m : (ℓ : Loc nD τ sig) → Buf (Elt Ideal) ℓ) (c : Dev nD) (t : Fin cfg0.N)

abbrev aD : S4096x1280.Idx → EReal := m ((c : Thread nD τ).loc main_arg0)
abbrev aW : S1280x1024.Idx → EReal := m ((c : Thread nD τ).loc main_arg1)
abbrev aX : S4096x1024.Idx → EReal := m ((c : Thread nD τ).loc main_arg2)
abbrev aG : S1x1024.Idx → EReal := m ((c : Thread nD τ).loc main_arg3)
abbrev aZ : S4096x1024.Idx → EReal := m ((c : Thread nD τ).loc main_arg4)

theorem index_0 : ∀ t : Fin cfg0.N, (cfg0.win 0).index t 0 = t.val ∧ (cfg0.win 0).index t 1 = 0 := by decide +kernel
theorem index_1 : ∀ t : Fin cfg0.N, (cfg0.win 1).index t 0 = 0 ∧ (cfg0.win 1).index t 1 = 0 := by decide +kernel
theorem index_2 : ∀ t : Fin cfg0.N, (cfg0.win 2).index t 0 = t.val ∧ (cfg0.win 2).index t 1 = 0 := by decide +kernel
theorem index_3 : ∀ t : Fin cfg0.N, (cfg0.win 3).index t 0 = 0 ∧ (cfg0.win 3).index t 1 = 0 := by decide +kernel
theorem index_4 : ∀ t : Fin cfg0.N, (cfg0.win 4).index t 0 = t.val ∧ (cfg0.win 4).index t 1 = 0 := by decide +kernel
theorem index_5 : ∀ t : Fin cfg0.N, (cfg0.win 5).index t 0 = t.val ∧ (cfg0.win 5).index t 1 = 0 := by decide +kernel
theorem index_6 : ∀ t : Fin cfg0.N, (cfg0.win 6).index t 0 = t.val ∧ (cfg0.win 6).index t 1 = 0 := by decide +kernel
theorem index_7 : ∀ t : Fin cfg0.N, (cfg0.win 7).index t 0 = 0 ∧ (cfg0.win 7).index t 1 = 0 := by decide +kernel

theorem iblk_0 (r : Fin 512) (q : Fin 1280) : iblk m c 0 t (ix2 r q) = rd (aD m c) (512 * t.val + r.val) q.val :=
  (rd_of_emb (V m c main_arg0) (((cfg0.win 0).rect t).emb (ix2 r q))
    (((cfg0.win 0).rect_emb_val t (ix2 r q) 0).trans ((congrArg (· * 512 + r.val) (index_0 t).1).trans (show t.val * 512 + r.val = 512 * t.val + r.val by omega)))
    (((cfg0.win 0).rect_emb_val t (ix2 r q) 1).trans ((congrArg (· * 1280 + q.val) (index_0 t).2).trans (show 0 * 1280 + q.val = q.val by omega)))).trans
    (congrArg (fun X : S4096x1280.Idx → EReal => rd X _ _) (V_main_arg0 m c))

theorem iblk_1 (q : Fin 1280) (k : Fin 1024) : iblk m c 1 t (ix2 q k) = rd (aW m c) q.val k.val :=
  (rd_of_emb (V m c main_arg1) (((cfg0.win 1).rect t).emb (ix2 q k))
    (((cfg0.win 1).rect_emb_val t (ix2 q k) 0).trans ((congrArg (· * 1280 + q.val) (index_1 t).1).trans (show 0 * 1280 + q.val = q.val by omega)))
    (((cfg0.win 1).rect_emb_val t (ix2 q k) 1).trans ((congrArg (· * 1024 + k.val) (index_1 t).2).trans (show 0 * 1024 + k.val = k.val by omega)))).trans
    (congrArg (fun X : S1280x1024.Idx → EReal => rd X _ _) (V_main_arg1 m c))

theorem iblk_2 (r : Fin 512) (k : Fin 1024) : iblk m c 2 t (ix2 r k) = rd (aX m c) (512 * t.val + r.val) k.val :=
  (rd_of_emb (V m c main_arg2) (((cfg0.win 2).rect t).emb (ix2 r k))
    (((cfg0.win 2).rect_emb_val t (ix2 r k) 0).trans ((congrArg (· * 512 + r.val) (index_2 t).1).trans (show t.val * 512 + r.val = 512 * t.val + r.val by omega)))
    (((cfg0.win 2).rect_emb_val t (ix2 r k) 1).trans ((congrArg (· * 1024 + k.val) (index_2 t).2).trans (show 0 * 1024 + k.val = k.val by omega)))).trans
    (congrArg (fun X : S4096x1024.Idx → EReal => rd X _ _) (V_main_arg2 m c))

theorem iblk_3 (r : Fin 1) (k : Fin 1024) : iblk m c 3 t (ix2 r k) = rd (aG m c) r.val k.val :=
  (rd_of_emb (V m c main_arg3) (((cfg0.win 3).rect t).emb (ix2 r k))
    (((cfg0.win 3).rect_emb_val t (ix2 r k) 0).trans ((congrArg (· * 1 + r.val) (index_3 t).1).trans (show 0 * 1 + r.val = r.val by omega)))
    (((cfg0.win 3).rect_emb_val t (ix2 r k) 1).trans ((congrArg (· * 1024 + k.val) (index_3 t).2).trans (show 0 * 1024 + k.val = k.val by omega)))).trans
    (congrArg (fun X : S1x1024.Idx → EReal => rd X _ _) (V_main_arg3 m c))

theorem iblk_4 (r : Fin 512) (k : Fin 1024) : iblk m c 4 t (ix2 r k) = rd (aZ m c) (512 * t.val + r.val) k.val :=
  (rd_of_emb (V m c main_arg4) (((cfg0.win 4).rect t).emb (ix2 r k))
    (((cfg0.win 4).rect_emb_val t (ix2 r k) 0).trans ((congrArg (· * 512 + r.val) (index_4 t).1).trans (show t.val * 512 + r.val = 512 * t.val + r.val by omega)))
    (((cfg0.win 4).rect_emb_val t (ix2 r k) 1).trans ((congrArg (· * 1024 + k.val) (index_4 t).2).trans (show 0 * 1024 + k.val = k.val by omega)))).trans
    (congrArg (fun X : S4096x1024.Idx → EReal => rd X _ _) (V_main_arg4 m c))

/-! ## What a point leaves in its windows -/

private theorem hz2 : (![0, 0] : Fin 2 → Nat) = fun _ => 0 := by decide

theorem left5 : (outsAt0 m c t.val t.isLt).1 = k0_pay7 (iblk m c 2 t) (iblk m c 3 t) (iblk m c 0 t) (iblk m c 1 t) (iblk m c 4 t) := by
  by_cases h0 : t.val % 8 = 0
  · rw [outsAt0_A m c t h0]
    dsimp only
    unfold out0_A_5
    rw [View.read_writes_eq_canon _ _ _ (cover0_A_5 c _ _ _ _ _ _ _ _ _ _ _ _ _ _ _ _ _ _ _ _ _ _ _)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, View.ld_unit_zero (S := S512x1024) hz2, View.ld_unit_zero (S := S1x1024) hz2, View.ld_unit_zero (S := S512x1280) hz2, View.ld_unit_zero (S := S1280x1024) hz2]
  · rw [outsAt0_B m c t h0]
    dsimp only
    unfold out0_B_5
    rw [View.read_writes_eq_canon _ _ _ (cover0_B_5 c _ _ _ _ _ _ _ _ _ _ _ _ _ _ _ _ _ _ _ _ _ _ _ _)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, View.ld_unit_zero (S := S512x1024) hz2, View.ld_unit_zero (S := S1x1024) hz2, View.ld_unit_zero (S := S512x1280) hz2, View.ld_unit_zero (S := S1280x1024) hz2]

theorem left6 : (outsAt0 m c t.val t.isLt).2.1 = k0_pay8 (iblk m c 2 t) (iblk m c 3 t) (iblk m c 0 t) (iblk m c 1 t) (iblk m c 4 t) := by
  by_cases h0 : t.val % 8 = 0
  · rw [outsAt0_A m c t h0]
    dsimp only
    unfold out0_A_6
    rw [View.read_writes_eq_canon _ _ _ (cover0_A_6 c _ _ _ _ _ _ _ _ _ _ _ _ _ _ _ _ _ _ _ _ _ _ _)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, View.ld_unit_zero (S := S512x1024) hz2, View.ld_unit_zero (S := S1x1024) hz2, View.ld_unit_zero (S := S512x1280) hz2, View.ld_unit_zero (S := S1280x1024) hz2]
  · rw [outsAt0_B m c t h0]
    dsimp only
    unfold out0_B_6
    rw [View.read_writes_eq_canon _ _ _ (cover0_B_6 c _ _ _ _ _ _ _ _ _ _ _ _ _ _ _ _ _ _ _ _ _ _ _ _)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, View.ld_unit_zero (S := S512x1024) hz2, View.ld_unit_zero (S := S1x1024) hz2, View.ld_unit_zero (S := S512x1280) hz2, View.ld_unit_zero (S := S1280x1024) hz2]

theorem left7_first (h0 : t.val % 8 = 0) : (outsAt0 m c t.val t.isLt).2.2
    = k0_pay2 (k0_pay6 (iblk m c 2 t) (iblk m c 0 t) (iblk m c 1 t)) (k0_pay1 (F := Ideal)) := by
  rw [outsAt0_A m c t h0]
  dsimp only
  unfold out0_A_7
  rw [View.read_writes_eq_canon _ _ _ (cover0_A_7 c _ _ _ _ _ _ _ _ _ _ _ _ _ _ _ _ _ _ _ _ _ _ _)]
  unfold kernelRun0_A
  dsimp only
  sl_unfold_words
  rw [View.canon_cons_unit_zero (S := S1x1024) hz2]
  simp only [View.readAt_eq_ld, (hs0_0 t).read_unread, (hs0_1 t).read_unread, (hs0_2 t).read_unread, (hs0_3 t).read_unread, (hs0_4 t).read_unread, View.ld_unit_zero (S := S512x1024) hz2, View.ld_unit_zero (S := S1x1024) hz2, View.ld_unit_zero (S := S512x1280) hz2, View.ld_unit_zero (S := S1280x1024) hz2, View.readCov_unit_zero (S := S1x1024) _ hz2]

theorem left7_next (h0 : ¬ t.val % 8 = 0) : (outsAt0 m c t.val t.isLt).2.2
    = k0_pay2 (k0_pay6 (iblk m c 2 t) (iblk m c 0 t) (iblk m c 1 t)) (outsAt0 m c (t.val - 1) (Nat.lt_of_le_of_lt (Nat.sub_le _ _) t.isLt)).2.2 := by
  rw [outsAt0_B m c t h0]
  dsimp only
  unfold out0_B_7
  rw [View.read_writes_eq_canon _ _ _ (cover0_B_7 c _ _ _ _ _ _ _ _ _ _ _ _ _ _ _ _ _ _ _ _ _ _ _ _)]
  unfold kernelRun0_B
  dsimp only
  sl_unfold_words
  rw [View.canon_unit_zero (S := S1x1024) hz2]
  simp only [View.readAt_eq_ld, (hs0_0 t).read_unread, (hs0_1 t).read_unread, (hs0_2 t).read_unread, (hs0_3 t).read_unread, (hs0_4 t).read_unread, (hs0_7 t).read_unread, View.ld_unit_zero (S := S512x1024) hz2, View.ld_unit_zero (S := S1x1024) hz2, View.ld_unit_zero (S := S512x1280) hz2, View.ld_unit_zero (S := S1280x1024) hz2]

/-! ## Those values, in the argument arrays -/

/-- Entry `(r, k)` of the cotangent of the norm's output. -/
def dyv (r k : Nat) : EReal := ∑ q : Fin 1280, rd (aD m c) r q.val * rd (aW m c) q.val k

/-- Entry `(r, k)` of the gradient of the norm's input, with the residual gradient added. -/
def gx (r k : Nat) : EReal :=
  dxK cN cE (fun j : Fin 1024 => rd (aX m c) r j.val) (fun j : Fin 1024 => dyv m c r j.val * rd (aG m c) 0 j.val) ⟨k % 1024, Nat.mod_lt _ (by decide)⟩
    + rd (aZ m c) r k

/-- The term row `r` adds to entry `k` of the gain's gradient. -/
def gterm (k r : Nat) : EReal :=
  dyv m c r k * (rd (aX m c) r k * ri cN cE (fun j : Fin 1024 => rd (aX m c) r j.val))

theorem out5 (r : Fin 512) (k : Fin 1024) : (outsAt0 m c t.val t.isLt).1 (ix2 r k) = gx m c (512 * t.val + r.val) k.val := by
  rw [left5, pay7_eq]
  simp only [iblk_0, iblk_1, iblk_2, iblk_3, iblk_4]
  unfold gx
  have e : (⟨k.val % 1024, Nat.mod_lt _ (by decide)⟩ : Fin 1024) = k := Fin.ext (Nat.mod_eq_of_lt k.isLt)
  rw [e]
  rfl

theorem out6 (r : Fin 512) (k : Fin 1024) : (outsAt0 m c t.val t.isLt).2.1 (ix2 r k) = gx m c (512 * t.val + r.val) k.val := by
  rw [left6, ← out5 m c t r k, left5]
  rfl

/-- After point `n` the gain's gradient holds the terms of the rows below `512 * (n + 1)`. -/
theorem out7 : ∀ (n : Nat) (hn : n < cfg0.N) (k : Fin 1024),
    (outsAt0 m c n hn).2.2 (ix2 (0 : Fin 1) k) = ∑ b : Fin (n + 1), ∑ r : Fin 512, gterm m c k.val (512 * b.val + r.val) := by
  intro n
  induction n with
  | zero =>
    intro hn k
    refine (congrFun (left7_first m c ⟨0, hn⟩ rfl) _).trans ?_
    rw [pay2_eq]
    simp only [iblk_0, iblk_1, iblk_2]
    rw [Fin.sum_univ_one]
    refine (congrArg₂ (· + ·) (show k0_pay1 (F := Ideal) (ix2 (0 : Fin 1) k) = 0 from ?_) rfl).trans (zero_add _)
    unfold k0_pay1
    pointwise
  | succ n ih =>
    intro hn k
    have hN : cfg0.N = 8 := N_0
    refine (congrFun (left7_next m c ⟨n + 1, hn⟩ (show ¬ (n + 1) % 8 = 0 by omega)) _).trans ?_
    rw [pay2_eq]
    simp only [iblk_0, iblk_1, iblk_2]
    rw [Fin.sum_univ_castSucc (n := n + 1)]
    exact congrArg₂ (· + ·) (ih (Nat.lt_of_succ_lt hn) k) rfl

end Cert.InBwd

end
-- ==== Proof.InBwd.Array.lean ====
/- What the gradient through the input projection and the norm before it leaves in its three results. -/
module

public import proofs.«01_k».proof.Proof.InBwd.Block
public import Idealize.ShloMosaic.Lib.Pipeline.Value

@[expose] public section

noncomputable section

namespace Cert.InBwd

open Idealize.ShloMosaic Idealize.ShloMosaic.TcCoe Idealize.ShloMosaic.Pipeline Idealize.SL.Sem
open Cert.Kernel7Ideal Cert.Kernel7Ideal.Gen Cert.Rows

variable (m : (ℓ : Loc nD τ sig) → Buf (Elt Ideal) ℓ) (c : Dev nD) (ρ : Dev nD → PrngReg)

/-- The gradient of the norm's input with the residual gradient added. -/
def GX (i : S4096x1024.Idx) : EReal := gx m c (i 0).val (i 1).val

/-- The gradient of the norm's gain. -/
def GG (i : S1x1024.Idx) : EReal := ∑ r : Fin 4096, gterm m c (i 1).val r.val

theorem flushed5 (t : Fin cfg0.N) : (dats m 0 c).flushed 5 t = (win0_5.blk t).view.read (Elt Ideal) (GX m c) := by
  funext y
  obtain ⟨r, k, rfl⟩ : ∃ (r : Fin 512) (k : Fin 1024), y = ix2 r k := ⟨y 0, y 1, ValueIdx.eq_ix2 y⟩
  refine ((congrFun (after0_5 m c t) (ix2 r k)).trans (out5 m c t r k)).trans ?_
  show _ = GX m c ((win0_5.rect t).emb (ix2 r k))
  obtain ⟨e0, e1⟩ := index_5 t
  have i0 := (win0_5.rect_emb_val t (ix2 r k) 0).trans (congrArg (· * 512 + r.val) e0)
  have i1 := (win0_5.rect_emb_val t (ix2 r k) 1).trans (congrArg (· * 1024 + k.val) e1)
  refine congrArg₂ (gx m c) ?_ ?_
  · rw [i0]; omega
  · rw [i1]; omega

theorem flushed6 (t : Fin cfg0.N) : (dats m 0 c).flushed 6 t = (win0_6.blk t).view.read (Elt Ideal) (GX m c) := by
  funext y
  obtain ⟨r, k, rfl⟩ : ∃ (r : Fin 512) (k : Fin 1024), y = ix2 r k := ⟨y 0, y 1, ValueIdx.eq_ix2 y⟩
  refine ((congrFun (after0_6 m c t) (ix2 r k)).trans (out6 m c t r k)).trans ?_
  show _ = GX m c ((win0_6.rect t).emb (ix2 r k))
  obtain ⟨e0, e1⟩ := index_6 t
  have i0 := (win0_6.rect_emb_val t (ix2 r k) 0).trans (congrArg (· * 512 + r.val) e0)
  have i1 := (win0_6.rect_emb_val t (ix2 r k) 1).trans (congrArg (· * 1024 + k.val) e1)
  refine congrArg₂ (gx m c) ?_ ?_
  · rw [i0]; omega
  · rw [i1]; omega

theorem gain_congr {k : Nat} {i : S1x1024.Idx} (h : (i 1).val = k) : ∑ r : Fin 4096, gterm m c k r.val = GG m c i := by
  unfold GG
  rw [h]

theorem flushed7 (t : Fin cfg0.N) (hf : (cfg0.win 7).flush t = true) : (dats m 0 c).flushed 7 t = (win0_7.blk t).view.read (Elt Ideal) (GG m c) := by
  have h7 : t.val + 1 = 8 := by
    have h := (flush0_7 t).mp hf
    have hN : t.val < 8 := lt_of_lt_of_eq t.isLt N_0
    omega
  funext y
  obtain ⟨r, k, rfl⟩ : ∃ (r : Fin 1) (k : Fin 1024), y = ix2 r k := ⟨y 0, y 1, ValueIdx.eq_ix2 y⟩
  obtain rfl : r = 0 := Subsingleton.elim _ _
  refine ((congrFun (after0_7 m c t) (ix2 (0 : Fin 1) k)).trans (out7 m c t.val t.isLt k)).trans ?_
  rw [h7]
  refine (sum_blocks 8 512 (gterm m c k.val)).trans ?_
  obtain ⟨-, e1⟩ := index_7 t
  have i1 := (win0_7.rect_emb_val t (ix2 (0 : Fin 1) k) 1).trans (congrArg (· * 1024 + k.val) e1)
  exact gain_congr m c (i := (win0_7.rect t).emb (ix2 (0 : Fin 1) k)) (i1.trans (by omega))

/-! ## The arrays after the run -/

theorem point (a : Nat) (ha : a < 8) : ∃ t : Fin cfg0.N, t.val = a := ⟨⟨a, by rw [show cfg0.N = 8 from N_0]; exact ha⟩, rfl⟩

theorem cover5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  obtain ⟨t, ha⟩ := point ((i 0).val / 512) (by omega)
  obtain ⟨e0, e1⟩ := index_5 t
  refine ⟨t, flush0_5 t, ?_⟩
  show i ∈ ((View.whole main_v0_0).slice (win0_5.rect t)).set
  rw [View.set_slice_whole, Rect.mem_set_unit]
  intro a
  fin_cases a
  · show (cfg0.win 5).index t 0 * 512 ≤ (i 0).val ∧ (i 0).val < (cfg0.win 5).index t 0 * 512 + 512
    rw [e0]; omega
  · show (cfg0.win 5).index t 1 * 1024 ≤ (i 1).val ∧ (i 1).val < (cfg0.win 5).index t 1 * 1024 + 1024
    rw [e1]; omega

theorem cover6 (i : S4096x1024.Idx) : ∃ t : Fin cfg0.N, (cfg0.win 6).flush t = true ∧ i ∈ ((cfg0.win 6).blk t).view.set := by
  have h0 : (i 0).val < 4096 := (i 0).isLt
  have h1 : (i 1).val < 1024 := (i 1).isLt
  obtain ⟨t, ha⟩ := point ((i 0).val / 512) (by omega)
  obtain ⟨e0, e1⟩ := index_6 t
  refine ⟨t, flush0_6 t, ?_⟩
  show i ∈ ((View.whole main_v0_1).slice (win0_6.rect t)).set
  rw [View.set_slice_whole, Rect.mem_set_unit]
  intro a
  fin_cases a
  · show (cfg0.win 6).index t 0 * 512 ≤ (i 0).val ∧ (i 0).val < (cfg0.win 6).index t 0 * 512 + 512
    rw [e0]; omega
  · show (cfg0.win 6).index t 1 * 1024 ≤ (i 1).val ∧ (i 1).val < (cfg0.win 6).index t 1 * 1024 + 1024
    rw [e1]; omega

theorem cover7 (i : S1x1024.Idx) : ∃ t : Fin cfg0.N, (cfg0.win 7).flush t = true ∧ i ∈ ((cfg0.win 7).blk t).view.set := by
  have h0 : (i 0).val < 1 := (i 0).isLt
  have h1 : (i 1).val < 1024 := (i 1).isLt
  obtain ⟨t, ha⟩ := point 7 (by omega)
  obtain ⟨e0, e1⟩ := index_7 t
  refine ⟨t, (flush0_7 t).mpr (by omega), ?_⟩
  show i ∈ ((View.whole main_v0_2).slice (win0_7.rect t)).set
  rw [View.set_slice_whole, Rect.mem_set_unit]
  intro a
  fin_cases a
  · show (cfg0.win 7).index t 0 * 1 ≤ (i 0).val ∧ (i 0).val < (cfg0.win 7).index t 0 * 1 + 1
    rw [e0]; omega
  · show (cfg0.win 7).index t 1 * 1024 ≤ (i 1).val ∧ (i 1).val < (cfg0.win 7).index t 1 * 1024 + 1024
    rw [e1]; omega

/-- The gradient of the norm's input, after the run. -/
theorem final5 : (dats m 0 c).arrAt 5 cfg0.N = GX m c :=
  (dats m 0 c).arrAt_eq_of_cover 5 (GX m c) (fun t _ => flushed5 m c t) cover5

/-- Its rounded copy, after the run. -/
theorem final6 : (dats m 0 c).arrAt 6 cfg0.N = GX m c :=
  (dats m 0 c).arrAt_eq_of_cover 6 (GX m c) (fun t _ => flushed6 m c t) cover6

/-- The gradient of the gain, after the run. -/
theorem final7 : (dats m 0 c).arrAt 7 cfg0.N = GG m c :=
  (dats m 0 c).arrAt_eq_of_cover 7 (GG m c) (fun t hf => flushed7 m c t hf) cover7

/-- The run: the three results at the closed form, the arguments unchanged. -/
theorem run : θ_run defs (onTc (τ := τ) (main (F := Ideal))) ⟨m, fun _ => 0, ρ⟩ fun r => ∀ c : Dev nD,
      r.2.mem ((c : Thread nD τ).loc main_v0_0) = GX m c
      ∧ r.2.mem ((c : Thread nD τ).loc main_v0_1) = GX m c
      ∧ r.2.mem ((c : Thread nD τ).loc main_v0_2) = GG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2.1.trans (final7 m c), (h c).2.2.2⟩)
    (Cert.Kernel7Ideal.Value.run_blocks m ρ)

end Cert.InBwd

end
-- ==== Proof.InBwd.Reference.lean ====
/- The derivative of the norm before the input projection, as the reference computes it, read at an index. -/
module

public import proofs.«01_k».proof.Proof.NormBwd.Math
public import proofs.«01_k».proof.Proof.Gen.Reference7Ideal.Read

@[expose] public section

noncomputable section

namespace Cert.InBwd.Ref

open Idealize.ShloMosaic Cert.Reference7Ideal Cert.Reference7Ideal.Gen Cert.Reference7Ideal.Read Cert.Rows Cert.NormBwd

variable (D : S4096x1280.Idx → EReal) (W : S1280x1024.Idx → EReal) (X : S4096x1024.Idx → EReal) (G : S1x1024.Idx → EReal)
  (Z : S4096x1024.Idx → EReal)

abbrev cN : EReal := Ideal.ofBits .f32 0x44800000#32
abbrev cE : EReal := Ideal.ofBits .f32 0x358637BD#32
abbrev cH : EReal := Ideal.ofBits .f32 0xBF000000#32

/-- The cotangent of the norm's output. -/
def dy (r : Fin 4096) (j : Fin 1024) : EReal := ∑ q : Fin 1280, D (ix2 r q) * W (ix2 q j)

theorem ms_eq (r : Fin 4096) (c : Fin 1) : val_main_v6 (F := Ideal) X (ix2 r c) = ms cN cE (fun j => X (ix2 r j)) := by
  unfold val_main_v6 val_main_v5 val_main_v4 val_main_v3 val_main_v2 val_main_v1 val_main_v0 val_main_cst val_main_cst_0 val_main_cst_1
  pointwise
  rfl

theorem dy_eq (r : Fin 4096) (c : Fin 1024) : val_main_v19 (F := Ideal) D W (ix2 r c) = dy D W r c := by
  unfold val_main_v19 val_main_v18 val_main_v16 val_main_v15
  pointwise
  rfl

theorem back_eq (r : Fin 4096) (c : Fin 1024) :
    val_main_v34 (F := Ideal) D W X G (ix2 r c) = back cN cE cH (fun j => X (ix2 r j)) (fun j => dy D W r j * G (ix2 0 j)) := by
  unfold val_main_v34 val_main_v33 val_main_v32 val_main_v31 val_main_v30 val_main_v27 val_main_v26 val_main_v25 val_main_v24 val_main_v23 val_main_v10 val_main_v9 val_main_v8 val_main_v7 val_main_cst_2 val_main_cst_4 val_main_cst_5 val_main_cst_6
  pointwise
  simp only [ms_eq, dy_eq]
  exact Fin.sum_univ_one _

theorem dx_eq (r : Fin 4096) (c : Fin 1024) :
    val_main_v39 (F := Ideal) D W X G Z (ix2 r c)
      = dxR cN cE cH (fun j => X (ix2 r j)) (fun j => dy D W r j * G (ix2 0 j)) c + Z (ix2 r c) := by
  unfold val_main_v39 val_main_v38 val_main_v37 val_main_v36 val_main_v35 val_main_v29 val_main_v28 val_main_v24 val_main_v23 val_main_v7
  pointwise
  simp only [ms_eq, dy_eq, back_eq]
  rfl

theorem dg_eq (r : Fin 1) (c : Fin 1024) :
    val_main_v22 (F := Ideal) D W X (ix2 r c) = ∑ i : Fin 4096, X (ix2 i c) * ri cN cE (fun j => X (ix2 i j)) * dy D W i c := by
  unfold val_main_v22 val_main_v21 val_main_v20 val_main_v12 val_main_v11 val_main_v7 val_main_cst_3
  pointwise
  simp only [ms_eq, dy_eq]
  rfl

end Cert.InBwd.Ref

end
-- ==== Proof.InBwd.Equal.lean ====
/- The gradient through the input projection and the norm against the derivative: the same three arrays. -/
module

public import proofs.«01_k».proof.Proof.InBwd.Array
public import proofs.«01_k».proof.Proof.InBwd.Reference

@[expose] public section

noncomputable section

namespace Cert.InBwd

open Idealize.ShloMosaic Idealize.ShloMosaic.TcCoe Cert.Rows Cert.NormBwd

open Cert.Kernel7Ideal

variable (m : (ℓ : Loc nD τ sig) → Buf (Elt Ideal) ℓ) (c : Dev nD)

theorem dyv_eq (r : Fin 4096) (k : Fin 1024) : dyv m c r.val k.val = Ref.dy (aD m c) (aW m c) r k := by
  unfold dyv Ref.dy
  simp only [← eq_rd]

/-- The first result. -/
theorem GX_eq (r : Fin 4096) (k : Fin 1024) :
    GX m c (ix2 r k) = dxR Ref.cN Ref.cE Ref.cH (fun j => aX m c (ix2 r j)) (fun j => Ref.dy (aD m c) (aW m c) r j * aG m c (ix2 0 j)) k + aZ m c (ix2 r k) := by
  obtain ⟨e, he, hE⟩ := bits_eps
  have hx : (fun j : Fin 1024 => rd (aX m c) r.val j.val) = fun j => aX m c (ix2 r j) := funext fun j => (eq_rd _ r j).symm
  have hu : (fun j : Fin 1024 => dyv m c r.val j.val * rd (aG m c) 0 j.val) = fun j => Ref.dy (aD m c) (aW m c) r j * aG m c (ix2 0 j) :=
    funext fun j => congrArg₂ (· * ·) (dyv_eq m c r j) (eq_rd (aG m c) 0 j).symm
  have hk : (⟨k.val % 1024, Nat.mod_lt _ (by decide)⟩ : Fin 1024) = k := Fin.ext (Nat.mod_eq_of_lt k.isLt)
  refine congrArg₂ (· + ·) ?_ (eq_rd (aZ m c) r k).symm
  show dxK cN cE (fun j : Fin 1024 => rd (aX m c) r.val j.val) (fun j : Fin 1024 => dyv m c r.val j.val * rd (aG m c) 0 j.val) ⟨k.val % 1024, Nat.mod_lt _ (by decide)⟩ = _
  rw [hx, hu, hk]
  exact dx_eq bits_1024 hE bits_half (by norm_num) he _ _ k

/-- The third result. -/
theorem GG_eq (r : Fin 1) (k : Fin 1024) :
    GG m c (ix2 r k) = ∑ i : Fin 4096, aX m c (ix2 i k) * ri Ref.cN Ref.cE (fun j => aX m c (ix2 i j)) * Ref.dy (aD m c) (aW m c) i k := by
  refine Finset.sum_congr rfl fun i _ => ?_
  show dyv m c i.val k.val * (rd (aX m c) i.val k.val * ri cN cE (fun j : Fin 1024 => rd (aX m c) i.val j.val)) = _
  rw [dyv_eq, ← eq_rd]
  simp only [← eq_rd]
  exact mul_comm _ _

end Cert.InBwd

end
-- ==== Proof.MixBwd.Block.lean ====
/- What each grid point of the gradient through the output projection and the two branches' norms leaves in its output blocks. -/
module

public import proofs.«01_k».proof.Proof.NormBwd.Math
public import proofs.«01_k».proof.Proof.Gen.Kernel8Ideal.Value

@[expose] public section

noncomputable section

namespace Cert.MixBwd

open Idealize.ShloMosaic Idealize.ShloMosaic.TcCoe Idealize.ShloMosaic.Pipeline
open Cert.Kernel8Ideal Cert.Kernel8Ideal.Gen Cert.Rows Cert.NormBwd

/-- The length of a branch's row, the small constant. -/
abbrev cN : EReal := Ideal.ofBits .f32 0x44000000#32
abbrev cE : EReal := Ideal.ofBits .f32 0x358637BD#32

/-! ## The payloads, read at an index -/

section

variable (d : S512x1024.Idx → EReal) (w : S1024x1024.Idx → EReal) (x : S512x512.Idx → EReal) (g : S1x512.Idx → EReal)

/-- Row `r` of the cotangent of the two branches side by side. -/
def db (r : Fin 512) (j : Fin 1024) : EReal := ∑ q : Fin 1024, d (ix2 r q) * w (ix2 j q)

/-- Its first and its second half. -/
def lo (k : Fin 512) : Fin 1024 := ⟨k.val, lt_trans k.isLt (by decide)⟩
def hi (k : Fin 512) : Fin 1024 := ⟨512 + k.val, by have := k.isLt; omega⟩

theorem pay9_eq (r : Fin 512) (j : Fin 1024) : k0_pay9 (F := Ideal) d w (ix2 r j) = db d w r j := by
  unfold k0_pay9
  pointwise
  rfl

theorem pay10_eq (r : Fin 512) (k : Fin 512) : k0_pay10 (F := Ideal) d w (ix2 r k) = db d w r (lo k) := by
  refine Eq.trans ?_ (pay9_eq d w r (lo k))
  unfold k0_pay10
  exact congrArg (k0_pay9 (F := Ideal) d w) (funext fun a => Fin.ext (by fin_cases a <;> simp [lo]))

theorem pay2_eq (r : Fin 512) (k : Fin 512) : k0_pay2 (F := Ideal) (k0_pay9 (F := Ideal) d w) (ix2 r k) = db d w r (hi k) := by
  refine Eq.trans ?_ (pay9_eq d w r (hi k))
  unfold k0_pay2
  exact congrArg (k0_pay9 (F := Ideal) d w) (funext fun a => Fin.ext (by fin_cases a <;> simp [hi]))

theorem pay11_eq (r : Fin 512) (j : Fin 1) : k0_pay11 (F := Ideal) x (ix2 r j) = ri cN cE (fun k => x (ix2 r k)) := by
  unfold k0_pay11
  pointwise
  rfl

theorem pay3_eq (r : Fin 512) (j : Fin 1) : k0_pay3 (F := Ideal) x (ix2 r j) = ri cN cE (fun k => x (ix2 r k)) := pay11_eq x r j

theorem pay12_eq (r : Fin 512) (k : Fin 512) : k0_pay12 (F := Ideal) x (ix2 r k) = x (ix2 r k) * ri cN cE (fun k => x (ix2 r k)) := by
  unfold k0_pay12
  pointwise
  simp only [pay11_eq]

theorem pay4_eq (r : Fin 512) (k : Fin 512) : k0_pay4 (F := Ideal) x (ix2 r k) = x (ix2 r k) * ri cN cE (fun k => x (ix2 r k)) := pay12_eq x r k

theorem pay13_eq (r : Fin 512) (k : Fin 512) : k0_pay13 (F := Ideal) d w x g (ix2 r k)
    = dxK cN cE (fun j => x (ix2 r j)) (fun j => db d w r (lo j) * g (ix2 0 j)) k := by
  unfold k0_pay13
  pointwise
  simp only [pay10_eq, pay11_eq, pay12_eq]
  rfl

theorem pay5_eq (r : Fin 512) (k : Fin 512) : k0_pay5 (F := Ideal) (k0_pay9 (F := Ideal) d w) x g (ix2 r k)
    = dxK cN cE (fun j => x (ix2 r j)) (fun j => db d w r (hi j) * g (ix2 0 j)) k := by
  unfold k0_pay5
  pointwise
  simp only [pay2_eq, pay3_eq, pay4_eq]
  rfl

theorem pay1_eq (b : S1x512.Idx → EReal) (r : Fin 1) (k : Fin 512) :
    k0_pay1 (F := Ideal) (k0_pay14 (F := Ideal) b) (k0_pay15 (F := Ideal) d w x) (ix2 r k)
      = b (ix2 r k) + ∑ i : Fin 512, db d w i (lo k) * (x (ix2 i k) * ri cN cE (fun j => x (ix2 i j))) := by
  unfold k0_pay1 k0_pay14 k0_pay15
  pointwise
  simp only [pay10_eq, pay12_eq]

theorem pay6_eq (b : S1x512.Idx → EReal) (r : Fin 1) (k : Fin 512) :
    k0_pay6 (F := Ideal) (k0_pay9 (F := Ideal) d w) x b (ix2 r k)
      = b (ix2 r k) + ∑ i : Fin 512, db d w i (hi k) * (x (ix2 i k) * ri cN cE (fun j => x (ix2 i j))) := by
  unfold k0_pay6
  pointwise
  simp only [pay2_eq, pay4_eq]

end

/-! ## The input blocks -/

variable (m : (ℓ : Loc nD τ sig) → Buf (Elt Ideal) ℓ) (c : Dev nD) (t : Fin cfg0.N)

abbrev aD : S4096x1024.Idx → EReal := m ((c : Thread nD τ).loc main_arg0)
abbrev aW : S1024x1024.Idx → EReal := m ((c : Thread nD τ).loc main_arg1)
abbrev aA : S4096x512.Idx → EReal := m ((c : Thread nD τ).loc main_arg2)
abbrev aS : S4096x512.Idx → EReal := m ((c : Thread nD τ).loc main_arg3)
abbrev aGa : S1x512.Idx → EReal := m ((c : Thread nD τ).loc main_arg4)
abbrev aGs : S1x512.Idx → EReal := m ((c : Thread nD τ).loc main_arg5)

theorem index_0 : ∀ t : Fin cfg0.N, (cfg0.win 0).index t 0 = t.val ∧ (cfg0.win 0).index t 1 = 0 := by decide +kernel
theorem index_1 : ∀ t : Fin cfg0.N, (cfg0.win 1).index t 0 = 0 ∧ (cfg0.win 1).index t 1 = 0 := by decide +kernel
theorem index_2 : ∀ t : Fin cfg0.N, (cfg0.win 2).index t 0 = t.val ∧ (cfg0.win 2).index t 1 = 0 := by decide +kernel
theorem index_3 : ∀ t : Fin cfg0.N, (cfg0.win 3).index t 0 = t.val ∧ (cfg0.win 3).index t 1 = 0 := by decide +kernel
theorem index_4 : ∀ t : Fin cfg0.N, (cfg0.win 4).index t 0 = 0 ∧ (cfg0.win 4).index t 1 = 0 := by decide +kernel
theorem index_5 : ∀ t : Fin cfg0.N, (cfg0.win 5).index t 0 = 0 ∧ (cfg0.win 5).index t 1 = 0 := by decide +kernel
theorem index_6 : ∀ t : Fin cfg0.N, (cfg0.win 6).index t 0 = t.val ∧ (cfg0.win 6).index t 1 = 0 := by decide +kernel
theorem index_7 : ∀ t : Fin cfg0.N, (cfg0.win 7).index t 0 = t.val ∧ (cfg0.win 7).index t 1 = 0 := by decide +kernel
theorem index_8 : ∀ t : Fin cfg0.N, (cfg0.win 8).index t 0 = 0 ∧ (cfg0.win 8).index t 1 = 0 := by decide +kernel
theorem index_9 : ∀ t : Fin cfg0.N, (cfg0.win 9).index t 0 = 0 ∧ (cfg0.win 9).index t 1 = 0 := by decide +kernel

theorem iblk_0 (r : Fin 512) (k : Fin 1024) : iblk m c 0 t (ix2 r k) = rd (aD m c) (512 * t.val + r.val) k.val :=
  (rd_of_emb (V m c main_arg0) (((cfg0.win 0).rect t).emb (ix2 r k))
    (((cfg0.win 0).rect_emb_val t (ix2 r k) 0).trans ((congrArg (· * 512 + r.val) (index_0 t).1).trans (show t.val * 512 + r.val = 512 * t.val + r.val by omega)))
    (((cfg0.win 0).rect_emb_val t (ix2 r k) 1).trans ((congrArg (· * 1024 + k.val) (index_0 t).2).trans (show 0 * 1024 + k.val = k.val by omega)))).trans
    (congrArg (fun X : S4096x1024.Idx → EReal => rd X _ _) (V_main_arg0 m c))

theorem iblk_1 (r : Fin 1024) (k : Fin 1024) : iblk m c 1 t (ix2 r k) = rd (aW m c) r.val k.val :=
  (rd_of_emb (V m c main_arg1) (((cfg0.win 1).rect t).emb (ix2 r k))
    (((cfg0.win 1).rect_emb_val t (ix2 r k) 0).trans ((congrArg (· * 1024 + r.val) (index_1 t).1).trans (show 0 * 1024 + r.val = r.val by omega)))
    (((cfg0.win 1).rect_emb_val t (ix2 r k) 1).trans ((congrArg (· * 1024 + k.val) (index_1 t).2).trans (show 0 * 1024 + k.val = k.val by omega)))).trans
    (congrArg (fun X : S1024x1024.Idx → EReal => rd X _ _) (V_main_arg1 m c))

theorem iblk_2 (r : Fin 512) (k : Fin 512) : iblk m c 2 t (ix2 r k) = rd (aA m c) (512 * t.val + r.val) k.val :=
  (rd_of_emb (V m c main_arg2) (((cfg0.win 2).rect t).emb (ix2 r k))
    (((cfg0.win 2).rect_emb_val t (ix2 r k) 0).trans ((congrArg (· * 512 + r.val) (index_2 t).1).trans (show t.val * 512 + r.val = 512 * t.val + r.val by omega)))
    (((cfg0.win 2).rect_emb_val t (ix2 r k) 1).trans ((congrArg (· * 512 + k.val) (index_2 t).2).trans (show 0 * 512 + k.val = k.val by omega)))).trans
    (congrArg (fun X : S4096x512.Idx → EReal => rd X _ _) (V_main_arg2 m c))

theorem iblk_3 (r : Fin 512) (k : Fin 512) : iblk m c 3 t (ix2 r k) = rd (aS m c) (512 * t.val + r.val) k.val :=
  (rd_of_emb (V m c main_arg3) (((cfg0.win 3).rect t).emb (ix2 r k))
    (((cfg0.win 3).rect_emb_val t (ix2 r k) 0).trans ((congrArg (· * 512 + r.val) (index_3 t).1).trans (show t.val * 512 + r.val = 512 * t.val + r.val by omega)))
    (((cfg0.win 3).rect_emb_val t (ix2 r k) 1).trans ((congrArg (· * 512 + k.val) (index_3 t).2).trans (show 0 * 512 + k.val = k.val by omega)))).trans
    (congrArg (fun X : S4096x512.Idx → EReal => rd X _ _) (V_main_arg3 m c))

theorem iblk_4 (r : Fin 1) (k : Fin 512) : iblk m c 4 t (ix2 r k) = rd (aGa m c) r.val k.val :=
  (rd_of_emb (V m c main_arg4) (((cfg0.win 4).rect t).emb (ix2 r k))
    (((cfg0.win 4).rect_emb_val t (ix2 r k) 0).trans ((congrArg (· * 1 + r.val) (index_4 t).1).trans (show 0 * 1 + r.val = r.val by omega)))
    (((cfg0.win 4).rect_emb_val t (ix2 r k) 1).trans ((congrArg (· * 512 + k.val) (index_4 t).2).trans (show 0 * 512 + k.val = k.val by omega)))).trans
    (congrArg (fun X : S1x512.Idx → EReal => rd X _ _) (V_main_arg4 m c))

theorem iblk_5 (r : Fin 1) (k : Fin 512) : iblk m c 5 t (ix2 r k) = rd (aGs m c) r.val k.val :=
  (rd_of_emb (V m c main_arg5) (((cfg0.win 5).rect t).emb (ix2 r k))
    (((cfg0.win 5).rect_emb_val t (ix2 r k) 0).trans ((congrArg (· * 1 + r.val) (index_5 t).1).trans (show 0 * 1 + r.val = r.val by omega)))
    (((cfg0.win 5).rect_emb_val t (ix2 r k) 1).trans ((congrArg (· * 512 + k.val) (index_5 t).2).trans (show 0 * 512 + k.val = k.val by omega)))).trans
    (congrArg (fun X : S1x512.Idx → EReal => rd X _ _) (V_main_arg5 m c))

/-! ## What a point leaves in its windows -/

private theorem hz2 : (![0, 0] : Fin 2 → Nat) = fun _ => 0 := by decide

theorem left6 : (outsAt0 m c t.val t.isLt).1 = k0_pay13 (iblk m c 0 t) (iblk m c 1 t) (iblk m c 2 t) (iblk m c 4 t) := by
  by_cases h0 : t.val % 8 = 0
  · rw [outsAt0_A m c t h0]
    dsimp only
    unfold out0_A_6
    rw [View.read_writes_eq_canon _ _ _ (cover0_A_6 c _ _ _ _ _ _ _ _ _ _ _ _ _ _ _ _ _ _ _ _ _ _ _ _ _ _ _ _)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, View.ld_unit_zero (S := S512x1024) hz2, View.ld_unit_zero (S := S1024x1024) hz2, View.ld_unit_zero (S := S512x512) hz2, View.ld_unit_zero (S := S1x512) hz2]
  · rw [outsAt0_B m c t h0]
    dsimp only
    unfold out0_B_6
    rw [View.read_writes_eq_canon _ _ _ (cover0_B_6 c _ _ _ _ _ _ _ _ _ _ _ _ _ _ _ _ _ _ _ _ _ _ _ _ _ _ _ _ _ _)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, View.ld_unit_zero (S := S512x1024) hz2, View.ld_unit_zero (S := S1024x1024) hz2, View.ld_unit_zero (S := S512x512) hz2, View.ld_unit_zero (S := S1x512) hz2]

theorem left7 : (outsAt0 m c t.val t.isLt).2.1 = k0_pay5 (k0_pay9 (iblk m c 0 t) (iblk m c 1 t)) (iblk m c 3 t) (iblk m c 5 t) := by
  by_cases h0 : t.val % 8 = 0
  · rw [outsAt0_A m c t h0]
    dsimp only
    unfold out0_A_7
    rw [View.read_writes_eq_canon _ _ _ (cover0_A_7 c _ _ _ _ _ _ _ _ _ _ _ _ _ _ _ _ _ _ _ _ _ _ _ _ _ _ _ _)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, View.ld_unit_zero (S := S512x1024) hz2, View.ld_unit_zero (S := S1024x1024) hz2, View.ld_unit_zero (S := S512x512) hz2, View.ld_unit_zero (S := S1x512) hz2]
  · rw [outsAt0_B m c t h0]
    dsimp only
    unfold out0_B_7
    rw [View.read_writes_eq_canon _ _ _ (cover0_B_7 c _ _ _ _ _ _ _ _ _ _ _ _ _ _ _ _ _ _ _ _ _ _ _ _ _ _ _ _ _ _)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, View.ld_unit_zero (S := S512x1024) hz2, View.ld_unit_zero (S := S1024x1024) hz2, View.ld_unit_zero (S := S512x512) hz2, View.ld_unit_zero (S := S1x512) hz2]

theorem left8_first (h0 : t.val % 8 = 0) : (outsAt0 m c t.val t.isLt).2.2.1
    = k0_pay1 (k0_pay14 (k0_pay7 (F := Ideal))) (k0_pay15 (iblk m c 0 t) (iblk m c 1 t) (iblk m c 2 t)) := by
  rw [outsAt0_A m c t h0]
  dsimp only
  unfold out0_A_8
  rw [View.read_writes_eq_canon _ _ _ (cover0_A_8 c _ _ _ _ _ _ _ _ _ _ _ _ _ _ _ _ _ _ _ _ _ _ _ _ _ _ _ _)]
  unfold kernelRun0_A
  dsimp only
  sl_unfold_words
  rw [View.canon_cons_unit_zero hz2]
  simp only [View.readAt_eq_ld, (hs0_0 t).read_unread, (hs0_1 t).read_unread, (hs0_2 t).read_unread, (hs0_3 t).read_unread, (hs0_4 t).read_unread, (hs0_5 t).read_unread, View.ld_unit_zero (S := S512x1024) hz2, View.ld_unit_zero (S := S1024x1024) hz2, View.ld_unit_zero (S := S512x512) hz2, View.ld_unit_zero (S := S1x512) hz2, View.readCov_unit_zero (S := S1x512) _ hz2]

theorem left8_next (h0 : ¬ t.val % 8 = 0) : (outsAt0 m c t.val t.isLt).2.2.1
    = k0_pay1 (k0_pay14 (outsAt0 m c (t.val - 1) (Nat.lt_of_le_of_lt (Nat.sub_le _ _) t.isLt)).2.2.1) (k0_pay15 (iblk m c 0 t) (iblk m c 1 t) (iblk m c 2 t)) := by
  rw [outsAt0_B m c t h0]
  dsimp only
  unfold out0_B_8
  rw [View.read_writes_eq_canon _ _ _ (cover0_B_8 c _ _ _ _ _ _ _ _ _ _ _ _ _ _ _ _ _ _ _ _ _ _ _ _ _ _ _ _ _ _)]
  unfold kernelRun0_B
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, View.ld_unit_zero (S := S512x1024) hz2, View.ld_unit_zero (S := S1024x1024) hz2, View.ld_unit_zero (S := S512x512) hz2, View.ld_unit_zero (S := S1x512) hz2, (hs0_8 t).read_unread]

theorem left9_first (h0 : t.val % 8 = 0) : (outsAt0 m c t.val t.isLt).2.2.2
    = k0_pay6 (k0_pay9 (iblk m c 0 t) (iblk m c 1 t)) (iblk m c 3 t) (k0_pay8 (F := Ideal)) := by
  rw [outsAt0_A m c t h0]
  dsimp only
  unfold out0_A_9
  rw [View.read_writes_eq_canon _ _ _ (cover0_A_9 c _ _ _ _ _ _ _ _ _ _ _ _ _ _ _ _ _ _ _ _ _ _ _ _ _ _ _ _)]
  unfold kernelRun0_A
  dsimp only
  sl_unfold_words
  rw [View.canon_cons_unit_zero hz2]
  simp only [View.readAt_eq_ld, (hs0_0 t).read_unread, (hs0_1 t).read_unread, (hs0_2 t).read_unread, (hs0_3 t).read_unread, (hs0_4 t).read_unread, (hs0_5 t).read_unread, View.ld_unit_zero (S := S512x1024) hz2, View.ld_unit_zero (S := S1024x1024) hz2, View.ld_unit_zero (S := S512x512) hz2, View.ld_unit_zero (S := S1x512) hz2, View.readCov_unit_zero (S := S1x512) _ hz2]

theorem left9_next (h0 : ¬ t.val % 8 = 0) : (outsAt0 m c t.val t.isLt).2.2.2
    = k0_pay6 (k0_pay9 (iblk m c 0 t) (iblk m c 1 t)) (iblk m c 3 t) (outsAt0 m c (t.val - 1) (Nat.lt_of_le_of_lt (Nat.sub_le _ _) t.isLt)).2.2.2 := by
  rw [outsAt0_B m c t h0]
  dsimp only
  unfold out0_B_9
  rw [View.read_writes_eq_canon _ _ _ (cover0_B_9 c _ _ _ _ _ _ _ _ _ _ _ _ _ _ _ _ _ _ _ _ _ _ _ _ _ _ _ _ _ _)]
  unfold kernelRun0_B
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, View.ld_unit_zero (S := S512x1024) hz2, View.ld_unit_zero (S := S1024x1024) hz2, View.ld_unit_zero (S := S512x512) hz2, View.ld_unit_zero (S := S1x512) hz2, (hs0_9 t).read_unread]

/-! ## Those values, in the argument arrays -/

/-- Entry `(r, j)` of the cotangent of the two branches side by side. -/
def dv (r j : Nat) : EReal := ∑ q : Fin 1024, rd (aD m c) r q.val * rd (aW m c) j q.val

variable (X : S4096x512.Idx → EReal) (G : S1x512.Idx → EReal) (o : Nat)

/-- Entry `(r, k)` of the gradient of a branch `X` with the gain `G`, whose columns begin at `o`. -/
def gx (r k : Nat) : EReal :=
  dxK cN cE (fun j : Fin 512 => rd X r j.val) (fun j : Fin 512 => dv m c r (o + j.val) * rd G 0 j.val) ⟨k % 512, Nat.mod_lt _ (by decide)⟩

/-- The term row `r` adds to entry `k` of the gradient of that branch's gain. -/
def gterm (k r : Nat) : EReal := dv m c r (o + k) * (rd X r k * ri cN cE (fun j : Fin 512 => rd X r j.val))

theorem db_eq (r : Fin 512) (j : Fin 1024) : db (iblk m c 0 t) (iblk m c 1 t) r j = dv m c (512 * t.val + r.val) j.val := by
  unfold db
  simp only [iblk_0, iblk_1]
  rfl

theorem dlo_eq (r k : Fin 512) : db (iblk m c 0 t) (iblk m c 1 t) r (lo k) = dv m c (512 * t.val + r.val) (0 + k.val) :=
  (db_eq m c t r (lo k)).trans (congrArg (dv m c _) (Nat.zero_add _).symm)

theorem dhi_eq (r k : Fin 512) : db (iblk m c 0 t) (iblk m c 1 t) r (hi k) = dv m c (512 * t.val + r.val) (512 + k.val) :=
  db_eq m c t r (hi k)

theorem mod_eq (k : Fin 512) : (⟨k.val % 512, Nat.mod_lt _ (by decide)⟩ : Fin 512) = k := Fin.ext (Nat.mod_eq_of_lt k.isLt)

theorem out6 (r : Fin 512) (k : Fin 512) : (outsAt0 m c t.val t.isLt).1 (ix2 r k) = gx m c (aA m c) (aGa m c) 0 (512 * t.val + r.val) k.val := by
  rw [left6, pay13_eq]
  simp only [dlo_eq, iblk_2, iblk_4]
  unfold gx
  rw [mod_eq]
  rfl

theorem out7 (r : Fin 512) (k : Fin 512) : (outsAt0 m c t.val t.isLt).2.1 (ix2 r k) = gx m c (aS m c) (aGs m c) 512 (512 * t.val + r.val) k.val := by
  rw [left7, pay5_eq]
  simp only [dhi_eq, iblk_3, iblk_5]
  unfold gx
  rw [mod_eq]
  rfl

/-- After point `n` the gradient of the first gain holds the terms of the rows below `512 * (n + 1)`. -/
theorem out8 : ∀ (n : Nat) (hn : n < cfg0.N) (k : Fin 512),
    (outsAt0 m c n hn).2.2.1 (ix2 (0 : Fin 1) k) = ∑ b : Fin (n + 1), ∑ r : Fin 512, gterm m c (aA m c) 0 k.val (512 * b.val + r.val) := by
  intro n
  induction n with
  | zero =>
    intro hn k
    refine (congrFun (left8_first m c ⟨0, hn⟩ rfl) _).trans ?_
    rw [pay1_eq]
    simp only [dlo_eq, iblk_2]
    rw [Fin.sum_univ_one]
    refine (congrArg₂ (· + ·) (show k0_pay7 (F := Ideal) (ix2 (0 : Fin 1) k) = 0 from ?_) rfl).trans (zero_add _)
    unfold k0_pay7
    pointwise
  | succ n ih =>
    intro hn k
    have hN : cfg0.N = 8 := N_0
    refine (congrFun (left8_next m c ⟨n + 1, hn⟩ (show ¬ (n + 1) % 8 = 0 by omega)) _).trans ?_
    rw [pay1_eq]
    simp only [dlo_eq, iblk_2]
    rw [Fin.sum_univ_castSucc (n := n + 1)]
    exact congrArg₂ (· + ·) (ih (Nat.lt_of_succ_lt hn) k) rfl

/-- After point `n` the gradient of the second gain holds the terms of the rows below `512 * (n + 1)`. -/
theorem out9 : ∀ (n : Nat) (hn : n < cfg0.N) (k : Fin 512),
    (outsAt0 m c n hn).2.2.2 (ix2 (0 : Fin 1) k) = ∑ b : Fin (n + 1), ∑ r : Fin 512, gterm m c (aS m c) 512 k.val (512 * b.val + r.val) := by
  intro n
  induction n with
  | zero =>
    intro hn k
    refine (congrFun (left9_first m c ⟨0, hn⟩ rfl) _).trans ?_
    rw [pay6_eq]
    simp only [dhi_eq, iblk_3]
    rw [Fin.sum_univ_one]
    refine (congrArg₂ (· + ·) (show k0_pay8 (F := Ideal) (ix2 (0 : Fin 1) k) = 0 from ?_) rfl).trans (zero_add _)
    unfold k0_pay8
    pointwise
  | succ n ih =>
    intro hn k
    have hN : cfg0.N = 8 := N_0
    refine (congrFun (left9_next m c ⟨n + 1, hn⟩ (show ¬ (n + 1) % 8 = 0 by omega)) _).trans ?_
    rw [pay6_eq]
    simp only [dhi_eq, iblk_3]
    rw [Fin.sum_univ_castSucc (n := n + 1)]
    exact congrArg₂ (· + ·) (ih (Nat.lt_of_succ_lt hn) k) rfl

end Cert.MixBwd

end
-- ==== Proof.MixBwd.Array.lean ====
/- What the gradient through the output projection and the branches' norms leaves in its four results. -/
module

public import proofs.«01_k».proof.Proof.MixBwd.Block
public import Idealize.ShloMosaic.Lib.Pipeline.Value

@[expose] public section

noncomputable section

namespace Cert.MixBwd

open Idealize.ShloMosaic Idealize.ShloMosaic.TcCoe Idealize.ShloMosaic.Pipeline Idealize.SL.Sem
open Cert.Kernel8Ideal Cert.Kernel8Ideal.Gen Cert.Rows

variable (m : (ℓ : Loc nD τ sig) → Buf (Elt Ideal) ℓ) (c : Dev nD) (ρ : Dev nD → PrngReg)

/-- The gradient of a branch `X` with the gain `G`, whose columns begin at `o`. -/
def GX (X : S4096x512.Idx → EReal) (G : S1x512.Idx → EReal) (o : Nat) (i : S4096x512.Idx) : EReal := gx m c X G o (i 0).val (i 1).val

/-- The gradient of that branch's gain. -/
def GG (X : S4096x512.Idx → EReal) (o : Nat) (i : S1x512.Idx) : EReal := ∑ r : Fin 4096, gterm m c X o (i 1).val r.val

/-- The four results. -/
abbrev DA : S4096x512.Idx → EReal := GX m c (aA m c) (aGa m c) 0
abbrev DS : S4096x512.Idx → EReal := GX m c (aS m c) (aGs m c) 512
abbrev DGa : S1x512.Idx → EReal := GG m c (aA m c) 0
abbrev DGs : S1x512.Idx → EReal := GG m c (aS m c) 512

theorem flushed6 (t : Fin cfg0.N) : (dats m 0 c).flushed 6 t = (win0_6.blk t).view.read (Elt Ideal) (DA m c) := by
  funext y
  obtain ⟨r, k, rfl⟩ : ∃ (r : Fin 512) (k : Fin 512), y = ix2 r k := ⟨y 0, y 1, ValueIdx.eq_ix2 y⟩
  refine ((congrFun (after0_6 m c t) (ix2 r k)).trans (out6 m c t r k)).trans ?_
  show _ = DA m c ((win0_6.rect t).emb (ix2 r k))
  obtain ⟨e0, e1⟩ := index_6 t
  have i0 := (win0_6.rect_emb_val t (ix2 r k) 0).trans (congrArg (· * 512 + r.val) e0)
  have i1 := (win0_6.rect_emb_val t (ix2 r k) 1).trans (congrArg (· * 512 + k.val) e1)
  refine congrArg₂ (gx m c _ _ _) ?_ ?_
  · rw [i0]; omega
  · rw [i1]; omega

theorem flushed7 (t : Fin cfg0.N) : (dats m 0 c).flushed 7 t = (win0_7.blk t).view.read (Elt Ideal) (DS m c) := by
  funext y
  obtain ⟨r, k, rfl⟩ : ∃ (r : Fin 512) (k : Fin 512), y = ix2 r k := ⟨y 0, y 1, ValueIdx.eq_ix2 y⟩
  refine ((congrFun (after0_7 m c t) (ix2 r k)).trans (out7 m c t r k)).trans ?_
  show _ = DS m c ((win0_7.rect t).emb (ix2 r k))
  obtain ⟨e0, e1⟩ := index_7 t
  have i0 := (win0_7.rect_emb_val t (ix2 r k) 0).trans (congrArg (· * 512 + r.val) e0)
  have i1 := (win0_7.rect_emb_val t (ix2 r k) 1).trans (congrArg (· * 512 + k.val) e1)
  refine congrArg₂ (gx m c _ _ _) ?_ ?_
  · rw [i0]; omega
  · rw [i1]; omega

theorem gain_congr (X : S4096x512.Idx → EReal) (o : Nat) {k : Nat} {i : S1x512.Idx} (h : (i 1).val = k) : ∑ r : Fin 4096, gterm m c X o k r.val = GG m c X o i := by
  unfold GG
  rw [h]

theorem flushed8 (t : Fin cfg0.N) (hf : (cfg0.win 8).flush t = true) : (dats m 0 c).flushed 8 t = (win0_8.blk t).view.read (Elt Ideal) (DGa m c) := by
  have h8 : t.val + 1 = 8 := by
    have h := (flush0_8 t).mp hf
    have hN : t.val < 8 := lt_of_lt_of_eq t.isLt N_0
    omega
  funext y
  obtain ⟨r, k, rfl⟩ : ∃ (r : Fin 1) (k : Fin 512), y = ix2 r k := ⟨y 0, y 1, ValueIdx.eq_ix2 y⟩
  obtain rfl : r = 0 := Subsingleton.elim _ _
  refine ((congrFun (after0_8 m c t) (ix2 (0 : Fin 1) k)).trans (out8 m c t.val t.isLt k)).trans ?_
  rw [h8]
  refine (sum_blocks 8 512 (gterm m c (aA m c) 0 k.val)).trans ?_
  obtain ⟨-, e1⟩ := index_8 t
  have i1 := (win0_8.rect_emb_val t (ix2 (0 : Fin 1) k) 1).trans (congrArg (· * 512 + k.val) e1)
  exact gain_congr m c (aA m c) 0 (i := (win0_8.rect t).emb (ix2 (0 : Fin 1) k)) (i1.trans (by omega))

theorem flushed9 (t : Fin cfg0.N) (hf : (cfg0.win 9).flush t = true) : (dats m 0 c).flushed 9 t = (win0_9.blk t).view.read (Elt Ideal) (DGs m c) := by
  have h8 : t.val + 1 = 8 := by
    have h := (flush0_9 t).mp hf
    have hN : t.val < 8 := lt_of_lt_of_eq t.isLt N_0
    omega
  funext y
  obtain ⟨r, k, rfl⟩ : ∃ (r : Fin 1) (k : Fin 512), y = ix2 r k := ⟨y 0, y 1, ValueIdx.eq_ix2 y⟩
  obtain rfl : r = 0 := Subsingleton.elim _ _
  refine ((congrFun (after0_9 m c t) (ix2 (0 : Fin 1) k)).trans (out9 m c t.val t.isLt k)).trans ?_
  rw [h8]
  refine (sum_blocks 8 512 (gterm m c (aS m c) 512 k.val)).trans ?_
  obtain ⟨-, e1⟩ := index_9 t
  have i1 := (win0_9.rect_emb_val t (ix2 (0 : Fin 1) k) 1).trans (congrArg (· * 512 + k.val) e1)
  exact gain_congr m c (aS m c) 512 (i := (win0_9.rect t).emb (ix2 (0 : Fin 1) k)) (i1.trans (by omega))

/-! ## The arrays after the run -/

theorem point (a : Nat) (ha : a < 8) : ∃ t : Fin cfg0.N, t.val = a := ⟨⟨a, by rw [show cfg0.N = 8 from N_0]; exact ha⟩, rfl⟩

theorem cover6 (i : S4096x512.Idx) : ∃ t : Fin cfg0.N, (cfg0.win 6).flush t = true ∧ i ∈ ((cfg0.win 6).blk t).view.set := by
  have h0 : (i 0).val < 4096 := (i 0).isLt
  have h1 : (i 1).val < 512 := (i 1).isLt
  obtain ⟨t, ha⟩ := point ((i 0).val / 512) (by omega)
  obtain ⟨e0, e1⟩ := index_6 t
  refine ⟨t, flush0_6 t, ?_⟩
  show i ∈ ((View.whole main_v0_0).slice (win0_6.rect t)).set
  rw [View.set_slice_whole, Rect.mem_set_unit]
  intro a
  fin_cases a
  · show (cfg0.win 6).index t 0 * 512 ≤ (i 0).val ∧ (i 0).val < (cfg0.win 6).index t 0 * 512 + 512
    rw [e0]; omega
  · show (cfg0.win 6).index t 1 * 512 ≤ (i 1).val ∧ (i 1).val < (cfg0.win 6).index t 1 * 512 + 512
    rw [e1]; omega

theorem cover7 (i : S4096x512.Idx) : ∃ t : Fin cfg0.N, (cfg0.win 7).flush t = true ∧ i ∈ ((cfg0.win 7).blk t).view.set := by
  have h0 : (i 0).val < 4096 := (i 0).isLt
  have h1 : (i 1).val < 512 := (i 1).isLt
  obtain ⟨t, ha⟩ := point ((i 0).val / 512) (by omega)
  obtain ⟨e0, e1⟩ := index_7 t
  refine ⟨t, flush0_7 t, ?_⟩
  show i ∈ ((View.whole main_v0_1).slice (win0_7.rect t)).set
  rw [View.set_slice_whole, Rect.mem_set_unit]
  intro a
  fin_cases a
  · show (cfg0.win 7).index t 0 * 512 ≤ (i 0).val ∧ (i 0).val < (cfg0.win 7).index t 0 * 512 + 512
    rw [e0]; omega
  · show (cfg0.win 7).index t 1 * 512 ≤ (i 1).val ∧ (i 1).val < (cfg0.win 7).index t 1 * 512 + 512
    rw [e1]; omega

theorem cover8 (i : S1x512.Idx) : ∃ t : Fin cfg0.N, (cfg0.win 8).flush t = true ∧ i ∈ ((cfg0.win 8).blk t).view.set := by
  have h0 : (i 0).val < 1 := (i 0).isLt
  have h1 : (i 1).val < 512 := (i 1).isLt
  obtain ⟨t, ha⟩ := point 7 (by omega)
  obtain ⟨e0, e1⟩ := index_8 t
  refine ⟨t, (flush0_8 t).mpr (by omega), ?_⟩
  show i ∈ ((View.whole main_v0_2).slice (win0_8.rect t)).set
  rw [View.set_slice_whole, Rect.mem_set_unit]
  intro a
  fin_cases a
  · show (cfg0.win 8).index t 0 * 1 ≤ (i 0).val ∧ (i 0).val < (cfg0.win 8).index t 0 * 1 + 1
    rw [e0]; omega
  · show (cfg0.win 8).index t 1 * 512 ≤ (i 1).val ∧ (i 1).val < (cfg0.win 8).index t 1 * 512 + 512
    rw [e1]; omega

theorem cover9 (i : S1x512.Idx) : ∃ t : Fin cfg0.N, (cfg0.win 9).flush t = true ∧ i ∈ ((cfg0.win 9).blk t).view.set := by
  have h0 : (i 0).val < 1 := (i 0).isLt
  have h1 : (i 1).val < 512 := (i 1).isLt
  obtain ⟨t, ha⟩ := point 7 (by omega)
  obtain ⟨e0, e1⟩ := index_9 t
  refine ⟨t, (flush0_9 t).mpr (by omega), ?_⟩
  show i ∈ ((View.whole main_v0_3).slice (win0_9.rect t)).set
  rw [View.set_slice_whole, Rect.mem_set_unit]
  intro a
  fin_cases a
  · show (cfg0.win 9).index t 0 * 1 ≤ (i 0).val ∧ (i 0).val < (cfg0.win 9).index t 0 * 1 + 1
    rw [e0]; omega
  · show (cfg0.win 9).index t 1 * 512 ≤ (i 1).val ∧ (i 1).val < (cfg0.win 9).index t 1 * 512 + 512
    rw [e1]; omega

/-- The gradient of the attention branch, after the run. -/
theorem final6 : (dats m 0 c).arrAt 6 cfg0.N = DA m c :=
  (dats m 0 c).arrAt_eq_of_cover 6 (DA m c) (fun t _ => flushed6 m c t) cover6

/-- The gradient of the state-space branch, after the run. -/
theorem final7 : (dats m 0 c).arrAt 7 cfg0.N = DS m c :=
  (dats m 0 c).arrAt_eq_of_cover 7 (DS m c) (fun t _ => flushed7 m c t) cover7

/-- The gradient of the first gain, after the run. -/
theorem final8 : (dats m 0 c).arrAt 8 cfg0.N = DGa m c :=
  (dats m 0 c).arrAt_eq_of_cover 8 (DGa m c) (fun t hf => flushed8 m c t hf) cover8

/-- The gradient of the second gain, after the run. -/
theorem final9 : (dats m 0 c).arrAt 9 cfg0.N = DGs m c :=
  (dats m 0 c).arrAt_eq_of_cover 9 (DGs m c) (fun t hf => flushed9 m c t hf) cover9

/-- The run: the four results at the closed form, the arguments unchanged. -/
theorem run : θ_run defs (onTc (τ := τ) (main (F := Ideal))) ⟨m, fun _ => 0, ρ⟩ fun r => ∀ c : Dev nD,
      r.2.mem ((c : Thread nD τ).loc main_v0_0) = DA m c
      ∧ r.2.mem ((c : Thread nD τ).loc main_v0_1) = DS m c
      ∧ r.2.mem ((c : Thread nD τ).loc main_v0_2) = DGa m c
      ∧ r.2.mem ((c : Thread nD τ).loc main_v0_3) = DGs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final6 m c), (h c).2.1.trans (final7 m c), (h c).2.2.1.trans (final8 m c), (h c).2.2.2.1.trans (final9 m c), (h c).2.2.2.2⟩)
    (Cert.Kernel8Ideal.Value.run_blocks m ρ)

end Cert.MixBwd

end
-- ==== Proof.MixBwd.Reference.lean ====
/- The derivative of the two branches' norms and the output projection, as the reference computes it, read at an index. -/
module

public import proofs.«01_k».proof.Proof.NormBwd.Math
public import proofs.«01_k».proof.Proof.Gen.Reference8Ideal.Read

@[expose] public section

noncomputable section

namespace Cert.MixBwd.Ref

open Idealize.ShloMosaic Cert.Reference8Ideal Cert.Reference8Ideal.Gen Cert.Reference8Ideal.Read Cert.Rows Cert.NormBwd

variable (D : S4096x1024.Idx → EReal) (W : S1024x1024.Idx → EReal) (A S : S4096x512.Idx → EReal) (Ga Gs : S1x512.Idx → EReal)

abbrev cN : EReal := Ideal.ofBits .f32 0x44000000#32
abbrev cE : EReal := Ideal.ofBits .f32 0x358637BD#32
abbrev cH : EReal := Ideal.ofBits .f32 0xBF000000#32

/-- The cotangent of the two branches side by side. -/
def dy (r : Fin 4096) (j : Fin 1024) : EReal := ∑ q : Fin 1024, D (ix2 r q) * W (ix2 j q)

/-- A column of the first and of the second half. -/
def lo (k : Fin 512) : Fin 1024 := ⟨0 + k.val, by have := k.isLt; omega⟩
def hi (k : Fin 512) : Fin 1024 := ⟨512 + k.val, by have := k.isLt; omega⟩

theorem dy_eq (r : Fin 4096) (j : Fin 1024) : val_main_v34 (F := Ideal) D W (ix2 r j) = dy D W r j := by
  unfold val_main_v34 val_main_v33 val_main_v31
  pointwise
  rfl

theorem dlo_eq (r : Fin 4096) (k : Fin 512) : val_main_v35 (F := Ideal) D W (ix2 r k) = dy D W r (lo k) := by
  refine Eq.trans ?_ (dy_eq D W r (lo k))
  unfold val_main_v35
  exact congrArg (val_main_v34 (F := Ideal) D W) (funext fun a => Fin.ext (by fin_cases a <;> simp [lo]))

theorem dhi_eq (r : Fin 4096) (k : Fin 512) : val_main_v36 (F := Ideal) D W (ix2 r k) = dy D W r (hi k) := by
  refine Eq.trans ?_ (dy_eq D W r (hi k))
  unfold val_main_v36
  exact congrArg (val_main_v34 (F := Ideal) D W) (funext fun a => Fin.ext (by fin_cases a <;> simp [hi]))

/-! ## The attention branch -/

theorem msA_eq (r : Fin 4096) (c : Fin 1) : val_main_v6 (F := Ideal) A (ix2 r c) = ms cN cE (fun j => A (ix2 r j)) := by
  unfold val_main_v6 val_main_v5 val_main_v4 val_main_v3 val_main_v2 val_main_v1 val_main_v0 val_main_cst val_main_cst_0 val_main_cst_1
  pointwise
  rfl

theorem backA_eq (r : Fin 4096) (c : Fin 512) :
    val_main_v70 (F := Ideal) D W A Ga (ix2 r c) = back cN cE cH (fun j => A (ix2 r j)) (fun j => dy D W r (lo j) * Ga (ix2 0 j)) := by
  unfold val_main_v70 val_main_v69 val_main_v68 val_main_v67 val_main_v66 val_main_v63 val_main_v62 val_main_v61 val_main_v60 val_main_v59 val_main_v10 val_main_v9 val_main_v8 val_main_v7 val_main_cst_2 val_main_cst_12 val_main_cst_13 val_main_cst_14
  pointwise
  simp only [msA_eq, dlo_eq]
  exact Fin.sum_univ_one _

theorem da_eq (r : Fin 4096) (c : Fin 512) : val_main_v74 (F := Ideal) D W A Ga (ix2 r c)
    = dxR cN cE cH (fun j => A (ix2 r j)) (fun j => dy D W r (lo j) * Ga (ix2 0 j)) c := by
  unfold val_main_v74 val_main_v73 val_main_v72 val_main_v71 val_main_v65 val_main_v64 val_main_v60 val_main_v59 val_main_v7
  pointwise
  simp only [msA_eq, dlo_eq, backA_eq]
  rfl

theorem dga_eq (r : Fin 1) (c : Fin 512) : val_main_v58 (F := Ideal) D W A (ix2 r c)
    = ∑ i : Fin 4096, A (ix2 i c) * ri cN cE (fun j => A (ix2 i j)) * dy D W i (lo c) := by
  unfold val_main_v58 val_main_v57 val_main_v56 val_main_v12 val_main_v11 val_main_v7 val_main_cst_11
  pointwise
  simp only [msA_eq, dlo_eq]
  rfl

/-! ## The state-space branch -/

theorem msS_eq (r : Fin 4096) (c : Fin 1) : val_main_v21 (F := Ideal) S (ix2 r c) = ms cN cE (fun j => S (ix2 r j)) := by
  unfold val_main_v21 val_main_v20 val_main_v19 val_main_v18 val_main_v17 val_main_v16 val_main_v15 val_main_cst_3 val_main_cst_4 val_main_cst_5
  pointwise
  rfl

theorem backS_eq (r : Fin 4096) (c : Fin 512) :
    val_main_v51 (F := Ideal) D W S Gs (ix2 r c) = back cN cE cH (fun j => S (ix2 r j)) (fun j => dy D W r (hi j) * Gs (ix2 0 j)) := by
  unfold val_main_v51 val_main_v50 val_main_v49 val_main_v48 val_main_v47 val_main_v44 val_main_v43 val_main_v42 val_main_v41 val_main_v40 val_main_v25 val_main_v24 val_main_v23 val_main_v22 val_main_cst_6 val_main_cst_8 val_main_cst_9 val_main_cst_10
  pointwise
  simp only [msS_eq, dhi_eq]
  exact Fin.sum_univ_one _

theorem ds_eq (r : Fin 4096) (c : Fin 512) : val_main_v55 (F := Ideal) D W S Gs (ix2 r c)
    = dxR cN cE cH (fun j => S (ix2 r j)) (fun j => dy D W r (hi j) * Gs (ix2 0 j)) c := by
  unfold val_main_v55 val_main_v54 val_main_v53 val_main_v52 val_main_v46 val_main_v45 val_main_v41 val_main_v40 val_main_v22
  pointwise
  simp only [msS_eq, dhi_eq, backS_eq]
  rfl

theorem dgs_eq (r : Fin 1) (c : Fin 512) : val_main_v39 (F := Ideal) D W S (ix2 r c)
    = ∑ i : Fin 4096, S (ix2 i c) * ri cN cE (fun j => S (ix2 i j)) * dy D W i (hi c) := by
  unfold val_main_v39 val_main_v38 val_main_v37 val_main_v27 val_main_v26 val_main_v22 val_main_cst_7
  pointwise
  simp only [msS_eq, dhi_eq]
  rfl

end Cert.MixBwd.Ref

end
-- ==== Proof.MixBwd.Equal.lean ====
/- The gradient through the output projection and the branches' norms against the derivative: the same four arrays. -/
module

public import proofs.«01_k».proof.Proof.MixBwd.Array
public import proofs.«01_k».proof.Proof.MixBwd.Reference

@[expose] public section

noncomputable section

namespace Cert.MixBwd

open Idealize.ShloMosaic Idealize.ShloMosaic.TcCoe Cert.Rows Cert.NormBwd

open Cert.Kernel8Ideal

variable (m : (ℓ : Loc nD τ sig) → Buf (Elt Ideal) ℓ) (c : Dev nD)

theorem bits_512 : cN = ((512 : ℝ) : EReal) := by
  simp [Ideal.ofBits, Ideal.ieee, -EReal.coe_mul]; norm_num

theorem dv_eq (r : Fin 4096) (j : Fin 1024) : dv m c r.val j.val = Ref.dy (aD m c) (aW m c) r j := by
  unfold dv Ref.dy
  simp only [← eq_rd]

/-- A branch's gradient in the derivative's form; `col` is where its columns lie. -/
theorem GX_eq (X : S4096x512.Idx → EReal) (G : S1x512.Idx → EReal) (o : Nat) (col : Fin 512 → Fin 1024) (hcol : ∀ k, (col k).val = o + k.val)
    (r : Fin 4096) (k : Fin 512) : GX m c X G o (ix2 r k)
      = dxR Ref.cN Ref.cE Ref.cH (fun j => X (ix2 r j)) (fun j => Ref.dy (aD m c) (aW m c) r (col j) * G (ix2 0 j)) k := by
  obtain ⟨e, he, hE⟩ := bits_eps
  have hx : (fun j : Fin 512 => rd X r.val j.val) = fun j => X (ix2 r j) := funext fun j => (eq_rd _ r j).symm
  have hu : (fun j : Fin 512 => dv m c r.val (o + j.val) * rd G 0 j.val) = fun j => Ref.dy (aD m c) (aW m c) r (col j) * G (ix2 0 j) :=
    funext fun j => congrArg₂ (· * ·) (by rw [← hcol]; exact dv_eq m c r (col j)) (eq_rd G 0 j).symm
  show dxK cN cE (fun j : Fin 512 => rd X r.val j.val) (fun j : Fin 512 => dv m c r.val (o + j.val) * rd G 0 j.val) ⟨k.val % 512, Nat.mod_lt _ (by decide)⟩ = _
  rw [hx, hu, mod_eq]
  exact dx_eq bits_512 hE bits_half (by norm_num) he _ _ k

/-- A gain's gradient in the derivative's form. -/
theorem GG_eq (X : S4096x512.Idx → EReal) (o : Nat) (col : Fin 512 → Fin 1024) (hcol : ∀ k, (col k).val = o + k.val) (r : Fin 1) (k : Fin 512) :
    GG m c X o (ix2 r k) = ∑ i : Fin 4096, X (ix2 i k) * ri Ref.cN Ref.cE (fun j => X (ix2 i j)) * Ref.dy (aD m c) (aW m c) i (col k) := by
  refine Finset.sum_congr rfl fun i _ => ?_
  show dv m c i.val (o + k.val) * (rd X i.val k.val * ri cN cE (fun j : Fin 512 => rd X i.val j.val)) = _
  rw [← hcol, dv_eq, ← eq_rd]
  simp only [← eq_rd]
  exact mul_comm _ _

theorem lo_val (k : Fin 512) : (Ref.lo k).val = 0 + k.val := rfl
theorem hi_val (k : Fin 512) : (Ref.hi k).val = 512 + k.val := rfl

end Cert.MixBwd

end
-- ==== Proof.Products.Whole.lean ====
/- The gradients of the output projection's and the gated linear unit's weights, each one product in one grid point. -/
module

public import proofs.«01_k».proof.Proof.Rows
public import proofs.«01_k».proof.Proof.Gen.Kernel9Ideal.Value
public import proofs.«01_k».proof.Proof.Gen.Kernel11Ideal.Value
public import proofs.«01_k».proof.Proof.Gen.Reference9Ideal.Run
public import proofs.«01_k».proof.Proof.Gen.Reference11Ideal.Run

@[expose] public section

noncomputable section

namespace Cert.Products.Whole

open Idealize.ShloMosaic

open Cert.Reference9Ideal.Gen in
/-- The derivative of the product of the output projection is what the call leaves. -/
theorem out (A D : Cert.Kernel9Ideal.S4096x1024.Idx → EReal) :
    transpose Cert.Reference9Ideal.S1024x1024 [1, 0] (Host.dotGeneral (F := Ideal) Cert.Reference9Ideal.dot_S4096x1024_S4096x1024_S1024x1024_0_0_1_1_n_n none
      (extf (F := Ideal) (s := Cert.Reference9Ideal.S4096x1024) .f32 D bitsLt_bf16_f32) (extf (F := Ideal) (s := Cert.Reference9Ideal.S4096x1024) .f32 A bitsLt_bf16_f32))
      transposes_S1024x1024_S1024x1024_1_0
      = Cert.Kernel9Ideal.Value.G2 (F := Ideal) A D := by
  funext i
  rw [eq_ix2 i]
  generalize i 0 = k
  generalize i 1 = q
  have hl : transpose Cert.Reference9Ideal.S1024x1024 [1, 0] (Host.dotGeneral (F := Ideal) Cert.Reference9Ideal.dot_S4096x1024_S4096x1024_S1024x1024_0_0_1_1_n_n none
      (extf (F := Ideal) (s := Cert.Reference9Ideal.S4096x1024) .f32 D bitsLt_bf16_f32) (extf (F := Ideal) (s := Cert.Reference9Ideal.S4096x1024) .f32 A bitsLt_bf16_f32))
      transposes_S1024x1024_S1024x1024_1_0 (ix2 k q) = ∑ r : Fin 4096, D (ix2 r q) * A (ix2 r k) := by
    pointwise
  have hr : Cert.Kernel9Ideal.Gen.k0_pay1 (F := Ideal) A D (ix2 k q) = ∑ r : Fin 4096, A (ix2 r k) * D (ix2 r q) := by
    unfold Cert.Kernel9Ideal.Gen.k0_pay1
    pointwise
  exact hl.trans ((Finset.sum_congr rfl fun r _ => mul_comm _ _).trans hr.symm)

open Cert.Reference11Ideal.Gen in
/-- The derivative of the product of the gated linear unit is what the call leaves. -/
theorem glu (A D : Cert.Kernel11Ideal.S4096x512.Idx → EReal) :
    transpose Cert.Reference11Ideal.S512x512 [1, 0] (Host.dotGeneral (F := Ideal) Cert.Reference11Ideal.dot_S4096x512_S4096x512_S512x512_0_0_1_1_n_n none
      (extf (F := Ideal) (s := Cert.Reference11Ideal.S4096x512) .f32 D bitsLt_bf16_f32) (extf (F := Ideal) (s := Cert.Reference11Ideal.S4096x512) .f32 A bitsLt_bf16_f32))
      transposes_S512x512_S512x512_1_0
      = Cert.Kernel11Ideal.Value.G2 (F := Ideal) A D := by
  funext i
  rw [eq_ix2 i]
  generalize i 0 = k
  generalize i 1 = q
  have hl : transpose Cert.Reference11Ideal.S512x512 [1, 0] (Host.dotGeneral (F := Ideal) Cert.Reference11Ideal.dot_S4096x512_S4096x512_S512x512_0_0_1_1_n_n none
      (extf (F := Ideal) (s := Cert.Reference11Ideal.S4096x512) .f32 D bitsLt_bf16_f32) (extf (F := Ideal) (s := Cert.Reference11Ideal.S4096x512) .f32 A bitsLt_bf16_f32))
      transposes_S512x512_S512x512_1_0 (ix2 k q) = ∑ r : Fin 4096, D (ix2 r q) * A (ix2 r k) := by
    pointwise
  have hr : Cert.Kernel11Ideal.Gen.k0_pay1 (F := Ideal) A D (ix2 k q) = ∑ r : Fin 4096, A (ix2 r k) * D (ix2 r q) := by
    unfold Cert.Kernel11Ideal.Gen.k0_pay1
    pointwise
  exact hl.trans ((Finset.sum_congr rfl fun r _ => mul_comm _ _).trans hr.symm)

end Cert.Products.Whole

end
-- ==== Proof.Products.InDw.lean ====
/- The gradient of the input projection's weights, transposed: what the call leaves, against the derivative of the product. -/
module

public import proofs.«01_k».proof.Proof.Rows
public import proofs.«01_k».proof.Proof.Gen.Kernel10Ideal.Value
public import proofs.«01_k».proof.Proof.Gen.Reference10Ideal.Run
public import Idealize.ShloMosaic.Lib.Pipeline.Value

@[expose] public section

noncomputable section

namespace Cert.Products.InDw

open Idealize.ShloMosaic Idealize.ShloMosaic.TcCoe Idealize.ShloMosaic.Pipeline Idealize.SL.Sem
open Cert.Kernel10Ideal Cert.Kernel10Ideal.Gen Cert.Rows

variable (m : (ℓ : Loc nD τ sig) → Buf (Elt Ideal) ℓ) (c : Dev nD) (ρ : Dev nD → PrngReg) (t : Fin cfg0.N)

abbrev aP : S4096x1280.Idx → EReal := m ((c : Thread nD τ).loc main_arg0)
abbrev aH : S4096x1024.Idx → EReal := m ((c : Thread nD τ).loc main_arg1)

theorem index_0 : ∀ t : Fin cfg0.N, (cfg0.win 0).index t 0 = 0 ∧ (cfg0.win 0).index t 1 = t.val := by decide +kernel
theorem index_1 : ∀ t : Fin cfg0.N, (cfg0.win 1).index t 0 = 0 ∧ (cfg0.win 1).index t 1 = 0 := by decide +kernel
theorem index_2 : ∀ t : Fin cfg0.N, (cfg0.win 2).index t 0 = t.val ∧ (cfg0.win 2).index t 1 = 0 := by decide +kernel

theorem iblk_0 (r : Fin 4096) (k : Fin 256) : iblk m c 0 t (ix2 r k) = rd (aP m c) r.val (k.val + 256 * t.val) :=
  (rd_of_emb (V m c main_arg0) (((cfg0.win 0).rect t).emb (ix2 r k))
    (((cfg0.win 0).rect_emb_val t (ix2 r k) 0).trans ((congrArg (· * 4096 + r.val) (index_0 t).1).trans (show 0 * 4096 + r.val = r.val by omega)))
    (((cfg0.win 0).rect_emb_val t (ix2 r k) 1).trans ((congrArg (· * 256 + k.val) (index_0 t).2).trans (show t.val * 256 + k.val = k.val + 256 * t.val by omega)))).trans
    (congrArg (fun X : S4096x1280.Idx → EReal => rd X _ _) (V_main_arg0 m c))

theorem iblk_1 (r : Fin 4096) (k : Fin 1024) : iblk m c 1 t (ix2 r k) = rd (aH m c) r.val k.val :=
  (rd_of_emb (V m c main_arg1) (((cfg0.win 1).rect t).emb (ix2 r k))
    (((cfg0.win 1).rect_emb_val t (ix2 r k) 0).trans ((congrArg (· * 4096 + r.val) (index_1 t).1).trans (show 0 * 4096 + r.val = r.val by omega)))
    (((cfg0.win 1).rect_emb_val t (ix2 r k) 1).trans ((congrArg (· * 1024 + k.val) (index_1 t).2).trans (show 0 * 1024 + k.val = k.val by omega)))).trans
    (congrArg (fun X : S4096x1024.Idx → EReal => rd X _ _) (V_main_arg1 m c))

/-- Entry `(k, q)` of the gradient. -/
def grad (k q : Nat) : EReal := ∑ r : Fin 4096, rd (aP m c) r.val k * rd (aH m c) r.val q

/-- The result's array. -/
def G (i : S1280x1024.Idx) : EReal := grad m c (i 0).val (i 1).val

private theorem hz2 : (![0, 0] : Fin 2 → Nat) = fun _ => 0 := by decide

theorem out (k : Fin 256) (q : Fin 1024) : (dats m 0 c).after 2 t (ix2 k q) = grad m c (k.val + 256 * t.val) q.val := by
  rw [after0_2]
  unfold out0_2
  rw [View.canon_unit_zero hz2, View.ld_unit_zero (S := S4096x256) hz2, View.ld_unit_zero (S := S4096x1024) hz2]
  unfold k0_pay1
  pointwise
  simp only [iblk_0, iblk_1]
  rfl

theorem flushed (t : Fin cfg0.N) : (dats m 0 c).flushed 2 t = (win0_2.blk t).view.read (Elt Ideal) (G m c) := by
  funext y
  obtain ⟨k, q, rfl⟩ : ∃ (k : Fin 256) (q : Fin 1024), y = ix2 k q := ⟨y 0, y 1, ValueIdx.eq_ix2 y⟩
  refine (out m c t k q).trans ?_
  show _ = G m c ((win0_2.rect t).emb (ix2 k q))
  obtain ⟨e0, e1⟩ := index_2 t
  have i0 := (win0_2.rect_emb_val t (ix2 k q) 0).trans (congrArg (· * 256 + k.val) e0)
  have i1 := (win0_2.rect_emb_val t (ix2 k q) 1).trans (congrArg (· * 1024 + q.val) e1)
  refine congrArg₂ (grad m c) ?_ ?_
  · rw [i0]; omega
  · rw [i1]; omega

theorem cover (i : S1280x1024.Idx) : ∃ t : Fin cfg0.N, (cfg0.win 2).flush t = true ∧ i ∈ ((cfg0.win 2).blk t).view.set := by
  have h0 : (i 0).val < 1280 := (i 0).isLt
  have h1 : (i 1).val < 1024 := (i 1).isLt
  have ht : (i 0).val / 256 < 5 := by omega
  let t : Fin cfg0.N := ⟨(i 0).val / 256, by rw [show cfg0.N = 5 from N_0]; exact ht⟩
  obtain ⟨e0, e1⟩ := index_2 t
  have tv : t.val = (i 0).val / 256 := rfl
  refine ⟨t, flush0_2 t, ?_⟩
  show i ∈ ((View.whole main_v0).slice (win0_2.rect t)).set
  rw [View.set_slice_whole, Rect.mem_set_unit]
  intro a
  fin_cases a
  · show (cfg0.win 2).index t 0 * 256 ≤ (i 0).val ∧ (i 0).val < (cfg0.win 2).index t 0 * 256 + 256
    rw [e0, tv]; omega
  · show (cfg0.win 2).index t 1 * 1024 ≤ (i 1).val ∧ (i 1).val < (cfg0.win 2).index t 1 * 1024 + 1024
    rw [e1]; omega

/-- The gradient, after the run. -/
theorem final : (dats m 0 c).arrAt 2 cfg0.N = G m c :=
  (dats m 0 c).arrAt_eq_of_cover 2 (G m c) (fun t _ => flushed m c t) cover

/-- The run: the result at the closed form, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.Kernel10Ideal.Value.run_blocks m ρ)

open Cert.Reference10Ideal.Gen in
/-- The derivative of the product. -/
theorem reference (P : S4096x1280.Idx → EReal) (H : S4096x1024.Idx → EReal) (k : Fin 1280) (q : Fin 1024) :
    transpose Cert.Reference10Ideal.S1280x1024 [1, 0] (transpose Cert.Reference10Ideal.S1024x1280 [1, 0]
      (Host.dotGeneral (F := Ideal) Cert.Reference10Ideal.dot_S4096x1280_S4096x1024_S1280x1024_0_0_1_1_n_n none
        (extf (F := Ideal) (s := S4096x1280) .f32 P bitsLt_bf16_f32) (extf (F := Ideal) (s := S4096x1024) .f32 H bitsLt_bf16_f32))
      transposes_S1280x1024_S1024x1280_1_0) transposes_S1024x1280_S1280x1024_1_0 (ix2 k q)
      = ∑ r : Fin 4096, P (ix2 r k) * H (ix2 r q) := by
  pointwise

open Cert.Reference10Ideal.Gen in
/-- The call's result is the derivative. -/
theorem result (k : Fin 1280) (q : Fin 1024) :
    transpose Cert.Reference10Ideal.S1280x1024 [1, 0] (transpose Cert.Reference10Ideal.S1024x1280 [1, 0]
      (Host.dotGeneral (F := Ideal) Cert.Reference10Ideal.dot_S4096x1280_S4096x1024_S1280x1024_0_0_1_1_n_n none
        (extf (F := Ideal) (s := S4096x1280) .f32 (aP m c) bitsLt_bf16_f32) (extf (F := Ideal) (s := S4096x1024) .f32 (aH m c) bitsLt_bf16_f32))
      transposes_S1280x1024_S1024x1280_1_0) transposes_S1024x1280_S1280x1024_1_0 (ix2 k q)
      = G m c (ix2 k q) :=
  (reference (aP m c) (aH m c) k q).trans (Finset.sum_congr rfl fun r _ => congrArg₂ (· * ·) (eq_rd (aP m c) r k) (eq_rd (aH m c) r q))

end Cert.Products.InDw

end
-- ==== Proof.MixOut.Block.lean ====
/- What each grid point of the output projection, with the branches' norms before it and the next norm after it, leaves in its output blocks. -/
module

public import proofs.«01_k».proof.Proof.NormBwd.Math
public import proofs.«01_k».proof.Proof.Gen.Kernel12Ideal.Value

@[expose] public section

noncomputable section

namespace Cert.MixOut

open Idealize.ShloMosaic Idealize.ShloMosaic.TcCoe Idealize.ShloMosaic.Pipeline
open Cert.Kernel12Ideal Cert.Kernel12Ideal.Gen Cert.Rows Cert.NormBwd

/-- The length of a branch's row, the length of the whole row, the small constant. -/
abbrev cM : EReal := Ideal.ofBits .f32 0x44000000#32
abbrev cN : EReal := Ideal.ofBits .f32 0x44800000#32
abbrev cE : EReal := Ideal.ofBits .f32 0x358637BD#32

/-! ## The payloads, read at an index -/

section

variable (a s : S512x512.Idx → EReal) (ga gs : S1x512.Idx → EReal) (w : S1024x1024.Idx → EReal) (x : S512x1024.Idx → EReal) (g : S1x1024.Idx → EReal)

/-- A branch's row, normalised. -/
def nb (r k : Fin 512) : EReal := a (ix2 r k) * ri cM cE (fun j => a (ix2 r j)) * ga (ix2 0 k)

/-- The two branches' normalised rows side by side. -/
def mb (y : S512x1024.Idx) : EReal :=
  if h : (y 1).val < 512 then nb a ga (y 0) ⟨(y 1).val, h⟩ else nb s gs (y 0) ⟨(y 1).val - 512, by have : (y 1).val < 1024 := (y 1).isLt; omega⟩

theorem mb_lo (y : S512x1024.Idx) (r k : Fin 512) (hr : (y 0).val = r.val) (hk : (y 1).val = k.val) : mb a s ga gs y = nb a ga r k := by
  unfold mb
  rw [dif_pos (show (y 1).val < 512 by rw [hk]; exact k.isLt)]
  exact congrArg₂ (nb a ga) (Fin.ext hr) (Fin.ext hk)

theorem mb_hi (y : S512x1024.Idx) (r k : Fin 512) (hr : (y 0).val = r.val) (hk : (y 1).val = 512 + k.val) : mb a s ga gs y = nb s gs r k := by
  unfold mb
  rw [dif_neg (show ¬ (y 1).val < 512 by rw [hk]; omega)]
  exact congrArg₂ (nb s gs) (Fin.ext hr) (Fin.ext (show (y 1).val - 512 = k.val by rw [hk]; omega))

theorem pay3_eq (r k : Fin 512) : k0_pay3 (F := Ideal) a ga (ix2 r k) = nb a ga r k := by
  unfold k0_pay3
  pointwise
  rfl

theorem pay4_eq (r k : Fin 512) : k0_pay4 (F := Ideal) a ga (ix2 r k) = nb a ga r k := pay3_eq a ga r k

/-- The two stores of the halves leave the rows side by side. -/
theorem mixed_canon : View.canon (Val := Elt Ideal) (s := S512x1024) (e := .bf16)
    [⟨Rect.unit (s := S512x1024) ![0, 512] S512x512.size inb_S512x1024_S512x512_0_512, k0_pay4 (F := Ideal) s gs⟩,
      ⟨Rect.unit (s := S512x1024) ![0, 0] S512x512.size inb_S512x1024_S512x512_0_0, k0_pay3 (F := Ideal) a ga⟩] = mb a s ga gs := by
  funext y
  refine View.canon_apply_of_pieces (Val := Elt Ideal) (S := S512x1024) (e := .bf16) (mb a s ga gs) _ ?_ y ?_
  · intro p hp x
    rcases List.mem_cons.mp hp with rfl | hp
    · obtain ⟨r, k, rfl⟩ : ∃ (r k : Fin 512), x = ix2 r k := ⟨x 0, x 1, ValueIdx.eq_ix2 x⟩
      exact (pay4_eq s gs r k).trans (mb_hi a s ga gs _ r k (show 0 + 1 * r.val = r.val by omega) (show 512 + 1 * k.val = 512 + k.val by omega)).symm
    · obtain rfl := List.mem_singleton.mp hp
      obtain ⟨r, k, rfl⟩ : ∃ (r k : Fin 512), x = ix2 r k := ⟨x 0, x 1, ValueIdx.eq_ix2 x⟩
      exact (pay3_eq a ga r k).trans (mb_lo a s ga gs _ r k (show 0 + 1 * r.val = r.val by omega) (show 0 + 1 * k.val = k.val by omega)).symm
  · have h0 : (y 0).val < 512 := (y 0).isLt
    have h1 : (y 1).val < 1024 := (y 1).isLt
    by_cases h : (y 1).val < 512
    · refine ⟨_, List.mem_cons_of_mem _ (List.mem_singleton.mpr rfl), ?_⟩
      rw [Rect.mem_set_unit]
      intro d
      fin_cases d
      · show 0 ≤ (y 0).val ∧ (y 0).val < 0 + 512
        omega
      · show 0 ≤ (y 1).val ∧ (y 1).val < 0 + 512
        omega
    · refine ⟨_, List.mem_cons_self, ?_⟩
      rw [Rect.mem_set_unit]
      intro d
      fin_cases d
      · show 0 ≤ (y 0).val ∧ (y 0).val < 0 + 512
        omega
      · show 512 ≤ (y 1).val ∧ (y 1).val < 512 + 512
        omega

/-- The whole block, read back. -/
theorem mixed_read : (fun j => View.canon (Val := Elt Ideal) (s := S512x1024) (e := .bf16)
    [⟨Rect.unit (s := S512x1024) ![0, 512] S512x512.size inb_S512x1024_S512x512_0_512, k0_pay4 (F := Ideal) s gs⟩,
      ⟨Rect.unit (s := S512x1024) ![0, 0] S512x512.size inb_S512x1024_S512x512_0_0, k0_pay3 (F := Ideal) a ga⟩]
      ((Rect.unit (s := S512x1024) ![0, 0] S512x1024.size inb_S512x1024_S512x1024_0_0).idx j)) = mb a s ga gs := by
  rw [mixed_canon]
  exact View.ld_unit_zero (Val := Elt Ideal) (e := .bf16) (S := S512x1024) (by decide : (![0, 0] : Fin 2 → Nat) = fun _ => 0) inb_S512x1024_S512x1024_0_0 (mb a s ga gs)

/-- A row of the stream after the projection of a row `v`. -/
def xb (v : S512x1024.Idx → EReal) (r : Fin 512) (k : Fin 1024) : EReal := x (ix2 r k) + ∑ q : Fin 1024, v (ix2 r q) * w (ix2 q k)

theorem pay1_eq (v : S512x1024.Idx → EReal) (r : Fin 512) (k : Fin 1024) : k0_pay1 (F := Ideal) x (k0_pay5 (F := Ideal) v) w (ix2 r k) = xb w x v r k := by
  unfold k0_pay1 k0_pay5
  pointwise
  rfl

theorem pay2_eq (v : S512x1024.Idx → EReal) (r : Fin 512) (k : Fin 1024) :
    k0_pay2 (F := Ideal) x (k0_pay5 (F := Ideal) v) w g (ix2 r k) = xb w x v r k * ri cN cE (xb w x v r) * g (ix2 0 k) := by
  unfold k0_pay2
  pointwise
  simp only [pay1_eq]
  rfl

end

/-! ## The input blocks -/

variable (m : (ℓ : Loc nD τ sig) → Buf (Elt Ideal) ℓ) (c : Dev nD) (t : Fin cfg0.N)

abbrev aA : S4096x512.Idx → EReal := m ((c : Thread nD τ).loc main_arg0)
abbrev aS : S4096x512.Idx → EReal := m ((c : Thread nD τ).loc main_arg1)
abbrev aGa : S1x512.Idx → EReal := m ((c : Thread nD τ).loc main_arg2)
abbrev aGs : S1x512.Idx → EReal := m ((c : Thread nD τ).loc main_arg3)
abbrev aW : S1024x1024.Idx → EReal := m ((c : Thread nD τ).loc main_arg4)
abbrev aX : S4096x1024.Idx → EReal := m ((c : Thread nD τ).loc main_arg5)
abbrev aG : S1x1024.Idx → EReal := m ((c : Thread nD τ).loc main_arg6)

theorem index_0 : ∀ t : Fin cfg0.N, (cfg0.win 0).index t 0 = t.val ∧ (cfg0.win 0).index t 1 = 0 := by decide +kernel
theorem index_1 : ∀ t : Fin cfg0.N, (cfg0.win 1).index t 0 = t.val ∧ (cfg0.win 1).index t 1 = 0 := by decide +kernel
theorem index_2 : ∀ t : Fin cfg0.N, (cfg0.win 2).index t 0 = 0 ∧ (cfg0.win 2).index t 1 = 0 := by decide +kernel
theorem index_3 : ∀ t : Fin cfg0.N, (cfg0.win 3).index t 0 = 0 ∧ (cfg0.win 3).index t 1 = 0 := by decide +kernel
theorem index_4 : ∀ t : Fin cfg0.N, (cfg0.win 4).index t 0 = 0 ∧ (cfg0.win 4).index t 1 = 0 := by decide +kernel
theorem index_5 : ∀ t : Fin cfg0.N, (cfg0.win 5).index t 0 = t.val ∧ (cfg0.win 5).index t 1 = 0 := by decide +kernel
theorem index_6 : ∀ t : Fin cfg0.N, (cfg0.win 6).index t 0 = 0 ∧ (cfg0.win 6).index t 1 = 0 := by decide +kernel
theorem index_7 : ∀ t : Fin cfg0.N, (cfg0.win 7).index t 0 = t.val ∧ (cfg0.win 7).index t 1 = 0 := by decide +kernel
theorem index_8 : ∀ t : Fin cfg0.N, (cfg0.win 8).index t 0 = t.val ∧ (cfg0.win 8).index t 1 = 0 := by decide +kernel
theorem index_9 : ∀ t : Fin cfg0.N, (cfg0.win 9).index t 0 = t.val ∧ (cfg0.win 9).index t 1 = 0 := by decide +kernel

theorem iblk_0 (r : Fin 512) (k : Fin 512) : iblk m c 0 t (ix2 r k) = rd (aA m c) (512 * t.val + r.val) k.val :=
  (rd_of_emb (V m c main_arg0) (((cfg0.win 0).rect t).emb (ix2 r k))
    (((cfg0.win 0).rect_emb_val t (ix2 r k) 0).trans ((congrArg (· * 512 + r.val) (index_0 t).1).trans (show t.val * 512 + r.val = 512 * t.val + r.val by omega)))
    (((cfg0.win 0).rect_emb_val t (ix2 r k) 1).trans ((congrArg (· * 512 + k.val) (index_0 t).2).trans (show 0 * 512 + k.val = k.val by omega)))).trans
    (congrArg (fun X : S4096x512.Idx → EReal => rd X _ _) (V_main_arg0 m c))

theorem iblk_1 (r : Fin 512) (k : Fin 512) : iblk m c 1 t (ix2 r k) = rd (aS m c) (512 * t.val + r.val) k.val :=
  (rd_of_emb (V m c main_arg1) (((cfg0.win 1).rect t).emb (ix2 r k))
    (((cfg0.win 1).rect_emb_val t (ix2 r k) 0).trans ((congrArg (· * 512 + r.val) (index_1 t).1).trans (show t.val * 512 + r.val = 512 * t.val + r.val by omega)))
    (((cfg0.win 1).rect_emb_val t (ix2 r k) 1).trans ((congrArg (· * 512 + k.val) (index_1 t).2).trans (show 0 * 512 + k.val = k.val by omega)))).trans
    (congrArg (fun X : S4096x512.Idx → EReal => rd X _ _) (V_main_arg1 m c))

theorem iblk_2 (r : Fin 1) (k : Fin 512) : iblk m c 2 t (ix2 r k) = rd (aGa m c) r.val k.val :=
  (rd_of_emb (V m c main_arg2) (((cfg0.win 2).rect t).emb (ix2 r k))
    (((cfg0.win 2).rect_emb_val t (ix2 r k) 0).trans ((congrArg (· * 1 + r.val) (index_2 t).1).trans (show 0 * 1 + r.val = r.val by omega)))
    (((cfg0.win 2).rect_emb_val t (ix2 r k) 1).trans ((congrArg (· * 512 + k.val) (index_2 t).2).trans (show 0 * 512 + k.val = k.val by omega)))).trans
    (congrArg (fun X : S1x512.Idx → EReal => rd X _ _) (V_main_arg2 m c))

theorem iblk_3 (r : Fin 1) (k : Fin 512) : iblk m c 3 t (ix2 r k) = rd (aGs m c) r.val k.val :=
  (rd_of_emb (V m c main_arg3) (((cfg0.win 3).rect t).emb (ix2 r k))
    (((cfg0.win 3).rect_emb_val t (ix2 r k) 0).trans ((congrArg (· * 1 + r.val) (index_3 t).1).trans (show 0 * 1 + r.val = r.val by omega)))
    (((cfg0.win 3).rect_emb_val t (ix2 r k) 1).trans ((congrArg (· * 512 + k.val) (index_3 t).2).trans (show 0 * 512 + k.val = k.val by omega)))).trans
    (congrArg (fun X : S1x512.Idx → EReal => rd X _ _) (V_main_arg3 m c))

theorem iblk_4 (r : Fin 1024) (k : Fin 1024) : iblk m c 4 t (ix2 r k) = rd (aW m c) r.val k.val :=
  (rd_of_emb (V m c main_arg4) (((cfg0.win 4).rect t).emb (ix2 r k))
    (((cfg0.win 4).rect_emb_val t (ix2 r k) 0).trans ((congrArg (· * 1024 + r.val) (index_4 t).1).trans (show 0 * 1024 + r.val = r.val by omega)))
    (((cfg0.win 4).rect_emb_val t (ix2 r k) 1).trans ((congrArg (· * 1024 + k.val) (index_4 t).2).trans (show 0 * 1024 + k.val = k.val by omega)))).trans
    (congrArg (fun X : S1024x1024.Idx → EReal => rd X _ _) (V_main_arg4 m c))

theorem iblk_5 (r : Fin 512) (k : Fin 1024) : iblk m c 5 t (ix2 r k) = rd (aX m c) (512 * t.val + r.val) k.val :=
  (rd_of_emb (V m c main_arg5) (((cfg0.win 5).rect t).emb (ix2 r k))
    (((cfg0.win 5).rect_emb_val t (ix2 r k) 0).trans ((congrArg (· * 512 + r.val) (index_5 t).1).trans (show t.val * 512 + r.val = 512 * t.val + r.val by omega)))
    (((cfg0.win 5).rect_emb_val t (ix2 r k) 1).trans ((congrArg (· * 1024 + k.val) (index_5 t).2).trans (show 0 * 1024 + k.val = k.val by omega)))).trans
    (congrArg (fun X : S4096x1024.Idx → EReal => rd X _ _) (V_main_arg5 m c))

theorem iblk_6 (r : Fin 1) (k : Fin 1024) : iblk m c 6 t (ix2 r k) = rd (aG m c) r.val k.val :=
  (rd_of_emb (V m c main_arg6) (((cfg0.win 6).rect t).emb (ix2 r k))
    (((cfg0.win 6).rect_emb_val t (ix2 r k) 0).trans ((congrArg (· * 1 + r.val) (index_6 t).1).trans (show 0 * 1 + r.val = r.val by omega)))
    (((cfg0.win 6).rect_emb_val t (ix2 r k) 1).trans ((congrArg (· * 1024 + k.val) (index_6 t).2).trans (show 0 * 1024 + k.val = k.val by omega)))).trans
    (congrArg (fun X : S1x1024.Idx → EReal => rd X _ _) (V_main_arg6 m c))

/-! ## What a point leaves in its windows -/

private theorem hz2 : (![0, 0] : Fin 2 → Nat) = fun _ => 0 := by decide

/-- The block of the two branches side by side. -/
abbrev mblk : S512x1024.Idx → EReal := mb (iblk m c 0 t) (iblk m c 1 t) (iblk m c 2 t) (iblk m c 3 t)

theorem left7 : (outsAt0 m c t).1 = mblk m c t := by
  unfold outsAt0
  dsimp only
  unfold out0_A_7
  rw [View.read_writes_eq_canon _ _ _ (cover0_A_7 c _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S512x512) hz2, View.ld_unit_zero (S := S1x512) hz2, View.ld_unit_zero (S := S1024x1024) hz2, View.ld_unit_zero (S := S512x1024) hz2, View.ld_unit_zero (S := S1x1024) hz2]
  exact mixed_canon _ _ _ _

theorem left8 : (outsAt0 m c t).2.1 = k0_pay1 (iblk m c 5 t) (k0_pay5 (F := Ideal) (mblk m c t)) (iblk m c 4 t) := by
  unfold outsAt0
  dsimp only
  unfold out0_A_8
  rw [View.read_writes_eq_canon _ _ _ (cover0_A_8 c _ _ _ _ _ _ _ _ _ _ _ _ _ _ _ _ _ _ _ _ _ _ _ _ _ _ _ _)]
  unfold kernelRun0_A
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S512x512) hz2, View.ld_unit_zero (S := S1x512) hz2, View.ld_unit_zero (S := S1024x1024) hz2, View.ld_unit_zero (S := S512x1024) hz2, View.ld_unit_zero (S := S1x1024) hz2, View.readCov_eq_canon']
  exact congrArg (fun v => k0_pay1 (iblk m c 5 t) (k0_pay5 (F := Ideal) v) (iblk m c 4 t)) (mixed_read _ _ _ _)

theorem left9 : (outsAt0 m c t).2.2 = k0_pay2 (iblk m c 5 t) (k0_pay5 (F := Ideal) (mblk m c t)) (iblk m c 4 t) (iblk m c 6 t) := by
  unfold outsAt0
  dsimp only
  unfold out0_A_9
  rw [View.read_writes_eq_canon _ _ _ (cover0_A_9 c _ _ _ _ _ _ _ _ _ _ _ _ _ _ _ _ _ _ _ _ _ _ _ _ _ _ _ _)]
  unfold kernelRun0_A
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S512x512) hz2, View.ld_unit_zero (S := S1x512) hz2, View.ld_unit_zero (S := S1024x1024) hz2, View.ld_unit_zero (S := S512x1024) hz2, View.ld_unit_zero (S := S1x1024) hz2, View.readCov_eq_canon']
  exact congrArg (fun v => k0_pay2 (iblk m c 5 t) (k0_pay5 (F := Ideal) v) (iblk m c 4 t) (iblk m c 6 t)) (mixed_read _ _ _ _)

/-! ## The same, on the arguments -/

/-- A branch's row, normalised. -/
def nv (X : S4096x512.Idx → EReal) (G : S1x512.Idx → EReal) (r k : Nat) : EReal := rd X r k * ri cM cE (fun j : Fin 512 => rd X r j.val) * rd G 0 k

/-- The two branches' normalised rows side by side. -/
def mv (r k : Nat) : EReal := if k < 512 then nv (aA m c) (aGa m c) r k else nv (aS m c) (aGs m c) r (k - 512)

/-- The stream after the projection. -/
def xv (r k : Nat) : EReal := rd (aX m c) r k + ∑ q : Fin 1024, mv m c r q.val * rd (aW m c) q.val k

/-- The next norm of it. -/
def hv (r k : Nat) : EReal := xv m c r k * ri cN cE (fun j : Fin 1024 => xv m c r j.val) * rd (aG m c) 0 k

theorem nb_a (r k : Fin 512) : nb (iblk m c 0 t) (iblk m c 2 t) r k = nv (aA m c) (aGa m c) (512 * t.val + r.val) k.val := by
  unfold nb nv
  simp only [iblk_0, iblk_2]
  rfl

theorem nb_s (r k : Fin 512) : nb (iblk m c 1 t) (iblk m c 3 t) r k = nv (aS m c) (aGs m c) (512 * t.val + r.val) k.val := by
  unfold nb nv
  simp only [iblk_1, iblk_3]
  rfl

theorem mblk_eq (r : Fin 512) (k : Fin 1024) : mblk m c t (ix2 r k) = mv m c (512 * t.val + r.val) k.val := by
  unfold mv
  have hk := k.isLt
  by_cases h : k.val < 512
  · rw [if_pos h]
    exact (mb_lo _ _ _ _ (ix2 r k) r ⟨k.val, h⟩ rfl rfl).trans (nb_a m c t r ⟨k.val, h⟩)
  · rw [if_neg h]
    exact (mb_hi _ _ _ _ (ix2 r k) r ⟨k.val - 512, by omega⟩ rfl (show k.val = 512 + (k.val - 512) by omega)).trans (nb_s m c t r ⟨k.val - 512, by omega⟩)

theorem xb_eq (r : Fin 512) (k : Fin 1024) : xb (iblk m c 4 t) (iblk m c 5 t) (mblk m c t) r k = xv m c (512 * t.val + r.val) k.val := by
  unfold xb xv
  simp only [mblk_eq, iblk_4, iblk_5]

theorem out7 (r : Fin 512) (k : Fin 1024) : (outsAt0 m c t).1 (ix2 r k) = mv m c (512 * t.val + r.val) k.val := by
  rw [left7]
  exact mblk_eq m c t r k

theorem out8 (r : Fin 512) (k : Fin 1024) : (outsAt0 m c t).2.1 (ix2 r k) = xv m c (512 * t.val + r.val) k.val := by
  rw [left8]
  exact (pay1_eq _ _ _ r k).trans (xb_eq m c t r k)

theorem out9 (r : Fin 512) (k : Fin 1024) : (outsAt0 m c t).2.2 (ix2 r k) = hv m c (512 * t.val + r.val) k.val := by
  rw [left9]
  refine (pay2_eq _ _ _ _ r k).trans ?_
  unfold hv
  rw [iblk_6, xb_eq, show xb (iblk m c 4 t) (iblk m c 5 t) (mblk m c t) r = fun j : Fin 1024 => xv m c (512 * t.val + r.val) j.val from funext (xb_eq m c t r)]
  rfl

end Cert.MixOut

end
-- ==== Proof.MixOut.Array.lean ====
/- What the output projection leaves in its three results. -/
module

public import proofs.«01_k».proof.Proof.MixOut.Block
public import Idealize.ShloMosaic.Lib.Pipeline.Value

@[expose] public section

noncomputable section

namespace Cert.MixOut

open Idealize.ShloMosaic Idealize.ShloMosaic.TcCoe Idealize.ShloMosaic.Pipeline Idealize.SL.Sem
open Cert.Kernel12Ideal Cert.Kernel12Ideal.Gen Cert.Rows

variable (m : (ℓ : Loc nD τ sig) → Buf (Elt Ideal) ℓ) (c : Dev nD) (ρ : Dev nD → PrngReg)

/-- The two branches' normalised rows side by side. -/
def MX (i : S4096x1024.Idx) : EReal := mv m c (i 0).val (i 1).val

/-- The stream after the projection. -/
def XO (i : S4096x1024.Idx) : EReal := xv m c (i 0).val (i 1).val

/-- The next norm of it. -/
def HO (i : S4096x1024.Idx) : EReal := hv m c (i 0).val (i 1).val

theorem point (a : Nat) (ha : a < 8) : ∃ t : Fin cfg0.N, t.val = a := ⟨⟨a, by rw [show cfg0.N = 8 from N_0]; exact ha⟩, rfl⟩

theorem flushed7 (t : Fin cfg0.N) : (dats m 0 c).flushed 7 t = (win0_7.blk t).view.read (Elt Ideal) (MX m c) := by
  funext y
  obtain ⟨r, k, rfl⟩ : ∃ (r : Fin 512) (k : Fin 1024), y = ix2 r k := ⟨y 0, y 1, ValueIdx.eq_ix2 y⟩
  refine ((congrFun (after0_7 m c t) (ix2 r k)).trans (out7 m c t r k)).trans ?_
  show _ = MX m c ((win0_7.rect t).emb (ix2 r k))
  obtain ⟨e0, e1⟩ := index_7 t
  have i0 := (win0_7.rect_emb_val t (ix2 r k) 0).trans (congrArg (· * 512 + r.val) e0)
  have i1 := (win0_7.rect_emb_val t (ix2 r k) 1).trans (congrArg (· * 1024 + k.val) e1)
  refine congrArg₂ (mv m c) ?_ ?_
  · rw [i0]; omega
  · rw [i1]; omega

theorem cover7 (i : S4096x1024.Idx) : ∃ t : Fin cfg0.N, (cfg0.win 7).flush t = true ∧ i ∈ ((cfg0.win 7).blk t).view.set := by
  have h0 : (i 0).val < 4096 := (i 0).isLt
  have h1 : (i 1).val < 1024 := (i 1).isLt
  obtain ⟨t, ha⟩ := point ((i 0).val / 512) (by omega)
  obtain ⟨e0, e1⟩ := index_7 t
  refine ⟨t, flush0_7 t, ?_⟩
  show i ∈ ((View.whole main_v0_0).slice (win0_7.rect t)).set
  rw [View.set_slice_whole, Rect.mem_set_unit]
  intro a
  fin_cases a
  · show (cfg0.win 7).index t 0 * 512 ≤ (i 0).val ∧ (i 0).val < (cfg0.win 7).index t 0 * 512 + 512
    rw [e0]; omega
  · show (cfg0.win 7).index t 1 * 1024 ≤ (i 1).val ∧ (i 1).val < (cfg0.win 7).index t 1 * 1024 + 1024
    rw [e1]; omega

theorem final7 : (dats m 0 c).arrAt 7 cfg0.N = MX m c :=
  (dats m 0 c).arrAt_eq_of_cover 7 (MX m c) (fun t _ => flushed7 m c t) cover7

theorem flushed8 (t : Fin cfg0.N) : (dats m 0 c).flushed 8 t = (win0_8.blk t).view.read (Elt Ideal) (XO m c) := by
  funext y
  obtain ⟨r, k, rfl⟩ : ∃ (r : Fin 512) (k : Fin 1024), y = ix2 r k := ⟨y 0, y 1, ValueIdx.eq_ix2 y⟩
  refine ((congrFun (after0_8 m c t) (ix2 r k)).trans (out8 m c t r k)).trans ?_
  show _ = XO m c ((win0_8.rect t).emb (ix2 r k))
  obtain ⟨e0, e1⟩ := index_8 t
  have i0 := (win0_8.rect_emb_val t (ix2 r k) 0).trans (congrArg (· * 512 + r.val) e0)
  have i1 := (win0_8.rect_emb_val t (ix2 r k) 1).trans (congrArg (· * 1024 + k.val) e1)
  refine congrArg₂ (xv m c) ?_ ?_
  · rw [i0]; omega
  · rw [i1]; omega

theorem cover8 (i : S4096x1024.Idx) : ∃ t : Fin cfg0.N, (cfg0.win 8).flush t = true ∧ i ∈ ((cfg0.win 8).blk t).view.set := by
  have h0 : (i 0).val < 4096 := (i 0).isLt
  have h1 : (i 1).val < 1024 := (i 1).isLt
  obtain ⟨t, ha⟩ := point ((i 0).val / 512) (by omega)
  obtain ⟨e0, e1⟩ := index_8 t
  refine ⟨t, flush0_8 t, ?_⟩
  show i ∈ ((View.whole main_v0_1).slice (win0_8.rect t)).set
  rw [View.set_slice_whole, Rect.mem_set_unit]
  intro a
  fin_cases a
  · show (cfg0.win 8).index t 0 * 512 ≤ (i 0).val ∧ (i 0).val < (cfg0.win 8).index t 0 * 512 + 512
    rw [e0]; omega
  · show (cfg0.win 8).index t 1 * 1024 ≤ (i 1).val ∧ (i 1).val < (cfg0.win 8).index t 1 * 1024 + 1024
    rw [e1]; omega

theorem final8 : (dats m 0 c).arrAt 8 cfg0.N = XO m c :=
  (dats m 0 c).arrAt_eq_of_cover 8 (XO m c) (fun t _ => flushed8 m c t) cover8

theorem flushed9 (t : Fin cfg0.N) : (dats m 0 c).flushed 9 t = (win0_9.blk t).view.read (Elt Ideal) (HO m c) := by
  funext y
  obtain ⟨r, k, rfl⟩ : ∃ (r : Fin 512) (k : Fin 1024), y = ix2 r k := ⟨y 0, y 1, ValueIdx.eq_ix2 y⟩
  refine ((congrFun (after0_9 m c t) (ix2 r k)).trans (out9 m c t r k)).trans ?_
  show _ = HO m c ((win0_9.rect t).emb (ix2 r k))
  obtain ⟨e0, e1⟩ := index_9 t
  have i0 := (win0_9.rect_emb_val t (ix2 r k) 0).trans (congrArg (· * 512 + r.val) e0)
  have i1 := (win0_9.rect_emb_val t (ix2 r k) 1).trans (congrArg (· * 1024 + k.val) e1)
  refine congrArg₂ (hv m c) ?_ ?_
  · rw [i0]; omega
  · rw [i1]; omega

theorem cover9 (i : S4096x1024.Idx) : ∃ t : Fin cfg0.N, (cfg0.win 9).flush t = true ∧ i ∈ ((cfg0.win 9).blk t).view.set := by
  have h0 : (i 0).val < 4096 := (i 0).isLt
  have h1 : (i 1).val < 1024 := (i 1).isLt
  obtain ⟨t, ha⟩ := point ((i 0).val / 512) (by omega)
  obtain ⟨e0, e1⟩ := index_9 t
  refine ⟨t, flush0_9 t, ?_⟩
  show i ∈ ((View.whole main_v0_2).slice (win0_9.rect t)).set
  rw [View.set_slice_whole, Rect.mem_set_unit]
  intro a
  fin_cases a
  · show (cfg0.win 9).index t 0 * 512 ≤ (i 0).val ∧ (i 0).val < (cfg0.win 9).index t 0 * 512 + 512
    rw [e0]; omega
  · show (cfg0.win 9).index t 1 * 1024 ≤ (i 1).val ∧ (i 1).val < (cfg0.win 9).index t 1 * 1024 + 1024
    rw [e1]; omega

theorem final9 : (dats m 0 c).arrAt 9 cfg0.N = HO m c :=
  (dats m 0 c).arrAt_eq_of_cover 9 (HO m c) (fun t _ => flushed9 m c t) cover9

/-- The run: the three results at the closed form, the arguments unchanged. -/
theorem run : θ_run defs (onTc (τ := τ) (main (F := Ideal))) ⟨m, fun _ => 0, ρ⟩ fun r => ∀ c : Dev nD,
      r.2.mem ((c : Thread nD τ).loc main_v0_0) = MX m c
      ∧ r.2.mem ((c : Thread nD τ).loc main_v0_1) = XO m c
      ∧ r.2.mem ((c : Thread nD τ).loc main_v0_2) = HO m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final7 m c), (h c).2.1.trans (final8 m c), (h c).2.2.1.trans (final9 m c), (h c).2.2.2⟩)
    (Cert.Kernel12Ideal.Value.run_blocks m ρ)

end Cert.MixOut

end
-- ==== Proof.MixOut.Reference.lean ====
/- The output projection with its norms, as the reference computes it, read at an index. -/
module

public import proofs.«01_k».proof.Proof.NormBwd.Math
public import proofs.«01_k».proof.Proof.Gen.Reference12Ideal.Read
public import Idealize.ShloMosaic.Lib.Pipeline.Value

@[expose] public section

noncomputable section

namespace Cert.MixOut.Ref

open Idealize.ShloMosaic Cert.Reference12Ideal Cert.Reference12Ideal.Gen Cert.Reference12Ideal.Read Cert.Rows Cert.NormBwd

variable (A S : S4096x512.Idx → EReal) (Ga Gs : S1x512.Idx → EReal) (W : S1024x1024.Idx → EReal) (X : S4096x1024.Idx → EReal) (G : S1x1024.Idx → EReal)

abbrev cM : EReal := Ideal.ofBits .f32 0x44000000#32
abbrev cN : EReal := Ideal.ofBits .f32 0x44800000#32
abbrev cE : EReal := Ideal.ofBits .f32 0x358637BD#32

/-- A branch's row, normalised. -/
def nr (r : Fin 4096) (k : Fin 512) : EReal := A (ix2 r k) * ri cM cE (fun j => A (ix2 r j)) * Ga (ix2 0 k)

/-- The two branches' rows side by side. -/
def mr (r : Fin 4096) (k : Fin 1024) : EReal :=
  if h : k.val < 512 then nr A Ga r ⟨k.val, h⟩ else nr S Gs r ⟨k.val - 512, by have := k.isLt; omega⟩

/-- The stream after the projection. -/
def xr (r : Fin 4096) (k : Fin 1024) : EReal := X (ix2 r k) + ∑ q : Fin 1024, mr A S Ga Gs r q * W (ix2 q k)

theorem msA_eq (r : Fin 4096) (c : Fin 1) : val_main_v6 (F := Ideal) A (ix2 r c) = ms cM cE (fun j => A (ix2 r j)) := by
  unfold val_main_v6 val_main_v5 val_main_v4 val_main_v3 val_main_v2 val_main_v1 val_main_v0 val_main_cst val_main_cst_0 val_main_cst_1
  pointwise
  rfl

theorem msS_eq (r : Fin 4096) (c : Fin 1) : val_main_v18 (F := Ideal) S (ix2 r c) = ms cM cE (fun j => S (ix2 r j)) := by
  unfold val_main_v18 val_main_v17 val_main_v16 val_main_v15 val_main_v14 val_main_v13 val_main_v12 val_main_cst_2 val_main_cst_3 val_main_cst_4
  pointwise
  rfl

theorem nA_eq (r : Fin 4096) (k : Fin 512) : val_main_v11 (F := Ideal) A Ga (ix2 r k) = nr A Ga r k := by
  unfold val_main_v11 val_main_v10 val_main_v9 val_main_v8 val_main_v7
  pointwise
  simp only [msA_eq]
  rfl

theorem nS_eq (r : Fin 4096) (k : Fin 512) : val_main_v23 (F := Ideal) S Gs (ix2 r k) = nr S Gs r k := by
  unfold val_main_v23 val_main_v22 val_main_v21 val_main_v20 val_main_v19
  pointwise
  simp only [msS_eq]
  rfl

/-- The two branches side by side. -/
theorem mix_eq (r : Fin 4096) (k : Fin 1024) : val_main_v25 (F := Ideal) A S Ga Gs (ix2 r k) = mr A S Ga Gs r k := by
  have hk := k.isLt
  unfold mr
  by_cases h : k.val < 512
  · rw [dif_pos h]
    refine Eq.trans ?_ (nA_eq A Ga r ⟨k.val, h⟩)
    exact concatenate_pair_apply_left (1 : Fin S4096x1024.rank) (val_main_v11 (F := Ideal) A Ga) (val_main_v23 (F := Ideal) S Gs)
      concatenates_S4096x512_S4096x512_S4096x1024_d1 (ix2 r k) rfl (ix2 r (⟨k.val, h⟩ : Fin 512)) (fun b => by fin_cases b <;> rfl)
  · rw [dif_neg h]
    refine Eq.trans ?_ (nS_eq S Gs r ⟨k.val - 512, by omega⟩)
    exact concatenate_pair_apply_right (1 : Fin S4096x1024.rank) (val_main_v11 (F := Ideal) A Ga) (val_main_v23 (F := Ideal) S Gs)
      concatenates_S4096x512_S4096x512_S4096x1024_d1 (ix2 r k) rfl rfl (ix2 r (⟨k.val - 512, by omega⟩ : Fin 512))
      (fun b hb => by fin_cases b; · rfl
                      · exact absurd rfl hb) (show k.val - 512 + 512 = k.val by omega)

theorem x_eq (r : Fin 4096) (k : Fin 1024) : val_main_v29 (F := Ideal) A S Ga Gs W X (ix2 r k) = xr A S Ga Gs W X r k := by
  unfold val_main_v29 val_main_v28 val_main_v27 val_main_v26
  pointwise
  simp only [mix_eq]
  rfl

theorem msX_eq (r : Fin 4096) (c : Fin 1) : val_main_v36 (F := Ideal) A S Ga Gs W X (ix2 r c) = ms cN cE (xr A S Ga Gs W X r) := by
  unfold val_main_v36 val_main_v35 val_main_v34 val_main_v33 val_main_v32 val_main_v31 val_main_v30 val_main_cst_5 val_main_cst_6 val_main_cst_7
  pointwise
  simp only [x_eq]
  rfl

theorem h_eq (r : Fin 4096) (k : Fin 1024) : val_main_v42 (F := Ideal) A S Ga Gs W X G (ix2 r k)
    = xr A S Ga Gs W X r k * ri cN cE (xr A S Ga Gs W X r) * G (ix2 0 k) := by
  unfold val_main_v42 val_main_v41 val_main_v40 val_main_v39 val_main_v38 val_main_v37
  pointwise
  simp only [x_eq, msX_eq]
  rfl

end Cert.MixOut.Ref

end
-- ==== Proof.MixOut.Equal.lean ====
/- The output projection with its norms against its plain definition: the same three arrays. -/
module

public import proofs.«01_k».proof.Proof.MixOut.Array
public import proofs.«01_k».proof.Proof.MixOut.Reference

@[expose] public section

noncomputable section

namespace Cert.MixOut

open Idealize.ShloMosaic Idealize.ShloMosaic.TcCoe Cert.Rows Cert.NormBwd

open Cert.Kernel12Ideal

variable (m : (ℓ : Loc nD τ sig) → Buf (Elt Ideal) ℓ) (c : Dev nD)

theorem nv_eq (X : S4096x512.Idx → EReal) (G : S1x512.Idx → EReal) (r : Fin 4096) (k : Fin 512) : nv X G r.val k.val = Ref.nr X G r k := by
  unfold nv Ref.nr
  simp only [← eq_rd]
  exact congrArg _ (eq_rd G 0 k).symm

/-- The two branches side by side. -/
theorem MX_eq (r : Fin 4096) (k : Fin 1024) : MX m c (ix2 r k) = Ref.mr (aA m c) (aS m c) (aGa m c) (aGs m c) r k := by
  have hk := k.isLt
  show mv m c r.val k.val = _
  unfold mv Ref.mr
  by_cases h : k.val < 512
  · rw [if_pos h, dif_pos h]
    exact nv_eq (aA m c) (aGa m c) r ⟨k.val, h⟩
  · rw [if_neg h, dif_neg h]
    exact nv_eq (aS m c) (aGs m c) r ⟨k.val - 512, by omega⟩

/-- The stream after the projection. -/
theorem XO_eq (r : Fin 4096) (k : Fin 1024) : XO m c (ix2 r k) = Ref.xr (aA m c) (aS m c) (aGa m c) (aGs m c) (aW m c) (aX m c) r k := by
  show rd (aX m c) r.val k.val + ∑ q : Fin 1024, mv m c r.val q.val * rd (aW m c) q.val k.val = _
  unfold Ref.xr
  rw [← eq_rd]
  refine congrArg _ (Finset.sum_congr rfl fun q _ => ?_)
  rw [← eq_rd]
  exact congrArg (· * aW m c (ix2 q k)) (MX_eq m c r q)

/-- The next norm of it. -/
theorem HO_eq (r : Fin 4096) (k : Fin 1024) : HO m c (ix2 r k)
    = Ref.xr (aA m c) (aS m c) (aGa m c) (aGs m c) (aW m c) (aX m c) r k * ri Ref.cN Ref.cE (Ref.xr (aA m c) (aS m c) (aGa m c) (aGs m c) (aW m c) (aX m c) r) * aG m c (ix2 0 k) := by
  have hx : ∀ k : Fin 1024, xv m c r.val k.val = Ref.xr (aA m c) (aS m c) (aGa m c) (aGs m c) (aW m c) (aX m c) r k := XO_eq m c r
  show hv m c r.val k.val = _
  unfold hv
  simp only [hx]
  exact congrArg _ (eq_rd (aG m c) 0 k).symm

end Cert.MixOut

end
-- ==== Proof.Rope.lean ====
/- The rotary embedding of the first sixteen entries of every head of sixty-four: on whole rows, and as rotations of blocks of two heads with tables of factors. -/
module

public import proofs.«01_k».proof.Proof.Rows
public import Idealize.ShloMosaic.Lib.Pipeline.Value

@[expose] public section

noncomputable section

namespace Cert.Rope

open Idealize.ShloMosaic Cert.Rows

/-! ## The embedding of a row -/

/-- Entry `j` of a row `f` after the embedding: the first eight entries of a head turn against the next eight, the others stay. -/
def rot (f co si : Nat → EReal) (j : Nat) : EReal :=
  if j % 64 < 8 then f j * co (j % 64) - f (j + 8) * si (j % 64)
  else if j % 64 < 16 then f j * co (j % 64 - 8) + f (j - 8) * si (j % 64 - 8)
  else f j

/-- The transpose of the embedding: the turn the other way. -/
def back (f co si : Nat → EReal) (j : Nat) : EReal :=
  if j % 64 < 8 then f j * co (j % 64) + f (j + 8) * si (j % 64)
  else if j % 64 < 16 then f j * co (j % 64 - 8) - f (j - 8) * si (j % 64 - 8)
  else f j

/-- A row of queries (the first 512 entries), keys (128) and values: the queries turned and scaled by `s`, the keys turned. -/
def heads (s : EReal) (P co si : Nat → EReal) (j : Nat) : EReal :=
  if j < 512 then rot P co si j * s else if j < 640 then rot P co si j else P j

/-- It reads a row only at that row's entries. -/
theorem heads_congr (s : EReal) {P Q : Nat → EReal} (co si : Nat → EReal) (h : ∀ j, j < 1280 → P j = Q j) (j : Nat) (hj : j < 768) : heads s P co si j = heads s Q co si j := by
  unfold heads rot
  rw [h j (by omega), h (j + 8) (by omega), h (j - 8) (by omega)]

/-- A row of the gradient of the projection: the gradients of the queries and the keys turned back, that of the values, and that of the rest,
    to which the skip's is added. -/
def grads (dq dkv du dp ds co si : Nat → EReal) (j : Nat) : EReal :=
  if j < 512 then back dq co si j else if j < 640 then back dkv co si (j - 512) else if j < 768 then dkv (j - 512)
  else du (j - 768) + dp (j - 768) * ds (j - 768)

theorem back_congr {f g : Nat → EReal} (co si : Nat → EReal) {n : Nat} (h : ∀ j, j < n → f j = g j) (hn : n % 64 = 0) (j : Nat) (hj : j < n) : back f co si j = back g co si j := by
  unfold back
  by_cases h1 : j % 64 < 8
  · rw [if_pos h1, if_pos h1, h j hj, h (j + 8) (by omega)]
  · rw [if_neg h1, if_neg h1, h j hj, h (j - 8) (by omega)]

/-- It reads the rows only at their entries. -/
theorem grads_congr {dq dkv du dp ds dq' dkv' du' dp' ds' : Nat → EReal} (co si : Nat → EReal) (h0 : ∀ j, j < 512 → dq j = dq' j) (h1 : ∀ j, j < 256 → dkv j = dkv' j)
    (h2 : ∀ j, j < 512 → du j = du' j) (h3 : ∀ j, j < 512 → dp j = dp' j) (h4 : ∀ j, j < 512 → ds j = ds' j) (j : Nat) (hj : j < 1280) :
    grads dq dkv du dp ds co si j = grads dq' dkv' du' dp' ds' co si j := by
  unfold grads
  by_cases c1 : j < 512
  · rw [if_pos c1, if_pos c1, back_congr co si h0 (by decide) j c1]
  rw [if_neg c1, if_neg c1]
  by_cases c2 : j < 640
  · rw [if_pos c2, if_pos c2, back_congr co si h1 (by decide) (j - 512) (by omega)]
  rw [if_neg c2, if_neg c2]
  by_cases c3 : j < 768
  · rw [if_pos c3, if_pos c3, h1 _ (by omega)]
  · rw [if_neg c3, if_neg c3, h2 _ (by omega), h3 _ (by omega), h4 _ (by omega)]

/-! ## The tables of factors, over a block of two heads -/

/-- The factor of the entry itself. -/
def tabC (co : Nat → EReal) (k : Nat) : EReal :=
  if k % 64 < 8 then co (k % 64) else if k % 64 < 16 then co (k % 64 - 8) else 1

/-- The factor of the entry eight further. -/
def tabLo (si : Nat → EReal) (k : Nat) : EReal := if k % 64 < 8 then -si (k % 64) else 0

/-- The factor of the entry eight before. -/
def tabHi (si : Nat → EReal) (k : Nat) : EReal :=
  if k % 64 < 8 then 0 else if k % 64 < 16 then si (k % 64 - 8) else 0

/-- A block times its factors, plus the block rotated either way times its factors. -/
def turn (f c lo hi : Nat → EReal) (k : Nat) : EReal := f k * c k + f ((k + 8) % 128) * lo k + f ((k + 120) % 128) * hi k

/-- A block times its factors, plus the products rotated either way. -/
def turnBack (f c lo hi : Nat → EReal) (k : Nat) : EReal :=
  f k * c k + f ((k + 120) % 128) * lo ((k + 120) % 128) + f ((k + 8) % 128) * hi ((k + 8) % 128)

/-- The rotations and tables compute the embedding. -/
theorem turn_eq (f co si : Nat → EReal) (b k : Nat) (hb : b % 64 = 0) (hk : k < 128) :
    turn (fun k => f (b + k)) (tabC co) (tabLo si) (tabHi si) k = rot f co si (b + k) := by
  have e : (b + k) % 64 = k % 64 := by omega
  unfold turn rot tabC tabLo tabHi
  rw [e]
  by_cases h1 : k % 64 < 8
  · simp only [if_pos h1]
    rw [show (k + 8) % 128 = k + 8 by omega, mul_zero, add_zero, mul_neg, ← sub_eq_add_neg]
    rfl
  · simp only [if_neg h1]
    by_cases h2 : k % 64 < 16
    · simp only [if_pos h2]
      rw [show (k + 120) % 128 = k - 8 by omega, show b + k - 8 = b + (k - 8) by omega, mul_zero, add_zero]
    · simp only [if_neg h2]
      rw [mul_zero, mul_zero, add_zero, add_zero, mul_one]

/-- The rotated products compute its transpose. -/
theorem turnBack_eq (f co si : Nat → EReal) (b k : Nat) (hb : b % 64 = 0) (hk : k < 128) :
    turnBack (fun k => f (b + k)) (tabC co) (tabLo si) (tabHi si) k = back f co si (b + k) := by
  have e : (b + k) % 64 = k % 64 := by omega
  unfold turnBack back tabC tabLo tabHi
  rw [e]
  by_cases h1 : k % 64 < 8
  · rw [if_pos h1, if_pos h1, if_neg (show ¬ (k + 120) % 128 % 64 < 8 by omega), if_neg (show ¬ (k + 8) % 128 % 64 < 8 by omega),
      if_pos (show (k + 8) % 128 % 64 < 16 by omega), mul_zero, add_zero, show (k + 8) % 128 = k + 8 by omega, show (k + 8) % 64 - 8 = k % 64 by omega]
    rfl
  · rw [if_neg h1, if_neg h1]
    by_cases h2 : k % 64 < 16
    · rw [if_pos h2, if_pos h2, if_pos (show (k + 120) % 128 % 64 < 8 by omega), if_neg (show ¬ (k + 8) % 128 % 64 < 8 by omega),
        if_neg (show ¬ (k + 8) % 128 % 64 < 16 by omega), mul_zero, add_zero, show (k + 120) % 128 = k - 8 by omega, show (k - 8) % 64 = k % 64 - 8 by omega,
        mul_neg, ← sub_eq_add_neg, show b + k - 8 = b + (k - 8) by omega]
    · rw [if_neg h2, if_neg h2, if_neg (show ¬ (k + 120) % 128 % 64 < 8 by omega), mul_zero, add_zero, mul_one]
      by_cases h3 : (k + 8) % 128 % 64 < 8
      · rw [if_pos h3, mul_zero, add_zero]
      · rw [if_neg h3, if_neg (show ¬ (k + 8) % 128 % 64 < 16 by omega), mul_zero, add_zero]

/-! ## Three arrays side by side along the last axis -/

section

variable {n a b c t : Nat}

/-- Three matrices side by side, read at an index. -/
theorem cat2 (x₁ : (⟨2, ![n, a]⟩ : Shape).Idx → EReal) (x₂ : (⟨2, ![n, b]⟩ : Shape).Idx → EReal) (x₃ : (⟨2, ![n, c]⟩ : Shape).Idx → EReal)
    (h : Shape.Concatenates [(⟨2, ![n, a]⟩ : Shape), ⟨2, ![n, b]⟩, ⟨2, ![n, c]⟩] ⟨2, ![n, t]⟩ 1) (ht : a + b + c = t) (r : Fin n) (k : Fin t) :
    concatenate ⟨2, ![n, t]⟩ 1 [⟨⟨2, ![n, a]⟩, x₁⟩, ⟨⟨2, ![n, b]⟩, x₂⟩, ⟨⟨2, ![n, c]⟩, x₃⟩] h (ix2 r k)
      = if k.val < a then rd x₁ r.val k.val else if k.val < a + b then rd x₂ r.val (k.val - a) else rd x₃ r.val (k.val - (a + b)) := by
  have hk := k.isLt
  by_cases h1 : k.val < a
  · rw [if_pos h1]
    refine (concatenate_apply_piece (t := ⟨2, ![n, t]⟩) (1 : Fin 2) [⟨⟨2, ![n, a]⟩, x₁⟩, ⟨⟨2, ![n, b]⟩, x₂⟩, ⟨⟨2, ![n, c]⟩, x₃⟩] h (ix2 r k) 0 (by show 0 < 3; omega) _ x₁ rfl rfl 0 rfl (ix2 r ⟨k.val, h1⟩)
      (fun d hd => by fin_cases d; · rfl
                      · exact absurd rfl hd) (show 0 + k.val = k.val by omega)).trans (eq_rd x₁ r ⟨k.val, h1⟩)
  · rw [if_neg h1]
    by_cases h2 : k.val < a + b
    · rw [if_pos h2]
      refine (concatenate_apply_piece (t := ⟨2, ![n, t]⟩) (1 : Fin 2) [⟨⟨2, ![n, a]⟩, x₁⟩, ⟨⟨2, ![n, b]⟩, x₂⟩, ⟨⟨2, ![n, c]⟩, x₃⟩] h (ix2 r k) 1 (by show 1 < 3; omega) _ x₂ rfl rfl a (by show a + 0 = a; omega) (ix2 r ⟨k.val - a, by omega⟩)
        (fun d hd => by fin_cases d; · rfl
                        · exact absurd rfl hd) (show a + (k.val - a) = k.val by omega)).trans (eq_rd x₂ r ⟨k.val - a, by omega⟩)
    · rw [if_neg h2]
      refine (concatenate_apply_piece (t := ⟨2, ![n, t]⟩) (1 : Fin 2) [⟨⟨2, ![n, a]⟩, x₁⟩, ⟨⟨2, ![n, b]⟩, x₂⟩, ⟨⟨2, ![n, c]⟩, x₃⟩] h (ix2 r k) 2 (by show 2 < 3; omega) _ x₃ rfl rfl (a + b) (by show a + (b + 0) = a + b; omega) (ix2 r ⟨k.val - (a + b), by omega⟩)
        (fun d hd => by fin_cases d; · rfl
                        · exact absurd rfl hd) (show a + b + (k.val - (a + b)) = k.val by omega)).trans (eq_rd x₃ r ⟨k.val - (a + b), by omega⟩)

variable {p : Nat}

/-- Three arrays of heads side by side along a head, read at an index. -/
theorem cat3 (x₁ : (⟨3, ![n, p, a]⟩ : Shape).Idx → EReal) (x₂ : (⟨3, ![n, p, b]⟩ : Shape).Idx → EReal) (x₃ : (⟨3, ![n, p, c]⟩ : Shape).Idx → EReal)
    (h : Shape.Concatenates [(⟨3, ![n, p, a]⟩ : Shape), ⟨3, ![n, p, b]⟩, ⟨3, ![n, p, c]⟩] ⟨3, ![n, p, t]⟩ 2) (ht : a + b + c = t) (r : Fin n) (q : Fin p) (k : Fin t) :
    concatenate ⟨3, ![n, p, t]⟩ 2 [⟨⟨3, ![n, p, a]⟩, x₁⟩, ⟨⟨3, ![n, p, b]⟩, x₂⟩, ⟨⟨3, ![n, p, c]⟩, x₃⟩] h (ix3 r q k)
      = if h1 : k.val < a then x₁ (ix3 r q ⟨k.val, h1⟩)
        else if h2 : k.val < a + b then x₂ (ix3 r q ⟨k.val - a, by omega⟩) else x₃ (ix3 r q ⟨k.val - (a + b), by have := k.isLt; omega⟩) := by
  have hk := k.isLt
  by_cases h1 : k.val < a
  · rw [dif_pos h1]
    exact concatenate_apply_piece (t := ⟨3, ![n, p, t]⟩) (2 : Fin 3) [⟨⟨3, ![n, p, a]⟩, x₁⟩, ⟨⟨3, ![n, p, b]⟩, x₂⟩, ⟨⟨3, ![n, p, c]⟩, x₃⟩] h (ix3 r q k) 0 (by show 0 < 3; omega) _ x₁ rfl rfl 0 rfl (ix3 r q ⟨k.val, h1⟩)
      (fun d hd => by fin_cases d; · rfl
                      · rfl
                      · exact absurd rfl hd) (show 0 + k.val = k.val by omega)
  · rw [dif_neg h1]
    by_cases h2 : k.val < a + b
    · rw [dif_pos h2]
      exact concatenate_apply_piece (t := ⟨3, ![n, p, t]⟩) (2 : Fin 3) [⟨⟨3, ![n, p, a]⟩, x₁⟩, ⟨⟨3, ![n, p, b]⟩, x₂⟩, ⟨⟨3, ![n, p, c]⟩, x₃⟩] h (ix3 r q k) 1 (by show 1 < 3; omega) _ x₂ rfl rfl a (by show a + 0 = a; omega) (ix3 r q ⟨k.val - a, by omega⟩)
        (fun d hd => by fin_cases d; · rfl
                        · rfl
                        · exact absurd rfl hd) (show a + (k.val - a) = k.val by omega)
    · rw [dif_neg h2]
      exact concatenate_apply_piece (t := ⟨3, ![n, p, t]⟩) (2 : Fin 3) [⟨⟨3, ![n, p, a]⟩, x₁⟩, ⟨⟨3, ![n, p, b]⟩, x₂⟩, ⟨⟨3, ![n, p, c]⟩, x₃⟩] h (ix3 r q k) 2 (by show 2 < 3; omega) _ x₃ rfl rfl (a + b) (by show a + (b + 0) = a + b; omega) (ix3 r q ⟨k.val - (a + b), by omega⟩)
        (fun d hd => by fin_cases d; · rfl
                        · rfl
                        · exact absurd rfl hd) (show a + b + (k.val - (a + b)) = k.val by omega)

end

/-! ## A table of one head, repeated for the second -/

/-- The table of a head laid down twice: entry `k` is entry `k % 64` of the head's table. -/
theorem twice (X : (⟨2, ![4096, 64]⟩ : Shape).Idx → EReal) (h1 : (⟨2, ![4096, 64]⟩ : Shape).ShapeCasts ⟨4, ![1, 4096, 1, 64]⟩)
    (h2 : (⟨4, ![1, 4096, 1, 64]⟩ : Shape).BroadcastsInDim ⟨4, ![1, 4096, 2, 64]⟩ (![0, 1, 2, 3] : Fin 4 → Fin 4)) (h3 : (⟨4, ![1, 4096, 2, 64]⟩ : Shape).ShapeCasts ⟨2, ![4096, 128]⟩)
    (r : Fin 4096) (k : Fin 128) :
    shapeCast ⟨2, ![4096, 128]⟩ (broadcastInDim ⟨4, ![1, 4096, 2, 64]⟩ ![0, 1, 2, 3] h2 (shapeCast ⟨4, ![1, 4096, 1, 64]⟩ X h1)) h3 (ix2 r k)
      = X (ix2 r ⟨k.val % 64, Nat.mod_lt _ (by omega)⟩) := by
  have hk := k.isLt
  refine (shapeCast_apply _ h3 (ix2 r k) (ix4 (0 : Fin 1) r (⟨k.val / 64, by omega⟩ : Fin 2) (⟨k.val % 64, by omega⟩ : Fin 64)) ?_).trans ?_
  · rw [Shape.rowMajor_val_two, Shape.rowMajor_val_four]
    show ((0 * 4096 + r.val) * 2 + k.val / 64) * 64 + k.val % 64 = r.val * 128 + k.val
    omega
  refine (broadcastInDim_apply _ h2 _ _ (ix4 (0 : Fin 1) r (0 : Fin 1) (⟨k.val % 64, by omega⟩ : Fin 64)) (fun d => by fin_cases d <;> rfl)).trans ?_
  refine shapeCast_apply _ h1 _ _ ?_
  rw [Shape.rowMajor_val_two, Shape.rowMajor_val_four]
  show r.val * 64 + k.val % 64 = ((0 * 4096 + r.val) * 1 + 0) * 64 + k.val % 64
  omega

/-! ## Blocks of 128 columns, rotated -/

section

variable {n : Nat}

/-- Rotated by 8: entry `k` is the entry eight before. -/
theorem roll_fwd (x : (⟨2, ![n, 128]⟩ : Shape).Idx → EReal) (h : (⟨2, ![n, 128]⟩ : Shape).Rotates 1 none) (r : Fin n) (k : Fin 128) :
    dynamicRotate 1 8#32 none x h (ix2 r k) = rd x r.val ((k.val + 120) % 128) :=
  (dynamicRotate_apply (1 : Fin 2) 8#32 x h (ix2 r k) (ix2 r ⟨(k.val + 120) % 128, Nat.mod_lt _ (by omega)⟩) (fun b => by
    fin_cases b
    · rfl
    · show (k.val + 120) % 128 = (k.val + 128 - 8 % 128) % 128
      omega)).trans (eq_rd x r _)

/-- Rotated by 120: entry `k` is the entry eight further. -/
theorem roll_back (x : (⟨2, ![n, 128]⟩ : Shape).Idx → EReal) (h : (⟨2, ![n, 128]⟩ : Shape).Rotates 1 none) (r : Fin n) (k : Fin 128) :
    dynamicRotate 1 120#32 none x h (ix2 r k) = rd x r.val ((k.val + 8) % 128) :=
  (dynamicRotate_apply (1 : Fin 2) 120#32 x h (ix2 r k) (ix2 r ⟨(k.val + 8) % 128, Nat.mod_lt _ (by omega)⟩) (fun b => by
    fin_cases b
    · rfl
    · show (k.val + 8) % 128 = (k.val + 128 - 120 % 128) % 128
      omega)).trans (eq_rd x r _)

/-- A block times its factors, plus the block rotated either way times its factors. -/
theorem turn_block (x a b d : (⟨2, ![n, 128]⟩ : Shape).Idx → EReal) (h : (⟨2, ![n, 128]⟩ : Shape).Rotates 1 none) (r : Fin n) (k : Fin 128) :
    addf (F := Ideal) (φ := .f32) (addf (F := Ideal) (φ := .f32) (mulf (F := Ideal) (φ := .f32) x a) (mulf (F := Ideal) (φ := .f32) (dynamicRotate 1 120#32 none x h) b))
      (mulf (F := Ideal) (φ := .f32) (dynamicRotate 1 8#32 none x h) d) (ix2 r k)
      = turn (rd x r.val) (rd a r.val) (rd b r.val) (rd d r.val) k.val := by
  show x (ix2 r k) * a (ix2 r k) + dynamicRotate 1 120#32 none x h (ix2 r k) * b (ix2 r k) + dynamicRotate 1 8#32 none x h (ix2 r k) * d (ix2 r k) = _
  rw [roll_fwd, roll_back]
  simp only [eq_rd]
  rfl

/-- A product of two matrices, read at natural coordinates. -/
theorem mul_rd {p : Nat} (x y : (⟨2, ![n, p]⟩ : Shape).Idx → EReal) (r k : Nat) (hr : r < n) (hk : k < p) :
    rd (mulf (F := Ideal) (φ := .f32) x y) r k = rd x r k * rd y r k := by
  rw [rd_of_lt _ hr hk, rd_of_lt _ hr hk, rd_of_lt _ hr hk]
  rfl

/-- A block times its factors, plus the products rotated either way. -/
theorem turnBack_block (x a b d : (⟨2, ![n, 128]⟩ : Shape).Idx → EReal) (h : (⟨2, ![n, 128]⟩ : Shape).Rotates 1 none) (r : Fin n) (k : Fin 128) :
    addf (F := Ideal) (φ := .f32) (addf (F := Ideal) (φ := .f32) (mulf (F := Ideal) (φ := .f32) x a) (dynamicRotate 1 8#32 none (mulf (F := Ideal) (φ := .f32) x b) h))
      (dynamicRotate 1 120#32 none (mulf (F := Ideal) (φ := .f32) x d) h) (ix2 r k)
      = turnBack (rd x r.val) (rd a r.val) (rd b r.val) (rd d r.val) k.val := by
  show x (ix2 r k) * a (ix2 r k) + dynamicRotate 1 8#32 none (mulf (F := Ideal) (φ := .f32) x b) h (ix2 r k) + dynamicRotate 1 120#32 none (mulf (F := Ideal) (φ := .f32) x d) h (ix2 r k) = _
  rw [roll_fwd, roll_back, mul_rd _ _ _ _ r.isLt (Nat.mod_lt _ (by omega)), mul_rd _ _ _ _ r.isLt (Nat.mod_lt _ (by omega)), eq_rd x, eq_rd a]
  rfl

/-- Columns cut out of a matrix. -/
theorem slice_rd {p w o : Nat} (x : (⟨2, ![n, p]⟩ : Shape).Idx → EReal) (h : (⟨2, ![n, p]⟩ : Shape).Slices ![0, o] ⟨2, ![n, w]⟩) (hp : o + w ≤ p)
    (r k : Nat) (hr : r < n) (hk : k < w) : rd (extractStridedSlice ⟨2, ![n, w]⟩ ![0, o] x h) r k = rd x r (o + k) := by
  rw [rd_of_lt _ hr hk, rd_of_lt x hr (show o + k < p by omega)]
  exact extractStridedSlice_apply ![0, o] x h (ix2 ⟨r, hr⟩ ⟨k, hk⟩) (ix2 ⟨r, hr⟩ ⟨o + k, by omega⟩) (fun d => by
    fin_cases d
    · show r = 0 + r
      omega
    · rfl)

end

/-- An array of heads padded with zeros along a head, read at an index. -/
theorem pad3 {n p w t l : Nat} (hi : Fin 3 → Nat) (x : (⟨3, ![n, p, w]⟩ : Shape).Idx → EReal) {u : Shape} (v : u.Idx → EReal)
    (h : (⟨3, ![n, p, w]⟩ : Shape).Pads ![0, 0, l] hi ![0, 0, 0] ⟨3, ![n, p, t]⟩) (hu : 0 < u.numel) (hv : v (Shape.Idx.first hu) = 0)
    (r : Fin n) (q : Fin p) (k : Fin t) :
    pad ⟨3, ![n, p, t]⟩ ![0, 0, l] hi ![0, 0, 0] x v h hu (ix3 r q k) = if h : l ≤ k.val ∧ k.val - l < w then x (ix3 r q ⟨k.val - l, h.2⟩) else 0 := by
  by_cases hin : l ≤ k.val ∧ k.val - l < w
  · rw [dif_pos hin]
    have h1 := hin.1
    refine pad_apply_of_inside _ _ _ x v h hu _ _ fun a => ?_
    fin_cases a
    · show r.val = 0 + r.val * (0 + 1)
      omega
    · show q.val = 0 + q.val * (0 + 1)
      omega
    · show k.val = l + (k.val - l) * (0 + 1)
      omega
  · rw [dif_neg hin]
    refine (pad_apply_of_not_inside _ _ _ x v h hu _ (2 : Fin 3) fun hc => hin ?_).trans hv
    have h1 : l ≤ k.val := hc.1
    have h2 : (k.val - l) / (0 + 1) < w := hc.2.2
    exact ⟨h1, by omega⟩

theorem turn_congr {f f' a a' b b' d d' : Nat → EReal} (hf : ∀ k, k < 128 → f k = f' k) (ha : ∀ k, k < 128 → a k = a' k) (hb : ∀ k, k < 128 → b k = b' k)
    (hd : ∀ k, k < 128 → d k = d' k) (k : Nat) (hk : k < 128) : turn f a b d k = turn f' a' b' d' k := by
  unfold turn
  rw [hf _ hk, ha _ hk, hb _ hk, hd _ hk, hf _ (Nat.mod_lt _ (by omega)), hf _ (Nat.mod_lt _ (by omega))]

theorem turnBack_congr {f f' a a' b b' d d' : Nat → EReal} (hf : ∀ k, k < 128 → f k = f' k) (ha : ∀ k, k < 128 → a k = a' k) (hb : ∀ k, k < 128 → b k = b' k)
    (hd : ∀ k, k < 128 → d k = d' k) (k : Nat) (hk : k < 128) : turnBack f a b d k = turnBack f' a' b' d' k := by
  unfold turnBack
  rw [hf _ hk, ha _ hk, hb _ (Nat.mod_lt _ (by omega)), hd _ (Nat.mod_lt _ (by omega)), hf _ (Nat.mod_lt _ (by omega)), hf _ (Nat.mod_lt _ (by omega))]

/-- The columns from `o` on, `w` of them, hold an index whose column is among them. -/
theorem mem_columns {n p o w : Nat} (inb : ∀ d : Fin 2, (![0, o] : Fin 2 → Nat) d + (![n, w] : Fin 2 → Nat) d ≤ (⟨2, ![n, p]⟩ : Shape).size d)
    (y : (⟨2, ![n, p]⟩ : Shape).Idx) (h1 : o ≤ (y 1).val) (h2 : (y 1).val < o + w) :
    y ∈ (Rect.unit (s := ⟨2, ![n, p]⟩) ![0, o] ![n, w] inb).set := by
  have h0 : (y 0).val < n := (y 0).isLt
  rw [Rect.mem_set_unit]
  intro d
  fin_cases d
  · show 0 ≤ (y 0).val ∧ (y 0).val < 0 + n
    omega
  · exact ⟨h1, h2⟩

end Cert.Rope

end
-- ==== Proof.InFwd.Tables.lean ====
/- The tables of rotary factors that the host prepares for the input projection, read at an index. -/
module

public import proofs.«01_k».proof.Proof.Rope
public import proofs.«01_k».proof.Proof.Gen.Kernel14Ideal.Value

@[expose] public section

noncomputable section

namespace Cert.InFwd

open Idealize.ShloMosaic Idealize.ShloMosaic.TcCoe Idealize.ShloMosaic.Pipeline
open Cert.Kernel14Ideal Cert.Kernel14Ideal.Gen Cert.Rows Cert.Rope

variable (m : (ℓ : Loc nD τ sig) → Buf (Elt Ideal) ℓ) (c : Dev nD)

abbrev aCo : S4096x8.Idx → EReal := m ((c : Thread nD τ).loc main_arg3)
abbrev aSi : S4096x8.Idx → EReal := m ((c : Thread nD τ).loc main_arg4)

/-- A constant array. -/
abbrev full8 (b : BitVec 32) : S4096x8.Idx → EReal := broadcastInDim S4096x8 ![] bcast_S_S4096x8 (constant (F := Ideal) S_ .f32 b)
abbrev full48 (b : BitVec 32) : S4096x48.Idx → EReal := broadcastInDim S4096x48 ![] bcast_S_S4096x48 (constant (F := Ideal) S_ .f32 b)

/-- A head's table from its three parts. -/
abbrev head (x y : S4096x8.Idx → EReal) (z : S4096x48.Idx → EReal) : S4096x64.Idx → EReal :=
  concatenate S4096x64 1 [⟨S4096x8, x⟩, ⟨S4096x8, y⟩, ⟨S4096x48, z⟩] concatenates_S4096x8_S4096x8_S4096x48_S4096x64_d1

/-- A head's table twice. -/
abbrev two (X : S4096x64.Idx → EReal) : S4096x128.Idx → EReal :=
  shapeCast S4096x128 (broadcastInDim S1x4096x2x64 ![0, 1, 2, 3] bcast_S1x4096x1x64_S1x4096x2x64_0_1_2_3 (shapeCast S1x4096x1x64 X shapeCasts_S4096x64_S1x4096x1x64)) shapeCasts_S1x4096x2x64_S4096x128

theorem V_c : V m c main_v9 = two (head (aCo m c) (aCo m c) (full48 0x3F800000#32)) := by
  show StableHlo.after hostOps0 _ (Proc.devRef .tc main_v9) = _
  after_results_simp
  rfl

theorem V_lo : V m c main_v12 = two (head (Host.negf (F := Ideal) (φ := .f32) (aSi m c)) (full8 0x00000000#32) (full48 0x00000000#32)) := by
  show StableHlo.after hostOps0 _ (Proc.devRef .tc main_v12) = _
  after_results_simp
  rfl

theorem V_hi : V m c main_v15 = two (head (full8 0x00000000#32) (aSi m c) (full48 0x00000000#32)) := by
  show StableHlo.after hostOps0 _ (Proc.devRef .tc main_v15) = _
  after_results_simp
  rfl

theorem bits_zero : Ideal.ofBits .f32 0x00000000#32 = 0 := by
  simp [Ideal.ofBits, Ideal.ieee]

theorem bits_one : Ideal.ofBits .f32 0x3F800000#32 = 1 := by
  simp [Ideal.ofBits, Ideal.ieee, -EReal.coe_mul]; norm_num

theorem full8_rd (b : BitVec 32) (r k : Nat) (hr : r < 4096) (hk : k < 8) : rd (full8 b) r k = Ideal.ofBits .f32 b := by
  rw [rd_of_lt _ hr hk]
  pointwise

theorem full48_rd (b : BitVec 32) (r k : Nat) (hr : r < 4096) (hk : k < 48) : rd (full48 b) r k = Ideal.ofBits .f32 b := by
  rw [rd_of_lt _ hr hk]
  pointwise

theorem neg_rd (s : S4096x8.Idx → EReal) (r k : Nat) (hr : r < 4096) (hk : k < 8) : rd (Host.negf (F := Ideal) (φ := .f32) s) r k = -rd s r k := by
  rw [rd_of_lt _ hr hk, rd_of_lt _ hr hk]
  rfl

/-- A head's table twice, read at an index. -/
theorem two_head (x y : S4096x8.Idx → EReal) (z : S4096x48.Idx → EReal) (r : Fin 4096) (k : Fin 128) :
    two (head x y z) (ix2 r k) = if k.val % 64 < 8 then rd x r.val (k.val % 64) else if k.val % 64 < 16 then rd y r.val (k.val % 64 - 8) else rd z r.val (k.val % 64 - 16) :=
  (twice _ _ _ _ r k).trans (cat2 x y z _ (by decide) r ⟨k.val % 64, Nat.mod_lt _ (by omega)⟩)

/-- The factor of the entry itself. -/
theorem table_c (co : S4096x8.Idx → EReal) (r : Fin 4096) (k : Fin 128) : two (head co co (full48 0x3F800000#32)) (ix2 r k) = tabC (rd co r.val) k.val := by
  have hr := r.isLt
  refine (two_head _ _ _ r k).trans ?_
  unfold tabC
  by_cases h1 : k.val % 64 < 8
  · rw [if_pos h1, if_pos h1]
  · rw [if_neg h1, if_neg h1]
    by_cases h2 : k.val % 64 < 16
    · rw [if_pos h2, if_pos h2]
    · rw [if_neg h2, if_neg h2, full48_rd _ _ _ hr (by omega), bits_one]

/-- The factor of the entry eight further. -/
theorem table_lo (si : S4096x8.Idx → EReal) (r : Fin 4096) (k : Fin 128) : two (head (Host.negf (F := Ideal) (φ := .f32) si) (full8 0x00000000#32) (full48 0x00000000#32)) (ix2 r k) = tabLo (rd si r.val) k.val := by
  have hr := r.isLt
  refine (two_head _ _ _ r k).trans ?_
  unfold tabLo
  by_cases h1 : k.val % 64 < 8
  · rw [if_pos h1, if_pos h1, neg_rd _ _ _ hr h1]
  · rw [if_neg h1, if_neg h1]
    by_cases h2 : k.val % 64 < 16
    · rw [if_pos h2, full8_rd _ _ _ hr (by omega), bits_zero]
    · rw [if_neg h2, full48_rd _ _ _ hr (by omega), bits_zero]

/-- The factor of the entry eight before. -/
theorem table_hi (si : S4096x8.Idx → EReal) (r : Fin 4096) (k : Fin 128) : two (head (full8 0x00000000#32) si (full48 0x00000000#32)) (ix2 r k) = tabHi (rd si r.val) k.val := by
  have hr := r.isLt
  refine (two_head _ _ _ r k).trans ?_
  unfold tabHi
  by_cases h1 : k.val % 64 < 8
  · rw [if_pos h1, if_pos h1, full8_rd _ _ _ hr h1, bits_zero]
  · rw [if_neg h1, if_neg h1]
    by_cases h2 : k.val % 64 < 16
    · rw [if_pos h2, if_pos h2]
    · rw [if_neg h2, if_neg h2, full48_rd _ _ _ hr (by omega), bits_zero]

theorem tab_c (r : Fin 4096) (k : Fin 128) : V m c main_v9 (ix2 r k) = tabC (rd (aCo m c) r.val) k.val := by
  rw [V_c]
  exact table_c _ r k

theorem tab_lo (r : Fin 4096) (k : Fin 128) : V m c main_v12 (ix2 r k) = tabLo (rd (aSi m c) r.val) k.val := by
  rw [V_lo]
  exact table_lo _ r k

theorem tab_hi (r : Fin 4096) (k : Fin 128) : V m c main_v15 (ix2 r k) = tabHi (rd (aSi m c) r.val) k.val := by
  rw [V_hi]
  exact table_hi _ r k

end Cert.InFwd

end
-- ==== Proof.RopeBwd.Tables.lean ====
/- The tables of rotary factors that the host prepares for the transpose of the embedding, read at an index. -/
module

public import proofs.«01_k».proof.Proof.InFwd.Tables
public import proofs.«01_k».proof.Proof.Gen.Kernel13Ideal.Value

@[expose] public section

noncomputable section

namespace Cert.RopeBwd

open Idealize.ShloMosaic Idealize.ShloMosaic.TcCoe Idealize.ShloMosaic.Pipeline
open Cert.Kernel13Ideal Cert.Kernel13Ideal.Gen Cert.Rows Cert.Rope
open Cert.InFwd (two head full8 full48 table_c table_lo table_hi)

variable (m : (ℓ : Loc nD τ sig) → Buf (Elt Ideal) ℓ) (c : Dev nD)

abbrev aCo : S4096x8.Idx → EReal := m ((c : Thread nD τ).loc main_arg5)
abbrev aSi : S4096x8.Idx → EReal := m ((c : Thread nD τ).loc main_arg6)

theorem V_c : V m c main_v9 = two (head (aCo m c) (aCo m c) (full48 0x3F800000#32)) := by
  show StableHlo.after hostOps0 _ (Proc.devRef .tc main_v9) = _
  after_results_simp
  rfl

theorem V_lo : V m c main_v12 = two (head (Host.negf (F := Ideal) (φ := .f32) (aSi m c)) (full8 0x00000000#32) (full48 0x00000000#32)) := by
  show StableHlo.after hostOps0 _ (Proc.devRef .tc main_v12) = _
  after_results_simp
  rfl

theorem V_hi : V m c main_v15 = two (head (full8 0x00000000#32) (aSi m c) (full48 0x00000000#32)) := by
  show StableHlo.after hostOps0 _ (Proc.devRef .tc main_v15) = _
  after_results_simp
  rfl

theorem tab_c (r : Fin 4096) (k : Fin 128) : V m c main_v9 (ix2 r k) = tabC (rd (aCo m c) r.val) k.val := by
  rw [V_c]
  exact table_c _ r k

theorem tab_lo (r : Fin 4096) (k : Fin 128) : V m c main_v12 (ix2 r k) = tabLo (rd (aSi m c) r.val) k.val := by
  rw [V_lo]
  exact table_lo _ r k

theorem tab_hi (r : Fin 4096) (k : Fin 128) : V m c main_v15 (ix2 r k) = tabHi (rd (aSi m c) r.val) k.val := by
  rw [V_hi]
  exact table_hi _ r k

end Cert.RopeBwd

end
-- ==== Proof.RopeBwd.Block.lean ====
/- What each grid point of the transpose of the embedding leaves in its output block. -/
module

public import proofs.«01_k».proof.Proof.RopeBwd.Tables

@[expose] public section

noncomputable section

namespace Cert.RopeBwd

open Idealize.ShloMosaic Idealize.ShloMosaic.TcCoe Idealize.ShloMosaic.Pipeline
open Cert.Kernel13Ideal Cert.Kernel13Ideal.Gen Cert.Rows Cert.Rope

/-! ## The payloads, read at an index -/

section

variable (a b d v : S512x128.Idx → EReal)

theorem pay1_eq : k0_pay1 (F := Ideal) a = a := shapeCast_self a _
theorem pay2_eq : k0_pay2 (F := Ideal) a = a := shapeCast_self a _
theorem pay3_eq : k0_pay3 (F := Ideal) a = a := shapeCast_self a _

theorem pay4_eq (r : Fin 512) (k : Fin 128) : k0_pay4 (F := Ideal) a b d v (ix2 r k) = turnBack (rd v r.val) (rd a r.val) (rd b r.val) (rd d r.val) k.val := by
  unfold k0_pay4
  rw [pay1_eq, pay2_eq, pay3_eq]
  exact turnBack_block v a b d rotates_S512x128_d1 r k

theorem pay5_eq (r : Fin 512) (k : Fin 128) : k0_pay5 (F := Ideal) a b d v (ix2 r k) = turnBack (rd v r.val) (rd a r.val) (rd b r.val) (rd d r.val) k.val := by
  unfold k0_pay5
  rw [pay1_eq, pay2_eq, pay3_eq]
  exact turnBack_block v a b d rotates_S512x128_d1 r k

theorem pay6_eq (r : Fin 512) (k : Fin 128) : k0_pay6 (F := Ideal) a b d v (ix2 r k) = turnBack (rd v r.val) (rd a r.val) (rd b r.val) (rd d r.val) k.val := by
  unfold k0_pay6
  rw [pay1_eq, pay2_eq, pay3_eq]
  exact turnBack_block v a b d rotates_S512x128_d1 r k

theorem pay7_eq (r : Fin 512) (k : Fin 128) : k0_pay7 (F := Ideal) a b d v (ix2 r k) = turnBack (rd v r.val) (rd a r.val) (rd b r.val) (rd d r.val) k.val :=
  turnBack_block v a b d rotates_S512x128_d1 r k

theorem pay8_eq (r : Fin 512) (k : Fin 128) : k0_pay8 (F := Ideal) a b d v (ix2 r k) = turnBack (rd v r.val) (rd a r.val) (rd b r.val) (rd d r.val) k.val :=
  turnBack_block v a b d rotates_S512x128_d1 r k

theorem pay10_eq (u p : S512x512.Idx → EReal) (s : S1x512.Idx → EReal) (r : Fin 512) (k : Fin 512) :
    k0_pay10 (F := Ideal) u p s (ix2 r k) = u (ix2 r k) + p (ix2 r k) * s (ix2 0 k) := by
  unfold k0_pay10
  pointwise

/-! ## The seven stores -/

variable (q : S512x512.Idx → EReal) (kv : S512x256.Idx → EReal) (u p : S512x512.Idx → EReal) (s : S1x512.Idx → EReal) (co si : Nat → Nat → EReal)

/-- The stores, the last first. -/
abbrev stores (q : S512x512.Idx → EReal) (kv : S512x256.Idx → EReal) (u p : S512x512.Idx → EReal) (s : S1x512.Idx → EReal) (a b d : S512x128.Idx → EReal) :
    List (View.Piece (Elt Ideal) S512x1280 .bf16) :=
  [⟨Rect.unit (s := S512x1280) ![0, 768] S512x512.size inb_S512x1280_S512x512_0_768, k0_pay10 (F := Ideal) u p s⟩,
    ⟨Rect.unit (s := S512x1280) ![0, 640] S512x128.size inb_S512x1280_S512x128_0_640, k0_pay9 (F := Ideal) (View.ld (Val := Elt Ideal) (e' := .f32) kv (Rect.unit (s := S512x256) ![0, 128] S512x128.size inb_S512x256_S512x128_0_128))⟩,
    ⟨Rect.unit (s := S512x1280) ![0, 512] S512x128.size inb_S512x1280_S512x128_0_512, k0_pay8 (F := Ideal) (k0_pay1 (F := Ideal) a) (k0_pay2 (F := Ideal) b) (k0_pay3 (F := Ideal) d) (View.ld (Val := Elt Ideal) (e' := .f32) kv (Rect.unit (s := S512x256) ![0, 0] S512x128.size inb_S512x256_S512x128_0_0))⟩,
    ⟨Rect.unit (s := S512x1280) ![0, 384] S512x128.size inb_S512x1280_S512x128_0_384, k0_pay7 (F := Ideal) (k0_pay1 (F := Ideal) a) (k0_pay2 (F := Ideal) b) (k0_pay3 (F := Ideal) d) (View.ld (Val := Elt Ideal) (e' := .f32) q (Rect.unit (s := S512x512) ![0, 384] S512x128.size inb_S512x512_S512x128_0_384))⟩,
    ⟨Rect.unit (s := S512x1280) ![0, 256] S512x128.size inb_S512x1280_S512x128_0_256, k0_pay6 (F := Ideal) a b d (View.ld (Val := Elt Ideal) (e' := .f32) q (Rect.unit (s := S512x512) ![0, 256] S512x128.size inb_S512x512_S512x128_0_256))⟩,
    ⟨Rect.unit (s := S512x1280) ![0, 128] S512x128.size inb_S512x1280_S512x128_0_128, k0_pay5 (F := Ideal) a b d (View.ld (Val := Elt Ideal) (e' := .f32) q (Rect.unit (s := S512x512) ![0, 128] S512x128.size inb_S512x512_S512x128_0_128))⟩,
    ⟨Rect.unit (s := S512x1280) ![0, 0] S512x128.size inb_S512x1280_S512x128_0_0, k0_pay4 (F := Ideal) a b d (View.ld (Val := Elt Ideal) (e' := .f32) q (Rect.unit (s := S512x512) ![0, 0] S512x128.size inb_S512x512_S512x128_0_0))⟩]

/-- A row of the closed form. -/
def row (r : Nat) (j : Nat) : EReal := grads (rd q r) (rd kv r) (rd u r) (rd p r) (rd s 0) (co r) (si r) j

/-- What the stores leave. -/
def left (y : S512x1280.Idx) : EReal := row q kv u p s co si (y 0).val (y 1).val

/-- Columns loaded from a block. -/
theorem ld_rd {w o : Nat} (x : (⟨2, ![512, w]⟩ : Shape).Idx → EReal) (inb : ∀ d, (![0, o] : Fin 2 → Nat) d + S512x128.size d ≤ (⟨2, ![512, w]⟩ : Shape).size d) (r : Fin 512) (k : Nat) (hk : k < 128) :
    rd (View.ld (Val := Elt Ideal) (e' := .f32) x (Rect.unit (s := ⟨2, ![512, w]⟩) ![0, o] S512x128.size inb)) r.val k = rd x r.val (o + k) :=
  (rd_of_lt _ r.isLt hk).trans (rd_of_emb x _ (show 0 + 1 * r.val = r.val by omega) (show o + 1 * k = o + k by omega))

/-- A turned block is the row turned there. -/
theorem piece (ha : ∀ (r : Fin 512) k, k < 128 → rd a r.val k = tabC (co r.val) k) (hb : ∀ (r : Fin 512) k, k < 128 → rd b r.val k = tabLo (si r.val) k)
    (hd : ∀ (r : Fin 512) k, k < 128 → rd d r.val k = tabHi (si r.val) k) {w o : Nat} (ho : o % 64 = 0) (x : (⟨2, ![512, w]⟩ : Shape).Idx → EReal)
    (inb : ∀ d, (![0, o] : Fin 2 → Nat) d + S512x128.size d ≤ (⟨2, ![512, w]⟩ : Shape).size d) (r : Fin 512) (k : Fin 128) :
    turnBack (rd (View.ld (Val := Elt Ideal) (e' := .f32) x (Rect.unit (s := ⟨2, ![512, w]⟩) ![0, o] S512x128.size inb)) r.val) (rd a r.val) (rd b r.val) (rd d r.val) k.val
      = back (rd x r.val) (co r.val) (si r.val) (o + k.val) :=
  (turnBack_congr (fun _ hk => ld_rd x inb r _ hk) (ha r) (hb r) (hd r) _ k.isLt).trans (turnBack_eq (rd x r.val) (co r.val) (si r.val) o k.val ho k.isLt)

/-- A store whose payload is the closed form at its columns. -/
theorem stored {w : Nat} (o : Nat) (inb : ∀ d, (![0, o] : Fin 2 → Nat) d + (![512, w] : Fin 2 → Nat) d ≤ S512x1280.size d) (f : (⟨2, ![512, w]⟩ : Shape).Idx → EReal)
    (h : ∀ (r : Fin 512) (k : Fin w), f (ix2 r k) = row q kv u p s co si r.val (o + k.val)) (y : (⟨2, ![512, w]⟩ : Shape).Idx) :
    f y = left q kv u p s co si ((Rect.unit (s := S512x1280) ![0, o] ![512, w] inb).emb y) := by
  obtain ⟨r, k, rfl⟩ : ∃ (r : Fin 512) (k : Fin w), y = ix2 r k := ⟨y 0, y 1, ValueIdx.eq_ix2 y⟩
  exact (h r k).trans (congrArg₂ (row q kv u p s co si) (show r.val = 0 + 1 * r.val by omega) (show o + k.val = o + 1 * k.val by omega))

theorem stores_canon (ha : ∀ (r : Fin 512) k, k < 128 → rd a r.val k = tabC (co r.val) k) (hb : ∀ (r : Fin 512) k, k < 128 → rd b r.val k = tabLo (si r.val) k)
    (hd : ∀ (r : Fin 512) k, k < 128 → rd d r.val k = tabHi (si r.val) k) :
    View.canon (Val := Elt Ideal) (s := S512x1280) (e := .bf16) (stores q kv u p s a b d) = left q kv u p s co si := by
  funext y
  refine View.canon_apply_of_pieces (Val := Elt Ideal) (S := S512x1280) (e := .bf16) (left q kv u p s co si) _ ?_ y
    (View.cover_of_tiledBy (stores q kv u p s a b d) ![512, 128] (by sl_kernel_rfl) y)
  have hq : ∀ (o : Nat) (r : Fin 512) (k : Fin 128), o + 128 ≤ 512 → row q kv u p s co si r.val (o + k.val) = back (rd q r.val) (co r.val) (si r.val) (o + k.val) := fun o r k ho => by
    have := k.isLt
    unfold row grads
    rw [if_pos (by omega)]
  intro f hf
  rcases List.mem_cons.mp hf with rfl | hf
  · refine stored q kv u p s co si 768 inb_S512x1280_S512x512_0_768 _ fun r k => ?_
    unfold row grads
    rw [if_neg (by omega), if_neg (by omega), if_neg (by omega), show 768 + k.val - 768 = k.val by omega]
    refine (pay10_eq u p s r k).trans ?_
    rw [eq_rd u, eq_rd p, eq_rd s]
    rfl
  rcases List.mem_cons.mp hf with rfl | hf
  · refine stored q kv u p s co si 640 inb_S512x1280_S512x128_0_640 _ fun r k => ?_
    have := k.isLt
    unfold row grads
    rw [if_neg (by omega), if_neg (by omega), if_pos (by omega)]
    exact rd_of_emb kv _ (show 0 + 1 * r.val = r.val by omega) (show 128 + 1 * k.val = 640 + k.val - 512 by omega)
  rcases List.mem_cons.mp hf with rfl | hf
  · refine stored q kv u p s co si 512 inb_S512x1280_S512x128_0_512 _ fun r k => ?_
    have := k.isLt
    unfold row grads
    rw [if_neg (by omega), if_pos (by omega), pay1_eq, pay2_eq, pay3_eq]
    exact ((pay8_eq _ _ _ _ r k).trans (piece a b d co si ha hb hd (by decide) kv inb_S512x256_S512x128_0_0 r k)).trans
      (congrArg (back (rd kv r.val) (co r.val) (si r.val)) (show 0 + k.val = 512 + k.val - 512 by omega))
  rcases List.mem_cons.mp hf with rfl | hf
  · refine stored q kv u p s co si 384 inb_S512x1280_S512x128_0_384 _ fun r k => ?_
    rw [pay1_eq, pay2_eq, pay3_eq, hq 384 r k (by omega)]
    exact (pay7_eq _ _ _ _ r k).trans (piece a b d co si ha hb hd (by decide) q inb_S512x512_S512x128_0_384 r k)
  rcases List.mem_cons.mp hf with rfl | hf
  · refine stored q kv u p s co si 256 inb_S512x1280_S512x128_0_256 _ fun r k => ?_
    rw [hq 256 r k (by omega)]
    exact (pay6_eq _ _ _ _ r k).trans (piece a b d co si ha hb hd (by decide) q inb_S512x512_S512x128_0_256 r k)
  rcases List.mem_cons.mp hf with rfl | hf
  · refine stored q kv u p s co si 128 inb_S512x1280_S512x128_0_128 _ fun r k => ?_
    rw [hq 128 r k (by omega)]
    exact (pay5_eq _ _ _ _ r k).trans (piece a b d co si ha hb hd (by decide) q inb_S512x512_S512x128_0_128 r k)
  obtain rfl := List.mem_singleton.mp hf
  refine stored q kv u p s co si 0 inb_S512x1280_S512x128_0_0 _ fun r k => ?_
  rw [hq 0 r k (by omega)]
  exact (pay4_eq _ _ _ _ r k).trans (piece a b d co si ha hb hd (by decide) q inb_S512x512_S512x128_0_0 r k)

end

/-! ## The input blocks -/

variable (m : (ℓ : Loc nD τ sig) → Buf (Elt Ideal) ℓ) (c : Dev nD) (t : Fin cfg0.N)

abbrev aQ : S4096x512.Idx → EReal := m ((c : Thread nD τ).loc main_arg0)
abbrev aKv : S4096x256.Idx → EReal := m ((c : Thread nD τ).loc main_arg1)
abbrev aU : S4096x512.Idx → EReal := m ((c : Thread nD τ).loc main_arg2)
abbrev aP : S4096x512.Idx → EReal := m ((c : Thread nD τ).loc main_arg3)
abbrev aS : S1x512.Idx → EReal := m ((c : Thread nD τ).loc main_arg4)

theorem index_0 : ∀ t : Fin cfg0.N, (cfg0.win 0).index t 0 = t.val ∧ (cfg0.win 0).index t 1 = 0 := by decide +kernel
theorem index_1 : ∀ t : Fin cfg0.N, (cfg0.win 1).index t 0 = t.val ∧ (cfg0.win 1).index t 1 = 0 := by decide +kernel
theorem index_2 : ∀ t : Fin cfg0.N, (cfg0.win 2).index t 0 = t.val ∧ (cfg0.win 2).index t 1 = 0 := by decide +kernel
theorem index_3 : ∀ t : Fin cfg0.N, (cfg0.win 3).index t 0 = t.val ∧ (cfg0.win 3).index t 1 = 0 := by decide +kernel
theorem index_4 : ∀ t : Fin cfg0.N, (cfg0.win 4).index t 0 = 0 ∧ (cfg0.win 4).index t 1 = 0 := by decide +kernel
theorem index_5 : ∀ t : Fin cfg0.N, (cfg0.win 5).index t 0 = t.val ∧ (cfg0.win 5).index t 1 = 0 := by decide +kernel
theorem index_6 : ∀ t : Fin cfg0.N, (cfg0.win 6).index t 0 = t.val ∧ (cfg0.win 6).index t 1 = 0 := by decide +kernel
theorem index_7 : ∀ t : Fin cfg0.N, (cfg0.win 7).index t 0 = t.val ∧ (cfg0.win 7).index t 1 = 0 := by decide +kernel
theorem index_8 : ∀ t : Fin cfg0.N, (cfg0.win 8).index t 0 = t.val ∧ (cfg0.win 8).index t 1 = 0 := by decide +kernel

theorem iblk_0 (r : Fin 512) (k : Fin 512) : iblk m c 0 t (ix2 r k) = rd (aQ m c) (512 * t.val + r.val) k.val :=
  (rd_of_emb (V m c main_arg0) (((cfg0.win 0).rect t).emb (ix2 r k))
    (((cfg0.win 0).rect_emb_val t (ix2 r k) 0).trans ((congrArg (· * 512 + r.val) (index_0 t).1).trans (show t.val * 512 + r.val = 512 * t.val + r.val by omega)))
    (((cfg0.win 0).rect_emb_val t (ix2 r k) 1).trans ((congrArg (· * 512 + k.val) (index_0 t).2).trans (show 0 * 512 + k.val = k.val by omega)))).trans
    (congrArg (fun X : S4096x512.Idx → EReal => rd X _ _) (V_main_arg0 m c))

theorem iblk_1 (r : Fin 512) (k : Fin 256) : iblk m c 1 t (ix2 r k) = rd (aKv m c) (512 * t.val + r.val) k.val :=
  (rd_of_emb (V m c main_arg1) (((cfg0.win 1).rect t).emb (ix2 r k))
    (((cfg0.win 1).rect_emb_val t (ix2 r k) 0).trans ((congrArg (· * 512 + r.val) (index_1 t).1).trans (show t.val * 512 + r.val = 512 * t.val + r.val by omega)))
    (((cfg0.win 1).rect_emb_val t (ix2 r k) 1).trans ((congrArg (· * 256 + k.val) (index_1 t).2).trans (show 0 * 256 + k.val = k.val by omega)))).trans
    (congrArg (fun X : S4096x256.Idx → EReal => rd X _ _) (V_main_arg1 m c))

theorem iblk_2 (r : Fin 512) (k : Fin 512) : iblk m c 2 t (ix2 r k) = rd (aU m c) (512 * t.val + r.val) k.val :=
  (rd_of_emb (V m c main_arg2) (((cfg0.win 2).rect t).emb (ix2 r k))
    (((cfg0.win 2).rect_emb_val t (ix2 r k) 0).trans ((congrArg (· * 512 + r.val) (index_2 t).1).trans (show t.val * 512 + r.val = 512 * t.val + r.val by omega)))
    (((cfg0.win 2).rect_emb_val t (ix2 r k) 1).trans ((congrArg (· * 512 + k.val) (index_2 t).2).trans (show 0 * 512 + k.val = k.val by omega)))).trans
    (congrArg (fun X : S4096x512.Idx → EReal => rd X _ _) (V_main_arg2 m c))

theorem iblk_3 (r : Fin 512) (k : Fin 512) : iblk m c 3 t (ix2 r k) = rd (aP m c) (512 * t.val + r.val) k.val :=
  (rd_of_emb (V m c main_arg3) (((cfg0.win 3).rect t).emb (ix2 r k))
    (((cfg0.win 3).rect_emb_val t (ix2 r k) 0).trans ((congrArg (· * 512 + r.val) (index_3 t).1).trans (show t.val * 512 + r.val = 512 * t.val + r.val by omega)))
    (((cfg0.win 3).rect_emb_val t (ix2 r k) 1).trans ((congrArg (· * 512 + k.val) (index_3 t).2).trans (show 0 * 512 + k.val = k.val by omega)))).trans
    (congrArg (fun X : S4096x512.Idx → EReal => rd X _ _) (V_main_arg3 m c))

theorem iblk_4 (r : Fin 1) (k : Fin 512) : iblk m c 4 t (ix2 r k) = rd (aS m c) (r.val) k.val :=
  (rd_of_emb (V m c main_arg4) (((cfg0.win 4).rect t).emb (ix2 r k))
    (((cfg0.win 4).rect_emb_val t (ix2 r k) 0).trans ((congrArg (· * 1 + r.val) (index_4 t).1).trans (show 0 * 1 + r.val = r.val by omega)))
    (((cfg0.win 4).rect_emb_val t (ix2 r k) 1).trans ((congrArg (· * 512 + k.val) (index_4 t).2).trans (show 0 * 512 + k.val = k.val by omega)))).trans
    (congrArg (fun X : S1x512.Idx → EReal => rd X _ _) (V_main_arg4 m c))

theorem iblk_5 (r : Fin 512) (k : Fin 128) : iblk m c 5 t (ix2 r k) = tabC (rd (aCo m c) (512 * t.val + r.val)) k.val := by
  have hr := r.isLt
  have ht : t.val < 8 := lt_of_lt_of_eq t.isLt N_0
  refine Eq.trans ?_ (tab_c m c ⟨512 * t.val + r.val, by omega⟩ k)
  refine congrArg (V m c main_v9) (funext fun d => Fin.ext ?_)
  fin_cases d
  · exact ((cfg0.win 5).rect_emb_val t (ix2 r k) 0).trans ((congrArg (· * 512 + r.val) (index_5 t).1).trans (show t.val * 512 + r.val = 512 * t.val + r.val by omega))
  · exact ((cfg0.win 5).rect_emb_val t (ix2 r k) 1).trans ((congrArg (· * 128 + k.val) (index_5 t).2).trans (show 0 * 128 + k.val = k.val by omega))

theorem iblk_6 (r : Fin 512) (k : Fin 128) : iblk m c 6 t (ix2 r k) = tabLo (rd (aSi m c) (512 * t.val + r.val)) k.val := by
  have hr := r.isLt
  have ht : t.val < 8 := lt_of_lt_of_eq t.isLt N_0
  refine Eq.trans ?_ (tab_lo m c ⟨512 * t.val + r.val, by omega⟩ k)
  refine congrArg (V m c main_v12) (funext fun d => Fin.ext ?_)
  fin_cases d
  · exact ((cfg0.win 6).rect_emb_val t (ix2 r k) 0).trans ((congrArg (· * 512 + r.val) (index_6 t).1).trans (show t.val * 512 + r.val = 512 * t.val + r.val by omega))
  · exact ((cfg0.win 6).rect_emb_val t (ix2 r k) 1).trans ((congrArg (· * 128 + k.val) (index_6 t).2).trans (show 0 * 128 + k.val = k.val by omega))

theorem iblk_7 (r : Fin 512) (k : Fin 128) : iblk m c 7 t (ix2 r k) = tabHi (rd (aSi m c) (512 * t.val + r.val)) k.val := by
  have hr := r.isLt
  have ht : t.val < 8 := lt_of_lt_of_eq t.isLt N_0
  refine Eq.trans ?_ (tab_hi m c ⟨512 * t.val + r.val, by omega⟩ k)
  refine congrArg (V m c main_v15) (funext fun d => Fin.ext ?_)
  fin_cases d
  · exact ((cfg0.win 7).rect_emb_val t (ix2 r k) 0).trans ((congrArg (· * 512 + r.val) (index_7 t).1).trans (show t.val * 512 + r.val = 512 * t.val + r.val by omega))
  · exact ((cfg0.win 7).rect_emb_val t (ix2 r k) 1).trans ((congrArg (· * 128 + k.val) (index_7 t).2).trans (show 0 * 128 + k.val = k.val by omega))

/-! ## What a point leaves in its window -/

private theorem hz2 : (![0, 0] : Fin 2 → Nat) = fun _ => 0 := by decide

theorem left8 : outsAt0 m c t = View.canon (Val := Elt Ideal) (s := S512x1280) (e := .bf16) (stores (iblk m c 0 t) (iblk m c 1 t) (iblk m c 2 t) (iblk m c 3 t) (iblk m c 4 t) (iblk m c 5 t) (iblk m c 6 t) (iblk m c 7 t)) := by
  unfold outsAt0
  unfold out0_A_8
  rw [View.read_writes_eq_canon _ _ _ (cover0_A_8 c _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S512x512) hz2, View.ld_unit_zero (S := S1x512) hz2, View.ld_unit_zero (S := S512x128) hz2]

/-- The closed form on the arguments. -/
def gv (r j : Nat) : EReal := grads (rd (aQ m c) r) (rd (aKv m c) r) (rd (aU m c) r) (rd (aP m c) r) (rd (aS m c) 0) (rd (aCo m c) r) (rd (aSi m c) r) j

theorem out8 (r : Fin 512) (k : Fin 1280) : outsAt0 m c t (ix2 r k) = gv m c (512 * t.val + r.val) k.val := by
  have hk := k.isLt
  rw [left8, stores_canon _ _ _ _ _ _ _ _ (fun r => rd (aCo m c) (512 * t.val + r)) (fun r => rd (aSi m c) (512 * t.val + r))
    (fun r k hk => (rd_of_lt _ r.isLt hk).trans (iblk_5 m c t r ⟨k, hk⟩)) (fun r k hk => (rd_of_lt _ r.isLt hk).trans (iblk_6 m c t r ⟨k, hk⟩)) (fun r k hk => (rd_of_lt _ r.isLt hk).trans (iblk_7 m c t r ⟨k, hk⟩))]
  exact grads_congr _ _ (fun j hj => (rd_of_lt _ r.isLt hj).trans (iblk_0 m c t r ⟨j, hj⟩)) (fun j hj => (rd_of_lt _ r.isLt hj).trans (iblk_1 m c t r ⟨j, hj⟩))
    (fun j hj => (rd_of_lt _ r.isLt hj).trans (iblk_2 m c t r ⟨j, hj⟩)) (fun j hj => (rd_of_lt _ r.isLt hj).trans (iblk_3 m c t r ⟨j, hj⟩))
    (fun j hj => (rd_of_lt _ (by decide) hj).trans (iblk_4 m c t 0 ⟨j, hj⟩)) k.val hk

end Cert.RopeBwd

end
-- ==== Proof.RopeBwd.Array.lean ====
/- What the transpose of the embedding leaves in its result. -/
module

public import proofs.«01_k».proof.Proof.RopeBwd.Block

@[expose] public section

noncomputable section

namespace Cert.RopeBwd

open Idealize.ShloMosaic Idealize.ShloMosaic.TcCoe Idealize.ShloMosaic.Pipeline Idealize.SL.Sem
open Cert.Kernel13Ideal Cert.Kernel13Ideal.Gen Cert.Rows Cert.Rope

variable (m : (ℓ : Loc nD τ sig) → Buf (Elt Ideal) ℓ) (c : Dev nD) (ρ : Dev nD → PrngReg)

/-- The gradient of the projection. -/
def GP (i : S4096x1280.Idx) : EReal := gv m c (i 0).val (i 1).val

theorem point (a : Nat) (ha : a < 8) : ∃ t : Fin cfg0.N, t.val = a := ⟨⟨a, by rw [show cfg0.N = 8 from N_0]; exact ha⟩, rfl⟩

theorem flushed8 (t : Fin cfg0.N) : (dats m 0 c).flushed 8 t = (win0_8.blk t).view.read (Elt Ideal) (GP m c) := by
  funext y
  obtain ⟨r, k, rfl⟩ : ∃ (r : Fin 512) (k : Fin 1280), y = ix2 r k := ⟨y 0, y 1, ValueIdx.eq_ix2 y⟩
  refine ((congrFun (after0_8 m c t) (ix2 r k)).trans (out8 m c t r k)).trans ?_
  show _ = GP m c ((win0_8.rect t).emb (ix2 r k))
  obtain ⟨e0, e1⟩ := index_8 t
  have i0 := (win0_8.rect_emb_val t (ix2 r k) 0).trans (congrArg (· * 512 + r.val) e0)
  have i1 := (win0_8.rect_emb_val t (ix2 r k) 1).trans (congrArg (· * 1280 + k.val) e1)
  refine congrArg₂ (gv m c) ?_ ?_
  · rw [i0]; omega
  · rw [i1]; omega

theorem cover8 (i : S4096x1280.Idx) : ∃ t : Fin cfg0.N, (cfg0.win 8).flush t = true ∧ i ∈ ((cfg0.win 8).blk t).view.set := by
  have h0 : (i 0).val < 4096 := (i 0).isLt
  have h1 : (i 1).val < 1280 := (i 1).isLt
  obtain ⟨t, ha⟩ := point ((i 0).val / 512) (by omega)
  obtain ⟨e0, e1⟩ := index_8 t
  refine ⟨t, flush0_8 t, ?_⟩
  show i ∈ ((View.whole main_v16).slice (win0_8.rect t)).set
  rw [View.set_slice_whole, Rect.mem_set_unit]
  intro a
  fin_cases a
  · show (cfg0.win 8).index t 0 * 512 ≤ (i 0).val ∧ (i 0).val < (cfg0.win 8).index t 0 * 512 + 512
    rw [e0]; omega
  · show (cfg0.win 8).index t 1 * 1280 ≤ (i 1).val ∧ (i 1).val < (cfg0.win 8).index t 1 * 1280 + 1280
    rw [e1]; omega

theorem final8 : (dats m 0 c).arrAt 8 cfg0.N = GP m c :=
  (dats m 0 c).arrAt_eq_of_cover 8 (GP m c) (fun t _ => flushed8 m c t) cover8

/-- The run: the result at the closed form, the arguments unchanged. -/
theorem run : θ_run defs (onTc (τ := τ) (main (F := Ideal))) ⟨m, fun _ => 0, ρ⟩ fun r => ∀ c : Dev nD,
      r.2.mem ((c : Thread nD τ).loc main_v16) = GP m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final8 m c), (h c).2⟩) (Cert.Kernel13Ideal.Value.run_blocks m ρ)

end Cert.RopeBwd

end
-- ==== Proof.RopeBwd.Reference.lean ====
/- The gradient of the projection, as the reference computes it, read at an index. -/
module

public import proofs.«01_k».proof.Proof.Rope
public import proofs.«01_k».proof.Proof.Gen.Reference13Ideal.Read

@[expose] public section

noncomputable section

namespace Cert.RopeBwd.Ref

open Idealize.ShloMosaic Cert.Reference13Ideal Cert.Reference13Ideal.Gen Cert.Reference13Ideal.Read Cert.Rows Cert.Rope

variable (Q : S4096x512.Idx → EReal) (K : S4096x256.Idx → EReal) (U P : S4096x512.Idx → EReal) (D : S1x512.Idx → EReal) (C S : S4096x8.Idx → EReal)

theorem bits_zero : Ideal.ofBits .f32 0x00000000#32 = 0 := by
  simp [Ideal.ofBits, Ideal.ieee]

/-- The keys' gradient, by head. -/
theorem k3 (i : S4096x2x64.Idx) : val_main_v51 (F := Ideal) K i = rd K (i 0).val (64 * (i 1).val + (i 2).val) := by
  have h0 : (i 0).val < 4096 := (i 0).isLt
  have h1 : (i 1).val < 2 := (i 1).isLt
  have h2 : (i 2).val < 64 := (i 2).isLt
  rw [val_main_v51_apply, val_main_v0_apply]
  refine rd_of_emb K _ ?_ ?_
  · show (((i 0).val * 2 + (i 1).val) * 64 + (i 2).val) / 128 = (i 0).val
    omega
  · show (((i 0).val * 2 + (i 1).val) * 64 + (i 2).val) % 128 = 64 * (i 1).val + (i 2).val
    omega

/-- The second eight entries of a head, of the keys' gradient. -/
theorem k_hi (r : Fin 4096) (a : Fin 2) (k : Fin 8) : val_main_v63 (F := Ideal) K C S (ix3 r a k)
    = rd K r.val (64 * a.val + (8 + k.val)) * rd C r.val k.val - rd K r.val (64 * a.val + k.val) * rd S r.val k.val := by
  rw [val_main_v63_apply, val_main_v59_apply, val_main_v62_apply, val_main_v60_apply, val_main_v53_apply, val_main_v54_apply, k3, k3,
    val_main_v58_apply, val_main_v61_apply, val_main_v23_apply, val_main_v24_apply]
  refine Eq.trans ?_ (sub_eq_add_neg _ _).symm
  refine congrArg₂ (· + ·) (congrArg₂ (· * ·) rfl (rd_of_emb C _ rfl rfl)) ?_
  refine Eq.trans (congrArg₂ (· * ·) rfl (rd_of_emb S _ rfl rfl)) (EReal.neg_mul _ _)

/-- The first eight. -/
theorem k_lo (r : Fin 4096) (a : Fin 2) (k : Fin 8) : val_main_v66 (F := Ideal) K C S (ix3 r a k)
    = rd K r.val (64 * a.val + k.val) * rd C r.val k.val + rd K r.val (64 * a.val + (8 + k.val)) * rd S r.val k.val := by
  rw [val_main_v66_apply, val_main_v65_apply, val_main_v57_apply, val_main_v53_apply, val_main_v54_apply, k3, k3,
    val_main_v64_apply, val_main_v56_apply, val_main_v23_apply, val_main_v24_apply]
  refine Eq.trans (add_comm _ _) ?_
  exact congrArg₂ (· + ·) (congrArg₂ (· * ·) rfl (rd_of_emb C _ rfl rfl)) (congrArg₂ (· * ·) rfl (rd_of_emb S _ rfl rfl))

/-- The keys' gradient, turned back. -/
theorem k_eq (r : Fin 4096) (a : Fin 2) (k : Fin 64) : val_main_v71 (F := Ideal) K C S (ix3 r a k)
    = back (rd K r.val) (rd C r.val) (rd S r.val) (64 * a.val + k.val) := by
  have hk := k.isLt
  have e : (64 * a.val + k.val) % 64 = k.val := by omega
  have p1 : val_main_v67 (F := Ideal) K (ix3 r a k) = if h : 16 ≤ k.val ∧ k.val - 16 < 48 then val_main_v55 (F := Ideal) K (ix3 r a ⟨k.val - 16, h.2⟩) else 0 :=
    pad3 (n := 4096) (p := 2) (w := 48) (t := 64) (l := 16) _ (val_main_v55 (F := Ideal) K) _ _ _ bits_zero r a k
  have p2 : val_main_v68 (F := Ideal) K C S (ix3 r a k) = if h : 8 ≤ k.val ∧ k.val - 8 < 8 then val_main_v63 (F := Ideal) K C S (ix3 r a ⟨k.val - 8, h.2⟩) else 0 :=
    pad3 (n := 4096) (p := 2) (w := 8) (t := 64) (l := 8) _ (val_main_v63 (F := Ideal) K C S) _ _ _ bits_zero r a k
  have p3 : val_main_v70 (F := Ideal) K C S (ix3 r a k) = if h : 0 ≤ k.val ∧ k.val - 0 < 8 then val_main_v66 (F := Ideal) K C S (ix3 r a ⟨k.val - 0, h.2⟩) else 0 :=
    pad3 (n := 4096) (p := 2) (w := 8) (t := 64) (l := 0) _ (val_main_v66 (F := Ideal) K C S) _ _ _ bits_zero r a k
  rw [val_main_v71_apply, val_main_v69_apply, p1, p2, p3]
  show _ + _ + _ = _
  unfold back
  rw [e]
  by_cases h1 : k.val < 8
  · rw [dif_neg (by omega), dif_neg (by omega), dif_pos (by omega), if_pos h1, zero_add, zero_add, k_lo]
    exact congrArg₂ (· + ·) (congrArg₂ (· * ·) (congrArg (rd K r.val) (show 64 * a.val + (k.val - 0) = 64 * a.val + k.val by omega)) (congrArg (rd C r.val) (show k.val - 0 = k.val by omega)))
      (congrArg₂ (· * ·) (congrArg (rd K r.val) (show 64 * a.val + (8 + (k.val - 0)) = 64 * a.val + k.val + 8 by omega)) (congrArg (rd S r.val) (show k.val - 0 = k.val by omega)))
  rw [if_neg h1]
  by_cases h2 : k.val < 16
  · rw [dif_neg (by omega), dif_pos (by omega), dif_neg (by omega), if_pos h2, zero_add, add_zero, k_hi]
    exact congrArg₂ (· - ·) (congrArg₂ (· * ·) (congrArg (rd K r.val) (show 64 * a.val + (8 + (k.val - 8)) = 64 * a.val + k.val by omega)) rfl)
      (congrArg₂ (· * ·) (congrArg (rd K r.val) (show 64 * a.val + (k.val - 8) = 64 * a.val + k.val - 8 by omega)) rfl)
  · rw [dif_pos (by omega), dif_neg (by omega), dif_neg (by omega), if_neg h2, add_zero, add_zero, val_main_v55_apply, k3]
    exact congrArg (rd K r.val) (show 64 * a.val + (16 + (k.val - 16)) = 64 * a.val + k.val by omega)

/-- The keys' gradient, turned back, side by side again. -/
theorem k2 (r : Fin 4096) (k : Fin 128) : val_main_v72 (F := Ideal) K C S (ix2 r k) = back (rd K r.val) (rd C r.val) (rd S r.val) k.val := by
  have hr := r.isLt
  have hk := k.isLt
  have e : idx_main_v72 (ix2 r k) = ix3 r (⟨k.val / 64, by omega⟩ : Fin 2) (⟨k.val % 64, by omega⟩ : Fin 64) := by
    funext d
    refine Fin.ext ?_
    fin_cases d
    · show (r.val * 128 + k.val) / 128 = r.val
      omega
    · show (r.val * 128 + k.val) / 64 % 2 = k.val / 64
      omega
    · show (r.val * 128 + k.val) % 64 = k.val % 64
      omega
  rw [val_main_v72_apply, e, k_eq]
  exact congrArg (back (rd K r.val) (rd C r.val) (rd S r.val)) (show 64 * (k.val / 64) + k.val % 64 = k.val by omega)

/-- The queries' gradient, by head. -/
theorem q3 (i : S4096x8x64.Idx) : val_main_v52 (F := Ideal) Q i = rd Q (i 0).val (64 * (i 1).val + (i 2).val) := by
  have h0 : (i 0).val < 4096 := (i 0).isLt
  have h1 : (i 1).val < 8 := (i 1).isLt
  have h2 : (i 2).val < 64 := (i 2).isLt
  rw [val_main_v52_apply]
  refine rd_of_emb Q _ ?_ ?_
  · show (((i 0).val * 8 + (i 1).val) * 64 + (i 2).val) / 512 = (i 0).val
    omega
  · show (((i 0).val * 8 + (i 1).val) * 64 + (i 2).val) % 512 = 64 * (i 1).val + (i 2).val
    omega

/-- The second eight entries of a head, of the queries' gradient. -/
theorem q_hi (r : Fin 4096) (a : Fin 8) (k : Fin 8) : val_main_v85 (F := Ideal) Q C S (ix3 r a k)
    = rd Q r.val (64 * a.val + (8 + k.val)) * rd C r.val k.val - rd Q r.val (64 * a.val + k.val) * rd S r.val k.val := by
  rw [val_main_v85_apply, val_main_v81_apply, val_main_v84_apply, val_main_v82_apply, val_main_v75_apply, val_main_v76_apply, q3, q3,
    val_main_v80_apply, val_main_v83_apply, val_main_v5_apply, val_main_v6_apply]
  refine Eq.trans ?_ (sub_eq_add_neg _ _).symm
  refine congrArg₂ (· + ·) (congrArg₂ (· * ·) rfl (rd_of_emb C _ rfl rfl)) ?_
  refine Eq.trans (congrArg₂ (· * ·) rfl (rd_of_emb S _ rfl rfl)) (EReal.neg_mul _ _)

/-- The first eight. -/
theorem q_lo (r : Fin 4096) (a : Fin 8) (k : Fin 8) : val_main_v88 (F := Ideal) Q C S (ix3 r a k)
    = rd Q r.val (64 * a.val + k.val) * rd C r.val k.val + rd Q r.val (64 * a.val + (8 + k.val)) * rd S r.val k.val := by
  rw [val_main_v88_apply, val_main_v87_apply, val_main_v79_apply, val_main_v75_apply, val_main_v76_apply, q3, q3,
    val_main_v86_apply, val_main_v78_apply, val_main_v5_apply, val_main_v6_apply]
  refine Eq.trans (add_comm _ _) ?_
  exact congrArg₂ (· + ·) (congrArg₂ (· * ·) rfl (rd_of_emb C _ rfl rfl)) (congrArg₂ (· * ·) rfl (rd_of_emb S _ rfl rfl))

/-- The queries' gradient, turned back. -/
theorem q_eq (r : Fin 4096) (a : Fin 8) (k : Fin 64) : val_main_v93 (F := Ideal) Q C S (ix3 r a k)
    = back (rd Q r.val) (rd C r.val) (rd S r.val) (64 * a.val + k.val) := by
  have hk := k.isLt
  have e : (64 * a.val + k.val) % 64 = k.val := by omega
  have p1 : val_main_v89 (F := Ideal) Q (ix3 r a k) = if h : 16 ≤ k.val ∧ k.val - 16 < 48 then val_main_v77 (F := Ideal) Q (ix3 r a ⟨k.val - 16, h.2⟩) else 0 :=
    pad3 (n := 4096) (p := 8) (w := 48) (t := 64) (l := 16) _ (val_main_v77 (F := Ideal) Q) _ _ _ bits_zero r a k
  have p2 : val_main_v90 (F := Ideal) Q C S (ix3 r a k) = if h : 8 ≤ k.val ∧ k.val - 8 < 8 then val_main_v85 (F := Ideal) Q C S (ix3 r a ⟨k.val - 8, h.2⟩) else 0 :=
    pad3 (n := 4096) (p := 8) (w := 8) (t := 64) (l := 8) _ (val_main_v85 (F := Ideal) Q C S) _ _ _ bits_zero r a k
  have p3 : val_main_v92 (F := Ideal) Q C S (ix3 r a k) = if h : 0 ≤ k.val ∧ k.val - 0 < 8 then val_main_v88 (F := Ideal) Q C S (ix3 r a ⟨k.val - 0, h.2⟩) else 0 :=
    pad3 (n := 4096) (p := 8) (w := 8) (t := 64) (l := 0) _ (val_main_v88 (F := Ideal) Q C S) _ _ _ bits_zero r a k
  rw [val_main_v93_apply, val_main_v91_apply, p1, p2, p3]
  show _ + _ + _ = _
  unfold back
  rw [e]
  by_cases h1 : k.val < 8
  · rw [dif_neg (by omega), dif_neg (by omega), dif_pos (by omega), if_pos h1, zero_add, zero_add, q_lo]
    exact congrArg₂ (· + ·) (congrArg₂ (· * ·) (congrArg (rd Q r.val) (show 64 * a.val + (k.val - 0) = 64 * a.val + k.val by omega)) (congrArg (rd C r.val) (show k.val - 0 = k.val by omega)))
      (congrArg₂ (· * ·) (congrArg (rd Q r.val) (show 64 * a.val + (8 + (k.val - 0)) = 64 * a.val + k.val + 8 by omega)) (congrArg (rd S r.val) (show k.val - 0 = k.val by omega)))
  rw [if_neg h1]
  by_cases h2 : k.val < 16
  · rw [dif_neg (by omega), dif_pos (by omega), dif_neg (by omega), if_pos h2, zero_add, add_zero, q_hi]
    exact congrArg₂ (· - ·) (congrArg₂ (· * ·) (congrArg (rd Q r.val) (show 64 * a.val + (8 + (k.val - 8)) = 64 * a.val + k.val by omega)) rfl)
      (congrArg₂ (· * ·) (congrArg (rd Q r.val) (show 64 * a.val + (k.val - 8) = 64 * a.val + k.val - 8 by omega)) rfl)
  · rw [dif_pos (by omega), dif_neg (by omega), dif_neg (by omega), if_neg h2, add_zero, add_zero, val_main_v77_apply, q3]
    exact congrArg (rd Q r.val) (show 64 * a.val + (16 + (k.val - 16)) = 64 * a.val + k.val by omega)

/-- The queries' gradient, turned back, side by side again. -/
theorem q2 (r : Fin 4096) (k : Fin 512) : val_main_v94 (F := Ideal) Q C S (ix2 r k) = back (rd Q r.val) (rd C r.val) (rd S r.val) k.val := by
  have hr := r.isLt
  have hk := k.isLt
  have e : idx_main_v94 (ix2 r k) = ix3 r (⟨k.val / 64, by omega⟩ : Fin 8) (⟨k.val % 64, by omega⟩ : Fin 64) := by
    funext d
    refine Fin.ext ?_
    fin_cases d
    · show (r.val * 512 + k.val) / 512 = r.val
      omega
    · show (r.val * 512 + k.val) / 64 % 8 = k.val / 64
      omega
    · show (r.val * 512 + k.val) % 64 = k.val % 64
      omega
  rw [val_main_v94_apply, e, q_eq]
  exact congrArg (back (rd Q r.val) (rd C r.val) (rd S r.val)) (show 64 * (k.val / 64) + k.val % 64 = k.val by omega)

/-- The rest's gradient, with the skip's. -/
theorem u_eq (r : Fin 4096) (k : Fin 512) : val_main_v47 (F := Ideal) U P D (ix2 r k) = rd U r.val k.val + rd P r.val k.val * rd D 0 k.val := by
  rw [val_main_v47_apply, val_main_v46_apply, val_main_v45_apply]
  exact congrArg₂ (· + ·) (eq_rd U r k) (congrArg₂ (· * ·) (eq_rd P r k) (rd_of_emb D _ rfl rfl))

/-- The whole row. -/
theorem g_eq (r : Fin 4096) (k : Fin 1280) : val_main_v97 (F := Ideal) Q K U P D C S (ix2 r k)
    = grads (rd Q r.val) (rd K r.val) (rd U r.val) (rd P r.val) (rd D 0) (rd C r.val) (rd S r.val) k.val := by
  have hk := k.isLt
  have p1 : val_main_v48 (F := Ideal) U P D (ix2 r k) = if 0 ≤ r.val ∧ 768 ≤ k.val then rd (val_main_v47 (F := Ideal) U P D) (r.val - 0) (k.val - 768) else 0 :=
    pad_rd 0 768 _ (val_main_v47 (F := Ideal) U P D) _ _ _ bits_zero r k
  have p2 : val_main_v49 (F := Ideal) K (ix2 r k) = if 0 ≤ r.val ∧ 640 ≤ k.val then rd (val_main_v1 (F := Ideal) K) (r.val - 0) (k.val - 640) else 0 :=
    pad_rd 0 640 _ (val_main_v1 (F := Ideal) K) _ _ _ bits_zero r k
  have p3 : val_main_v73 (F := Ideal) K C S (ix2 r k) = if 0 ≤ r.val ∧ 512 ≤ k.val then rd (val_main_v72 (F := Ideal) K C S) (r.val - 0) (k.val - 512) else 0 :=
    pad_rd 0 512 _ (val_main_v72 (F := Ideal) K C S) _ _ _ bits_zero r k
  have p4 : val_main_v95 (F := Ideal) Q C S (ix2 r k) = if 0 ≤ r.val ∧ 0 ≤ k.val then rd (val_main_v94 (F := Ideal) Q C S) (r.val - 0) (k.val - 0) else 0 :=
    pad_rd 0 0 _ (val_main_v94 (F := Ideal) Q C S) _ _ _ bits_zero r k
  have far : ∀ {n w : Nat} (X : (⟨2, ![n, w]⟩ : Shape).Idx → EReal) (a b : Nat), w ≤ b → rd X a b = 0 := fun X a b h => dif_neg fun h' => absurd h'.2 (Nat.not_lt.2 h)
  show val_main_v48 (F := Ideal) U P D (ix2 r k) + val_main_v49 (F := Ideal) K (ix2 r k) + val_main_v73 (F := Ideal) K C S (ix2 r k) + val_main_v95 (F := Ideal) Q C S (ix2 r k) = _
  rw [p1, p2, p3, p4, Nat.sub_zero, Nat.sub_zero, if_pos (show 0 ≤ r.val ∧ 0 ≤ k.val from ⟨Nat.zero_le _, Nat.zero_le _⟩)]
  unfold grads
  by_cases h1 : k.val < 512
  · rw [if_neg (by omega), if_neg (by omega), if_neg (by omega), if_pos h1, zero_add, zero_add, zero_add, rd_of_lt _ r.isLt h1]
    exact q2 Q C S r ⟨k.val, h1⟩
  rw [if_neg h1, far (val_main_v94 (F := Ideal) Q C S) r.val k.val (by omega), add_zero, if_pos (show 0 ≤ r.val ∧ 512 ≤ k.val by omega)]
  by_cases h2 : k.val < 640
  · rw [if_neg (by omega), if_neg (by omega), if_pos h2, zero_add, zero_add, rd_of_lt _ r.isLt (show k.val - 512 < 128 by omega)]
    exact k2 K C S r ⟨k.val - 512, by omega⟩
  rw [if_neg h2, far (val_main_v72 (F := Ideal) K C S) r.val (k.val - 512) (by omega), add_zero, if_pos (show 0 ≤ r.val ∧ 640 ≤ k.val by omega)]
  by_cases h3 : k.val < 768
  · rw [if_neg (by omega), if_pos h3, zero_add, rd_of_lt _ r.isLt (show k.val - 640 < 128 by omega), val_main_v1_apply]
    exact rd_of_emb K _ rfl (show 128 + (k.val - 640) = k.val - 512 by omega)
  · rw [if_neg h3, if_pos (show 0 ≤ r.val ∧ 768 ≤ k.val by omega), far (val_main_v1 (F := Ideal) K) r.val (k.val - 640) (by omega), add_zero, rd_of_lt _ r.isLt (show k.val - 768 < 512 by omega)]
    exact u_eq U P D r ⟨k.val - 768, by omega⟩

end Cert.RopeBwd.Ref

end
-- ==== Proof.RopeBwd.Equal.lean ====
/- The transpose of the embedding against the derivative of the plain definition: the same array. -/
module

public import proofs.«01_k».proof.Proof.RopeBwd.Array
public import proofs.«01_k».proof.Proof.RopeBwd.Reference

@[expose] public section

noncomputable section

namespace Cert.RopeBwd

open Idealize.ShloMosaic Idealize.ShloMosaic.TcCoe Cert.Rows Cert.Rope

open Cert.Kernel13Ideal

variable (m : (ℓ : Loc nD τ sig) → Buf (Elt Ideal) ℓ) (c : Dev nD)

/-- The gradient of the projection. -/
theorem GP_eq (r : Fin 4096) (k : Fin 1280) : GP m c (ix2 r k)
    = Cert.Reference13Ideal.Read.val_main_v97 (F := Ideal) (aQ m c) (aKv m c) (aU m c) (aP m c) (aS m c) (aCo m c) (aSi m c) (ix2 r k) :=
  (Ref.g_eq (aQ m c) (aKv m c) (aU m c) (aP m c) (aS m c) (aCo m c) (aSi m c) r k).symm

end Cert.RopeBwd

end
-- ==== Proof.InFwd.Block.lean ====
/- What each grid point of the input projection, with the norm before it and the rotary embedding after it, leaves in its output blocks. -/
module

public import proofs.«01_k».proof.Proof.NormBwd.Math
public import proofs.«01_k».proof.Proof.InFwd.Tables

@[expose] public section

noncomputable section

namespace Cert.InFwd

open Idealize.ShloMosaic Idealize.ShloMosaic.TcCoe Idealize.ShloMosaic.Pipeline
open Cert.Kernel14Ideal Cert.Kernel14Ideal.Gen Cert.Rows Cert.Rope Cert.NormBwd

/-- The length of a row, the small constant, the scale of the scores. -/
abbrev cN : EReal := Ideal.ofBits .f32 0x44800000#32
abbrev cE : EReal := Ideal.ofBits .f32 0x358637BD#32
abbrev cS : EReal := Ideal.ofBits .f32 0x3E000000#32

/-! ## The payloads, read at an index -/

section

variable (x : S512x1024.Idx → EReal) (g : S1x1024.Idx → EReal) (w : S1280x1024.Idx → EReal)

/-- A row, normalised. -/
def hb (r : Fin 512) (k : Fin 1024) : EReal := x (ix2 r k) * ri cN cE (fun j => x (ix2 r j)) * g (ix2 0 k)

theorem pay4_eq (r : Fin 512) (k : Fin 1024) : k0_pay4 (F := Ideal) x g (ix2 r k) = hb x g r k := by
  unfold k0_pay4
  pointwise
  rfl

theorem pay5_eq (r : Fin 512) (k : Fin 1280) : k0_pay5 (F := Ideal) x g w (ix2 r k) = ∑ q : Fin 1024, hb x g r q * w (ix2 k q) := by
  unfold k0_pay5
  pointwise
  simp only [pay4_eq]

variable (v : S512x768.Idx → EReal) (a b d : S512x128.Idx → EReal)

theorem pay11_eq (r : Fin 512) (k : Fin 128) :
    k0_pay11 (F := Ideal) v a b d (ix2 r k) = turn (fun k => rd v r.val (128 + k)) (rd a r.val) (rd b r.val) (rd d r.val) k.val * cS :=
  congrArg (· * cS) ((turn_block _ a b d rotates_S512x128_d1 r k).trans
    (turn_congr (fun _ hk => slice_rd v slices_S512x768_o0_128_S512x128 (by omega) _ _ r.isLt hk) (fun _ _ => rfl) (fun _ _ => rfl) (fun _ _ => rfl) _ k.isLt))

theorem pay12_eq (r : Fin 512) (k : Fin 128) :
    k0_pay12 (F := Ideal) v a b d (ix2 r k) = turn (fun k => rd v r.val (256 + k)) (rd a r.val) (rd b r.val) (rd d r.val) k.val * cS :=
  congrArg (· * cS) ((turn_block _ a b d rotates_S512x128_d1 r k).trans
    (turn_congr (fun _ hk => slice_rd v slices_S512x768_o0_256_S512x128 (by omega) _ _ r.isLt hk) (fun _ _ => rfl) (fun _ _ => rfl) (fun _ _ => rfl) _ k.isLt))

theorem pay13_eq (r : Fin 512) (k : Fin 128) :
    k0_pay13 (F := Ideal) v a b d (ix2 r k) = turn (fun k => rd v r.val (384 + k)) (rd a r.val) (rd b r.val) (rd d r.val) k.val * cS :=
  congrArg (· * cS) ((turn_block _ a b d rotates_S512x128_d1 r k).trans
    (turn_congr (fun _ hk => slice_rd v slices_S512x768_o0_384_S512x128 (by omega) _ _ r.isLt hk) (fun _ _ => rfl) (fun _ _ => rfl) (fun _ _ => rfl) _ k.isLt))

theorem pay1_eq (r : Fin 512) (k : Fin 128) :
    k0_pay1 (F := Ideal) b d (k0_pay14 (F := Ideal) v) (k0_pay15 (F := Ideal) v a) 120#32 (ix2 r k)
      = turn (fun k => rd v r.val (512 + k)) (rd a r.val) (rd b r.val) (rd d r.val) k.val :=
  (turn_block _ a b d rotates_S512x128_d1 r k).trans
    (turn_congr (fun _ hk => slice_rd v slices_S512x768_o0_512_S512x128 (by omega) _ _ r.isLt hk) (fun _ _ => rfl) (fun _ _ => rfl) (fun _ _ => rfl) _ k.isLt)

theorem pay2_eq (r : Fin 512) (k : Fin 128) : k0_pay2 (F := Ideal) v (ix2 r k) = rd v r.val (640 + k.val) :=
  (eq_rd (k0_pay2 (F := Ideal) v) r k).trans (slice_rd v slices_S512x768_o0_640_S512x128 (by omega) _ _ r.isLt k.isLt)

theorem pay7_eq : k0_pay7 (F := Ideal) a = a := shapeCast_self a _
theorem pay8_eq : k0_pay8 (F := Ideal) a = a := shapeCast_self a _
theorem pay9_eq : k0_pay9 (F := Ideal) a = a := shapeCast_self a _

theorem pay10_eq (r : Fin 512) (k : Fin 128) :
    k0_pay10 (F := Ideal) x g w a b d (ix2 r k) = turn (fun k => rd (k0_pay6 (F := Ideal) x g w) r.val (0 + k)) (rd a r.val) (rd b r.val) (rd d r.val) k.val * cS := by
  unfold k0_pay10
  rw [pay7_eq, pay8_eq, pay9_eq]
  exact congrArg (· * cS) ((turn_block _ a b d rotates_S512x128_d1 r k).trans
    (turn_congr (fun _ hk => slice_rd (k0_pay6 (F := Ideal) x g w) slices_S512x768_o0_0_S512x128 (by omega) _ _ r.isLt hk) (fun _ _ => rfl) (fun _ _ => rfl) (fun _ _ => rfl) _ k.isLt))

theorem pay6_rd (r k : Nat) (hr : r < 512) (hk : k < 768) : rd (k0_pay6 (F := Ideal) x g w) r k = rd (k0_pay5 (F := Ideal) x g w) r k :=
  (slice_rd (k0_pay5 (F := Ideal) x g w) slices_S512x1280_o0_0_S512x768 (by omega) r k hr hk).trans (by rw [Nat.zero_add])

theorem pay3_rd (y : S512x1280.Idx → EReal) (r : Fin 512) (k : Fin 512) : k0_pay3 (F := Ideal) y (ix2 r k) = rd y r.val (768 + k.val) :=
  (eq_rd (k0_pay3 (F := Ideal) y) r k).trans (slice_rd y slices_S512x1280_o0_768_S512x512 (by omega) _ _ r.isLt k.isLt)

/-! ## The six stores of the second window -/

variable (co si : Nat → Nat → EReal)

/-- The stores, the last first. -/
abbrev stores (x : S512x1024.Idx → EReal) (g : S1x1024.Idx → EReal) (w : S1280x1024.Idx → EReal) (a b d : S512x128.Idx → EReal) : List (View.Piece (Elt Ideal) S512x768 .bf16) :=
  [⟨Rect.unit (s := S512x768) ![0, 640] S512x128.size inb_S512x768_S512x128_0_640, k0_pay2 (F := Ideal) (k0_pay6 (F := Ideal) x g w)⟩,
    ⟨Rect.unit (s := S512x768) ![0, 512] S512x128.size inb_S512x768_S512x128_0_512, k0_pay1 (F := Ideal) (k0_pay8 (F := Ideal) b) (k0_pay9 (F := Ideal) d) (k0_pay14 (F := Ideal) (k0_pay6 (F := Ideal) x g w)) (k0_pay15 (F := Ideal) (k0_pay6 (F := Ideal) x g w) (k0_pay7 (F := Ideal) a)) 120#32⟩,
    ⟨Rect.unit (s := S512x768) ![0, 384] S512x128.size inb_S512x768_S512x128_0_384, k0_pay13 (F := Ideal) (k0_pay6 (F := Ideal) x g w) (k0_pay7 (F := Ideal) a) (k0_pay8 (F := Ideal) b) (k0_pay9 (F := Ideal) d)⟩,
    ⟨Rect.unit (s := S512x768) ![0, 256] S512x128.size inb_S512x768_S512x128_0_256, k0_pay12 (F := Ideal) (k0_pay6 (F := Ideal) x g w) (k0_pay7 (F := Ideal) a) (k0_pay8 (F := Ideal) b) (k0_pay9 (F := Ideal) d)⟩,
    ⟨Rect.unit (s := S512x768) ![0, 128] S512x128.size inb_S512x768_S512x128_0_128, k0_pay11 (F := Ideal) (k0_pay6 (F := Ideal) x g w) (k0_pay7 (F := Ideal) a) (k0_pay8 (F := Ideal) b) (k0_pay9 (F := Ideal) d)⟩,
    ⟨Rect.unit (s := S512x768) ![0, 0] S512x128.size inb_S512x768_S512x128_0_0, k0_pay10 (F := Ideal) x g w a b d⟩]

/-- What the stores leave. -/
def left (y : S512x768.Idx) : EReal := heads cS (rd (k0_pay5 (F := Ideal) x g w) (y 0).val) (co (y 0).val) (si (y 0).val) (y 1).val

/-- A turned block is the row's embedding there. -/
theorem piece (ha : ∀ (r : Fin 512) k, k < 128 → rd a r.val k = tabC (co r.val) k) (hb : ∀ (r : Fin 512) k, k < 128 → rd b r.val k = tabLo (si r.val) k)
    (hd : ∀ (r : Fin 512) k, k < 128 → rd d r.val k = tabHi (si r.val) k) (o : Nat) (ho : o % 64 = 0) (ho' : o + 128 ≤ 768) (r : Fin 512) (k : Fin 128) :
    turn (fun k => rd (k0_pay6 (F := Ideal) x g w) r.val (o + k)) (rd a r.val) (rd b r.val) (rd d r.val) k.val
      = rot (rd (k0_pay5 (F := Ideal) x g w) r.val) (co r.val) (si r.val) (o + k.val) :=
  (turn_congr (fun _ hk => pay6_rd x g w _ _ r.isLt (by omega)) (ha r) (hb r) (hd r) _ k.isLt).trans
    (turn_eq (rd (k0_pay5 (F := Ideal) x g w) r.val) (co r.val) (si r.val) o k.val ho k.isLt)

theorem left_at (y : S512x768.Idx) (r : Fin 512) (j : Nat) (h0 : (y 0).val = r.val) (h1 : (y 1).val = j) :
    left x g w co si y = heads cS (rd (k0_pay5 (F := Ideal) x g w) r.val) (co r.val) (si r.val) j := by
  unfold left
  rw [h0, h1]

/-- A store whose payload is the closed form at its columns. -/
theorem stored (o : Nat) (ho : o + 128 ≤ 768) (inb : ∀ d, (![0, o] : Fin 2 → Nat) d + S512x128.size d ≤ S512x768.size d) (p : S512x128.Idx → EReal)
    (h : ∀ (r : Fin 512) (k : Fin 128), p (ix2 r k) = heads cS (rd (k0_pay5 (F := Ideal) x g w) r.val) (co r.val) (si r.val) (o + k.val)) (y : S512x128.Idx) :
    p y = left x g w co si ((Rect.unit (s := S512x768) ![0, o] S512x128.size inb).emb y) := by
  obtain ⟨r, k, rfl⟩ : ∃ (r : Fin 512) (k : Fin 128), y = ix2 r k := ⟨y 0, y 1, ValueIdx.eq_ix2 y⟩
  exact (h r k).trans (left_at x g w co si _ r _ (show 0 + 1 * r.val = r.val by omega) (show o + 1 * k.val = o + k.val by omega)).symm

theorem stores_canon (ha : ∀ (r : Fin 512) k, k < 128 → rd a r.val k = tabC (co r.val) k) (hb : ∀ (r : Fin 512) k, k < 128 → rd b r.val k = tabLo (si r.val) k)
    (hd : ∀ (r : Fin 512) k, k < 128 → rd d r.val k = tabHi (si r.val) k) :
    View.canon (Val := Elt Ideal) (s := S512x768) (e := .bf16) (stores x g w a b d) = left x g w co si := by
  funext y
  refine View.canon_apply_of_pieces (Val := Elt Ideal) (S := S512x768) (e := .bf16) (left x g w co si) _ ?_ y (cover0_7 _ _ _ _ _ _ y)
  have hp := piece x g w a b d co si ha hb hd
  have hq : ∀ (o : Nat) (k : Fin 128), o + 128 ≤ 512 → ∀ P co si, heads cS P co si (o + k.val) = rot P co si (o + k.val) * cS := fun o k ho P co si => by
    have := k.isLt
    unfold heads
    rw [if_pos (by omega)]
  intro p hp'
  rcases List.mem_cons.mp hp' with rfl | hp'
  · refine stored x g w co si 640 (by omega) inb_S512x768_S512x128_0_640 _ fun r k => ?_
    have := k.isLt
    refine ((pay2_eq _ r k).trans (pay6_rd x g w _ _ r.isLt (by omega))).trans ?_
    unfold heads
    rw [if_neg (by omega), if_neg (by omega)]
  rcases List.mem_cons.mp hp' with rfl | hp'
  · refine stored x g w co si 512 (by omega) inb_S512x768_S512x128_0_512 _ fun r k => ?_
    have := k.isLt
    rw [pay7_eq, pay8_eq, pay9_eq]
    refine ((pay1_eq _ a b d r k).trans (hp 512 (by decide) (by omega) r k)).trans ?_
    unfold heads
    rw [if_neg (by omega), if_pos (by omega)]
  rcases List.mem_cons.mp hp' with rfl | hp'
  · refine stored x g w co si 384 (by omega) inb_S512x768_S512x128_0_384 _ fun r k => ?_
    rw [pay7_eq, pay8_eq, pay9_eq, hq 384 k (by omega)]
    exact (pay13_eq _ a b d r k).trans (congrArg (· * cS) (hp 384 (by decide) (by omega) r k))
  rcases List.mem_cons.mp hp' with rfl | hp'
  · refine stored x g w co si 256 (by omega) inb_S512x768_S512x128_0_256 _ fun r k => ?_
    rw [pay7_eq, pay8_eq, pay9_eq, hq 256 k (by omega)]
    exact (pay12_eq _ a b d r k).trans (congrArg (· * cS) (hp 256 (by decide) (by omega) r k))
  rcases List.mem_cons.mp hp' with rfl | hp'
  · refine stored x g w co si 128 (by omega) inb_S512x768_S512x128_0_128 _ fun r k => ?_
    rw [pay7_eq, pay8_eq, pay9_eq, hq 128 k (by omega)]
    exact (pay11_eq _ a b d r k).trans (congrArg (· * cS) (hp 128 (by decide) (by omega) r k))
  obtain rfl := List.mem_singleton.mp hp'
  refine stored x g w co si 0 (by omega) inb_S512x768_S512x128_0_0 _ fun r k => ?_
  rw [hq 0 k (by omega)]
  exact (pay10_eq x g w a b d r k).trans (congrArg (· * cS) (hp 0 (by decide) (by omega) r k))

end

/-! ## The input blocks -/

variable (m : (ℓ : Loc nD τ sig) → Buf (Elt Ideal) ℓ) (c : Dev nD) (t : Fin cfg0.N)

abbrev aX : S4096x1024.Idx → EReal := m ((c : Thread nD τ).loc main_arg0)
abbrev aG : S1x1024.Idx → EReal := m ((c : Thread nD τ).loc main_arg1)
abbrev aW : S1280x1024.Idx → EReal := m ((c : Thread nD τ).loc main_arg2)

theorem index_0 : ∀ t : Fin cfg0.N, (cfg0.win 0).index t 0 = t.val ∧ (cfg0.win 0).index t 1 = 0 := by decide +kernel
theorem index_1 : ∀ t : Fin cfg0.N, (cfg0.win 1).index t 0 = 0 ∧ (cfg0.win 1).index t 1 = 0 := by decide +kernel
theorem index_2 : ∀ t : Fin cfg0.N, (cfg0.win 2).index t 0 = 0 ∧ (cfg0.win 2).index t 1 = 0 := by decide +kernel
theorem index_3 : ∀ t : Fin cfg0.N, (cfg0.win 3).index t 0 = t.val ∧ (cfg0.win 3).index t 1 = 0 := by decide +kernel
theorem index_4 : ∀ t : Fin cfg0.N, (cfg0.win 4).index t 0 = t.val ∧ (cfg0.win 4).index t 1 = 0 := by decide +kernel
theorem index_5 : ∀ t : Fin cfg0.N, (cfg0.win 5).index t 0 = t.val ∧ (cfg0.win 5).index t 1 = 0 := by decide +kernel
theorem index_6 : ∀ t : Fin cfg0.N, (cfg0.win 6).index t 0 = t.val ∧ (cfg0.win 6).index t 1 = 0 := by decide +kernel
theorem index_7 : ∀ t : Fin cfg0.N, (cfg0.win 7).index t 0 = t.val ∧ (cfg0.win 7).index t 1 = 0 := by decide +kernel
theorem index_8 : ∀ t : Fin cfg0.N, (cfg0.win 8).index t 0 = t.val ∧ (cfg0.win 8).index t 1 = 0 := by decide +kernel

theorem iblk_0 (r : Fin 512) (k : Fin 1024) : iblk m c 0 t (ix2 r k) = rd (aX m c) (512 * t.val + r.val) k.val :=
  (rd_of_emb (V m c main_arg0) (((cfg0.win 0).rect t).emb (ix2 r k))
    (((cfg0.win 0).rect_emb_val t (ix2 r k) 0).trans ((congrArg (· * 512 + r.val) (index_0 t).1).trans (show t.val * 512 + r.val = 512 * t.val + r.val by omega)))
    (((cfg0.win 0).rect_emb_val t (ix2 r k) 1).trans ((congrArg (· * 1024 + k.val) (index_0 t).2).trans (show 0 * 1024 + k.val = k.val by omega)))).trans
    (congrArg (fun X : S4096x1024.Idx → EReal => rd X _ _) (V_main_arg0 m c))

theorem iblk_1 (r : Fin 1) (k : Fin 1024) : iblk m c 1 t (ix2 r k) = rd (aG m c) (r.val) k.val :=
  (rd_of_emb (V m c main_arg1) (((cfg0.win 1).rect t).emb (ix2 r k))
    (((cfg0.win 1).rect_emb_val t (ix2 r k) 0).trans ((congrArg (· * 1 + r.val) (index_1 t).1).trans (show 0 * 1 + r.val = r.val by omega)))
    (((cfg0.win 1).rect_emb_val t (ix2 r k) 1).trans ((congrArg (· * 1024 + k.val) (index_1 t).2).trans (show 0 * 1024 + k.val = k.val by omega)))).trans
    (congrArg (fun X : S1x1024.Idx → EReal => rd X _ _) (V_main_arg1 m c))

theorem iblk_2 (r : Fin 1280) (k : Fin 1024) : iblk m c 2 t (ix2 r k) = rd (aW m c) (r.val) k.val :=
  (rd_of_emb (V m c main_arg2) (((cfg0.win 2).rect t).emb (ix2 r k))
    (((cfg0.win 2).rect_emb_val t (ix2 r k) 0).trans ((congrArg (· * 1280 + r.val) (index_2 t).1).trans (show 0 * 1280 + r.val = r.val by omega)))
    (((cfg0.win 2).rect_emb_val t (ix2 r k) 1).trans ((congrArg (· * 1024 + k.val) (index_2 t).2).trans (show 0 * 1024 + k.val = k.val by omega)))).trans
    (congrArg (fun X : S1280x1024.Idx → EReal => rd X _ _) (V_main_arg2 m c))

theorem iblk_3 (r : Fin 512) (k : Fin 128) : iblk m c 3 t (ix2 r k) = tabC (rd (aCo m c) (512 * t.val + r.val)) k.val := by
  have hr := r.isLt
  have ht : t.val < 8 := lt_of_lt_of_eq t.isLt N_0
  refine Eq.trans ?_ (tab_c m c ⟨512 * t.val + r.val, by omega⟩ k)
  refine congrArg (V m c main_v9) (funext fun d => Fin.ext ?_)
  fin_cases d
  · exact ((cfg0.win 3).rect_emb_val t (ix2 r k) 0).trans ((congrArg (· * 512 + r.val) (index_3 t).1).trans (show t.val * 512 + r.val = 512 * t.val + r.val by omega))
  · exact ((cfg0.win 3).rect_emb_val t (ix2 r k) 1).trans ((congrArg (· * 128 + k.val) (index_3 t).2).trans (show 0 * 128 + k.val = k.val by omega))

theorem iblk_4 (r : Fin 512) (k : Fin 128) : iblk m c 4 t (ix2 r k) = tabLo (rd (aSi m c) (512 * t.val + r.val)) k.val := by
  have hr := r.isLt
  have ht : t.val < 8 := lt_of_lt_of_eq t.isLt N_0
  refine Eq.trans ?_ (tab_lo m c ⟨512 * t.val + r.val, by omega⟩ k)
  refine congrArg (V m c main_v12) (funext fun d => Fin.ext ?_)
  fin_cases d
  · exact ((cfg0.win 4).rect_emb_val t (ix2 r k) 0).trans ((congrArg (· * 512 + r.val) (index_4 t).1).trans (show t.val * 512 + r.val = 512 * t.val + r.val by omega))
  · exact ((cfg0.win 4).rect_emb_val t (ix2 r k) 1).trans ((congrArg (· * 128 + k.val) (index_4 t).2).trans (show 0 * 128 + k.val = k.val by omega))

theorem iblk_5 (r : Fin 512) (k : Fin 128) : iblk m c 5 t (ix2 r k) = tabHi (rd (aSi m c) (512 * t.val + r.val)) k.val := by
  have hr := r.isLt
  have ht : t.val < 8 := lt_of_lt_of_eq t.isLt N_0
  refine Eq.trans ?_ (tab_hi m c ⟨512 * t.val + r.val, by omega⟩ k)
  refine congrArg (V m c main_v15) (funext fun d => Fin.ext ?_)
  fin_cases d
  · exact ((cfg0.win 5).rect_emb_val t (ix2 r k) 0).trans ((congrArg (· * 512 + r.val) (index_5 t).1).trans (show t.val * 512 + r.val = 512 * t.val + r.val by omega))
  · exact ((cfg0.win 5).rect_emb_val t (ix2 r k) 1).trans ((congrArg (· * 128 + k.val) (index_5 t).2).trans (show 0 * 128 + k.val = k.val by omega))

/-! ## What a point leaves in its windows -/

private theorem hz2 : (![0, 0] : Fin 2 → Nat) = fun _ => 0 := by decide

theorem left6 : out0_6 (iblk m c 0 t) (iblk m c 1 t) (iblk m c 2 t) (iblk m c 3 t) (iblk m c 4 t) (iblk m c 5 t) = k0_pay4 (F := Ideal) (iblk m c 0 t) (iblk m c 1 t) := by
  unfold_out out0_6
  rw [View.canon_unit_zero hz2]
  simp only [View.ld_unit_zero (S := S512x1024) hz2, View.ld_unit_zero (S := S1x1024) hz2]

theorem left7 : out0_7 (iblk m c 0 t) (iblk m c 1 t) (iblk m c 2 t) (iblk m c 3 t) (iblk m c 4 t) (iblk m c 5 t) = View.canon (Val := Elt Ideal) (s := S512x768) (e := .bf16) (stores (iblk m c 0 t) (iblk m c 1 t) (iblk m c 2 t) (iblk m c 3 t) (iblk m c 4 t) (iblk m c 5 t)) := by
  unfold_out out0_7
  simp only [View.ld_unit_zero (S := S512x1024) hz2, View.ld_unit_zero (S := S1x1024) hz2, View.ld_unit_zero (S := S1280x1024) hz2, View.ld_unit_zero (S := S512x128) hz2]

theorem left8 : out0_8 (iblk m c 0 t) (iblk m c 1 t) (iblk m c 2 t) (iblk m c 3 t) (iblk m c 4 t) (iblk m c 5 t) = k0_pay3 (F := Ideal) (k0_pay5 (F := Ideal) (iblk m c 0 t) (iblk m c 1 t) (iblk m c 2 t)) := by
  unfold_out out0_8
  rw [View.canon_unit_zero hz2]
  simp only [View.ld_unit_zero (S := S512x1024) hz2, View.ld_unit_zero (S := S1x1024) hz2, View.ld_unit_zero (S := S1280x1024) hz2]

/-! ## The same, on the arguments -/

/-- A row of the stream, normalised. -/
def hv (r k : Nat) : EReal := rd (aX m c) r k * ri cN cE (fun j : Fin 1024 => rd (aX m c) r j.val) * rd (aG m c) 0 k

/-- A row of the projection. -/
def pv (r k : Nat) : EReal := ∑ q : Fin 1024, hv m c r q.val * rd (aW m c) k q.val

theorem hb_eq (r : Fin 512) (k : Fin 1024) : hb (iblk m c 0 t) (iblk m c 1 t) r k = hv m c (512 * t.val + r.val) k.val := by
  unfold hb hv
  simp only [iblk_0, iblk_1]
  rfl

theorem pay5_blk (r : Fin 512) (k : Fin 1280) : k0_pay5 (F := Ideal) (iblk m c 0 t) (iblk m c 1 t) (iblk m c 2 t) (ix2 r k) = pv m c (512 * t.val + r.val) k.val := by
  refine (pay5_eq _ _ _ r k).trans ?_
  unfold pv
  simp only [hb_eq, iblk_2]

theorem pay5_rd (r : Fin 512) (k : Nat) (hk : k < 1280) : rd (k0_pay5 (F := Ideal) (iblk m c 0 t) (iblk m c 1 t) (iblk m c 2 t)) r.val k = pv m c (512 * t.val + r.val) k :=
  (rd_of_lt _ r.isLt hk).trans (pay5_blk m c t r ⟨k, hk⟩)

theorem out6 (r : Fin 512) (k : Fin 1024) : out0_6 (iblk m c 0 t) (iblk m c 1 t) (iblk m c 2 t) (iblk m c 3 t) (iblk m c 4 t) (iblk m c 5 t) (ix2 r k) = hv m c (512 * t.val + r.val) k.val := by
  rw [left6]
  exact (pay4_eq _ _ r k).trans (hb_eq m c t r k)

theorem out7 (r : Fin 512) (k : Fin 768) : out0_7 (iblk m c 0 t) (iblk m c 1 t) (iblk m c 2 t) (iblk m c 3 t) (iblk m c 4 t) (iblk m c 5 t) (ix2 r k)
    = heads cS (pv m c (512 * t.val + r.val)) (rd (aCo m c) (512 * t.val + r.val)) (rd (aSi m c) (512 * t.val + r.val)) k.val := by
  rw [left7, stores_canon _ _ _ _ _ _ (fun r => rd (aCo m c) (512 * t.val + r)) (fun r => rd (aSi m c) (512 * t.val + r))
    (fun r k hk => (rd_of_lt _ r.isLt hk).trans (iblk_3 m c t r ⟨k, hk⟩)) (fun r k hk => (rd_of_lt _ r.isLt hk).trans (iblk_4 m c t r ⟨k, hk⟩)) (fun r k hk => (rd_of_lt _ r.isLt hk).trans (iblk_5 m c t r ⟨k, hk⟩))]
  exact heads_congr _ _ _ (fun j hj => pay5_rd m c t r j hj) k.val k.isLt

theorem out8 (r : Fin 512) (k : Fin 512) : out0_8 (iblk m c 0 t) (iblk m c 1 t) (iblk m c 2 t) (iblk m c 3 t) (iblk m c 4 t) (iblk m c 5 t) (ix2 r k) = pv m c (512 * t.val + r.val) (768 + k.val) := by
  have hk := k.isLt
  rw [left8]
  exact (pay3_rd _ r k).trans (pay5_rd m c t r _ (by omega))

end Cert.InFwd

end
-- ==== Proof.InFwd.Array.lean ====
/- What the input projection leaves in its three results. -/
module

public import proofs.«01_k».proof.Proof.InFwd.Block

@[expose] public section

noncomputable section

namespace Cert.InFwd

open Idealize.ShloMosaic Idealize.ShloMosaic.TcCoe Idealize.ShloMosaic.Pipeline Idealize.SL.Sem
open Cert.Kernel14Ideal Cert.Kernel14Ideal.Gen Cert.Rows Cert.Rope

variable (m : (ℓ : Loc nD τ sig) → Buf (Elt Ideal) ℓ) (c : Dev nD) (ρ : Dev nD → PrngReg)

/-- A row of queries, keys and values. -/
def hq (r j : Nat) : EReal := heads cS (pv m c r) (rd (aCo m c) r) (rd (aSi m c) r) j

/-- A row of the gates and the branch's input. -/
def uv (r j : Nat) : EReal := pv m c r (768 + j)

/-- The norm. -/
def HN (i : S4096x1024.Idx) : EReal := hv m c (i 0).val (i 1).val

/-- The queries, keys and values. -/
def QKV (i : S4096x768.Idx) : EReal := hq m c (i 0).val (i 1).val

/-- The rest of the projection. -/
def U (i : S4096x512.Idx) : EReal := uv m c (i 0).val (i 1).val

theorem point (a : Nat) (ha : a < 8) : ∃ t : Fin cfg0.N, t.val = a := ⟨⟨a, by rw [show cfg0.N = 8 from N_0]; exact ha⟩, rfl⟩

theorem flushed6 (t : Fin cfg0.N) : (dats m 0 c).flushed 6 t = (win0_6.blk t).view.read (Elt Ideal) (HN m c) := by
  funext y
  obtain ⟨r, k, rfl⟩ : ∃ (r : Fin 512) (k : Fin 1024), y = ix2 r k := ⟨y 0, y 1, ValueIdx.eq_ix2 y⟩
  refine ((congrFun (after0_6 m c t) (ix2 r k)).trans (out6 m c t r k)).trans ?_
  show _ = HN m c ((win0_6.rect t).emb (ix2 r k))
  obtain ⟨e0, e1⟩ := index_6 t
  have i0 := (win0_6.rect_emb_val t (ix2 r k) 0).trans (congrArg (· * 512 + r.val) e0)
  have i1 := (win0_6.rect_emb_val t (ix2 r k) 1).trans (congrArg (· * 1024 + k.val) e1)
  refine congrArg₂ (hv m c) ?_ ?_
  · rw [i0]; omega
  · rw [i1]; omega

theorem cover6 (i : S4096x1024.Idx) : ∃ t : Fin cfg0.N, (cfg0.win 6).flush t = true ∧ i ∈ ((cfg0.win 6).blk t).view.set := by
  have h0 : (i 0).val < 4096 := (i 0).isLt
  have h1 : (i 1).val < 1024 := (i 1).isLt
  obtain ⟨t, ha⟩ := point ((i 0).val / 512) (by omega)
  obtain ⟨e0, e1⟩ := index_6 t
  refine ⟨t, flush0_6 t, ?_⟩
  show i ∈ ((View.whole main_v16_0).slice (win0_6.rect t)).set
  rw [View.set_slice_whole, Rect.mem_set_unit]
  intro a
  fin_cases a
  · show (cfg0.win 6).index t 0 * 512 ≤ (i 0).val ∧ (i 0).val < (cfg0.win 6).index t 0 * 512 + 512
    rw [e0]; omega
  · show (cfg0.win 6).index t 1 * 1024 ≤ (i 1).val ∧ (i 1).val < (cfg0.win 6).index t 1 * 1024 + 1024
    rw [e1]; omega

theorem final6 : (dats m 0 c).arrAt 6 cfg0.N = HN m c :=
  (dats m 0 c).arrAt_eq_of_cover 6 (HN m c) (fun t _ => flushed6 m c t) cover6

theorem flushed7 (t : Fin cfg0.N) : (dats m 0 c).flushed 7 t = (win0_7.blk t).view.read (Elt Ideal) (QKV m c) := by
  funext y
  obtain ⟨r, k, rfl⟩ : ∃ (r : Fin 512) (k : Fin 768), y = ix2 r k := ⟨y 0, y 1, ValueIdx.eq_ix2 y⟩
  refine ((congrFun (after0_7 m c t) (ix2 r k)).trans (out7 m c t r k)).trans ?_
  show _ = QKV m c ((win0_7.rect t).emb (ix2 r k))
  obtain ⟨e0, e1⟩ := index_7 t
  have i0 := (win0_7.rect_emb_val t (ix2 r k) 0).trans (congrArg (· * 512 + r.val) e0)
  have i1 := (win0_7.rect_emb_val t (ix2 r k) 1).trans (congrArg (· * 768 + k.val) e1)
  refine congrArg₂ (hq m c) ?_ ?_
  · rw [i0]; omega
  · rw [i1]; omega

theorem cover7 (i : S4096x768.Idx) : ∃ t : Fin cfg0.N, (cfg0.win 7).flush t = true ∧ i ∈ ((cfg0.win 7).blk t).view.set := by
  have h0 : (i 0).val < 4096 := (i 0).isLt
  have h1 : (i 1).val < 768 := (i 1).isLt
  obtain ⟨t, ha⟩ := point ((i 0).val / 512) (by omega)
  obtain ⟨e0, e1⟩ := index_7 t
  refine ⟨t, flush0_7 t, ?_⟩
  show i ∈ ((View.whole main_v16_1).slice (win0_7.rect t)).set
  rw [View.set_slice_whole, Rect.mem_set_unit]
  intro a
  fin_cases a
  · show (cfg0.win 7).index t 0 * 512 ≤ (i 0).val ∧ (i 0).val < (cfg0.win 7).index t 0 * 512 + 512
    rw [e0]; omega
  · show (cfg0.win 7).index t 1 * 768 ≤ (i 1).val ∧ (i 1).val < (cfg0.win 7).index t 1 * 768 + 768
    rw [e1]; omega

theorem final7 : (dats m 0 c).arrAt 7 cfg0.N = QKV m c :=
  (dats m 0 c).arrAt_eq_of_cover 7 (QKV m c) (fun t _ => flushed7 m c t) cover7

theorem flushed8 (t : Fin cfg0.N) : (dats m 0 c).flushed 8 t = (win0_8.blk t).view.read (Elt Ideal) (U m c) := by
  funext y
  obtain ⟨r, k, rfl⟩ : ∃ (r : Fin 512) (k : Fin 512), y = ix2 r k := ⟨y 0, y 1, ValueIdx.eq_ix2 y⟩
  refine ((congrFun (after0_8 m c t) (ix2 r k)).trans (out8 m c t r k)).trans ?_
  show _ = U m c ((win0_8.rect t).emb (ix2 r k))
  obtain ⟨e0, e1⟩ := index_8 t
  have i0 := (win0_8.rect_emb_val t (ix2 r k) 0).trans (congrArg (· * 512 + r.val) e0)
  have i1 := (win0_8.rect_emb_val t (ix2 r k) 1).trans (congrArg (· * 512 + k.val) e1)
  refine congrArg₂ (uv m c) ?_ ?_
  · rw [i0]; omega
  · rw [i1]; omega

theorem cover8 (i : S4096x512.Idx) : ∃ t : Fin cfg0.N, (cfg0.win 8).flush t = true ∧ i ∈ ((cfg0.win 8).blk t).view.set := by
  have h0 : (i 0).val < 4096 := (i 0).isLt
  have h1 : (i 1).val < 512 := (i 1).isLt
  obtain ⟨t, ha⟩ := point ((i 0).val / 512) (by omega)
  obtain ⟨e0, e1⟩ := index_8 t
  refine ⟨t, flush0_8 t, ?_⟩
  show i ∈ ((View.whole main_v16_2).slice (win0_8.rect t)).set
  rw [View.set_slice_whole, Rect.mem_set_unit]
  intro a
  fin_cases a
  · show (cfg0.win 8).index t 0 * 512 ≤ (i 0).val ∧ (i 0).val < (cfg0.win 8).index t 0 * 512 + 512
    rw [e0]; omega
  · show (cfg0.win 8).index t 1 * 512 ≤ (i 1).val ∧ (i 1).val < (cfg0.win 8).index t 1 * 512 + 512
    rw [e1]; omega

theorem final8 : (dats m 0 c).arrAt 8 cfg0.N = U m c :=
  (dats m 0 c).arrAt_eq_of_cover 8 (U m c) (fun t _ => flushed8 m c t) cover8

/-- The run: the three results at the closed form, the arguments unchanged. -/
theorem run : θ_run defs (onTc (τ := τ) (main (F := Ideal))) ⟨m, fun _ => 0, ρ⟩ fun r => ∀ c : Dev nD,
      r.2.mem ((c : Thread nD τ).loc main_v16_0) = HN m c
      ∧ r.2.mem ((c : Thread nD τ).loc main_v16_1) = QKV m c
      ∧ r.2.mem ((c : Thread nD τ).loc main_v16_2) = U m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final6 m c), (h c).2.1.trans (final7 m c), (h c).2.2.1.trans (final8 m c), (h c).2.2.2⟩)
    (Cert.Kernel14Ideal.Value.run_blocks m ρ)

end Cert.InFwd

end
-- ==== Proof.InFwd.Reference.lean ====
/- The input projection with its norm and embedding, as the reference computes it, read at an index. -/
module

public import proofs.«01_k».proof.Proof.NormBwd.Math
public import proofs.«01_k».proof.Proof.Rope
public import proofs.«01_k».proof.Proof.Gen.Reference14Ideal.Read

@[expose] public section

noncomputable section

namespace Cert.InFwd.Ref

open Idealize.ShloMosaic Cert.Reference14Ideal Cert.Reference14Ideal.Gen Cert.Reference14Ideal.Read Cert.Rows Cert.Rope Cert.NormBwd

variable (X : S4096x1024.Idx → EReal) (G : S1x1024.Idx → EReal) (W : S1280x1024.Idx → EReal) (C S : S4096x8.Idx → EReal)

abbrev cN : EReal := Ideal.ofBits .f32 0x44800000#32
abbrev cE : EReal := Ideal.ofBits .f32 0x358637BD#32
abbrev cS : EReal := Ideal.ofBits .f32 0x3E000000#32

/-- A row, normalised. -/
def hr (r : Fin 4096) (k : Fin 1024) : EReal := X (ix2 r k) * ri cN cE (fun j => X (ix2 r j)) * G (ix2 0 k)

/-- The projection. -/
abbrev Z (X : S4096x1024.Idx → EReal) (G : S1x1024.Idx → EReal) (W : S1280x1024.Idx → EReal) : S4096x1280.Idx → EReal := val_main_v16 (F := Ideal) X G W

theorem ms_eq (r : Fin 4096) (c : Fin 1) : val_main_v6 (F := Ideal) X (ix2 r c) = ms cN cE (fun j => X (ix2 r j)) := by
  unfold val_main_v6 val_main_v5 val_main_v4 val_main_v3 val_main_v2 val_main_v1 val_main_v0 val_main_cst val_main_cst_0 val_main_cst_1
  pointwise
  rfl

theorem h_eq (r : Fin 4096) (k : Fin 1024) : val_main_v12 (F := Ideal) X G (ix2 r k) = hr X G r k := by
  unfold val_main_v12 val_main_v11 val_main_v10 val_main_v9 val_main_v8 val_main_v7
  pointwise
  simp only [ms_eq]
  rfl

theorem z_eq (r : Fin 4096) (k : Fin 1280) : Z X G W (ix2 r k) = ∑ q : Fin 1024, hr X G r q * W (ix2 k q) := by
  unfold Z val_main_v16 val_main_v15 val_main_v14 val_main_v13
  pointwise
  simp only [h_eq]

/-- The queries, by head. -/
theorem q3 (i : S4096x8x64.Idx) : val_main_v18 (F := Ideal) X G W i = rd (Z X G W) (i 0).val (64 * (i 1).val + (i 2).val) := by
  have h0 : (i 0).val < 4096 := (i 0).isLt
  have h1 : (i 1).val < 8 := (i 1).isLt
  have h2 : (i 2).val < 64 := (i 2).isLt
  rw [val_main_v18_apply, val_main_v17_apply]
  refine rd_of_emb (Z X G W) _ ?_ ?_
  · show (((i 0).val * 8 + (i 1).val) * 64 + (i 2).val) / 512 = (i 0).val
    omega
  · show (((i 0).val * 8 + (i 1).val) * 64 + (i 2).val) % 512 = 64 * (i 1).val + (i 2).val
    omega

/-- The queries, turned. -/
theorem q_eq (r : Fin 4096) (a : Fin 8) (k : Fin 64) : val_main_v34 (F := Ideal) X G W C S (ix3 r a k)
    = rot (rd (Z X G W) r.val) (rd C r.val) (rd S r.val) (64 * a.val + k.val) := by
  have hk := k.isLt
  have e : (64 * a.val + k.val) % 64 = k.val := by omega
  unfold val_main_v34 rot
  rw [e]
  refine (cat3 (n := 4096) (p := 8) (a := 8) (b := 8) (c := 48) (t := 64) _ _ _ _ rfl r a k).trans ?_
  by_cases h1 : k.val < 8
  · rw [dif_pos h1, if_pos h1, val_main_v28_apply, val_main_v25_apply, val_main_v27_apply, val_main_v21_apply, val_main_v22_apply, q3, q3,
      val_main_v24_apply, val_main_v26_apply, val_main_v19_apply, val_main_v20_apply]
    exact congrArg₂ (· - ·) (congrArg₂ (· * ·) (congrArg (rd (Z X G W) r.val) rfl) (rd_of_emb C _ rfl rfl))
      (congrArg₂ (· * ·) (congrArg (rd (Z X G W) r.val) (show 64 * a.val + (8 + k.val) = 64 * a.val + k.val + 8 by omega)) (rd_of_emb S _ rfl rfl))
  rw [dif_neg h1, if_neg h1]
  by_cases h2 : k.val < 16
  · rw [dif_pos h2, if_pos h2, val_main_v33_apply, val_main_v30_apply, val_main_v32_apply, val_main_v21_apply, val_main_v22_apply, q3, q3,
      val_main_v29_apply, val_main_v31_apply, val_main_v19_apply, val_main_v20_apply]
    exact congrArg₂ (· + ·) (congrArg₂ (· * ·) (congrArg (rd (Z X G W) r.val) (show 64 * a.val + (8 + (k.val - 8)) = 64 * a.val + k.val by omega)) (rd_of_emb C _ rfl rfl))
      (congrArg₂ (· * ·) (congrArg (rd (Z X G W) r.val) (show 64 * a.val + (k.val - 8) = 64 * a.val + k.val - 8 by omega)) (rd_of_emb S _ rfl rfl))
  · rw [dif_neg h2, if_neg h2, val_main_v23_apply, q3]
    exact congrArg (rd (Z X G W) r.val) (show 64 * a.val + (16 + (k.val - (8 + 8))) = 64 * a.val + k.val by omega)

/-- The queries, turned, side by side again. -/
theorem q2 (r : Fin 4096) (k : Fin 512) : val_main_v53 (F := Ideal) X G W C S (ix2 r k)
    = rot (rd (Z X G W) r.val) (rd C r.val) (rd S r.val) (k.val) := by
  have hr := r.isLt
  have hk := k.isLt
  have e : idx_main_v53 (ix2 r k) = ix3 r (⟨k.val / 64, by omega⟩ : Fin 8) (⟨k.val % 64, by omega⟩ : Fin 64) := by
    funext d
    refine Fin.ext ?_
    fin_cases d
    · show (r.val * 512 + k.val) / 512 = r.val
      omega
    · show (r.val * 512 + k.val) / 64 % 8 = k.val / 64
      omega
    · show (r.val * 512 + k.val) % 64 = k.val % 64
      omega
  rw [val_main_v53_apply, e, q_eq]
  exact congrArg (rot (rd (Z X G W) r.val) (rd C r.val) (rd S r.val)) (show 64 * (k.val / 64) + k.val % 64 = k.val by omega)

/-- The keys, by head. -/
theorem k3 (i : S4096x2x64.Idx) : val_main_v36 (F := Ideal) X G W i = rd (Z X G W) (i 0).val (512 + 64 * (i 1).val + (i 2).val) := by
  have h0 : (i 0).val < 4096 := (i 0).isLt
  have h1 : (i 1).val < 2 := (i 1).isLt
  have h2 : (i 2).val < 64 := (i 2).isLt
  rw [val_main_v36_apply, val_main_v35_apply]
  refine rd_of_emb (Z X G W) _ ?_ ?_
  · show (((i 0).val * 2 + (i 1).val) * 64 + (i 2).val) / 128 = (i 0).val
    omega
  · show 512 + (((i 0).val * 2 + (i 1).val) * 64 + (i 2).val) % 128 = 512 + 64 * (i 1).val + (i 2).val
    omega

/-- The keys, turned. -/
theorem k_eq (r : Fin 4096) (a : Fin 2) (k : Fin 64) : val_main_v52 (F := Ideal) X G W C S (ix3 r a k)
    = rot (rd (Z X G W) r.val) (rd C r.val) (rd S r.val) (512 + 64 * a.val + k.val) := by
  have hk := k.isLt
  have e : (512 + 64 * a.val + k.val) % 64 = k.val := by omega
  unfold val_main_v52 rot
  rw [e]
  refine (cat3 (n := 4096) (p := 2) (a := 8) (b := 8) (c := 48) (t := 64) _ _ _ _ rfl r a k).trans ?_
  by_cases h1 : k.val < 8
  · rw [dif_pos h1, if_pos h1, val_main_v46_apply, val_main_v43_apply, val_main_v45_apply, val_main_v39_apply, val_main_v40_apply, k3, k3,
      val_main_v42_apply, val_main_v44_apply, val_main_v37_apply, val_main_v38_apply]
    exact congrArg₂ (· - ·) (congrArg₂ (· * ·) (congrArg (rd (Z X G W) r.val) rfl) (rd_of_emb C _ rfl rfl))
      (congrArg₂ (· * ·) (congrArg (rd (Z X G W) r.val) (show 512 + 64 * a.val + (8 + k.val) = 512 + 64 * a.val + k.val + 8 by omega)) (rd_of_emb S _ rfl rfl))
  rw [dif_neg h1, if_neg h1]
  by_cases h2 : k.val < 16
  · rw [dif_pos h2, if_pos h2, val_main_v51_apply, val_main_v48_apply, val_main_v50_apply, val_main_v39_apply, val_main_v40_apply, k3, k3,
      val_main_v47_apply, val_main_v49_apply, val_main_v37_apply, val_main_v38_apply]
    exact congrArg₂ (· + ·) (congrArg₂ (· * ·) (congrArg (rd (Z X G W) r.val) (show 512 + 64 * a.val + (8 + (k.val - 8)) = 512 + 64 * a.val + k.val by omega)) (rd_of_emb C _ rfl rfl))
      (congrArg₂ (· * ·) (congrArg (rd (Z X G W) r.val) (show 512 + 64 * a.val + (k.val - 8) = 512 + 64 * a.val + k.val - 8 by omega)) (rd_of_emb S _ rfl rfl))
  · rw [dif_neg h2, if_neg h2, val_main_v41_apply, k3]
    exact congrArg (rd (Z X G W) r.val) (show 512 + 64 * a.val + (16 + (k.val - (8 + 8))) = 512 + 64 * a.val + k.val by omega)

/-- The keys, turned, side by side again. -/
theorem k2 (r : Fin 4096) (k : Fin 128) : val_main_v54 (F := Ideal) X G W C S (ix2 r k)
    = rot (rd (Z X G W) r.val) (rd C r.val) (rd S r.val) (512 + k.val) := by
  have hr := r.isLt
  have hk := k.isLt
  have e : idx_main_v54 (ix2 r k) = ix3 r (⟨k.val / 64, by omega⟩ : Fin 2) (⟨k.val % 64, by omega⟩ : Fin 64) := by
    funext d
    refine Fin.ext ?_
    fin_cases d
    · show (r.val * 128 + k.val) / 128 = r.val
      omega
    · show (r.val * 128 + k.val) / 64 % 2 = k.val / 64
      omega
    · show (r.val * 128 + k.val) % 64 = k.val % 64
      omega
  rw [val_main_v54_apply, e, k_eq]
  exact congrArg (rot (rd (Z X G W) r.val) (rd C r.val) (rd S r.val)) (show 512 + 64 * (k.val / 64) + k.val % 64 = 512 + k.val by omega)

theorem u_eq (r : Fin 4096) (k : Fin 512) : val_main_v56 (F := Ideal) X G W (ix2 r k) = rd (Z X G W) r.val (768 + k.val) := by
  rw [val_main_v56_apply]
  exact rd_of_emb (Z X G W) _ rfl rfl

/-- The queries, keys and values. -/
theorem qkv_eq (r : Fin 4096) (k : Fin 768) : val_main_v60 (F := Ideal) X G W C S (ix2 r k) = heads cS (rd (Z X G W) r.val) (rd C r.val) (rd S r.val) k.val := by
  have hk := k.isLt
  show val_main_v59 (F := Ideal) X G W C S (ix2 r k) = _
  unfold val_main_v59 heads
  refine (cat2 (n := 4096) (a := 512) (b := 128) (c := 128) (t := 768) _ _ _ _ rfl r k).trans ?_
  by_cases h1 : k.val < 512
  · rw [if_pos h1, if_pos h1, rd_of_lt _ r.isLt h1, val_main_v58_apply]
    exact congrArg (· * cS) (q2 X G W C S r ⟨k.val, h1⟩)
  rw [if_neg h1, if_neg h1]
  by_cases h2 : k.val < 640
  · rw [if_pos h2, if_pos h2, rd_of_lt _ r.isLt (show k.val - 512 < 128 by omega)]
    refine (k2 X G W C S r ⟨k.val - 512, by omega⟩).trans (congrArg (rot _ _ _) (show 512 + (k.val - 512) = k.val by omega))
  · rw [if_neg h2, if_neg h2, rd_of_lt _ r.isLt (show k.val - (512 + 128) < 128 by omega), val_main_v55_apply]
    exact rd_of_emb (Z X G W) _ rfl (show 640 + (k.val - (512 + 128)) = k.val by omega)

end Cert.InFwd.Ref

end
-- ==== Proof.InFwd.Equal.lean ====
/- The input projection with its norm and embedding against its plain definition: the same three arrays. -/
module

public import proofs.«01_k».proof.Proof.InFwd.Array
public import proofs.«01_k».proof.Proof.InFwd.Reference

@[expose] public section

noncomputable section

namespace Cert.InFwd

open Idealize.ShloMosaic Idealize.ShloMosaic.TcCoe Cert.Rows Cert.Rope Cert.NormBwd

open Cert.Kernel14Ideal

variable (m : (ℓ : Loc nD τ sig) → Buf (Elt Ideal) ℓ) (c : Dev nD)

theorem hv_eq (r : Fin 4096) (k : Fin 1024) : hv m c r.val k.val = Ref.hr (aX m c) (aG m c) r k := by
  unfold hv Ref.hr
  simp only [← eq_rd]
  exact congrArg _ (eq_rd (aG m c) 0 k).symm

theorem pv_eq (r : Fin 4096) (k : Nat) (hk : k < 1280) : pv m c r.val k = rd (Ref.Z (aX m c) (aG m c) (aW m c)) r.val k := by
  rw [rd_of_lt _ r.isLt hk]
  refine Eq.trans ?_ (Ref.z_eq (aX m c) (aG m c) (aW m c) r ⟨k, hk⟩).symm
  unfold pv
  simp only [hv_eq]
  exact Finset.sum_congr rfl fun q _ => congrArg _ (eq_rd (aW m c) ⟨k, hk⟩ q).symm

/-- The norm. -/
theorem HN_eq (r : Fin 4096) (k : Fin 1024) : HN m c (ix2 r k) = Cert.Reference14Ideal.Read.val_main_v12 (F := Ideal) (aX m c) (aG m c) (ix2 r k) :=
  (hv_eq m c r k).trans (Ref.h_eq (aX m c) (aG m c) r k).symm

/-- The queries, keys and values. -/
theorem QKV_eq (r : Fin 4096) (k : Fin 768) : QKV m c (ix2 r k)
    = Cert.Reference14Ideal.Read.val_main_v60 (F := Ideal) (aX m c) (aG m c) (aW m c) (aCo m c) (aSi m c) (ix2 r k) :=
  (heads_congr cS _ _ (fun j hj => pv_eq m c r j hj) k.val k.isLt).trans (Ref.qkv_eq (aX m c) (aG m c) (aW m c) (aCo m c) (aSi m c) r k).symm

/-- The rest of the projection. -/
theorem U_eq (r : Fin 4096) (k : Fin 512) : U m c (ix2 r k) = Cert.Reference14Ideal.Read.val_main_v56 (F := Ideal) (aX m c) (aG m c) (aW m c) (ix2 r k) :=
  (pv_eq m c r (768 + k.val) (by have := k.isLt; omega)).trans (Ref.u_eq (aX m c) (aG m c) (aW m c) r k).symm

end Cert.InFwd

end
-- ==== Proof.Attn.Math.lean ====
/- The attention of one query over a window of keys, with a sink: what the kernel and the reference compute, and where the two windows may differ. -/
module

public import proofs.«01_k».proof.Proof.Rows
public import Idealize.ShloMosaic.Lib.Pipeline.Value

@[expose] public section

noncomputable section

namespace Cert.Attn

open Idealize.ShloMosaic Cert.Rows

variable (s : Nat → EReal) (σ : EReal) (v : Nat → EReal)

/-- The greatest of the scores and the sink. -/
def top : EReal := max ((Finset.univ : Finset (Fin 384)).fold max ⊥ fun j => s j.val) σ

/-- The weight of a key before the division. -/
def weight (j : Nat) : EReal := Ideal.exp (s j - top s σ)

/-- What the weights are divided by. -/
def total : EReal := (∑ j : Fin 384, weight s σ j.val) + Ideal.exp (σ - top s σ)

/-- The weighted sum of the values. -/
def out : EReal := ∑ j : Fin 384, Ideal.div (weight s σ j.val) (total s σ) * v j.val

/-- The logarithm of the sum of exponentials. -/
def lse : EReal := top s σ + Ideal.log (total s σ)

variable {s} {v}

/-- They read the scores only in the window. -/
theorem top_congr {s' : Nat → EReal} (h : ∀ j, j < 384 → s j = s' j) : top s σ = top s' σ := by
  unfold top
  rw [show (fun j : Fin 384 => s j.val) = fun j => s' j.val from funext fun j => h _ j.isLt]

theorem weight_congr {s' : Nat → EReal} (h : ∀ j, j < 384 → s j = s' j) (j : Nat) (hj : j < 384) : weight s σ j = weight s' σ j := by
  unfold weight
  rw [h j hj, top_congr σ h]

theorem total_congr {s' : Nat → EReal} (h : ∀ j, j < 384 → s j = s' j) : total s σ = total s' σ := by
  unfold total
  rw [top_congr σ h, Finset.sum_congr rfl fun j _ => weight_congr σ h j.val j.isLt]

theorem lse_congr {s' : Nat → EReal} (h : ∀ j, j < 384 → s j = s' j) : lse s σ = lse s' σ := by
  unfold lse
  rw [top_congr σ h, total_congr σ h]

theorem out_congr {s' v' : Nat → EReal} (h : ∀ j, j < 384 → s j = s' j) (hv : ∀ j, j < 384 → v j = v' j) : out s σ v = out s' σ v' := by
  unfold out
  rw [total_congr σ h]
  exact Finset.sum_congr rfl fun j _ => by rw [weight_congr σ h j.val j.isLt, hv j.val j.isLt]

theorem exp_nonneg (x : EReal) : 0 ≤ Ideal.exp x := by
  induction x with
  | bot => exact le_rfl
  | top => exact le_top
  | coe r => exact EReal.coe_nonneg.mpr (Real.exp_pos r).le

/-- A key outside the window has no weight. -/
theorem weight_masked {j : Nat} (h : s j = ⊥) : weight s σ j = 0 := by
  unfold weight
  rw [h, EReal.bot_sub]
  rfl

/-- Where the divisor is zero, so are all the weights. -/
theorem weight_zero (h : total s σ = 0) (j : Fin 384) : weight s σ j.val = 0 := by
  unfold total at h
  have h0 : ∀ j : Fin 384, 0 ≤ weight s σ j.val := fun j => exp_nonneg _
  have hs : 0 ≤ ∑ j : Fin 384, weight s σ j.val := Finset.sum_nonneg fun j _ => h0 j
  have hz : ∑ j : Fin 384, weight s σ j.val = 0 :=
    le_antisymm ((le_add_of_nonneg_right (exp_nonneg _)).trans h.le) hs
  exact (Finset.sum_eq_zero_iff_of_nonneg fun j _ => h0 j).mp hz j (Finset.mem_univ j)

/-- Then every weight divided is minus infinity, so the sum of its multiples with another such is itself. -/
theorem twice_bot (f : Fin 128 → EReal) : (∑ a, (⊥ : EReal) * f a) + ∑ a, (⊥ : EReal) * f a = ∑ a, (⊥ : EReal) * f a := by
  rw [← Finset.sum_add_distrib]
  refine Finset.sum_congr rfl fun a _ => ?_
  rcases lt_trichotomy (f a) 0 with h | h | h
  · rw [EReal.bot_mul_of_neg h]; rfl
  · rw [h, mul_zero, add_zero]
  · rw [EReal.bot_mul_of_pos h]; rfl

/-- A window is three blocks. -/
theorem sum_window (f : Nat → EReal) : (∑ j : Fin 384, f j.val) = ((∑ a : Fin 128, f a.val) + ∑ a : Fin 128, f (128 + a.val)) + ∑ a : Fin 128, f (256 + a.val) := by
  have h := Fin.sum_univ_add (a := 256) (b := 128) fun j => f j.val
  have h' := Fin.sum_univ_add (a := 128) (b := 128) fun j => f j.val
  exact h.trans (congrArg (· + ∑ a : Fin 128, f (256 + a.val)) h')

theorem out_zero (h : total s σ = 0) : out s σ v = ∑ j : Fin 384, (⊥ : EReal) * v j.val := by
  unfold out
  refine Finset.sum_congr rfl fun j _ => ?_
  rw [weight_zero σ h j, h]
  congr 1
  unfold Ideal.div
  rw [if_pos rfl, if_neg (lt_irrefl _)]

theorem term_masked {j : Nat} (h : s j = ⊥) (hD : total s σ ≠ 0) (x : EReal) : Ideal.div (weight s σ j) (total s σ) * x = 0 := by
  rw [weight_masked σ h]
  unfold Ideal.div
  rw [if_neg hD, zero_mul, zero_mul]

variable {w : Nat → EReal}

/-- At the first block of queries the keys before it are outside the window: what stands for their values, the block's own or zero, does not matter. -/
theorem out_first (hs : ∀ j, j < 128 → s j = ⊥) (hv : ∀ j, j < 128 → v j = v (128 + j)) (hw : ∀ j, j < 128 → w j = 0)
    (h : ∀ j, 128 ≤ j → j < 384 → v j = w j) : out s σ v = out s σ w := by
  by_cases hD : total s σ = 0
  · rw [out_zero σ hD, out_zero σ hD, sum_window fun j => ⊥ * v j, sum_window fun j => ⊥ * w j,
      Finset.sum_congr rfl (g := fun a : Fin 128 => ⊥ * v (128 + a.val)) fun a _ => by rw [hv a.val a.isLt], twice_bot fun a => v (128 + a.val),
      Finset.sum_eq_zero (f := fun a : Fin 128 => ⊥ * w a.val) fun a _ => by rw [hw a.val a.isLt, mul_zero], zero_add,
      Finset.sum_congr rfl (g := fun a : Fin 128 => ⊥ * w (128 + a.val)) fun a _ => by rw [h (128 + a.val) (by omega) (by have := a.isLt; omega)],
      Finset.sum_congr (f := fun a : Fin 128 => ⊥ * v (256 + a.val)) rfl (g := fun a : Fin 128 => ⊥ * w (256 + a.val)) fun a _ => by rw [h (256 + a.val) (by omega) (by have := a.isLt; omega)]]
  · unfold out
    refine Finset.sum_congr rfl fun j _ => ?_
    by_cases hj : j.val < 128
    · rw [term_masked σ (hs _ hj) hD, term_masked σ (hs _ hj) hD]
    · rw [h j.val (by omega) j.isLt]

/-- At the last block likewise, of the keys after it. -/
theorem out_last (hs : ∀ j, 256 ≤ j → j < 384 → s j = ⊥) (hv : ∀ j, j < 128 → v (256 + j) = v (128 + j)) (hw : ∀ j, j < 128 → w (256 + j) = 0)
    (h : ∀ j, j < 256 → v j = w j) : out s σ v = out s σ w := by
  by_cases hD : total s σ = 0
  · rw [out_zero σ hD, out_zero σ hD, sum_window fun j => ⊥ * v j, sum_window fun j => ⊥ * w j, add_assoc,
      Finset.sum_congr (f := fun a : Fin 128 => ⊥ * v (256 + a.val)) rfl (g := fun a : Fin 128 => ⊥ * v (128 + a.val)) fun a _ => by rw [hv a.val a.isLt], twice_bot fun a => v (128 + a.val),
      Finset.sum_eq_zero (f := fun a : Fin 128 => ⊥ * w (256 + a.val)) fun a _ => by rw [hw a.val a.isLt, mul_zero], add_zero,
      Finset.sum_congr (f := fun a : Fin 128 => ⊥ * v (128 + a.val)) rfl (g := fun a : Fin 128 => ⊥ * w (128 + a.val)) fun a _ => by rw [h (128 + a.val) (by have := a.isLt; omega)],
      Finset.sum_congr (f := fun a : Fin 128 => ⊥ * v a.val) rfl (g := fun a : Fin 128 => ⊥ * w a.val) fun a _ => by rw [h a.val (by have := a.isLt; omega)]]
  · unfold out
    refine Finset.sum_congr rfl fun j _ => ?_
    by_cases hj : j.val < 256
    · rw [h j.val hj]
    · rw [term_masked σ (hs _ (by omega) j.isLt) hD, term_masked σ (hs _ (by omega) j.isLt) hD]

/-- A score of scaled queries is the scaled score. -/
theorem score_scaled {n : Nat} (c : ℝ) (hc : 0 ≤ c) (q k : Fin n → EReal) : (∑ d, q d * (c : EReal) * k d) = (∑ d, q d * k d) * (c : EReal) := by
  have h : ∀ t : Finset (Fin n), (∑ d ∈ t, q d * (c : EReal) * k d) = (∑ d ∈ t, q d * k d) * (c : EReal) := fun t => by
    induction t using Finset.induction_on with
    | empty => rw [Finset.sum_empty, Finset.sum_empty, zero_mul]
    | insert a t ha ih =>
      rw [Finset.sum_insert ha, Finset.sum_insert ha, ih, mul_right_comm,
        EReal.right_distrib_of_nonneg_of_ne_top (EReal.coe_nonneg.mpr hc) (EReal.coe_ne_top c)]
  exact h Finset.univ

end Cert.Attn

end
-- ==== Proof.Attn.Mask.lean ====
/- Which keys a query attends to, and the words in which the kernel and the reference compute it. -/
module

public import proofs.«01_k».proof.Proof.Rows

@[expose] public section

namespace Cert.Attn

open Idealize.ShloMosaic

/-- Query `p` of block `n` attends to key `j` of its window, which begins one block before: not further than 128 away, and inside the sequence. -/
def Ok (n p j : Nat) : Prop := (p ≤ j ∧ j ≤ p + 256) ∧ ¬(n = 0 ∧ j < 128) ∧ ¬(n = 31 ∧ 256 ≤ j)

instance (n p j : Nat) : Decidable (Ok n p j) := by unfold Ok; infer_instance

/-- The distance, shifted by 256, is at most 128 either way. -/
theorem near_word : ∀ D : Fin 512, IntOp.cmpi .sle (IntOp.absi (BitVec.ofNat 32 D.val - 256#32)) 128#32 = BitVec.ofBool (decide (128 ≤ D.val ∧ D.val ≤ 384)) := by
  decide +kernel

theorem low_word : ∀ x : Fin 4480, IntOp.cmpi .sge (BitVec.ofNat 32 x.val - 128#32) 0#32 = BitVec.ofBool (decide (128 ≤ x.val)) := by
  decide +kernel

theorem high_word : ∀ x : Fin 4480, IntOp.cmpi .slt (BitVec.ofNat 32 x.val - 128#32) 4096#32 = BitVec.ofBool (decide (x.val < 4224)) := by
  decide +kernel

theorem first_word : ∀ j : Fin 384, IntOp.cmpi .slt (BitVec.ofNat 32 j.val) 128#32 = BitVec.ofBool (decide (j.val < 128)) := by decide +kernel
theorem last_word : ∀ j : Fin 384, IntOp.cmpi .sge (BitVec.ofNat 32 j.val) 256#32 = BitVec.ofBool (decide (256 ≤ j.val)) := by decide +kernel
theorem zero_word : ∀ n : Fin 32, IntOp.cmpi .eq (BitVec.ofNat 32 n.val) 0#32 = BitVec.ofBool (decide (n.val = 0)) := by decide +kernel
theorem end_word : ∀ n : Fin 32, IntOp.cmpi .eq (BitVec.ofNat 32 n.val) 31#32 = BitVec.ofBool (decide (n.val = 31)) := by decide +kernel
theorem row_word : ∀ r : Fin 512, IntOp.andi (BitVec.ofNat 32 r.val) 127#32 = BitVec.ofNat 32 (r.val % 128) := by decide +kernel
theorem below_word1 : ∀ r : Fin 512, IntOp.cmpi .slt (BitVec.ofNat 32 r.val) 128#32 = BitVec.ofBool (decide (r.val < 128)) := by decide +kernel
theorem below_word2 : ∀ r : Fin 512, IntOp.cmpi .slt (BitVec.ofNat 32 r.val) 256#32 = BitVec.ofBool (decide (r.val < 256)) := by decide +kernel
theorem below_word3 : ∀ r : Fin 512, IntOp.cmpi .slt (BitVec.ofNat 32 r.val) 384#32 = BitVec.ofBool (decide (r.val < 384)) := by decide +kernel

/-- The kernel's distance. -/
theorem near_kernel (p j : Nat) (hp : p < 128) (hj : j < 384) :
    IntOp.cmpi .sle (IntOp.absi (IntOp.subi (IntOp.subi (BitVec.ofNat 32 j) 128#32) (BitVec.ofNat 32 p))) 128#32 = BitVec.ofBool (decide (p ≤ j ∧ j ≤ p + 256)) := by
  have h := near_word ⟨j + 128 - p, by omega⟩
  rw [show IntOp.subi (IntOp.subi (BitVec.ofNat 32 j) 128#32) (BitVec.ofNat 32 p) = BitVec.ofNat 32 (j + 128 - p) - 256#32 by
    unfold IntOp.subi
    apply BitVec.eq_of_toNat_eq
    simp only [BitVec.toNat_sub, BitVec.toNat_ofNat]
    omega]
  refine h.trans (congrArg BitVec.ofBool (decide_eq_decide.mpr ?_))
  show 128 ≤ j + 128 - p ∧ j + 128 - p ≤ 384 ↔ _
  omega

/-- The reference's position of a key. -/
theorem pos_word (n j : Nat) (hn : n < 32) (hj : j < 384) :
    IntOp.addi (IntOp.muli (IntOp.subi (BitVec.ofNat 32 n) 1#32) 128#32) (BitVec.ofNat 32 j) = BitVec.ofNat 32 (128 * n + j) - 128#32 := by
  unfold IntOp.addi IntOp.muli IntOp.subi
  apply BitVec.eq_of_toNat_eq
  simp only [BitVec.toNat_sub, BitVec.toNat_add, BitVec.toNat_mul, BitVec.toNat_ofNat]
  omega

/-- The reference's distance. -/
theorem near_ref (n p j : Nat) (hn : n < 32) (hp : p < 128) (hj : j < 384) :
    IntOp.cmpi .sle (IntOp.absi (IntOp.subi (BitVec.ofNat 32 (128 * n + j) - 128#32) (IntOp.addi (IntOp.muli (BitVec.ofNat 32 n) 128#32) (BitVec.ofNat 32 p)))) 128#32
      = BitVec.ofBool (decide (p ≤ j ∧ j ≤ p + 256)) := by
  have h := near_word ⟨j + 128 - p, by omega⟩
  rw [show IntOp.subi (BitVec.ofNat 32 (128 * n + j) - 128#32) (IntOp.addi (IntOp.muli (BitVec.ofNat 32 n) 128#32) (BitVec.ofNat 32 p)) = BitVec.ofNat 32 (j + 128 - p) - 256#32 by
    unfold IntOp.addi IntOp.muli IntOp.subi
    apply BitVec.eq_of_toNat_eq
    simp only [BitVec.toNat_sub, BitVec.toNat_add, BitVec.toNat_mul, BitVec.toNat_ofNat]
    omega]
  refine h.trans (congrArg BitVec.ofBool (decide_eq_decide.mpr ?_))
  show 128 ≤ j + 128 - p ∧ j + 128 - p ≤ 384 ↔ _
  omega

theorem bits (a b c : Prop) [Decidable a] [Decidable b] [Decidable c] :
    IntOp.andi (IntOp.andi (BitVec.ofBool (decide a)) (BitVec.ofBool (decide b))) (BitVec.ofBool (decide c)) = BitVec.ofBool (decide (a ∧ b ∧ c)) := by
  by_cases ha : a <;> by_cases hb : b <;> by_cases hc : c <;> simp [ha, hb, hc] <;> decide

theorem bit_not (a b : Prop) [Decidable a] [Decidable b] :
    IntOp.xori (IntOp.andi (BitVec.ofBool (decide a)) (BitVec.ofBool (decide b))) 1#1 = BitVec.ofBool (decide ¬(a ∧ b)) := by
  by_cases ha : a <;> by_cases hb : b <;> simp [ha, hb] <;> decide

/-- The kernel's mask. -/
theorem mask_kernel (n r j : Nat) (hn : n < 32) (hr : r < 512) (hj : j < 384) :
    IntOp.andi (IntOp.andi (IntOp.cmpi .sle (IntOp.absi (IntOp.subi (IntOp.subi (BitVec.ofNat 32 j) 128#32) (IntOp.andi (BitVec.ofNat 32 r) 127#32))) 128#32)
        (IntOp.xori (IntOp.andi (IntOp.cmpi .eq (BitVec.ofNat 32 n) 0#32) (IntOp.cmpi .slt (BitVec.ofNat 32 j) 128#32)) 1#1))
      (IntOp.xori (IntOp.andi (IntOp.cmpi .eq (BitVec.ofNat 32 n) 31#32) (IntOp.cmpi .sge (BitVec.ofNat 32 j) 256#32)) 1#1)
      = BitVec.ofBool (decide (Ok n (r % 128) j)) := by
  rw [row_word ⟨r, hr⟩, near_kernel (r % 128) j (by omega) hj, zero_word ⟨n, hn⟩, end_word ⟨n, hn⟩, first_word ⟨j, hj⟩, last_word ⟨j, hj⟩, bit_not, bit_not, bits]
  rfl

/-- The reference's mask. -/
theorem mask_ref (n p j : Nat) (hn : n < 32) (hp : p < 128) (hj : j < 384) :
    let k := IntOp.addi (IntOp.muli (IntOp.subi (BitVec.ofNat 32 n) 1#32) 128#32) (BitVec.ofNat 32 j)
    IntOp.andi (IntOp.andi (IntOp.cmpi .sle (IntOp.absi (IntOp.subi k (IntOp.addi (IntOp.muli (BitVec.ofNat 32 n) 128#32) (BitVec.ofNat 32 p)))) 128#32)
        (IntOp.cmpi .sge k 0#32)) (IntOp.cmpi .slt k 4096#32)
      = BitVec.ofBool (decide (Ok n p j)) := by
  intro k
  rw [show k = _ from pos_word n j hn hj, near_ref n p j hn hp hj, low_word ⟨128 * n + j, by omega⟩, high_word ⟨128 * n + j, by omega⟩, bits]
  refine congrArg BitVec.ofBool (decide_eq_decide.mpr ?_)
  unfold Ok
  refine and_congr Iff.rfl (and_congr ?_ ?_)
  · show 128 ≤ 128 * n + j ↔ _
    omega
  · show 128 * n + j < 4224 ↔ _
    omega

/-- A choice by such a word. -/
theorem choose {α : Type} (a : Prop) [Decidable a] (x y : α) : Scalar.select (BitVec.ofBool (decide a)) x y = if a then x else y := by
  by_cases h : a
  · rw [if_pos h, decide_eq_true h]; rfl
  · rw [if_neg h, decide_eq_false h]; rfl

end Cert.Attn
-- ==== Proof.Attn.Payload.lean ====
/- What the kernel's steps compute of a block, read at an index: the masked scores, the row's maximum, weights and sums. -/
module

public import proofs.«01_k».proof.Proof.Attn.Math
public import proofs.«01_k».proof.Proof.Attn.Mask
public import proofs.«01_k».proof.Proof.Gen.Kernel15Ideal.Value
public import Idealize.ShloMosaic.Lib.MatmulPlain

@[expose] public section

noncomputable section

namespace Cert.Attn

open Idealize.ShloMosaic Idealize.ShloMosaic.TcCoe Idealize.ShloMosaic.Pipeline
open Cert.Kernel15Ideal Cert.Kernel15Ideal.Gen Cert.Rows

/-! ## From the scores of a block to its output -/

section

variable (s : S512x384.Idx → EReal) (a b c d : EReal)

/-- The sink of a row: rows of four heads lie below each other. -/
def sinkAt (a b c d : EReal) (r : Nat) : EReal := if r < 128 then d else if r < 256 then c else if r < 384 then b else a

/-- The number of a row. -/
abbrev rowNo : IVec S512x1 32 := iota .tc S512x1 32 [0] iota_S512x1_d0_w32

theorem pay32_eq (r : Fin 512) : k0_pay32 (F := Ideal) rowNo a b c d (ix2 r 0) = sinkAt a b c d r.val := by
  have e1 : IntOp.cmpi .slt (BitVec.ofNat 32 r.val) 128#32 = BitVec.ofBool (decide (r.val < 128)) := below_word1 r
  have e2 : IntOp.cmpi .slt (BitVec.ofNat 32 r.val) 256#32 = BitVec.ofBool (decide (r.val < 256)) := below_word2 r
  have e3 : IntOp.cmpi .slt (BitVec.ofNat 32 r.val) 384#32 = BitVec.ofBool (decide (r.val < 384)) := below_word3 r
  have e0 : rowNo (ix2 r 0) = BitVec.ofNat 32 r.val := iota_single_apply .tc S512x1 32 0 iota_S512x1_d0_w32 (ix2 r 0)
  show Scalar.select (IntOp.cmpi .slt (rowNo (ix2 r 0)) 128#32) d (Scalar.select (IntOp.cmpi .slt (rowNo (ix2 r 0)) 256#32) c (Scalar.select (IntOp.cmpi .slt (rowNo (ix2 r 0)) 384#32) b a)) = _
  rw [e0, e1, e2, e3, choose, choose, choose]
  rfl

theorem ofBits_bot : FloatOps.ofBits (F := Ideal) .f32 0xFF800000#32 = (⊥ : EReal) := by
  simp [Ideal.ofBits, Ideal.ieee]

/-- A column of row results. -/
theorem column (x : S512.Idx → EReal) (r : Fin 512) : shapeCast S512x1 x shapeCasts_S512_S512x1 (ix2 r 0) = x (ix1 r) := by
  refine shapeCast_apply _ _ _ _ ?_
  rw [Shape.rowMajor_val_two, Shape.rowMajor_val_one]
  show r.val = r.val * 1 + 0
  omega

theorem lift_eq (h : S512x384.Reduces [1] S512) (r : Fin 512) (j : Fin 384) : h.lift (ix1 r) j = ix2 r j :=
  funext fun a => Fin.ext (by match a with | ⟨0, _⟩ => rfl | ⟨1, _⟩ => rfl)

/-- A column spread over a block. -/
theorem spread (x : S512x1.Idx → EReal) (r : Fin 512) (j : Fin 384) : broadcastTo S512x384 x broadcasts_S512x1_S512x384 (ix2 r j) = x (ix2 r 0) := by
  pointwise

theorem pay33_eq (r : Fin 512) : k0_pay33 (F := Ideal) s rowNo a b c d (ix2 r 0) = top (rd s r.val) (sinkAt a b c d r.val) := by
  unfold k0_pay33 top
  refine congrArg₂ max ?_ (pay32_eq a b c d r)
  refine (column _ r).trans ?_
  have e := Ideal.multiReduction_maximumf_single (φ := .f32) (a := (1 : Fin 2)) s 0xFF800000#32 reduces_S512x384_S512 (.inl rfl) rfl (ix1 r)
  rw [ofBits_bot] at e
  refine e.trans ?_
  exact congrArg (fun f : Fin 384 → EReal => (Finset.univ : Finset (Fin 384)).fold max ⊥ f)
    (funext fun j => (congrArg s (lift_eq reduces_S512x384_S512 r j)).trans (eq_rd s r j))

theorem pay34_eq (r : Fin 512) (j : Fin 384) : k0_pay34 (F := Ideal) s rowNo a b c d (ix2 r j) = weight (rd s r.val) (sinkAt a b c d r.val) j.val := by
  unfold k0_pay34 weight
  refine congrArg Ideal.exp (congrArg₂ (· - ·) (eq_rd s r j) ((spread _ r j).trans (pay33_eq s a b c d r)))

theorem pay35_eq (r : Fin 512) : k0_pay35 (F := Ideal) s rowNo a b c d (ix2 r 0) = total (rd s r.val) (sinkAt a b c d r.val) := by
  unfold k0_pay35 total
  refine congrArg₂ (· + ·) ?_ (congrArg Ideal.exp (congrArg₂ (· - ·) (pay32_eq a b c d r) (pay33_eq s a b c d r)))
  refine (column _ r).trans ?_
  refine (Ideal.multiReduction_add_single _ 0x00000000#32 reduces_S512x384_S512 (.inl rfl) rfl (ix1 r)).trans ?_
  exact Finset.sum_congr rfl fun j _ => (congrArg _ (lift_eq reduces_S512x384_S512 r j)).trans (pay34_eq s a b c d r j)

theorem zero_word' : FloatOps.ofBits (F := Ideal) .f32 0x00000000#32 = (0 : EReal) := by
  simp [Ideal.ofBits, Ideal.ieee]

theorem pay36_eq (v : S384x64.Idx → EReal) (r : Fin 512) (k : Fin 64) :
    k0_pay36 (F := Ideal) v s rowNo a b c d (ix2 r k) = out (rd s r.val) (sinkAt a b c d r.val) fun j => rd v j k.val := by
  unfold k0_pay36 out
  refine (Ideal.matmul_plain_apply (M := 512) (K := 384) (N := 64) none _ _ _ r k).trans ?_
  refine (congrArg (· + _) zero_word').trans ((zero_add _).trans ?_)
  exact Finset.sum_congr rfl fun j _ => congrArg₂ (· * ·)
    (congrArg₂ Ideal.div (pay34_eq s a b c d r j) ((spread _ r j).trans (pay35_eq s a b c d r))) (eq_rd v j k)

theorem pay37_eq (r : Fin 512) : k0_pay37 (F := Ideal) s rowNo a b c d (ix2 r 0) = lse (rd s r.val) (sinkAt a b c d r.val) := by
  unfold k0_pay37 lse
  exact congrArg₂ (· + ·) (pay33_eq s a b c d r) (congrArg Ideal.log (pay35_eq s a b c d r))

end

/-! ## The first four heads' steps are the last four's -/

section

variable (q : FVec Ideal S128x512 .bf16) (k : FVec Ideal S384x128 .bf16) (m1 m2 m3 : IVec S512x384 1) (a b c d : EReal) (v : FVec Ideal S384x64 .bf16)

theorem first_out : k0_pay20 (F := Ideal) v (k0_pay19 q k m1 m2 m3 a b c d) = k0_pay36 v (k0_pay14 q k m1 m2 m3) rowNo a b c d := rfl

theorem first_lse : k0_pay21 (F := Ideal) (k0_pay16 q k m1 m2 m3 a b c d) (k0_pay18 q k m1 m2 m3 a b c d) = k0_pay37 (k0_pay14 q k m1 m2 m3) rowNo a b c d := rfl

end

/-! ## The masked scores -/

theorem named_mask : Named.named (F := Ideal) (φ := .f32) Cert.Kernel15Ideal.κ "mask" 0xF149F2CA#32 = (⊥ : EReal) :=
  IdealRules.named_const.ideal_named_scalar _ _ _ _ rfl

/-- Columns of a matrix. -/
theorem cols {n w t o : Nat} (x : (⟨2, ![n, t]⟩ : Shape).Idx → EReal) (h : (⟨2, ![n, t]⟩ : Shape).Slices ![0, o] ⟨2, ![n, w]⟩) (r : Fin n) (k : Fin w) :
    extractStridedSlice ⟨2, ![n, w]⟩ ![0, o] x h (ix2 r k) = rd x r.val (o + k.val) :=
  rd_of_emb x _ (show 0 + r.val = r.val by omega) rfl

/-- Rows of a matrix. -/
theorem rowsAt {n w t o : Nat} (x : (⟨2, ![t, w]⟩ : Shape).Idx → EReal) (h : (⟨2, ![t, w]⟩ : Shape).Slices ![o, 0] ⟨2, ![n, w]⟩) (r : Fin n) (k : Fin w) :
    extractStridedSlice ⟨2, ![n, w]⟩ ![o, 0] x h (ix2 r k) = rd x (o + r.val) k.val :=
  rd_of_emb x _ rfl (show 0 + k.val = k.val by omega)

/-- Four blocks of rows below each other. -/
theorem below4 (x0 x1 x2 x3 : S128x64.Idx → EReal) (h : Shape.Concatenates [S128x64, S128x64, S128x64, S128x64] S512x64 0) (r : Fin 512) (k : Fin 64) :
    concatenate S512x64 0 [⟨S128x64, x0⟩, ⟨S128x64, x1⟩, ⟨S128x64, x2⟩, ⟨S128x64, x3⟩] h (ix2 r k)
      = if r.val < 128 then rd x0 r.val k.val else if r.val < 256 then rd x1 (r.val - 128) k.val else if r.val < 384 then rd x2 (r.val - 256) k.val else rd x3 (r.val - 384) k.val := by
  have hr := r.isLt
  by_cases h1 : r.val < 128
  · rw [if_pos h1]
    exact (concatenate_apply_piece (t := S512x64) (0 : Fin 2) [⟨S128x64, x0⟩, ⟨S128x64, x1⟩, ⟨S128x64, x2⟩, ⟨S128x64, x3⟩] h (ix2 r k) 0 (by show 0 < 4; omega) _ x0 rfl rfl 0 rfl (ix2 ⟨r.val, h1⟩ k)
      (fun d hd => by fin_cases d; · exact absurd rfl hd
                      · rfl) (show 0 + r.val = r.val by omega)).trans (eq_rd x0 ⟨r.val, h1⟩ k)
  rw [if_neg h1]
  by_cases h2 : r.val < 256
  · rw [if_pos h2]
    exact (concatenate_apply_piece (t := S512x64) (0 : Fin 2) [⟨S128x64, x0⟩, ⟨S128x64, x1⟩, ⟨S128x64, x2⟩, ⟨S128x64, x3⟩] h (ix2 r k) 1 (by show 1 < 4; omega) _ x1 rfl rfl 128 rfl (ix2 ⟨r.val - 128, by omega⟩ k)
      (fun d hd => by fin_cases d; · exact absurd rfl hd
                      · rfl) (show 128 + (r.val - 128) = r.val by omega)).trans (eq_rd x1 ⟨r.val - 128, by omega⟩ k)
  rw [if_neg h2]
  by_cases h3 : r.val < 384
  · rw [if_pos h3]
    exact (concatenate_apply_piece (t := S512x64) (0 : Fin 2) [⟨S128x64, x0⟩, ⟨S128x64, x1⟩, ⟨S128x64, x2⟩, ⟨S128x64, x3⟩] h (ix2 r k) 2 (by show 2 < 4; omega) _ x2 rfl rfl 256 rfl (ix2 ⟨r.val - 256, by omega⟩ k)
      (fun d hd => by fin_cases d; · exact absurd rfl hd
                      · rfl) (show 256 + (r.val - 256) = r.val by omega)).trans (eq_rd x2 ⟨r.val - 256, by omega⟩ k)
  rw [if_neg h3]
  exact (concatenate_apply_piece (t := S512x64) (0 : Fin 2) [⟨S128x64, x0⟩, ⟨S128x64, x1⟩, ⟨S128x64, x2⟩, ⟨S128x64, x3⟩] h (ix2 r k) 3 (by show 3 < 4; omega) _ x3 rfl rfl 384 rfl (ix2 ⟨r.val - 384, by omega⟩ k)
    (fun d hd => by fin_cases d; · exact absurd rfl hd
                    · rfl) (show 384 + (r.val - 384) = r.val by omega)).trans (eq_rd x3 ⟨r.val - 384, by omega⟩ k)

/-- Three blocks of rows below each other. -/
theorem below3 (x0 x1 x2 : S128x128.Idx → EReal) (h : Shape.Concatenates [S128x128, S128x128, S128x128] S384x128 0) (r : Fin 384) (k : Fin 128) :
    concatenate S384x128 0 [⟨S128x128, x0⟩, ⟨S128x128, x1⟩, ⟨S128x128, x2⟩] h (ix2 r k)
      = if r.val < 128 then rd x0 r.val k.val else if r.val < 256 then rd x1 (r.val - 128) k.val else rd x2 (r.val - 256) k.val := by
  have hr := r.isLt
  by_cases h1 : r.val < 128
  · rw [if_pos h1]
    exact (concatenate_apply_piece (t := S384x128) (0 : Fin 2) [⟨S128x128, x0⟩, ⟨S128x128, x1⟩, ⟨S128x128, x2⟩] h (ix2 r k) 0 (by show 0 < 3; omega) _ x0 rfl rfl 0 rfl (ix2 ⟨r.val, h1⟩ k)
      (fun d hd => by fin_cases d; · exact absurd rfl hd
                      · rfl) (show 0 + r.val = r.val by omega)).trans (eq_rd x0 ⟨r.val, h1⟩ k)
  rw [if_neg h1]
  by_cases h2 : r.val < 256
  · rw [if_pos h2]
    exact (concatenate_apply_piece (t := S384x128) (0 : Fin 2) [⟨S128x128, x0⟩, ⟨S128x128, x1⟩, ⟨S128x128, x2⟩] h (ix2 r k) 1 (by show 1 < 3; omega) _ x1 rfl rfl 128 rfl (ix2 ⟨r.val - 128, by omega⟩ k)
      (fun d hd => by fin_cases d; · exact absurd rfl hd
                      · rfl) (show 128 + (r.val - 128) = r.val by omega)).trans (eq_rd x1 ⟨r.val - 128, by omega⟩ k)
  rw [if_neg h2]
  exact (concatenate_apply_piece (t := S384x128) (0 : Fin 2) [⟨S128x128, x0⟩, ⟨S128x128, x1⟩, ⟨S128x128, x2⟩] h (ix2 r k) 2 (by show 2 < 3; omega) _ x2 rfl rfl 256 rfl (ix2 ⟨r.val - 256, by omega⟩ k)
    (fun d hd => by fin_cases d; · exact absurd rfl hd
                    · rfl) (show 256 + (r.val - 256) = r.val by omega)).trans (eq_rd x2 ⟨r.val - 256, by omega⟩ k)

/-- The mask as the kernel computes it. -/
theorem mask_eq (i : grid0.Coords) (r : Fin 512) (j : Fin 384) :
    k0_pay12 (k0_pay9 i) k0_pay10 (k0_pay11 i) (ix2 r j) = BitVec.ofBool (decide (Ok (i 0).val (r.val % 128) j.val)) := by
  have e0 : iota .tc S512x384 32 [0] iota_S512x384_d0_w32 (ix2 r j) = BitVec.ofNat 32 r.val := iota_single_apply .tc S512x384 32 0 iota_S512x384_d0_w32 (ix2 r j)
  have e1 : iota .tc S512x384 32 [1] iota_S512x384_d1_w32 (ix2 r j) = BitVec.ofNat 32 j.val := iota_single_apply .tc S512x384 32 1 iota_S512x384_d1_w32 (ix2 r j)
  refine Eq.trans ?_ (mask_kernel (i 0).val r.val j.val (i 0).isLt r.isLt j.isLt)
  rw [← e0, ← e1]
  rfl

/-- The scores of a head: a query's products with the keys where the query attends, minus infinity elsewhere. -/
def score (n p : Nat) (q : Nat → EReal) (k : Nat → Nat → EReal) (j : Nat) : EReal := if Ok n p j then ∑ e : Fin 64, q e.val * k j e.val else ⊥

variable (q : S128x512.Idx → EReal) (k : S384x128.Idx → EReal) (i : grid0.Coords)

theorem pay14_eq (r : Fin 512) (j : Fin 384) :
    k0_pay14 (F := Ideal) q k (k0_pay9 i) k0_pay10 (k0_pay11 i) (ix2 r j)
      = score (i 0).val (r.val % 128) (fun e => rd q (r.val % 128) (64 * (r.val / 128) + e)) (fun j e => rd k j e) j.val := by
  have hr := r.isLt
  unfold k0_pay14
  refine (congrArg (fun w => Scalar.select w _ _) (mask_eq i r j)).trans ((choose _ _ _).trans ?_)
  unfold score
  refine if_congr Iff.rfl ?_ named_mask
  refine (Ideal.matmul_transposedRhs_apply (M := 512) (K := 64) (N := 384) none _ _ _ r j).trans ?_
  refine (congrArg (· + _) zero_word').trans ((zero_add _).trans ?_)
  refine Finset.sum_congr rfl fun e _ => congrArg₂ (· * ·) ?_ ((cols k slices_S384x128_o0_0_S384x64 j e).trans (congrArg (rd k j.val) (show 0 + e.val = e.val by omega)))
  have c {o : Nat} (h : S128x512.Slices ![0, o] S128x64) (p : Nat) (hp : p < 128) : rd (extractStridedSlice S128x64 ![0, o] q h) p e.val = rd q p (o + e.val) :=
    (rd_of_lt _ hp e.isLt).trans (cols q h ⟨p, hp⟩ e)
  refine (below4 _ _ _ _ _ r e).trans ?_
  by_cases h1 : r.val < 128
  · rw [if_pos h1, c _ _ h1, show r.val % 128 = r.val by omega, show 64 * (r.val / 128) = 0 by omega]
  rw [if_neg h1]
  by_cases h2 : r.val < 256
  · rw [if_pos h2, c _ _ (by omega), show r.val % 128 = r.val - 128 by omega, show 64 * (r.val / 128) = 64 by omega]
  rw [if_neg h2]
  by_cases h3 : r.val < 384
  · rw [if_pos h3, c _ _ (by omega), show r.val % 128 = r.val - 256 by omega, show 64 * (r.val / 128) = 128 by omega]
  rw [if_neg h3, c _ _ (by omega), show r.val % 128 = r.val - 384 by omega, show 64 * (r.val / 128) = 192 by omega]

theorem pay31_eq (r : Fin 512) (j : Fin 384) :
    k0_pay31 (F := Ideal) q k (k0_pay12 (k0_pay9 i) k0_pay10 (k0_pay11 i)) (ix2 r j)
      = score (i 0).val (r.val % 128) (fun e => rd q (r.val % 128) (64 * (4 + r.val / 128) + e)) (fun j e => rd k j (64 + e)) j.val := by
  have hr := r.isLt
  unfold k0_pay31
  refine (congrArg (fun w => Scalar.select w _ _) (mask_eq i r j)).trans ((choose _ _ _).trans ?_)
  unfold score
  refine if_congr Iff.rfl ?_ named_mask
  refine (Ideal.matmul_transposedRhs_apply (M := 512) (K := 64) (N := 384) none _ _ _ r j).trans ?_
  refine (congrArg (· + _) zero_word').trans ((zero_add _).trans ?_)
  refine Finset.sum_congr rfl fun e _ => congrArg₂ (· * ·) ?_ (cols k slices_S384x128_o0_64_S384x64 j e)
  have c {o : Nat} (h : S128x512.Slices ![0, o] S128x64) (p : Nat) (hp : p < 128) : rd (extractStridedSlice S128x64 ![0, o] q h) p e.val = rd q p (o + e.val) :=
    (rd_of_lt _ hp e.isLt).trans (cols q h ⟨p, hp⟩ e)
  refine (below4 _ _ _ _ _ r e).trans ?_
  by_cases h1 : r.val < 128
  · rw [if_pos h1, c _ _ h1, show r.val % 128 = r.val by omega, show 64 * (4 + r.val / 128) = 256 by omega]
  rw [if_neg h1]
  by_cases h2 : r.val < 256
  · rw [if_pos h2, c _ _ (by omega), show r.val % 128 = r.val - 128 by omega, show 64 * (4 + r.val / 128) = 320 by omega]
  rw [if_neg h2]
  by_cases h3 : r.val < 384
  · rw [if_pos h3, c _ _ (by omega), show r.val % 128 = r.val - 256 by omega, show 64 * (4 + r.val / 128) = 384 by omega]
  rw [if_neg h3, c _ _ (by omega), show r.val % 128 = r.val - 384 by omega, show 64 * (4 + r.val / 128) = 448 by omega]

end Cert.Attn

end
-- ==== Proof.Attn.Block.lean ====
/- What each grid point of the attention leaves in its two output blocks. -/
module

public import proofs.«01_k».proof.Proof.Attn.Payload
public import proofs.«01_k».proof.Proof.Rope

@[expose] public section

noncomputable section

namespace Cert.Attn

open Idealize.ShloMosaic Idealize.ShloMosaic.TcCoe Idealize.ShloMosaic.Pipeline
open Cert.Kernel15Ideal Cert.Kernel15Ideal.Gen Cert.Rows

/-! ## A head of a block -/

section

variable (n : Nat) (q : S128x512.Idx → EReal) (k v : S384x128.Idx → EReal) (σ : S1x8.Idx → EReal)

/-- The scores of a row of head `h`. -/
def headScore (p h j : Nat) : EReal := score n p (fun e => rd q p (64 * h + e)) (fun j e => rd k j (64 * (h / 4) + e)) j

/-- The output of a row of head `h`, column `d`. -/
def headOut (p h d : Nat) : EReal := out (headScore n q k p h) (rd σ 0 h) fun j => rd v j (64 * (h / 4) + d)

/-- The logarithm of the sums of a row of head `h`. -/
def headLse (p h : Nat) : EReal := lse (headScore n q k p h) (rd σ 0 h)

end

section

variable (i : grid0.Coords) (q : S128x512.Idx → EReal) (k v : S384x128.Idx → EReal) (σ : S1x8.Idx → EReal)

theorem one_pos' : 0 < (⟨2, ![1, 1]⟩ : Shape).numel := by decide

/-- A sink loaded from its table. -/
abbrev ldS (h : Nat) (inb : ∀ d, (![0, h] : Fin 2 → Nat) d + (![1, 1] : Fin 2 → Nat) d ≤ S1x8.size d) : EReal :=
  View.ld (Val := Elt Ideal) (e' := .f32) σ (Rect.unit (s := S1x8) ![0, h] ![1, 1] inb) (Shape.Idx.first one_pos')

theorem ldS_eq (h : Nat) (inb) : ldS σ h inb = rd σ 0 h := rd_of_emb σ _ rfl (show h + 1 * 0 = h by omega)

theorem sink_rows (a b c d : EReal) (g : Nat) (h0 : d = rd σ 0 g) (h1 : c = rd σ 0 (g + 1)) (h2 : b = rd σ 0 (g + 2)) (h3 : a = rd σ 0 (g + 3)) (r : Nat) (hr : r < 512) :
    sinkAt a b c d r = rd σ 0 (g + r / 128) := by
  subst h0 h1 h2 h3
  unfold sinkAt
  by_cases c1 : r < 128
  · rw [if_pos c1, show g + r / 128 = g by omega]
  rw [if_neg c1]
  by_cases c2 : r < 256
  · rw [if_pos c2, show g + r / 128 = g + 1 by omega]
  rw [if_neg c2]
  by_cases c3 : r < 384
  · rw [if_pos c3, show g + r / 128 = g + 2 by omega]
  rw [if_neg c3, show g + r / 128 = g + 3 by omega]

abbrev s0 : FVec Ideal S512x384 .f32 := k0_pay14 (F := Ideal) q k (k0_pay9 i) k0_pay10 (k0_pay11 i)
abbrev s1 : FVec Ideal S512x384 .f32 := k0_pay31 (F := Ideal) q k (k0_pay12 (k0_pay9 i) k0_pay10 (k0_pay11 i))
abbrev a0 : FVec Ideal S512x1 .f32 := k0_pay16 (F := Ideal) q k (k0_pay9 i) k0_pay10 (k0_pay11 i) (ldS σ 3 inb_S1x8_S1x1_0_3) (ldS σ 2 inb_S1x8_S1x1_0_2) (ldS σ 1 inb_S1x8_S1x1_0_1) (ldS σ 0 inb_S1x8_S1x1_0_0)
abbrev b0 : FVec Ideal S512x1 .f32 := k0_pay18 (F := Ideal) q k (k0_pay9 i) k0_pay10 (k0_pay11 i) (ldS σ 3 inb_S1x8_S1x1_0_3) (ldS σ 2 inb_S1x8_S1x1_0_2) (ldS σ 1 inb_S1x8_S1x1_0_1) (ldS σ 0 inb_S1x8_S1x1_0_0)
abbrev w0 : FVec Ideal S512x384 .f32 := k0_pay19 (F := Ideal) q k (k0_pay9 i) k0_pay10 (k0_pay11 i) (ldS σ 3 inb_S1x8_S1x1_0_3) (ldS σ 2 inb_S1x8_S1x1_0_2) (ldS σ 1 inb_S1x8_S1x1_0_1) (ldS σ 0 inb_S1x8_S1x1_0_0)
abbrev o0 : FVec Ideal S512x64 .f32 := k0_pay20 (F := Ideal) (k0_pay13 v) (w0 i q k σ)
abbrev l0 : FVec Ideal S512x1 .f32 := k0_pay21 (F := Ideal) (a0 i q k σ) (b0 i q k σ)
abbrev o1 : FVec Ideal S512x64 .f32 := k0_pay36 (F := Ideal) (k0_pay30 v) (s1 i q k) rowNo (ldS σ 7 inb_S1x8_S1x1_0_7) (ldS σ 6 inb_S1x8_S1x1_0_6) (ldS σ 5 inb_S1x8_S1x1_0_5) (ldS σ 4 inb_S1x8_S1x1_0_4)
abbrev l1 : FVec Ideal S512x1 .f32 := k0_pay37 (F := Ideal) (s1 i q k) rowNo (ldS σ 7 inb_S1x8_S1x1_0_7) (ldS σ 6 inb_S1x8_S1x1_0_6) (ldS σ 5 inb_S1x8_S1x1_0_5) (ldS σ 4 inb_S1x8_S1x1_0_4)

theorem sink0 (r : Fin 512) : sinkAt (ldS σ 3 inb_S1x8_S1x1_0_3) (ldS σ 2 inb_S1x8_S1x1_0_2) (ldS σ 1 inb_S1x8_S1x1_0_1) (ldS σ 0 inb_S1x8_S1x1_0_0) r.val = rd σ 0 (0 + r.val / 128) :=
  sink_rows σ _ _ _ _ 0 (ldS_eq σ 0 _) (ldS_eq σ 1 _) (ldS_eq σ 2 _) (ldS_eq σ 3 _) r.val r.isLt

theorem sink1 (r : Fin 512) : sinkAt (ldS σ 7 inb_S1x8_S1x1_0_7) (ldS σ 6 inb_S1x8_S1x1_0_6) (ldS σ 5 inb_S1x8_S1x1_0_5) (ldS σ 4 inb_S1x8_S1x1_0_4) r.val = rd σ 0 (4 + r.val / 128) :=
  sink_rows σ _ _ _ _ 4 (ldS_eq σ 4 _) (ldS_eq σ 5 _) (ldS_eq σ 6 _) (ldS_eq σ 7 _) r.val r.isLt

theorem scores0 (r : Fin 512) (j : Nat) (hj : j < 384) : rd (s0 i q k) r.val j = headScore (i 0).val q k (r.val % 128) (0 + r.val / 128) j := by
  have hr := r.isLt
  refine (rd_of_lt _ r.isLt hj).trans ((pay14_eq q k i r ⟨j, hj⟩).trans ?_)
  unfold headScore
  rw [show 64 * ((0 + r.val / 128) / 4) = 0 by omega]
  simp only [Nat.zero_add]

theorem scores1 (r : Fin 512) (j : Nat) (hj : j < 384) : rd (s1 i q k) r.val j = headScore (i 0).val q k (r.val % 128) (4 + r.val / 128) j := by
  have hr := r.isLt
  refine (rd_of_lt _ r.isLt hj).trans ((pay31_eq q k i r ⟨j, hj⟩).trans ?_)
  unfold headScore
  rw [show 64 * ((4 + r.val / 128) / 4) = 64 by omega]

theorem o0_eq (r : Fin 512) (d : Fin 64) : o0 i q k v σ (ix2 r d) = headOut (i 0).val q k v σ (r.val % 128) (0 + r.val / 128) d.val := by
  have hr := r.isLt
  refine (congrFun (first_out q k (k0_pay9 i) k0_pay10 (k0_pay11 i) (ldS σ 3 inb_S1x8_S1x1_0_3) (ldS σ 2 inb_S1x8_S1x1_0_2) (ldS σ 1 inb_S1x8_S1x1_0_1) (ldS σ 0 inb_S1x8_S1x1_0_0) (k0_pay13 v)) (ix2 r d)).trans ?_
  refine (pay36_eq (s0 i q k) _ _ _ _ (k0_pay13 (F := Ideal) v) r d).trans ?_
  rw [sink0]
  refine out_congr _ (scores0 i q k r) fun j hj => ?_
  refine (rd_of_lt _ hj d.isLt).trans ((cols v slices_S384x128_o0_0_S384x64 ⟨j, hj⟩ d).trans ?_)
  rw [show 64 * ((0 + r.val / 128) / 4) = 0 by omega]

theorem o1_eq (r : Fin 512) (d : Fin 64) : o1 i q k v σ (ix2 r d) = headOut (i 0).val q k v σ (r.val % 128) (4 + r.val / 128) d.val := by
  have hr := r.isLt
  refine (pay36_eq (s1 i q k) _ _ _ _ (k0_pay30 (F := Ideal) v) r d).trans ?_
  rw [sink1]
  refine out_congr _ (scores1 i q k r) fun j hj => ?_
  refine (rd_of_lt _ hj d.isLt).trans ((cols v slices_S384x128_o0_64_S384x64 ⟨j, hj⟩ d).trans ?_)
  rw [show 64 * ((4 + r.val / 128) / 4) = 64 by omega]

theorem l0_eq (r : Fin 512) : l0 i q k σ (ix2 r 0) = headLse (i 0).val q k σ (r.val % 128) (0 + r.val / 128) := by
  refine (congrFun (first_lse q k (k0_pay9 i) k0_pay10 (k0_pay11 i) (ldS σ 3 inb_S1x8_S1x1_0_3) (ldS σ 2 inb_S1x8_S1x1_0_2) (ldS σ 1 inb_S1x8_S1x1_0_1) (ldS σ 0 inb_S1x8_S1x1_0_0)) (ix2 r 0)).trans ?_
  refine (pay37_eq (s0 i q k) _ _ _ _ r).trans ?_
  rw [sink0]
  exact lse_congr _ (scores0 i q k r)

theorem l1_eq (r : Fin 512) : l1 i q k σ (ix2 r 0) = headLse (i 0).val q k σ (r.val % 128) (4 + r.val / 128) := by
  refine (pay37_eq (s1 i q k) _ _ _ _ r).trans ?_
  rw [sink1]
  exact lse_congr _ (scores1 i q k r)

/-! ## The stores -/

/-- The stores of the output, the last first. -/
abbrev storesO : List (View.Piece (Elt Ideal) S128x512 .f32) :=
  [⟨Rect.unit (s := S128x512) ![0, 448] S128x64.size inb_S128x512_S128x64_0_448, k0_pay4 (F := Ideal) (o1 i q k v σ)⟩,
    ⟨Rect.unit (s := S128x512) ![0, 384] S128x64.size inb_S128x512_S128x64_0_384, k0_pay2 (F := Ideal) (o1 i q k v σ)⟩,
    ⟨Rect.unit (s := S128x512) ![0, 320] S128x64.size inb_S128x512_S128x64_0_320, k0_pay40 (F := Ideal) (k0_pay30 v) (s1 i q k) rowNo (ldS σ 7 inb_S1x8_S1x1_0_7) (ldS σ 6 inb_S1x8_S1x1_0_6) (ldS σ 5 inb_S1x8_S1x1_0_5) (ldS σ 4 inb_S1x8_S1x1_0_4)⟩,
    ⟨Rect.unit (s := S128x512) ![0, 256] S128x64.size inb_S128x512_S128x64_0_256, k0_pay38 (F := Ideal) (k0_pay30 v) (s1 i q k) rowNo (ldS σ 7 inb_S1x8_S1x1_0_7) (ldS σ 6 inb_S1x8_S1x1_0_6) (ldS σ 5 inb_S1x8_S1x1_0_5) (ldS σ 4 inb_S1x8_S1x1_0_4)⟩,
    ⟨Rect.unit (s := S128x512) ![0, 192] S128x64.size inb_S128x512_S128x64_0_192, k0_pay28 (F := Ideal) (k0_pay13 v) (w0 i q k σ)⟩,
    ⟨Rect.unit (s := S128x512) ![0, 128] S128x64.size inb_S128x512_S128x64_0_128, k0_pay26 (F := Ideal) (k0_pay13 v) (w0 i q k σ)⟩,
    ⟨Rect.unit (s := S128x512) ![0, 64] S128x64.size inb_S128x512_S128x64_0_64, k0_pay24 (F := Ideal) (k0_pay13 v) (w0 i q k σ)⟩,
    ⟨Rect.unit (s := S128x512) ![0, 0] S128x64.size inb_S128x512_S128x64_0_0, k0_pay22 (F := Ideal) (k0_pay13 v) (w0 i q k σ)⟩]

/-- The stores of the logarithms, the last first. -/
abbrev storesL : List (View.Piece (Elt Ideal) S128x8 .f32) :=
  [⟨Rect.unit (s := S128x8) ![0, 7] S128x1.size inb_S128x8_S128x1_0_7, k0_pay5 (F := Ideal) (l1 i q k σ)⟩,
    ⟨Rect.unit (s := S128x8) ![0, 6] S128x1.size inb_S128x8_S128x1_0_6, k0_pay3 (F := Ideal) (l1 i q k σ)⟩,
    ⟨Rect.unit (s := S128x8) ![0, 5] S128x1.size inb_S128x8_S128x1_0_5, k0_pay1 (F := Ideal) (l1 i q k σ)⟩,
    ⟨Rect.unit (s := S128x8) ![0, 4] S128x1.size inb_S128x8_S128x1_0_4, k0_pay39 (F := Ideal) (s1 i q k) rowNo (ldS σ 7 inb_S1x8_S1x1_0_7) (ldS σ 6 inb_S1x8_S1x1_0_6) (ldS σ 5 inb_S1x8_S1x1_0_5) (ldS σ 4 inb_S1x8_S1x1_0_4)⟩,
    ⟨Rect.unit (s := S128x8) ![0, 3] S128x1.size inb_S128x8_S128x1_0_3, k0_pay29 (F := Ideal) (a0 i q k σ) (b0 i q k σ)⟩,
    ⟨Rect.unit (s := S128x8) ![0, 2] S128x1.size inb_S128x8_S128x1_0_2, k0_pay27 (F := Ideal) (a0 i q k σ) (b0 i q k σ)⟩,
    ⟨Rect.unit (s := S128x8) ![0, 1] S128x1.size inb_S128x8_S128x1_0_1, k0_pay25 (F := Ideal) (a0 i q k σ) (b0 i q k σ)⟩,
    ⟨Rect.unit (s := S128x8) ![0, 0] S128x1.size inb_S128x8_S128x1_0_0, k0_pay23 (F := Ideal) (a0 i q k σ) (b0 i q k σ)⟩]

/-- What the stores of the output leave. -/
def leftO (y : S128x512.Idx) : EReal := headOut (i 0).val q k v σ (y 0).val ((y 1).val / 64) ((y 1).val % 64)

/-- What the stores of the logarithms leave. -/
def leftL (y : S128x8.Idx) : EReal := headLse (i 0).val q k σ (y 0).val (y 1).val

/-- A store of a head's output: rows `128 g` on of four heads below each other. -/
theorem storedO (X : S512x64.Idx → EReal) (g0 : Nat) (hX : ∀ (r : Fin 512) (d : Fin 64), X (ix2 r d) = headOut (i 0).val q k v σ (r.val % 128) (g0 + r.val / 128) d.val)
    (g o b : Nat) (hg : g < 4) (ho : o = 64 * (g0 + g)) (hb : b = 128 * g) (h : S512x64.Slices ![b, 0] S128x64)
    (inb : ∀ d, (![0, o] : Fin 2 → Nat) d + (![128, 64] : Fin 2 → Nat) d ≤ S128x512.size d) (y : (⟨2, ![128, 64]⟩ : Shape).Idx) :
    extractStridedSlice S128x64 ![b, 0] X h y = leftO i q k v σ ((Rect.unit (s := S128x512) ![0, o] ![128, 64] inb).emb y) := by
  obtain ⟨p, d, rfl⟩ : ∃ (p : Fin 128) (d : Fin 64), y = ix2 p d := ⟨y 0, y 1, ValueIdx.eq_ix2 y⟩
  have hp := p.isLt
  have hd := d.isLt
  refine (rowsAt X h p d).trans ((rd_of_lt X (show b + p.val < 512 by omega) d.isLt).trans ((hX ⟨b + p.val, by omega⟩ d).trans ?_))
  show headOut _ q k v σ ((b + p.val) % 128) (g0 + (b + p.val) / 128) d.val = headOut _ q k v σ (0 + 1 * p.val) ((o + 1 * d.val) / 64) ((o + 1 * d.val) % 64)
  rw [show (b + p.val) % 128 = 0 + 1 * p.val by omega, show g0 + (b + p.val) / 128 = (o + 1 * d.val) / 64 by omega, show (o + 1 * d.val) % 64 = d.val by omega]

theorem storedL (X : S512x1.Idx → EReal) (g0 : Nat) (hX : ∀ (r : Fin 512), X (ix2 r 0) = headLse (i 0).val q k σ (r.val % 128) (g0 + r.val / 128))
    (g o b : Nat) (hg : g < 4) (ho : o = g0 + g) (hb : b = 128 * g) (h : S512x1.Slices ![b, 0] S128x1)
    (inb : ∀ d, (![0, o] : Fin 2 → Nat) d + (![128, 1] : Fin 2 → Nat) d ≤ S128x8.size d) (y : (⟨2, ![128, 1]⟩ : Shape).Idx) :
    extractStridedSlice S128x1 ![b, 0] X h y = leftL i q k σ ((Rect.unit (s := S128x8) ![0, o] ![128, 1] inb).emb y) := by
  obtain ⟨p, d, rfl⟩ : ∃ (p : Fin 128) (d : Fin 1), y = ix2 p d := ⟨y 0, y 1, ValueIdx.eq_ix2 y⟩
  obtain rfl : d = 0 := Subsingleton.elim _ _
  have hp := p.isLt
  refine (rowsAt X h p 0).trans ((rd_of_lt X (show b + p.val < 512 by omega) (0 : Fin 1).isLt).trans ((hX ⟨b + p.val, by omega⟩).trans ?_))
  show headLse _ q k σ ((b + p.val) % 128) (g0 + (b + p.val) / 128) = headLse _ q k σ (0 + 1 * p.val) (o + 1 * 0)
  rw [show (b + p.val) % 128 = 0 + 1 * p.val by omega, show g0 + (b + p.val) / 128 = o + 1 * 0 by omega]

theorem storesO_canon : View.canon (Val := Elt Ideal) (s := S128x512) (e := .f32) (storesO i q k v σ) = leftO i q k v σ := by
  funext y
  refine View.canon_apply_of_pieces (Val := Elt Ideal) (S := S128x512) (e := .f32) (leftO i q k v σ) _ ?_ y
    (View.cover_of_tiledBy (storesO i q k v σ) ![128, 64] (by sl_kernel_rfl) y)
  intro f hf
  rcases List.mem_cons.mp hf with rfl | hf
  · exact storedO i q k v σ _ 4 (o1_eq i q k v σ) 3 448 384 (by decide) rfl rfl slices_S512x64_o384_0_S128x64 inb_S128x512_S128x64_0_448
  rcases List.mem_cons.mp hf with rfl | hf
  · exact storedO i q k v σ _ 4 (o1_eq i q k v σ) 2 384 256 (by decide) rfl rfl slices_S512x64_o256_0_S128x64 inb_S128x512_S128x64_0_384
  rcases List.mem_cons.mp hf with rfl | hf
  · exact storedO i q k v σ _ 4 (o1_eq i q k v σ) 1 320 128 (by decide) rfl rfl slices_S512x64_o128_0_S128x64 inb_S128x512_S128x64_0_320
  rcases List.mem_cons.mp hf with rfl | hf
  · exact storedO i q k v σ _ 4 (o1_eq i q k v σ) 0 256 0 (by decide) rfl rfl slices_S512x64_o0_0_S128x64 inb_S128x512_S128x64_0_256
  rcases List.mem_cons.mp hf with rfl | hf
  · exact storedO i q k v σ _ 0 (o0_eq i q k v σ) 3 192 384 (by decide) rfl rfl slices_S512x64_o384_0_S128x64 inb_S128x512_S128x64_0_192
  rcases List.mem_cons.mp hf with rfl | hf
  · exact storedO i q k v σ _ 0 (o0_eq i q k v σ) 2 128 256 (by decide) rfl rfl slices_S512x64_o256_0_S128x64 inb_S128x512_S128x64_0_128
  rcases List.mem_cons.mp hf with rfl | hf
  · exact storedO i q k v σ _ 0 (o0_eq i q k v σ) 1 64 128 (by decide) rfl rfl slices_S512x64_o128_0_S128x64 inb_S128x512_S128x64_0_64
  obtain rfl := List.mem_singleton.mp hf
  exact storedO i q k v σ _ 0 (o0_eq i q k v σ) 0 0 0 (by decide) rfl rfl slices_S512x64_o0_0_S128x64 inb_S128x512_S128x64_0_0

theorem storesL_canon : View.canon (Val := Elt Ideal) (s := S128x8) (e := .f32) (storesL i q k σ) = leftL i q k σ := by
  funext y
  refine View.canon_apply_of_pieces (Val := Elt Ideal) (S := S128x8) (e := .f32) (leftL i q k σ) _ ?_ y
    (View.cover_of_tiledBy (storesL i q k σ) ![128, 1] (by sl_kernel_rfl) y)
  intro f hf
  rcases List.mem_cons.mp hf with rfl | hf
  · exact storedL i q k σ _ 4 (l1_eq i q k σ) 3 7 384 (by decide) rfl rfl slices_S512x1_o384_0_S128x1 inb_S128x8_S128x1_0_7
  rcases List.mem_cons.mp hf with rfl | hf
  · exact storedL i q k σ _ 4 (l1_eq i q k σ) 2 6 256 (by decide) rfl rfl slices_S512x1_o256_0_S128x1 inb_S128x8_S128x1_0_6
  rcases List.mem_cons.mp hf with rfl | hf
  · exact storedL i q k σ _ 4 (l1_eq i q k σ) 1 5 128 (by decide) rfl rfl slices_S512x1_o128_0_S128x1 inb_S128x8_S128x1_0_5
  rcases List.mem_cons.mp hf with rfl | hf
  · exact storedL i q k σ _ 4 (l1_eq i q k σ) 0 4 0 (by decide) rfl rfl slices_S512x1_o0_0_S128x1 inb_S128x8_S128x1_0_4
  rcases List.mem_cons.mp hf with rfl | hf
  · exact storedL i q k σ _ 0 (l0_eq i q k σ) 3 3 384 (by decide) rfl rfl slices_S512x1_o384_0_S128x1 inb_S128x8_S128x1_0_3
  rcases List.mem_cons.mp hf with rfl | hf
  · exact storedL i q k σ _ 0 (l0_eq i q k σ) 2 2 256 (by decide) rfl rfl slices_S512x1_o256_0_S128x1 inb_S128x8_S128x1_0_2
  rcases List.mem_cons.mp hf with rfl | hf
  · exact storedL i q k σ _ 0 (l0_eq i q k σ) 1 1 128 (by decide) rfl rfl slices_S512x1_o128_0_S128x1 inb_S128x8_S128x1_0_1
  obtain rfl := List.mem_singleton.mp hf
  exact storedL i q k σ _ 0 (l0_eq i q k σ) 0 0 0 (by decide) rfl rfl slices_S512x1_o0_0_S128x1 inb_S128x8_S128x1_0_0

end

/-! ## The input blocks -/

variable (m : (ℓ : Loc nD τ sig) → Buf (Elt Ideal) ℓ) (c : Dev nD) (t : Fin cfg0.N)

abbrev aQ : S4096x512.Idx → EReal := m ((c : Thread nD τ).loc main_arg0)
abbrev aK : S4096x128.Idx → EReal := m ((c : Thread nD τ).loc main_arg1)
abbrev aV : S4096x128.Idx → EReal := m ((c : Thread nD τ).loc main_arg2)
abbrev aS : S1x8.Idx → EReal := m ((c : Thread nD τ).loc main_arg3)

/-- The factor of the queries. -/
abbrev factor : EReal := FloatOps.ofBits (F := Ideal) .f32 0x3E000000#32

/-- Queries scaled, keys and values side by side. -/
abbrev qkv : S4096x768.Idx → EReal :=
  concatenate S4096x768 1 [⟨S4096x512, fun j => aQ m c j * factor⟩, ⟨S4096x128, aK m c⟩, ⟨S4096x128, aV m c⟩] concatenates_S4096x512_S4096x128_S4096x128_S4096x768_d1

theorem V_qkv : V m c main_v3 = qkv m c := by
  show StableHlo.after hostOps0 _ (Proc.devRef .tc main_v3) = _
  after_results_simp
  rfl

theorem qkv_at (r : Fin 4096) (k : Fin 768) : V m c main_v3 (ix2 r k)
    = if k.val < 512 then rd (fun j => aQ m c j * factor) r.val k.val else if k.val < 512 + 128 then rd (aK m c) r.val (k.val - 512) else rd (aV m c) r.val (k.val - (512 + 128)) := by
  rw [V_qkv]
  exact Cert.Rope.cat2 (t := 768) _ _ _ _ (show 512 + 128 + 128 = 768 from rfl) r k

theorem at_q (r k : Nat) (hr : r < 4096) (hk : k < 512) (y : S4096x768.Idx) (h0 : (y 0).val = r) (h1 : (y 1).val = k) : V m c main_v3 y = rd (aQ m c) r k * factor := by
  refine (rd_of_emb (V m c main_v3) y h0 h1).trans ((rd_of_lt _ hr (show k < 768 by omega)).trans ((qkv_at m c ⟨r, hr⟩ ⟨k, by omega⟩).trans ?_))
  show (if k < 512 then _ else _) = _
  rw [if_pos hk, rd_of_lt _ hr hk, rd_of_lt _ hr hk]

theorem at_k (r k : Nat) (hr : r < 4096) (hk : k < 128) (y : S4096x768.Idx) (h0 : (y 0).val = r) (h1 : (y 1).val = 512 + k) : V m c main_v3 y = rd (aK m c) r k := by
  refine (rd_of_emb (V m c main_v3) y h0 h1).trans ((rd_of_lt _ hr (show 512 + k < 768 by omega)).trans ((qkv_at m c ⟨r, hr⟩ ⟨512 + k, by omega⟩).trans ?_))
  show (if 512 + k < 512 then _ else if 512 + k < 512 + 128 then rd (aK m c) r (512 + k - 512) else _) = _
  rw [if_neg (by omega), if_pos (by omega), show 512 + k - 512 = k by omega]

theorem at_v (r k : Nat) (hr : r < 4096) (hk : k < 128) (y : S4096x768.Idx) (h0 : (y 0).val = r) (h1 : (y 1).val = 640 + k) : V m c main_v3 y = rd (aV m c) r k := by
  refine (rd_of_emb (V m c main_v3) y h0 h1).trans ((rd_of_lt _ hr (show 640 + k < 768 by omega)).trans ((qkv_at m c ⟨r, hr⟩ ⟨640 + k, by omega⟩).trans ?_))
  show (if 640 + k < 512 then _ else if 640 + k < 512 + 128 then _ else rd (aV m c) r (640 + k - (512 + 128))) = _
  rw [if_neg (by omega), if_neg (by omega), show 640 + k - (512 + 128) = k by omega]

theorem coords_0 : ∀ t : Fin cfg0.N, (grid0.coords t 0).val = t.val := by decide +kernel
theorem index_0 : ∀ t : Fin cfg0.N, (cfg0.win 0).index t 0 = 0 ∧ (cfg0.win 0).index t 1 = 0 := by decide +kernel
theorem index_1 : ∀ t : Fin cfg0.N, (cfg0.win 1).index t 0 = t.val ∧ (cfg0.win 1).index t 1 = 0 := by decide +kernel
theorem index_2 : ∀ t : Fin cfg0.N, (cfg0.win 2).index t 0 = t.val - 1 ∧ (cfg0.win 2).index t 1 = 4 := by decide +kernel
theorem index_3 : ∀ t : Fin cfg0.N, (cfg0.win 3).index t 0 = t.val ∧ (cfg0.win 3).index t 1 = 4 := by decide +kernel
theorem index_4 : ∀ t : Fin cfg0.N, (cfg0.win 4).index t 0 = min (t.val + 1) 31 ∧ (cfg0.win 4).index t 1 = 4 := by decide +kernel
theorem index_5 : ∀ t : Fin cfg0.N, (cfg0.win 5).index t 0 = t.val - 1 ∧ (cfg0.win 5).index t 1 = 5 := by decide +kernel
theorem index_6 : ∀ t : Fin cfg0.N, (cfg0.win 6).index t 0 = t.val ∧ (cfg0.win 6).index t 1 = 5 := by decide +kernel
theorem index_7 : ∀ t : Fin cfg0.N, (cfg0.win 7).index t 0 = min (t.val + 1) 31 ∧ (cfg0.win 7).index t 1 = 5 := by decide +kernel
theorem index_8 : ∀ t : Fin cfg0.N, (cfg0.win 8).index t 0 = t.val ∧ (cfg0.win 8).index t 1 = 0 := by decide +kernel
theorem index_9 : ∀ t : Fin cfg0.N, (cfg0.win 9).index t 0 = t.val ∧ (cfg0.win 9).index t 1 = 0 := by decide +kernel

theorem t_lt : t.val < 32 := lt_of_lt_of_eq t.isLt N_0

theorem iblk_0 (r : Fin 1) (k : Fin 8) : iblk m c 0 t (ix2 r k) = rd (aS m c) r.val k.val :=
  (rd_of_emb (V m c main_arg3) (((cfg0.win 0).rect t).emb (ix2 r k))
    (((cfg0.win 0).rect_emb_val t (ix2 r k) 0).trans ((congrArg (· * 1 + r.val) (index_0 t).1).trans (show 0 * 1 + r.val = r.val by omega)))
    (((cfg0.win 0).rect_emb_val t (ix2 r k) 1).trans ((congrArg (· * 8 + k.val) (index_0 t).2).trans (show 0 * 8 + k.val = k.val by omega)))).trans
    (congrArg (fun X : S1x8.Idx → EReal => rd X _ _) (V_main_arg3 m c))

theorem X_1 (r : Fin 128) (k : Fin 512) : X0_1 m c t (ix2 r k) = rd (aQ m c) (128 * t.val + r.val) k.val * factor := by
  have ht := t_lt t
  have hr := r.isLt
  unfold X0_1 Pipeline.Window.fill
  rw [dif_pos (moved0_1 t (ix2 r k))]
  exact at_q m c (128 * t.val + r.val) k.val (by omega) k.isLt _
    (((cfg0.win 1).rect_emb_val t _ 0).trans ((congrArg (· * 128 + r.val) (index_1 t).1).trans (show t.val * 128 + r.val = 128 * t.val + r.val by omega)))
    (((cfg0.win 1).rect_emb_val t _ 1).trans ((congrArg (· * 512 + k.val) (index_1 t).2).trans (show 0 * 512 + k.val = k.val by omega)))

theorem iblk_2 (r : Fin 128) (k : Fin 128) : iblk m c 2 t (ix2 r k) = rd (aK m c) (128 * (t.val - 1) + r.val) k.val := by
  have ht := t_lt t
  have hr := r.isLt
  exact at_k m c (128 * (t.val - 1) + r.val) k.val (by omega) k.isLt (((cfg0.win 2).rect t).emb (ix2 r k))
    (((cfg0.win 2).rect_emb_val t (ix2 r k) 0).trans ((congrArg (· * 128 + r.val) (index_2 t).1).trans (show (t.val - 1) * 128 + r.val = 128 * (t.val - 1) + r.val by omega)))
    (((cfg0.win 2).rect_emb_val t (ix2 r k) 1).trans ((congrArg (· * 128 + k.val) (index_2 t).2).trans (show 4 * 128 + k.val = 512 + k.val by omega)))

theorem iblk_3 (r : Fin 128) (k : Fin 128) : iblk m c 3 t (ix2 r k) = rd (aK m c) (128 * t.val + r.val) k.val := by
  have ht := t_lt t
  have hr := r.isLt
  exact at_k m c (128 * t.val + r.val) k.val (by omega) k.isLt (((cfg0.win 3).rect t).emb (ix2 r k))
    (((cfg0.win 3).rect_emb_val t (ix2 r k) 0).trans ((congrArg (· * 128 + r.val) (index_3 t).1).trans (show t.val * 128 + r.val = 128 * t.val + r.val by omega)))
    (((cfg0.win 3).rect_emb_val t (ix2 r k) 1).trans ((congrArg (· * 128 + k.val) (index_3 t).2).trans (show 4 * 128 + k.val = 512 + k.val by omega)))

theorem iblk_4 (r : Fin 128) (k : Fin 128) : iblk m c 4 t (ix2 r k) = rd (aK m c) (128 * min (t.val + 1) 31 + r.val) k.val := by
  have ht := t_lt t
  have hr := r.isLt
  exact at_k m c (128 * min (t.val + 1) 31 + r.val) k.val (by omega) k.isLt (((cfg0.win 4).rect t).emb (ix2 r k))
    (((cfg0.win 4).rect_emb_val t (ix2 r k) 0).trans ((congrArg (· * 128 + r.val) (index_4 t).1).trans (show min (t.val + 1) 31 * 128 + r.val = 128 * min (t.val + 1) 31 + r.val by omega)))
    (((cfg0.win 4).rect_emb_val t (ix2 r k) 1).trans ((congrArg (· * 128 + k.val) (index_4 t).2).trans (show 4 * 128 + k.val = 512 + k.val by omega)))

theorem iblk_5 (r : Fin 128) (k : Fin 128) : iblk m c 5 t (ix2 r k) = rd (aV m c) (128 * (t.val - 1) + r.val) k.val := by
  have ht := t_lt t
  have hr := r.isLt
  exact at_v m c (128 * (t.val - 1) + r.val) k.val (by omega) k.isLt (((cfg0.win 5).rect t).emb (ix2 r k))
    (((cfg0.win 5).rect_emb_val t (ix2 r k) 0).trans ((congrArg (· * 128 + r.val) (index_5 t).1).trans (show (t.val - 1) * 128 + r.val = 128 * (t.val - 1) + r.val by omega)))
    (((cfg0.win 5).rect_emb_val t (ix2 r k) 1).trans ((congrArg (· * 128 + k.val) (index_5 t).2).trans (show 5 * 128 + k.val = 640 + k.val by omega)))

theorem iblk_6 (r : Fin 128) (k : Fin 128) : iblk m c 6 t (ix2 r k) = rd (aV m c) (128 * t.val + r.val) k.val := by
  have ht := t_lt t
  have hr := r.isLt
  exact at_v m c (128 * t.val + r.val) k.val (by omega) k.isLt (((cfg0.win 6).rect t).emb (ix2 r k))
    (((cfg0.win 6).rect_emb_val t (ix2 r k) 0).trans ((congrArg (· * 128 + r.val) (index_6 t).1).trans (show t.val * 128 + r.val = 128 * t.val + r.val by omega)))
    (((cfg0.win 6).rect_emb_val t (ix2 r k) 1).trans ((congrArg (· * 128 + k.val) (index_6 t).2).trans (show 5 * 128 + k.val = 640 + k.val by omega)))

theorem iblk_7 (r : Fin 128) (k : Fin 128) : iblk m c 7 t (ix2 r k) = rd (aV m c) (128 * min (t.val + 1) 31 + r.val) k.val := by
  have ht := t_lt t
  have hr := r.isLt
  exact at_v m c (128 * min (t.val + 1) 31 + r.val) k.val (by omega) k.isLt (((cfg0.win 7).rect t).emb (ix2 r k))
    (((cfg0.win 7).rect_emb_val t (ix2 r k) 0).trans ((congrArg (· * 128 + r.val) (index_7 t).1).trans (show min (t.val + 1) 31 * 128 + r.val = 128 * min (t.val + 1) 31 + r.val by omega)))
    (((cfg0.win 7).rect_emb_val t (ix2 r k) 1).trans ((congrArg (· * 128 + k.val) (index_7 t).2).trans (show 5 * 128 + k.val = 640 + k.val by omega)))

/-- The row of the array that a window's row is read from. -/
def src (n j : Nat) : Nat := if j < 128 then 128 * (n - 1) + j else if j < 256 then 128 * n + (j - 128) else 128 * min (n + 1) 31 + (j - 256)

/-- Three blocks are the window. -/
theorem window (x : S4096x128.Idx → EReal) (n : Nat) (x0 x1 x2 : S128x128.Idx → EReal) (h0 : ∀ r k, x0 (ix2 r k) = rd x (128 * (n - 1) + r.val) k.val)
    (h1 : ∀ r k, x1 (ix2 r k) = rd x (128 * n + r.val) k.val) (h2 : ∀ r k, x2 (ix2 r k) = rd x (128 * min (n + 1) 31 + r.val) k.val) (j e : Nat) (hj : j < 384) (he : e < 128) :
    rd (concatenate S384x128 0 [⟨S128x128, shapeCast S128x128 x0 shapeCasts_S128x128_S128x128⟩, ⟨S128x128, shapeCast S128x128 x1 shapeCasts_S128x128_S128x128⟩, ⟨S128x128, shapeCast S128x128 x2 shapeCasts_S128x128_S128x128⟩] concatenates_S128x128_S128x128_S128x128_S384x128_d0) j e
      = rd x (src n j) e := by
  refine (rd_of_lt _ hj he).trans ((below3 _ _ _ _ ⟨j, hj⟩ ⟨e, he⟩).trans ?_)
  rw [shapeCast_self, shapeCast_self, shapeCast_self]
  unfold src
  show (if j < 128 then rd x0 j e else if j < 256 then rd x1 (j - 128) e else rd x2 (j - 256) e) = _
  by_cases c1 : j < 128
  · rw [if_pos c1, if_pos c1]
    exact (rd_of_lt _ c1 he).trans (h0 ⟨j, c1⟩ ⟨e, he⟩)
  rw [if_neg c1, if_neg c1]
  by_cases c2 : j < 256
  · rw [if_pos c2, if_pos c2]
    exact (rd_of_lt _ (show j - 128 < 128 by omega) he).trans (h1 ⟨j - 128, by omega⟩ ⟨e, he⟩)
  rw [if_neg c2, if_neg c2]
  exact (rd_of_lt _ (show j - 256 < 128 by omega) he).trans (h2 ⟨j - 256, by omega⟩ ⟨e, he⟩)

/-! ## What a point leaves in its windows -/

private theorem hz2 : (![0, 0] : Fin 2 → Nat) = fun _ => 0 := by decide

abbrev bQ : S128x512.Idx → EReal := k0_pay6 (F := Ideal) (X0_1 m c t)
abbrev bK : S384x128.Idx → EReal := k0_pay7 (F := Ideal) (iblk m c 2 t) (iblk m c 3 t) (iblk m c 4 t)
abbrev bV : S384x128.Idx → EReal := k0_pay8 (F := Ideal) (iblk m c 5 t) (iblk m c 6 t) (iblk m c 7 t)

theorem left8 : (outsAt0 m c t).1 = View.canon (Val := Elt Ideal) (s := S128x512) (e := .f32) (storesO (grid0.coords t) (bQ m c t) (bK m c t) (bV m c t) (iblk m c 0 t)) := by
  unfold outsAt0
  dsimp only
  unfold out0_A_8
  rw [View.read_writes_eq_canon _ _ _ (cover0_A_8 c _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S128x512) hz2, View.ld_unit_zero (S := S128x128) hz2]

theorem left9 : (outsAt0 m c t).2 = View.canon (Val := Elt Ideal) (s := S128x8) (e := .f32) (storesL (grid0.coords t) (bQ m c t) (bK m c t) (iblk m c 0 t)) := by
  unfold outsAt0
  dsimp only
  unfold out0_A_9
  rw [View.read_writes_eq_canon _ _ _ (cover0_A_9 c _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S128x512) hz2, View.ld_unit_zero (S := S128x128) hz2]

/-- The scores on the arguments. -/
def argScore (n p h j : Nat) : EReal := score n p (fun e => rd (aQ m c) (128 * n + p) (64 * h + e) * factor) (fun j e => rd (aK m c) (src n j) (64 * (h / 4) + e)) j

/-- The output on the arguments. -/
def gO (R C : Nat) : EReal := out (argScore m c (R / 128) (R % 128) (C / 64)) (rd (aS m c) 0 (C / 64)) fun j => rd (aV m c) (src (R / 128) j) (64 * (C / 64 / 4) + C % 64)

/-- The logarithm of the sums on the arguments. -/
def gL (R C : Nat) : EReal := lse (argScore m c (R / 128) (R % 128) C) (rd (aS m c) 0 C)

theorem score_block (p h j : Nat) (hp : p < 128) (hh : h < 8) (hj : j < 384) : headScore (grid0.coords t 0).val (bQ m c t) (bK m c t) p h j = argScore m c t.val p h j := by
  unfold headScore argScore score
  rw [coords_0 t]
  refine if_congr Iff.rfl (Finset.sum_congr rfl fun e _ => ?_) rfl
  have he := e.isLt
  refine congrArg₂ (· * ·) ?_ (window (aK m c) t.val _ _ _ (iblk_2 m c t) (iblk_3 m c t) (iblk_4 m c t) j _ hj (by omega))
  refine (rd_of_lt _ hp (show 64 * h + e.val < 512 by omega)).trans ?_
  exact (congrFun (shapeCast_self (X0_1 m c t) _) _).trans (X_1 m c t ⟨p, hp⟩ ⟨64 * h + e.val, by omega⟩)

theorem sink_block (h : Nat) (hh : h < 8) : rd (iblk m c 0 t : S1x8.Idx → EReal) 0 h = rd (aS m c) 0 h := (rd_of_lt _ (by decide) hh).trans (iblk_0 m c t 0 ⟨h, hh⟩)

theorem out8 (r : Fin 128) (k : Fin 512) : (outsAt0 m c t).1 (ix2 r k) = gO m c (128 * t.val + r.val) k.val := by
  have hk := k.isLt
  have hr := r.isLt
  rw [left8, storesO_canon]
  show headOut _ _ _ _ _ r.val (k.val / 64) (k.val % 64) = _
  unfold headOut gO
  rw [sink_block m c t _ (by omega), show (128 * t.val + r.val) / 128 = t.val by omega, show (128 * t.val + r.val) % 128 = r.val by omega]
  exact out_congr _ (fun j hj => score_block m c t r.val _ j hr (by omega) hj)
    fun j hj => window (aV m c) t.val _ _ _ (iblk_5 m c t) (iblk_6 m c t) (iblk_7 m c t) j _ hj (by omega)

theorem out9 (r : Fin 128) (k : Fin 8) : (outsAt0 m c t).2 (ix2 r k) = gL m c (128 * t.val + r.val) k.val := by
  have hk := k.isLt
  have hr := r.isLt
  rw [left9, storesL_canon]
  show headLse _ _ _ _ r.val k.val = _
  unfold headLse gL
  rw [sink_block m c t _ hk, show (128 * t.val + r.val) / 128 = t.val by omega, show (128 * t.val + r.val) % 128 = r.val by omega]
  exact lse_congr _ fun j hj => score_block m c t r.val _ j hr hk hj

end Cert.Attn

end
-- ==== Proof.Attn.Array.lean ====
/- What the attention leaves in its two results. -/
module

public import proofs.«01_k».proof.Proof.Attn.Block

@[expose] public section

noncomputable section

namespace Cert.Attn

open Idealize.ShloMosaic Idealize.ShloMosaic.TcCoe Idealize.ShloMosaic.Pipeline Idealize.SL.Sem
open Cert.Kernel15Ideal Cert.Kernel15Ideal.Gen Cert.Rows

variable (m : (ℓ : Loc nD τ sig) → Buf (Elt Ideal) ℓ) (c : Dev nD) (ρ : Dev nD → PrngReg)

/-- The output. -/
def OutA (i : S4096x512.Idx) : EReal := gO m c (i 0).val (i 1).val

/-- The logarithm of the sums. -/
def SumsA (i : S4096x8.Idx) : EReal := gL m c (i 0).val (i 1).val

theorem point (a : Nat) (ha : a < 32) : ∃ t : Fin cfg0.N, t.val = a := ⟨⟨a, by rw [show cfg0.N = 32 from N_0]; exact ha⟩, rfl⟩

theorem flushed8 (t : Fin cfg0.N) : (dats m 0 c).flushed 8 t = (win0_8.blk t).view.read (Elt Ideal) (OutA m c) := by
  funext y
  obtain ⟨r, k, rfl⟩ : ∃ (r : Fin 128) (k : Fin 512), y = ix2 r k := ⟨y 0, y 1, ValueIdx.eq_ix2 y⟩
  refine ((congrFun (after0_8 m c t) (ix2 r k)).trans (out8 m c t r k)).trans ?_
  show _ = OutA m c ((win0_8.rect t).emb (ix2 r k))
  obtain ⟨e0, e1⟩ := index_8 t
  have i0 := (win0_8.rect_emb_val t (ix2 r k) 0).trans (congrArg (· * 128 + r.val) e0)
  have i1 := (win0_8.rect_emb_val t (ix2 r k) 1).trans (congrArg (· * 512 + k.val) e1)
  refine congrArg₂ (gO m c) ?_ ?_
  · rw [i0]; omega
  · rw [i1]; omega

theorem flushed9 (t : Fin cfg0.N) : (dats m 0 c).flushed 9 t = (win0_9.blk t).view.read (Elt Ideal) (SumsA m c) := by
  funext y
  obtain ⟨r, k, rfl⟩ : ∃ (r : Fin 128) (k : Fin 8), y = ix2 r k := ⟨y 0, y 1, ValueIdx.eq_ix2 y⟩
  refine ((congrFun (after0_9 m c t) (ix2 r k)).trans (out9 m c t r k)).trans ?_
  show _ = SumsA m c ((win0_9.rect t).emb (ix2 r k))
  obtain ⟨e0, e1⟩ := index_9 t
  have i0 := (win0_9.rect_emb_val t (ix2 r k) 0).trans (congrArg (· * 128 + r.val) e0)
  have i1 := (win0_9.rect_emb_val t (ix2 r k) 1).trans (congrArg (· * 8 + k.val) e1)
  refine congrArg₂ (gL m c) ?_ ?_
  · rw [i0]; omega
  · rw [i1]; omega

theorem cover8 (i : S4096x512.Idx) : ∃ t : Fin cfg0.N, (cfg0.win 8).flush t = true ∧ i ∈ ((cfg0.win 8).blk t).view.set := by
  have h0 : (i 0).val < 4096 := (i 0).isLt
  have h1 : (i 1).val < 512 := (i 1).isLt
  obtain ⟨t, ha⟩ := point ((i 0).val / 128) (by omega)
  obtain ⟨e0, e1⟩ := index_8 t
  refine ⟨t, flush0_8 t, ?_⟩
  show i ∈ ((View.whole main_v4_0).slice (win0_8.rect t)).set
  rw [View.set_slice_whole, Rect.mem_set_unit]
  intro a
  fin_cases a
  · show (cfg0.win 8).index t 0 * 128 ≤ (i 0).val ∧ (i 0).val < (cfg0.win 8).index t 0 * 128 + 128
    rw [e0]; omega
  · show (cfg0.win 8).index t 1 * 512 ≤ (i 1).val ∧ (i 1).val < (cfg0.win 8).index t 1 * 512 + 512
    rw [e1]; omega

theorem cover9 (i : S4096x8.Idx) : ∃ t : Fin cfg0.N, (cfg0.win 9).flush t = true ∧ i ∈ ((cfg0.win 9).blk t).view.set := by
  have h0 : (i 0).val < 4096 := (i 0).isLt
  have h1 : (i 1).val < 8 := (i 1).isLt
  obtain ⟨t, ha⟩ := point ((i 0).val / 128) (by omega)
  obtain ⟨e0, e1⟩ := index_9 t
  refine ⟨t, flush0_9 t, ?_⟩
  show i ∈ ((View.whole main_v4_1).slice (win0_9.rect t)).set
  rw [View.set_slice_whole, Rect.mem_set_unit]
  intro a
  fin_cases a
  · show (cfg0.win 9).index t 0 * 128 ≤ (i 0).val ∧ (i 0).val < (cfg0.win 9).index t 0 * 128 + 128
    rw [e0]; omega
  · show (cfg0.win 9).index t 1 * 8 ≤ (i 1).val ∧ (i 1).val < (cfg0.win 9).index t 1 * 8 + 8
    rw [e1]; omega

theorem final8 : (dats m 0 c).arrAt 8 cfg0.N = OutA m c :=
  (dats m 0 c).arrAt_eq_of_cover 8 (OutA m c) (fun t _ => flushed8 m c t) cover8

theorem final9 : (dats m 0 c).arrAt 9 cfg0.N = SumsA m c :=
  (dats m 0 c).arrAt_eq_of_cover 9 (SumsA m c) (fun t _ => flushed9 m c t) cover9

/-- The run: the two results at their closed forms, the arguments unchanged. -/
theorem run : θ_run defs (onTc (τ := τ) (main (F := Ideal))) ⟨m, fun _ => 0, ρ⟩ fun r => ∀ c : Dev nD,
      r.2.mem ((c : Thread nD τ).loc main_v4_0) = OutA m c
      ∧ r.2.mem ((c : Thread nD τ).loc main_v4_1) = SumsA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final8 m c), (h c).2.1.trans (final9 m c), (h c).2.2⟩) (Cert.Kernel15Ideal.Value.run_blocks m ρ)

end Cert.Attn

end
-- ==== Proof.Attn.Reference.lean ====
/- What the reference computes of the attention in a window, read at an index. -/
module

public import proofs.«01_k».proof.Proof.Attn.Math
public import proofs.«01_k».proof.Proof.Attn.Mask
public import proofs.«01_k».proof.Proof.Gen.Reference15Ideal.Read

@[expose] public section

noncomputable section

namespace Cert.Attn.Ref

open Idealize.ShloMosaic
open Cert.Reference15Ideal Cert.Reference15Ideal.Gen Cert.Reference15Ideal.Read
open Cert.Rows (rd eq_rd rd_of_lt rd_of_ge)

/-- A matrix below 128 rows of zeros, and above zeros. -/
def padded (x : S4096x128.Idx → EReal) (t e : Nat) : EReal := if 128 ≤ t then rd x (t - 128) e else 0

theorem zero_bits : FloatOps.ofBits (F := Ideal) .f32 0x00000000#32 = (0 : EReal) := by
  simp [Ideal.ofBits, Ideal.ieee]

theorem bot_bits : FloatOps.ofBits (F := Ideal) .f32 0xFF800000#32 = (⊥ : EReal) := by
  simp [Ideal.ofBits, Ideal.ieee]

/-- Zeros, the matrix and zeros below each other. -/
theorem pad_cat (z : S128x128.Idx → EReal) (hz : ∀ i, z i = 0) (x : S4096x128.Idx → EReal) (h : Shape.Concatenates [S128x128, S4096x128, S128x128] S4352x128 0) (t : Fin 4352) (e : Fin 128) :
    concatenate S4352x128 0 [⟨S128x128, z⟩, ⟨S4096x128, x⟩, ⟨S128x128, z⟩] h (ix2 t e) = padded x t.val e.val := by
  have ht := t.isLt
  unfold padded
  by_cases h1 : t.val < 128
  · rw [if_neg (by omega)]
    exact (concatenate_apply_piece (t := S4352x128) (0 : Fin 2) [⟨S128x128, z⟩, ⟨S4096x128, x⟩, ⟨S128x128, z⟩] h (ix2 t e) 0 (by show 0 < 3; omega) _ z rfl rfl 0 rfl (ix2 ⟨t.val, h1⟩ e)
      (fun d hd => by fin_cases d; · exact absurd rfl hd
                      · rfl) (show 0 + t.val = t.val by omega)).trans (hz _)
  rw [if_pos (by omega)]
  by_cases h2 : t.val < 4224
  · exact (concatenate_apply_piece (t := S4352x128) (0 : Fin 2) [⟨S128x128, z⟩, ⟨S4096x128, x⟩, ⟨S128x128, z⟩] h (ix2 t e) 1 (by show 1 < 3; omega) _ x rfl rfl 128 rfl (ix2 ⟨t.val - 128, by omega⟩ e)
      (fun d hd => by fin_cases d; · exact absurd rfl hd
                      · rfl) (show 128 + (t.val - 128) = t.val by omega)).trans (eq_rd x ⟨t.val - 128, by omega⟩ e)
  · rw [rd_of_ge x (show 4096 ≤ t.val - 128 by omega)]
    exact (concatenate_apply_piece (t := S4352x128) (0 : Fin 2) [⟨S128x128, z⟩, ⟨S4096x128, x⟩, ⟨S128x128, z⟩] h (ix2 t e) 2 (by show 2 < 3; omega) _ z rfl rfl 4224 rfl (ix2 ⟨t.val - 4224, by omega⟩ e)
      (fun d hd => by fin_cases d; · exact absurd rfl hd
                      · rfl) (show 4224 + (t.val - 4224) = t.val by omega)).trans (hz _)

/-- The three blocks of a window. -/
theorem window_cat (x0 x1 x2 : S32x128x2x64.Idx → EReal) (f : Nat → Nat → EReal)
    (h0 : ∀ n a g e, x0 (ix4 n a g e) = f (128 * n.val + a.val) (64 * g.val + e.val))
    (h1 : ∀ n a g e, x1 (ix4 n a g e) = f (128 * n.val + (128 + a.val)) (64 * g.val + e.val))
    (h2 : ∀ n a g e, x2 (ix4 n a g e) = f (128 * n.val + (256 + a.val)) (64 * g.val + e.val))
    (h : Shape.Concatenates [S32x128x2x64, S32x128x2x64, S32x128x2x64] S32x384x2x64 1) (n : Fin 32) (j : Fin 384) (g : Fin 2) (e : Fin 64) :
    concatenate S32x384x2x64 1 [⟨S32x128x2x64, x0⟩, ⟨S32x128x2x64, x1⟩, ⟨S32x128x2x64, x2⟩] h (ix4 n j g e) = f (128 * n.val + j.val) (64 * g.val + e.val) := by
  have hj := j.isLt
  by_cases c1 : j.val < 128
  · exact (concatenate_apply_piece (t := S32x384x2x64) (1 : Fin 4) [⟨S32x128x2x64, x0⟩, ⟨S32x128x2x64, x1⟩, ⟨S32x128x2x64, x2⟩] h (ix4 n j g e) 0 (by show 0 < 3; omega) _ x0 rfl rfl 0 rfl (ix4 n ⟨j.val, c1⟩ g e)
      (fun d hd => by fin_cases d; · rfl
                      · exact absurd rfl hd
                      · rfl
                      · rfl) (show 0 + j.val = j.val by omega)).trans (h0 n ⟨j.val, c1⟩ g e)
  by_cases c2 : j.val < 256
  · refine (concatenate_apply_piece (t := S32x384x2x64) (1 : Fin 4) [⟨S32x128x2x64, x0⟩, ⟨S32x128x2x64, x1⟩, ⟨S32x128x2x64, x2⟩] h (ix4 n j g e) 1 (by show 1 < 3; omega) _ x1 rfl rfl 128 rfl (ix4 n ⟨j.val - 128, by omega⟩ g e)
      (fun d hd => by fin_cases d; · rfl
                      · exact absurd rfl hd
                      · rfl
                      · rfl) (show 128 + (j.val - 128) = j.val by omega)).trans ((h1 n ⟨j.val - 128, by omega⟩ g e).trans ?_)
    exact congrArg (fun t => f (128 * n.val + t) _) (show 128 + (j.val - 128) = j.val by omega)
  · refine (concatenate_apply_piece (t := S32x384x2x64) (1 : Fin 4) [⟨S32x128x2x64, x0⟩, ⟨S32x128x2x64, x1⟩, ⟨S32x128x2x64, x2⟩] h (ix4 n j g e) 2 (by show 2 < 3; omega) _ x2 rfl rfl 256 rfl (ix4 n ⟨j.val - 256, by omega⟩ g e)
      (fun d hd => by fin_cases d; · rfl
                      · exact absurd rfl hd
                      · rfl
                      · rfl) (show 256 + (j.val - 256) = j.val by omega)).trans ((h2 n ⟨j.val - 256, by omega⟩ g e).trans ?_)
    exact congrArg (fun t => f (128 * n.val + t) _) (show 256 + (j.val - 256) = j.val by omega)

variable (q : S4096x512.Idx → EReal) (k v : S4096x128.Idx → EReal) (σ : S1x8.Idx → EReal)

/-- A block of the padded matrix. -/
theorem v2_at (t : Fin 4352) (e : Fin 128) : val_main_v2 (F := Ideal) k (ix2 t e) = padded k t.val e.val :=
  pad_cat _ (fun i => (val_main_v1_apply i).trans zero_bits) k _ t e

theorem v9_at (t : Fin 4352) (e : Fin 128) : val_main_v9 (F := Ideal) v (ix2 t e) = padded v t.val e.val :=
  pad_cat _ (fun i => (val_main_v8_apply i).trans zero_bits) v _ t e

theorem v3_at (i : S34x128x2x64.Idx) : val_main_v3 (F := Ideal) k i = padded k (128 * (i 0).val + (i 1).val) (64 * (i 2).val + (i 3).val) := by
  have h1 : (i 1).val < 128 := (i 1).isLt
  have h2 : (i 2).val < 2 := (i 2).isLt
  have h3 : (i 3).val < 64 := (i 3).isLt
  rw [val_main_v3_apply]
  refine (congrArg (val_main_v2 (F := Ideal) k) (eq_ix2 _)).trans ((v2_at k _ _).trans ?_)
  refine congrArg₂ (padded k) ?_ ?_
  · show ((((i 0).val * 128 + (i 1).val) * 2 + (i 2).val) * 64 + (i 3).val) / 128 = _
    omega
  · show ((((i 0).val * 128 + (i 1).val) * 2 + (i 2).val) * 64 + (i 3).val) % 128 = _
    omega

theorem v10_at (i : S34x128x2x64.Idx) : val_main_v10 (F := Ideal) v i = padded v (128 * (i 0).val + (i 1).val) (64 * (i 2).val + (i 3).val) := by
  have h1 : (i 1).val < 128 := (i 1).isLt
  have h2 : (i 2).val < 2 := (i 2).isLt
  have h3 : (i 3).val < 64 := (i 3).isLt
  rw [val_main_v10_apply]
  refine (congrArg (val_main_v9 (F := Ideal) v) (eq_ix2 _)).trans ((v9_at v _ _).trans ?_)
  refine congrArg₂ (padded v) ?_ ?_
  · show ((((i 0).val * 128 + (i 1).val) * 2 + (i 2).val) * 64 + (i 3).val) / 128 = _
    omega
  · show ((((i 0).val * 128 + (i 1).val) * 2 + (i 2).val) * 64 + (i 3).val) % 128 = _
    omega

/-- A window of keys. -/
theorem v7_at (n : Fin 32) (j : Fin 384) (g : Fin 2) (e : Fin 64) : val_main_v7 (F := Ideal) k (ix4 n j g e) = padded k (128 * n.val + j.val) (64 * g.val + e.val) := by
  refine window_cat _ _ _ (padded k) (fun n a g e => ?_) (fun n a g e => ?_) (fun n a g e => ?_) _ n j g e
  · rw [val_main_v4_apply, v3_at]
    refine congrArg₂ (padded k) ?_ ?_ <;> simp <;> omega
  · rw [val_main_v5_apply, v3_at]
    refine congrArg₂ (padded k) ?_ ?_ <;> simp <;> omega
  · rw [val_main_v6_apply, v3_at]
    refine congrArg₂ (padded k) ?_ ?_ <;> simp <;> omega

/-- A window of values. -/
theorem v14_at (n : Fin 32) (j : Fin 384) (g : Fin 2) (e : Fin 64) : val_main_v14 (F := Ideal) v (ix4 n j g e) = padded v (128 * n.val + j.val) (64 * g.val + e.val) := by
  refine window_cat _ _ _ (padded v) (fun n a g e => ?_) (fun n a g e => ?_) (fun n a g e => ?_) _ n j g e
  · rw [val_main_v11_apply, v10_at]
    refine congrArg₂ (padded v) ?_ ?_ <;> simp <;> omega
  · rw [val_main_v12_apply, v10_at]
    refine congrArg₂ (padded v) ?_ ?_ <;> simp <;> omega
  · rw [val_main_v13_apply, v10_at]
    refine congrArg₂ (padded v) ?_ ?_ <;> simp <;> omega

/-- The queries by heads. -/
theorem v0_at (n : Fin 32) (p : Fin 128) (g : Fin 2) (h : Fin 4) (e : Fin 64) :
    val_main_v0 (F := Ideal) q (ix5 n p g h e) = rd q (128 * n.val + p.val) (64 * (4 * g.val + h.val) + e.val) := by
  have h1 := p.isLt
  have h2 := g.isLt
  have h3 := h.isLt
  have h4 := e.isLt
  rw [val_main_v0_apply]
  refine (congrArg q (eq_ix2 _)).trans ((eq_rd q _ _).trans ?_)
  refine congrArg₂ (rd q) ?_ ?_
  · show ((((n.val * 128 + p.val) * 2 + g.val) * 4 + h.val) * 64 + e.val) / 512 = _
    omega
  · show ((((n.val * 128 + p.val) * 2 + g.val) * 4 + h.val) * 64 + e.val) % 512 = _
    omega

/-- The factor of the scores. -/
def factor : EReal := FloatOps.ofBits (F := Ideal) .f32 0x3E000000#32

/-- A score, minus infinity where the query does not attend. -/
def score (n p g h : Nat) (j : Nat) : EReal :=
  if Ok n p j then (∑ e : Fin 64, rd q (128 * n + p) (64 * (4 * g + h) + e.val) * padded k (128 * n + j) (64 * g + e.val)) * factor else ⊥

theorem mask_at (n : Fin 32) (p : Fin 128) (j : Fin 384) : val_main_v56 (F := Ideal) (ix3 n p j) = BitVec.ofBool (decide (Ok n.val p.val j.val)) := by
  refine Eq.trans ?_ (mask_ref n.val p.val j.val n.isLt p.isLt j.isLt)
  simp only [val_main_v56_apply, val_main_v55_apply, val_main_v54_apply, val_main_v53_apply, val_main_c_6_apply, val_main_v52_apply, val_main_v51_apply, val_main_v50_apply,
    val_main_v49_apply, val_main_v48_apply, val_main_c_5_apply, val_main_v47_apply, val_main_v46_apply, val_main_v45_apply, val_main_c_4_apply, val_main_v44_apply, val_main_v43_apply,
    val_main_v42_apply, val_main_v41_apply, val_main_v40_apply, val_main_v39_apply, val_main_v38_apply, val_main_v37_apply, val_main_v36_apply, val_main_v35_apply, val_main_v34_apply,
    val_main_v33_apply, val_main_v32_apply, val_main_c_3_apply, val_main_v31_apply, val_main_v30_apply, val_main_c_2_apply, val_main_v29_apply, val_main_v28_apply, val_main_v27_apply,
    val_main_v26_apply, val_main_v25_apply, val_main_v24_apply, val_main_v23_apply, val_main_v22_apply, val_main_v21_apply, val_main_c_apply, val_main_v20_apply, val_main_v19_apply]
  rfl

theorem v58_at (n : Fin 32) (g : Fin 2) (h : Fin 4) (p : Fin 128) (j : Fin 384) :
    val_main_v58 (F := Ideal) q k (ix5 n g h p j) = score q k n.val p.val g.val h.val j.val := by
  have em : val_main_call0_v1 (F := Ideal) (ix5 n g h p j) = BitVec.ofBool (decide (Ok n.val p.val j.val)) := by
    rw [val_main_call0_v1_apply, val_main_v57_apply]
    exact (congrArg (val_main_v56 (F := Ideal)) (eq_ix3 _)).trans (mask_at n p j)
  have eb : val_main_call0_v2 (F := Ideal) (ix5 n g h p j) = (⊥ : EReal) := by
    rw [val_main_call0_v2_apply, val_main_call0_v0_apply, val_main_cst_7_apply]
    exact bot_bits
  rw [val_main_v58_apply, em, eb, choose]
  unfold score
  refine if_congr Iff.rfl ?_ rfl
  refine congrArg₂ (· * ·) ?_ (val_main_v17_apply _)
  rw [val_main_v16_apply, val_main_v15_apply]
  refine Finset.sum_congr rfl fun e _ => (mul_comm _ _).trans (congrArg₂ (· * ·) ?_ ?_)
  · exact (congrArg (val_main_v0 (F := Ideal) q) (eq_ix5 _)).trans (v0_at q n p g h e)
  · exact (congrArg (val_main_v7 (F := Ideal) k) (eq_ix4 _)).trans (v7_at k n j g e)

/-- The sink of a head. -/
theorem sink_at (i : S1x2x4x1x1.Idx) : val_main_v60 (F := Ideal) σ i = rd σ 0 (4 * (i 1).val + (i 2).val) := by
  have h1 : (i 1).val < 2 := (i 1).isLt
  have h2 : (i 2).val < 4 := (i 2).isLt
  rw [val_main_v60_apply, val_main_v59_apply]
  refine (congrArg σ (eq_ix2 _)).trans ((eq_rd σ _ _).trans ?_)
  refine congrArg₂ (rd σ) (show ((0 : Fin 1) : Nat) = 0 from rfl) ?_
  show ((i 1).val * 4 + (i 2).val) % 8 = _
  omega

theorem v61_at (n : Fin 32) (g : Fin 2) (h : Fin 4) (p : Fin 128) :
    val_main_v61 (F := Ideal) q k (ix4 n g h p) = (Finset.univ : Finset (Fin 384)).fold max ⊥ fun j => score q k n.val p.val g.val h.val j.val := by
  unfold val_main_v61
  have e := Host.reduce_eq_fold_single (FloatOps.maximumf (F := Ideal) (φ := .f32)) (val_main_v58 (F := Ideal) q k) (val_main_cst_8 (F := Ideal)) reducesTo_S32x2x4x128x384_S32x2x4x128_d4 (by decide) h_S_ (ix4 n g h p)
  refine e.trans ?_
  rw [val_main_cst_8_apply, bot_bits]
  refine congrArg (fun f : Fin 384 → EReal => (Finset.univ : Finset (Fin 384)).fold max ⊥ f) (funext fun j => ?_)
  exact (congrArg (val_main_v58 (F := Ideal) q k) (eq_ix5 _)).trans (v58_at q k n g h p j)

abbrev sc (n : Fin 32) (g : Fin 2) (h : Fin 4) (p : Fin 128) : Nat → EReal := score q k n.val p.val g.val h.val
abbrev sk (g : Fin 2) (h : Fin 4) : EReal := rd σ 0 (4 * g.val + h.val)

theorem v64_at (n : Fin 32) (g : Fin 2) (h : Fin 4) (p : Fin 128) :
    val_main_v64 (F := Ideal) q k σ (ix5 n g h p 0) = top (sc q k n g h p) (sk σ g h) := by
  rw [val_main_v64_apply, val_main_v62_apply, val_main_v63_apply, sink_at]
  exact congrArg₂ max ((congrArg (val_main_v61 (F := Ideal) q k) (eq_ix4 _)).trans (v61_at q k n g h p)) rfl

theorem v67_at (n : Fin 32) (g : Fin 2) (h : Fin 4) (p : Fin 128) (j : Fin 384) :
    val_main_v67 (F := Ideal) q k σ (ix5 n g h p j) = weight (sc q k n g h p) (sk σ g h) j.val := by
  rw [val_main_v67_apply, val_main_v66_apply, val_main_v65_apply]
  exact congrArg Ideal.exp (congrArg₂ (· - ·) (v58_at q k n g h p j) ((congrArg (val_main_v64 (F := Ideal) q k σ) (eq_ix5 _)).trans (v64_at q k σ n g h p)))

theorem v73_at (n : Fin 32) (g : Fin 2) (h : Fin 4) (p : Fin 128) :
    val_main_v73 (F := Ideal) q k σ (ix5 n g h p 0) = total (sc q k n g h p) (sk σ g h) := by
  rw [val_main_v73_apply, val_main_v72_apply, val_main_v71_apply, val_main_v70_apply, val_main_v69_apply, sink_at, val_main_v68_apply, val_main_cst_9_apply, zero_bits, zero_add, v64_at]
  refine congrArg₂ (· + ·) (Finset.sum_congr rfl fun j _ => ?_) rfl
  exact (congrArg (val_main_v67 (F := Ideal) q k σ) (eq_ix5 _)).trans (v67_at q k σ n g h p j)

theorem v75_at (n : Fin 32) (g : Fin 2) (h : Fin 4) (p : Fin 128) (j : Fin 384) :
    val_main_v75 (F := Ideal) q k σ (ix5 n g h p j) = Ideal.div (weight (sc q k n g h p) (sk σ g h) j.val) (total (sc q k n g h p) (sk σ g h)) := by
  rw [val_main_v75_apply, val_main_v74_apply]
  exact congrArg₂ Ideal.div (v67_at q k σ n g h p j) ((congrArg (val_main_v73 (F := Ideal) q k σ) (eq_ix5 _)).trans (v73_at q k σ n g h p))

/-- The output. -/
theorem out_at (n : Fin 32) (p : Fin 128) (g : Fin 2) (h : Fin 4) (e : Fin 64) :
    val_main_v77 (F := Ideal) q k v σ (ix5 n p g h e) = out (sc q k n g h p) (sk σ g h) fun j => padded v (128 * n.val + j) (64 * g.val + e.val) := by
  rw [val_main_v77_apply, val_main_v76_apply]
  unfold out
  refine Finset.sum_congr rfl fun j _ => (mul_comm _ _).trans (congrArg₂ (· * ·) ?_ ?_)
  · exact (congrArg (val_main_v75 (F := Ideal) q k σ) (eq_ix5 _)).trans (v75_at q k σ n g h p j)
  · exact (congrArg (val_main_v14 (F := Ideal) v) (eq_ix4 _)).trans (v14_at v n j g e)

/-- The logarithm of the sums. -/
theorem lse_at (n : Fin 32) (p : Fin 128) (g : Fin 2) (h : Fin 4) :
    val_main_v80 (F := Ideal) q k σ (ix5 n p g h 0) = lse (sc q k n g h p) (sk σ g h) := by
  have e : val_main_v79 (F := Ideal) q k σ (ix5 n g h p 0) = lse (sc q k n g h p) (sk σ g h) := by
    rw [val_main_v79_apply, val_main_v78_apply, v64_at, v73_at]
    rfl
  rw [val_main_v80_apply]
  exact (congrArg (val_main_v79 (F := Ideal) q k σ) (eq_ix5 _)).trans e

/-- The first result. -/
theorem out_eq (R : Fin 4096) (C : Fin 512) :
    val_main_v82 (F := Ideal) q k v σ (ix2 R C) = out (score q k (R.val / 128) (R.val % 128) (C.val / 256) (C.val / 64 % 4)) (rd σ 0 (C.val / 64))
      fun j => padded v (128 * (R.val / 128) + j) (64 * (C.val / 256) + C.val % 64) := by
  have hR := R.isLt
  have hC := C.isLt
  rw [val_main_v82_apply]
  refine (congrArg (val_main_v77 (F := Ideal) q k v σ) (eq_ix5 _)).trans ((out_at q k v σ _ _ _ _ _).trans ?_)
  have e0 : (R.val * 512 + C.val) / 65536 = R.val / 128 := by omega
  have e1 : (R.val * 512 + C.val) / 512 % 128 = R.val % 128 := by omega
  have e2 : (R.val * 512 + C.val) / 256 % 2 = C.val / 256 := by omega
  have e3 : (R.val * 512 + C.val) / 64 % 4 = C.val / 64 % 4 := by omega
  have e4 : (R.val * 512 + C.val) % 64 = C.val % 64 := by omega
  show out (score q k ((R.val * 512 + C.val) / 65536) ((R.val * 512 + C.val) / 512 % 128) ((R.val * 512 + C.val) / 256 % 2) ((R.val * 512 + C.val) / 64 % 4))
    (rd σ 0 (4 * ((R.val * 512 + C.val) / 256 % 2) + (R.val * 512 + C.val) / 64 % 4))
    (fun j => padded v (128 * ((R.val * 512 + C.val) / 65536) + j) (64 * ((R.val * 512 + C.val) / 256 % 2) + (R.val * 512 + C.val) % 64)) = _
  rw [e0, e1, e2, e3, e4, show 4 * (C.val / 256) + C.val / 64 % 4 = C.val / 64 by omega]

/-- The second result. -/
theorem lse_eq (R : Fin 4096) (C : Fin 8) :
    val_main_v81 (F := Ideal) q k σ (ix2 R C) = lse (score q k (R.val / 128) (R.val % 128) (C.val / 4) (C.val % 4)) (rd σ 0 C.val) := by
  have hR := R.isLt
  have hC := C.isLt
  rw [val_main_v81_apply]
  refine (congrArg (val_main_v80 (F := Ideal) q k σ) (eq_ix5 _)).trans ((lse_at q k σ _ _ _ _).trans ?_)
  have e0 : (R.val * 8 + C.val) / 1024 = R.val / 128 := by omega
  have e1 : (R.val * 8 + C.val) / 8 % 128 = R.val % 128 := by omega
  have e2 : (R.val * 8 + C.val) / 4 % 2 = C.val / 4 := by omega
  have e3 : (R.val * 8 + C.val) / 1 % 4 = C.val % 4 := by omega
  show lse (score q k ((R.val * 8 + C.val) / 1024) ((R.val * 8 + C.val) / 8 % 128) ((R.val * 8 + C.val) / 4 % 2) ((R.val * 8 + C.val) / 1 % 4))
    (rd σ 0 (4 * ((R.val * 8 + C.val) / 4 % 2) + (R.val * 8 + C.val) / 1 % 4)) = _
  rw [e0, e1, e2, e3, show 4 * (C.val / 4) + C.val % 4 = C.val by omega]

end Cert.Attn.Ref

end
-- ==== Proof.Attn.Equal.lean ====
/- The kernel's attention is the reference's: where a window leaves the sequence, the kernel repeats a block and the
   reference has zeros, and no query attends there. -/
module

public import proofs.«01_k».proof.Proof.Attn.Array
public import proofs.«01_k».proof.Proof.Attn.Reference

@[expose] public section

noncomputable section

namespace Cert.Attn

open Idealize.ShloMosaic Idealize.ShloMosaic.TcCoe
open Cert.Kernel15Ideal Cert.Kernel15Ideal.Gen Cert.Rows

variable (m : (ℓ : Loc nD τ sig) → Buf (Elt Ideal) ℓ) (c : Dev nD)

theorem factor_eq : FloatOps.ofBits (F := Ideal) .f32 0x3E000000#32 = (((1 / 8 : ℝ) : ℝ) : EReal) := by
  simp [Ideal.ofBits, Ideal.ieee, -EReal.coe_mul]
  norm_num

/-- A row that lies in the sequence. -/
theorem src_inside (n j : Nat) (hn : n < 32) (hj : j < 384) (h0 : ¬(n = 0 ∧ j < 128)) (h1 : ¬(n = 31 ∧ 256 ≤ j)) : 128 * n + j = 128 + src n j ∧ src n j < 4096 := by
  unfold src
  by_cases c1 : j < 128
  · rw [if_pos c1]; omega
  rw [if_neg c1]
  by_cases c2 : j < 256
  · rw [if_pos c2]; omega
  rw [if_neg c2]; omega

theorem padded_inside (x : S4096x128.Idx → EReal) (n j e : Nat) (hn : n < 32) (hj : j < 384) (h0 : ¬(n = 0 ∧ j < 128)) (h1 : ¬(n = 31 ∧ 256 ≤ j)) :
    Ref.padded x (128 * n + j) e = rd x (src n j) e := by
  obtain ⟨h, _⟩ := src_inside n j hn hj h0 h1
  unfold Ref.padded
  rw [if_pos (by omega), show 128 * n + j - 128 = src n j by omega]

/-- The scores agree. -/
theorem scores_eq (n p h j : Nat) (hn : n < 32) (hj : j < 384) : argScore m c n p h j = Ref.score (aQ m c) (aK m c) n p (h / 4) (h % 4) j := by
  unfold argScore score Ref.score
  by_cases ho : Ok n p j
  · rw [if_pos ho, if_pos ho]
    unfold factor Ref.factor
    rw [factor_eq]
    refine (score_scaled (1 / 8) (by norm_num) _ _).trans (congrArg (· * _) (Finset.sum_congr rfl fun e _ => congrArg₂ (· * ·) ?_ ?_))
    · rw [show 4 * (h / 4) + h % 4 = h by omega]
    · exact (padded_inside _ _ _ _ hn hj ho.2.1 ho.2.2).symm
  · rw [if_neg ho, if_neg ho]

/-- The logarithms of the sums agree. -/
theorem lse_agree (R : Fin 4096) (C : Fin 8) :
    Cert.Reference15Ideal.Read.val_main_v81 (F := Ideal) (aQ m c) (aK m c) (aS m c) (ix2 R C) = gL m c R.val C.val := by
  have hR := R.isLt
  refine (Ref.lse_eq _ _ _ R C).trans ?_
  unfold gL
  exact lse_congr _ fun j hj => (scores_eq m c _ _ _ _ (by omega) hj).symm

/-- The outputs agree. -/
theorem out_agree (R : Fin 4096) (C : Fin 512) :
    Cert.Reference15Ideal.Read.val_main_v82 (F := Ideal) (aQ m c) (aK m c) (aV m c) (aS m c) (ix2 R C) = gO m c R.val C.val := by
  have hR := R.isLt
  have hC := C.isLt
  refine (Ref.out_eq _ _ _ _ R C).trans ?_
  unfold gO
  rw [show C.val / 64 % 4 = (C.val / 64) % 4 from rfl, show C.val / 256 = C.val / 64 / 4 by omega]
  refine (out_congr _ (fun j hj => (scores_eq m c _ _ _ _ (by omega) hj).symm) fun j hj => rfl).trans ?_
  generalize hn : R.val / 128 = n
  have hn32 : n < 32 := by omega
  generalize R.val % 128 = p
  generalize C.val / 64 = h
  generalize C.val % 64 = d
  symm
  by_cases n0 : n = 0
  · subst n0
    refine out_first _ (fun j hj => ?_) (fun j hj => ?_) (fun j hj => ?_) (fun j h1 h2 => ?_)
    · unfold argScore score
      exact if_neg fun ho => ho.2.1 ⟨rfl, hj⟩
    · unfold src
      rw [if_pos hj, if_neg (by omega), if_pos (by omega)]
      exact congrArg (fun t => rd (aV m c) t _) (by omega)
    · unfold Ref.padded
      rw [if_neg (by omega)]
    · exact (padded_inside _ _ _ _ hn32 h2 (by omega) (by omega)).symm
  by_cases n1 : n = 31
  · subst n1
    refine out_last _ (fun j h1 h2 => ?_) (fun j hj => ?_) (fun j hj => ?_) (fun j h2 => ?_)
    · unfold argScore score
      exact if_neg fun ho => ho.2.2 ⟨rfl, h1⟩
    · unfold src
      rw [if_neg (by omega), if_neg (by omega), if_neg (by omega), if_pos (by omega)]
      exact congrArg (fun t => rd (aV m c) t _) (by omega)
    · unfold Ref.padded
      rw [if_pos (by omega), rd_of_ge _ (by omega)]
    · exact (padded_inside _ _ _ _ hn32 (by omega) (by omega) (by omega)).symm
  exact out_congr _ (fun j hj => rfl) fun j hj => (padded_inside _ _ _ _ hn32 hj (by omega) (by omega)).symm

end Cert.Attn

end
-- ==== Proof.Glu.Block.lean ====
/- What each grid point of the gated linear unit leaves in its output blocks. -/
module

public import proofs.«01_k».proof.Proof.Rows
public import proofs.«01_k».proof.Proof.Gen.Kernel16Ideal.Value

@[expose] public section

noncomputable section

namespace Cert.Glu

open Idealize.ShloMosaic Idealize.ShloMosaic.TcCoe Idealize.ShloMosaic.Pipeline
open Cert.Kernel16Ideal Cert.Kernel16Ideal.Gen Cert.Rows

/-- One half, and the inverse square root of two, as rounded. -/
abbrev cH : EReal := Ideal.ofBits .f32 0x3F000000#32
abbrev cR : EReal := Ideal.ofBits .f32 0x3F3504F3#32

/-- The activation before the gate. -/
def act (p : EReal) : EReal := cH * p * (1 + Ideal.erf (p * cR))

/-- The logistic function. -/
def sg (s : EReal) : EReal := Ideal.div 1 (1 + Ideal.exp (-s))

/-! ## The payloads, read at an index -/

section

variable (y : S512x512.Idx → EReal) (d : S1x512.Idx → EReal) (u w : S512x512.Idx → EReal)

/-- The branch's output with its skip. -/
def pb (r k : Fin 512) : EReal := y (ix2 r k) + d (ix2 0 k) * u (ix2 r k)

/-- The gate's product. -/
def sb (r k : Fin 512) : EReal := ∑ q : Fin 512, act (pb y d u r q) * w (ix2 q k)

theorem pay1_eq (r k : Fin 512) : k0_pay1 (F := Ideal) y d u (ix2 r k) = pb y d u r k := by
  unfold k0_pay1
  pointwise
  rfl

theorem pay2_eq (r k : Fin 512) : k0_pay2 (F := Ideal) y d u (ix2 r k) = act (pb y d u r k) := by
  unfold k0_pay2 act
  pointwise
  simp only [pay1_eq]
  rfl

theorem pay3_eq (r k : Fin 512) : k0_pay3 (F := Ideal) y d u w (ix2 r k) = sb y d u w r k := by
  unfold k0_pay3
  pointwise
  simp only [pay2_eq]
  rfl

theorem pay4_eq (r k : Fin 512) : k0_pay4 (F := Ideal) y d u w (ix2 r k) = act (pb y d u r k) * sg (sb y d u w r k) := by
  unfold k0_pay4 sg
  pointwise
  simp only [pay2_eq, pay3_eq]
  rw [zero_sub]

end

/-! ## The input blocks -/

variable (m : (ℓ : Loc nD τ sig) → Buf (Elt Ideal) ℓ) (c : Dev nD) (t : Fin cfg0.N)

abbrev aY : S4096x512.Idx → EReal := m ((c : Thread nD τ).loc main_arg0)
abbrev aU : S4096x512.Idx → EReal := m ((c : Thread nD τ).loc main_arg1)
abbrev aD : S1x512.Idx → EReal := m ((c : Thread nD τ).loc main_arg2)
abbrev aW : S512x512.Idx → EReal := m ((c : Thread nD τ).loc main_arg3)

theorem index_0 : ∀ t : Fin cfg0.N, (cfg0.win 0).index t 0 = t.val ∧ (cfg0.win 0).index t 1 = 0 := by decide +kernel
theorem index_1 : ∀ t : Fin cfg0.N, (cfg0.win 1).index t 0 = t.val ∧ (cfg0.win 1).index t 1 = 0 := by decide +kernel
theorem index_2 : ∀ t : Fin cfg0.N, (cfg0.win 2).index t 0 = 0 ∧ (cfg0.win 2).index t 1 = 0 := by decide +kernel
theorem index_3 : ∀ t : Fin cfg0.N, (cfg0.win 3).index t 0 = 0 ∧ (cfg0.win 3).index t 1 = 0 := by decide +kernel
theorem index_4 : ∀ t : Fin cfg0.N, (cfg0.win 4).index t 0 = t.val ∧ (cfg0.win 4).index t 1 = 0 := by decide +kernel
theorem index_5 : ∀ t : Fin cfg0.N, (cfg0.win 5).index t 0 = t.val ∧ (cfg0.win 5).index t 1 = 0 := by decide +kernel
theorem index_6 : ∀ t : Fin cfg0.N, (cfg0.win 6).index t 0 = t.val ∧ (cfg0.win 6).index t 1 = 0 := by decide +kernel

theorem iblk_0 (r : Fin 512) (k : Fin 512) : iblk m c 0 t (ix2 r k) = rd (aY m c) (512 * t.val + r.val) k.val :=
  (rd_of_emb (V m c main_arg0) (((cfg0.win 0).rect t).emb (ix2 r k))
    (((cfg0.win 0).rect_emb_val t (ix2 r k) 0).trans ((congrArg (· * 512 + r.val) (index_0 t).1).trans (show t.val * 512 + r.val = 512 * t.val + r.val by omega)))
    (((cfg0.win 0).rect_emb_val t (ix2 r k) 1).trans ((congrArg (· * 512 + k.val) (index_0 t).2).trans (show 0 * 512 + k.val = k.val by omega)))).trans
    (congrArg (fun X : S4096x512.Idx → EReal => rd X _ _) (V_main_arg0 m c))

theorem iblk_1 (r : Fin 512) (k : Fin 512) : iblk m c 1 t (ix2 r k) = rd (aU m c) (512 * t.val + r.val) k.val :=
  (rd_of_emb (V m c main_arg1) (((cfg0.win 1).rect t).emb (ix2 r k))
    (((cfg0.win 1).rect_emb_val t (ix2 r k) 0).trans ((congrArg (· * 512 + r.val) (index_1 t).1).trans (show t.val * 512 + r.val = 512 * t.val + r.val by omega)))
    (((cfg0.win 1).rect_emb_val t (ix2 r k) 1).trans ((congrArg (· * 512 + k.val) (index_1 t).2).trans (show 0 * 512 + k.val = k.val by omega)))).trans
    (congrArg (fun X : S4096x512.Idx → EReal => rd X _ _) (V_main_arg1 m c))

theorem iblk_2 (r : Fin 1) (k : Fin 512) : iblk m c 2 t (ix2 r k) = rd (aD m c) r.val k.val :=
  (rd_of_emb (V m c main_arg2) (((cfg0.win 2).rect t).emb (ix2 r k))
    (((cfg0.win 2).rect_emb_val t (ix2 r k) 0).trans ((congrArg (· * 1 + r.val) (index_2 t).1).trans (show 0 * 1 + r.val = r.val by omega)))
    (((cfg0.win 2).rect_emb_val t (ix2 r k) 1).trans ((congrArg (· * 512 + k.val) (index_2 t).2).trans (show 0 * 512 + k.val = k.val by omega)))).trans
    (congrArg (fun X : S1x512.Idx → EReal => rd X _ _) (V_main_arg2 m c))

theorem iblk_3 (r : Fin 512) (k : Fin 512) : iblk m c 3 t (ix2 r k) = rd (aW m c) r.val k.val :=
  (rd_of_emb (V m c main_arg3) (((cfg0.win 3).rect t).emb (ix2 r k))
    (((cfg0.win 3).rect_emb_val t (ix2 r k) 0).trans ((congrArg (· * 512 + r.val) (index_3 t).1).trans (show 0 * 512 + r.val = r.val by omega)))
    (((cfg0.win 3).rect_emb_val t (ix2 r k) 1).trans ((congrArg (· * 512 + k.val) (index_3 t).2).trans (show 0 * 512 + k.val = k.val by omega)))).trans
    (congrArg (fun X : S512x512.Idx → EReal => rd X _ _) (V_main_arg3 m c))

/-! ## What a point leaves in its windows, on the arguments -/

private theorem hz2 : (![0, 0] : Fin 2 → Nat) = fun _ => 0 := by decide

/-- The branch's output with its skip. -/
def pv (r k : Nat) : EReal := rd (aY m c) r k + rd (aD m c) 0 k * rd (aU m c) r k

/-- The gate's product. -/
def sv (r k : Nat) : EReal := ∑ q : Fin 512, act (pv m c r q.val) * rd (aW m c) q.val k

/-- The gated output. -/
def zv (r k : Nat) : EReal := act (pv m c r k) * sg (sv m c r k)

theorem pb_eq (r k : Fin 512) : pb (iblk m c 0 t) (iblk m c 2 t) (iblk m c 1 t) r k = pv m c (512 * t.val + r.val) k.val := by
  unfold pb pv
  simp only [iblk_0, iblk_1, iblk_2]
  rfl

theorem sb_eq (r k : Fin 512) : sb (iblk m c 0 t) (iblk m c 2 t) (iblk m c 1 t) (iblk m c 3 t) r k = sv m c (512 * t.val + r.val) k.val := by
  unfold sb sv
  simp only [pb_eq, iblk_3]

theorem out4 (r k : Fin 512) : (dats m 0 c).after 4 t (ix2 r k) = pv m c (512 * t.val + r.val) k.val := by
  rw [after0_4]
  unfold out0_4
  rw [View.canon_unit_zero hz2, View.ld_unit_zero (S := S512x512) hz2, View.ld_unit_zero (S := S512x512) hz2, View.ld_unit_zero (S := S1x512) hz2]
  exact (pay1_eq _ _ _ r k).trans (pb_eq m c t r k)

theorem out5 (r k : Fin 512) : (dats m 0 c).after 5 t (ix2 r k) = sv m c (512 * t.val + r.val) k.val := by
  rw [after0_5]
  unfold out0_5
  rw [View.canon_unit_zero hz2, View.ld_unit_zero (S := S512x512) hz2, View.ld_unit_zero (S := S512x512) hz2, View.ld_unit_zero (S := S512x512) hz2, View.ld_unit_zero (S := S1x512) hz2]
  exact (pay3_eq _ _ _ _ r k).trans (sb_eq m c t r k)

theorem out6 (r k : Fin 512) : (dats m 0 c).after 6 t (ix2 r k) = zv m c (512 * t.val + r.val) k.val := by
  rw [after0_6]
  unfold out0_6
  rw [View.canon_unit_zero hz2, View.ld_unit_zero (S := S512x512) hz2, View.ld_unit_zero (S := S512x512) hz2, View.ld_unit_zero (S := S512x512) hz2, View.ld_unit_zero (S := S1x512) hz2]
  refine (pay4_eq _ _ _ _ r k).trans ?_
  unfold zv
  rw [pb_eq, sb_eq]

end Cert.Glu

end
-- ==== Proof.Glu.Array.lean ====
/- What the gated linear unit leaves in its three results. -/
module

public import proofs.«01_k».proof.Proof.Glu.Block
public import Idealize.ShloMosaic.Lib.Pipeline.Value

@[expose] public section

noncomputable section

namespace Cert.Glu

open Idealize.ShloMosaic Idealize.ShloMosaic.TcCoe Idealize.ShloMosaic.Pipeline Idealize.SL.Sem
open Cert.Kernel16Ideal Cert.Kernel16Ideal.Gen Cert.Rows

variable (m : (ℓ : Loc nD τ sig) → Buf (Elt Ideal) ℓ) (c : Dev nD) (ρ : Dev nD → PrngReg)

/-- The branch's output with its skip. -/
def PA (i : S4096x512.Idx) : EReal := pv m c (i 0).val (i 1).val

/-- The gate's product. -/
def SA (i : S4096x512.Idx) : EReal := sv m c (i 0).val (i 1).val

/-- The gated output. -/
def ZA (i : S4096x512.Idx) : EReal := zv m c (i 0).val (i 1).val

theorem point (a : Nat) (ha : a < 8) : ∃ t : Fin cfg0.N, t.val = a := ⟨⟨a, by rw [show cfg0.N = 8 from N_0]; exact ha⟩, rfl⟩

theorem flushed4 (t : Fin cfg0.N) : (dats m 0 c).flushed 4 t = (win0_4.blk t).view.read (Elt Ideal) (PA m c) := by
  funext y
  obtain ⟨r, k, rfl⟩ : ∃ (r k : Fin 512), y = ix2 r k := ⟨y 0, y 1, ValueIdx.eq_ix2 y⟩
  refine (out4 m c t r k).trans ?_
  show _ = PA m c ((win0_4.rect t).emb (ix2 r k))
  obtain ⟨e0, e1⟩ := index_4 t
  have i0 := (win0_4.rect_emb_val t (ix2 r k) 0).trans (congrArg (· * 512 + r.val) e0)
  have i1 := (win0_4.rect_emb_val t (ix2 r k) 1).trans (congrArg (· * 512 + k.val) e1)
  refine congrArg₂ (pv m c) ?_ ?_
  · rw [i0]; omega
  · rw [i1]; omega

theorem cover4 (i : S4096x512.Idx) : ∃ t : Fin cfg0.N, (cfg0.win 4).flush t = true ∧ i ∈ ((cfg0.win 4).blk t).view.set := by
  have h0 : (i 0).val < 4096 := (i 0).isLt
  have h1 : (i 1).val < 512 := (i 1).isLt
  obtain ⟨t, ha⟩ := point ((i 0).val / 512) (by omega)
  obtain ⟨e0, e1⟩ := index_4 t
  refine ⟨t, flush0_4 t, ?_⟩
  show i ∈ ((View.whole main_v0_0).slice (win0_4.rect t)).set
  rw [View.set_slice_whole, Rect.mem_set_unit]
  intro a
  fin_cases a
  · show (cfg0.win 4).index t 0 * 512 ≤ (i 0).val ∧ (i 0).val < (cfg0.win 4).index t 0 * 512 + 512
    rw [e0]; omega
  · show (cfg0.win 4).index t 1 * 512 ≤ (i 1).val ∧ (i 1).val < (cfg0.win 4).index t 1 * 512 + 512
    rw [e1]; omega

theorem final4 : (dats m 0 c).arrAt 4 cfg0.N = PA m c :=
  (dats m 0 c).arrAt_eq_of_cover 4 (PA m c) (fun t _ => flushed4 m c t) cover4

theorem flushed5 (t : Fin cfg0.N) : (dats m 0 c).flushed 5 t = (win0_5.blk t).view.read (Elt Ideal) (SA m c) := by
  funext y
  obtain ⟨r, k, rfl⟩ : ∃ (r k : Fin 512), y = ix2 r k := ⟨y 0, y 1, ValueIdx.eq_ix2 y⟩
  refine (out5 m c t r k).trans ?_
  show _ = SA m c ((win0_5.rect t).emb (ix2 r k))
  obtain ⟨e0, e1⟩ := index_5 t
  have i0 := (win0_5.rect_emb_val t (ix2 r k) 0).trans (congrArg (· * 512 + r.val) e0)
  have i1 := (win0_5.rect_emb_val t (ix2 r k) 1).trans (congrArg (· * 512 + k.val) e1)
  refine congrArg₂ (sv m c) ?_ ?_
  · rw [i0]; omega
  · rw [i1]; omega

theorem cover5 (i : S4096x512.Idx) : ∃ t : Fin cfg0.N, (cfg0.win 5).flush t = true ∧ i ∈ ((cfg0.win 5).blk t).view.set := by
  have h0 : (i 0).val < 4096 := (i 0).isLt
  have h1 : (i 1).val < 512 := (i 1).isLt
  obtain ⟨t, ha⟩ := point ((i 0).val / 512) (by omega)
  obtain ⟨e0, e1⟩ := index_5 t
  refine ⟨t, flush0_5 t, ?_⟩
  show i ∈ ((View.whole main_v0_1).slice (win0_5.rect t)).set
  rw [View.set_slice_whole, Rect.mem_set_unit]
  intro a
  fin_cases a
  · show (cfg0.win 5).index t 0 * 512 ≤ (i 0).val ∧ (i 0).val < (cfg0.win 5).index t 0 * 512 + 512
    rw [e0]; omega
  · show (cfg0.win 5).index t 1 * 512 ≤ (i 1).val ∧ (i 1).val < (cfg0.win 5).index t 1 * 512 + 512
    rw [e1]; omega

theorem final5 : (dats m 0 c).arrAt 5 cfg0.N = SA m c :=
  (dats m 0 c).arrAt_eq_of_cover 5 (SA m c) (fun t _ => flushed5 m c t) cover5

theorem flushed6 (t : Fin cfg0.N) : (dats m 0 c).flushed 6 t = (win0_6.blk t).view.read (Elt Ideal) (ZA m c) := by
  funext y
  obtain ⟨r, k, rfl⟩ : ∃ (r k : Fin 512), y = ix2 r k := ⟨y 0, y 1, ValueIdx.eq_ix2 y⟩
  refine (out6 m c t r k).trans ?_
  show _ = ZA m c ((win0_6.rect t).emb (ix2 r k))
  obtain ⟨e0, e1⟩ := index_6 t
  have i0 := (win0_6.rect_emb_val t (ix2 r k) 0).trans (congrArg (· * 512 + r.val) e0)
  have i1 := (win0_6.rect_emb_val t (ix2 r k) 1).trans (congrArg (· * 512 + k.val) e1)
  refine congrArg₂ (zv m c) ?_ ?_
  · rw [i0]; omega
  · rw [i1]; omega

theorem cover6 (i : S4096x512.Idx) : ∃ t : Fin cfg0.N, (cfg0.win 6).flush t = true ∧ i ∈ ((cfg0.win 6).blk t).view.set := by
  have h0 : (i 0).val < 4096 := (i 0).isLt
  have h1 : (i 1).val < 512 := (i 1).isLt
  obtain ⟨t, ha⟩ := point ((i 0).val / 512) (by omega)
  obtain ⟨e0, e1⟩ := index_6 t
  refine ⟨t, flush0_6 t, ?_⟩
  show i ∈ ((View.whole main_v0_2).slice (win0_6.rect t)).set
  rw [View.set_slice_whole, Rect.mem_set_unit]
  intro a
  fin_cases a
  · show (cfg0.win 6).index t 0 * 512 ≤ (i 0).val ∧ (i 0).val < (cfg0.win 6).index t 0 * 512 + 512
    rw [e0]; omega
  · show (cfg0.win 6).index t 1 * 512 ≤ (i 1).val ∧ (i 1).val < (cfg0.win 6).index t 1 * 512 + 512
    rw [e1]; omega

theorem final6 : (dats m 0 c).arrAt 6 cfg0.N = ZA m c :=
  (dats m 0 c).arrAt_eq_of_cover 6 (ZA m c) (fun t _ => flushed6 m c t) cover6

/-- The run: the three results at the closed form, the arguments unchanged. -/
theorem run : θ_run defs (onTc (τ := τ) (main (F := Ideal))) ⟨m, fun _ => 0, ρ⟩ fun r => ∀ c : Dev nD,
      r.2.mem ((c : Thread nD τ).loc main_v0_0) = PA m c
      ∧ r.2.mem ((c : Thread nD τ).loc main_v0_1) = SA m c
      ∧ r.2.mem ((c : Thread nD τ).loc main_v0_2) = ZA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c), (h c).2.2.2⟩)
    (Cert.Kernel16Ideal.Value.run_blocks m ρ)

end Cert.Glu

end
-- ==== Proof.Glu.Equal.lean ====
/- The gated linear unit against its plain definition: the same three arrays. -/
module

public import proofs.«01_k».proof.Proof.Glu.Array
public import proofs.«01_k».proof.Proof.Gen.Reference16Ideal.Read

@[expose] public section

noncomputable section

namespace Cert.Glu

open Idealize.ShloMosaic Idealize.ShloMosaic.TcCoe Cert.Rows

section

open Cert.Reference16Ideal Cert.Reference16Ideal.Gen Cert.Reference16Ideal.Read

variable (Y U : S4096x512.Idx → EReal) (D : S1x512.Idx → EReal) (W : S512x512.Idx → EReal)

/-- The reference's sum of the branch's output and the skip. -/
def pr (r : Fin 4096) (k : Fin 512) : EReal := Y (ix2 r k) + D (ix2 0 k) * U (ix2 r k)

/-- The reference's product of the gate. -/
def sr (r : Fin 4096) (k : Fin 512) : EReal := ∑ q : Fin 512, act (pr Y U D r q) * W (ix2 q k)

theorem ref_pre (r : Fin 4096) (k : Fin 512) : val_main_v2 (F := Ideal) Y U D (ix2 r k) = pr Y U D r k := by
  unfold val_main_v2 val_main_v1 val_main_v0
  pointwise
  rfl

/-- The activation, written with the complementary error function. -/
theorem ref_act (r : Fin 4096) (k : Fin 512) : val_main_v9 (F := Ideal) Y U D (ix2 r k) = act (pr Y U D r k) := by
  unfold val_main_v9 val_main_v8 val_main_v7 val_main_v6 val_main_v5 val_main_v4 val_main_v3 val_main_cst val_main_cst_0 act
  pointwise
  simp only [ref_pre]
  show cH * pr Y U D r k * Ideal.erfc (-pr Y U D r k * cR) = _
  rw [neg_mul, Ideal.erfc_neg]

theorem ref_gate (r : Fin 4096) (k : Fin 512) : val_main_v11 (F := Ideal) Y U D W (ix2 r k) = sr Y U D W r k := by
  unfold val_main_v11 val_main_v10
  pointwise
  simp only [ref_act]
  rfl

theorem ref_out (r : Fin 4096) (k : Fin 512) : val_main_v18 (F := Ideal) Y U D W (ix2 r k) = act (pr Y U D r k) * sg (sr Y U D W r k) := by
  unfold val_main_v18 val_main_v17 val_main_v16 val_main_v15 val_main_v14 val_main_v13 val_main_v12 val_main_cst_1 val_main_cst_2 sg
  pointwise
  simp only [ref_act, ref_gate]

end

open Cert.Kernel16Ideal

variable (m : (ℓ : Loc nD τ sig) → Buf (Elt Ideal) ℓ) (c : Dev nD)

/-- The branch's output with its skip. -/
theorem PA_eq (r : Fin 4096) (k : Fin 512) : PA m c (ix2 r k) = pr (aY m c) (aU m c) (aD m c) r k := by
  show rd (aY m c) r.val k.val + rd (aD m c) 0 k.val * rd (aU m c) r.val k.val = _
  unfold pr
  rw [← eq_rd, ← eq_rd]
  exact congrArg (fun z => aY m c (ix2 r k) + z * aU m c (ix2 r k)) (eq_rd (aD m c) 0 k).symm

/-- The gate's product. -/
theorem SA_eq (r : Fin 4096) (k : Fin 512) : SA m c (ix2 r k) = sr (aY m c) (aU m c) (aD m c) (aW m c) r k := by
  show ∑ q : Fin 512, act (pv m c r.val q.val) * rd (aW m c) q.val k.val = _
  unfold sr
  refine Finset.sum_congr rfl fun q _ => ?_
  rw [← eq_rd]
  exact congrArg (fun z => act z * aW m c (ix2 q k)) (PA_eq m c r q)

/-- The gated output. -/
theorem ZA_eq (r : Fin 4096) (k : Fin 512) : ZA m c (ix2 r k)
    = act (pr (aY m c) (aU m c) (aD m c) r k) * sg (sr (aY m c) (aU m c) (aD m c) (aW m c) r k) :=
  congrArg₂ (fun p s => act p * sg s) (PA_eq m c r k) (SA_eq m c r k)

end Cert.Glu

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_all_finite
public import proofs.«01_k».proof.Proof.Gen.Kernel2
public import proofs.«01_k».proof.Proof.Gen.Kernel2.Frame
public import proofs.«01_k».proof.Proof.Gen.Kernel3
public import proofs.«01_k».proof.Proof.Gen.Kernel3.Frame
public import proofs.«01_k».proof.Proof.Gen.Kernel4
public import proofs.«01_k».proof.Proof.Gen.Kernel4.Frame
public import proofs.«01_k».proof.Proof.Gen.Kernel5
public import proofs.«01_k».proof.Proof.Gen.Kernel5.Frame
public import proofs.«01_k».proof.Proof.Gen.Kernel2Ideal.Value
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal.Value
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal.Value
public import proofs.«01_k».proof.Proof.Gen.Kernel14
public import proofs.«01_k».proof.Proof.Gen.Kernel14.Frame
public import proofs.«01_k».proof.Proof.Gen.Kernel14Ideal.Value
public import proofs.«01_k».proof.Proof.Gen.Reference13Ideal.Read
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal.Value
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal.Value
public import proofs.«01_k».proof.Proof.Gen.Reference16Ideal.Read
public import proofs.«01_k».proof.Proof.ConvBwd.Array
public import proofs.«01_k».proof.Proof.ConvBwd.Reference
public import proofs.«01_k».proof.Proof.ConvBwd.Pre
public import proofs.«01_k».proof.Proof.NormBwd.Equal
public import proofs.«01_k».proof.Proof.Products.Up
public import proofs.«01_k».proof.Proof.Products.UpDw
public import proofs.«01_k».proof.Proof.Products.DownDw
public import proofs.«01_k».proof.Proof.LossHead.Equal
public import proofs.«01_k».proof.Proof.InBwd.Equal
public import proofs.«01_k».proof.Proof.MixBwd.Equal
public import proofs.«01_k».proof.Proof.Products.Whole
public import proofs.«01_k».proof.Proof.Products.InDw
public import proofs.«01_k».proof.Proof.MixOut.Equal
public import proofs.«01_k».proof.Proof.RopeBwd.Equal
public import proofs.«01_k».proof.Proof.InFwd.Equal
public import proofs.«01_k».proof.Proof.Attn.Equal
public import proofs.«01_k».proof.Proof.Glu.Equal
public import Idealize.ShloMosaic.Adequacy
public import Idealize.ShloMosaic.Init

@[expose] public section

noncomputable section

namespace Cert.Proof

open Idealize.ShloMosaic Idealize.SL.Sem Cert.Kernel

/-- The reference's frame: its run, and it has no semaphores. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩) (Cert.ReferenceIdeal.Read.run (F := Ideal) m ρ)

theorem frame_reference2 : Cert.quiescent_Reference2Ideal := fun m ρ _ =>
  (θ_run Cert.Reference2Ideal.defs _ _).mono
    (fun r h => ⟨fun c => (h c).2.2.2, Idealize.ShloMosaic.sem_eq_zero_of_no_sems (by decide) r.2⟩) (Cert.Reference2Ideal.Value.run (F := Ideal) m ρ)

theorem frame_reference3 : Cert.quiescent_Reference3Ideal := fun m ρ _ =>
  (θ_run Cert.Reference3Ideal.defs _ _).mono
    (fun r h => ⟨fun c => (h c).2, Idealize.ShloMosaic.sem_eq_zero_of_no_sems (by decide) r.2⟩) (Cert.Reference3Ideal.Value.run (F := Ideal) m ρ)

theorem frame_reference4 : Cert.quiescent_Reference4Ideal := fun m ρ _ =>
  (θ_run Cert.Reference4Ideal.defs _ _).mono
    (fun r h => ⟨fun c => (h c).2, Idealize.ShloMosaic.sem_eq_zero_of_no_sems (by decide) r.2⟩) (Cert.Reference4Ideal.Value.run (F := Ideal) m ρ)

theorem frame_reference5 : Cert.quiescent_Reference5Ideal := fun m ρ _ =>
  (θ_run Cert.Reference5Ideal.defs _ _).mono
    (fun r h => ⟨fun c => (h c).2, Idealize.ShloMosaic.sem_eq_zero_of_no_sems (by decide) r.2⟩) (Cert.Reference5Ideal.Value.run (F := Ideal) m ρ)

theorem frame_reference6 : Cert.quiescent_Reference6Ideal := fun m ρ _ =>
  (θ_run Cert.Reference6Ideal.defs _ _).mono
    (fun r h => ⟨fun c => (h c).2.2.2.2, Idealize.ShloMosaic.sem_eq_zero_of_no_sems (by decide) r.2⟩) (Cert.Reference6Ideal.Value.run (F := Ideal) m ρ)

theorem frame_reference7 : Cert.quiescent_Reference7Ideal := fun m ρ _ =>
  (θ_run Cert.Reference7Ideal.defs _ _).mono
    (fun r h => ⟨fun c => (h c).2.2.2, Idealize.ShloMosaic.sem_eq_zero_of_no_sems (by decide) r.2⟩) (Cert.Reference7Ideal.Value.run (F := Ideal) m ρ)

theorem frame_reference8 : Cert.quiescent_Reference8Ideal := fun m ρ _ =>
  (θ_run Cert.Reference8Ideal.defs _ _).mono
    (fun r h => ⟨fun c => (h c).2.2.2.2, Idealize.ShloMosaic.sem_eq_zero_of_no_sems (by decide) r.2⟩) (Cert.Reference8Ideal.Value.run (F := Ideal) m ρ)

theorem frame_reference9 : Cert.quiescent_Reference9Ideal := fun m ρ _ =>
  (θ_run Cert.Reference9Ideal.defs _ _).mono
    (fun r h => ⟨fun c => (h c).2, Idealize.ShloMosaic.sem_eq_zero_of_no_sems (by decide) r.2⟩) (Cert.Reference9Ideal.Value.run (F := Ideal) m ρ)

theorem frame_reference10 : Cert.quiescent_Reference10Ideal := fun m ρ _ =>
  (θ_run Cert.Reference10Ideal.defs _ _).mono
    (fun r h => ⟨fun c => (h c).2, Idealize.ShloMosaic.sem_eq_zero_of_no_sems (by decide) r.2⟩) (Cert.Reference10Ideal.Value.run (F := Ideal) m ρ)

theorem frame_reference11 : Cert.quiescent_Reference11Ideal := fun m ρ _ =>
  (θ_run Cert.Reference11Ideal.defs _ _).mono
    (fun r h => ⟨fun c => (h c).2, Idealize.ShloMosaic.sem_eq_zero_of_no_sems (by decide) r.2⟩) (Cert.Reference11Ideal.Value.run (F := Ideal) m ρ)

theorem frame_reference12 : Cert.quiescent_Reference12Ideal := fun m ρ _ =>
  (θ_run Cert.Reference12Ideal.defs _ _).mono
    (fun r h => ⟨fun c => (h c).2.2.2, Idealize.ShloMosaic.sem_eq_zero_of_no_sems (by decide) r.2⟩) (Cert.Reference12Ideal.Value.run (F := Ideal) m ρ)

theorem frame_reference13 : Cert.quiescent_Reference13Ideal := fun m ρ _ =>
  (θ_run Cert.Reference13Ideal.defs _ _).mono
    (fun r h => ⟨fun c => (h c).2, Idealize.ShloMosaic.sem_eq_zero_of_no_sems (by decide) r.2⟩) (Cert.Reference13Ideal.Value.run (F := Ideal) m ρ)

theorem frame_reference14 : Cert.quiescent_Reference14Ideal := fun m ρ _ =>
  (θ_run Cert.Reference14Ideal.defs _ _).mono
    (fun r h => ⟨fun c => (h c).2.2.2, Idealize.ShloMosaic.sem_eq_zero_of_no_sems (by decide) r.2⟩) (Cert.Reference14Ideal.Value.run (F := Ideal) m ρ)

theorem frame_reference15 : Cert.quiescent_Reference15Ideal := fun m ρ _ =>
  (θ_run Cert.Reference15Ideal.defs _ _).mono
    (fun r h => ⟨fun c => (h c).2.2, Idealize.ShloMosaic.sem_eq_zero_of_no_sems (by decide) r.2⟩) (Cert.Reference15Ideal.Value.run (F := Ideal) m ρ)

theorem frame_reference16 : Cert.quiescent_Reference16Ideal := fun m ρ _ =>
  (θ_run Cert.Reference16Ideal.defs _ _).mono
    (fun r h => ⟨fun c => (h c).2.2.2, Idealize.ShloMosaic.sem_eq_zero_of_no_sems (by decide) r.2⟩) (Cert.Reference16Ideal.Value.run (F := Ideal) m ρ)

/-- The gradient of the gated convolution: the kernel's two results are the reference's. -/
theorem value_conv : Cert.algebraic_KernelIdeal_ReferenceIdeal_pre_all_finite := by
  intro m g m' g' hpre hargs
  refine ⟨Cert.ConvBwd.GD m, Cert.ConvBwd.GS m, Cert.ConvBwd.run m g, (θ_run Cert.ReferenceIdeal.defs _ _).mono (fun r h c => ?_)
    (Cert.ReferenceIdeal.Read.run (F := Ideal) m' g')⟩
  obtain ⟨h69, h71, hkeep⟩ := h c
  obtain ⟨e0, e1, e2, e3, e4⟩ := hargs c
  obtain ⟨r0, r1, r2, r3, r4⟩ := Cert.ConvBwd.real_of_pre _ _ _ _ _ (hpre c)
  rw [e0, e1, e2, e3, e4] at h69 h71
  refine ⟨h69.trans (funext fun i => ?_), h71.trans (funext fun i => ?_), hkeep⟩
  · rw [eq_ix3 i]
    exact Cert.ConvBwd.Ref.result0 _ _ _ _ _ r0 r1 r2 r3 r4 (i 0) (i 1) (i 2)
  · rw [eq_ix2 i]
    exact Cert.ConvBwd.Ref.result1 _ _ _ _ _ r0 r1 r2 r3 r4 (i 0) (i 1)

/-- The gradient of the norm and the product after it: the kernel's three results are the reference's. -/
theorem value_norm : Cert.algebraic_Kernel2Ideal_Reference2Ideal := by
  intro m g m' g' _ hargs
  refine ⟨Cert.NormBwd.GX m, Cert.NormBwd.GX m, Cert.NormBwd.GG m, Cert.NormBwd.run m g, (θ_run Cert.Reference2Ideal.defs _ _).mono (fun r h c => ?_)
    (Cert.Reference2Ideal.Value.run (F := Ideal) m' g')⟩
  obtain ⟨h38, h39, h21, hkeep⟩ := h c
  obtain ⟨e0, e1, e2, e3, e4⟩ := hargs c
  rw [Cert.Reference2Ideal.Read.val_main_v38_eq, e0, e1, e2, e3, e4] at h38
  rw [Cert.Reference2Ideal.Read.val_main_v39_eq, e0, e1, e2, e3, e4] at h39
  rw [Cert.Reference2Ideal.Read.val_main_v21_eq, e0, e1, e2] at h21
  refine ⟨h38.trans (funext fun i => ?_), h39.trans (funext fun i => ?_), h21.trans (funext fun i => ?_), hkeep⟩
  · rw [eq_ix2 i]
    exact (Cert.NormBwd.Ref.dx_eq _ _ _ _ _ (i 0) (i 1)).trans (Cert.NormBwd.GX_eq m c (i 0) (i 1)).symm
  · rw [eq_ix2 i]
    exact (Cert.NormBwd.Ref.dx_eq _ _ _ _ _ (i 0) (i 1)).trans (Cert.NormBwd.GX_eq m c (i 0) (i 1)).symm
  · rw [eq_ix2 i]
    exact (Cert.NormBwd.Ref.dg_eq _ _ _ (i 0) (i 1)).trans (Cert.NormBwd.GG_eq m c (i 0) (i 1)).symm

/-- The gradient of the up projection's weights. -/
theorem value_up_dw : Cert.algebraic_Kernel3Ideal_Reference3Ideal := by
  intro m g m' g' _ hargs
  refine ⟨Cert.Products.UpDw.G m, Cert.Products.UpDw.run m g, (θ_run Cert.Reference3Ideal.defs _ _).mono (fun r h c => ?_)
    (Cert.Reference3Ideal.Value.run (F := Ideal) m' g')⟩
  obtain ⟨h14, hkeep⟩ := h c
  obtain ⟨e0, e1⟩ := hargs c
  rw [e0, e1] at h14
  refine ⟨h14.trans (funext fun i => ?_), hkeep⟩
  rw [eq_ix3 i]
  exact Cert.Products.UpDw.result m c (i 0) (i 1) (i 2)

/-- The gradient of the down projection's weights. -/
theorem value_down_dw : Cert.algebraic_Kernel4Ideal_Reference4Ideal := by
  intro m g m' g' _ hargs
  refine ⟨Cert.Products.DownDw.G m, Cert.Products.DownDw.run m g, (θ_run Cert.Reference4Ideal.defs _ _).mono (fun r h c => ?_)
    (Cert.Reference4Ideal.Value.run (F := Ideal) m' g')⟩
  obtain ⟨h5, hkeep⟩ := h c
  obtain ⟨e0, e1⟩ := hargs c
  rw [e0, e1] at h5
  refine ⟨h5.trans (funext fun i => ?_), hkeep⟩
  rw [eq_ix2 i]
  exact Cert.Products.DownDw.result m c (i 0) (i 1)

/-- The up projection. -/
theorem value_up : Cert.algebraic_Kernel5Ideal_Reference5Ideal := by
  intro m g m' g' _ hargs
  refine ⟨Cert.Products.Up.G m, Cert.Products.Up.run m g, (θ_run Cert.Reference5Ideal.defs _ _).mono (fun r h c => ?_)
    (Cert.Reference5Ideal.Value.run (F := Ideal) m' g')⟩
  obtain ⟨h2, hkeep⟩ := h c
  obtain ⟨e0, e1⟩ := hargs c
  rw [e0, e1] at h2
  refine ⟨h2.trans (funext fun i => ?_), hkeep⟩
  rw [eq_ix2 i]
  exact Cert.Products.Up.result m c (i 0) (i 1)

/-- The loss head: the loss, the gradients of the stream and of the last gain. -/
theorem value_loss : Cert.algebraic_Kernel6Ideal_Reference6Ideal := by
  intro m g m' g' _ hargs
  refine ⟨Cert.LossHead.Loss m, Cert.LossHead.GX m, Cert.LossHead.GX m, Cert.LossHead.GG m, Cert.LossHead.run m g, (θ_run Cert.Reference6Ideal.defs _ _).mono (fun r h c => ?_)
    (Cert.Reference6Ideal.Value.run (F := Ideal) m' g')⟩
  obtain ⟨h53, h52, h54, h36, hkeep⟩ := h c
  obtain ⟨e0, e1, e2, e3, e4⟩ := hargs c
  rw [Cert.Reference6Ideal.Read.val_main_v53_eq, e0, e1, e2, e3, e4] at h53
  rw [Cert.Reference6Ideal.Read.val_main_v52_eq, e0, e1, e2, e3, e4] at h52
  rw [Cert.Reference6Ideal.Read.val_main_v54_eq, e0, e1, e2, e3, e4] at h54
  rw [Cert.Reference6Ideal.Read.val_main_v36_eq, e0, e1, e2, e3, e4] at h36
  refine ⟨h53.trans (funext fun i => ?_), h52.trans (funext fun i => ?_), h54.trans (funext fun i => ?_), h36.trans (funext fun i => ?_), hkeep⟩
  · rw [eq_ix2 i]
    exact (Cert.LossHead.Ref.loss_eq _ _ _ _ _ (i 0) (i 1)).trans (Cert.LossHead.Loss_eq m c _).symm
  · rw [eq_ix2 i]
    exact (Cert.LossHead.Ref.dx_eq _ _ _ _ _ (i 0) (i 1)).trans (Cert.LossHead.GX_eq m c (i 0) (i 1)).symm
  · rw [eq_ix2 i]
    exact (Cert.LossHead.Ref.dx_eq _ _ _ _ _ (i 0) (i 1)).trans (Cert.LossHead.GX_eq m c (i 0) (i 1)).symm
  · rw [eq_ix2 i]
    exact (Cert.LossHead.Ref.dg_eq _ _ _ _ _ (i 0) (i 1)).trans (Cert.LossHead.GG_eq m c (i 0) (i 1)).symm

/-- The gradient through the input projection and the norm before it. -/
theorem value_in : Cert.algebraic_Kernel7Ideal_Reference7Ideal := by
  intro m g m' g' _ hargs
  refine ⟨Cert.InBwd.GX m, Cert.InBwd.GX m, Cert.InBwd.GG m, Cert.InBwd.run m g, (θ_run Cert.Reference7Ideal.defs _ _).mono (fun r h c => ?_)
    (Cert.Reference7Ideal.Value.run (F := Ideal) m' g')⟩
  obtain ⟨h39, h40, h22, hkeep⟩ := h c
  obtain ⟨e0, e1, e2, e3, e4⟩ := hargs c
  rw [Cert.Reference7Ideal.Read.val_main_v39_eq, e0, e1, e2, e3, e4] at h39
  rw [Cert.Reference7Ideal.Read.val_main_v40_eq, e0, e1, e2, e3, e4] at h40
  rw [Cert.Reference7Ideal.Read.val_main_v22_eq, e0, e1, e2] at h22
  refine ⟨h39.trans (funext fun i => ?_), h40.trans (funext fun i => ?_), h22.trans (funext fun i => ?_), hkeep⟩
  · rw [eq_ix2 i]
    exact (Cert.InBwd.Ref.dx_eq _ _ _ _ _ (i 0) (i 1)).trans (Cert.InBwd.GX_eq m c (i 0) (i 1)).symm
  · rw [eq_ix2 i]
    exact (Cert.InBwd.Ref.dx_eq _ _ _ _ _ (i 0) (i 1)).trans (Cert.InBwd.GX_eq m c (i 0) (i 1)).symm
  · rw [eq_ix2 i]
    exact (Cert.InBwd.Ref.dg_eq _ _ _ (i 0) (i 1)).trans (Cert.InBwd.GG_eq m c (i 0) (i 1)).symm

/-- The gradient through the output projection and the norms of the two branches. -/
theorem value_mix : Cert.algebraic_Kernel8Ideal_Reference8Ideal := by
  intro m g m' g' _ hargs
  refine ⟨Cert.MixBwd.DA m, Cert.MixBwd.DS m, Cert.MixBwd.DGa m, Cert.MixBwd.DGs m, Cert.MixBwd.run m g, (θ_run Cert.Reference8Ideal.defs _ _).mono (fun r h c => ?_)
    (Cert.Reference8Ideal.Value.run (F := Ideal) m' g')⟩
  obtain ⟨h74, h55, h58, h39, hkeep⟩ := h c
  obtain ⟨e0, e1, e2, e3, e4, e5⟩ := hargs c
  rw [Cert.Reference8Ideal.Read.val_main_v74_eq, e0, e1, e2, e4] at h74
  rw [Cert.Reference8Ideal.Read.val_main_v55_eq, e0, e1, e3, e5] at h55
  rw [Cert.Reference8Ideal.Read.val_main_v58_eq, e0, e1, e2] at h58
  rw [Cert.Reference8Ideal.Read.val_main_v39_eq, e0, e1, e3] at h39
  refine ⟨h74.trans (funext fun i => ?_), h55.trans (funext fun i => ?_), h58.trans (funext fun i => ?_), h39.trans (funext fun i => ?_), hkeep⟩
  · rw [eq_ix2 i]
    exact (Cert.MixBwd.Ref.da_eq _ _ _ _ (i 0) (i 1)).trans (Cert.MixBwd.GX_eq m c (Cert.MixBwd.aA m c) (Cert.MixBwd.aGa m c) 0 Cert.MixBwd.Ref.lo Cert.MixBwd.lo_val (i 0) (i 1)).symm
  · rw [eq_ix2 i]
    exact (Cert.MixBwd.Ref.ds_eq _ _ _ _ (i 0) (i 1)).trans (Cert.MixBwd.GX_eq m c (Cert.MixBwd.aS m c) (Cert.MixBwd.aGs m c) 512 Cert.MixBwd.Ref.hi Cert.MixBwd.hi_val (i 0) (i 1)).symm
  · rw [eq_ix2 i]
    exact (Cert.MixBwd.Ref.dga_eq _ _ _ (i 0) (i 1)).trans (Cert.MixBwd.GG_eq m c (Cert.MixBwd.aA m c) 0 Cert.MixBwd.Ref.lo Cert.MixBwd.lo_val (i 0) (i 1)).symm
  · rw [eq_ix2 i]
    exact (Cert.MixBwd.Ref.dgs_eq _ _ _ (i 0) (i 1)).trans (Cert.MixBwd.GG_eq m c (Cert.MixBwd.aS m c) 512 Cert.MixBwd.Ref.hi Cert.MixBwd.hi_val (i 0) (i 1)).symm

/-- The gradient of the output projection's weights. -/
theorem value_out_dw : Cert.algebraic_Kernel9Ideal_Reference9Ideal := by
  intro m g m' g' _ hargs
  refine ⟨_, Cert.Kernel9Ideal.Value.run m g, (θ_run Cert.Reference9Ideal.defs _ _).mono (fun r h c => ?_)
    (Cert.Reference9Ideal.Value.run (F := Ideal) m' g')⟩
  obtain ⟨h5, hkeep⟩ := h c
  obtain ⟨e0, e1⟩ := hargs c
  rw [e0, e1] at h5
  exact ⟨h5.trans (Cert.Products.Whole.out _ _), hkeep⟩

/-- The gradient of the input projection's weights. -/
theorem value_in_dw : Cert.algebraic_Kernel10Ideal_Reference10Ideal := by
  intro m g m' g' _ hargs
  refine ⟨Cert.Products.InDw.G m, Cert.Products.InDw.run m g, (θ_run Cert.Reference10Ideal.defs _ _).mono (fun r h c => ?_)
    (Cert.Reference10Ideal.Value.run (F := Ideal) m' g')⟩
  obtain ⟨h7, hkeep⟩ := h c
  obtain ⟨e0, e1⟩ := hargs c
  rw [e0, e1] at h7
  refine ⟨h7.trans (funext fun i => ?_), hkeep⟩
  rw [eq_ix2 i]
  exact Cert.Products.InDw.result m c (i 0) (i 1)

/-- The gradient of the gate's weights. -/
theorem value_glu_dw : Cert.algebraic_Kernel11Ideal_Reference11Ideal := by
  intro m g m' g' _ hargs
  refine ⟨_, Cert.Kernel11Ideal.Value.run m g, (θ_run Cert.Reference11Ideal.defs _ _).mono (fun r h c => ?_)
    (Cert.Reference11Ideal.Value.run (F := Ideal) m' g')⟩
  obtain ⟨h5, hkeep⟩ := h c
  obtain ⟨e0, e1⟩ := hargs c
  rw [e0, e1] at h5
  exact ⟨h5.trans (Cert.Products.Whole.glu _ _), hkeep⟩

/-- The output projection with the norms of the two branches before it and the next norm after it. -/
theorem value_mix_out : Cert.algebraic_Kernel12Ideal_Reference12Ideal := by
  intro m g m' g' _ hargs
  refine ⟨Cert.MixOut.MX m, Cert.MixOut.XO m, Cert.MixOut.HO m, Cert.MixOut.run m g, (θ_run Cert.Reference12Ideal.defs _ _).mono (fun r h c => ?_)
    (Cert.Reference12Ideal.Value.run (F := Ideal) m' g')⟩
  obtain ⟨h25, h29, h42, hkeep⟩ := h c
  obtain ⟨e0, e1, e2, e3, e4, e5, e6⟩ := hargs c
  rw [Cert.Reference12Ideal.Read.val_main_v25_eq, e0, e1, e2, e3] at h25
  rw [Cert.Reference12Ideal.Read.val_main_v29_eq, e0, e1, e2, e3, e4, e5] at h29
  rw [Cert.Reference12Ideal.Read.val_main_v42_eq, e0, e1, e2, e3, e4, e5, e6] at h42
  refine ⟨h25.trans (funext fun i => ?_), h29.trans (funext fun i => ?_), h42.trans (funext fun i => ?_), hkeep⟩
  · rw [eq_ix2 i]
    exact (Cert.MixOut.Ref.mix_eq _ _ _ _ (i 0) (i 1)).trans (Cert.MixOut.MX_eq m c (i 0) (i 1)).symm
  · rw [eq_ix2 i]
    exact (Cert.MixOut.Ref.x_eq _ _ _ _ _ _ (i 0) (i 1)).trans (Cert.MixOut.XO_eq m c (i 0) (i 1)).symm
  · rw [eq_ix2 i]
    exact (Cert.MixOut.Ref.h_eq _ _ _ _ _ _ _ (i 0) (i 1)).trans (Cert.MixOut.HO_eq m c (i 0) (i 1)).symm

/-- The gradient of the input projection: back through the rotation, with the skip's gradient. -/
theorem value_rope_bwd : Cert.algebraic_Kernel13Ideal_Reference13Ideal := by
  intro m g m' g' _ hargs
  refine ⟨Cert.RopeBwd.GP m, Cert.RopeBwd.run m g, (θ_run Cert.Reference13Ideal.defs _ _).mono (fun r h c => ?_)
    (Cert.Reference13Ideal.Value.run (F := Ideal) m' g')⟩
  obtain ⟨h97, hkeep⟩ := h c
  obtain ⟨e0, e1, e2, e3, e4, e5, e6⟩ := hargs c
  rw [Cert.Reference13Ideal.Read.val_main_v97_eq, e0, e1, e2, e3, e4, e5, e6] at h97
  refine ⟨h97.trans (funext fun i => ?_), hkeep⟩
  rw [eq_ix2 i]
  exact (Cert.RopeBwd.GP_eq m c (i 0) (i 1)).symm

/-- The first norm, the input projection and the rotation of queries and keys. -/
theorem value_in_fwd : Cert.algebraic_Kernel14Ideal_Reference14Ideal := by
  intro m g m' g' _ hargs
  refine ⟨Cert.InFwd.HN m, Cert.InFwd.QKV m, Cert.InFwd.U m, Cert.InFwd.run m g, (θ_run Cert.Reference14Ideal.defs _ _).mono (fun r h c => ?_)
    (Cert.Reference14Ideal.Value.run (F := Ideal) m' g')⟩
  obtain ⟨h12, h60, h56, hkeep⟩ := h c
  obtain ⟨e0, e1, e2, e3, e4⟩ := hargs c
  rw [Cert.Reference14Ideal.Read.val_main_v12_eq, e0, e1] at h12
  rw [Cert.Reference14Ideal.Read.val_main_v60_eq, e0, e1, e2, e3, e4] at h60
  rw [Cert.Reference14Ideal.Read.val_main_v56_eq, e0, e1, e2] at h56
  refine ⟨h12.trans (funext fun i => ?_), h60.trans (funext fun i => ?_), h56.trans (funext fun i => ?_), hkeep⟩
  · rw [eq_ix2 i]
    exact (Cert.InFwd.HN_eq m c (i 0) (i 1)).symm
  · rw [eq_ix2 i]
    exact (Cert.InFwd.QKV_eq m c (i 0) (i 1)).symm
  · rw [eq_ix2 i]
    exact (Cert.InFwd.U_eq m c (i 0) (i 1)).symm

/-- The attention in a window: the output and the logarithm of the sums. -/
theorem value_attn : Cert.algebraic_Kernel15Ideal_Reference15Ideal := by
  intro m g m' g' _ hargs
  refine ⟨Cert.Attn.OutA m, Cert.Attn.SumsA m, Cert.Attn.run m g, (θ_run Cert.Reference15Ideal.defs _ _).mono (fun r h c => ?_)
    (Cert.Reference15Ideal.Value.run (F := Ideal) m' g')⟩
  obtain ⟨h82, h81, hkeep⟩ := h c
  obtain ⟨e0, e1, e2, e3⟩ := hargs c
  rw [Cert.Reference15Ideal.Read.val_main_v82_eq, e0, e1, e2, e3] at h82
  rw [Cert.Reference15Ideal.Read.val_main_v81_eq, e0, e1, e3] at h81
  refine ⟨h82.trans (funext fun i => ?_), h81.trans (funext fun i => ?_), hkeep⟩
  · rw [eq_ix2 i]
    exact Cert.Attn.out_agree m c (i 0) (i 1)
  · rw [eq_ix2 i]
    exact Cert.Attn.lse_agree m c (i 0) (i 1)

/-- The gated linear unit of the state-space branch: the skip, the gate's product, the gated output. -/
theorem value_glu : Cert.algebraic_Kernel16Ideal_Reference16Ideal := by
  intro m g m' g' _ hargs
  refine ⟨Cert.Glu.PA m, Cert.Glu.SA m, Cert.Glu.ZA m, Cert.Glu.run m g, (θ_run Cert.Reference16Ideal.defs _ _).mono (fun r h c => ?_)
    (Cert.Reference16Ideal.Value.run (F := Ideal) m' g')⟩
  obtain ⟨h2, h11, h18, hkeep⟩ := h c
  obtain ⟨e0, e1, e2, e3⟩ := hargs c
  rw [Cert.Reference16Ideal.Read.val_main_v2_eq, e0, e1, e2] at h2
  rw [Cert.Reference16Ideal.Read.val_main_v11_eq, e0, e1, e2, e3] at h11
  rw [Cert.Reference16Ideal.Read.val_main_v18_eq, e0, e1, e2, e3] at h18
  refine ⟨h2.trans (funext fun i => ?_), h11.trans (funext fun i => ?_), h18.trans (funext fun i => ?_), hkeep⟩
  · rw [eq_ix2 i]
    exact (Cert.Glu.ref_pre _ _ _ (i 0) (i 1)).trans (Cert.Glu.PA_eq m c (i 0) (i 1)).symm
  · rw [eq_ix2 i]
    exact (Cert.Glu.ref_gate _ _ _ _ (i 0) (i 1)).trans (Cert.Glu.SA_eq m c (i 0) (i 1)).symm
  · rw [eq_ix2 i]
    exact (Cert.Glu.ref_out _ _ _ _ (i 0) (i 1)).trans (Cert.Glu.ZA_eq m c (i 0) (i 1)).symm

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Pre_all_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  trivial, value_conv, trivial, value_norm, trivial, value_up_dw, trivial, value_down_dw, trivial, value_up,
  trivial, value_loss, trivial, value_in, trivial, value_mix, trivial, value_out_dw, trivial, value_in_dw, trivial, value_glu_dw, trivial, value_mix_out,
  trivial, value_rope_bwd, trivial, value_in_fwd,
  IdealRules.named_const.statement Cert.Kernel15Ideal.κ "mask" .f32 0xF149F2CA#32 ⊥ rfl, value_attn, trivial, value_glu⟩

end Cert.Proof

end
